-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)) →
    ∃ (v0 : (c : Dev Cert.Kernel5Ideal.nD) → Buf (Elt Ideal) ((c.tc : Thread Cert.Kernel5Ideal.nD Cert.Kernel5Ideal.τ).loc Cert.Kernel5Ideal.main_v2_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v271) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S8320x4096 : Shape := ⟨2, ![8320, 4096]⟩
abbrev S4096 : Shape := ⟨1, ![4096]⟩
abbrev S1x4096x11008 : Shape := ⟨3, ![1, 4096, 11008]⟩
abbrev S1x11008x4096 : Shape := ⟨3, ![1, 11008, 4096]⟩
abbrev S1x4096 : Shape := ⟨2, ![1, 4096]⟩
abbrev S1x4096x256 : Shape := ⟨3, ![1, 4096, 256]⟩
abbrev S1x256x4096 : Shape := ⟨3, ![1, 256, 4096]⟩
abbrev S640x4096 : Shape := ⟨2, ![640, 4096]⟩
abbrev S64x4096 : Shape := ⟨2, ![64, 4096]⟩
abbrev S64 : Shape := ⟨1, ![64]⟩
abbrev S64x1 : Shape := ⟨2, ![64, 1]⟩
abbrev S4096x256 : Shape := ⟨2, ![4096, 256]⟩
abbrev S640x256 : Shape := ⟨2, ![640, 256]⟩
abbrev S640x512 : Shape := ⟨2, ![640, 512]⟩
abbrev S1x256x512 : Shape := ⟨3, ![1, 256, 512]⟩
abbrev S256x512 : Shape := ⟨2, ![256, 512]⟩

abbrev nBuf : Space → Nat
  | .hbm => 9
  | .vmem => 12
  | .smem => 0
  | _ => 0

abbrev bufTy : (tb : Table) → Fin (tcTables nBuf tb) → BufTy
  | .hbm, ⟨0, _⟩ => ⟨S8320x4096, .f32⟩
  | .hbm, ⟨1, _⟩ => ⟨S4096, .f32⟩
  | .hbm, ⟨2, _⟩ => ⟨S1x4096x11008, .bf16⟩
  | .hbm, ⟨3, _⟩ => ⟨S1x4096x11008, .bf16⟩
  | .hbm, ⟨4, _⟩ => ⟨S1x11008x4096, .bf16⟩
  | .hbm, ⟨5, _⟩ => ⟨S4096, .f32⟩
  | .hbm, ⟨6, _⟩ => ⟨S1x4096, .f32⟩
  | .hbm, ⟨7, _⟩ => ⟨S1x4096, .f32⟩
  | .hbm, ⟨8, _⟩ => ⟨S8320x4096, .f32⟩
  | .local _ .vmem, ⟨0, _⟩ => ⟨S1x4096, .f32⟩
  | .local _ .vmem, ⟨1, _⟩ => ⟨S1x4096x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x256x4096, .bf16⟩
  | .local _ .vmem, ⟨6, _⟩ => ⟨S1x256x4096, .bf16⟩
  | .local _ .vmem, ⟨7, _⟩ => ⟨S1x4096, .f32⟩
  | .local _ .vmem, ⟨8, _⟩ => ⟨S640x4096, .f32⟩
  | .local _ .vmem, ⟨9, _⟩ => ⟨S640x4096, .f32⟩
  | .local _ .vmem, ⟨10, _⟩ => ⟨S640x4096, .f32⟩
  | .local _ .vmem, ⟨11, _⟩ => ⟨S640x4096, .bf16⟩
  | _, _ => ⟨S8320x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![13, 43], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_66 : BitVec 32 := 0#32
  let c10_i32 : BitVec 32 := 10#32
  let v70 : BitVec 32 := Scalar.addi c0_i32_66 c10_i32
  let c1_i32 : BitVec 32 := 1#32
  ⟨c0_i32_66, v70, c1_i32⟩
def k0_mult1 (k0_t1 : Fin k0_t1_loop.trips) : BitVec 32 :=
  let c0_i32_66 : BitVec 32 := 0#32
  let c1_i32 : BitVec 32 := 1#32
  let arg10 : BitVec 32 := Scf.iv c0_i32_66 c1_i32 k0_t1
  let c64_i32 : BitVec 32 := 64#32
  let v71 : BitVec 32 := Scalar.muli arg10 c64_i32
  v71
def k0_off1 (k0_t1 : Fin k0_t1_loop.trips) : Fin 2 → Nat :=
  let c0_i32_66 : BitVec 32 := 0#32
  let c1_i32 : BitVec 32 := 1#32
  let arg10 : BitVec 32 := Scf.iv c0_i32_66 c1_i32 k0_t1
  let c64_i32 : BitVec 32 := 64#32
  let v71 : BitVec 32 := Scalar.muli arg10 c64_i32
  let v72 : BitVec 32 := v71
  let v73 : Index := Scalar.indexCast v72
  let c0_68 : Index := 0#32
  ![v73.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S640x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S640x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S8320x4096 : Shape := ⟨2, ![8320, 4096]⟩
abbrev S4096 : Shape := ⟨1, ![4096]⟩
abbrev S1x4096x11008 : Shape := ⟨3, ![1, 4096, 11008]⟩
abbrev S1x11008x4096 : Shape := ⟨3, ![1, 11008, 4096]⟩
abbrev S4096x11008 : Shape := ⟨2, ![4096, 11008]⟩
abbrev S11008x4096 : Shape := ⟨2, ![11008, 4096]⟩
abbrev S_ : Shape := ⟨0, ![]⟩
abbrev S8320 : Shape := ⟨1, ![8320]⟩
abbrev S8320x1 : Shape := ⟨2, ![8320, 1]⟩
abbrev S1x4096 : Shape := ⟨2, ![1, 4096]⟩
abbrev S8320x11008 : Shape := ⟨2, ![8320, 11008]⟩

abbrev nBuf : Space → Nat
  | .hbm => 42
  | .vmem => 0
  | .smem => 0
  | _ => 0

abbrev bufTy : (tb : Table) → Fin (tcTables nBuf tb) → BufTy
  | .hbm, ⟨0, _⟩ => ⟨S8320x4096, .f32⟩
  | .hbm, ⟨1, _⟩ => ⟨S4096, .f32⟩
  | .hbm, ⟨2, _⟩ => ⟨S1x4096x11008, .bf16⟩
  | .hbm, ⟨3, _⟩ => ⟨S1x4096x11008, .bf16⟩
  | .hbm, ⟨4, _⟩ => ⟨S1x11008x4096, .bf16⟩
  | .hbm, ⟨5, _⟩ => ⟨S4096, .f32⟩
  | .hbm, ⟨6, _⟩ => ⟨S1x4096x11008, .f32⟩
  | .hbm, ⟨7, _⟩ => ⟨S4096x11008, .f32⟩
  | .hbm, ⟨8, _⟩ => ⟨S1x4096x11008, .f32⟩
  | .hbm, ⟨9, _⟩ => ⟨S4096x11008, .f32⟩
  | .hbm, ⟨10, _⟩ => ⟨S1x11008x4096, .f32⟩
  | .hbm, ⟨11, _⟩ => ⟨S11008x4096, .f32⟩
  | .hbm, ⟨12, _⟩ => ⟨S8320x4096, .f32⟩
  | .hbm, ⟨13, _⟩ => ⟨S_, .f32⟩
  | .hbm, ⟨14, _⟩ => ⟨S8320, .f32⟩
  | .hbm, ⟨15, _⟩ => ⟨S8320x1, .f32⟩
  | .hbm, ⟨16, _⟩ => ⟨S_, .f32⟩
  | .hbm, ⟨17, _⟩ => ⟨S8320x1, .f32⟩
  | .hbm, ⟨18, _⟩ => ⟨S8320x1, .f32⟩
  | .hbm, ⟨19, _⟩ => ⟨S_, .f32⟩
  | .hbm, ⟨20, _⟩ => ⟨S8320x1, .f32⟩
  | .hbm, ⟨21, _⟩ => ⟨S8320x1, .f32⟩
  | .hbm, ⟨22, _⟩ => ⟨S8320x1, .f32⟩
  | .hbm, ⟨23, _⟩ => ⟨S8320x4096, .f32⟩
  | .hbm, ⟨24, _⟩ => ⟨S8320x4096, .f32⟩
  | .hbm, ⟨25, _⟩ => ⟨S1x4096, .f32⟩
  | .hbm, ⟨26, _⟩ => ⟨S8320x4096, .f32⟩
  | .hbm, ⟨27, _⟩ => ⟨S8320x4096, .f32⟩
  | .hbm, ⟨28, _⟩ => ⟨S8320x11008, .f32⟩
  | .hbm, ⟨29, _⟩ => ⟨S8320x11008, .f32⟩
  | .hbm, ⟨30, _⟩ => ⟨S8320x11008, .f32⟩
  | .hbm, ⟨31, _⟩ => ⟨S_, .f32⟩
  | .hbm, ⟨32, _⟩ => ⟨S8320x11008, .f32⟩
  | .hbm, ⟨33, _⟩ => ⟨S8320x11008, .f32⟩
  | .hbm, ⟨34, _⟩ => ⟨S_, .f32⟩
  | .hbm, ⟨35, _⟩ => ⟨S8320x11008, .f32⟩
  | .hbm, ⟨36, _⟩ => ⟨S8320x11008, .f32⟩
  | .hbm, ⟨37, _⟩ => ⟨S8320x11008, .f32⟩
  | .hbm, ⟨38, _⟩ => ⟨S8320x11008, .f32⟩
  | .hbm, ⟨39, _⟩ => ⟨S8320x11008, .f32⟩
  | .hbm, ⟨40, _⟩ => ⟨S8320x4096, .f32⟩
  | .hbm, ⟨41, _⟩ => ⟨S8320x4096, .f32⟩
  | _, _ => ⟨S8320x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩

abbrev nD : Nat := 1
abbrev τ : Topo := Topo.v7x

variable {F : FTy → Type} [FloatOps F]
-- ==== Kernel2.lean ====
abbrev S8320x4096 : Shape := ⟨2, ![8320, 4096]⟩
abbrev S4096 : Shape := ⟨1, ![4096]⟩
abbrev S1x4096x11008 : Shape := ⟨3, ![1, 4096, 11008]⟩
abbrev S1x11008x4096 : Shape := ⟨3, ![1, 11008, 4096]⟩
abbrev S1x4096 : Shape := ⟨2, ![1, 4096]⟩
abbrev S1x4096x256 : Shape := ⟨3, ![1, 4096, 256]⟩
abbrev S1x256x4096 : Shape := ⟨3, ![1, 256, 4096]⟩
abbrev S640x4096 : Shape := ⟨2, ![640, 4096]⟩
abbrev S64x4096 : Shape := ⟨2, ![64, 4096]⟩
abbrev S64 : Shape := ⟨1, ![64]⟩
abbrev S64x1 : Shape := ⟨2, ![64, 1]⟩
abbrev S4096x256 : Shape := ⟨2, ![4096, 256]⟩
abbrev S640x256 : Shape := ⟨2, ![640, 256]⟩
abbrev S640x512 : Shape := ⟨2, ![640, 512]⟩
abbrev S1x256x512 : Shape := ⟨3, ![1, 256, 512]⟩
abbrev S256x512 : Shape := ⟨2, ![256, 512]⟩

abbrev nBuf : Space → Nat
  | .hbm => 9
  | .vmem => 12
  | .smem => 0
  | _ => 0

abbrev bufTy : (tb : Table) → Fin (tcTables nBuf tb) → BufTy
  | .hbm, ⟨0, _⟩ => ⟨S8320x4096, .f32⟩
  | .hbm, ⟨1, _⟩ => ⟨S4096, .f32⟩
  | .hbm, ⟨2, _⟩ => ⟨S1x4096x11008, .bf16⟩
  | .hbm, ⟨3, _⟩ => ⟨S1x4096x11008, .bf16⟩
  | .hbm, ⟨4, _⟩ => ⟨S1x11008x4096, .bf16⟩
  | .hbm, ⟨5, _⟩ => ⟨S4096, .f32⟩
  | .hbm, ⟨6, _⟩ => ⟨S1x4096, .f32⟩
  | .hbm, ⟨7, _⟩ => ⟨S1x4096, .f32⟩
  | .hbm, ⟨8, _⟩ => ⟨S8320x4096, .f32⟩
  | .local _ .vmem, ⟨0, _⟩ => ⟨S1x4096, .f32⟩
  | .local _ .vmem, ⟨1, _⟩ => ⟨S1x4096x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x256x4096, .bf16⟩
  | .local _ .vmem, ⟨6, _⟩ => ⟨S1x256x4096, .bf16⟩
  | .local _ .vmem, ⟨7, _⟩ => ⟨S1x4096, .f32⟩
  | .local _ .vmem, ⟨8, _⟩ => ⟨S640x4096, .f32⟩
  | .local _ .vmem, ⟨9, _⟩ => ⟨S640x4096, .f32⟩
  | .local _ .vmem, ⟨10, _⟩ => ⟨S640x4096, .f32⟩
  | .local _ .vmem, ⟨11, _⟩ => ⟨S640x4096, .bf16⟩
  | _, _ => ⟨S8320x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![13, 43], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_67 : BitVec 32 := 0#32
  let c10_i32 : BitVec 32 := 10#32
  let v73 : BitVec 32 := Scalar.addi c0_i32_67 c10_i32
  let c1_i32 : BitVec 32 := 1#32
  ⟨c0_i32_67, v73, c1_i32⟩
def k0_mult1 (k0_t1 : Fin k0_t1_loop.trips) : BitVec 32 :=
  let c0_i32_67 : BitVec 32 := 0#32
  let c1_i32 : BitVec 32 := 1#32
  let arg10 : BitVec 32 := Scf.iv c0_i32_67 c1_i32 k0_t1
  let c64_i32 : BitVec 32 := 64#32
  let v74 : BitVec 32 := Scalar.muli arg10 c64_i32
  v74
def k0_off1 (k0_t1 : Fin k0_t1_loop.trips) : Fin 2 → Nat :=
  let c0_i32_67 : BitVec 32 := 0#32
  let c1_i32 : BitVec 32 := 1#32
  let arg10 : BitVec 32 := Scf.iv c0_i32_67 c1_i32 k0_t1
  let c64_i32 : BitVec 32 := 64#32
  let v74 : BitVec 32 := Scalar.muli arg10 c64_i32
  let v75 : BitVec 32 := v74
  let v76 : Index := Scalar.indexCast v75
  let c0_69 : Index := 0#32
  ![v76.toNat, 0]
def k0_cond2 (i : grid0.Coords) : BitVec 1 :=
  let arg1 : BitVec 32 := BitVec.ofNat 32 (i 1).val
  let c42_i32 : BitVec 32 := 42#32
  let v70 : BitVec 1 := Scalar.cmpi .eq arg1 c42_i32
  let v71 : BitVec 32 := Scalar.extui v70
  let c0_i32_66 : BitVec 32 := 0#32
  let v72 : BitVec 1 := Scalar.cmpi .ne v71 c0_i32_66
  v72

@[reducible] def k0_t2_loop : Scf.Loop 32 :=
  let c0_i32_67 : BitVec 32 := 0#32
  let c10_i32 : BitVec 32 := 10#32
  let v73 : BitVec 32 := Scalar.addi c0_i32_67 c10_i32
  let c1_i32 : BitVec 32 := 1#32
  ⟨c0_i32_67, v73, c1_i32⟩
def k0_mult2 (k0_t2 : Fin k0_t2_loop.trips) : BitVec 32 :=
  let c0_i32_67 : BitVec 32 := 0#32
  let c1_i32 : BitVec 32 := 1#32
  let arg10 : BitVec 32 := Scf.iv c0_i32_67 c1_i32 k0_t2
  let c64_i32 : BitVec 32 := 64#32
  let v74 : BitVec 32 := Scalar.muli arg10 c64_i32
  v74
def k0_off2 (k0_t2 : Fin k0_t2_loop.trips) : Fin 2 → Nat :=
  let c0_i32_67 : BitVec 32 := 0#32
  let c1_i32 : BitVec 32 := 1#32
  let arg10 : BitVec 32 := Scf.iv c0_i32_67 c1_i32 k0_t2
  let c64_i32 : BitVec 32 := 64#32
  let v74 : BitVec 32 := Scalar.muli arg10 c64_i32
  let v75 : BitVec 32 := v74
  let v76 : Index := Scalar.indexCast v75
  let c0_69 : Index := 0#32
  ![v76.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S640x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S640x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S8320x4096 : Shape := ⟨2, ![8320, 4096]⟩
abbrev S4096 : Shape := ⟨1, ![4096]⟩
abbrev S1x4096x11008 : Shape := ⟨3, ![1, 4096, 11008]⟩
abbrev S1x11008x4096 : Shape := ⟨3, ![1, 11008, 4096]⟩
abbrev S4096x11008 : Shape := ⟨2, ![4096, 11008]⟩
abbrev S11008x4096 : Shape := ⟨2, ![11008, 4096]⟩
abbrev S_ : Shape := ⟨0, ![]⟩
abbrev S8320 : Shape := ⟨1, ![8320]⟩
abbrev S8320x1 : Shape := ⟨2, ![8320, 1]⟩
abbrev S1x4096 : Shape := ⟨2, ![1, 4096]⟩
abbrev S8320x11008 : Shape := ⟨2, ![8320, 11008]⟩

abbrev nBuf : Space → Nat
  | .hbm => 58
  | .vmem => 0
  | .smem => 0
  | _ => 0

abbrev bufTy : (tb : Table) → Fin (tcTables nBuf tb) → BufTy
  | .hbm, ⟨0, _⟩ => ⟨S8320x4096, .f32⟩
  | .hbm, ⟨1, _⟩ => ⟨S4096, .f32⟩
  | .hbm, ⟨2, _⟩ => ⟨S1x4096x11008, .bf16⟩
  | .hbm, ⟨3, _⟩ => ⟨S1x4096x11008, .bf16⟩
  | .hbm, ⟨4, _⟩ => ⟨S1x11008x4096, .bf16⟩
  | .hbm, ⟨5, _⟩ => ⟨S4096, .f32⟩
  | .hbm, ⟨6, _⟩ => ⟨S1x4096x11008, .f32⟩
  | .hbm, ⟨7, _⟩ => ⟨S4096x11008, .f32⟩
  | .hbm, ⟨8, _⟩ => ⟨S1x4096x11008, .f32⟩
  | .hbm, ⟨9, _⟩ => ⟨S4096x11008, .f32⟩
  | .hbm, ⟨10, _⟩ => ⟨S1x11008x4096, .f32⟩
  | .hbm, ⟨11, _⟩ => ⟨S11008x4096, .f32⟩
  | .hbm, ⟨12, _⟩ => ⟨S8320x4096, .f32⟩
  | .hbm, ⟨13, _⟩ => ⟨S_, .f32⟩
  | .hbm, ⟨14, _⟩ => ⟨S8320, .f32⟩
  | .hbm, ⟨15, _⟩ => ⟨S8320x1, .f32⟩
  | .hbm, ⟨16, _⟩ => ⟨S_, .f32⟩
  | .hbm, ⟨17, _⟩ => ⟨S8320x1, .f32⟩
  | .hbm, ⟨18, _⟩ => ⟨S8320x1, .f32⟩
  | .hbm, ⟨19, _⟩ => ⟨S_, .f32⟩
  | .hbm, ⟨20, _⟩ => ⟨S8320x1, .f32⟩
  | .hbm, ⟨21, _⟩ => ⟨S8320x1, .f32⟩
  | .hbm, ⟨22, _⟩ => ⟨S8320x1, .f32⟩
  | .hbm, ⟨23, _⟩ => ⟨S8320x4096, .f32⟩
  | .hbm, ⟨24, _⟩ => ⟨S8320x4096, .f32⟩
  | .hbm, ⟨25, _⟩ => ⟨S1x4096, .f32⟩
  | .hbm, ⟨26, _⟩ => ⟨S8320x4096, .f32⟩
  | .hbm, ⟨27, _⟩ => ⟨S8320x4096, .f32⟩
  | .hbm, ⟨28, _⟩ => ⟨S8320x11008, .f32⟩
  | .hbm, ⟨29, _⟩ => ⟨S8320x11008, .f32⟩
  | .hbm, ⟨30, _⟩ => ⟨S8320x11008, .f32⟩
  | .hbm, ⟨31, _⟩ => ⟨S_, .f32⟩
  | .hbm, ⟨32, _⟩ => ⟨S8320x11008, .f32⟩
  | .hbm, ⟨33, _⟩ => ⟨S8320x11008, .f32⟩
  | .hbm, ⟨34, _⟩ => ⟨S_, .f32⟩
  | .hbm, ⟨35, _⟩ => ⟨S8320x11008, .f32⟩
  | .hbm, ⟨36, _⟩ => ⟨S8320x11008, .f32⟩
  | .hbm, ⟨37, _⟩ => ⟨S8320x11008, .f32⟩
  | .hbm, ⟨38, _⟩ => ⟨S8320x11008, .f32⟩
  | .hbm, ⟨39, _⟩ => ⟨S8320x11008, .f32⟩
  | .hbm, ⟨40, _⟩ => ⟨S8320x4096, .f32⟩
  | .hbm, ⟨41, _⟩ => ⟨S8320x4096, .f32⟩
  | .hbm, ⟨42, _⟩ => ⟨S8320x4096, .f32⟩
  | .hbm, ⟨43, _⟩ => ⟨S_, .f32⟩
  | .hbm, ⟨44, _⟩ => ⟨S8320, .f32⟩
  | .hbm, ⟨45, _⟩ => ⟨S8320x1, .f32⟩
  | .hbm, ⟨46, _⟩ => ⟨S_, .f32⟩
  | .hbm, ⟨47, _⟩ => ⟨S8320x1, .f32⟩
  | .hbm, ⟨48, _⟩ => ⟨S8320x1, .f32⟩
  | .hbm, ⟨49, _⟩ => ⟨S_, .f32⟩
  | .hbm, ⟨50, _⟩ => ⟨S8320x1, .f32⟩
  | .hbm, ⟨51, _⟩ => ⟨S8320x1, .f32⟩
  | .hbm, ⟨52, _⟩ => ⟨S8320x1, .f32⟩
  | .hbm, ⟨53, _⟩ => ⟨S8320x4096, .f32⟩
  | .hbm, ⟨54, _⟩ => ⟨S8320x4096, .f32⟩
  | .hbm, ⟨55, _⟩ => ⟨S1x4096, .f32⟩
  | .hbm, ⟨56, _⟩ => ⟨S8320x4096, .f32⟩
  | .hbm, ⟨57, _⟩ => ⟨S8320x4096, .f32⟩
  | _, _ => ⟨S8320x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩

abbrev nD : Nat := 1
abbrev τ : Topo := Topo.v7x

variable {F : FTy → Type} [FloatOps F]
-- ==== Kernel3.lean ====
abbrev S8320x4096 : Shape := ⟨2, ![8320, 4096]⟩
abbrev S4096 : Shape := ⟨1, ![4096]⟩
abbrev S1x4096x10240 : Shape := ⟨3, ![1, 4096, 10240]⟩
abbrev S1x4096 : Shape := ⟨2, ![1, 4096]⟩
abbrev S8320x10240 : Shape := ⟨2, ![8320, 10240]⟩
abbrev S640x4096 : Shape := ⟨2, ![640, 4096]⟩
abbrev S1x4096x1024 : Shape := ⟨3, ![1, 4096, 1024]⟩
abbrev S640x1024 : Shape := ⟨2, ![640, 1024]⟩
abbrev S64x4096 : Shape := ⟨2, ![64, 4096]⟩
abbrev S64 : Shape := ⟨1, ![64]⟩
abbrev S64x1 : Shape := ⟨2, ![64, 1]⟩
abbrev S4096x1024 : Shape := ⟨2, ![4096, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8320x4096, .f32⟩
  | .hbm, ⟨1, _⟩ => ⟨S4096, .f32⟩
  | .hbm, ⟨2, _⟩ => ⟨S1x4096x10240, .bf16⟩
  | .hbm, ⟨3, _⟩ => ⟨S1x4096, .f32⟩
  | .hbm, ⟨4, _⟩ => ⟨S8320x10240, .f32⟩
  | .local _ .vmem, ⟨0, _⟩ => ⟨S640x4096, .f32⟩
  | .local _ .vmem, ⟨1, _⟩ => ⟨S640x4096, .f32⟩
  | .local _ .vmem, ⟨2, _⟩ => ⟨S1x4096, .f32⟩
  | .local _ .vmem, ⟨3, _⟩ => ⟨S1x4096x1024, .bf16⟩
  | .local _ .vmem, ⟨4, _⟩ => ⟨S1x4096x1024, .bf16⟩
  | .local _ .vmem, ⟨5, _⟩ => ⟨S640x1024, .f32⟩
  | .local _ .vmem, ⟨6, _⟩ => ⟨S640x1024, .f32⟩
  | .local _ .vmem, ⟨7, _⟩ => ⟨S640x4096, .bf16⟩
  | _, _ => ⟨S8320x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![13, 10], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_7 : BitVec 32 := 0#32
  let c10_i32 : BitVec 32 := 10#32
  let v8 : BitVec 32 := Scalar.addi c0_i32_7 c10_i32
  let c1_i32 : BitVec 32 := 1#32
  ⟨c0_i32_7, v8, c1_i32⟩
def k0_mult1 (k0_t1 : Fin k0_t1_loop.trips) : BitVec 32 :=
  let c0_i32_7 : BitVec 32 := 0#32
  let c1_i32 : BitVec 32 := 1#32
  let arg7 : BitVec 32 := Scf.iv c0_i32_7 c1_i32 k0_t1
  let c64_i32 : BitVec 32 := 64#32
  let v9 : BitVec 32 := Scalar.muli arg7 c64_i32
  v9
def k0_off1 (k0_t1 : Fin k0_t1_loop.trips) : Fin 2 → Nat :=
  let c0_i32_7 : BitVec 32 := 0#32
  let c1_i32 : BitVec 32 := 1#32
  let arg7 : BitVec 32 := Scf.iv c0_i32_7 c1_i32 k0_t1
  let c64_i32 : BitVec 32 := 64#32
  let v9 : BitVec 32 := Scalar.muli arg7 c64_i32
  let v10 : BitVec 32 := v9
  let v11 : Index := Scalar.indexCast v10
  let c0_9 : Index := 0#32
  ![v11.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8320x4096 : Shape := ⟨2, ![8320, 4096]⟩
abbrev S4096 : Shape := ⟨1, ![4096]⟩
abbrev S1x4096x10240 : Shape := ⟨3, ![1, 4096, 10240]⟩
abbrev S_ : Shape := ⟨0, ![]⟩
abbrev S8320 : Shape := ⟨1, ![8320]⟩
abbrev S8320x1 : Shape := ⟨2, ![8320, 1]⟩
abbrev S1x4096 : Shape := ⟨2, ![1, 4096]⟩
abbrev S4096x10240 : Shape := ⟨2, ![4096, 10240]⟩
abbrev S8320x10240 : Shape := ⟨2, ![8320, 10240]⟩

abbrev nBuf : Space → Nat
  | .hbm => 22
  | .vmem => 0
  | .smem => 0
  | _ => 0

abbrev bufTy : (tb : Table) → Fin (tcTables nBuf tb) → BufTy
  | .hbm, ⟨0, _⟩ => ⟨S8320x4096, .f32⟩
  | .hbm, ⟨1, _⟩ => ⟨S4096, .f32⟩
  | .hbm, ⟨2, _⟩ => ⟨S1x4096x10240, .bf16⟩
  | .hbm, ⟨3, _⟩ => ⟨S8320x4096, .f32⟩
  | .hbm, ⟨4, _⟩ => ⟨S_, .f32⟩
  | .hbm, ⟨5, _⟩ => ⟨S8320, .f32⟩
  | .hbm, ⟨6, _⟩ => ⟨S8320x1, .f32⟩
  | .hbm, ⟨7, _⟩ => ⟨S_, .f32⟩
  | .hbm, ⟨8, _⟩ => ⟨S8320x1, .f32⟩
  | .hbm, ⟨9, _⟩ => ⟨S8320x1, .f32⟩
  | .hbm, ⟨10, _⟩ => ⟨S_, .f32⟩
  | .hbm, ⟨11, _⟩ => ⟨S8320x1, .f32⟩
  | .hbm, ⟨12, _⟩ => ⟨S8320x1, .f32⟩
  | .hbm, ⟨13, _⟩ => ⟨S8320x1, .f32⟩
  | .hbm, ⟨14, _⟩ => ⟨S8320x4096, .f32⟩
  | .hbm, ⟨15, _⟩ => ⟨S8320x4096, .f32⟩
  | .hbm, ⟨16, _⟩ => ⟨S1x4096, .f32⟩
  | .hbm, ⟨17, _⟩ => ⟨S8320x4096, .f32⟩
  | .hbm, ⟨18, _⟩ => ⟨S8320x4096, .f32⟩
  | .hbm, ⟨19, _⟩ => ⟨S1x4096x10240, .f32⟩
  | .hbm, ⟨20, _⟩ => ⟨S4096x10240, .f32⟩
  | .hbm, ⟨21, _⟩ => ⟨S8320x10240, .f32⟩
  | _, _ => ⟨S8320x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel4.lean ====
abbrev S8320x4096 : Shape := ⟨2, ![8320, 4096]⟩
abbrev S8320x2048 : Shape := ⟨2, ![8320, 2048]⟩
abbrev S1x4096x4096 : Shape := ⟨3, ![1, 4096, 4096]⟩
abbrev S640x1024 : Shape := ⟨2, ![640, 1024]⟩
abbrev S640x2048 : Shape := ⟨2, ![640, 2048]⟩
abbrev S1x2048x1024 : Shape := ⟨3, ![1, 2048, 1024]⟩
abbrev S2048x1024 : Shape := ⟨2, ![2048, 1024]⟩

abbrev nBuf : Space → Nat
  | .hbm => 5
  | .vmem => 12
  | .smem => 0
  | _ => 0

abbrev bufTy : (tb : Table) → Fin (tcTables nBuf tb) → BufTy
  | .hbm, ⟨0, _⟩ => ⟨S8320x4096, .f32⟩
  | .hbm, ⟨1, _⟩ => ⟨S8320x2048, .bf16⟩
  | .hbm, ⟨2, _⟩ => ⟨S8320x2048, .bf16⟩
  | .hbm, ⟨3, _⟩ => ⟨S1x4096x4096, .bf16⟩
  | .hbm, ⟨4, _⟩ => ⟨S8320x4096, .f32⟩
  | .local _ .vmem, ⟨0, _⟩ => ⟨S640x1024, .f32⟩
  | .local _ .vmem, ⟨1, _⟩ => ⟨S640x1024, .f32⟩
  | .local _ .vmem, ⟨2, _⟩ => ⟨S640x2048, .bf16⟩
  | .local _ .vmem, ⟨3, _⟩ => ⟨S640x2048, .bf16⟩
  | .local _ .vmem, ⟨4, _⟩ => ⟨S640x2048, .bf16⟩
  | .local _ .vmem, ⟨5, _⟩ => ⟨S640x2048, .bf16⟩
  | .local _ .vmem, ⟨6, _⟩ => ⟨S1x2048x1024, .bf16⟩
  | .local _ .vmem, ⟨7, _⟩ => ⟨S1x2048x1024, .bf16⟩
  | .local _ .vmem, ⟨8, _⟩ => ⟨S1x2048x1024, .bf16⟩
  | .local _ .vmem, ⟨9, _⟩ => ⟨S1x2048x1024, .bf16⟩
  | .local _ .vmem, ⟨10, _⟩ => ⟨S640x1024, .f32⟩
  | .local _ .vmem, ⟨11, _⟩ => ⟨S640x1024, .f32⟩
  | _, _ => ⟨S8320x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![13, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S640x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S640x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S640x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S8320x4096 : Shape := ⟨2, ![8320, 4096]⟩
abbrev S8320x2048 : Shape := ⟨2, ![8320, 2048]⟩
abbrev S1x4096x4096 : Shape := ⟨3, ![1, 4096, 4096]⟩
abbrev S4096x4096 : Shape := ⟨2, ![4096, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8320x4096, .f32⟩
  | .hbm, ⟨1, _⟩ => ⟨S8320x2048, .bf16⟩
  | .hbm, ⟨2, _⟩ => ⟨S8320x2048, .bf16⟩
  | .hbm, ⟨3, _⟩ => ⟨S1x4096x4096, .bf16⟩
  | .hbm, ⟨4, _⟩ => ⟨S8320x2048, .f32⟩
  | .hbm, ⟨5, _⟩ => ⟨S8320x2048, .f32⟩
  | .hbm, ⟨6, _⟩ => ⟨S8320x4096, .f32⟩
  | .hbm, ⟨7, _⟩ => ⟨S1x4096x4096, .f32⟩
  | .hbm, ⟨8, _⟩ => ⟨S4096x4096, .f32⟩
  | .hbm, ⟨9, _⟩ => ⟨S8320x4096, .f32⟩
  | .hbm, ⟨10, _⟩ => ⟨S8320x4096, .f32⟩
  | _, _ => ⟨S8320x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel5.lean ====
abbrev S8320x10240 : Shape := ⟨2, ![8320, 10240]⟩
abbrev S4x8x256x2048 : Shape := ⟨4, ![4, 8, 256, 2048]⟩
abbrev S4x8x2048x256 : Shape := ⟨4, ![4, 8, 2048, 256]⟩
abbrev S4x1x8192 : Shape := ⟨3, ![4, 1, 8192]⟩
abbrev S4x8x8192 : Shape := ⟨3, ![4, 8, 8192]⟩
abbrev S4x8x1x256 : Shape := ⟨4, ![4, 8, 1, 256]⟩
abbrev S8x8x2048 : Shape := ⟨3, ![8, 8, 2048]⟩
abbrev S4x2048x2048 : Shape := ⟨3, ![4, 2048, 2048]⟩
abbrev S2048 : Shape := ⟨1, ![2048]⟩
abbrev S4x4096x4096 : Shape := ⟨3, ![4, 4096, 4096]⟩
abbrev S4x4096x10240 : Shape := ⟨3, ![4, 4096, 10240]⟩
abbrev S_ : Shape := ⟨0, ![]⟩
abbrev S1x8x1x2048 : Shape := ⟨4, ![1, 8, 1, 2048]⟩
abbrev S1x2048 : Shape := ⟨2, ![1, 2048]⟩
abbrev S8320x2048 : Shape := ⟨2, ![8320, 2048]⟩
abbrev S1x4096x4096 : Shape := ⟨3, ![1, 4096, 4096]⟩
abbrev S1x4096x10240 : Shape := ⟨3, ![1, 4096, 10240]⟩
abbrev S512x128 : Shape := ⟨2, ![512, 128]⟩
abbrev S1x1x256x2048 : Shape := ⟨4, ![1, 1, 256, 2048]⟩
abbrev S1x1x2048x256 : Shape := ⟨4, ![1, 1, 2048, 256]⟩
abbrev S1x1x1024 : Shape := ⟨3, ![1, 1, 1024]⟩
abbrev S1x8x1024 : Shape := ⟨3, ![1, 8, 1024]⟩
abbrev S1x1x1x256 : Shape := ⟨4, ![1, 1, 1, 256]⟩
abbrev S1x2048x2048 : Shape := ⟨3, ![1, 2048, 2048]⟩
abbrev S1x4096x128 : Shape := ⟨3, ![1, 4096, 128]⟩
abbrev S512x2048 : Shape := ⟨2, ![512, 2048]⟩
abbrev S512x256 : Shape := ⟨2, ![512, 256]⟩
abbrev S2x8x1024 : Shape := ⟨3, ![2, 8, 1024]⟩
abbrev S16x512x128 : Shape := ⟨3, ![16, 512, 128]⟩
abbrev S1x1x1x2048 : Shape := ⟨4, ![1, 1, 1, 2048]⟩
abbrev S1x1024 : Shape := ⟨2, ![1, 1024]⟩
abbrev S8x1024 : Shape := ⟨2, ![8, 1024]⟩
abbrev S8x128 : Shape := ⟨2, ![8, 128]⟩
abbrev S256x256 : Shape := ⟨2, ![256, 256]⟩
abbrev S256x2048 : Shape := ⟨2, ![256, 2048]⟩
abbrev S8x256 : Shape := ⟨2, ![8, 256]⟩
abbrev S1x8x256 : Shape := ⟨3, ![1, 8, 256]⟩
abbrev S1x256 : Shape := ⟨2, ![1, 256]⟩
abbrev S16x256 : Shape := ⟨2, ![16, 256]⟩
abbrev S2048x256 : Shape := ⟨2, ![2048, 256]⟩
abbrev S4096x128 : Shape := ⟨2, ![4096, 128]⟩
abbrev S1x8x128 : Shape := ⟨3, ![1, 8, 128]⟩
abbrev S1x512x128 : Shape := ⟨3, ![1, 512, 128]⟩
abbrev S2048x2048 : Shape := ⟨2, ![2048, 2048]⟩
abbrev S512 : Shape := ⟨1, ![512]⟩
abbrev S512x1 : Shape := ⟨2, ![512, 1]⟩
abbrev S64x256 : Shape := ⟨2, ![64, 256]⟩
abbrev S64x2048 : Shape := ⟨2, ![64, 2048]⟩
abbrev S1x8x2048 : Shape := ⟨3, ![1, 8, 2048]⟩
abbrev S8x2048 : Shape := ⟨2, ![8, 2048]⟩
abbrev S128x2048 : Shape := ⟨2, ![128, 2048]⟩
abbrev S128x256 : Shape := ⟨2, ![128, 256]⟩
abbrev S1x128x128 : Shape := ⟨3, ![1, 128, 128]⟩
abbrev S128x128 : Shape := ⟨2, ![128, 128]⟩
abbrev S128 : Shape := ⟨1, ![128]⟩
abbrev S128x1 : Shape := ⟨2, ![128, 1]⟩

abbrev nBuf : Space → Nat
  | .hbm => 21
  | .vmem => 39
  | .smem => 0
  | _ => 0

abbrev bufTy : (tb : Table) → Fin (tcTables nBuf tb) → BufTy
  | .hbm, ⟨0, _⟩ => ⟨S8320x10240, .f32⟩
  | .hbm, ⟨1, _⟩ => ⟨S4x8x256x2048, .bf16⟩
  | .hbm, ⟨2, _⟩ => ⟨S4x8x2048x256, .bf16⟩
  | .hbm, ⟨3, _⟩ => ⟨S4x1x8192, .f32⟩
  | .hbm, ⟨4, _⟩ => ⟨S4x1x8192, .f32⟩
  | .hbm, ⟨5, _⟩ => ⟨S4x8x8192, .f32⟩
  | .hbm, ⟨6, _⟩ => ⟨S4x8x8192, .f32⟩
  | .hbm, ⟨7, _⟩ => ⟨S4x8x1x256, .f32⟩
  | .hbm, ⟨8, _⟩ => ⟨S8x8x2048, .f32⟩
  | .hbm, ⟨9, _⟩ => ⟨S4x2048x2048, .bf16⟩
  | .hbm, ⟨10, _⟩ => ⟨S2048, .f32⟩
  | .hbm, ⟨11, _⟩ => ⟨S4x4096x4096, .f32⟩
  | .hbm, ⟨12, _⟩ => ⟨S4x4096x10240, .f32⟩
  | .hbm, ⟨13, _⟩ => ⟨S_, .f32⟩
  | .hbm, ⟨14, _⟩ => ⟨S1x8x1x2048, .f32⟩
  | .hbm, ⟨15, _⟩ => ⟨S1x2048, .f32⟩
  | .hbm, ⟨16, _⟩ => ⟨S8320x2048, .bf16⟩
  | .hbm, ⟨17, _⟩ => ⟨S1x8x1x2048, .f32⟩
  | .hbm, ⟨18, _⟩ => ⟨S8x8x2048, .f32⟩
  | .hbm, ⟨19, _⟩ => ⟨S1x4096x4096, .bf16⟩
  | .hbm, ⟨20, _⟩ => ⟨S1x4096x10240, .bf16⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S1x1x256x2048, .bf16⟩
  | .local _ .vmem, ⟨5, _⟩ => ⟨S1x1x256x2048, .bf16⟩
  | .local _ .vmem, ⟨6, _⟩ => ⟨S1x1x2048x256, .bf16⟩
  | .local _ .vmem, ⟨7, _⟩ => ⟨S1x1x2048x256, .bf16⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x8x1024, .f32⟩
  | .local _ .vmem, ⟨13, _⟩ => ⟨S1x8x1024, .f32⟩
  | .local _ .vmem, ⟨14, _⟩ => ⟨S1x8x1024, .f32⟩
  | .local _ .vmem, ⟨15, _⟩ => ⟨S1x8x1024, .f32⟩
  | .local _ .vmem, ⟨16, _⟩ => ⟨S1x1x1x256, .f32⟩
  | .local _ .vmem, ⟨17, _⟩ => ⟨S1x1x1x256, .f32⟩
  | .local _ .vmem, ⟨18, _⟩ => ⟨S1x8x1x2048, .f32⟩
  | .local _ .vmem, ⟨19, _⟩ => ⟨S8x8x2048, .f32⟩
  | .local _ .vmem, ⟨20, _⟩ => ⟨S1x2048x2048, .bf16⟩
  | .local _ .vmem, ⟨21, _⟩ => ⟨S1x2048, .f32⟩
  | .local _ .vmem, ⟨22, _⟩ => ⟨S1x4096x128, .f32⟩
  | .local _ .vmem, ⟨23, _⟩ => ⟨S1x4096x128, .f32⟩
  | .local _ .vmem, ⟨24, _⟩ => ⟨S1x4096x128, .f32⟩
  | .local _ .vmem, ⟨25, _⟩ => ⟨S1x4096x128, .f32⟩
  | .local _ .vmem, ⟨26, _⟩ => ⟨S512x2048, .bf16⟩
  | .local _ .vmem, ⟨27, _⟩ => ⟨S512x2048, .bf16⟩
  | .local _ .vmem, ⟨28, _⟩ => ⟨S1x8x1x2048, .f32⟩
  | .local _ .vmem, ⟨29, _⟩ => ⟨S8x8x2048, .f32⟩
  | .local _ .vmem, ⟨30, _⟩ => ⟨S1x4096x128, .bf16⟩
  | .local _ .vmem, ⟨31, _⟩ => ⟨S1x4096x128, .bf16⟩
  | .local _ .vmem, ⟨32, _⟩ => ⟨S1x4096x128, .bf16⟩
  | .local _ .vmem, ⟨33, _⟩ => ⟨S1x4096x128, .bf16⟩
  | .local _ .vmem, ⟨34, _⟩ => ⟨S512x256, .f32⟩
  | .local _ .vmem, ⟨35, _⟩ => ⟨S512x2048, .f32⟩
  | .local _ .vmem, ⟨36, _⟩ => ⟨S512x2048, .bf16⟩
  | .local _ .vmem, ⟨37, _⟩ => ⟨S2x8x1024, .f32⟩
  | .local _ .vmem, ⟨38, _⟩ => ⟨S16x512x128, .f32⟩
  | _, _ => ⟨S8320x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2_0 : Ref sig .tc := ⟨.hbm, 16, rfl⟩
abbrev main_v2_1 : Ref sig .tc := ⟨.hbm, 17, rfl⟩
abbrev main_v2_2 : Ref sig .tc := ⟨.hbm, 18, rfl⟩
abbrev main_v2_3 : Ref sig .tc := ⟨.hbm, 19, rfl⟩
abbrev main_v2_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_scratch3 : Ref sig .tc := ⟨.vmem, 37, rfl⟩
abbrev cc0_scratch4 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem17_0 : DmaSem sig := 29
abbrev cc0_sem18_0 : DmaSem sig := 30
abbrev cc0_sem18_1 : DmaSem sig := 31
abbrev cc0_sem19_0 : DmaSem sig := 32
abbrev cc0_sem19_1 : DmaSem sig := 33

abbrev nD : Nat := 1
abbrev τ : Topo := Topo.v7x

variable {F : FTy → Type} [FloatOps F]

abbrev grid0 : Pipeline.Grid := ⟨2, ![17, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 4 → Nat :=
  let c0_14 : Index := 0#32
  let arg1 : BitVec 32 := BitVec.ofNat 32 (i 1).val
  let v23 : Index := Scalar.indexCast arg1
  let c0_15 : Index := 0#32
  let c0_16 : Index := 0#32
  ![0, v23.toNat, 0, 0]
def k0_cond2 (i : grid0.Coords) : BitVec 1 :=
  let arg0 : BitVec 32 := BitVec.ofNat 32 (i 0).val
  let c16_i32 : BitVec 32 := 16#32
  let v17 : BitVec 1 := Scalar.cmpi .slt arg0 c16_i32
  let v18 : BitVec 32 := Scalar.extui v17
  let c0_i32_11 : BitVec 32 := 0#32
  let v19 : BitVec 1 := Scalar.cmpi .ne v18 c0_i32_11
  v19

@[reducible] def k0_t1_loop : Scf.Loop 32 :=
  let c0_i32_14 : BitVec 32 := 0#32
  let c64_i32 : BitVec 32 := 64#32
  let v23 : BitVec 32 := Scalar.addi c0_i32_14 c64_i32
  let c1_i32 : BitVec 32 := 1#32
  ⟨c0_i32_14, v23, c1_i32⟩
def k0_mult1 (k0_t1 : Fin k0_t1_loop.trips) : BitVec 32 :=
  let c0_i32_14 : BitVec 32 := 0#32
  let c1_i32 : BitVec 32 := 1#32
  let arg27 : BitVec 32 := Scf.iv c0_i32_14 c1_i32 k0_t1
  let c8_i32 : BitVec 32 := 8#32
  let v531 : BitVec 32 := Scalar.muli arg27 c8_i32
  v531
def k0_off2 (k0_t1 : Fin k0_t1_loop.trips) : Fin 2 → Nat :=
  let c0_i32_14 : BitVec 32 := 0#32
  let c1_i32 : BitVec 32 := 1#32
  let arg27 : BitVec 32 := Scf.iv c0_i32_14 c1_i32 k0_t1
  let v533 : Index := Scalar.indexCast arg27
  let c0_197 : Index := 0#32
  ![v533.toNat, 0]
def k0_off3 (k0_t1 : Fin k0_t1_loop.trips) : Fin 2 → Nat :=
  let c0_i32_14 : BitVec 32 := 0#32
  let c1_i32 : BitVec 32 := 1#32
  let arg27 : BitVec 32 := Scf.iv c0_i32_14 c1_i32 k0_t1
  let c8_i32 : BitVec 32 := 8#32
  let v531 : BitVec 32 := Scalar.muli arg27 c8_i32
  let v532 : BitVec 32 := v531
  let v535 : Index := Scalar.indexCast v532
  let c0_198 : Index := 0#32
  ![v535.toNat, 0]
def k0_off4 (k0_t1 : Fin k0_t1_loop.trips) : Fin 2 → Nat :=
  let c0_i32_14 : BitVec 32 := 0#32
  let c1_i32 : BitVec 32 := 1#32
  let arg27 : BitVec 32 := Scf.iv c0_i32_14 c1_i32 k0_t1
  let c8_i32 : BitVec 32 := 8#32
  let v531 : BitVec 32 := Scalar.muli arg27 c8_i32
  let v532 : BitVec 32 := v531
  let v541 : Index := Scalar.indexCast v532
  let c128 : Index := 128#32
  ![v541.toNat, 128]
@[reducible] def k0_t2_loop : Scf.Loop 32 :=
  let c0_i32_33 : BitVec 32 := 0#32
  let c32_i32 : BitVec 32 := 32#32
  let v41 : BitVec 32 := Scalar.addi c0_i32_33 c32_i32
  let c1_i32_34 : BitVec 32 := 1#32
  ⟨c0_i32_33, v41, c1_i32_34⟩
def k0_mult2 (k0_t2 : Fin k0_t2_loop.trips) : BitVec 32 :=
  let c0_i32_33 : BitVec 32 := 0#32
  let c1_i32_34 : BitVec 32 := 1#32
  let arg27 : BitVec 32 := Scf.iv c0_i32_33 c1_i32_34 k0_t2
  let c2_i32_197 : BitVec 32 := 2#32
  let v531 : BitVec 32 := Scalar.muli arg27 c2_i32_197
  let c8_i32 : BitVec 32 := 8#32
  let v532 : BitVec 32 := Scalar.muli v531 c8_i32
  v532
def k0_off5 (k0_t2 : Fin k0_t2_loop.trips) : Fin 2 → Nat :=
  let c0_i32_33 : BitVec 32 := 0#32
  let c1_i32_34 : BitVec 32 := 1#32
  let arg27 : BitVec 32 := Scf.iv c0_i32_33 c1_i32_34 k0_t2
  let c2_i32_197 : BitVec 32 := 2#32
  let v531 : BitVec 32 := Scalar.muli arg27 c2_i32_197
  let c8_i32 : BitVec 32 := 8#32
  let v532 : BitVec 32 := Scalar.muli v531 c8_i32
  let v533 : BitVec 32 := v532
  let v544 : Index := Scalar.indexCast v533
  let c0_204 : Index := 0#32
  ![v544.toNat, 0]
def k0_off6 (k0_t2 : Fin k0_t2_loop.trips) : Fin 2 → Nat :=
  let c0_i32_33 : BitVec 32 := 0#32
  let c1_i32_34 : BitVec 32 := 1#32
  let arg27 : BitVec 32 := Scf.iv c0_i32_33 c1_i32_34 k0_t2
  let c2_i32_197 : BitVec 32 := 2#32
  let v531 : BitVec 32 := Scalar.muli arg27 c2_i32_197
  let c8_i32 : BitVec 32 := 8#32
  let v532 : BitVec 32 := Scalar.muli v531 c8_i32
  let v533 : BitVec 32 := v532
  let v547 : Index := Scalar.indexCast v533
  let c1024 : Index := 1024#32
  ![v547.toNat, 1024]
def k0_off7 (k0_t2 : Fin k0_t2_loop.trips) : Fin 2 → Nat :=
  let c0_i32_33 : BitVec 32 := 0#32
  let c1_i32_34 : BitVec 32 := 1#32
  let arg27 : BitVec 32 := Scf.iv c0_i32_33 c1_i32_34 k0_t2
  let c2_i32_197 : BitVec 32 := 2#32
  let v531 : BitVec 32 := Scalar.muli arg27 c2_i32_197
  let c8_i32 : BitVec 32 := 8#32
  let v532 : BitVec 32 := Scalar.muli v531 c8_i32
  let v533 : BitVec 32 := v532
  let v560 : Index := Scalar.indexCast v533
  let c256_211 : Index := 256#32
  ![v560.toNat, 256]
def k0_off8 (k0_t2 : Fin k0_t2_loop.trips) : Fin 2 → Nat :=
  let c0_i32_33 : BitVec 32 := 0#32
  let c1_i32_34 : BitVec 32 := 1#32
  let arg27 : BitVec 32 := Scf.iv c0_i32_33 c1_i32_34 k0_t2
  let c2_i32_197 : BitVec 32 := 2#32
  let v531 : BitVec 32 := Scalar.muli arg27 c2_i32_197
  let c8_i32 : BitVec 32 := 8#32
  let v532 : BitVec 32 := Scalar.muli v531 c8_i32
  let v533 : BitVec 32 := v532
  let v563 : Index := Scalar.indexCast v533
  let c1280 : Index := 1280#32
  ![v563.toNat, 1280]
def k0_off9 (k0_t2 : Fin k0_t2_loop.trips) : Fin 2 → Nat :=
  let c0_i32_33 : BitVec 32 := 0#32
  let c1_i32_34 : BitVec 32 := 1#32
  let arg27 : BitVec 32 := Scf.iv c0_i32_33 c1_i32_34 k0_t2
  let c2_i32_197 : BitVec 32 := 2#32
  let v531 : BitVec 32 := Scalar.muli arg27 c2_i32_197
  let c8_i32 : BitVec 32 := 8#32
  let v532 : BitVec 32 := Scalar.muli v531 c8_i32
  let v533 : BitVec 32 := v532
  let v576 : Index := Scalar.indexCast v533
  let c512_218 : Index := 512#32
  ![v576.toNat, 512]
def k0_off10 (k0_t2 : Fin k0_t2_loop.trips) : Fin 2 → Nat :=
  let c0_i32_33 : BitVec 32 := 0#32
  let c1_i32_34 : BitVec 32 := 1#32
  let arg27 : BitVec 32 := Scf.iv c0_i32_33 c1_i32_34 k0_t2
  let c2_i32_197 : BitVec 32 := 2#32
  let v531 : BitVec 32 := Scalar.muli arg27 c2_i32_197
  let c8_i32 : BitVec 32 := 8#32
  let v532 : BitVec 32 := Scalar.muli v531 c8_i32
  let v533 : BitVec 32 := v532
  let v579 : Index := Scalar.indexCast v533
  let c1536 : Index := 1536#32
  ![v579.toNat, 1536]
def k0_off11 (k0_t2 : Fin k0_t2_loop.trips) : Fin 2 → Nat :=
  let c0_i32_33 : BitVec 32 := 0#32
  let c1_i32_34 : BitVec 32 := 1#32
  let arg27 : BitVec 32 := Scf.iv c0_i32_33 c1_i32_34 k0_t2
  let c2_i32_197 : BitVec 32 := 2#32
  let v531 : BitVec 32 := Scalar.muli arg27 c2_i32_197
  let c8_i32 : BitVec 32 := 8#32
  let v532 : BitVec 32 := Scalar.muli v531 c8_i32
  let v533 : BitVec 32 := v532
  let v592 : Index := Scalar.indexCast v533
  let c768_225 : Index := 768#32
  ![v592.toNat, 768]
def k0_off12 (k0_t2 : Fin k0_t2_loop.trips) : Fin 2 → Nat :=
  let c0_i32_33 : BitVec 32 := 0#32
  let c1_i32_34 : BitVec 32 := 1#32
  let arg27 : BitVec 32 := Scf.iv c0_i32_33 c1_i32_34 k0_t2
  let c2_i32_197 : BitVec 32 := 2#32
  let v531 : BitVec 32 := Scalar.muli arg27 c2_i32_197
  let c8_i32 : BitVec 32 := 8#32
  let v532 : BitVec 32 := Scalar.muli v531 c8_i32
  let v533 : BitVec 32 := v532
  let v595 : Index := Scalar.indexCast v533
  let c1792 : Index := 1792#32
  ![v595.toNat, 1792]
def k0_off13 (k0_t2 : Fin k0_t2_loop.trips) : Fin 2 → Nat :=
  let c0_i32_33 : BitVec 32 := 0#32
  let c1_i32_34 : BitVec 32 := 1#32
  let arg27 : BitVec 32 := Scf.iv c0_i32_33 c1_i32_34 k0_t2
  let c2_i32_197 : BitVec 32 := 2#32
  let v531 : BitVec 32 := Scalar.muli arg27 c2_i32_197
  let c8_i32 : BitVec 32 := 8#32
  let v532 : BitVec 32 := Scalar.muli v531 c8_i32
  let v533 : BitVec 32 := v532
  let c8_i32_226 : BitVec 32 := 8#32
  let v598 : BitVec 32 := Scalar.addi v533 c8_i32_226
  let v609 : Index := Scalar.indexCast v598
  let c0_233 : Index := 0#32
  ![v609.toNat, 0]
def k0_off14 (k0_t2 : Fin k0_t2_loop.trips) : Fin 2 → Nat :=
  let c0_i32_33 : BitVec 32 := 0#32
  let c1_i32_34 : BitVec 32 := 1#32
  let arg27 : BitVec 32 := Scf.iv c0_i32_33 c1_i32_34 k0_t2
  let c2_i32_197 : BitVec 32 := 2#32
  let v531 : BitVec 32 := Scalar.muli arg27 c2_i32_197
  let c8_i32 : BitVec 32 := 8#32
  let v532 : BitVec 32 := Scalar.muli v531 c8_i32
  let v533 : BitVec 32 := v532
  let c8_i32_226 : BitVec 32 := 8#32
  let v598 : BitVec 32 := Scalar.addi v533 c8_i32_226
  let v612 : Index := Scalar.indexCast v598
  let c1024_234 : Index := 1024#32
  ![v612.toNat, 1024]
def k0_off15 (k0_t2 : Fin k0_t2_loop.trips) : Fin 2 → Nat :=
  let c0_i32_33 : BitVec 32 := 0#32
  let c1_i32_34 : BitVec 32 := 1#32
  let arg27 : BitVec 32 := Scf.iv c0_i32_33 c1_i32_34 k0_t2
  let c2_i32_197 : BitVec 32 := 2#32
  let v531 : BitVec 32 := Scalar.muli arg27 c2_i32_197
  let c8_i32 : BitVec 32 := 8#32
  let v532 : BitVec 32 := Scalar.muli v531 c8_i32
  let v533 : BitVec 32 := v532
  let c8_i32_226 : BitVec 32 := 8#32
  let v598 : BitVec 32 := Scalar.addi v533 c8_i32_226
  let v625 : Index := Scalar.indexCast v598
  let c256_241 : Index := 256#32
  ![v625.toNat, 256]
def k0_off16 (k0_t2 : Fin k0_t2_loop.trips) : Fin 2 → Nat :=
  let c0_i32_33 : BitVec 32 := 0#32
  let c1_i32_34 : BitVec 32 := 1#32
  let arg27 : BitVec 32 := Scf.iv c0_i32_33 c1_i32_34 k0_t2
  let c2_i32_197 : BitVec 32 := 2#32
  let v531 : BitVec 32 := Scalar.muli arg27 c2_i32_197
  let c8_i32 : BitVec 32 := 8#32
  let v532 : BitVec 32 := Scalar.muli v531 c8_i32
  let v533 : BitVec 32 := v532
  let c8_i32_226 : BitVec 32 := 8#32
  let v598 : BitVec 32 := Scalar.addi v533 c8_i32_226
  let v628 : Index := Scalar.indexCast v598
  let c1280_242 : Index := 1280#32
  ![v628.toNat, 1280]
def k0_off17 (k0_t2 : Fin k0_t2_loop.trips) : Fin 2 → Nat :=
  let c0_i32_33 : BitVec 32 := 0#32
  let c1_i32_34 : BitVec 32 := 1#32
  let arg27 : BitVec 32 := Scf.iv c0_i32_33 c1_i32_34 k0_t2
  let c2_i32_197 : BitVec 32 := 2#32
  let v531 : BitVec 32 := Scalar.muli arg27 c2_i32_197
  let c8_i32 : BitVec 32 := 8#32
  let v532 : BitVec 32 := Scalar.muli v531 c8_i32
  let v533 : BitVec 32 := v532
  let c8_i32_226 : BitVec 32 := 8#32
  let v598 : BitVec 32 := Scalar.addi v533 c8_i32_226
  let v641 : Index := Scalar.indexCast v598
  let c512_249 : Index := 512#32
  ![v641.toNat, 512]
def k0_off18 (k0_t2 : Fin k0_t2_loop.trips) : Fin 2 → Nat :=
  let c0_i32_33 : BitVec 32 := 0#32
  let c1_i32_34 : BitVec 32 := 1#32
  let arg27 : BitVec 32 := Scf.iv c0_i32_33 c1_i32_34 k0_t2
  let c2_i32_197 : BitVec 32 := 2#32
  let v531 : BitVec 32 := Scalar.muli arg27 c2_i32_197
  let c8_i32 : BitVec 32 := 8#32
  let v532 : BitVec 32 := Scalar.muli v531 c8_i32
  let v533 : BitVec 32 := v532
  let c8_i32_226 : BitVec 32 := 8#32
  let v598 : BitVec 32 := Scalar.addi v533 c8_i32_226
  let v644 : Index := Scalar.indexCast v598
  let c1536_250 : Index := 1536#32
  ![v644.toNat, 1536]
def k0_off19 (k0_t2 : Fin k0_t2_loop.trips) : Fin 2 → Nat :=
  let c0_i32_33 : BitVec 32 := 0#32
  let c1_i32_34 : BitVec 32 := 1#32
  let arg27 : BitVec 32 := Scf.iv c0_i32_33 c1_i32_34 k0_t2
  let c2_i32_197 : BitVec 32 := 2#32
  let v531 : BitVec 32 := Scalar.muli arg27 c2_i32_197
  let c8_i32 : BitVec 32 := 8#32
  let v532 : BitVec 32 := Scalar.muli v531 c8_i32
  let v533 : BitVec 32 := v532
  let c8_i32_226 : BitVec 32 := 8#32
  let v598 : BitVec 32 := Scalar.addi v533 c8_i32_226
  let v657 : Index := Scalar.indexCast v598
  let c768_257 : Index := 768#32
  ![v657.toNat, 768]
def k0_off20 (k0_t2 : Fin k0_t2_loop.trips) : Fin 2 → Nat :=
  let c0_i32_33 : BitVec 32 := 0#32
  let c1_i32_34 : BitVec 32 := 1#32
  let arg27 : BitVec 32 := Scf.iv c0_i32_33 c1_i32_34 k0_t2
  let c2_i32_197 : BitVec 32 := 2#32
  let v531 : BitVec 32 := Scalar.muli arg27 c2_i32_197
  let c8_i32 : BitVec 32 := 8#32
  let v532 : BitVec 32 := Scalar.muli v531 c8_i32
  let v533 : BitVec 32 := v532
  let c8_i32_226 : BitVec 32 := 8#32
  let v598 : BitVec 32 := Scalar.addi v533 c8_i32_226
  let v660 : Index := Scalar.indexCast v598
  let c1792_258 : Index := 1792#32
  ![v660.toNat, 1792]
def k0_off21 (i : grid0.Coords) : Fin 4 → Nat :=
  let c0_36 : Index := 0#32
  let arg1 : BitVec 32 := BitVec.ofNat 32 (i 1).val
  let v44 : Index := Scalar.indexCast arg1
  let c0_37 : Index := 0#32
  let c0_38 : Index := 0#32
  ![0, v44.toNat, 0, 0]
@[reducible] def k0_t3_loop : Scf.Loop 32 :=
  let c0_i32_158 : BitVec 32 := 0#32
  let c32_i32_159 : BitVec 32 := 32#32
  let v492 : BitVec 32 := Scalar.addi c0_i32_158 c32_i32_159
  let c1_i32_160 : BitVec 32 := 1#32
  ⟨c0_i32_158, v492, c1_i32_160⟩
def k0_mult3 (k0_t3 : Fin k0_t3_loop.trips) : BitVec 32 :=
  let c0_i32_158 : BitVec 32 := 0#32
  let c1_i32_160 : BitVec 32 := 1#32
  let arg27 : BitVec 32 := Scf.iv c0_i32_158 c1_i32_160 k0_t3
  let c2_i32_197 : BitVec 32 := 2#32
  let v531 : BitVec 32 := Scalar.muli arg27 c2_i32_197
  let c8_i32 : BitVec 32 := 8#32
  let v532 : BitVec 32 := Scalar.muli v531 c8_i32
  v532
def k0_off22 (k0_t3 : Fin k0_t3_loop.trips) : Fin 2 → Nat :=
  let c0_i32_158 : BitVec 32 := 0#32
  let c1_i32_160 : BitVec 32 := 1#32
  let arg27 : BitVec 32 := Scf.iv c0_i32_158 c1_i32_160 k0_t3
  let c2_i32_197 : BitVec 32 := 2#32
  let v531 : BitVec 32 := Scalar.muli arg27 c2_i32_197
  let c8_i32 : BitVec 32 := 8#32
  let v532 : BitVec 32 := Scalar.muli v531 c8_i32
  let v533 : BitVec 32 := v532
  let v544 : Index := Scalar.indexCast v533
  let c0_204 : Index := 0#32
  ![v544.toNat, 0]
def k0_off23 (k0_t3 : Fin k0_t3_loop.trips) : Fin 2 → Nat :=
  let c0_i32_158 : BitVec 32 := 0#32
  let c1_i32_160 : BitVec 32 := 1#32
  let arg27 : BitVec 32 := Scf.iv c0_i32_158 c1_i32_160 k0_t3
  let c2_i32_197 : BitVec 32 := 2#32
  let v531 : BitVec 32 := Scalar.muli arg27 c2_i32_197
  let c8_i32 : BitVec 32 := 8#32
  let v532 : BitVec 32 := Scalar.muli v531 c8_i32
  let v533 : BitVec 32 := v532
  let v547 : Index := Scalar.indexCast v533
  let c1024 : Index := 1024#32
  ![v547.toNat, 1024]
def k0_off24 (k0_t3 : Fin k0_t3_loop.trips) : Fin 2 → Nat :=
  let c0_i32_158 : BitVec 32 := 0#32
  let c1_i32_160 : BitVec 32 := 1#32
  let arg27 : BitVec 32 := Scf.iv c0_i32_158 c1_i32_160 k0_t3
  let c2_i32_197 : BitVec 32 := 2#32
  let v531 : BitVec 32 := Scalar.muli arg27 c2_i32_197
  let c8_i32 : BitVec 32 := 8#32
  let v532 : BitVec 32 := Scalar.muli v531 c8_i32
  let v533 : BitVec 32 := v532
  let v560 : Index := Scalar.indexCast v533
  let c256_211 : Index := 256#32
  ![v560.toNat, 256]
def k0_off25 (k0_t3 : Fin k0_t3_loop.trips) : Fin 2 → Nat :=
  let c0_i32_158 : BitVec 32 := 0#32
  let c1_i32_160 : BitVec 32 := 1#32
  let arg27 : BitVec 32 := Scf.iv c0_i32_158 c1_i32_160 k0_t3
  let c2_i32_197 : BitVec 32 := 2#32
  let v531 : BitVec 32 := Scalar.muli arg27 c2_i32_197
  let c8_i32 : BitVec 32 := 8#32
  let v532 : BitVec 32 := Scalar.muli v531 c8_i32
  let v533 : BitVec 32 := v532
  let v563 : Index := Scalar.indexCast v533
  let c1280 : Index := 1280#32
  ![v563.toNat, 1280]
def k0_off26 (k0_t3 : Fin k0_t3_loop.trips) : Fin 2 → Nat :=
  let c0_i32_158 : BitVec 32 := 0#32
  let c1_i32_160 : BitVec 32 := 1#32
  let arg27 : BitVec 32 := Scf.iv c0_i32_158 c1_i32_160 k0_t3
  let c2_i32_197 : BitVec 32 := 2#32
  let v531 : BitVec 32 := Scalar.muli arg27 c2_i32_197
  let c8_i32 : BitVec 32 := 8#32
  let v532 : BitVec 32 := Scalar.muli v531 c8_i32
  let v533 : BitVec 32 := v532
  let v576 : Index := Scalar.indexCast v533
  let c512_218 : Index := 512#32
  ![v576.toNat, 512]
def k0_off27 (k0_t3 : Fin k0_t3_loop.trips) : Fin 2 → Nat :=
  let c0_i32_158 : BitVec 32 := 0#32
  let c1_i32_160 : BitVec 32 := 1#32
  let arg27 : BitVec 32 := Scf.iv c0_i32_158 c1_i32_160 k0_t3
  let c2_i32_197 : BitVec 32 := 2#32
  let v531 : BitVec 32 := Scalar.muli arg27 c2_i32_197
  let c8_i32 : BitVec 32 := 8#32
  let v532 : BitVec 32 := Scalar.muli v531 c8_i32
  let v533 : BitVec 32 := v532
  let v579 : Index := Scalar.indexCast v533
  let c1536 : Index := 1536#32
  ![v579.toNat, 1536]
def k0_off28 (k0_t3 : Fin k0_t3_loop.trips) : Fin 2 → Nat :=
  let c0_i32_158 : BitVec 32 := 0#32
  let c1_i32_160 : BitVec 32 := 1#32
  let arg27 : BitVec 32 := Scf.iv c0_i32_158 c1_i32_160 k0_t3
  let c2_i32_197 : BitVec 32 := 2#32
  let v531 : BitVec 32 := Scalar.muli arg27 c2_i32_197
  let c8_i32 : BitVec 32 := 8#32
  let v532 : BitVec 32 := Scalar.muli v531 c8_i32
  let v533 : BitVec 32 := v532
  let v592 : Index := Scalar.indexCast v533
  let c768_225 : Index := 768#32
  ![v592.toNat, 768]
def k0_off29 (k0_t3 : Fin k0_t3_loop.trips) : Fin 2 → Nat :=
  let c0_i32_158 : BitVec 32 := 0#32
  let c1_i32_160 : BitVec 32 := 1#32
  let arg27 : BitVec 32 := Scf.iv c0_i32_158 c1_i32_160 k0_t3
  let c2_i32_197 : BitVec 32 := 2#32
  let v531 : BitVec 32 := Scalar.muli arg27 c2_i32_197
  let c8_i32 : BitVec 32 := 8#32
  let v532 : BitVec 32 := Scalar.muli v531 c8_i32
  let v533 : BitVec 32 := v532
  let v595 : Index := Scalar.indexCast v533
  let c1792 : Index := 1792#32
  ![v595.toNat, 1792]
def k0_off30 (k0_t3 : Fin k0_t3_loop.trips) : Fin 2 → Nat :=
  let c0_i32_158 : BitVec 32 := 0#32
  let c1_i32_160 : BitVec 32 := 1#32
  let arg27 : BitVec 32 := Scf.iv c0_i32_158 c1_i32_160 k0_t3
  let c2_i32_197 : BitVec 32 := 2#32
  let v531 : BitVec 32 := Scalar.muli arg27 c2_i32_197
  let c8_i32 : BitVec 32 := 8#32
  let v532 : BitVec 32 := Scalar.muli v531 c8_i32
  let v533 : BitVec 32 := v532
  let c8_i32_226 : BitVec 32 := 8#32
  let v598 : BitVec 32 := Scalar.addi v533 c8_i32_226
  let v609 : Index := Scalar.indexCast v598
  let c0_233 : Index := 0#32
  ![v609.toNat, 0]
def k0_off31 (k0_t3 : Fin k0_t3_loop.trips) : Fin 2 → Nat :=
  let c0_i32_158 : BitVec 32 := 0#32
  let c1_i32_160 : BitVec 32 := 1#32
  let arg27 : BitVec 32 := Scf.iv c0_i32_158 c1_i32_160 k0_t3
  let c2_i32_197 : BitVec 32 := 2#32
  let v531 : BitVec 32 := Scalar.muli arg27 c2_i32_197
  let c8_i32 : BitVec 32 := 8#32
  let v532 : BitVec 32 := Scalar.muli v531 c8_i32
  let v533 : BitVec 32 := v532
  let c8_i32_226 : BitVec 32 := 8#32
  let v598 : BitVec 32 := Scalar.addi v533 c8_i32_226
  let v612 : Index := Scalar.indexCast v598
  let c1024_234 : Index := 1024#32
  ![v612.toNat, 1024]
def k0_off32 (k0_t3 : Fin k0_t3_loop.trips) : Fin 2 → Nat :=
  let c0_i32_158 : BitVec 32 := 0#32
  let c1_i32_160 : BitVec 32 := 1#32
  let arg27 : BitVec 32 := Scf.iv c0_i32_158 c1_i32_160 k0_t3
  let c2_i32_197 : BitVec 32 := 2#32
  let v531 : BitVec 32 := Scalar.muli arg27 c2_i32_197
  let c8_i32 : BitVec 32 := 8#32
  let v532 : BitVec 32 := Scalar.muli v531 c8_i32
  let v533 : BitVec 32 := v532
  let c8_i32_226 : BitVec 32 := 8#32
  let v598 : BitVec 32 := Scalar.addi v533 c8_i32_226
  let v625 : Index := Scalar.indexCast v598
  let c256_241 : Index := 256#32
  ![v625.toNat, 256]
def k0_off33 (k0_t3 : Fin k0_t3_loop.trips) : Fin 2 → Nat :=
  let c0_i32_158 : BitVec 32 := 0#32
  let c1_i32_160 : BitVec 32 := 1#32
  let arg27 : BitVec 32 := Scf.iv c0_i32_158 c1_i32_160 k0_t3
  let c2_i32_197 : BitVec 32 := 2#32
  let v531 : BitVec 32 := Scalar.muli arg27 c2_i32_197
  let c8_i32 : BitVec 32 := 8#32
  let v532 : BitVec 32 := Scalar.muli v531 c8_i32
  let v533 : BitVec 32 := v532
  let c8_i32_226 : BitVec 32 := 8#32
  let v598 : BitVec 32 := Scalar.addi v533 c8_i32_226
  let v628 : Index := Scalar.indexCast v598
  let c1280_242 : Index := 1280#32
  ![v628.toNat, 1280]
def k0_off34 (k0_t3 : Fin k0_t3_loop.trips) : Fin 2 → Nat :=
  let c0_i32_158 : BitVec 32 := 0#32
  let c1_i32_160 : BitVec 32 := 1#32
  let arg27 : BitVec 32 := Scf.iv c0_i32_158 c1_i32_160 k0_t3
  let c2_i32_197 : BitVec 32 := 2#32
  let v531 : BitVec 32 := Scalar.muli arg27 c2_i32_197
  let c8_i32 : BitVec 32 := 8#32
  let v532 : BitVec 32 := Scalar.muli v531 c8_i32
  let v533 : BitVec 32 := v532
  let c8_i32_226 : BitVec 32 := 8#32
  let v598 : BitVec 32 := Scalar.addi v533 c8_i32_226
  let v641 : Index := Scalar.indexCast v598
  let c512_249 : Index := 512#32
  ![v641.toNat, 512]
def k0_off35 (k0_t3 : Fin k0_t3_loop.trips) : Fin 2 → Nat :=
  let c0_i32_158 : BitVec 32 := 0#32
  let c1_i32_160 : BitVec 32 := 1#32
  let arg27 : BitVec 32 := Scf.iv c0_i32_158 c1_i32_160 k0_t3
  let c2_i32_197 : BitVec 32 := 2#32
  let v531 : BitVec 32 := Scalar.muli arg27 c2_i32_197
  let c8_i32 : BitVec 32 := 8#32
  let v532 : BitVec 32 := Scalar.muli v531 c8_i32
  let v533 : BitVec 32 := v532
  let c8_i32_226 : BitVec 32 := 8#32
  let v598 : BitVec 32 := Scalar.addi v533 c8_i32_226
  let v644 : Index := Scalar.indexCast v598
  let c1536_250 : Index := 1536#32
  ![v644.toNat, 1536]
def k0_off36 (k0_t3 : Fin k0_t3_loop.trips) : Fin 2 → Nat :=
  let c0_i32_158 : BitVec 32 := 0#32
  let c1_i32_160 : BitVec 32 := 1#32
  let arg27 : BitVec 32 := Scf.iv c0_i32_158 c1_i32_160 k0_t3
  let c2_i32_197 : BitVec 32 := 2#32
  let v531 : BitVec 32 := Scalar.muli arg27 c2_i32_197
  let c8_i32 : BitVec 32 := 8#32
  let v532 : BitVec 32 := Scalar.muli v531 c8_i32
  let v533 : BitVec 32 := v532
  let c8_i32_226 : BitVec 32 := 8#32
  let v598 : BitVec 32 := Scalar.addi v533 c8_i32_226
  let v657 : Index := Scalar.indexCast v598
  let c768_257 : Index := 768#32
  ![v657.toNat, 768]
def k0_off37 (k0_t3 : Fin k0_t3_loop.trips) : Fin 2 → Nat :=
  let c0_i32_158 : BitVec 32 := 0#32
  let c1_i32_160 : BitVec 32 := 1#32
  let arg27 : BitVec 32 := Scf.iv c0_i32_158 c1_i32_160 k0_t3
  let c2_i32_197 : BitVec 32 := 2#32
  let v531 : BitVec 32 := Scalar.muli arg27 c2_i32_197
  let c8_i32 : BitVec 32 := 8#32
  let v532 : BitVec 32 := Scalar.muli v531 c8_i32
  let v533 : BitVec 32 := v532
  let c8_i32_226 : BitVec 32 := 8#32
  let v598 : BitVec 32 := Scalar.addi v533 c8_i32_226
  let v660 : Index := Scalar.indexCast v598
  let c1792_258 : Index := 1792#32
  ![v660.toNat, 1792]
def k0_off38 (k0_t3 : Fin k0_t3_loop.trips) : Fin 2 → Nat :=
  let c0_i32_158 : BitVec 32 := 0#32
  let c1_i32_160 : BitVec 32 := 1#32
  let arg27 : BitVec 32 := Scf.iv c0_i32_158 c1_i32_160 k0_t3
  let c2_i32_197 : BitVec 32 := 2#32
  let v531 : BitVec 32 := Scalar.muli arg27 c2_i32_197
  let c8_i32 : BitVec 32 := 8#32
  let v532 : BitVec 32 := Scalar.muli v531 c8_i32
  let v533 : BitVec 32 := v532
  let v665 : Index := Scalar.indexCast v533
  let c0_259 : Index := 0#32
  ![v665.toNat, 0]
def k0_off39 (k0_t3 : Fin k0_t3_loop.trips) : Fin 2 → Nat :=
  let c0_i32_158 : BitVec 32 := 0#32
  let c1_i32_160 : BitVec 32 := 1#32
  let arg27 : BitVec 32 := Scf.iv c0_i32_158 c1_i32_160 k0_t3
  let c2_i32_197 : BitVec 32 := 2#32
  let v531 : BitVec 32 := Scalar.muli arg27 c2_i32_197
  let c8_i32 : BitVec 32 := 8#32
  let v532 : BitVec 32 := Scalar.muli v531 c8_i32
  let v533 : BitVec 32 := v532
  let v671 : Index := Scalar.indexCast v533
  let c1024_260 : Index := 1024#32
  ![v671.toNat, 1024]
def k0_off40 (k0_t3 : Fin k0_t3_loop.trips) : Fin 2 → Nat :=
  let c0_i32_158 : BitVec 32 := 0#32
  let c1_i32_160 : BitVec 32 := 1#32
  let arg27 : BitVec 32 := Scf.iv c0_i32_158 c1_i32_160 k0_t3
  let c2_i32_197 : BitVec 32 := 2#32
  let v531 : BitVec 32 := Scalar.muli arg27 c2_i32_197
  let c8_i32 : BitVec 32 := 8#32
  let v532 : BitVec 32 := Scalar.muli v531 c8_i32
  let v533 : BitVec 32 := v532
  let v677 : Index := Scalar.indexCast v533
  let c256_261 : Index := 256#32
  ![v677.toNat, 256]
def k0_off41 (k0_t3 : Fin k0_t3_loop.trips) : Fin 2 → Nat :=
  let c0_i32_158 : BitVec 32 := 0#32
  let c1_i32_160 : BitVec 32 := 1#32
  let arg27 : BitVec 32 := Scf.iv c0_i32_158 c1_i32_160 k0_t3
  let c2_i32_197 : BitVec 32 := 2#32
  let v531 : BitVec 32 := Scalar.muli arg27 c2_i32_197
  let c8_i32 : BitVec 32 := 8#32
  let v532 : BitVec 32 := Scalar.muli v531 c8_i32
  let v533 : BitVec 32 := v532
  let v683 : Index := Scalar.indexCast v533
  let c1280_262 : Index := 1280#32
  ![v683.toNat, 1280]
def k0_off42 (k0_t3 : Fin k0_t3_loop.trips) : Fin 2 → Nat :=
  let c0_i32_158 : BitVec 32 := 0#32
  let c1_i32_160 : BitVec 32 := 1#32
  let arg27 : BitVec 32 := Scf.iv c0_i32_158 c1_i32_160 k0_t3
  let c2_i32_197 : BitVec 32 := 2#32
  let v531 : BitVec 32 := Scalar.muli arg27 c2_i32_197
  let c8_i32 : BitVec 32 := 8#32
  let v532 : BitVec 32 := Scalar.muli v531 c8_i32
  let v533 : BitVec 32 := v532
  let v689 : Index := Scalar.indexCast v533
  let c512_263 : Index := 512#32
  ![v689.toNat, 512]
def k0_off43 (k0_t3 : Fin k0_t3_loop.trips) : Fin 2 → Nat :=
  let c0_i32_158 : BitVec 32 := 0#32
  let c1_i32_160 : BitVec 32 := 1#32
  let arg27 : BitVec 32 := Scf.iv c0_i32_158 c1_i32_160 k0_t3
  let c2_i32_197 : BitVec 32 := 2#32
  let v531 : BitVec 32 := Scalar.muli arg27 c2_i32_197
  let c8_i32 : BitVec 32 := 8#32
  let v532 : BitVec 32 := Scalar.muli v531 c8_i32
  let v533 : BitVec 32 := v532
  let v695 : Index := Scalar.indexCast v533
  let c1536_264 : Index := 1536#32
  ![v695.toNat, 1536]
def k0_off44 (k0_t3 : Fin k0_t3_loop.trips) : Fin 2 → Nat :=
  let c0_i32_158 : BitVec 32 := 0#32
  let c1_i32_160 : BitVec 32 := 1#32
  let arg27 : BitVec 32 := Scf.iv c0_i32_158 c1_i32_160 k0_t3
  let c2_i32_197 : BitVec 32 := 2#32
  let v531 : BitVec 32 := Scalar.muli arg27 c2_i32_197
  let c8_i32 : BitVec 32 := 8#32
  let v532 : BitVec 32 := Scalar.muli v531 c8_i32
  let v533 : BitVec 32 := v532
  let v701 : Index := Scalar.indexCast v533
  let c768_265 : Index := 768#32
  ![v701.toNat, 768]
def k0_off45 (k0_t3 : Fin k0_t3_loop.trips) : Fin 2 → Nat :=
  let c0_i32_158 : BitVec 32 := 0#32
  let c1_i32_160 : BitVec 32 := 1#32
  let arg27 : BitVec 32 := Scf.iv c0_i32_158 c1_i32_160 k0_t3
  let c2_i32_197 : BitVec 32 := 2#32
  let v531 : BitVec 32 := Scalar.muli arg27 c2_i32_197
  let c8_i32 : BitVec 32 := 8#32
  let v532 : BitVec 32 := Scalar.muli v531 c8_i32
  let v533 : BitVec 32 := v532
  let v707 : Index := Scalar.indexCast v533
  let c1792_266 : Index := 1792#32
  ![v707.toNat, 1792]
@[reducible] def k0_t4_loop : Scf.Loop 32 :=
  let c0_i32_192 : BitVec 32 := 0#32
  let c64_i32_193 : BitVec 32 := 64#32
  let v527 : BitVec 32 := Scalar.addi c0_i32_192 c64_i32_193
  let c1_i32_194 : BitVec 32 := 1#32
  ⟨c0_i32_192, v527, c1_i32_194⟩
def k0_mult4 (k0_t4 : Fin k0_t4_loop.trips) : BitVec 32 :=
  let c0_i32_192 : BitVec 32 := 0#32
  let c1_i32_194 : BitVec 32 := 1#32
  let arg27 : BitVec 32 := Scf.iv c0_i32_192 c1_i32_194 k0_t4
  let c8_i32 : BitVec 32 := 8#32
  let v531 : BitVec 32 := Scalar.muli arg27 c8_i32
  v531
def k0_off46 (k0_t4 : Fin k0_t4_loop.trips) : Fin 2 → Nat :=
  let c0_i32_192 : BitVec 32 := 0#32
  let c1_i32_194 : BitVec 32 := 1#32
  let arg27 : BitVec 32 := Scf.iv c0_i32_192 c1_i32_194 k0_t4
  let c8_i32 : BitVec 32 := 8#32
  let v531 : BitVec 32 := Scalar.muli arg27 c8_i32
  let v532 : BitVec 32 := v531
  let v533 : Index := Scalar.indexCast v532
  let c0_197 : Index := 0#32
  ![v533.toNat, 0]
def k0_off47 (i : grid0.Coords) (k0_t4 : Fin k0_t4_loop.trips) : Fin 3 → Nat :=
  let c2_i32_198 : BitVec 32 := 2#32
  let arg1 : BitVec 32 := BitVec.ofNat 32 (i 1).val
  let v535 : BitVec 32 := Scalar.muli c2_i32_198 arg1
  let v536 : Index := Scalar.indexCast v535
  let c0_i32_192 : BitVec 32 := 0#32
  let c1_i32_194 : BitVec 32 := 1#32
  let arg27 : BitVec 32 := Scf.iv c0_i32_192 c1_i32_194 k0_t4
  let v537 : Index := Scalar.indexCast arg27
  let c0_199 : Index := 0#32
  ![v536.toNat, v537.toNat, 0]
def k0_off48 (k0_t4 : Fin k0_t4_loop.trips) : Fin 2 → Nat :=
  let c0_i32_192 : BitVec 32 := 0#32
  let c1_i32_194 : BitVec 32 := 1#32
  let arg27 : BitVec 32 := Scf.iv c0_i32_192 c1_i32_194 k0_t4
  let c8_i32 : BitVec 32 := 8#32
  let v531 : BitVec 32 := Scalar.muli arg27 c8_i32
  let v532 : BitVec 32 := v531
  let v541 : Index := Scalar.indexCast v532
  let c128 : Index := 128#32
  ![v541.toNat, 128]
def k0_off49 (i : grid0.Coords) (k0_t4 : Fin k0_t4_loop.trips) : Fin 3 → Nat :=
  let c2_i32_200 : BitVec 32 := 2#32
  let arg1 : BitVec 32 := BitVec.ofNat 32 (i 1).val
  let v543 : BitVec 32 := Scalar.muli c2_i32_200 arg1
  let c1_i32_201 : BitVec 32 := 1#32
  let v544 : BitVec 32 := Scalar.addi v543 c1_i32_201
  let v545 : Index := Scalar.indexCast v544
  let c0_i32_192 : BitVec 32 := 0#32
  let c1_i32_194 : BitVec 32 := 1#32
  let arg27 : BitVec 32 := Scf.iv c0_i32_192 c1_i32_194 k0_t4
  let v546 : Index := Scalar.indexCast arg27
  let c0_202 : Index := 0#32
  ![v545.toNat, v546.toNat, 0]
def k0_cond4 (i : grid0.Coords) : BitVec 1 :=
  let arg0 : BitVec 32 := BitVec.ofNat 32 (i 0).val
  let c16_i32_12 : BitVec 32 := 16#32
  let v20 : BitVec 1 := Scalar.cmpi .eq arg0 c16_i32_12
  let v21 : BitVec 32 := Scalar.extui v20
  let c0_i32_13 : BitVec 32 := 0#32
  let v22 : BitVec 1 := Scalar.cmpi .ne v21 c0_i32_13
  v22

@[reducible] def k0_t5_loop : Scf.Loop 32 :=
  let c0_i32_14 : BitVec 32 := 0#32
  let c16_i32_15 : BitVec 32 := 16#32
  let v23 : BitVec 32 := Scalar.addi c0_i32_14 c16_i32_15
  let c1_i32 : BitVec 32 := 1#32
  ⟨c0_i32_14, v23, c1_i32⟩
def k0_mult5 (k0_t5 : Fin k0_t5_loop.trips) : BitVec 32 :=
  let c0_i32_14 : BitVec 32 := 0#32
  let c1_i32 : BitVec 32 := 1#32
  let arg27 : BitVec 32 := Scf.iv c0_i32_14 c1_i32 k0_t5
  let c8_i32_75 : BitVec 32 := 8#32
  let v95 : BitVec 32 := Scalar.muli arg27 c8_i32_75
  v95
def k0_off50 (k0_t5 : Fin k0_t5_loop.trips) : Fin 2 → Nat :=
  let c0_i32_14 : BitVec 32 := 0#32
  let c1_i32 : BitVec 32 := 1#32
  let arg27 : BitVec 32 := Scf.iv c0_i32_14 c1_i32 k0_t5
  let v97 : Index := Scalar.indexCast arg27
  let c0_76 : Index := 0#32
  ![v97.toNat, 0]
def k0_off51 (k0_t5 : Fin k0_t5_loop.trips) : Fin 2 → Nat :=
  let c0_i32_14 : BitVec 32 := 0#32
  let c1_i32 : BitVec 32 := 1#32
  let arg27 : BitVec 32 := Scf.iv c0_i32_14 c1_i32 k0_t5
  let c8_i32_75 : BitVec 32 := 8#32
  let v95 : BitVec 32 := Scalar.muli arg27 c8_i32_75
  let v96 : BitVec 32 := v95
  let v99 : Index := Scalar.indexCast v96
  let c0_77 : Index := 0#32
  ![v99.toNat, 0]
def k0_off52 (k0_t5 : Fin k0_t5_loop.trips) : Fin 2 → Nat :=
  let c0_i32_14 : BitVec 32 := 0#32
  let c1_i32 : BitVec 32 := 1#32
  let arg27 : BitVec 32 := Scf.iv c0_i32_14 c1_i32 k0_t5
  let c8_i32_75 : BitVec 32 := 8#32
  let v95 : BitVec 32 := Scalar.muli arg27 c8_i32_75
  let v96 : BitVec 32 := v95
  let v105 : Index := Scalar.indexCast v96
  let c128 : Index := 128#32
  ![v105.toNat, 128]
def k0_off53 (i : grid0.Coords) : Fin 3 → Nat :=
  let arg1 : BitVec 32 := BitVec.ofNat 32 (i 1).val
  let v40 : Index := Scalar.indexCast arg1
  let c0_33 : Index := 0#32
  let c0_34 : Index := 0#32
  ![v40.toNat, 0, 0]
@[reducible] def k0_t6_loop : Scf.Loop 32 :=
  let c0_i32_35 : BitVec 32 := 0#32
  let c8_i32 : BitVec 32 := 8#32
  let v51 : BitVec 32 := Scalar.addi c0_i32_35 c8_i32
  let c1_i32_36 : BitVec 32 := 1#32
  ⟨c0_i32_35, v51, c1_i32_36⟩
def k0_mult6 (k0_t6 : Fin k0_t6_loop.trips) : BitVec 32 :=
  let c0_i32_35 : BitVec 32 := 0#32
  let c1_i32_36 : BitVec 32 := 1#32
  let arg27 : BitVec 32 := Scf.iv c0_i32_35 c1_i32_36 k0_t6
  let c2_i32 : BitVec 32 := 2#32
  let v95 : BitVec 32 := Scalar.muli arg27 c2_i32
  let c8_i32_75 : BitVec 32 := 8#32
  let v96 : BitVec 32 := Scalar.muli v95 c8_i32_75
  v96
def k0_off54 (k0_t6 : Fin k0_t6_loop.trips) : Fin 2 → Nat :=
  let c0_i32_35 : BitVec 32 := 0#32
  let c1_i32_36 : BitVec 32 := 1#32
  let arg27 : BitVec 32 := Scf.iv c0_i32_35 c1_i32_36 k0_t6
  let c2_i32 : BitVec 32 := 2#32
  let v95 : BitVec 32 := Scalar.muli arg27 c2_i32
  let c8_i32_75 : BitVec 32 := 8#32
  let v96 : BitVec 32 := Scalar.muli v95 c8_i32_75
  let v97 : BitVec 32 := v96
  let v108 : Index := Scalar.indexCast v97
  let c0_82 : Index := 0#32
  ![v108.toNat, 0]
def k0_off55 (k0_t6 : Fin k0_t6_loop.trips) : Fin 2 → Nat :=
  let c0_i32_35 : BitVec 32 := 0#32
  let c1_i32_36 : BitVec 32 := 1#32
  let arg27 : BitVec 32 := Scf.iv c0_i32_35 c1_i32_36 k0_t6
  let c2_i32 : BitVec 32 := 2#32
  let v95 : BitVec 32 := Scalar.muli arg27 c2_i32
  let c8_i32_75 : BitVec 32 := 8#32
  let v96 : BitVec 32 := Scalar.muli v95 c8_i32_75
  let v97 : BitVec 32 := v96
  let v111 : Index := Scalar.indexCast v97
  let c1024 : Index := 1024#32
  ![v111.toNat, 1024]
def k0_off56 (k0_t6 : Fin k0_t6_loop.trips) : Fin 2 → Nat :=
  let c0_i32_35 : BitVec 32 := 0#32
  let c1_i32_36 : BitVec 32 := 1#32
  let arg27 : BitVec 32 := Scf.iv c0_i32_35 c1_i32_36 k0_t6
  let c2_i32 : BitVec 32 := 2#32
  let v95 : BitVec 32 := Scalar.muli arg27 c2_i32
  let c8_i32_75 : BitVec 32 := 8#32
  let v96 : BitVec 32 := Scalar.muli v95 c8_i32_75
  let v97 : BitVec 32 := v96
  let v124 : Index := Scalar.indexCast v97
  let c256_88 : Index := 256#32
  ![v124.toNat, 256]
def k0_off57 (k0_t6 : Fin k0_t6_loop.trips) : Fin 2 → Nat :=
  let c0_i32_35 : BitVec 32 := 0#32
  let c1_i32_36 : BitVec 32 := 1#32
  let arg27 : BitVec 32 := Scf.iv c0_i32_35 c1_i32_36 k0_t6
  let c2_i32 : BitVec 32 := 2#32
  let v95 : BitVec 32 := Scalar.muli arg27 c2_i32
  let c8_i32_75 : BitVec 32 := 8#32
  let v96 : BitVec 32 := Scalar.muli v95 c8_i32_75
  let v97 : BitVec 32 := v96
  let v127 : Index := Scalar.indexCast v97
  let c1280 : Index := 1280#32
  ![v127.toNat, 1280]
def k0_off58 (k0_t6 : Fin k0_t6_loop.trips) : Fin 2 → Nat :=
  let c0_i32_35 : BitVec 32 := 0#32
  let c1_i32_36 : BitVec 32 := 1#32
  let arg27 : BitVec 32 := Scf.iv c0_i32_35 c1_i32_36 k0_t6
  let c2_i32 : BitVec 32 := 2#32
  let v95 : BitVec 32 := Scalar.muli arg27 c2_i32
  let c8_i32_75 : BitVec 32 := 8#32
  let v96 : BitVec 32 := Scalar.muli v95 c8_i32_75
  let v97 : BitVec 32 := v96
  let v140 : Index := Scalar.indexCast v97
  let c512_94 : Index := 512#32
  ![v140.toNat, 512]
def k0_off59 (k0_t6 : Fin k0_t6_loop.trips) : Fin 2 → Nat :=
  let c0_i32_35 : BitVec 32 := 0#32
  let c1_i32_36 : BitVec 32 := 1#32
  let arg27 : BitVec 32 := Scf.iv c0_i32_35 c1_i32_36 k0_t6
  let c2_i32 : BitVec 32 := 2#32
  let v95 : BitVec 32 := Scalar.muli arg27 c2_i32
  let c8_i32_75 : BitVec 32 := 8#32
  let v96 : BitVec 32 := Scalar.muli v95 c8_i32_75
  let v97 : BitVec 32 := v96
  let v143 : Index := Scalar.indexCast v97
  let c1536 : Index := 1536#32
  ![v143.toNat, 1536]
def k0_off60 (k0_t6 : Fin k0_t6_loop.trips) : Fin 2 → Nat :=
  let c0_i32_35 : BitVec 32 := 0#32
  let c1_i32_36 : BitVec 32 := 1#32
  let arg27 : BitVec 32 := Scf.iv c0_i32_35 c1_i32_36 k0_t6
  let c2_i32 : BitVec 32 := 2#32
  let v95 : BitVec 32 := Scalar.muli arg27 c2_i32
  let c8_i32_75 : BitVec 32 := 8#32
  let v96 : BitVec 32 := Scalar.muli v95 c8_i32_75
  let v97 : BitVec 32 := v96
  let v156 : Index := Scalar.indexCast v97
  let c768_100 : Index := 768#32
  ![v156.toNat, 768]
def k0_off61 (k0_t6 : Fin k0_t6_loop.trips) : Fin 2 → Nat :=
  let c0_i32_35 : BitVec 32 := 0#32
  let c1_i32_36 : BitVec 32 := 1#32
  let arg27 : BitVec 32 := Scf.iv c0_i32_35 c1_i32_36 k0_t6
  let c2_i32 : BitVec 32 := 2#32
  let v95 : BitVec 32 := Scalar.muli arg27 c2_i32
  let c8_i32_75 : BitVec 32 := 8#32
  let v96 : BitVec 32 := Scalar.muli v95 c8_i32_75
  let v97 : BitVec 32 := v96
  let v159 : Index := Scalar.indexCast v97
  let c1792 : Index := 1792#32
  ![v159.toNat, 1792]
def k0_off62 (k0_t6 : Fin k0_t6_loop.trips) : Fin 2 → Nat :=
  let c0_i32_35 : BitVec 32 := 0#32
  let c1_i32_36 : BitVec 32 := 1#32
  let arg27 : BitVec 32 := Scf.iv c0_i32_35 c1_i32_36 k0_t6
  let c2_i32 : BitVec 32 := 2#32
  let v95 : BitVec 32 := Scalar.muli arg27 c2_i32
  let c8_i32_75 : BitVec 32 := 8#32
  let v96 : BitVec 32 := Scalar.muli v95 c8_i32_75
  let v97 : BitVec 32 := v96
  let c8_i32_101 : BitVec 32 := 8#32
  let v162 : BitVec 32 := Scalar.addi v97 c8_i32_101
  let v173 : Index := Scalar.indexCast v162
  let c0_108 : Index := 0#32
  ![v173.toNat, 0]
def k0_off63 (k0_t6 : Fin k0_t6_loop.trips) : Fin 2 → Nat :=
  let c0_i32_35 : BitVec 32 := 0#32
  let c1_i32_36 : BitVec 32 := 1#32
  let arg27 : BitVec 32 := Scf.iv c0_i32_35 c1_i32_36 k0_t6
  let c2_i32 : BitVec 32 := 2#32
  let v95 : BitVec 32 := Scalar.muli arg27 c2_i32
  let c8_i32_75 : BitVec 32 := 8#32
  let v96 : BitVec 32 := Scalar.muli v95 c8_i32_75
  let v97 : BitVec 32 := v96
  let c8_i32_101 : BitVec 32 := 8#32
  let v162 : BitVec 32 := Scalar.addi v97 c8_i32_101
  let v176 : Index := Scalar.indexCast v162
  let c1024_109 : Index := 1024#32
  ![v176.toNat, 1024]
def k0_off64 (k0_t6 : Fin k0_t6_loop.trips) : Fin 2 → Nat :=
  let c0_i32_35 : BitVec 32 := 0#32
  let c1_i32_36 : BitVec 32 := 1#32
  let arg27 : BitVec 32 := Scf.iv c0_i32_35 c1_i32_36 k0_t6
  let c2_i32 : BitVec 32 := 2#32
  let v95 : BitVec 32 := Scalar.muli arg27 c2_i32
  let c8_i32_75 : BitVec 32 := 8#32
  let v96 : BitVec 32 := Scalar.muli v95 c8_i32_75
  let v97 : BitVec 32 := v96
  let c8_i32_101 : BitVec 32 := 8#32
  let v162 : BitVec 32 := Scalar.addi v97 c8_i32_101
  let v189 : Index := Scalar.indexCast v162
  let c256_116 : Index := 256#32
  ![v189.toNat, 256]
def k0_off65 (k0_t6 : Fin k0_t6_loop.trips) : Fin 2 → Nat :=
  let c0_i32_35 : BitVec 32 := 0#32
  let c1_i32_36 : BitVec 32 := 1#32
  let arg27 : BitVec 32 := Scf.iv c0_i32_35 c1_i32_36 k0_t6
  let c2_i32 : BitVec 32 := 2#32
  let v95 : BitVec 32 := Scalar.muli arg27 c2_i32
  let c8_i32_75 : BitVec 32 := 8#32
  let v96 : BitVec 32 := Scalar.muli v95 c8_i32_75
  let v97 : BitVec 32 := v96
  let c8_i32_101 : BitVec 32 := 8#32
  let v162 : BitVec 32 := Scalar.addi v97 c8_i32_101
  let v192 : Index := Scalar.indexCast v162
  let c1280_117 : Index := 1280#32
  ![v192.toNat, 1280]
def k0_off66 (k0_t6 : Fin k0_t6_loop.trips) : Fin 2 → Nat :=
  let c0_i32_35 : BitVec 32 := 0#32
  let c1_i32_36 : BitVec 32 := 1#32
  let arg27 : BitVec 32 := Scf.iv c0_i32_35 c1_i32_36 k0_t6
  let c2_i32 : BitVec 32 := 2#32
  let v95 : BitVec 32 := Scalar.muli arg27 c2_i32
  let c8_i32_75 : BitVec 32 := 8#32
  let v96 : BitVec 32 := Scalar.muli v95 c8_i32_75
  let v97 : BitVec 32 := v96
  let c8_i32_101 : BitVec 32 := 8#32
  let v162 : BitVec 32 := Scalar.addi v97 c8_i32_101
  let v205 : Index := Scalar.indexCast v162
  let c512_124 : Index := 512#32
  ![v205.toNat, 512]
def k0_off67 (k0_t6 : Fin k0_t6_loop.trips) : Fin 2 → Nat :=
  let c0_i32_35 : BitVec 32 := 0#32
  let c1_i32_36 : BitVec 32 := 1#32
  let arg27 : BitVec 32 := Scf.iv c0_i32_35 c1_i32_36 k0_t6
  let c2_i32 : BitVec 32 := 2#32
  let v95 : BitVec 32 := Scalar.muli arg27 c2_i32
  let c8_i32_75 : BitVec 32 := 8#32
  let v96 : BitVec 32 := Scalar.muli v95 c8_i32_75
  let v97 : BitVec 32 := v96
  let c8_i32_101 : BitVec 32 := 8#32
  let v162 : BitVec 32 := Scalar.addi v97 c8_i32_101
  let v208 : Index := Scalar.indexCast v162
  let c1536_125 : Index := 1536#32
  ![v208.toNat, 1536]
def k0_off68 (k0_t6 : Fin k0_t6_loop.trips) : Fin 2 → Nat :=
  let c0_i32_35 : BitVec 32 := 0#32
  let c1_i32_36 : BitVec 32 := 1#32
  let arg27 : BitVec 32 := Scf.iv c0_i32_35 c1_i32_36 k0_t6
  let c2_i32 : BitVec 32 := 2#32
  let v95 : BitVec 32 := Scalar.muli arg27 c2_i32
  let c8_i32_75 : BitVec 32 := 8#32
  let v96 : BitVec 32 := Scalar.muli v95 c8_i32_75
  let v97 : BitVec 32 := v96
  let c8_i32_101 : BitVec 32 := 8#32
  let v162 : BitVec 32 := Scalar.addi v97 c8_i32_101
  let v221 : Index := Scalar.indexCast v162
  let c768_132 : Index := 768#32
  ![v221.toNat, 768]
def k0_off69 (k0_t6 : Fin k0_t6_loop.trips) : Fin 2 → Nat :=
  let c0_i32_35 : BitVec 32 := 0#32
  let c1_i32_36 : BitVec 32 := 1#32
  let arg27 : BitVec 32 := Scf.iv c0_i32_35 c1_i32_36 k0_t6
  let c2_i32 : BitVec 32 := 2#32
  let v95 : BitVec 32 := Scalar.muli arg27 c2_i32
  let c8_i32_75 : BitVec 32 := 8#32
  let v96 : BitVec 32 := Scalar.muli v95 c8_i32_75
  let v97 : BitVec 32 := v96
  let c8_i32_101 : BitVec 32 := 8#32
  let v162 : BitVec 32 := Scalar.addi v97 c8_i32_101
  let v224 : Index := Scalar.indexCast v162
  let c1792_133 : Index := 1792#32
  ![v224.toNat, 1792]
def k0_off70 (k0_t6 : Fin k0_t6_loop.trips) : Fin 2 → Nat :=
  let c0_i32_35 : BitVec 32 := 0#32
  let c1_i32_36 : BitVec 32 := 1#32
  let arg27 : BitVec 32 := Scf.iv c0_i32_35 c1_i32_36 k0_t6
  let c2_i32 : BitVec 32 := 2#32
  let v95 : BitVec 32 := Scalar.muli arg27 c2_i32
  let c8_i32_75 : BitVec 32 := 8#32
  let v96 : BitVec 32 := Scalar.muli v95 c8_i32_75
  let v97 : BitVec 32 := v96
  let v229 : Index := Scalar.indexCast v97
  let c0_134 : Index := 0#32
  ![v229.toNat, 0]
def k0_off71 (k0_t6 : Fin k0_t6_loop.trips) : Fin 2 → Nat :=
  let c0_i32_35 : BitVec 32 := 0#32
  let c1_i32_36 : BitVec 32 := 1#32
  let arg27 : BitVec 32 := Scf.iv c0_i32_35 c1_i32_36 k0_t6
  let c2_i32 : BitVec 32 := 2#32
  let v95 : BitVec 32 := Scalar.muli arg27 c2_i32
  let c8_i32_75 : BitVec 32 := 8#32
  let v96 : BitVec 32 := Scalar.muli v95 c8_i32_75
  let v97 : BitVec 32 := v96
  let v235 : Index := Scalar.indexCast v97
  let c1024_135 : Index := 1024#32
  ![v235.toNat, 1024]
def k0_off72 (k0_t6 : Fin k0_t6_loop.trips) : Fin 2 → Nat :=
  let c0_i32_35 : BitVec 32 := 0#32
  let c1_i32_36 : BitVec 32 := 1#32
  let arg27 : BitVec 32 := Scf.iv c0_i32_35 c1_i32_36 k0_t6
  let c2_i32 : BitVec 32 := 2#32
  let v95 : BitVec 32 := Scalar.muli arg27 c2_i32
  let c8_i32_75 : BitVec 32 := 8#32
  let v96 : BitVec 32 := Scalar.muli v95 c8_i32_75
  let v97 : BitVec 32 := v96
  let v241 : Index := Scalar.indexCast v97
  let c256_136 : Index := 256#32
  ![v241.toNat, 256]
def k0_off73 (k0_t6 : Fin k0_t6_loop.trips) : Fin 2 → Nat :=
  let c0_i32_35 : BitVec 32 := 0#32
  let c1_i32_36 : BitVec 32 := 1#32
  let arg27 : BitVec 32 := Scf.iv c0_i32_35 c1_i32_36 k0_t6
  let c2_i32 : BitVec 32 := 2#32
  let v95 : BitVec 32 := Scalar.muli arg27 c2_i32
  let c8_i32_75 : BitVec 32 := 8#32
  let v96 : BitVec 32 := Scalar.muli v95 c8_i32_75
  let v97 : BitVec 32 := v96
  let v247 : Index := Scalar.indexCast v97
  let c1280_137 : Index := 1280#32
  ![v247.toNat, 1280]
def k0_off74 (k0_t6 : Fin k0_t6_loop.trips) : Fin 2 → Nat :=
  let c0_i32_35 : BitVec 32 := 0#32
  let c1_i32_36 : BitVec 32 := 1#32
  let arg27 : BitVec 32 := Scf.iv c0_i32_35 c1_i32_36 k0_t6
  let c2_i32 : BitVec 32 := 2#32
  let v95 : BitVec 32 := Scalar.muli arg27 c2_i32
  let c8_i32_75 : BitVec 32 := 8#32
  let v96 : BitVec 32 := Scalar.muli v95 c8_i32_75
  let v97 : BitVec 32 := v96
  let v253 : Index := Scalar.indexCast v97
  let c512_138 : Index := 512#32
  ![v253.toNat, 512]
def k0_off75 (k0_t6 : Fin k0_t6_loop.trips) : Fin 2 → Nat :=
  let c0_i32_35 : BitVec 32 := 0#32
  let c1_i32_36 : BitVec 32 := 1#32
  let arg27 : BitVec 32 := Scf.iv c0_i32_35 c1_i32_36 k0_t6
  let c2_i32 : BitVec 32 := 2#32
  let v95 : BitVec 32 := Scalar.muli arg27 c2_i32
  let c8_i32_75 : BitVec 32 := 8#32
  let v96 : BitVec 32 := Scalar.muli v95 c8_i32_75
  let v97 : BitVec 32 := v96
  let v259 : Index := Scalar.indexCast v97
  let c1536_139 : Index := 1536#32
  ![v259.toNat, 1536]
def k0_off76 (k0_t6 : Fin k0_t6_loop.trips) : Fin 2 → Nat :=
  let c0_i32_35 : BitVec 32 := 0#32
  let c1_i32_36 : BitVec 32 := 1#32
  let arg27 : BitVec 32 := Scf.iv c0_i32_35 c1_i32_36 k0_t6
  let c2_i32 : BitVec 32 := 2#32
  let v95 : BitVec 32 := Scalar.muli arg27 c2_i32
  let c8_i32_75 : BitVec 32 := 8#32
  let v96 : BitVec 32 := Scalar.muli v95 c8_i32_75
  let v97 : BitVec 32 := v96
  let v265 : Index := Scalar.indexCast v97
  let c768_140 : Index := 768#32
  ![v265.toNat, 768]
def k0_off77 (k0_t6 : Fin k0_t6_loop.trips) : Fin 2 → Nat :=
  let c0_i32_35 : BitVec 32 := 0#32
  let c1_i32_36 : BitVec 32 := 1#32
  let arg27 : BitVec 32 := Scf.iv c0_i32_35 c1_i32_36 k0_t6
  let c2_i32 : BitVec 32 := 2#32
  let v95 : BitVec 32 := Scalar.muli arg27 c2_i32
  let c8_i32_75 : BitVec 32 := 8#32
  let v96 : BitVec 32 := Scalar.muli v95 c8_i32_75
  let v97 : BitVec 32 := v96
  let v271 : Index := Scalar.indexCast v97
  let c1792_141 : Index := 1792#32
  ![v271.toNat, 1792]
@[reducible] def k0_t7_loop : Scf.Loop 32 :=
  let c0_i32_70 : BitVec 32 := 0#32
  let c16_i32_71 : BitVec 32 := 16#32
  let v91 : BitVec 32 := Scalar.addi c0_i32_70 c16_i32_71
  let c1_i32_72 : BitVec 32 := 1#32
  ⟨c0_i32_70, v91, c1_i32_72⟩
def k0_mult7 (k0_t7 : Fin k0_t7_loop.trips) : BitVec 32 :=
  let c0_i32_70 : BitVec 32 := 0#32
  let c1_i32_72 : BitVec 32 := 1#32
  let arg27 : BitVec 32 := Scf.iv c0_i32_70 c1_i32_72 k0_t7
  let c8_i32_75 : BitVec 32 := 8#32
  let v95 : BitVec 32 := Scalar.muli arg27 c8_i32_75
  v95
def k0_off78 (k0_t7 : Fin k0_t7_loop.trips) : Fin 2 → Nat :=
  let c0_i32_70 : BitVec 32 := 0#32
  let c1_i32_72 : BitVec 32 := 1#32
  let arg27 : BitVec 32 := Scf.iv c0_i32_70 c1_i32_72 k0_t7
  let c8_i32_75 : BitVec 32 := 8#32
  let v95 : BitVec 32 := Scalar.muli arg27 c8_i32_75
  let v96 : BitVec 32 := v95
  let v97 : Index := Scalar.indexCast v96
  let c0_76 : Index := 0#32
  ![v97.toNat, 0]
def k0_off79 (i : grid0.Coords) (k0_t7 : Fin k0_t7_loop.trips) : Fin 3 → Nat :=
  let c2_i32 : BitVec 32 := 2#32
  let arg1 : BitVec 32 := BitVec.ofNat 32 (i 1).val
  let v99 : BitVec 32 := Scalar.muli c2_i32 arg1
  let v100 : Index := Scalar.indexCast v99
  let c0_i32_70 : BitVec 32 := 0#32
  let c1_i32_72 : BitVec 32 := 1#32
  let arg27 : BitVec 32 := Scf.iv c0_i32_70 c1_i32_72 k0_t7
  let v101 : Index := Scalar.indexCast arg27
  let c0_77 : Index := 0#32
  ![v100.toNat, v101.toNat, 0]
def k0_off80 (k0_t7 : Fin k0_t7_loop.trips) : Fin 2 → Nat :=
  let c0_i32_70 : BitVec 32 := 0#32
  let c1_i32_72 : BitVec 32 := 1#32
  let arg27 : BitVec 32 := Scf.iv c0_i32_70 c1_i32_72 k0_t7
  let c8_i32_75 : BitVec 32 := 8#32
  let v95 : BitVec 32 := Scalar.muli arg27 c8_i32_75
  let v96 : BitVec 32 := v95
  let v105 : Index := Scalar.indexCast v96
  let c128 : Index := 128#32
  ![v105.toNat, 128]
def k0_off81 (i : grid0.Coords) (k0_t7 : Fin k0_t7_loop.trips) : Fin 3 → Nat :=
  let c2_i32_78 : BitVec 32 := 2#32
  let arg1 : BitVec 32 := BitVec.ofNat 32 (i 1).val
  let v107 : BitVec 32 := Scalar.muli c2_i32_78 arg1
  let c1_i32_79 : BitVec 32 := 1#32
  let v108 : BitVec 32 := Scalar.addi v107 c1_i32_79
  let v109 : Index := Scalar.indexCast v108
  let c0_i32_70 : BitVec 32 := 0#32
  let c1_i32_72 : BitVec 32 := 1#32
  let arg27 : BitVec 32 := Scf.iv c0_i32_70 c1_i32_72 k0_t7
  let v110 : Index := Scalar.indexCast arg27
  let c0_80 : Index := 0#32
  ![v109.toNat, v110.toNat, 0]
def k0_cond3 (i : grid0.Coords) : BitVec 1 :=
  let arg1 : BitVec 32 := BitVec.ofNat 32 (i 1).val
  let c7_i32 : BitVec 32 := 7#32
  let v528 : BitVec 1 := Scalar.cmpi .eq arg1 c7_i32
  let v529 : BitVec 32 := Scalar.extui v528
  let c0_i32_196 : BitVec 32 := 0#32
  let v530 : BitVec 1 := Scalar.cmpi .ne v529 c0_i32_196
  v530

def k0_cond5 (i : grid0.Coords) : BitVec 1 :=
  let arg1 : BitVec 32 := BitVec.ofNat 32 (i 1).val
  let c7_i32 : BitVec 32 := 7#32
  let v92 : BitVec 1 := Scalar.cmpi .eq arg1 c7_i32
  let v93 : BitVec 32 := Scalar.extui v92
  let c0_i32_74 : BitVec 32 := 0#32
  let v94 : BitVec 1 := Scalar.cmpi .ne v93 c0_i32_74
  v94

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  ![arg0.toNat, v1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  let c0_i32_1 : BitVec 32 := 0#32
  ![c0_i32.toNat, c0_i32_0.toNat, v2.toNat]

def cc0_transform_14 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c79_i32 : BitVec 32 := 79#32
  let v2 : BitVec 32 := Scalar.minsi v1 c79_i32
  let c1_i32 : BitVec 32 := 1#32
  let c0_i32 : BitVec 32 := 0#32
  let c0_i32_0 : BitVec 32 := 0#32
  ![c1_i32.toNat, c0_i32.toNat, v2.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  let c0_i32_1 : BitVec 32 := 0#32
  ![c0_i32.toNat, c0_i32_0.toNat, v2.toNat]

def cc0_transform_19 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c79_i32 : BitVec 32 := 79#32
  let v2 : BitVec 32 := Scalar.minsi v1 c79_i32
  let c0_i32 : BitVec 32 := 0#32
  let c0_i32_0 : BitVec 32 := 0#32
  let c0_i32_1 : BitVec 32 := 0#32
  ![c0_i32.toNat, c0_i32_0.toNat, v2.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1x8x1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S8x8x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x2048x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x4096x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x4096x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 1 → Memref sig .tc .vmem S1x8x1x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S8x8x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x4096x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x4096x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Reference5Ideal.lean ====
abbrev S8320x10240 : Shape := ⟨2, ![8320, 10240]⟩
abbrev S4x8x256x2048 : Shape := ⟨4, ![4, 8, 256, 2048]⟩
abbrev S4x8x2048x256 : Shape := ⟨4, ![4, 8, 2048, 256]⟩
abbrev S4x1x8192 : Shape := ⟨3, ![4, 1, 8192]⟩
abbrev S4x8x8192 : Shape := ⟨3, ![4, 8, 8192]⟩
abbrev S4x8x1x256 : Shape := ⟨4, ![4, 8, 1, 256]⟩
abbrev S8x8x2048 : Shape := ⟨3, ![8, 8, 2048]⟩
abbrev S4x2048x2048 : Shape := ⟨3, ![4, 2048, 2048]⟩
abbrev S2048 : Shape := ⟨1, ![2048]⟩
abbrev S4x4096x4096 : Shape := ⟨3, ![4, 4096, 4096]⟩
abbrev S4x4096x10240 : Shape := ⟨3, ![4, 4096, 10240]⟩
abbrev S128x2048 : Shape := ⟨2, ![128, 2048]⟩
abbrev S8x16x8x256 : Shape := ⟨4, ![8, 16, 8, 256]⟩
abbrev S1x8x256x2048 : Shape := ⟨4, ![1, 8, 256, 2048]⟩
abbrev S8x256x2048 : Shape := ⟨3, ![8, 256, 2048]⟩
abbrev S8x2048x8x16 : Shape := ⟨4, ![8, 2048, 8, 16]⟩
abbrev S8x16x8x2048 : Shape := ⟨4, ![8, 16, 8, 2048]⟩
abbrev S1x1x8192 : Shape := ⟨3, ![1, 1, 8192]⟩
abbrev S1x8192 : Shape := ⟨2, ![1, 8192]⟩
abbrev S8x1x1024 : Shape := ⟨3, ![8, 1, 1024]⟩
abbrev S8x8x1024 : Shape := ⟨3, ![8, 8, 1024]⟩
abbrev S8x1x8x1024 : Shape := ⟨4, ![8, 1, 8, 1024]⟩

abbrev nBuf : Space → Nat
  | .hbm => 285
  | .vmem => 0
  | .smem => 0
  | _ => 0

abbrev hbmTy0_0 (i : Nat) : BufTy := match i % 128 with
  | 0 => ⟨S8320x10240, .f32⟩
  | 1 => ⟨S4x8x256x2048, .bf16⟩
  | 2 => ⟨S4x8x2048x256, .bf16⟩
  | 3 => ⟨S4x1x8192, .f32⟩
  | 4 => ⟨S4x1x8192, .f32⟩
  | 5 => ⟨S4x8x8192, .f32⟩
  | 6 => ⟨S4x8x8192, .f32⟩
  | 7 => ⟨S4x8x1x256, .f32⟩
  | 8 => ⟨S8x8x2048, .f32⟩
  | 9 => ⟨S4x2048x2048, .bf16⟩
  | 10 => ⟨S2048, .f32⟩
  | 11 => ⟨S4x4096x4096, .f32⟩
  | 12 => ⟨S4x4096x10240, .f32⟩
  | 13 => ⟨S128x2048, .f32⟩
  | 14 => ⟨S8x16x8x256, .f32⟩
  | 15 => ⟨S1x8x256x2048, .bf16⟩
  | 16 => ⟨S8x256x2048, .bf16⟩
  | 17 => ⟨S8x256x2048, .f32⟩
  | 18 => ⟨S8x2048x8x16, .f32⟩
  | 19 => ⟨S8x16x8x2048, .f32⟩
  | 20 => ⟨S1x1x8192, .f32⟩
  | 21 => ⟨S1x8192, .f32⟩
  | 22 => ⟨S8x1x1024, .f32⟩
  | 23 => ⟨S1x1x8192, .f32⟩
  | 24 => ⟨S1x8192, .f32⟩
  | 25 => ⟨S8x1x1024, .f32⟩
  | 26 => ⟨S8x8x1024, .f32⟩
  | 27 => ⟨S8x8x1024, .f32⟩
  | 28 => ⟨S8x8x1024, .f32⟩
  | 29 => ⟨S8x8x1024, .f32⟩
  | 30 => ⟨S8x8x1024, .f32⟩
  | 31 => ⟨S8x8x1024, .f32⟩
  | 32 => ⟨S8x8x1024, .f32⟩
  | 33 => ⟨S8x1x8x1024, .f32⟩
  | 34 => ⟨S8x8x1024, .f32⟩
  | 35 => ⟨S8x8x1024, .f32⟩
  | 36 => ⟨S8x8x1024, .f32⟩
  | 37 => ⟨S8x8x1024, .f32⟩
  | 38 => ⟨S8x8x1024, .f32⟩
  | 39 => ⟨S8x8x1024, .f32⟩
  | 40 => ⟨S8x8x1024, .f32⟩
  | 41 => ⟨S8x1x8x1024, .f32⟩
  | 42 => ⟨S8x8x1024, .f32⟩
  | 43 => ⟨S8x8x1024, .f32⟩
  | 44 => ⟨S8x8x1024, .f32⟩
  | 45 => ⟨S8x8x1024, .f32⟩
  | 46 => ⟨S8x8x1024, .f32⟩
  | 47 => ⟨S8x8x1024, .f32⟩
  | 48 => ⟨S8x8x1024, .f32⟩
  | 49 => ⟨S8x1x8x1024, .f32⟩
  | 50 => ⟨S8x8x1024, .f32⟩
  | 51 => ⟨S8x8x1024, .f32⟩
  | 52 => ⟨S8x8x1024, .f32⟩
  | 53 => ⟨S8x8x1024, .f32⟩
  | 54 => ⟨S8x8x1024, .f32⟩
  | 55 => ⟨S8x8x1024, .f32⟩
  | 56 => ⟨S8x8x1024, .f32⟩
  | 57 => ⟨S8x1x8x1024, .f32⟩
  | 58 => ⟨S8x8x1024, .f32⟩
  | 59 => ⟨S8x8x1024, .f32⟩
  | 60 => ⟨S8x8x1024, .f32⟩
  | 61 => ⟨S8x8x1024, .f32⟩
  | 62 => ⟨S8x8x1024, .f32⟩
  | 63 => ⟨S8x8x1024, .f32⟩
  | 64 => ⟨S8x8x1024, .f32⟩
  | 65 => ⟨S8x1x8x1024, .f32⟩
  | 66 => ⟨S8x8x1024, .f32⟩
  | 67 => ⟨S8x8x1024, .f32⟩
  | 68 => ⟨S8x8x1024, .f32⟩
  | 69 => ⟨S8x8x1024, .f32⟩
  | 70 => ⟨S8x8x1024, .f32⟩
  | 71 => ⟨S8x8x1024, .f32⟩
  | 72 => ⟨S8x8x1024, .f32⟩
  | 73 => ⟨S8x1x8x1024, .f32⟩
  | 74 => ⟨S8x8x1024, .f32⟩
  | 75 => ⟨S8x8x1024, .f32⟩
  | 76 => ⟨S8x8x1024, .f32⟩
  | 77 => ⟨S8x8x1024, .f32⟩
  | 78 => ⟨S8x8x1024, .f32⟩
  | 79 => ⟨S8x8x1024, .f32⟩
  | 80 => ⟨S8x8x1024, .f32⟩
  | 81 => ⟨S8x1x8x1024, .f32⟩
  | 82 => ⟨S8x8x1024, .f32⟩
  | 83 => ⟨S8x8x1024, .f32⟩
  | 84 => ⟨S8x8x1024, .f32⟩
  | 85 => ⟨S8x8x1024, .f32⟩
  | 86 => ⟨S8x8x1024, .f32⟩
  | 87 => ⟨S8x8x1024, .f32⟩
  | 88 => ⟨S8x8x1024, .f32⟩
  | 89 => ⟨S8x1x8x1024, .f32⟩
  | 90 => ⟨S8x8x1024, .f32⟩
  | 91 => ⟨S8x8x1024, .f32⟩
  | 92 => ⟨S8x8x1024, .f32⟩
  | 93 => ⟨S8x8x1024, .f32⟩
  | 94 => ⟨S8x8x1024, .f32⟩
  | 95 => ⟨S8x8x1024, .f32⟩
  | 96 => ⟨S8x8x1024, .f32⟩
  | 97 => ⟨S8x1x8x1024, .f32⟩
  | 98 => ⟨S8x8x1024, .f32⟩
  | 99 => ⟨S8x8x1024, .f32⟩
  | 100 => ⟨S8x8x1024, .f32⟩
  | 101 => ⟨S8x8x1024, .f32⟩
  | 102 => ⟨S8x8x1024, .f32⟩
  | 103 => ⟨S8x8x1024, .f32⟩
  | 104 => ⟨S8x8x1024, .f32⟩
  | 105 => ⟨S8x1x8x1024, .f32⟩
  | 106 => ⟨S8x8x1024, .f32⟩
  | 107 => ⟨S8x8x1024, .f32⟩
  | 108 => ⟨S8x8x1024, .f32⟩
  | 109 => ⟨S8x8x1024, .f32⟩
  | 110 => ⟨S8x8x1024, .f32⟩
  | 111 => ⟨S8x8x1024, .f32⟩
  | 112 => ⟨S8x8x1024, .f32⟩
  | 113 => ⟨S8x1x8x1024, .f32⟩
  | 114 => ⟨S8x8x1024, .f32⟩
  | 115 => ⟨S8x8x1024, .f32⟩
  | 116 => ⟨S8x8x1024, .f32⟩
  | 117 => ⟨S8x8x1024, .f32⟩
  | 118 => ⟨S8x8x1024, .f32⟩
  | 119 => ⟨S8x8x1024, .f32⟩
  | 120 => ⟨S8x8x1024, .f32⟩
  | 121 => ⟨S8x1x8x1024, .f32⟩
  | 122 => ⟨S8x8x1024, .f32⟩
  | 123 => ⟨S8x8x1024, .f32⟩
  | 124 => ⟨S8x8x1024, .f32⟩
  | 125 => ⟨S8x8x1024, .f32⟩
  | 126 => ⟨S8x8x1024, .f32⟩
  | 127 => ⟨S8x8x1024, .f32⟩
  | _ => ⟨S8320x10240, .f32⟩

abbrev hbmTy0_1 (i : Nat) : BufTy := match i % 128 with
  | 0 => ⟨S8x8x1024, .f32⟩
  | 1 => ⟨S8x1x8x1024, .f32⟩
  | 2 => ⟨S8x8x1024, .f32⟩
  | 3 => ⟨S8x8x1024, .f32⟩
  | 4 => ⟨S8x8x1024, .f32⟩
  | 5 => ⟨S8x8x1024, .f32⟩
  | 6 => ⟨S8x8x1024, .f32⟩
  | 7 => ⟨S8x8x1024, .f32⟩
  | 8 => ⟨S8x8x1024, .f32⟩
  | 9 => ⟨S8x1x8x1024, .f32⟩
  | 10 => ⟨S8x8x1024, .f32⟩
  | 11 => ⟨S8x8x1024, .f32⟩
  | 12 => ⟨S8x8x1024, .f32⟩
  | 13 => ⟨S8x8x1024, .f32⟩
  | 14 => ⟨S8x8x1024, .f32⟩
  | 15 => ⟨S8x8x1024, .f32⟩
  | 16 => ⟨S8x8x1024, .f32⟩
  | 17 => ⟨S8x1x8x1024, .f32⟩
  | 18 => ⟨S8x8x1024, .f32⟩
  | 19 => ⟨S8x8x1024, .f32⟩
  | 20 => ⟨S8x8x1024, .f32⟩
  | 21 => ⟨S8x8x1024, .f32⟩
  | 22 => ⟨S8x8x1024, .f32⟩
  | 23 => ⟨S8x8x1024, .f32⟩
  | 24 => ⟨S8x8x1024, .f32⟩
  | 25 => ⟨S8x1x8x1024, .f32⟩
  | 26 => ⟨S8x8x1024, .f32⟩
  | 27 => ⟨S8x8x1024, .f32⟩
  | 28 => ⟨S8x8x1024, .f32⟩
  | 29 => ⟨S8x8x1024, .f32⟩
  | 30 => ⟨S8x8x1024, .f32⟩
  | 31 => ⟨S8x8x1024, .f32⟩
  | 32 => ⟨S8x8x1024, .f32⟩
  | 33 => ⟨S8x1x8x1024, .f32⟩
  | 34 => ⟨S8x8x1024, .f32⟩
  | 35 => ⟨S8x8x1024, .f32⟩
  | 36 => ⟨S8x8x1024, .f32⟩
  | 37 => ⟨S8x8x1024, .f32⟩
  | 38 => ⟨S8x8x1024, .f32⟩
  | 39 => ⟨S8x8x1024, .f32⟩
  | 40 => ⟨S8x8x1024, .f32⟩
  | 41 => ⟨S8x1x8x1024, .f32⟩
  | 42 => ⟨S8x8x1024, .f32⟩
  | 43 => ⟨S8x8x1024, .f32⟩
  | 44 => ⟨S8x8x1024, .f32⟩
  | 45 => ⟨S8x8x1024, .f32⟩
  | 46 => ⟨S8x8x1024, .f32⟩
  | 47 => ⟨S8x8x1024, .f32⟩
  | 48 => ⟨S8x8x1024, .f32⟩
  | 49 => ⟨S8x1x8x1024, .f32⟩
  | 50 => ⟨S8x8x1024, .f32⟩
  | 51 => ⟨S8x8x1024, .f32⟩
  | 52 => ⟨S8x8x1024, .f32⟩
  | 53 => ⟨S8x8x1024, .f32⟩
  | 54 => ⟨S8x8x1024, .f32⟩
  | 55 => ⟨S8x8x1024, .f32⟩
  | 56 => ⟨S8x8x1024, .f32⟩
  | 57 => ⟨S8x1x8x1024, .f32⟩
  | 58 => ⟨S8x8x1024, .f32⟩
  | 59 => ⟨S8x8x1024, .f32⟩
  | 60 => ⟨S8x8x1024, .f32⟩
  | 61 => ⟨S8x8x1024, .f32⟩
  | 62 => ⟨S8x8x1024, .f32⟩
  | 63 => ⟨S8x8x1024, .f32⟩
  | 64 => ⟨S8x8x1024, .f32⟩
  | 65 => ⟨S8x1x8x1024, .f32⟩
  | 66 => ⟨S8x8x1024, .f32⟩
  | 67 => ⟨S8x8x1024, .f32⟩
  | 68 => ⟨S8x8x1024, .f32⟩
  | 69 => ⟨S8x8x1024, .f32⟩
  | 70 => ⟨S8x8x1024, .f32⟩
  | 71 => ⟨S8x8x1024, .f32⟩
  | 72 => ⟨S8x8x1024, .f32⟩
  | 73 => ⟨S8x1x8x1024, .f32⟩
  | 74 => ⟨S8x8x1024, .f32⟩
  | 75 => ⟨S8x8x1024, .f32⟩
  | 76 => ⟨S8x8x1024, .f32⟩
  | 77 => ⟨S8x8x1024, .f32⟩
  | 78 => ⟨S8x8x1024, .f32⟩
  | 79 => ⟨S8x8x1024, .f32⟩
  | 80 => ⟨S8x8x1024, .f32⟩
  | 81 => ⟨S8x1x8x1024, .f32⟩
  | 82 => ⟨S8x8x1024, .f32⟩
  | 83 => ⟨S8x8x1024, .f32⟩
  | 84 => ⟨S8x8x1024, .f32⟩
  | 85 => ⟨S8x8x1024, .f32⟩
  | 86 => ⟨S8x8x1024, .f32⟩
  | 87 => ⟨S8x8x1024, .f32⟩
  | 88 => ⟨S8x8x1024, .f32⟩
  | 89 => ⟨S8x1x8x1024, .f32⟩
  | 90 => ⟨S8x8x1024, .f32⟩
  | 91 => ⟨S8x8x1024, .f32⟩
  | 92 => ⟨S8x8x1024, .f32⟩
  | 93 => ⟨S8x8x1024, .f32⟩
  | 94 => ⟨S8x8x1024, .f32⟩
  | 95 => ⟨S8x8x1024, .f32⟩
  | 96 => ⟨S8x8x1024, .f32⟩
  | 97 => ⟨S8x1x8x1024, .f32⟩
  | 98 => ⟨S8x8x1024, .f32⟩
  | 99 => ⟨S8x8x1024, .f32⟩
  | 100 => ⟨S8x8x1024, .f32⟩
  | 101 => ⟨S8x8x1024, .f32⟩
  | 102 => ⟨S8x8x1024, .f32⟩
  | 103 => ⟨S8x8x1024, .f32⟩
  | 104 => ⟨S8x8x1024, .f32⟩
  | 105 => ⟨S8x1x8x1024, .f32⟩
  | 106 => ⟨S8x8x1024, .f32⟩
  | 107 => ⟨S8x8x1024, .f32⟩
  | 108 => ⟨S8x8x1024, .f32⟩
  | 109 => ⟨S8x8x1024, .f32⟩
  | 110 => ⟨S8x8x1024, .f32⟩
  | 111 => ⟨S8x8x1024, .f32⟩
  | 112 => ⟨S8x8x1024, .f32⟩
  | 113 => ⟨S8x1x8x1024, .f32⟩
  | 114 => ⟨S8x8x1024, .f32⟩
  | 115 => ⟨S8x8x1024, .f32⟩
  | 116 => ⟨S8x8x1024, .f32⟩
  | 117 => ⟨S8x8x1024, .f32⟩
  | 118 => ⟨S8x8x1024, .f32⟩
  | 119 => ⟨S8x8x1024, .f32⟩
  | 120 => ⟨S8x8x1024, .f32⟩
  | 121 => ⟨S8x1x8x1024, .f32⟩
  | 122 => ⟨S8x8x1024, .f32⟩
  | 123 => ⟨S8x8x1024, .f32⟩
  | 124 => ⟨S8x8x1024, .f32⟩
  | 125 => ⟨S8x8x1024, .f32⟩
  | 126 => ⟨S8x8x1024, .f32⟩
  | 127 => ⟨S8x8x1024, .f32⟩
  | _ => ⟨S8320x10240, .f32⟩

abbrev hbmTy0_2 (i : Nat) : BufTy := match i % 128 with
  | 0 => ⟨S8x8x1024, .f32⟩
  | 1 => ⟨S8x1x8x1024, .f32⟩
  | 2 => ⟨S8x8x1024, .f32⟩
  | 3 => ⟨S8x8x1024, .f32⟩
  | 4 => ⟨S8x8x1024, .f32⟩
  | 5 => ⟨S8x8x1024, .f32⟩
  | 6 => ⟨S8x8x1024, .f32⟩
  | 7 => ⟨S8x8x1024, .f32⟩
  | 8 => ⟨S8x8x1024, .f32⟩
  | 9 => ⟨S8x1x8x1024, .f32⟩
  | 10 => ⟨S8x8x1024, .f32⟩
  | 11 => ⟨S8x8x1024, .f32⟩
  | 12 => ⟨S8x8x1024, .f32⟩
  | 13 => ⟨S8x8x1024, .f32⟩
  | 14 => ⟨S8x8x1024, .f32⟩
  | 15 => ⟨S8x8x1024, .f32⟩
  | 16 => ⟨S8x8x1024, .f32⟩
  | 17 => ⟨S8x1x8x1024, .f32⟩
  | 18 => ⟨S8x8x1024, .f32⟩
  | 19 => ⟨S8x8x1024, .f32⟩
  | 20 => ⟨S8x8x1024, .f32⟩
  | 21 => ⟨S8x8x1024, .f32⟩
  | 22 => ⟨S8x8x1024, .f32⟩
  | 23 => ⟨S8x8x1024, .f32⟩
  | 24 => ⟨S8x8x1024, .f32⟩
  | 25 => ⟨S8x1x8x1024, .f32⟩
  | 26 => ⟨S8x8x1024, .f32⟩
  | 27 => ⟨S8x8x1024, .f32⟩
  | 28 => ⟨S8x8x2048, .f32⟩
  | _ => ⟨S8320x10240, .f32⟩

abbrev hbmTy (i : Nat) : BufTy := match i / 128 with
  | 0 => hbmTy0_0 i
  | 1 => hbmTy0_1 i
  | 2 => hbmTy0_2 i
  | _ => ⟨S8320x10240, .f32⟩

abbrev bufTy : (tb : Table) → Fin (tcTables nBuf tb) → BufTy
  | .hbm, ⟨i, _⟩ => hbmTy i
  | _, _ => ⟨S8320x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩
abbrev main_v160 : Ref sig .tc := ⟨.hbm, 173, rfl⟩
abbrev main_v161 : Ref sig .tc := ⟨.hbm, 174, rfl⟩
abbrev main_v162 : Ref sig .tc := ⟨.hbm, 175, rfl⟩
abbrev main_v163 : Ref sig .tc := ⟨.hbm, 176, rfl⟩
abbrev main_v164 : Ref sig .tc := ⟨.hbm, 177, rfl⟩
abbrev main_v165 : Ref sig .tc := ⟨.hbm, 178, rfl⟩
abbrev main_v166 : Ref sig .tc := ⟨.hbm, 179, rfl⟩
abbrev main_v167 : Ref sig .tc := ⟨.hbm, 180, rfl⟩
abbrev main_v168 : Ref sig .tc := ⟨.hbm, 181, rfl⟩
abbrev main_v169 : Ref sig .tc := ⟨.hbm, 182, rfl⟩
abbrev main_v170 : Ref sig .tc := ⟨.hbm, 183, rfl⟩
abbrev main_v171 : Ref sig .tc := ⟨.hbm, 184, rfl⟩
abbrev main_v172 : Ref sig .tc := ⟨.hbm, 185, rfl⟩
abbrev main_v173 : Ref sig .tc := ⟨.hbm, 186, rfl⟩
abbrev main_v174 : Ref sig .tc := ⟨.hbm, 187, rfl⟩
abbrev main_v175 : Ref sig .tc := ⟨.hbm, 188, rfl⟩
abbrev main_v176 : Ref sig .tc := ⟨.hbm, 189, rfl⟩
abbrev main_v177 : Ref sig .tc := ⟨.hbm, 190, rfl⟩
abbrev main_v178 : Ref sig .tc := ⟨.hbm, 191, rfl⟩
abbrev main_v179 : Ref sig .tc := ⟨.hbm, 192, rfl⟩
abbrev main_v180 : Ref sig .tc := ⟨.hbm, 193, rfl⟩
abbrev main_v181 : Ref sig .tc := ⟨.hbm, 194, rfl⟩
abbrev main_v182 : Ref sig .tc := ⟨.hbm, 195, rfl⟩
abbrev main_v183 : Ref sig .tc := ⟨.hbm, 196, rfl⟩
abbrev main_v184 : Ref sig .tc := ⟨.hbm, 197, rfl⟩
abbrev main_v185 : Ref sig .tc := ⟨.hbm, 198, rfl⟩
abbrev main_v186 : Ref sig .tc := ⟨.hbm, 199, rfl⟩
abbrev main_v187 : Ref sig .tc := ⟨.hbm, 200, rfl⟩
abbrev main_v188 : Ref sig .tc := ⟨.hbm, 201, rfl⟩
abbrev main_v189 : Ref sig .tc := ⟨.hbm, 202, rfl⟩
abbrev main_v190 : Ref sig .tc := ⟨.hbm, 203, rfl⟩
abbrev main_v191 : Ref sig .tc := ⟨.hbm, 204, rfl⟩
abbrev main_v192 : Ref sig .tc := ⟨.hbm, 205, rfl⟩
abbrev main_v193 : Ref sig .tc := ⟨.hbm, 206, rfl⟩
abbrev main_v194 : Ref sig .tc := ⟨.hbm, 207, rfl⟩
abbrev main_v195 : Ref sig .tc := ⟨.hbm, 208, rfl⟩
abbrev main_v196 : Ref sig .tc := ⟨.hbm, 209, rfl⟩
abbrev main_v197 : Ref sig .tc := ⟨.hbm, 210, rfl⟩
abbrev main_v198 : Ref sig .tc := ⟨.hbm, 211, rfl⟩
abbrev main_v199 : Ref sig .tc := ⟨.hbm, 212, rfl⟩
abbrev main_v200 : Ref sig .tc := ⟨.hbm, 213, rfl⟩
abbrev main_v201 : Ref sig .tc := ⟨.hbm, 214, rfl⟩
abbrev main_v202 : Ref sig .tc := ⟨.hbm, 215, rfl⟩
abbrev main_v203 : Ref sig .tc := ⟨.hbm, 216, rfl⟩
abbrev main_v204 : Ref sig .tc := ⟨.hbm, 217, rfl⟩
abbrev main_v205 : Ref sig .tc := ⟨.hbm, 218, rfl⟩
abbrev main_v206 : Ref sig .tc := ⟨.hbm, 219, rfl⟩
abbrev main_v207 : Ref sig .tc := ⟨.hbm, 220, rfl⟩
abbrev main_v208 : Ref sig .tc := ⟨.hbm, 221, rfl⟩
abbrev main_v209 : Ref sig .tc := ⟨.hbm, 222, rfl⟩
abbrev main_v210 : Ref sig .tc := ⟨.hbm, 223, rfl⟩
abbrev main_v211 : Ref sig .tc := ⟨.hbm, 224, rfl⟩
abbrev main_v212 : Ref sig .tc := ⟨.hbm, 225, rfl⟩
abbrev main_v213 : Ref sig .tc := ⟨.hbm, 226, rfl⟩
abbrev main_v214 : Ref sig .tc := ⟨.hbm, 227, rfl⟩
abbrev main_v215 : Ref sig .tc := ⟨.hbm, 228, rfl⟩
abbrev main_v216 : Ref sig .tc := ⟨.hbm, 229, rfl⟩
abbrev main_v217 : Ref sig .tc := ⟨.hbm, 230, rfl⟩
abbrev main_v218 : Ref sig .tc := ⟨.hbm, 231, rfl⟩
abbrev main_v219 : Ref sig .tc := ⟨.hbm, 232, rfl⟩
abbrev main_v220 : Ref sig .tc := ⟨.hbm, 233, rfl⟩
abbrev main_v221 : Ref sig .tc := ⟨.hbm, 234, rfl⟩
abbrev main_v222 : Ref sig .tc := ⟨.hbm, 235, rfl⟩
abbrev main_v223 : Ref sig .tc := ⟨.hbm, 236, rfl⟩
abbrev main_v224 : Ref sig .tc := ⟨.hbm, 237, rfl⟩
abbrev main_v225 : Ref sig .tc := ⟨.hbm, 238, rfl⟩
abbrev main_v226 : Ref sig .tc := ⟨.hbm, 239, rfl⟩
abbrev main_v227 : Ref sig .tc := ⟨.hbm, 240, rfl⟩
abbrev main_v228 : Ref sig .tc := ⟨.hbm, 241, rfl⟩
abbrev main_v229 : Ref sig .tc := ⟨.hbm, 242, rfl⟩
abbrev main_v230 : Ref sig .tc := ⟨.hbm, 243, rfl⟩
abbrev main_v231 : Ref sig .tc := ⟨.hbm, 244, rfl⟩
abbrev main_v232 : Ref sig .tc := ⟨.hbm, 245, rfl⟩
abbrev main_v233 : Ref sig .tc := ⟨.hbm, 246, rfl⟩
abbrev main_v234 : Ref sig .tc := ⟨.hbm, 247, rfl⟩
abbrev main_v235 : Ref sig .tc := ⟨.hbm, 248, rfl⟩
abbrev main_v236 : Ref sig .tc := ⟨.hbm, 249, rfl⟩
abbrev main_v237 : Ref sig .tc := ⟨.hbm, 250, rfl⟩
abbrev main_v238 : Ref sig .tc := ⟨.hbm, 251, rfl⟩
abbrev main_v239 : Ref sig .tc := ⟨.hbm, 252, rfl⟩
abbrev main_v240 : Ref sig .tc := ⟨.hbm, 253, rfl⟩
abbrev main_v241 : Ref sig .tc := ⟨.hbm, 254, rfl⟩
abbrev main_v242 : Ref sig .tc := ⟨.hbm, 255, rfl⟩
abbrev main_v243 : Ref sig .tc := ⟨.hbm, 256, rfl⟩
abbrev main_v244 : Ref sig .tc := ⟨.hbm, 257, rfl⟩
abbrev main_v245 : Ref sig .tc := ⟨.hbm, 258, rfl⟩
abbrev main_v246 : Ref sig .tc := ⟨.hbm, 259, rfl⟩
abbrev main_v247 : Ref sig .tc := ⟨.hbm, 260, rfl⟩
abbrev main_v248 : Ref sig .tc := ⟨.hbm, 261, rfl⟩
abbrev main_v249 : Ref sig .tc := ⟨.hbm, 262, rfl⟩
abbrev main_v250 : Ref sig .tc := ⟨.hbm, 263, rfl⟩
abbrev main_v251 : Ref sig .tc := ⟨.hbm, 264, rfl⟩
abbrev main_v252 : Ref sig .tc := ⟨.hbm, 265, rfl⟩
abbrev main_v253 : Ref sig .tc := ⟨.hbm, 266, rfl⟩
abbrev main_v254 : Ref sig .tc := ⟨.hbm, 267, rfl⟩
abbrev main_v255 : Ref sig .tc := ⟨.hbm, 268, rfl⟩
abbrev main_v256 : Ref sig .tc := ⟨.hbm, 269, rfl⟩
abbrev main_v257 : Ref sig .tc := ⟨.hbm, 270, rfl⟩
abbrev main_v258 : Ref sig .tc := ⟨.hbm, 271, rfl⟩
abbrev main_v259 : Ref sig .tc := ⟨.hbm, 272, rfl⟩
abbrev main_v260 : Ref sig .tc := ⟨.hbm, 273, rfl⟩
abbrev main_v261 : Ref sig .tc := ⟨.hbm, 274, rfl⟩
abbrev main_v262 : Ref sig .tc := ⟨.hbm, 275, rfl⟩
abbrev main_v263 : Ref sig .tc := ⟨.hbm, 276, rfl⟩
abbrev main_v264 : Ref sig .tc := ⟨.hbm, 277, rfl⟩
abbrev main_v265 : Ref sig .tc := ⟨.hbm, 278, rfl⟩
abbrev main_v266 : Ref sig .tc := ⟨.hbm, 279, rfl⟩
abbrev main_v267 : Ref sig .tc := ⟨.hbm, 280, rfl⟩
abbrev main_v268 : Ref sig .tc := ⟨.hbm, 281, rfl⟩
abbrev main_v269 : Ref sig .tc := ⟨.hbm, 282, rfl⟩
abbrev main_v270 : Ref sig .tc := ⟨.hbm, 283, rfl⟩
abbrev main_v271 : Ref sig .tc := ⟨.hbm, 284, rfl⟩

abbrev nD : Nat := 1
abbrev τ : Topo := Topo.v7x

variable {F : FTy → Type} [FloatOps F]
-- ==== Proof.Ffn.Plain.Frame.lean ====
/- The feed-forward call at machine values: it ends, with its arguments as they were. Nothing is said of the result here. -/
module

public import proofs.«01_k».proof.Proof.Ffn.Plain.Next
public import Idealize.ShloMosaic.Lib.Claim

@[expose] public section

set_option maxRecDepth 16384

noncomputable section

namespace Cert.Kernel.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first panel of a row block is at the points ≡ 0 (mod 43). -/
theorem hcond1 : ∀ t : Fin cfg0.N, k0_cond1 (grid0.coords t) = 1#1 ↔ t.val % 43 = 0 :=
  (fun t => by
    have ht : t.val < 559 := Nat.lt_of_lt_of_eq t.isLt N_0
    have e0 : (grid0.coords t 0).val = t.val / 43 % 13 := Pipeline.Grid.coords_val t 0 (by decide) rfl
    have e1 : (grid0.coords t 1).val = t.val / 1 % 43 := Pipeline.Grid.coords_val t 1 (by decide) rfl
    simp only [k0_cond1, e0, e1]
    word_cmp
   : ∀ t : Fin grid0.N, k0_cond1 (grid0.coords t) = 1#1 ↔ t.val % 43 = 0)

/-! Each window's staging buffer at a point, and the scratch. -/
abbrev ms0 (t : Fin cfg0.N) : Memref sig .tc .vmem S1x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x4096x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x4096x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256x4096 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x4096 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S640x4096 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S640x4096 .f32 := win0_6.stage (cfg0.slots t 6)
abbrev hs6 (t : Fin cfg0.N) : (ms6 t).IsWhole := hstage0_6 ((cfg0.slots t 6).cast nbuf0_6)
abbrev scr : Memref sig .tc .vmem S640x4096 .bf16 := Memref.whole cc0_scratch0

/-- The invariant of the region's entry and exit, with the scratch as a buffer owned at some contents. -/
theorem PhiA_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The proof data: the arrays as the region finds them; nothing is said of what the body leaves in a buffer. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

theorem A_eq (c : Dev nD) (w : Fin cfg0.W) : (rdat m c).A w = V m c (Pipeline.arrRef spec0 w) := by
  dsimp only [rdat]

set_option maxHeartbeats 3200000 in
/-- The body at any point, whatever its buffers hold. -/
theorem sound_body (c : Dev nD) (t : Fin cfg0.N) (Y0 : Vec F S1x4096 .f32) (Y1 : Vec F S1x4096x256 .bf16) (Y2 : Vec F S1x4096x256 .bf16) (Y3 : Vec F S1x256x4096 .bf16) (Y4 : Vec F S1x4096 .f32) (Y5 : Vec F S640x4096 .f32) (Y6 : Vec F S640x4096 .f32) :
    iprop((Pipeline.ΦA spec0 c : sProp 𝕄) ∗ (rdat m c).owesAt () t.castSucc
        ∗ owns (c : Thread nD τ) (ms0 t) fullShare Y0
        ∗ owns (c : Thread nD τ) (ms1 t) fullShare Y1
        ∗ owns (c : Thread nD τ) (ms2 t) fullShare Y2
        ∗ owns (c : Thread nD τ) (ms3 t) fullShare Y3
        ∗ owns (c : Thread nD τ) (ms4 t) fullShare Y4
        ∗ owns (c : Thread nD τ) (ms5 t) fullShare Y5
        ∗ owns (c : Thread nD τ) (ms6 t) fullShare Y6)
      ⊢ wp frame (wpE (defs₀ (F := F)) Variants.none c none) Set.univ (bodyAt0 t) (fun _ =>
        iprop((Pipeline.ΦA spec0 c : sProp 𝕄) ∗ (rdat m c).owesAt () t.succ
        ∗ (∃ X, ⌜True⌝ ∗ owns (c : Thread nD τ) (ms0 t) fullShare X)
        ∗ (∃ X, ⌜True⌝ ∗ owns (c : Thread nD τ) (ms1 t) fullShare X)
        ∗ (∃ X, ⌜True⌝ ∗ owns (c : Thread nD τ) (ms2 t) fullShare X)
        ∗ (∃ X, ⌜True⌝ ∗ owns (c : Thread nD τ) (ms3 t) fullShare X)
        ∗ (∃ X, ⌜True⌝ ∗ owns (c : Thread nD τ) (ms4 t) fullShare X)
        ∗ (∃ X, ⌜True⌝ ∗ owns (c : Thread nD τ) (ms5 t) fullShare X)
        ∗ (∃ X, ⌜True⌝ ∗ owns (c : Thread nD τ) (ms6 t) fullShare X))) := by
  rw [show (rdat m c).owesAt () t.succ = (rdat m c).owesAt () t.castSucc from rfl, PhiA_eq]
  unfold bodyAt0
  by_cases h0 : t.val % 43 = 0
  · iintro ⟨⟨⟨%sc, HS⟩, Hg⟩, Ho, H0, H1, H2, H3, H4, H5, H6⟩
    iapply ((runFirst c (grid0.coords t) (ms0 t) (hs0 t) (ms1 t) (hs1 t) (ms2 t) (hs2 t) (ms3 t) (hs3 t) (ms4 t) (hs4 t) (ms5 t) (hs5 t) (ms6 t) (hs6 t) scr (Memref.isWhole_whole _) ((hcond1 t).mpr h0) Y0 Y1 Y2 Y3 Y4 Y5 Y6 sc).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS Hg]
    · isplitl [HS]
      · iexists _; unfold owns; iexists _; isplitr
        swap; · iexact HS
        ipureintro; rfl
      iexact Hg
    isplitl [Ho]; · iexact Ho
    isplitl [H0]
    · iexists _; isplitr; · ipureintro; trivial
      iexact H0
    isplitl [H1]
    · iexists _; isplitr; · ipureintro; trivial
      iexact H1
    isplitl [H2]
    · iexists _; isplitr; · ipureintro; trivial
      iexact H2
    isplitl [H3]
    · iexists _; isplitr; · ipureintro; trivial
      iexact H3
    isplitl [H4]
    · iexists _; isplitr; · ipureintro; trivial
      iexact H4
    isplitl [H5]
    · iexists _; isplitr; · ipureintro; trivial
      iexact H5
    iexists _; isplitr; · ipureintro; trivial
    unfold owns; iexists _; isplitr
    swap; · iexact H6
    ipureintro; rfl
  · iintro ⟨⟨⟨%sc, HS⟩, Hg⟩, Ho, H0, H1, H2, H3, H4, H5, H6⟩
    iapply ((runNext c (grid0.coords t) (ms0 t) (hs0 t) (ms1 t) (hs1 t) (ms2 t) (hs2 t) (ms3 t) (hs3 t) (ms4 t) (hs4 t) (ms5 t) (hs5 t) (ms6 t) (hs6 t) scr (Memref.isWhole_whole _) (fun h => h0 ((hcond1 t).mp h)) Y0 Y1 Y2 Y3 Y4 Y5 Y6 sc).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS Hg]
    · isplitl [HS]
      · iexists _; iexact HS
      iexact Hg
    isplitl [Ho]; · iexact Ho
    isplitl [H0]
    · iexists _; isplitr; · ipureintro; trivial
      iexact H0
    isplitl [H1]
    · iexists _; isplitr; · ipureintro; trivial
      iexact H1
    isplitl [H2]
    · iexists _; isplitr; · ipureintro; trivial
      iexact H2
    isplitl [H3]
    · iexists _; isplitr; · ipureintro; trivial
      iexact H3
    isplitl [H4]
    · iexists _; isplitr; · ipureintro; trivial
      iexact H4
    isplitl [H5]
    · iexists _; isplitr; · ipureintro; trivial
      iexact H5
    iexists _; isplitr; · ipureintro; trivial
    unfold owns; iexists _; isplitr
    swap; · iexact H6
    ipureintro; rfl

/-- The library's body obligation. -/
theorem body_obligation (c : Dev nD) : (rdat (F := F) m c).BodyObligation (defs₀ (F := F)) Variants.none () Set.univ := fun t Y _ => by
  rw [bigSep_W0, bigSep_W0, defs₀_row]
  exact sound_body m c t (Y 0) (Y 1) (Y 2) (Y 3) (Y 4) (Y 5) (Y 6)

set_option backward.isDefEq.respectTransparency.types false in
/-- The run, its semaphores at zero at the end. -/
theorem run_main : θ_run defs (onTc (τ := τ) (main (F := F))) (s₀ m ρ) (fun r => RDat.FramePost cfg0 (rdat m) (V m) r ∧ r.2.sem = fun _ => 0) :=
  RDat.θ_run_frame (Q' := fun r => RDat.FramePost cfg0 (rdat m) (V m) r ∧ r.2.sem = fun _ => 0) cfgs (0 : Fin 1) launch0 defs₀ Variants.none (rdat m) m ρ main
    (hbody := fun c => body_obligation m c) (hshare := fun c w => by unfold RDat.share; split <;> rfl)
    (howed := fun _ _ => rfl) (V := V m) (hmain := hmain m Variants.none) (hA := A_eq m) (hΦ := fun _ _ => rfl)

/-- The frame: the arguments end as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(RDat.FramePost.arr_in h.1 c 5 rfl).trans ((A_eq m c 5).trans (V_main_arg0 m c)),
      ((h.1 c).2 main_arg1 (Pipeline.mem_restRefs_of main_arg1 (by decide) (by decide))).trans (V_main_arg1 m c),
      (RDat.FramePost.arr_in h.1 c 1 rfl).trans ((A_eq m c 1).trans (V_main_arg2 m c)),
      (RDat.FramePost.arr_in h.1 c 2 rfl).trans ((A_eq m c 2).trans (V_main_arg3 m c)),
      (RDat.FramePost.arr_in h.1 c 3 rfl).trans ((A_eq m c 3).trans (V_main_arg4 m c)),
      ((h.1 c).2 main_arg5 (Pipeline.mem_restRefs_of main_arg5 (by decide) (by decide))).trans (V_main_arg5 m c)⟩, h.2⟩) (run_main m ρ)

end Cert.Kernel.Ffn

end
-- ==== Proof.Common.Dot.lean ====
/- Facts about products of matrices and sums of extended reals that every call's value proof uses: a plain
   matrix product into a zero accumulator read at an index, and the read of a rank-three block with a leading
   axis of size one as a matrix. -/
module

public import Idealize.ShloMosaic.Lib.Pipeline.Value
public import Idealize.ShloMosaic.Lib.ValueIdx
public import Idealize.ShloMosaic.PureOps.Ideal.Laws

@[expose] public section

noncomputable section

namespace Cert.Common

open Idealize.ShloMosaic Idealize.ShloMosaic.ValueIdx

/-- Where a plain product (left axis 1 against right axis 0) reads its left operand. -/
theorem lhsIdx_plain {M K N : Nat} (D : DotDims ⟨2, ![M, K]⟩ ⟨2, ![K, N]⟩ ⟨2, ![M, N]⟩)
    (h1 : D.lhsContracting = [1]) (h3 : D.lhsNonContracting = [0])
    (h5 : D.lhsBatch = []) (j : (⟨2, ![M, N]⟩ : Shape).Idx) (q : D.contr.Idx) :
    (D.lhsIdx j q 0).val = (j 0).val := by
  cases D
  simp only at h1 h3 h5
  subst h1 h3 h5
  unfold DotDims.lhsIdx
  rw [dif_neg (by simp), dif_pos (by simp)]
  rfl

/-- Where it reads its right operand. -/
theorem rhsIdx_plain {M K N : Nat} (D : DotDims ⟨2, ![M, K]⟩ ⟨2, ![K, N]⟩ ⟨2, ![M, N]⟩)
    (h2 : D.rhsContracting = [0]) (h3 : D.lhsNonContracting = [0]) (h4 : D.rhsNonContracting = [1])
    (h5 : D.lhsBatch = []) (h6 : D.rhsBatch = [])
    (j : (⟨2, ![M, N]⟩ : Shape).Idx) (q : D.contr.Idx) :
    (D.rhsIdx j q 1).val = (j 1).val := by
  cases D
  simp only at h2 h3 h4 h5 h6
  subst h2 h3 h4 h5 h6
  unfold DotDims.rhsIdx
  rw [dif_neg (by simp), dif_pos (by simp)]
  rfl

/-- A plain product accumulated into zero, at an index: the sum over the contracted axis. -/
theorem matmul_plain {M K N : Nat} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision)
    (l : FVec Ideal ⟨2, ![M, K]⟩ φ₁) (r : FVec Ideal ⟨2, ![K, N]⟩ φ₂) (j : (⟨2, ![M, N]⟩ : Shape).Idx) :
    matmul D prec l r (constant ⟨2, ![M, N]⟩ .f32 0x00000000#32) j
      = (∑ k : Fin K, l (ix2 (j 0) k) * r (ix2 k (j 1)) : EReal) := by
  have hr : D.contr.rank = 1 := by rw [D.rank_contr, h1]; rfl
  have hs : D.contr.size ⟨0, by omega⟩ = K := by
    cases D; simp only at h1; subst h1; rfl
  show FloatOps.matmul D prec l r _ j = _
  rw [Ideal.matmul_constant_zero_apply, ← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact lhsIdx_plain D h1 h3 h5 j _
    | ⟨1, _⟩ => exact (D.lhsIdx_val_of_single h1 j _).trans hk)
  have er : D.rhsIdx j ((contrEquiv1 D K hr hs).symm k) = ix2 k (j 1) := funext fun a => Fin.ext (by
    match a with
    | ⟨0, _⟩ => exact (D.rhsIdx_val_of_single h2 j _).trans hk
    | ⟨1, _⟩ => exact rhsIdx_plain D h2 h3 h4 h5 h6 j _)
  rw [el, er]
  rfl

/-- A block with a leading axis of size one, read as a matrix. -/
theorem dropUnit_apply {α : Type} {K N : Nat} (x : (⟨3, ![1, K, N]⟩ : Shape).Idx → α)
    (h : (⟨3, ![1, K, N]⟩ : Shape).ShapeCasts ⟨2, ![K, N]⟩) (j : (⟨2, ![K, N]⟩ : Shape).Idx) :
    shapeCast ⟨2, ![K, N]⟩ x h j = x (ix3 (0 : Fin 1) (j 0) (j 1)) :=
  shapeCast_apply x h j (ix3 (0 : Fin 1) (j 0) (j 1)) (by
    rw [Shape.rowMajor_val_three, Shape.rowMajor_val_two]
    show (0 * K + (j 0).val) * N + (j 1).val = (j 0).val * N + (j 1).val
    rw [Nat.zero_mul, Nat.zero_add])

end Cert.Common

end
-- ==== Proof.Common.RowNorm.lean ====
/- Root-mean-square normalisation of one row, and the vector operations that compute it for a block of rows. -/
module

public import proofs.«01_k».proof.Proof.Common.Dot

@[expose] public section

noncomputable section

namespace Cert.Common

open Idealize.ShloMosaic Idealize.ShloMosaic.ValueIdx

/-- Entry `n` of the row `x` scaled to root mean square one (up to the small constant) and weighted by the gain `g`. -/
def rowNorm (x g : Fin 4096 → EReal) (n : Fin 4096) : EReal :=
  x n * Ideal.rsqrt (Ideal.div (∑ l : Fin 4096, x l * x l) (Ideal.ofBits .f32 0x45800000#32) + Ideal.ofBits .f32 0x358637BD#32)
    * g n

/-- The scale of each row, as the vector operations of a block of `R` rows compute it, at row `r`. -/
theorem rowScale_block {R : Nat} (X : FVec Ideal ⟨2, ![R, 4096]⟩ .f32) (c e : Ideal .f32)
    (hr : (⟨2, ![R, 4096]⟩ : Shape).Reduces [(1 : Fin 2)] ⟨1, ![R]⟩) (hφ : FKind.Formats .f32)
    (hacc : (0x00000000#32 : BitVec FTy.f32.bits) = FKind.add.neutral .f32 hφ)
    (hc : (⟨1, ![R]⟩ : Shape).ShapeCasts ⟨2, ![R, 1]⟩) (r : Fin R) :
    rsqrt (addf (divf (shapeCast ⟨2, ![R, 1]⟩
        (multiReduction .add [(1 : Fin 2)] ⟨1, ![R]⟩ (mulf X X) 0x00000000#32 hr hφ hacc) hc)
        (broadcast ⟨2, ![R, 1]⟩ c)) (broadcast ⟨2, ![R, 1]⟩ e)) (ix2 r (0 : Fin 1))
      = Ideal.rsqrt (Ideal.div (∑ l : Fin 4096, X (ix2 r l) * X (ix2 r l)) c + e) := by
  have hs : shapeCast ⟨2, ![R, 1]⟩ (multiReduction .add [(1 : Fin 2)] ⟨1, ![R]⟩ (mulf X X) 0x00000000#32 hr hφ hacc) hc
      (ix2 r (0 : Fin 1)) = (∑ l : Fin 4096, X (ix2 r l) * X (ix2 r l) : EReal) := by
    refine (shapeCast_apply _ hc (ix2 r (0 : Fin 1)) (ix1 r) (by
        rw [Shape.rowMajor_val_one, Shape.rowMajor_val_two]; show r.val = r.val * 1 + 0; omega)).trans ?_
    refine (Ideal.multiReduction_add_single (mulf X X) _ hr hφ hacc (ix1 r)).trans ?_
    refine Finset.sum_congr rfl fun l _ => ?_
    have hl : hr.lift (ix1 r) l = ix2 r l := funext fun a => Fin.ext (by
      match a with
      | ⟨0, _⟩ => exact Shape.Reduces.lift_val hr (ix1 r) l _
      | ⟨1, _⟩ => exact Shape.Reduces.lift_val hr (ix1 r) l _)
    rw [hl]
    rfl
  exact congrArg (fun s : EReal => Ideal.rsqrt (Ideal.div s c + e)) hs

/-- The normalised rows, as the vector operations of a block of `R` rows compute them. -/
theorem rowNorm_block {R : Nat} (X : FVec Ideal ⟨2, ![R, 4096]⟩ .f32) (G : FVec Ideal ⟨2, ![1, 4096]⟩ .f32)
    (hr : (⟨2, ![R, 4096]⟩ : Shape).Reduces [(1 : Fin 2)] ⟨1, ![R]⟩) (hφ : FKind.Formats .f32)
    (hacc : (0x00000000#32 : BitVec FTy.f32.bits) = FKind.add.neutral .f32 hφ)
    (hc : (⟨1, ![R]⟩ : Shape).ShapeCasts ⟨2, ![R, 1]⟩) (hb : (⟨2, ![R, 1]⟩ : Shape).Broadcasts ⟨2, ![R, 4096]⟩)
    (hg : (⟨2, ![1, 4096]⟩ : Shape).Broadcasts ⟨2, ![R, 4096]⟩) (r : Fin R) (n : Fin 4096) :
    mulf (mulf X (broadcastTo ⟨2, ![R, 4096]⟩ (rsqrt (addf (divf (shapeCast ⟨2, ![R, 1]⟩
        (multiReduction .add [(1 : Fin 2)] ⟨1, ![R]⟩ (mulf X X) 0x00000000#32 hr hφ hacc) hc)
        (broadcast ⟨2, ![R, 1]⟩ (Scalar.ofBits .f32 0x45800000#32 : Ideal .f32)))
        (broadcast ⟨2, ![R, 1]⟩ (Scalar.ofBits .f32 0x358637BD#32 : Ideal .f32)))) hb))
      (broadcastTo ⟨2, ![R, 4096]⟩ G hg) (ix2 r n)
      = rowNorm (fun l => X (ix2 r l)) (fun l => G (ix2 (0 : Fin 1) l)) n := by
  have h2 := rowScale_block X (Scalar.ofBits .f32 0x45800000#32) (Scalar.ofBits .f32 0x358637BD#32) hr hφ hacc hc r
  have h3 : broadcastTo ⟨2, ![R, 4096]⟩ G hg (ix2 r n) = G (ix2 (0 : Fin 1) n) :=
    broadcastTo_apply G hg _ _ fun a => by
      match a with
      | ⟨0, _⟩ => rfl
      | ⟨1, _⟩ => rfl
  generalize rsqrt (F := Ideal) _ = S at h2 ⊢
  have h4 : broadcastTo ⟨2, ![R, 4096]⟩ S hb (ix2 r n) = S (ix2 r (0 : Fin 1)) :=
    broadcastTo_apply S hb _ _ fun a => by
      match a with
      | ⟨0, _⟩ =>
        show r.val = if R = 1 then 0 else r.val
        have := r.isLt
        split <;> omega
      | ⟨1, _⟩ => rfl
  refine congrArg₂ (fun a b : EReal => a * b) (congrArg₂ (fun a b : EReal => a * b) rfl (h4.trans h2)) h3

end Cert.Common

end
-- ==== Proof.Ffn.Spec.lean ====
/- The gated feed-forward layer as formulas: the gate, a row's activations, and what one panel of them adds. -/
module

public import proofs.«01_k».proof.Proof.Common.RowNorm

@[expose] public section

noncomputable section

namespace Cert.Ffn

open Idealize.ShloMosaic Idealize.ShloMosaic.ValueIdx

/-- The gated product of a gate's value and an up value. -/
def glu (g u : EReal) : EReal := g * Ideal.logistic g * u

/-- One activation: the gated product of the row against a gate column and against an up column. -/
def act (h wg wu : Fin 4096 → EReal) : EReal := glu (∑ k : Fin 4096, h k * wg k) (∑ k : Fin 4096, h k * wu k)

/-- The accumulator after one panel of 256 activations: to each entry the panel's product is added. -/
def step {R : Nat} (h : Fin R → Fin 4096 → EReal) (wg wu : Fin 4096 → Fin 256 → EReal) (wd : Fin 256 → Fin 4096 → EReal)
    (a : Fin R → Fin 4096 → EReal) (r : Fin R) (n : Fin 4096) : EReal :=
  a r n + ∑ f : Fin 256, act (h r) (fun k => wg k f) (fun k => wu k f) * wd f n

/-- A panel's vector operations at an index: the accumulator's entry plus the product's. -/
theorem panel_add {R : Nat} (D : DotDims ⟨2, ![R, 256]⟩ ⟨2, ![256, 512]⟩ ⟨2, ![R, 512]⟩)
    (h1 : D.lhsContracting = [1]) (h2 : D.rhsContracting = [0]) (h3 : D.lhsNonContracting = [0])
    (h4 : D.rhsNonContracting = [1]) (h5 : D.lhsBatch = []) (h6 : D.rhsBatch = [])
    (a : FVec Ideal ⟨2, ![R, 256]⟩ .bf16) (w : FVec Ideal ⟨3, ![1, 256, 512]⟩ .bf16)
    (hw : (⟨3, ![1, 256, 512]⟩ : Shape).ShapeCasts ⟨2, ![256, 512]⟩) (r : Fin R) (n : Fin 512) :
    matmul D none a (shapeCast ⟨2, ![256, 512]⟩ w hw) (constant ⟨2, ![R, 512]⟩ .f32 0x00000000#32) (ix2 r n)
      = (∑ f : Fin 256, a (ix2 r f) * w (ix3 (0 : Fin 1) f n) : EReal) := by
  refine (Common.matmul_plain D h1 h2 h3 h4 h5 h6 none _ _ (ix2 r n)).trans ?_
  exact Finset.sum_congr rfl fun k _ => congrArg (fun b : EReal => a (ix2 r k) * b) (Common.dropUnit_apply w _ _)

/-- The product of rows with a block of columns, at an index. -/
theorem cols_dot {R : Nat} (D : DotDims ⟨2, ![R, 4096]⟩ ⟨2, ![4096, 256]⟩ ⟨2, ![R, 256]⟩)
    (h1 : D.lhsContracting = [1]) (h2 : D.rhsContracting = [0]) (h3 : D.lhsNonContracting = [0])
    (h4 : D.rhsNonContracting = [1]) (h5 : D.lhsBatch = []) (h6 : D.rhsBatch = [])
    (h : FVec Ideal ⟨2, ![R, 4096]⟩ .bf16) (w : FVec Ideal ⟨3, ![1, 4096, 256]⟩ .bf16)
    (hw : (⟨3, ![1, 4096, 256]⟩ : Shape).ShapeCasts ⟨2, ![4096, 256]⟩) (r : Fin R) (f : Fin 256) :
    matmul D none h (shapeCast ⟨2, ![4096, 256]⟩ w hw) (constant ⟨2, ![R, 256]⟩ .f32 0x00000000#32) (ix2 r f)
      = (∑ k : Fin 4096, h (ix2 r k) * w (ix3 (0 : Fin 1) k f) : EReal) := by
  refine (Common.matmul_plain D h1 h2 h3 h4 h5 h6 none _ _ (ix2 r f)).trans ?_
  exact Finset.sum_congr rfl fun k _ => congrArg (fun b : EReal => h (ix2 r k) * b) (Common.dropUnit_apply w _ _)

end Cert.Ffn

end
-- ==== Proof.Ffn.PlainIdeal.Pays.lean ====
/- What the body stores, entry by entry: the normalised rows, the activations, and a panel added to the output block. -/
module

public import proofs.«01_k».proof.Proof.Ffn.Spec
public import proofs.«01_k».proof.Proof.Gen.KernelIdeal.Loops
public import proofs.«01_k».proof.Proof.Gen.KernelIdeal.Frame
public import Idealize.ShloMosaic.Lib.VecWindow
public import Idealize.ShloMosaic.Lib.WritesUnit

@[expose] public section

set_option maxRecDepth 16384

noncomputable section

namespace Cert.KernelIdeal.Ffn

open Idealize.ShloMosaic Idealize.ShloMosaic.TcCoe Idealize.ShloMosaic.ValueIdx Idealize.SL.Sem
open Cert.KernelIdeal Cert.KernelIdeal.Gen
open Cert.Common (rowNorm)

/-- The normalised rows the first panel stores in the scratch. -/
theorem norm_pay (X : Vec Ideal S64x4096 .f32) (G : Vec Ideal S1x4096 .f32) (r : Fin 64) (n : Fin 4096) :
    k0_pay4 (F := Ideal) X G (ix2 r n) = rowNorm (fun l => X (ix2 r l)) (fun l => G (ix2 (0 : Fin 1) l)) n := by
  unfold k0_pay4
  simp only [shapeCast_self]
  exact Common.rowNorm_block X G _ _ _ _ _ _ r n

/-- The panel's activations. -/
theorem act_pay (H : Vec Ideal S640x4096 .bf16) (W U : Vec Ideal S1x4096x256 .bf16) (r : Fin 640) (f : Fin 256) :
    k0_pay5 (F := Ideal) H W U (ix2 r f)
      = Cert.Ffn.act (fun k => H (ix2 r k)) (fun k => W (ix3 (0 : Fin 1) k f)) (fun k => U (ix3 (0 : Fin 1) k f)) := by
  unfold k0_pay5
  exact congrArg₂ Cert.Ffn.glu (Cert.Ffn.cols_dot _ rfl rfl rfl rfl rfl rfl H W _ r f) (Cert.Ffn.cols_dot _ rfl rfl rfl rfl rfl rfl H U _ r f)

theorem p2_pay (a : FVec Ideal S640x256 .bf16) (x : Vec Ideal S640x512 .f32) (w : Vec Ideal S1x256x512 .bf16) (r : Fin 640) (n : Fin 512) :
    k0_pay8 (F := Ideal) a x w (ix2 r n) = (x (ix2 r n) + ∑ f : Fin 256, a (ix2 r f) * w (ix3 (0 : Fin 1) f n) : EReal) := by
  unfold k0_pay8
  simp only [shapeCast_self]
  exact congrArg (fun b : EReal => x (ix2 r n) + b) (Cert.Ffn.panel_add _ rfl rfl rfl rfl rfl rfl a w _ r n)

theorem p3_pay (a : FVec Ideal S640x256 .bf16) (x : Vec Ideal S640x512 .f32) (w : Vec Ideal S1x256x512 .bf16) (r : Fin 640) (n : Fin 512) :
    k0_pay9 (F := Ideal) a x w (ix2 r n) = (x (ix2 r n) + ∑ f : Fin 256, a (ix2 r f) * w (ix3 (0 : Fin 1) f n) : EReal) := by
  unfold k0_pay9
  simp only [shapeCast_self]
  exact congrArg (fun b : EReal => x (ix2 r n) + b) (Cert.Ffn.panel_add _ rfl rfl rfl rfl rfl rfl a w _ r n)

theorem p4_pay (a : FVec Ideal S640x256 .bf16) (x : Vec Ideal S640x512 .f32) (w : Vec Ideal S1x256x512 .bf16) (r : Fin 640) (n : Fin 512) :
    k0_pay10 (F := Ideal) a x w (ix2 r n) = (x (ix2 r n) + ∑ f : Fin 256, a (ix2 r f) * w (ix3 (0 : Fin 1) f n) : EReal) := by
  unfold k0_pay10
  simp only [shapeCast_self]
  exact congrArg (fun b : EReal => x (ix2 r n) + b) (Cert.Ffn.panel_add _ rfl rfl rfl rfl rfl rfl a w _ r n)

theorem p6_pay (a : FVec Ideal S640x256 .bf16) (x : Vec Ideal S640x512 .f32) (w : Vec Ideal S1x256x512 .bf16) (r : Fin 640) (n : Fin 512) :
    k0_pay2 (F := Ideal) a x w (ix2 r n) = (x (ix2 r n) + ∑ f : Fin 256, a (ix2 r f) * w (ix3 (0 : Fin 1) f n) : EReal) := by
  unfold k0_pay2
  simp only [shapeCast_self]
  exact congrArg (fun b : EReal => x (ix2 r n) + b) (Cert.Ffn.panel_add _ rfl rfl rfl rfl rfl rfl a w _ r n)

theorem p7_pay (a : FVec Ideal S640x256 .bf16) (x : Vec Ideal S640x512 .f32) (w : Vec Ideal S1x256x512 .bf16) (r : Fin 640) (n : Fin 512) :
    k0_pay3 (F := Ideal) a x w (ix2 r n) = (x (ix2 r n) + ∑ f : Fin 256, a (ix2 r f) * w (ix3 (0 : Fin 1) f n) : EReal) := by
  unfold k0_pay3
  simp only [shapeCast_self]
  exact congrArg (fun b : EReal => x (ix2 r n) + b) (Cert.Ffn.panel_add _ rfl rfl rfl rfl rfl rfl a w _ r n)

theorem p0_pay (H : Vec Ideal S640x4096 .bf16) (W U : Vec Ideal S1x4096x256 .bf16) (x : Vec Ideal S640x512 .f32)
    (w : Vec Ideal S1x256x512 .bf16) (r : Fin 640) (n : Fin 512) :
    k0_pay6 (F := Ideal) H W U x w (ix2 r n)
      = (x (ix2 r n) + ∑ f : Fin 256, k0_pay5 (F := Ideal) H W U (ix2 r f) * w (ix3 (0 : Fin 1) f n) : EReal) := by
  unfold k0_pay6
  simp only [shapeCast_self]
  exact congrArg (fun b : EReal => x (ix2 r n) + b) (Cert.Ffn.panel_add _ rfl rfl rfl rfl rfl rfl _ w _ r n)

theorem p1_pay (H : Vec Ideal S640x4096 .bf16) (W U : Vec Ideal S1x4096x256 .bf16) (x : Vec Ideal S640x512 .f32)
    (w : Vec Ideal S1x256x512 .bf16) (r : Fin 640) (n : Fin 512) :
    k0_pay7 (F := Ideal) H W U x w (ix2 r n)
      = (x (ix2 r n) + ∑ f : Fin 256, k0_pay5 (F := Ideal) H W U (ix2 r f) * w (ix3 (0 : Fin 1) f n) : EReal) := by
  unfold k0_pay7
  simp only [shapeCast_self]
  exact congrArg (fun b : EReal => x (ix2 r n) + b) (Cert.Ffn.panel_add _ rfl rfl rfl rfl rfl rfl _ w _ r n)

theorem p5_pay (a : FVec Ideal S640x256 .bf16) (x : Vec Ideal S640x512 .f32) (w : Vec Ideal S1x256x512 .bf16) (r : Fin 640) (n : Fin 512) :
    k0_pay1 (F := Ideal) (k0_pay11 (F := Ideal) x) (k0_pay12 (F := Ideal) a w) (ix2 r n)
      = (x (ix2 r n) + ∑ f : Fin 256, a (ix2 r f) * w (ix3 (0 : Fin 1) f n) : EReal) := by
  unfold k0_pay1 k0_pay11 k0_pay12
  simp only [shapeCast_self]
  exact congrArg (fun b : EReal => x (ix2 r n) + b) (Cert.Ffn.panel_add _ rfl rfl rfl rfl rfl rfl a w _ r n)

/-- A load of 512 columns of a block, at an index. -/
theorem readAt_cols (v : View sig .tc .vmem S640x4096 .f32) (g : v.ty.Contents (Elt Ideal)) (o : Nat) (ho : o + 512 ≤ 4096)
    (inb : ∀ a, (![0, o] : Fin 2 → Nat) a + S640x512.size a ≤ S640x4096.size a) (r : Fin 640) (n : Fin 512) :
    View.readAt (Elt Ideal) v (Rect.unit (s := S640x4096) ![0, o] S640x512.size inb).toLoadRect g (ix2 r n)
      = v.read (Elt Ideal) g (ix2 r (⟨o + n.val, by omega⟩ : Fin 4096)) := by
  refine congrArg (fun z => v.read (Elt Ideal) g z) (funext fun a => Fin.ext ?_)
  match a with
  | ⟨0, _⟩ => show 0 + 1 * r.val = r.val; omega
  | ⟨1, _⟩ => show o + 1 * n.val = o + n.val; omega

/-- A load of 512 columns of the down weights' block, at an index. -/
theorem readAt_down (v : View sig .tc .vmem S1x256x4096 .bf16) (g : v.ty.Contents (Elt Ideal)) (o : Nat) (ho : o + 512 ≤ 4096)
    (inb : ∀ a, (![0, 0, o] : Fin 3 → Nat) a + S1x256x512.size a ≤ S1x256x4096.size a) (f : Fin 256) (n : Fin 512) :
    View.readAt (Elt Ideal) v (Rect.unit (s := S1x256x4096) ![0, 0, o] S1x256x512.size inb).toLoadRect g (ix3 (0 : Fin 1) f n)
      = v.read (Elt Ideal) g (ix3 (0 : Fin 1) f (⟨o + n.val, by omega⟩ : Fin 4096)) := by
  refine congrArg (fun z => v.read (Elt Ideal) g z) (funext fun a => Fin.ext ?_)
  match a with
  | ⟨0, _⟩ => rfl
  | ⟨1, _⟩ => show 0 + 1 * f.val = f.val; omega
  | ⟨2, _⟩ => show o + 1 * n.val = o + n.val; omega

/-- If the columns below `o` are done and the rest are not, then after a store of the done columns `o … o + 511` the
    columns below `o + 512` are. -/
theorem panel_step (v : View sig .tc .vmem S640x4096 .f32) (g : v.ty.Contents (Elt Ideal)) (L : List (View.Piece (Elt Ideal) S640x4096 .f32))
    (B T : Fin 640 → Fin 4096 → EReal) (o o' : Nat) (ho : o + 512 ≤ 4096) (ho' : o' = o + 512)
    (inb : ∀ a, (![0, o] : Fin 2 → Nat) a + S640x512.size a ≤ S640x4096.size a)
    (w : (Rect.unit (s := S640x4096) ![0, o] S640x512.size inb).shape.Idx → Elt Ideal .f32)
    (hA : ∀ (r : Fin 640) (n : Fin 4096), v.read (Elt Ideal) (v.writes (Elt Ideal) g L) (ix2 r n) = if n.val < o then T r n else B r n)
    (hw : ∀ (r : Fin 640) (n : Fin 512), w (ix2 r n) = T r (⟨o + n.val, by omega⟩ : Fin 4096)) (r : Fin 640) (n : Fin 4096) :
    v.read (Elt Ideal) (v.writes (Elt Ideal) g (⟨Rect.unit (s := S640x4096) ![0, o] S640x512.size inb, w⟩ :: L)) (ix2 r n)
      = if n.val < o' then T r n else B r n := by
  subst ho'
  by_cases h1 : n.val < o
  · refine (View.read_writes_cons_unit_of_not_mem v g inb w L (ix2 r n) rfl 1 (.inl h1)).trans ((hA r n).trans ?_)
    rw [if_pos h1, if_pos (by omega)]
  · by_cases h2 : n.val < o + 512
    · rw [if_pos h2]
      have hn : n = (⟨o + (⟨n.val - o, by omega⟩ : Fin 512).val, by show o + (n.val - o) < 4096; omega⟩ : Fin 4096) :=
        Fin.ext (by show n.val = o + (n.val - o); omega)
      refine (View.read_writes_cons_unit_of_mem v g inb w L (ix2 r n) (ix2 r (⟨n.val - o, by omega⟩ : Fin 512)) rfl ?_).trans ?_
      · intro a
        match a with
        | ⟨0, _⟩ => show r.val = 0 + r.val; omega
        | ⟨1, _⟩ => show n.val = o + (n.val - o); omega
      · exact (hw r _).trans (congrArg (T r) hn.symm)
    · refine (View.read_writes_cons_unit_of_not_mem v g inb w L (ix2 r n) rfl 1 (.inr (Nat.le_of_not_lt h2))).trans ((hA r n).trans ?_)
      rw [if_neg h1, if_neg h2]

/-- The same with the stored value given as a panel's: what the accumulator held, plus the product. -/
theorem panel_next (v : View sig .tc .vmem S640x4096 .f32) (g : v.ty.Contents (Elt Ideal)) (L : List (View.Piece (Elt Ideal) S640x4096 .f32))
    (B S : Fin 640 → Fin 4096 → EReal) (o o' : Nat) (ho : o + 512 ≤ 4096) (ho' : o' = o + 512)
    (inb : ∀ a, (![0, o] : Fin 2 → Nat) a + S640x512.size a ≤ S640x4096.size a)
    (w : (Rect.unit (s := S640x4096) ![0, o] S640x512.size inb).shape.Idx → Elt Ideal .f32)
    (hA : ∀ (r : Fin 640) (n : Fin 4096), v.read (Elt Ideal) (v.writes (Elt Ideal) g L) (ix2 r n) = if n.val < o then B r n + S r n else B r n)
    (hw : ∀ (r : Fin 640) (n : Fin 512), w (ix2 r n)
      = v.read (Elt Ideal) (v.writes (Elt Ideal) g L) (ix2 r (⟨o + n.val, by omega⟩ : Fin 4096)) + S r (⟨o + n.val, by omega⟩ : Fin 4096))
    (r : Fin 640) (n : Fin 4096) :
    v.read (Elt Ideal) (v.writes (Elt Ideal) g (⟨Rect.unit (s := S640x4096) ![0, o] S640x512.size inb, w⟩ :: L)) (ix2 r n)
      = if n.val < o' then B r n + S r n else B r n := by
  refine panel_step v g L B (fun r n => B r n + S r n) o o' ho ho' inb w hA (fun r n => (hw r n).trans ?_) r n
  refine congrArg (fun b : EReal => b + S r (⟨o + n.val, by omega⟩ : Fin 4096)) ((hA r _).trans (if_neg ?_))
  show ¬ (o + n.val < o)
  omega

end Cert.KernelIdeal.Ffn

end
-- ==== Proof.Ffn.PlainIdeal.Rows.lean ====
/- The loop that opens a row block: its ten trips leave the rows in the output block and, normalised, in the scratch. -/
module

public import proofs.«01_k».proof.Proof.Ffn.PlainIdeal.Pays

@[expose] public section

set_option maxRecDepth 16384

noncomputable section

namespace Cert.KernelIdeal.Ffn

open Idealize.ShloMosaic Idealize.ShloMosaic.TcCoe Idealize.ShloMosaic.ValueIdx Idealize.SL.Sem
open Cert.KernelIdeal Cert.KernelIdeal.Gen
open Cert.Common (rowNorm)

variable (𝒱 : Variants) (c : Dev nD) (bd : Option 𝒱.V) (i : grid0.Coords)
  (arg2 : Memref sig .tc .vmem S1x4096 .f32) (harg2 : arg2.IsWhole) (arg3 : Memref sig .tc .vmem S1x4096x256 .bf16) (harg3 : arg3.IsWhole)
  (arg4 : Memref sig .tc .vmem S1x4096x256 .bf16) (harg4 : arg4.IsWhole) (arg5 : Memref sig .tc .vmem S1x256x4096 .bf16) (harg5 : arg5.IsWhole)
  (arg6 : Memref sig .tc .vmem S1x4096 .f32) (harg6 : arg6.IsWhole) (arg7 : Memref sig .tc .vmem S640x4096 .f32) (harg7 : arg7.IsWhole)
  (arg8 : Memref sig .tc .vmem S640x4096 .f32) (harg8 : arg8.IsWhole) (arg9 : Memref sig .tc .vmem S640x4096 .bf16) (harg9 : arg9.IsWhole)

/-- One trip's two stores. -/
theorem trip1_eq (h1 : k0_cond1 i = 1#1) (X2 : BufTy.Contents (Elt Ideal) arg2.view.ty) (X7 : BufTy.Contents (Elt Ideal) arg7.view.ty)
    (k : Fin k0_t1_loop.trips) :
    tripL_k0_t1 (F := Ideal) 𝒱 c bd i arg2 harg2 arg3 harg3 arg4 harg4 arg5 harg5 arg6 harg6 arg7 harg7 arg8 harg8 arg9 harg9 h1 X2 X7 k
      = ([⟨Rect.unit (s := S640x4096) (k0_off1 k) S64x4096.size (k0_off1_inb i k h1),
          View.readAt (Elt Ideal) arg7.view (Rect.unit (s := S640x4096) (k0_off1 k) S64x4096.size (k0_off1_inb i k h1)).toLoadRect X7⟩],
        [⟨Rect.unit (s := S640x4096) (k0_off1 k) S64x4096.size (k0_off1_inb i k h1),
          k0_pay4 (F := Ideal)
            (View.readAt (Elt Ideal) arg7.view (Rect.unit (s := S640x4096) (k0_off1 k) S64x4096.size (k0_off1_inb i k h1)).toLoadRect X7)
            (View.readAt (Elt Ideal) arg2.view (Rect.unit (s := S1x4096) ![0, 0] S1x4096.size inb_S1x4096_S1x4096_0_0).toLoadRect X2)⟩]) := by
  unfold tripL_k0_t1 trip_k0_t1
  rfl

/-- A load of 64 rows of a block, at an index. -/
theorem readAt_rows (h1 : k0_cond1 i = 1#1) (x7 : Vec Ideal S640x4096 .f32) (k : Fin k0_t1_loop.trips) (r : Fin 640) (r' : Fin 64)
    (hr' : r.val = 64 * k.val + r'.val) (l : Fin 4096) :
    View.readAt (Elt Ideal) arg7.view (Rect.unit (s := S640x4096) (k0_off1 k) S64x4096.size (k0_off1_inb i k h1)).toLoadRect (harg7.unread x7) (ix2 r' l)
      = x7 (ix2 r l) := by
  refine (congrArg (fun z => arg7.view.read (Elt Ideal) (harg7.unread x7) z) ?_).trans (congrFun (harg7.read_unread x7) (ix2 r l))
  funext a; apply Fin.ext
  match a with
  | ⟨0, _⟩ =>
    show k0_off1 k 0 + 1 * r'.val = r.val
    rw [k0_off1_eq]; show 64 * k.val + 1 * r'.val = r.val; omega
  | ⟨1, _⟩ =>
    show k0_off1 k 1 + 1 * l.val = l.val
    rw [k0_off1_eq]; show 0 + 1 * l.val = l.val; omega

/-- The load of the gain, at an index. -/
theorem readAt_gain (v : Memref sig .tc .vmem S1x4096 .f32) (hv : v.IsWhole) (x : Vec Ideal S1x4096 .f32) (l : Fin 4096) :
    View.readAt (Elt Ideal) v.view (Rect.unit (s := S1x4096) ![0, 0] S1x4096.size inb_S1x4096_S1x4096_0_0).toLoadRect (hv.unread x) (ix2 (0 : Fin 1) l)
      = x (ix2 (0 : Fin 1) l) :=
  (congrFun (View.readAt_full (s := S1x4096) v.view _ inb_S1x4096_S1x4096_0_0) _).trans (congrFun (hv.read_unread x) _)

/-- After `k` trips the scratch's rows below `64 * k` are normalised. -/
theorem rows9 (h1 : k0_cond1 i = 1#1) (x2 : Vec Ideal S1x4096 .f32) (x7 : Vec Ideal S640x4096 .f32)
    (v : View sig .tc .vmem S640x4096 .bf16) (f : v.ty.Contents (Elt Ideal)) :
    ∀ k : Nat, k ≤ 10 → ∀ (r : Fin 640) (n : Fin 4096), r.val < 64 * k →
      v.read (Elt Ideal) (v.writes (Elt Ideal) f (pb_k0_t1 (F := Ideal) 𝒱 c bd i arg2 harg2 arg3 harg3 arg4 harg4 arg5 harg5 arg6 harg6 arg7 harg7 arg8 harg8 arg9 harg9 h1 (harg2.unread x2) (harg7.unread x7) k).2) (ix2 r n)
        = rowNorm (fun l => x7 (ix2 r l)) (fun l => x2 (ix2 (0 : Fin 1) l)) n := by
  intro k
  induction k with
  | zero => intro _ r n h; omega
  | succ k ih =>
    intro hk r n hr
    have hk' : k < k0_t1_loop.trips := hk
    have hs := congrArg Prod.snd (pb_k0_t1_succ (F := Ideal) 𝒱 c bd i arg2 harg2 arg3 harg3 arg4 harg4 arg5 harg5 arg6 harg6 arg7 harg7 arg8 harg8 arg9 harg9 h1 (harg2.unread x2) (harg7.unread x7) ⟨k, hk'⟩)
    rw [trip1_eq] at hs
    dsimp only at hs
    rw [show k + 1 = (⟨k, hk'⟩ : Fin k0_t1_loop.trips).val + 1 from rfl, hs, List.singleton_append]
    by_cases hlt : r.val < 64 * k
    · rw [View.read_writes_cons_rows_of_not_mem (o := 64 * k) (W := 64) v f _ _ _ _ (k0_off1_eq ⟨k, hk'⟩) rfl (.inl hlt)]
      exact ih (by omega) r n hlt
    · have hx : ∃ r' : Fin 64, r.val = 64 * k + r'.val := ⟨⟨r.val - 64 * k, by omega⟩, by show r.val = 64 * k + (r.val - 64 * k); omega⟩
      obtain ⟨r', hr'⟩ := hx
      refine (View.read_writes_cons_rows_of_mem (o := 64 * k) (size := S64x4096.size) v f _ _ _ (ix2 r n) (ix2 r' n)
        (k0_off1_eq ⟨k, hk'⟩) hr' rfl).trans ?_
      rw [norm_pay]
      congr 1
      · funext l
        exact readAt_rows i arg7 harg7 h1 x7 ⟨k, hk'⟩ r r' hr' l
      · funext l
        exact readAt_gain arg2 harg2 x2 l

/-- After `k` trips the output block's rows below `64 * k` are the input's. -/
theorem rows8 (h1 : k0_cond1 i = 1#1) (x2 : Vec Ideal S1x4096 .f32) (x7 : Vec Ideal S640x4096 .f32)
    (v : View sig .tc .vmem S640x4096 .f32) (f : v.ty.Contents (Elt Ideal)) :
    ∀ k : Nat, k ≤ 10 → ∀ (r : Fin 640) (n : Fin 4096), r.val < 64 * k →
      v.read (Elt Ideal) (v.writes (Elt Ideal) f (pb_k0_t1 (F := Ideal) 𝒱 c bd i arg2 harg2 arg3 harg3 arg4 harg4 arg5 harg5 arg6 harg6 arg7 harg7 arg8 harg8 arg9 harg9 h1 (harg2.unread x2) (harg7.unread x7) k).1) (ix2 r n)
        = x7 (ix2 r n) := by
  intro k
  induction k with
  | zero => intro _ r n h; omega
  | succ k ih =>
    intro hk r n hr
    have hk' : k < k0_t1_loop.trips := hk
    have hs := congrArg Prod.fst (pb_k0_t1_succ (F := Ideal) 𝒱 c bd i arg2 harg2 arg3 harg3 arg4 harg4 arg5 harg5 arg6 harg6 arg7 harg7 arg8 harg8 arg9 harg9 h1 (harg2.unread x2) (harg7.unread x7) ⟨k, hk'⟩)
    rw [trip1_eq] at hs
    dsimp only at hs
    rw [show k + 1 = (⟨k, hk'⟩ : Fin k0_t1_loop.trips).val + 1 from rfl, hs, List.singleton_append]
    by_cases hlt : r.val < 64 * k
    · rw [View.read_writes_cons_rows_of_not_mem (o := 64 * k) (W := 64) v f _ _ _ _ (k0_off1_eq ⟨k, hk'⟩) rfl (.inl hlt)]
      exact ih (by omega) r n hlt
    · have hx : ∃ r' : Fin 64, r.val = 64 * k + r'.val := ⟨⟨r.val - 64 * k, by omega⟩, by show r.val = 64 * k + (r.val - 64 * k); omega⟩
      obtain ⟨r', hr'⟩ := hx
      refine (View.read_writes_cons_rows_of_mem (o := 64 * k) (size := S64x4096.size) v f _ _ _ (ix2 r n) (ix2 r' n)
        (k0_off1_eq ⟨k, hk'⟩) hr' rfl).trans ?_
      exact readAt_rows i arg7 harg7 h1 x7 ⟨k, hk'⟩ r r' hr' n

end Cert.KernelIdeal.Ffn

end
-- ==== Proof.Ffn.PlainIdeal.First.lean ====
/- The first panel of a row block. -/
module

public import proofs.«01_k».proof.Proof.Gen.KernelIdeal.Frame
public import proofs.«01_k».proof.Proof.Gen.KernelIdeal.Loops
public import proofs.«01_k».proof.Proof.Gen.KernelIdeal.Skeleton

@[expose] public section

set_option maxRecDepth 16384

noncomputable section

namespace Cert.KernelIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

set_option backward.proofsInPublic true in
set_option maxHeartbeats 4000000 in
/-- The first panel of a row block. The pieces its stores leave in the output block and in the scratch, with the proof that the body, given all its buffers,
    ends with the inputs' as they were and those pieces written. -/
noncomputable def runFirst (c : Dev nD) (i : grid0.Coords) (arg2 : Memref sig .tc .vmem S1x4096 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x256x4096 .bf16) (harg5 : arg5.IsWhole) (arg6 : Memref sig .tc .vmem S1x4096 .f32) (harg6 : arg6.IsWhole) (arg7 : Memref sig .tc .vmem S640x4096 .f32) (harg7 : arg7.IsWhole) (arg8 : Memref sig .tc .vmem S640x4096 .f32) (harg8 : arg8.IsWhole) (arg9 : Memref sig .tc .vmem S640x4096 .bf16) (harg9 : arg9.IsWhole) (hc1 : k0_cond1 i = 1#1)
    (x2 : Vec F S1x4096 .f32) (x3 : Vec F S1x4096x256 .bf16) (x4 : Vec F S1x4096x256 .bf16) (x5 : Vec F S1x256x4096 .bf16) (x6 : Vec F S1x4096 .f32) (x7 : Vec F S640x4096 .f32) (x8 : Vec F S640x4096 .f32) (x9 : Vec F S640x4096 .bf16) :
    Σ' (L8 : List (View.Piece (Elt F) S640x4096 .f32)), { L9 : List (View.Piece (Elt F) S640x4096 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (arg8.view.loc (c : Thread nD τ) ↦[arg8.view.set]{fullShare} arg8.view.writes (Elt F) (harg8.unread x8) L8) ∗ (arg9.view.loc (c : Thread nD τ) ↦[arg9.view.set]{fullShare} arg9.view.writes (Elt F) (harg9.unread x9) L9)) -∗ K ⟨⟩))
          ⊢ wp frame (wpE (defs₀ (F := F)) Variants.none c none) E (cc0_swiglu_ffn i arg2 harg2 arg3 harg3 arg4 harg4 arg5 harg5 arg6 harg6 arg7 harg7 arg8 harg8 arg9 harg9) K } := by
  refine ⟨?_, ?_, fun E K => ?run⟩
  case run =>
    simp only [cc0_swiglu_ffn_eq_skeleton]; unfold cc0_swiglu_ffn_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexact H8
    iexact H9

end Cert.KernelIdeal.Ffn

end
-- ==== Proof.Ffn.PlainIdeal.Next.lean ====
/- A panel of a row block that is not its first. -/
module

public import proofs.«01_k».proof.Proof.Ffn.PlainIdeal.First

@[expose] public section

set_option maxRecDepth 16384

noncomputable section

namespace Cert.KernelIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

set_option backward.proofsInPublic true in
set_option maxHeartbeats 4000000 in
/-- A panel of a row block that is not its first. The pieces its stores leave in the output block, with the proof that the body, given all its buffers,
    ends with the inputs' as they were, the scratch too, and those pieces written. -/
noncomputable def runNext (c : Dev nD) (i : grid0.Coords) (arg2 : Memref sig .tc .vmem S1x4096 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x256x4096 .bf16) (harg5 : arg5.IsWhole) (arg6 : Memref sig .tc .vmem S1x4096 .f32) (harg6 : arg6.IsWhole) (arg7 : Memref sig .tc .vmem S640x4096 .f32) (harg7 : arg7.IsWhole) (arg8 : Memref sig .tc .vmem S640x4096 .f32) (harg8 : arg8.IsWhole) (arg9 : Memref sig .tc .vmem S640x4096 .bf16) (harg9 : arg9.IsWhole) (hc1 : ¬k0_cond1 i = 1#1)
    (x2 : Vec F S1x4096 .f32) (x3 : Vec F S1x4096x256 .bf16) (x4 : Vec F S1x4096x256 .bf16) (x5 : Vec F S1x256x4096 .bf16) (x6 : Vec F S1x4096 .f32) (x7 : Vec F S640x4096 .f32) (x8 : Vec F S640x4096 .f32) (x9 : Vec F S640x4096 .bf16) :
    { L8 : List (View.Piece (Elt F) S640x4096 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (arg8.view.loc (c : Thread nD τ) ↦[arg8.view.set]{fullShare} arg8.view.writes (Elt F) (harg8.unread x8) L8) ∗ owns (c : Thread nD τ) arg9 fullShare x9) -∗ K ⟨⟩))
          ⊢ wp frame (wpE (defs₀ (F := F)) Variants.none c none) E (cc0_swiglu_ffn i arg2 harg2 arg3 harg3 arg4 harg4 arg5 harg5 arg6 harg6 arg7 harg7 arg8 harg8 arg9 harg9) K } := by
  refine ⟨?_, fun E K => ?run⟩
  case run =>
    simp only [cc0_swiglu_ffn_eq_skeleton]; unfold cc0_swiglu_ffn_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexact H8
    iexists _; isplitr; · ipureintro; exact harg9.read_unread _
    iexact H9

end Cert.KernelIdeal.Ffn

end
-- ==== Proof.Ffn.PlainIdeal.Values.lean ====
/- What each case of the body leaves in the output block and in the scratch. -/
module

public import proofs.«01_k».proof.Proof.Ffn.PlainIdeal.Rows
public import proofs.«01_k».proof.Proof.Ffn.PlainIdeal.First
public import proofs.«01_k».proof.Proof.Ffn.PlainIdeal.Next

@[expose] public section

set_option maxRecDepth 16384

noncomputable section

namespace Cert.KernelIdeal.Ffn

open Idealize.ShloMosaic Idealize.ShloMosaic.TcCoe Idealize.ShloMosaic.ValueIdx Idealize.SL.Sem
open Cert.KernelIdeal Cert.KernelIdeal.Gen
open Cert.Common (rowNorm)

/-- A block after one panel, from the scratch's rows, the panel's weights and what the block held. -/
def bstep (x3 x4 : Vec Ideal S1x4096x256 .bf16) (x5 : Vec Ideal S1x256x4096 .bf16) (h a : Fin 640 → Fin 4096 → EReal) :
    Fin 640 → Fin 4096 → EReal :=
  Cert.Ffn.step h (fun k f => x3 (ix3 (0 : Fin 1) k f)) (fun k f => x4 (ix3 (0 : Fin 1) k f)) (fun f n => x5 (ix3 (0 : Fin 1) f n)) a

/-- What the panel adds. -/
def added (x3 x4 : Vec Ideal S1x4096x256 .bf16) (x5 : Vec Ideal S1x256x4096 .bf16) (h : Fin 640 → Fin 4096 → EReal)
    (r : Fin 640) (n : Fin 4096) : EReal :=
  ∑ f : Fin 256, Cert.Ffn.act (h r) (fun k => x3 (ix3 (0 : Fin 1) k f)) (fun k => x4 (ix3 (0 : Fin 1) k f)) * x5 (ix3 (0 : Fin 1) f n)

/-- The rows of a block, normalised with a gain. -/
def normed (x : Vec Ideal S640x4096 .f32) (g : Vec Ideal S1x4096 .f32) (r : Fin 640) (n : Fin 4096) : EReal :=
  rowNorm (fun l => x (ix2 r l)) (fun l => g (ix2 (0 : Fin 1) l)) n

variable (c : Dev nD) (i : grid0.Coords)
  (arg2 : Memref sig .tc .vmem S1x4096 .f32) (harg2 : arg2.IsWhole) (arg3 : Memref sig .tc .vmem S1x4096x256 .bf16) (harg3 : arg3.IsWhole)
  (arg4 : Memref sig .tc .vmem S1x4096x256 .bf16) (harg4 : arg4.IsWhole) (arg5 : Memref sig .tc .vmem S1x256x4096 .bf16) (harg5 : arg5.IsWhole)
  (arg6 : Memref sig .tc .vmem S1x4096 .f32) (harg6 : arg6.IsWhole) (arg7 : Memref sig .tc .vmem S640x4096 .f32) (harg7 : arg7.IsWhole)
  (arg8 : Memref sig .tc .vmem S640x4096 .f32) (harg8 : arg8.IsWhole) (arg9 : Memref sig .tc .vmem S640x4096 .bf16) (harg9 : arg9.IsWhole)

/-- The activations from what the scratch's load found. -/
theorem act_of (x3 x4 : Vec Ideal S1x4096x256 .bf16) (H : Vec Ideal S640x4096 .bf16) (h : Fin 640 → Fin 4096 → EReal)
    (hH : ∀ (r : Fin 640) (k : Fin 4096), H (ix2 r k) = h r k) (r : Fin 640) (f : Fin 256) :
    k0_pay5 (F := Ideal) H
      (View.readAt (Elt Ideal) arg3.view (Rect.unit (s := S1x4096x256) ![0, 0, 0] S1x4096x256.size inb_S1x4096x256_S1x4096x256_0_0_0).toLoadRect (harg3.unread x3))
      (View.readAt (Elt Ideal) arg4.view (Rect.unit (s := S1x4096x256) ![0, 0, 0] S1x4096x256.size inb_S1x4096x256_S1x4096x256_0_0_0).toLoadRect (harg4.unread x4)) (ix2 r f)
      = Cert.Ffn.act (h r) (fun k => x3 (ix3 (0 : Fin 1) k f)) (fun k => x4 (ix3 (0 : Fin 1) k f)) := by
  refine (act_pay _ _ _ r f).trans ?_
  have e3 : (fun k => View.readAt (Elt Ideal) arg3.view (Rect.unit (s := S1x4096x256) ![0, 0, 0] S1x4096x256.size inb_S1x4096x256_S1x4096x256_0_0_0).toLoadRect (harg3.unread x3) (ix3 (0 : Fin 1) k f))
      = fun k => x3 (ix3 (0 : Fin 1) k f) := funext fun k =>
    (congrFun (View.readAt_full (s := S1x4096x256) arg3.view _ inb_S1x4096x256_S1x4096x256_0_0_0) _).trans (congrFun (harg3.read_unread x3) _)
  have e4 : (fun k => View.readAt (Elt Ideal) arg4.view (Rect.unit (s := S1x4096x256) ![0, 0, 0] S1x4096x256.size inb_S1x4096x256_S1x4096x256_0_0_0).toLoadRect (harg4.unread x4) (ix3 (0 : Fin 1) k f))
      = fun k => x4 (ix3 (0 : Fin 1) k f) := funext fun k =>
    (congrFun (View.readAt_full (s := S1x4096x256) arg4.view _ inb_S1x4096x256_S1x4096x256_0_0_0) _).trans (congrFun (harg4.read_unread x4) _)
  have e9 : (fun k => H (ix2 r k)) = h r := funext fun k => hH r k
  rw [e9]
  exact congrArg₂ (Cert.Ffn.act (h r)) e3 e4

/-- The panel's product at an index, from the activations. -/
theorem sum_of (x3 x4 : Vec Ideal S1x4096x256 .bf16) (x5 : Vec Ideal S1x256x4096 .bf16) (h : Fin 640 → Fin 4096 → EReal)
    (a : FVec Ideal S640x256 .bf16)
    (ha : ∀ (r : Fin 640) (f : Fin 256), a (ix2 r f) = Cert.Ffn.act (h r) (fun k => x3 (ix3 (0 : Fin 1) k f)) (fun k => x4 (ix3 (0 : Fin 1) k f)))
    (o : Nat) (ho : o + 512 ≤ 4096) (inb : ∀ a, (![0, 0, o] : Fin 3 → Nat) a + S1x256x512.size a ≤ S1x256x4096.size a) (r : Fin 640) (n : Fin 512) :
    (∑ f : Fin 256, a (ix2 r f)
        * View.readAt (Elt Ideal) arg5.view (Rect.unit (s := S1x256x4096) ![0, 0, o] S1x256x512.size inb).toLoadRect (harg5.unread x5) (ix3 (0 : Fin 1) f n) : EReal)
      = added x3 x4 x5 h r (⟨o + n.val, by omega⟩ : Fin 4096) :=
  Finset.sum_congr rfl fun f _ => congrArg₂ (fun a b : EReal => a * b) (ha r f)
    ((readAt_down arg5.view _ o ho inb f n).trans (congrFun (harg5.read_unread x5) _))

set_option maxHeartbeats 1000000 in
/-- A middle panel: the output block. -/
theorem next8 (hc1 : ¬ k0_cond1 i = 1#1) (x2 : Vec Ideal S1x4096 .f32) (x3 x4 : Vec Ideal S1x4096x256 .bf16) (x5 : Vec Ideal S1x256x4096 .bf16)
    (x6 : Vec Ideal S1x4096 .f32) (x7 x8 : Vec Ideal S640x4096 .f32) (x9 : Vec Ideal S640x4096 .bf16) (r : Fin 640) (n : Fin 4096) :
    arg8.view.read (Elt Ideal) (arg8.view.writes (Elt Ideal) (harg8.unread x8)
        (runNext (F := Ideal) c i arg2 harg2 arg3 harg3 arg4 harg4 arg5 harg5 arg6 harg6 arg7 harg7 arg8 harg8 arg9 harg9 hc1 x2 x3 x4 x5 x6 x7 x8 x9).1) (ix2 r n)
      = bstep x3 x4 x5 (fun r k => x9 (ix2 r k)) (fun r n => x8 (ix2 r n)) r n := by
  have hH : ∀ (r : Fin 640) (k : Fin 4096), View.readAt (Elt Ideal) arg9.view (Rect.unit (s := S640x4096) ![0, 0] S640x4096.size inb_S640x4096_S640x4096_0_0).toLoadRect (harg9.unread x9) (ix2 r k)
      = x9 (ix2 r k) := fun r k =>
    (congrFun (View.readAt_full (s := S640x4096) arg9.view _ inb_S640x4096_S640x4096_0_0) _).trans (congrFun (harg9.read_unread x9) _)
  have ha := act_of arg3 harg3 arg4 harg4 x3 x4 _ (fun r k => x9 (ix2 r k)) hH
  have h8 : ∀ (r : Fin 640) (n : Fin 4096), arg8.view.read (Elt Ideal) (harg8.unread x8) (ix2 r n) = x8 (ix2 r n) :=
    fun r n => congrFun (harg8.read_unread x8) _
  unfold runNext
  dsimp only
  refine (panel_step _ _ _ (fun r n => x8 (ix2 r n)) (bstep x3 x4 x5 (fun r k => x9 (ix2 r k)) (fun r n => x8 (ix2 r n))) 3584 4096 (by omega) rfl _ _ ?_
    (fun r n => (p7_pay _ _ _ r n).trans (congrArg₂ (fun a b : EReal => a + b) ((readAt_cols _ _ 3584 (by omega) _ r n).trans (h8 r _))
      (sum_of arg5 harg5 x3 x4 x5 _ _ ha 3584 (by omega) _ r n))) r n).trans ?_
  rotate_left
  · exact if_pos n.isLt
  clear r n
  intro r n
  refine (panel_step _ _ _ (fun r n => x8 (ix2 r n)) (bstep x3 x4 x5 (fun r k => x9 (ix2 r k)) (fun r n => x8 (ix2 r n))) 3072 3584 (by omega) rfl _ _ ?_
    (fun r n => (p6_pay _ _ _ r n).trans (congrArg₂ (fun a b : EReal => a + b) ((readAt_cols _ _ 3072 (by omega) _ r n).trans (h8 r _))
      (sum_of arg5 harg5 x3 x4 x5 _ _ ha 3072 (by omega) _ r n))) r n).trans ?_
  rotate_left
  · rfl
  clear r n
  intro r n
  refine (panel_step _ _ _ (fun r n => x8 (ix2 r n)) (bstep x3 x4 x5 (fun r k => x9 (ix2 r k)) (fun r n => x8 (ix2 r n))) 2560 3072 (by omega) rfl _ _ ?_
    (fun r n => (p5_pay _ _ _ r n).trans (congrArg₂ (fun a b : EReal => a + b) ((readAt_cols _ _ 2560 (by omega) _ r n).trans (h8 r _))
      (sum_of arg5 harg5 x3 x4 x5 _ _ ha 2560 (by omega) _ r n))) r n).trans ?_
  rotate_left
  · rfl
  clear r n
  intro r n
  refine (panel_step _ _ _ (fun r n => x8 (ix2 r n)) (bstep x3 x4 x5 (fun r k => x9 (ix2 r k)) (fun r n => x8 (ix2 r n))) 2048 2560 (by omega) rfl _ _ ?_
    (fun r n => (p4_pay _ _ _ r n).trans (congrArg₂ (fun a b : EReal => a + b) ((readAt_cols _ _ 2048 (by omega) _ r n).trans (h8 r _))
      (sum_of arg5 harg5 x3 x4 x5 _ _ ha 2048 (by omega) _ r n))) r n).trans ?_
  rotate_left
  · rfl
  clear r n
  intro r n
  refine (panel_step _ _ _ (fun r n => x8 (ix2 r n)) (bstep x3 x4 x5 (fun r k => x9 (ix2 r k)) (fun r n => x8 (ix2 r n))) 1536 2048 (by omega) rfl _ _ ?_
    (fun r n => (p3_pay _ _ _ r n).trans (congrArg₂ (fun a b : EReal => a + b) ((readAt_cols _ _ 1536 (by omega) _ r n).trans (h8 r _))
      (sum_of arg5 harg5 x3 x4 x5 _ _ ha 1536 (by omega) _ r n))) r n).trans ?_
  rotate_left
  · rfl
  clear r n
  intro r n
  refine (panel_step _ _ _ (fun r n => x8 (ix2 r n)) (bstep x3 x4 x5 (fun r k => x9 (ix2 r k)) (fun r n => x8 (ix2 r n))) 1024 1536 (by omega) rfl _ _ ?_
    (fun r n => (p2_pay _ _ _ r n).trans (congrArg₂ (fun a b : EReal => a + b) ((readAt_cols _ _ 1024 (by omega) _ r n).trans (h8 r _))
      (sum_of arg5 harg5 x3 x4 x5 _ _ ha 1024 (by omega) _ r n))) r n).trans ?_
  rotate_left
  · rfl
  clear r n
  intro r n
  refine (panel_step _ _ _ (fun r n => x8 (ix2 r n)) (bstep x3 x4 x5 (fun r k => x9 (ix2 r k)) (fun r n => x8 (ix2 r n))) 512 1024 (by omega) rfl _ _ ?_
    (fun r n => (p1_pay _ _ _ _ _ r n).trans (congrArg₂ (fun a b : EReal => a + b) ((readAt_cols _ _ 512 (by omega) _ r n).trans (h8 r _))
      (sum_of arg5 harg5 x3 x4 x5 _ _ ha 512 (by omega) _ r n))) r n).trans ?_
  rotate_left
  · rfl
  clear r n
  intro r n
  refine (panel_step _ _ _ (fun r n => x8 (ix2 r n)) (bstep x3 x4 x5 (fun r k => x9 (ix2 r k)) (fun r n => x8 (ix2 r n))) 0 512 (by omega) rfl _ _ ?_
    (fun r n => (p0_pay _ _ _ _ _ r n).trans (congrArg₂ (fun a b : EReal => a + b) ((readAt_cols _ _ 0 (by omega) _ r n).trans (h8 r _))
      (sum_of arg5 harg5 x3 x4 x5 _ _ ha 0 (by omega) _ r n))) r n).trans ?_
  rotate_left
  · rfl
  clear r n
  intro r n
  rw [if_neg (Nat.not_lt_zero _)]
  exact h8 r n

/-- The first panel: the scratch. -/
theorem first9 (hc1 : k0_cond1 i = 1#1) (x2 : Vec Ideal S1x4096 .f32) (x3 x4 : Vec Ideal S1x4096x256 .bf16) (x5 : Vec Ideal S1x256x4096 .bf16)
    (x6 : Vec Ideal S1x4096 .f32) (x7 x8 : Vec Ideal S640x4096 .f32) (x9 : Vec Ideal S640x4096 .bf16) (r : Fin 640) (n : Fin 4096) :
    arg9.view.read (Elt Ideal) (arg9.view.writes (Elt Ideal) (harg9.unread x9)
        (runFirst (F := Ideal) c i arg2 harg2 arg3 harg3 arg4 harg4 arg5 harg5 arg6 harg6 arg7 harg7 arg8 harg8 arg9 harg9 hc1 x2 x3 x4 x5 x6 x7 x8 x9).2.1) (ix2 r n)
      = normed x7 x2 r n := by
  unfold runFirst
  exact rows9 Variants.none c none i arg2 harg2 arg3 harg3 arg4 harg4 arg5 harg5 arg6 harg6 arg7 harg7 arg8 harg8 arg9 harg9 hc1 x2 x7 arg9.view _ 10 le_rfl r n r.isLt

set_option maxHeartbeats 1000000 in
/-- The first panel: the output block. -/
theorem first8 (hc1 : k0_cond1 i = 1#1) (x2 : Vec Ideal S1x4096 .f32) (x3 x4 : Vec Ideal S1x4096x256 .bf16) (x5 : Vec Ideal S1x256x4096 .bf16)
    (x6 : Vec Ideal S1x4096 .f32) (x7 x8 : Vec Ideal S640x4096 .f32) (x9 : Vec Ideal S640x4096 .bf16) (r : Fin 640) (n : Fin 4096) :
    arg8.view.read (Elt Ideal) (arg8.view.writes (Elt Ideal) (harg8.unread x8)
        (runFirst (F := Ideal) c i arg2 harg2 arg3 harg3 arg4 harg4 arg5 harg5 arg6 harg6 arg7 harg7 arg8 harg8 arg9 harg9 hc1 x2 x3 x4 x5 x6 x7 x8 x9).1) (ix2 r n)
      = bstep x3 x4 x5 (normed x7 x2) (fun r n => x7 (ix2 r n)) r n := by
  have hH : ∀ (r : Fin 640) (k : Fin 4096), View.readAt (Elt Ideal) arg9.view (Rect.unit (s := S640x4096) ![0, 0] S640x4096.size inb_S640x4096_S640x4096_0_0).toLoadRect
      (arg9.view.writes (Elt Ideal) (harg9.unread x9) (pb_k0_t1 (F := Ideal) Variants.none c none i arg2 harg2 arg3 harg3 arg4 harg4 arg5 harg5 arg6 harg6 arg7 harg7 arg8 harg8 arg9 harg9 hc1 (harg2.unread x2) (harg7.unread x7) (Scf.trips k0_t1_loop.lb k0_t1_loop.ub k0_t1_loop.st)).2) (ix2 r k)
      = normed x7 x2 r k := fun r k =>
    (congrFun (View.readAt_full (s := S640x4096) arg9.view _ inb_S640x4096_S640x4096_0_0) _).trans
      (rows9 Variants.none c none i arg2 harg2 arg3 harg3 arg4 harg4 arg5 harg5 arg6 harg6 arg7 harg7 arg8 harg8 arg9 harg9 hc1 x2 x7 arg9.view _ 10 le_rfl r k r.isLt)
  have ha := act_of arg3 harg3 arg4 harg4 x3 x4 _ (normed x7 x2) hH
  unfold runFirst
  dsimp only
  refine (panel_next _ _ _ (fun r n => x7 (ix2 r n)) (added x3 x4 x5 (normed x7 x2)) 3584 4096 (by omega) rfl _ _ ?_
    (fun r n => (p7_pay _ _ _ r n).trans (congrArg₂ (fun a b : EReal => a + b) (readAt_cols _ _ 3584 (by omega) _ r n)
      (sum_of arg5 harg5 x3 x4 x5 _ _ ha 3584 (by omega) _ r n))) r n).trans ?_
  rotate_left
  · exact if_pos n.isLt
  clear r n
  intro r n
  refine (panel_next _ _ _ (fun r n => x7 (ix2 r n)) (added x3 x4 x5 (normed x7 x2)) 3072 3584 (by omega) rfl _ _ ?_
    (fun r n => (p6_pay _ _ _ r n).trans (congrArg₂ (fun a b : EReal => a + b) (readAt_cols _ _ 3072 (by omega) _ r n)
      (sum_of arg5 harg5 x3 x4 x5 _ _ ha 3072 (by omega) _ r n))) r n).trans ?_
  rotate_left
  · rfl
  clear r n
  intro r n
  refine (panel_next _ _ _ (fun r n => x7 (ix2 r n)) (added x3 x4 x5 (normed x7 x2)) 2560 3072 (by omega) rfl _ _ ?_
    (fun r n => (p5_pay _ _ _ r n).trans (congrArg₂ (fun a b : EReal => a + b) (readAt_cols _ _ 2560 (by omega) _ r n)
      (sum_of arg5 harg5 x3 x4 x5 _ _ ha 2560 (by omega) _ r n))) r n).trans ?_
  rotate_left
  · rfl
  clear r n
  intro r n
  refine (panel_next _ _ _ (fun r n => x7 (ix2 r n)) (added x3 x4 x5 (normed x7 x2)) 2048 2560 (by omega) rfl _ _ ?_
    (fun r n => (p4_pay _ _ _ r n).trans (congrArg₂ (fun a b : EReal => a + b) (readAt_cols _ _ 2048 (by omega) _ r n)
      (sum_of arg5 harg5 x3 x4 x5 _ _ ha 2048 (by omega) _ r n))) r n).trans ?_
  rotate_left
  · rfl
  clear r n
  intro r n
  refine (panel_next _ _ _ (fun r n => x7 (ix2 r n)) (added x3 x4 x5 (normed x7 x2)) 1536 2048 (by omega) rfl _ _ ?_
    (fun r n => (p3_pay _ _ _ r n).trans (congrArg₂ (fun a b : EReal => a + b) (readAt_cols _ _ 1536 (by omega) _ r n)
      (sum_of arg5 harg5 x3 x4 x5 _ _ ha 1536 (by omega) _ r n))) r n).trans ?_
  rotate_left
  · rfl
  clear r n
  intro r n
  refine (panel_next _ _ _ (fun r n => x7 (ix2 r n)) (added x3 x4 x5 (normed x7 x2)) 1024 1536 (by omega) rfl _ _ ?_
    (fun r n => (p2_pay _ _ _ r n).trans (congrArg₂ (fun a b : EReal => a + b) (readAt_cols _ _ 1024 (by omega) _ r n)
      (sum_of arg5 harg5 x3 x4 x5 _ _ ha 1024 (by omega) _ r n))) r n).trans ?_
  rotate_left
  · rfl
  clear r n
  intro r n
  refine (panel_next _ _ _ (fun r n => x7 (ix2 r n)) (added x3 x4 x5 (normed x7 x2)) 512 1024 (by omega) rfl _ _ ?_
    (fun r n => (p1_pay _ _ _ _ _ r n).trans (congrArg₂ (fun a b : EReal => a + b) (readAt_cols _ _ 512 (by omega) _ r n)
      (sum_of arg5 harg5 x3 x4 x5 _ _ ha 512 (by omega) _ r n))) r n).trans ?_
  rotate_left
  · rfl
  clear r n
  intro r n
  refine (panel_next _ _ _ (fun r n => x7 (ix2 r n)) (added x3 x4 x5 (normed x7 x2)) 0 512 (by omega) rfl _ _ ?_
    (fun r n => (p0_pay _ _ _ _ _ r n).trans (congrArg₂ (fun a b : EReal => a + b) (readAt_cols _ _ 0 (by omega) _ r n)
      (sum_of arg5 harg5 x3 x4 x5 _ _ ha 0 (by omega) _ r n))) r n).trans ?_
  rotate_left
  · rfl
  clear r n
  intro r n
  rw [if_neg (Nat.not_lt_zero _)]
  exact rows8 Variants.none c none i arg2 harg2 arg3 harg3 arg4 harg4 arg5 harg5 arg6 harg6 arg7 harg7 arg8 harg8 arg9 harg9 hc1 x2 x7 arg8.view _ 10 le_rfl r n r.isLt

end Cert.KernelIdeal.Ffn

end
-- ==== Proof.Ffn.PlainIdeal.Frame.lean ====
/- The feed-forward call at exact values: what the accumulator and the normalized rows hold after every grid point, and the run of the whole call. -/
module

public import proofs.«01_k».proof.Proof.Ffn.PlainIdeal.Values
public import Idealize.ShloMosaic.Lib.Claim

@[expose] public section

set_option maxRecDepth 16384

noncomputable section

namespace Cert.KernelIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Idealize.ShloMosaic.ValueIdx
open Cert.Common (rowNorm)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- The first panel of a row block is at the points ≡ 0 (mod 43). -/
theorem hcond1 : ∀ t : Fin cfg0.N, k0_cond1 (grid0.coords t) = 1#1 ↔ t.val % 43 = 0 :=
  (fun t => by
    have ht : t.val < 559 := Nat.lt_of_lt_of_eq t.isLt N_0
    have e0 : (grid0.coords t 0).val = t.val / 43 % 13 := Pipeline.Grid.coords_val t 0 (by decide) rfl
    have e1 : (grid0.coords t 1).val = t.val / 1 % 43 := Pipeline.Grid.coords_val t 1 (by decide) rfl
    simp only [k0_cond1, e0, e1]
    word_cmp
   : ∀ t : Fin grid0.N, k0_cond1 (grid0.coords t) = 1#1 ↔ t.val % 43 = 0)

/-! Each window's staging buffer at a point, and the scratch. -/
abbrev ms0 (t : Fin cfg0.N) : Memref sig .tc .vmem S1x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x4096x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x4096x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256x4096 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x4096 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S640x4096 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S640x4096 .f32 := win0_6.stage (cfg0.slots t 6)
abbrev hs6 (t : Fin cfg0.N) : (ms6 t).IsWhole := hstage0_6 ((cfg0.slots t 6).cast nbuf0_6)
abbrev scr : Memref sig .tc .vmem S640x4096 .bf16 := Memref.whole cc0_scratch0

/-- The invariant of the region's entry and exit, with the scratch as a buffer owned at some contents. -/
theorem PhiA_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-! The blocks the body sees at a point: rows, gain, panels of the three weight matrices, final gain. -/
abbrev bx (c : Dev nD) (t : Fin cfg0.N) : Vec Ideal S640x4096 .f32 := iblk m c 5 t
abbrev bg (c : Dev nD) (t : Fin cfg0.N) : Vec Ideal S1x4096 .f32 := iblk m c 0 t
abbrev bwg (c : Dev nD) (t : Fin cfg0.N) : Vec Ideal S1x4096x256 .bf16 := iblk m c 1 t
abbrev bwu (c : Dev nD) (t : Fin cfg0.N) : Vec Ideal S1x4096x256 .bf16 := iblk m c 2 t
abbrev bwd (c : Dev nD) (t : Fin cfg0.N) : Vec Ideal S1x256x4096 .bf16 := iblk m c 3 t
abbrev bgf (c : Dev nD) (t : Fin cfg0.N) : Vec Ideal S1x4096 .f32 := iblk m c 4 t

/-- The accumulator and the normalized rows after point `n`: at the first panel of a row block both start from the rows, afterwards
    the rows stay and the panel's share is added. -/
def st (c : Dev nD) : (n : ℕ) → n < cfg0.N → (Fin 640 → Fin 4096 → EReal) × (Fin 640 → Fin 4096 → EReal)
  | 0, hn => (bstep (bwg m c ⟨0, hn⟩) (bwu m c ⟨0, hn⟩) (bwd m c ⟨0, hn⟩) (normed (bx m c ⟨0, hn⟩) (bg m c ⟨0, hn⟩)) (fun r n => bx m c ⟨0, hn⟩ (ix2 r n)),
      normed (bx m c ⟨0, hn⟩) (bg m c ⟨0, hn⟩))
  | k + 1, hn =>
    if (k + 1) % 43 = 0 then
      (bstep (bwg m c ⟨k + 1, hn⟩) (bwu m c ⟨k + 1, hn⟩) (bwd m c ⟨k + 1, hn⟩) (normed (bx m c ⟨k + 1, hn⟩) (bg m c ⟨k + 1, hn⟩)) (fun r n => bx m c ⟨k + 1, hn⟩ (ix2 r n)),
        normed (bx m c ⟨k + 1, hn⟩) (bg m c ⟨k + 1, hn⟩))
    else
      (bstep (bwg m c ⟨k + 1, hn⟩) (bwu m c ⟨k + 1, hn⟩) (bwd m c ⟨k + 1, hn⟩) (st c k (Nat.lt_of_succ_lt hn)).2 (st c k (Nat.lt_of_succ_lt hn)).1,
        (st c k (Nat.lt_of_succ_lt hn)).2)

theorem st_first (c : Dev nD) (t : Fin cfg0.N) (h0 : t.val % 43 = 0) :
    st m c t.val t.isLt = (bstep (bwg m c t) (bwu m c t) (bwd m c t) (normed (bx m c t) (bg m c t)) (fun r n => bx m c t (ix2 r n)), normed (bx m c t) (bg m c t)) := by
  obtain ⟨n, hn⟩ := t
  cases n with
  | zero => exact rfl
  | succ n => exact (if_pos h0).trans rfl

theorem st_next (c : Dev nD) (t : Fin cfg0.N) (h0 : ¬ t.val % 43 = 0) :
    st m c t.val t.isLt = (bstep (bwg m c t) (bwu m c t) (bwd m c t) (st m c (t.val - 1) (Nat.lt_of_le_of_lt (Nat.sub_le _ _) t.isLt)).2 (st m c (t.val - 1) (Nat.lt_of_le_of_lt (Nat.sub_le _ _) t.isLt)).1,
      (st m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (if_neg h0).trans rfl

/-- The normalized rows as the scratch holds them after point `n`. -/
def scrAt (c : Dev nD) (n : ℕ) (hn : n < cfg0.N) : Vec Ideal S640x4096 .bf16 := fun y => (st m c n hn).2 (y 0) (y 1)

/-- The output block after point `n`: the accumulator. -/
def outAt (c : Dev nD) (n : ℕ) (hn : n < cfg0.N) : Vec Ideal S640x4096 .f32 := fun y => (st m c n hn).1 (y 0) (y 1)

theorem outAt_mid (c : Dev nD) (n : ℕ) (hn : n < cfg0.N) (h : ¬ n % 43 = 42) : outAt m c n hn = fun y => (st m c n hn).1 (y 0) (y 1) := rfl

/-- The invariant before position `n`: at entry the scratch at anything, afterwards at the rows the point before left. -/
def PhiS (c : Dev nD) : (n : ℕ) → n ≤ cfg0.N → sProp 𝕄
  | 0, _ => Pipeline.ΦA spec0 c
  | n + 1, hn => iprop(iprop(owns (c : Thread nD τ) scr fullShare (scrAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scr fullShare (scrAt m c n hn)) ∗ (∃ r, prngReg c r)) := rfl

theorem PhiS_pos (c : Dev nD) (n : ℕ) (h : n ≤ cfg0.N) (hz : n ≠ 0) :
    PhiS m c n h = iprop(iprop(owns (c : Thread nD τ) scr fullShare (scrAt m c (n - 1) (by omega))) ∗ (∃ r, prngReg c r)) := by
  cases n with
  | zero => exact absurd rfl hz
  | succ n => rfl

/-- Before any point the scratch is owned at some contents. -/
theorem PhiS_any (c : Dev nD) (n : ℕ) (h : n ≤ cfg0.N) :
    PhiS m c n h ⊢ iprop(iprop((∃ d, owns (c : Thread nD τ) scr fullShare d)) ∗ (∃ r, prngReg c r)) := by
  by_cases hz : n = 0
  · rw [PhiS_zero m c n h hz, PhiA_eq]
    try exact Idealize.SL.BI.Entails.refl _
  · rw [PhiS_pos m c n h hz]
    iintro ⟨HS, Hg⟩
    isplitl [HS]
    · iexists _; iexact HS
    iexact Hg

/-- The proof data: the arrays as the region finds them, an input's buffer at its block, the output's at `outAt`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t.val t.isLt := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- Inside a row block the output's buffer holds what the point before left: the accumulator. -/
theorem before0_6 (c : Dev nD) (t : Fin cfg0.N) (h0 : ¬ t.val % 43 = 0) (d) :
    (dats m 0 c).before 6 t d = fun y => (st m c (t.val - 1) (Nat.lt_of_le_of_lt (Nat.sub_le _ _) t.isLt)).1 (y 0) (y 1) := by
  have hm : ¬ (t.val - 1) % 43 = 42 := by omega
  refine ((dats m 0 c).before_out_kept 6 rfl t (by intro h; rw [h] at h0; exact h0 rfl) ?_ (fun _ => rfl) (fun _ _ => rfl) d).trans ?_
  · exact Bool.eq_false_iff.mpr fun h => hm ((flush0_6 ⟨t.val - 1, Nat.lt_of_le_of_lt (Nat.sub_le _ _) t.isLt⟩).mp h)
  · exact (after0_6 m c ⟨t.val - 1, Nat.lt_of_le_of_lt (Nat.sub_le _ _) t.isLt⟩).trans (outAt_mid m c _ _ hm)

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

/-- What the run leaves in the two buffers at the first panel, as `st` has it. -/
theorem first_out (c : Dev nD) (t : Fin cfg0.N) (h0 : t.val % 43 = 0) (x8 : Vec Ideal S640x4096 .f32) (x9 : Vec Ideal S640x4096 .bf16) :
    (ms6 t).view.read (Elt Ideal) ((ms6 t).view.writes (Elt Ideal) ((hs6 t).unread x8) (runFirst (F := Ideal) c (grid0.coords t) (ms0 t) (hs0 t) (ms1 t) (hs1 t) (ms2 t) (hs2 t) (ms3 t) (hs3 t) (ms4 t) (hs4 t) (ms5 t) (hs5 t) (ms6 t) (hs6 t) scr (Memref.isWhole_whole _) ((hcond1 t).mpr h0) (bg m c t) (bwg m c t) (bwu m c t) (bwd m c t) (bgf m c t) (bx m c t) x8 x9).1) = outAt m c t.val t.isLt := by
  rw [outAt_mid m c t.val t.isLt (by omega), st_first m c t h0]
  funext y; rw [eq_ix2 y]
  exact first8 c (grid0.coords t) (ms0 t) (hs0 t) (ms1 t) (hs1 t) (ms2 t) (hs2 t) (ms3 t) (hs3 t) (ms4 t) (hs4 t) (ms5 t) (hs5 t) (ms6 t) (hs6 t) scr (Memref.isWhole_whole _) ((hcond1 t).mpr h0) (bg m c t) (bwg m c t) (bwu m c t) (bwd m c t) (bgf m c t) (bx m c t) x8 x9 (y 0) (y 1)

theorem first_scr (c : Dev nD) (t : Fin cfg0.N) (h0 : t.val % 43 = 0) (x8 : Vec Ideal S640x4096 .f32) (x9 : Vec Ideal S640x4096 .bf16) :
    scr.view.read (Elt Ideal) (scr.view.writes (Elt Ideal) ((Memref.isWhole_whole _).unread x9) (runFirst (F := Ideal) c (grid0.coords t) (ms0 t) (hs0 t) (ms1 t) (hs1 t) (ms2 t) (hs2 t) (ms3 t) (hs3 t) (ms4 t) (hs4 t) (ms5 t) (hs5 t) (ms6 t) (hs6 t) scr (Memref.isWhole_whole _) ((hcond1 t).mpr h0) (bg m c t) (bwg m c t) (bwu m c t) (bwd m c t) (bgf m c t) (bx m c t) x8 x9).2.1) = scrAt m c t.val t.isLt := by
  unfold scrAt; rw [st_first m c t h0]
  funext y; rw [eq_ix2 y]
  exact first9 c (grid0.coords t) (ms0 t) (hs0 t) (ms1 t) (hs1 t) (ms2 t) (hs2 t) (ms3 t) (hs3 t) (ms4 t) (hs4 t) (ms5 t) (hs5 t) (ms6 t) (hs6 t) scr (Memref.isWhole_whole _) ((hcond1 t).mpr h0) (bg m c t) (bwg m c t) (bwu m c t) (bwd m c t) (bgf m c t) (bx m c t) x8 x9 (y 0) (y 1)

/-- What the run leaves in the output's buffer at a later panel. -/
theorem next_out (c : Dev nD) (t : Fin cfg0.N) (h0 : ¬ t.val % 43 = 0) :
    (ms6 t).view.read (Elt Ideal) ((ms6 t).view.writes (Elt Ideal) ((hs6 t).unread (fun y => (st m c (t.val - 1) (Nat.lt_of_le_of_lt (Nat.sub_le _ _) t.isLt)).1 (y 0) (y 1))) (runNext (F := Ideal) c (grid0.coords t) (ms0 t) (hs0 t) (ms1 t) (hs1 t) (ms2 t) (hs2 t) (ms3 t) (hs3 t) (ms4 t) (hs4 t) (ms5 t) (hs5 t) (ms6 t) (hs6 t) scr (Memref.isWhole_whole _) (fun h => h0 ((hcond1 t).mp h)) (bg m c t) (bwg m c t) (bwu m c t) (bwd m c t) (bgf m c t) (bx m c t) (fun y => (st m c (t.val - 1) (Nat.lt_of_le_of_lt (Nat.sub_le _ _) t.isLt)).1 (y 0) (y 1)) (scrAt m c (t.val - 1) (Nat.lt_of_le_of_lt (Nat.sub_le _ _) t.isLt))).1) = outAt m c t.val t.isLt := by
  unfold outAt
  rw [st_next m c t h0]
  funext y; rw [eq_ix2 y]
  exact next8 c (grid0.coords t) (ms0 t) (hs0 t) (ms1 t) (hs1 t) (ms2 t) (hs2 t) (ms3 t) (hs3 t) (ms4 t) (hs4 t) (ms5 t) (hs5 t) (ms6 t) (hs6 t) scr (Memref.isWhole_whole _) (fun h => h0 ((hcond1 t).mp h)) (bg m c t) (bwg m c t) (bwu m c t) (bwd m c t) (bgf m c t) (bx m c t) (fun y => (st m c (t.val - 1) (Nat.lt_of_le_of_lt (Nat.sub_le _ _) t.isLt)).1 (y 0) (y 1)) (scrAt m c (t.val - 1) (Nat.lt_of_le_of_lt (Nat.sub_le _ _) t.isLt)) (y 0) (y 1)

/-- Past the first panel the normalized rows stay. -/
theorem next_scr (c : Dev nD) (t : Fin cfg0.N) (h0 : ¬ t.val % 43 = 0) :
    (scrAt m c (t.val - 1) (Nat.lt_of_le_of_lt (Nat.sub_le _ _) t.isLt)) = scrAt m c t.val t.isLt := by
  unfold scrAt; rw [st_next m c t h0]

set_option maxHeartbeats 3200000 in
/-- The body at the first panel of a row block. -/
theorem sound_first (c : Dev nD) (t : Fin cfg0.N) (h0 : t.val % 43 = 0) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ, PhiS_castSucc m c t]
  refine (sep_mono_left (PhiS_any m c t.val (Nat.le_of_lt t.isLt))).trans ?_
  iintro ⟨⟨⟨%s0, HS⟩, Hg⟩, Ho, ⟨%d0, H0⟩, ⟨%d1, H1⟩, ⟨%d2, H2⟩, ⟨%d3, H3⟩, ⟨%d4, H4⟩, ⟨%d5, H5⟩, ⟨%d6, H6⟩⟩
  iapply ((runFirst (F := Ideal) c (grid0.coords t) (ms0 t) (hs0 t) (ms1 t) (hs1 t) (ms2 t) (hs2 t) (ms3 t) (hs3 t) (ms4 t) (hs4 t) (ms5 t) (hs5 t) (ms6 t) (hs6 t) scr (Memref.isWhole_whole _) ((hcond1 t).mpr h0) (bg m c t) (bwg m c t) (bwu m c t) (bwd m c t) (bgf m c t) (bx m c t) ((dats m 0 c).before 6 t d6) s0).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, H4, H5, H6, HS⟩
  isplitl [HS Hg]
  · isplitl [HS]
    · unfold owns; iexists _; isplitr
      swap; · iexact HS
      ipureintro; exact first_scr m c t h0 _ _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact first_out m c t h0 _ _

set_option maxHeartbeats 3200000 in
/-- The body at a later panel. -/
theorem sound_next (c : Dev nD) (t : Fin cfg0.N) (h0 : ¬ t.val % 43 = 0) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ, PhiS_castSucc m c t]
  rw [PhiS_pos m c t.val _ (by intro h; rw [h] at h0; exact h0 rfl)]
  simp only [before0_6 m c t h0]
  iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
  iapply ((runNext (F := Ideal) c (grid0.coords t) (ms0 t) (hs0 t) (ms1 t) (hs1 t) (ms2 t) (hs2 t) (ms3 t) (hs3 t) (ms4 t) (hs4 t) (ms5 t) (hs5 t) (ms6 t) (hs6 t) scr (Memref.isWhole_whole _) (fun h => h0 ((hcond1 t).mp h)) (bg m c t) (bwg m c t) (bwu m c t) (bwd m c t) (bgf m c t) (bx m c t) (fun y => (st m c (t.val - 1) (Nat.lt_of_le_of_lt (Nat.sub_le _ _) t.isLt)).1 (y 0) (y 1)) (scrAt m c (t.val - 1) (Nat.lt_of_le_of_lt (Nat.sub_le _ _) t.isLt))).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, H4, H5, H6, HS⟩
  isplitl [HS Hg]
  · isplitl [HS]
    · rw [← next_scr m c t h0]; iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact next_out m c t h0

/-- The library's body obligation. -/
theorem body_obligation (c : Dev nD) : BodyObligation (dats m 0 c) (defs₀ (F := Ideal)) Variants.none () Set.univ := fun t => by
  rw [bigSep_W0, bigSep_W0, defs₀_row]
  by_cases h0 : t.val % 43 = 0
  · exact triple_restated (sound_first m c t h0) rfl .rfl fun _ => .rfl
  exact triple_restated (sound_next m c t h0) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA_eq]
  exact PhiS_any m c _ _

set_option backward.isDefEq.respectTransparency.types false in
/-- The run: every array at what the proof data gives it, the semaphores at zero. -/
theorem run_quiet : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end as they were. -/
theorem unchanged : θ_run defs (onTc (τ := τ) (main (F := Ideal))) ⟨m, fun _ => 0, ρ⟩ (fun r => ∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) ((θ_run defs _ _).mono (fun _ h => h.1) (run_quiet m ρ))

end Cert.KernelIdeal.Ffn

end
-- ==== Proof.Ffn.Layer.lean ====
/- The gated feed-forward layer over whole arrays as formulas, and its sum over the activations by panels. -/
module

public import proofs.«01_k».proof.Proof.Ffn.Spec

@[expose] public section

noncomputable section

namespace Cert.Ffn

open Idealize.ShloMosaic Idealize.ShloMosaic.ValueIdx
open Cert.Common (rowNorm)

/-- What activation `f` of row `r` adds to column `n`. -/
def share (x : Fin 8320 → Fin 4096 → EReal) (g : Fin 4096 → EReal) (wg wu : Fin 4096 → Fin 11008 → EReal) (wd : Fin 11008 → Fin 4096 → EReal)
    (r : Fin 8320) (n : Fin 4096) (f : Fin 11008) : EReal :=
  act (rowNorm (x r) g) (fun k => wg k f) (fun k => wu k f) * wd f n

/-- Row `r`, column `n` of the layer: the row plus every activation's share. -/
def layer (x : Fin 8320 → Fin 4096 → EReal) (g : Fin 4096 → EReal) (wg wu : Fin 4096 → Fin 11008 → EReal) (wd : Fin 11008 → Fin 4096 → EReal)
    (r : Fin 8320) (n : Fin 4096) : EReal :=
  x r n + ∑ f : Fin 11008, share x g wg wu wd r n f

/-- The layer over the arrays. -/
def layerOf (x : (⟨2, ![8320, 4096]⟩ : Shape).Idx → EReal) (g : (⟨1, ![4096]⟩ : Shape).Idx → EReal)
    (wg wu : (⟨3, ![1, 4096, 11008]⟩ : Shape).Idx → EReal) (wd : (⟨3, ![1, 11008, 4096]⟩ : Shape).Idx → EReal) : Fin 8320 → Fin 4096 → EReal :=
  layer (fun r n => x (ix2 r n)) (fun k => g (ix1 k)) (fun k f => wg (ix3 (0 : Fin 1) k f)) (fun k f => wu (ix3 (0 : Fin 1) k f))
    (fun f n => wd (ix3 (0 : Fin 1) f n))

/-- The last layer over the arrays: the row normalized once more. -/
def lastOf (x : (⟨2, ![8320, 4096]⟩ : Shape).Idx → EReal) (g : (⟨1, ![4096]⟩ : Shape).Idx → EReal)
    (wg wu : (⟨3, ![1, 4096, 11008]⟩ : Shape).Idx → EReal) (wd : (⟨3, ![1, 11008, 4096]⟩ : Shape).Idx → EReal)
    (gf : (⟨1, ![4096]⟩ : Shape).Idx → EReal) (r : Fin 8320) : Fin 4096 → EReal :=
  rowNorm (layerOf x g wg wu wd r) (fun k => gf (ix1 k))

/-- A family over the 11008 activations continued by zero. -/
def ext (a : Fin 11008 → EReal) (f : ℕ) : EReal := if h : f < 11008 then a ⟨f, h⟩ else 0

/-- The sum of the first `j` panels. -/
def psum (a : Fin 11008 → EReal) (j : ℕ) : EReal := ∑ f ∈ Finset.range (256 * j), ext a f

theorem psum_zero (a : Fin 11008 → EReal) : psum a 0 = 0 := rfl

theorem psum_succ (a : Fin 11008 → EReal) (j : ℕ) : psum a (j + 1) = psum a j + ∑ f : Fin 256, ext a (256 * j + f.val) := by
  unfold psum
  rw [Nat.mul_succ, Finset.sum_range_add, Finset.sum_range (fun f => ext a (256 * j + f))]

/-- All 43 panels are all activations. -/
theorem psum_all (a : Fin 11008 → EReal) : psum a 43 = ∑ f : Fin 11008, a f := by
  unfold psum
  rw [show 256 * 43 = 11008 from rfl, Finset.sum_range]
  exact Finset.sum_congr rfl fun f _ => dif_pos f.isLt

end Cert.Ffn

end
-- ==== Proof.Ffn.PlainIdeal.Kernel.lean ====
/- The feed-forward call at exact values: after the last panel of a row block the accumulator is the layer's formula, so the
   result array is the formula of the argument arrays. -/
module

public import proofs.«01_k».proof.Proof.Ffn.PlainIdeal.Frame
public import proofs.«01_k».proof.Proof.Ffn.Layer

@[expose] public section

noncomputable section

namespace Cert.KernelIdeal.Ffn

open Idealize.ShloMosaic Idealize.ShloMosaic.TcCoe Idealize.ShloMosaic.ValueIdx Idealize.SL.Sem
open Cert.KernelIdeal Cert.KernelIdeal.Gen
open Cert.Common (rowNorm)
open Cert.Ffn (share layer layerOf lastOf psum psum_zero psum_succ psum_all ext act step)

variable (m : (ℓ : Loc nD τ sig) → Buf (Elt Ideal) ℓ)

/-- Which block of its array each window reads or writes at point `t`. -/
theorem index_facts : ∀ t : Fin cfg0.N,
    (win0_0.index t 0 = 0 ∧ win0_0.index t 1 = 0)
    ∧ (win0_1.index t 0 = 0 ∧ win0_1.index t 1 = 0 ∧ win0_1.index t 2 = t.val % 43)
    ∧ (win0_2.index t 0 = 0 ∧ win0_2.index t 1 = 0 ∧ win0_2.index t 2 = t.val % 43)
    ∧ (win0_3.index t 0 = 0 ∧ win0_3.index t 1 = t.val % 43 ∧ win0_3.index t 2 = 0)
    ∧ (win0_4.index t 0 = 0 ∧ win0_4.index t 1 = 0)
    ∧ (win0_5.index t 0 = t.val / 43 ∧ win0_5.index t 1 = 0)
    ∧ (win0_6.index t 0 = t.val / 43 ∧ win0_6.index t 1 = 0) :=
  (by decide +kernel : ∀ t : Fin grid0.N, _)

/-- The array row that row `r` of point `t`'s blocks is. -/
def row (t : Fin cfg0.N) (r : Fin 640) : Fin 8320 :=
  ⟨t.val / 43 * 640 + r.val, by have h := lt_of_lt_of_eq t.isLt (show cfg0.N = 559 from N_0); omega⟩
/-- The activation that activation `f` of point `t`'s panels is. -/
def pan (t : Fin cfg0.N) (f : Fin 256) : Fin 11008 :=
  ⟨t.val % 43 * 256 + f.val, by omega⟩

/-! The argument arrays, as families over rows and columns. -/
abbrev ax (c : Dev nD) (r : Fin 8320) (n : Fin 4096) : EReal := m ((c : Thread nD τ).loc main_arg0) (ix2 r n)
abbrev ag (c : Dev nD) (k : Fin 4096) : EReal := m ((c : Thread nD τ).loc main_arg1) (ix1 k)
abbrev awg (c : Dev nD) (k : Fin 4096) (f : Fin 11008) : EReal := m ((c : Thread nD τ).loc main_arg2) (ix3 (0 : Fin 1) k f)
abbrev awu (c : Dev nD) (k : Fin 4096) (f : Fin 11008) : EReal := m ((c : Thread nD τ).loc main_arg3) (ix3 (0 : Fin 1) k f)
abbrev awd (c : Dev nD) (f : Fin 11008) (n : Fin 4096) : EReal := m ((c : Thread nD τ).loc main_arg4) (ix3 (0 : Fin 1) f n)
abbrev agf (c : Dev nD) (k : Fin 4096) : EReal := m ((c : Thread nD τ).loc main_arg5) (ix1 k)

/-- The layer of the argument arrays. -/
abbrev lay (c : Dev nD) : Fin 8320 → Fin 4096 → EReal :=
  layerOf (m ((c : Thread nD τ).loc main_arg0)) (m ((c : Thread nD τ).loc main_arg1)) (m ((c : Thread nD τ).loc main_arg2))
    (m ((c : Thread nD τ).loc main_arg3)) (m ((c : Thread nD τ).loc main_arg4))

/-- The result array's contents by the formula. -/
abbrev result (c : Dev nD) : Buf (Elt Ideal) ((c : Thread nD τ).loc main_v2) := fun i => lay m c (i 0) (i 1)

theorem bx_apply (c : Dev nD) (t : Fin cfg0.N) (r : Fin 640) (n : Fin 4096) :
    bx m c t (ix2 r n) = ax m c (row t r) n := by
  obtain ⟨-, -, -, -, -, ⟨e0, e1⟩, -⟩ := index_facts t
  unfold bx iblk
  rw [View.read_apply]
  show m _ _ = m _ _
  congr 1
  funext a; apply Fin.ext
  match a with
  | ⟨0, _⟩ => show win0_5.index t 0 * 640 + 1 * r.val = t.val / 43 * 640 + r.val; rw [e0]; omega
  | ⟨1, _⟩ => show win0_5.index t 1 * 4096 + 1 * n.val = n.val; rw [e1]; omega

/-- The gain as the call finds it: the argument reshaped to one row. -/
theorem v0_row (c : Dev nD) (l : Fin 4096) :
    V m c main_v0 (ix2 (0 : Fin 1) l) = m ((c : Thread nD τ).loc main_arg1) (ix1 l) := by
  have e : V m c main_v0 = shapeCast S1x4096 (m ((c : Thread nD τ).loc main_arg1)) shapeCasts_S4096_S1x4096 := rfl
  rw [e]
  exact shapeCast_apply _ _ (ix2 (0 : Fin 1) l) (ix1 l) (by
    rw [Shape.rowMajor_val_one, Shape.rowMajor_val_two]; show l.val = 0 * 4096 + l.val; omega)

theorem bg_apply (c : Dev nD) (t : Fin cfg0.N) (l : Fin 4096) :
    bg m c t (ix2 (0 : Fin 1) l) = ag m c l := by
  obtain ⟨⟨e0, e1⟩, -⟩ := index_facts t
  refine Eq.trans ?_ (v0_row m c l)
  unfold bg iblk
  rw [View.read_apply]
  show V m c main_v0 _ = V m c main_v0 _
  congr 1
  funext a; apply Fin.ext
  match a with
  | ⟨0, _⟩ => show win0_0.index t 0 * 1 + 1 * 0 = 0; rw [e0]
  | ⟨1, _⟩ => show win0_0.index t 1 * 4096 + 1 * l.val = l.val; rw [e1]; omega

theorem bwg_apply (c : Dev nD) (t : Fin cfg0.N) (k : Fin 4096) (f : Fin 256) :
    bwg m c t (ix3 (0 : Fin 1) k f) = awg m c k (pan t f) := by
  obtain ⟨-, ⟨e0, e1, e2⟩, -⟩ := index_facts t
  unfold bwg iblk
  rw [View.read_apply]
  show m _ _ = m _ _
  congr 1
  funext a; apply Fin.ext
  match a with
  | ⟨0, _⟩ => show win0_1.index t 0 * 1 + 1 * 0 = 0; rw [e0]
  | ⟨1, _⟩ => show win0_1.index t 1 * 4096 + 1 * k.val = k.val; rw [e1]; omega
  | ⟨2, _⟩ => show win0_1.index t 2 * 256 + 1 * f.val = t.val % 43 * 256 + f.val; rw [e2]; omega

theorem bwu_apply (c : Dev nD) (t : Fin cfg0.N) (k : Fin 4096) (f : Fin 256) :
    bwu m c t (ix3 (0 : Fin 1) k f) = awu m c k (pan t f) := by
  obtain ⟨-, -, ⟨e0, e1, e2⟩, -⟩ := index_facts t
  unfold bwu iblk
  rw [View.read_apply]
  show m _ _ = m _ _
  congr 1
  funext a; apply Fin.ext
  match a with
  | ⟨0, _⟩ => show win0_2.index t 0 * 1 + 1 * 0 = 0; rw [e0]
  | ⟨1, _⟩ => show win0_2.index t 1 * 4096 + 1 * k.val = k.val; rw [e1]; omega
  | ⟨2, _⟩ => show win0_2.index t 2 * 256 + 1 * f.val = t.val % 43 * 256 + f.val; rw [e2]; omega

theorem bwd_apply (c : Dev nD) (t : Fin cfg0.N) (f : Fin 256) (n : Fin 4096) :
    bwd m c t (ix3 (0 : Fin 1) f n) = awd m c (pan t f) n := by
  obtain ⟨-, -, -, ⟨e0, e1, e2⟩, -⟩ := index_facts t
  unfold bwd iblk
  rw [View.read_apply]
  show m _ _ = m _ _
  congr 1
  funext a; apply Fin.ext
  match a with
  | ⟨0, _⟩ => show win0_3.index t 0 * 1 + 1 * 0 = 0; rw [e0]
  | ⟨1, _⟩ => show win0_3.index t 1 * 256 + 1 * f.val = t.val % 43 * 256 + f.val; rw [e1]; omega
  | ⟨2, _⟩ => show win0_3.index t 2 * 4096 + 1 * n.val = n.val; rw [e2]; omega

/-- Row `r` of the point's row block, normalized. -/
theorem normed_eq (c : Dev nD) (t : Fin cfg0.N) (r : Fin 640) :
    normed (bx m c t) (bg m c t) r = rowNorm (ax m c (row t r)) (ag m c) := by
  funext k
  unfold normed
  rw [show (fun l => bx m c t (ix2 r l)) = ax m c (row t r) from funext fun l => bx_apply m c t r l,
    show (fun l => bg m c t (ix2 (0 : Fin 1) l)) = ag m c from funext fun l => bg_apply m c t l]

/-- Two points of one row block have the same rows. -/
theorem row_congr {t t' : Fin cfg0.N} (h : t.val / 43 = t'.val / 43) (r : Fin 640) : row t r = row t' r :=
  Fin.ext (by show t.val / 43 * 640 + r.val = t'.val / 43 * 640 + r.val; rw [h])

/-- The shares of the activations for one entry. -/
abbrev shares (c : Dev nD) (r : Fin 8320) (n : Fin 4096) : Fin 11008 → EReal :=
  share (ax m c) (ag m c) (awg m c) (awu m c) (awd m c) r n

/-- One panel's step over the normalized rows: the panel's shares are added. -/
theorem bstep_eq (c : Dev nD) (t : Fin cfg0.N) (h a : Fin 640 → Fin 4096 → EReal) (r : Fin 640) (n : Fin 4096)
    (hh : h r = rowNorm (ax m c (row t r)) (ag m c)) :
    bstep (bwg m c t) (bwu m c t) (bwd m c t) h a r n
      = a r n + ∑ f : Fin 256, ext (shares m c (row t r) n) (256 * (t.val % 43) + f.val) := by
  unfold bstep step
  refine congrArg (fun b : EReal => a r n + b) (Finset.sum_congr rfl fun f _ => ?_)
  have hlt : 256 * (t.val % 43) + f.val < 11008 := by omega
  unfold ext
  rw [dif_pos hlt, hh]
  have hp : (⟨256 * (t.val % 43) + f.val, hlt⟩ : Fin 11008) = pan t f := Fin.ext (by
    show 256 * (t.val % 43) + f.val = t.val % 43 * 256 + f.val; omega)
  rw [hp]
  unfold shares share
  dsimp only
  rw [bwd_apply,
    show (fun k => bwg m c t (ix3 (0 : Fin 1) k f)) = fun k => awg m c k (pan t f) from funext fun k => bwg_apply m c t k f,
    show (fun k => bwu m c t (ix3 (0 : Fin 1) k f)) = fun k => awu m c k (pan t f) from funext fun k => bwu_apply m c t k f]

/-- After every point: the rows of the block normalized, and the row plus the shares of the panels so far. -/
theorem st_eq (c : Dev nD) : ∀ (k : ℕ) (hk : k < cfg0.N) (r : Fin 640),
    (st m c k hk).2 r = rowNorm (ax m c (row ⟨k, hk⟩ r)) (ag m c)
    ∧ ∀ n : Fin 4096, (st m c k hk).1 r n
        = ax m c (row ⟨k, hk⟩ r) n + psum (shares m c (row ⟨k, hk⟩ r) n) (k % 43 + 1) := by
  have first : ∀ (k : ℕ) (hk : k < cfg0.N) (h0 : k % 43 = 0) (r : Fin 640),
      (st m c k hk).2 r = rowNorm (ax m c (row ⟨k, hk⟩ r)) (ag m c)
      ∧ ∀ n : Fin 4096, (st m c k hk).1 r n
          = ax m c (row ⟨k, hk⟩ r) n + psum (shares m c (row ⟨k, hk⟩ r) n) (k % 43 + 1) := by
    intro k hk h0 r
    have e := st_first m c ⟨k, hk⟩ h0
    refine ⟨(congrFun (congrArg Prod.snd e) r).trans (normed_eq m c ⟨k, hk⟩ r), fun n => ?_⟩
    refine (congrFun (congrFun (congrArg Prod.fst e) r) n).trans ?_
    refine (bstep_eq m c ⟨k, hk⟩ (normed (bx m c ⟨k, hk⟩) (bg m c ⟨k, hk⟩)) (fun r n => bx m c ⟨k, hk⟩ (ix2 r n)) r n (normed_eq m c ⟨k, hk⟩ r)).trans ?_
    rw [psum_succ, h0, psum_zero, zero_add]
    exact congrArg₂ (fun a b : EReal => a + b) (bx_apply m c ⟨k, hk⟩ r n) rfl
  intro k
  induction k with
  | zero => exact fun hk r => first 0 hk rfl r
  | succ k ih =>
    intro hk r
    by_cases h0 : (k + 1) % 43 = 0
    · exact first (k + 1) hk h0 r
    · have e := st_next m c ⟨k + 1, hk⟩ h0
      obtain ⟨i2, i1⟩ := ih (Nat.lt_of_succ_lt hk) r
      have hrow : row ⟨k, Nat.lt_of_succ_lt hk⟩ r = row ⟨k + 1, hk⟩ r := row_congr (by show k / 43 = (k + 1) / 43; omega) r
      rw [hrow] at i2
      refine ⟨(congrFun (congrArg Prod.snd e) r).trans i2, fun n => ?_⟩
      refine (congrFun (congrFun (congrArg Prod.fst e) r) n).trans ?_
      refine (bstep_eq m c ⟨k + 1, hk⟩ (st m c k (Nat.lt_of_succ_lt hk)).2 (st m c k (Nat.lt_of_succ_lt hk)).1 r n i2).trans ?_
      have hmod : (k + 1) % 43 = k % 43 + 1 := by omega
      refine (congrArg (fun a : EReal => a + _) (i1 n)).trans ?_
      rw [hrow, add_assoc]
      refine congrArg (fun b : EReal => _ + b) ?_
      show psum _ (k % 43 + 1) + ∑ f : Fin 256, ext _ (256 * ((k + 1) % 43) + f.val) = psum _ ((k + 1) % 43 + 1)
      rw [hmod, psum_succ _ (k % 43 + 1)]

/-- The accumulator after the last panel of a row block: the layer's rows. -/
theorem st_last (c : Dev nD) (t : Fin cfg0.N) (h : t.val % 43 = 42) (r : Fin 640) (n : Fin 4096) :
    (st m c t.val t.isLt).1 r n = lay m c (row t r) n := by
  refine ((st_eq m c t.val t.isLt r).2 n).trans ?_
  rw [h, show 42 + 1 = 43 from rfl, psum_all]
  rfl

/-- The block after the last panel of a row block. -/
theorem block_eq (c : Dev nD) (t : Fin cfg0.N) (h : t.val % 43 = 42) (r : Fin 640) (n : Fin 4096) :
    outAt m c t.val t.isLt (ix2 r n) = result m c (ix2 (row t r) n) :=
  st_last m c t h r n

/-- A block whose elements are an array's elements at point `t`'s rows is that array's block `t`. -/
theorem cut_eq_read {c : Dev nD} (t : Fin cfg0.N) (X : Vec Ideal S640x4096 .f32) (R : Buf (Elt Ideal) ((c : Thread nD τ).loc main_v2))
    (h : ∀ (r : Fin 640) (n : Fin 4096), X (ix2 r n) = R (ix2 (row t r) n)) :
    (cfg0.win 6).cut (grid0.coords t) X = ((cfg0.win 6).blk t).view.read (Elt Ideal) R := by
  obtain ⟨-, -, -, -, -, -, ⟨e0, e1⟩⟩ := index_facts t
  funext y
  rw [View.read_apply]
  have hi : ((cfg0.win 6).blk t).view.emb y = (ix2 (row t (y 0)) (y 1) : S8320x4096.Idx) := by
    funext a; apply Fin.ext
    match a with
    | ⟨0, _⟩ => show win0_6.index t 0 * 640 + 1 * (y 0).val = t.val / 43 * 640 + (y 0).val; rw [e0]; omega
    | ⟨1, _⟩ => show win0_6.index t 1 * 4096 + 1 * (y 1).val = (y 1).val; rw [e1]; omega
  refine Eq.trans ?_ ((h (y 0) (y 1)).trans (congrArg R hi.symm))
  exact congrArg X (funext fun a => Fin.ext (by match a with | ⟨0, _⟩ => rfl | ⟨1, _⟩ => rfl))

/-- What the last point of a row block writes back is that block of the formula's array. -/
theorem flushed_eq (c : Dev nD) (t : Fin cfg0.N) (ht : (cfg0.win 6).flush t = true) :
    (dats m 0 c).flushed 6 t = ((cfg0.win 6).blk t).view.read (Elt Ideal) (result m c) := by
  show (cfg0.win 6).cut (grid0.coords t) ((dats m 0 c).after 6 t) = _
  rw [after0_6]
  exact cut_eq_read (c := c) t _ _ fun r n => block_eq m c t ((flush0_6 t).mp ht) r n

/-- Every index of the result array lies in the block of some row block's last point. -/
theorem covered (i : S8320x4096.Idx) :
    ∃ t : Fin cfg0.N, (cfg0.win 6).flush t = true ∧ i ∈ ((cfg0.win 6).blk t).view.set := by
  have h0 : (i 0).val < 8320 := (i 0).isLt
  have h1 : (i 1).val < 4096 := (i 1).isLt
  have hN : cfg0.N = 559 := N_0
  let t : Fin cfg0.N := ⟨(i 0).val / 640 * 43 + 42, by rw [hN]; omega⟩
  obtain ⟨-, -, -, -, -, -, ⟨e0, e1⟩⟩ := index_facts t
  have ht : t.val = (i 0).val / 640 * 43 + 42 := rfl
  refine ⟨t, (flush0_6 t).mpr (by rw [ht]; omega), ?_⟩
  show i ∈ ((View.whole main_v2).slice (win0_6.rect t)).set
  rw [View.set_slice_whole, Rect.mem_set_unit]
  intro a
  match a with
  | ⟨0, _⟩ => show win0_6.index t 0 * 640 ≤ (i 0).val ∧ (i 0).val < win0_6.index t 0 * 640 + 640; rw [e0, ht]; omega
  | ⟨1, _⟩ => show win0_6.index t 1 * 4096 ≤ (i 1).val ∧ (i 1).val < win0_6.index t 1 * 4096 + 4096; rw [e1]; omega

/-- The result array after the run. -/
theorem final (c : Dev nD) : (dats m 0 c).arrAt 6 cfg0.N = result m c :=
  (dats m 0 c).arrAt_eq_of_cover 6 (result m c) (fun t ht => flushed_eq m c t ht) (fun i => covered i)

end Cert.KernelIdeal.Ffn

end
-- ==== Proof.Ffn.PlainIdeal.Reference.lean ====
/- The feed-forward reference computes the layer's formula. -/
module

public import proofs.«01_k».proof.Proof.Ffn.Layer
public import proofs.«01_k».proof.Proof.Gen.ReferenceIdeal.Read
public import Idealize.ShloMosaic.Lib.IdealHost

@[expose] public section

noncomputable section

namespace Cert.ReferenceIdeal.Ffn

open Idealize.ShloMosaic Idealize.ShloMosaic.ValueIdx
open Cert.ReferenceIdeal Cert.ReferenceIdeal.Read Cert.ReferenceIdeal.Gen
open Cert.Common (rowNorm)
open Cert.Ffn (share layer layerOf lastOf act glu)

variable (x : S8320x4096.Idx → EReal) (g : S4096.Idx → EReal) (wg wu : S1x4096x11008.Idx → EReal) (wd : S1x11008x4096.Idx → EReal) (gf : S4096.Idx → EReal)

/-- The reference's normalized rows. -/
theorem norm_apply (r : Fin 8320) (k : Fin 4096) :
    val_main_v18 (F := Ideal) x g (ix2 r k) = rowNorm (fun l => x (ix2 r l)) (fun l => g (ix1 l)) k := by
  have hsum : val_main_v7 (F := Ideal) x (ix1 r) = (∑ l : Fin 4096, x (ix2 r l) * x (ix2 r l) : EReal) := by
    rw [val_main_v7_apply, val_main_cst_apply]
    refine (congrArg₂ (fun a b : EReal => a + b) (Ideal.ofBits_zero_f32 : Ideal.ofBits .f32 0x00000000#32 = 0) rfl).trans ?_
    rw [zero_add]
    refine Finset.sum_congr rfl fun l _ => ?_
    have h : idx_main_v7 (ix1 r) l = ix2 r l := funext fun d => Fin.ext (by
      match d with | ⟨0, _⟩ => rfl | ⟨1, _⟩ => rfl)
    rw [h]
    rfl
  have h14 : val_main_v14 (F := Ideal) x (ix2 r k)
      = Ideal.rsqrt (Ideal.div (∑ l : Fin 4096, x (ix2 r l) * x (ix2 r l)) (Ideal.ofBits .f32 0x45800000#32)
          + Ideal.ofBits .f32 0x358637BD#32) := by
    rw [val_main_v14_apply, val_main_v13_apply, val_main_v12_apply, val_main_v10_apply, val_main_v8_apply, val_main_v9_apply,
      val_main_v11_apply, val_main_cst_0_apply, val_main_cst_1_apply]
    have h : idx_main_v8 (idx_main_v14 (ix2 r k)) = ix1 r := funext fun d => Fin.ext (by
      match d with | ⟨0, _⟩ => rfl)
    rw [h, hsum]
    rfl
  have h17 : val_main_v17 (F := Ideal) g (ix2 r k) = g (ix1 k) := by
    rw [val_main_v17_apply, val_main_v16_apply]
    have h : idx_main_v16 (idx_main_v17 (ix2 r k)) = ix1 k := funext fun d => Fin.ext (by
      match d with | ⟨0, _⟩ => rfl)
    rw [h]
  rw [val_main_v18_apply, val_main_v15_apply, h14, h17]
  rfl

/-! The three weight matrices. -/
theorem wg_apply (k : Fin 4096) (f : Fin 11008) : val_main_v1 (F := Ideal) wg (ix2 k f) = wg (ix3 (0 : Fin 1) k f) := by
  unfold val_main_v1
  exact Common.dropUnit_apply (val_main_v0 (F := Ideal) wg) _ (ix2 k f)
theorem wu_apply (k : Fin 4096) (f : Fin 11008) : val_main_v3 (F := Ideal) wu (ix2 k f) = wu (ix3 (0 : Fin 1) k f) := by
  unfold val_main_v3
  exact Common.dropUnit_apply (val_main_v2 (F := Ideal) wu) _ (ix2 k f)
theorem wd_apply (f : Fin 11008) (n : Fin 4096) : val_main_v5 (F := Ideal) wd (ix2 f n) = wd (ix3 (0 : Fin 1) f n) := by
  unfold val_main_v5
  exact Common.dropUnit_apply (val_main_v4 (F := Ideal) wd) _ (ix2 f n)

/-- The gate of an activation. -/
theorem gate_apply (r : Fin 8320) (f : Fin 11008) :
    val_main_v19 (F := Ideal) x g wg (ix2 r f)
      = (∑ k : Fin 4096, rowNorm (fun l => x (ix2 r l)) (fun l => g (ix1 l)) k * wg (ix3 (0 : Fin 1) k f) : EReal) := by
  rw [val_main_v19_apply]
  have hl : ∀ k : Fin 4096, lidx_main_v19 (ix2 r f) k = ix2 r k := fun k => funext fun d => Fin.ext (by
    match d with | ⟨0, _⟩ => rfl | ⟨1, _⟩ => rfl)
  have hr : ∀ k : Fin 4096, ridx_main_v19 (ix2 r f) k = ix2 k f := fun k => funext fun d => Fin.ext (by
    match d with | ⟨0, _⟩ => rfl | ⟨1, _⟩ => rfl)
  simp only [hl, hr]
  exact Finset.sum_congr rfl fun k _ => congrArg₂ (fun a b : EReal => a * b) (norm_apply x g r k) (wg_apply wg k f)

/-- The up value of an activation. -/
theorem up_apply (r : Fin 8320) (f : Fin 11008) :
    val_main_v21 (F := Ideal) x g wu (ix2 r f)
      = (∑ k : Fin 4096, rowNorm (fun l => x (ix2 r l)) (fun l => g (ix1 l)) k * wu (ix3 (0 : Fin 1) k f) : EReal) := by
  rw [val_main_v21_apply]
  have hl : ∀ k : Fin 4096, lidx_main_v21 (ix2 r f) k = ix2 r k := fun k => funext fun d => Fin.ext (by
    match d with | ⟨0, _⟩ => rfl | ⟨1, _⟩ => rfl)
  have hr : ∀ k : Fin 4096, ridx_main_v21 (ix2 r f) k = ix2 k f := fun k => funext fun d => Fin.ext (by
    match d with | ⟨0, _⟩ => rfl | ⟨1, _⟩ => rfl)
  simp only [hl, hr]
  exact Finset.sum_congr rfl fun k _ => congrArg₂ (fun a b : EReal => a * b) (norm_apply x g r k) (wu_apply wu k f)

/-- The gate times its logistic. -/
theorem silu_apply (i : S8320x11008.Idx) :
    val_main_v20 (F := Ideal) x g wg i = val_main_v19 (F := Ideal) x g wg i * Ideal.logistic (val_main_v19 (F := Ideal) x g wg i) := by
  rw [val_main_v20_apply, val_main_call0_v5_apply, val_main_call0_v4_apply, val_main_call0_cst_0_apply, val_main_call0_v3_apply,
    val_main_call0_v2_apply, val_main_call0_cst_apply, val_main_call0_v1_apply, val_main_call0_v0_apply]
  refine congrArg (fun b : EReal => val_main_v19 (F := Ideal) x g wg i * b) ?_
  show Ideal.div (Ideal.ofBits .f32 0x3F800000#32) (Ideal.ofBits .f32 0x3F800000#32 + Ideal.exp (-val_main_v19 (F := Ideal) x g wg i)) = _
  rw [Ideal.ofBits_one_f32]
  rfl

/-- An activation. -/
theorem act_apply (r : Fin 8320) (f : Fin 11008) :
    val_main_v22 (F := Ideal) x g wg wu (ix2 r f)
      = act (rowNorm (fun l => x (ix2 r l)) (fun l => g (ix1 l))) (fun k => wg (ix3 (0 : Fin 1) k f)) (fun k => wu (ix3 (0 : Fin 1) k f)) := by
  rw [val_main_v22_apply, silu_apply, gate_apply, up_apply]
  rfl

/-- The layer. -/
theorem layer_apply (r : Fin 8320) (n : Fin 4096) :
    val_main_v24 (F := Ideal) x g wg wu wd (ix2 r n) = layerOf x g wg wu wd r n := by
  rw [val_main_v24_apply, val_main_v23_apply]
  have hl : ∀ k : Fin 11008, lidx_main_v23 (ix2 r n) k = ix2 r k := fun k => funext fun d => Fin.ext (by
    match d with | ⟨0, _⟩ => rfl | ⟨1, _⟩ => rfl)
  have hr : ∀ k : Fin 11008, ridx_main_v23 (ix2 r n) k = ix2 k n := fun k => funext fun d => Fin.ext (by
    match d with | ⟨0, _⟩ => rfl | ⟨1, _⟩ => rfl)
  simp only [hl, hr]
  unfold layerOf layer
  refine congrArg (fun b : EReal => x (ix2 r n) + b) ?_
  exact Finset.sum_congr rfl fun f _ => congrArg₂ (fun a b : EReal => a * b) (act_apply x g wg wu r f) (wd_apply wd f n)

theorem ref_eq : val_main_v24 (F := Ideal) x g wg wu wd = fun i => layerOf x g wg wu wd (i 0) (i 1) := by
  funext i
  rw [eq_ix2 i]
  exact layer_apply x g wg wu wd (i 0) (i 1)

end Cert.ReferenceIdeal.Ffn

end
-- ==== Proof.Ffn.PlainIdeal.Claims.lean ====
/- The feed-forward call's claims: its frames, and that the call and its reference leave the same array. -/
module

public import proofs.«01_k».proof.Proof.Ffn.Plain.Frame
public import proofs.«01_k».proof.Proof.Ffn.PlainIdeal.Kernel
public import proofs.«01_k».proof.Proof.Ffn.PlainIdeal.Reference
public import proofs.«01_k».proof.Proof.Gen.ReferenceIdeal.Run
public import proofs.«01_k».proof.Defs

@[expose] public section

noncomputable section

namespace Cert.Ffn.Plain

open Idealize.ShloMosaic Idealize.ShloMosaic.TcCoe Idealize.SL.Sem

theorem frame_p : Cert.quiescent_Kernel := fun m g _ => Cert.Kernel.Ffn.frame m g

theorem frame_pi : Cert.quiescent_KernelIdeal := fun m g _ =>
  θ_run_and (Cert.KernelIdeal.Ffn.unchanged m g) ((θ_run Cert.KernelIdeal.defs _ _).mono (fun _ h => h.2) (Cert.KernelIdeal.Ffn.run_quiet m g))

/-- The reference is straight-line host code: it writes none of its arguments and declares no semaphore. -/
theorem frame_ri : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run m g)

theorem algebraic : Cert.algebraic_KernelIdeal_ReferenceIdeal := by
  intro m g m' g' _ hin
  refine ⟨fun c => Cert.KernelIdeal.Ffn.result m c, ?_, ?_⟩
  · refine (θ_run _ _ _).mono (fun r h c => ?_) (θ_run_and (Cert.KernelIdeal.Ffn.run_quiet m g) (Cert.KernelIdeal.Ffn.unchanged m g))
    exact ⟨((h.1.1 c).1 6).trans (Cert.KernelIdeal.Ffn.final m c), h.2 c⟩
  · refine (θ_run _ _ _).mono (fun r h c => ?_) (Cert.ReferenceIdeal.Value.run m' g')
    obtain ⟨h0, h1⟩ := h c
    obtain ⟨a0, a1, a2, a3, a4, a5⟩ := hin c
    refine ⟨h0.trans ?_, h1⟩
    rw [Cert.ReferenceIdeal.Read.val_main_v24_eq]
    refine (Cert.ReferenceIdeal.Ffn.ref_eq _ _ _ _ _).trans ?_
    rw [a0, a1, a2, a3, a4]
    try rfl

end Cert.Ffn.Plain

end
-- ==== Proof.Ffn.Final.Last.lean ====
/- The last panel of a row block, with the final norm. -/
module

public import proofs.«01_k».proof.Proof.Ffn.Final.Next

@[expose] public section

set_option maxRecDepth 16384

noncomputable section

namespace Cert.Kernel2.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel2 Cert.Kernel2.Gen

variable {F : FTy → Type} [FloatOps F]

local notation "𝕄" => MT nD τ sig Unit (Elt F) ℕ (UR sig nD τ) ℕ

set_option backward.proofsInPublic true in
set_option maxHeartbeats 4000000 in
/-- The last panel of a row block, with the final norm: the body, given all its buffers,
    ends with the inputs' as they were and the scratch too. -/
theorem runLast (c : Dev nD) (i : grid0.Coords) (arg2 : Memref sig .tc .vmem S1x4096 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x256x4096 .bf16) (harg5 : arg5.IsWhole) (arg6 : Memref sig .tc .vmem S1x4096 .f32) (harg6 : arg6.IsWhole) (arg7 : Memref sig .tc .vmem S640x4096 .f32) (harg7 : arg7.IsWhole) (arg8 : Memref sig .tc .vmem S640x4096 .f32) (harg8 : arg8.IsWhole) (arg9 : Memref sig .tc .vmem S640x4096 .bf16) (harg9 : arg9.IsWhole) (hc1 : ¬k0_cond1 i = 1#1) (hc2 : k0_cond2 i = 1#1)
    (x2 : Vec F S1x4096 .f32) (x3 : Vec F S1x4096x256 .bf16) (x4 : Vec F S1x4096x256 .bf16) (x5 : Vec F S1x256x4096 .bf16) (x6 : Vec F S1x4096 .f32) (x7 : Vec F S640x4096 .f32) (x8 : Vec F S640x4096 .f32) (x9 : Vec F S640x4096 .bf16) :
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} f) ∗ owns (c : Thread nD τ) arg9 fullShare x9) -∗ K ⟨⟩))
          ⊢ wp frame (wpE (defs₀ (F := F)) Variants.none c none) E (cc0_swiglu_ffn i arg2 harg2 arg3 harg3 arg4 harg4 arg5 harg5 arg6 harg6 arg7 harg7 arg8 harg8 arg9 harg9) K := by
  intro E K
  simp only [cc0_swiglu_ffn_eq_skeleton]; unfold cc0_swiglu_ffn_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  sl_exec (disch := first | sl_exact hc1 | sl_exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; iexact H8
  iexists _; isplitr; · ipureintro; exact harg9.read_unread _
  iexact H9

end Cert.Kernel2.Ffn

end
-- ==== Proof.Ffn.Final.Frame.lean ====
/- The feed-forward call at machine values: it ends, with its arguments as they were. Nothing is said of the result here. -/
module

public import proofs.«01_k».proof.Proof.Ffn.Final.Last
public import Idealize.ShloMosaic.Lib.Claim

@[expose] public section

set_option maxRecDepth 16384

noncomputable section

namespace Cert.Kernel2.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel2 Cert.Kernel2.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first panel of a row block is at the points ≡ 0 (mod 43). -/
theorem hcond1 : ∀ t : Fin cfg0.N, k0_cond1 (grid0.coords t) = 1#1 ↔ t.val % 43 = 0 :=
  (fun t => by
    have ht : t.val < 559 := Nat.lt_of_lt_of_eq t.isLt N_0
    have e0 : (grid0.coords t 0).val = t.val / 43 % 13 := Pipeline.Grid.coords_val t 0 (by decide) rfl
    have e1 : (grid0.coords t 1).val = t.val / 1 % 43 := Pipeline.Grid.coords_val t 1 (by decide) rfl
    simp only [k0_cond1, e0, e1]
    word_cmp
   : ∀ t : Fin grid0.N, k0_cond1 (grid0.coords t) = 1#1 ↔ t.val % 43 = 0)

/-- The last panel of a row block is at the points ≡ 42 (mod 43). -/
theorem hcond2 : ∀ t : Fin cfg0.N, k0_cond2 (grid0.coords t) = 1#1 ↔ t.val % 43 = 42 :=
  (fun t => by
    have ht : t.val < 559 := Nat.lt_of_lt_of_eq t.isLt N_0
    have e0 : (grid0.coords t 0).val = t.val / 43 % 13 := Pipeline.Grid.coords_val t 0 (by decide) rfl
    have e1 : (grid0.coords t 1).val = t.val / 1 % 43 := Pipeline.Grid.coords_val t 1 (by decide) rfl
    simp only [k0_cond2, e0, e1]
    word_cmp
   : ∀ t : Fin grid0.N, k0_cond2 (grid0.coords t) = 1#1 ↔ t.val % 43 = 42)

/-! Each window's staging buffer at a point, and the scratch. -/
abbrev ms0 (t : Fin cfg0.N) : Memref sig .tc .vmem S1x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x4096x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x4096x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256x4096 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x4096 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S640x4096 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S640x4096 .f32 := win0_6.stage (cfg0.slots t 6)
abbrev hs6 (t : Fin cfg0.N) : (ms6 t).IsWhole := hstage0_6 ((cfg0.slots t 6).cast nbuf0_6)
abbrev scr : Memref sig .tc .vmem S640x4096 .bf16 := Memref.whole cc0_scratch0

/-- The invariant of the region's entry and exit, with the scratch as a buffer owned at some contents. -/
theorem PhiA_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The proof data: the arrays as the region finds them; nothing is said of what the body leaves in a buffer. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

theorem A_eq (c : Dev nD) (w : Fin cfg0.W) : (rdat m c).A w = V m c (Pipeline.arrRef spec0 w) := by
  dsimp only [rdat]

set_option maxHeartbeats 3200000 in
/-- The body at any point, whatever its buffers hold. -/
theorem sound_body (c : Dev nD) (t : Fin cfg0.N) (Y0 : Vec F S1x4096 .f32) (Y1 : Vec F S1x4096x256 .bf16) (Y2 : Vec F S1x4096x256 .bf16) (Y3 : Vec F S1x256x4096 .bf16) (Y4 : Vec F S1x4096 .f32) (Y5 : Vec F S640x4096 .f32) (Y6 : Vec F S640x4096 .f32) :
    iprop((Pipeline.ΦA spec0 c : sProp 𝕄) ∗ (rdat m c).owesAt () t.castSucc
        ∗ owns (c : Thread nD τ) (ms0 t) fullShare Y0
        ∗ owns (c : Thread nD τ) (ms1 t) fullShare Y1
        ∗ owns (c : Thread nD τ) (ms2 t) fullShare Y2
        ∗ owns (c : Thread nD τ) (ms3 t) fullShare Y3
        ∗ owns (c : Thread nD τ) (ms4 t) fullShare Y4
        ∗ owns (c : Thread nD τ) (ms5 t) fullShare Y5
        ∗ owns (c : Thread nD τ) (ms6 t) fullShare Y6)
      ⊢ wp frame (wpE (defs₀ (F := F)) Variants.none c none) Set.univ (bodyAt0 t) (fun _ =>
        iprop((Pipeline.ΦA spec0 c : sProp 𝕄) ∗ (rdat m c).owesAt () t.succ
        ∗ (∃ X, ⌜True⌝ ∗ owns (c : Thread nD τ) (ms0 t) fullShare X)
        ∗ (∃ X, ⌜True⌝ ∗ owns (c : Thread nD τ) (ms1 t) fullShare X)
        ∗ (∃ X, ⌜True⌝ ∗ owns (c : Thread nD τ) (ms2 t) fullShare X)
        ∗ (∃ X, ⌜True⌝ ∗ owns (c : Thread nD τ) (ms3 t) fullShare X)
        ∗ (∃ X, ⌜True⌝ ∗ owns (c : Thread nD τ) (ms4 t) fullShare X)
        ∗ (∃ X, ⌜True⌝ ∗ owns (c : Thread nD τ) (ms5 t) fullShare X)
        ∗ (∃ X, ⌜True⌝ ∗ owns (c : Thread nD τ) (ms6 t) fullShare X))) := by
  rw [show (rdat m c).owesAt () t.succ = (rdat m c).owesAt () t.castSucc from rfl, PhiA_eq]
  unfold bodyAt0
  by_cases h0 : t.val % 43 = 0
  · iintro ⟨⟨⟨%sc, HS⟩, Hg⟩, Ho, H0, H1, H2, H3, H4, H5, H6⟩
    iapply ((runFirst c (grid0.coords t) (ms0 t) (hs0 t) (ms1 t) (hs1 t) (ms2 t) (hs2 t) (ms3 t) (hs3 t) (ms4 t) (hs4 t) (ms5 t) (hs5 t) (ms6 t) (hs6 t) scr (Memref.isWhole_whole _) ((hcond1 t).mpr h0) (fun h => by have := (hcond2 t).mp h; omega) Y0 Y1 Y2 Y3 Y4 Y5 Y6 sc).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS Hg]
    · isplitl [HS]
      · iexists _; unfold owns; iexists _; isplitr
        swap; · iexact HS
        ipureintro; rfl
      iexact Hg
    isplitl [Ho]; · iexact Ho
    isplitl [H0]
    · iexists _; isplitr; · ipureintro; trivial
      iexact H0
    isplitl [H1]
    · iexists _; isplitr; · ipureintro; trivial
      iexact H1
    isplitl [H2]
    · iexists _; isplitr; · ipureintro; trivial
      iexact H2
    isplitl [H3]
    · iexists _; isplitr; · ipureintro; trivial
      iexact H3
    isplitl [H4]
    · iexists _; isplitr; · ipureintro; trivial
      iexact H4
    isplitl [H5]
    · iexists _; isplitr; · ipureintro; trivial
      iexact H5
    iexists _; isplitr; · ipureintro; trivial
    unfold owns; iexists _; isplitr
    swap; · iexact H6
    ipureintro; rfl
  · by_cases h1 : t.val % 43 = 42
    · iintro ⟨⟨⟨%sc, HS⟩, Hg⟩, Ho, H0, H1, H2, H3, H4, H5, H6⟩
      iapply ((runLast c (grid0.coords t) (ms0 t) (hs0 t) (ms1 t) (hs1 t) (ms2 t) (hs2 t) (ms3 t) (hs3 t) (ms4 t) (hs4 t) (ms5 t) (hs5 t) (ms6 t) (hs6 t) scr (Memref.isWhole_whole _) (fun h => h0 ((hcond1 t).mp h)) ((hcond2 t).mpr h1) Y0 Y1 Y2 Y3 Y4 Y5 Y6 sc) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, ⟨%f6, H6⟩, HS⟩
      isplitl [HS Hg]
      · isplitl [HS]
        · iexists _; iexact HS
        iexact Hg
      isplitl [Ho]; · iexact Ho
      isplitl [H0]
      · iexists _; isplitr; · ipureintro; trivial
        iexact H0
      isplitl [H1]
      · iexists _; isplitr; · ipureintro; trivial
        iexact H1
      isplitl [H2]
      · iexists _; isplitr; · ipureintro; trivial
        iexact H2
      isplitl [H3]
      · iexists _; isplitr; · ipureintro; trivial
        iexact H3
      isplitl [H4]
      · iexists _; isplitr; · ipureintro; trivial
        iexact H4
      isplitl [H5]
      · iexists _; isplitr; · ipureintro; trivial
        iexact H5
      iexists _; isplitr; · ipureintro; trivial
      unfold owns; iexists _; isplitr
      swap; · iexact H6
      ipureintro; rfl
    · iintro ⟨⟨⟨%sc, HS⟩, Hg⟩, Ho, H0, H1, H2, H3, H4, H5, H6⟩
      iapply ((runNext c (grid0.coords t) (ms0 t) (hs0 t) (ms1 t) (hs1 t) (ms2 t) (hs2 t) (ms3 t) (hs3 t) (ms4 t) (hs4 t) (ms5 t) (hs5 t) (ms6 t) (hs6 t) scr (Memref.isWhole_whole _) (fun h => h0 ((hcond1 t).mp h)) (fun h => h1 ((hcond2 t).mp h)) Y0 Y1 Y2 Y3 Y4 Y5 Y6 sc).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS Hg]
      · isplitl [HS]
        · iexists _; iexact HS
        iexact Hg
      isplitl [Ho]; · iexact Ho
      isplitl [H0]
      · iexists _; isplitr; · ipureintro; trivial
        iexact H0
      isplitl [H1]
      · iexists _; isplitr; · ipureintro; trivial
        iexact H1
      isplitl [H2]
      · iexists _; isplitr; · ipureintro; trivial
        iexact H2
      isplitl [H3]
      · iexists _; isplitr; · ipureintro; trivial
        iexact H3
      isplitl [H4]
      · iexists _; isplitr; · ipureintro; trivial
        iexact H4
      isplitl [H5]
      · iexists _; isplitr; · ipureintro; trivial
        iexact H5
      iexists _; isplitr; · ipureintro; trivial
      unfold owns; iexists _; isplitr
      swap; · iexact H6
      ipureintro; rfl

/-- The library's body obligation. -/
theorem body_obligation (c : Dev nD) : (rdat (F := F) m c).BodyObligation (defs₀ (F := F)) Variants.none () Set.univ := fun t Y _ => by
  rw [bigSep_W0, bigSep_W0, defs₀_row]
  exact sound_body m c t (Y 0) (Y 1) (Y 2) (Y 3) (Y 4) (Y 5) (Y 6)

set_option backward.isDefEq.respectTransparency.types false in
/-- The run, its semaphores at zero at the end. -/
theorem run_main : θ_run defs (onTc (τ := τ) (main (F := F))) (s₀ m ρ) (fun r => RDat.FramePost cfg0 (rdat m) (V m) r ∧ r.2.sem = fun _ => 0) :=
  RDat.θ_run_frame (Q' := fun r => RDat.FramePost cfg0 (rdat m) (V m) r ∧ r.2.sem = fun _ => 0) cfgs (0 : Fin 1) launch0 defs₀ Variants.none (rdat m) m ρ main
    (hbody := fun c => body_obligation m c) (hshare := fun c w => by unfold RDat.share; split <;> rfl)
    (howed := fun _ _ => rfl) (V := V m) (hmain := hmain m Variants.none) (hA := A_eq m) (hΦ := fun _ _ => rfl)

/-- The frame: the arguments end as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(RDat.FramePost.arr_in h.1 c 5 rfl).trans ((A_eq m c 5).trans (V_main_arg0 m c)),
      ((h.1 c).2 main_arg1 (Pipeline.mem_restRefs_of main_arg1 (by decide) (by decide))).trans (V_main_arg1 m c),
      (RDat.FramePost.arr_in h.1 c 1 rfl).trans ((A_eq m c 1).trans (V_main_arg2 m c)),
      (RDat.FramePost.arr_in h.1 c 2 rfl).trans ((A_eq m c 2).trans (V_main_arg3 m c)),
      (RDat.FramePost.arr_in h.1 c 3 rfl).trans ((A_eq m c 3).trans (V_main_arg4 m c)),
      ((h.1 c).2 main_arg5 (Pipeline.mem_restRefs_of main_arg5 (by decide) (by decide))).trans (V_main_arg5 m c)⟩, h.2⟩) (run_main m ρ)

end Cert.Kernel2.Ffn

end
-- ==== Proof.Ffn.FinalIdeal.Pays.lean ====
/- What the body stores, entry by entry: the normalised rows, the activations, and a panel added to the output block. -/
module

public import proofs.«01_k».proof.Proof.Ffn.Spec
public import proofs.«01_k».proof.Proof.Gen.Kernel2Ideal.Loops
public import proofs.«01_k».proof.Proof.Gen.Kernel2Ideal.Frame
public import Idealize.ShloMosaic.Lib.VecWindow
public import Idealize.ShloMosaic.Lib.WritesUnit

@[expose] public section

set_option maxRecDepth 16384

noncomputable section

namespace Cert.Kernel2Ideal.Ffn

open Idealize.ShloMosaic Idealize.ShloMosaic.TcCoe Idealize.ShloMosaic.ValueIdx Idealize.SL.Sem
open Cert.Kernel2Ideal Cert.Kernel2Ideal.Gen
open Cert.Common (rowNorm)

/-- The normalised rows the first panel stores in the scratch. -/
theorem norm_pay (X : Vec Ideal S64x4096 .f32) (G : Vec Ideal S1x4096 .f32) (r : Fin 64) (n : Fin 4096) :
    k0_pay5 (F := Ideal) X G (ix2 r n) = rowNorm (fun l => X (ix2 r l)) (fun l => G (ix2 (0 : Fin 1) l)) n := by
  unfold k0_pay5
  simp only [shapeCast_self]
  exact Common.rowNorm_block X G _ _ _ _ _ _ r n

/-- The normalised rows the last panel stores in the output block. -/
theorem fin_pay (X : Vec Ideal S64x4096 .f32) (G : Vec Ideal S1x4096 .f32) (r : Fin 64) (n : Fin 4096) :
    k0_pay4 (F := Ideal) X G (ix2 r n) = rowNorm (fun l => X (ix2 r l)) (fun l => G (ix2 (0 : Fin 1) l)) n := by
  unfold k0_pay4
  simp only [shapeCast_self]
  exact Common.rowNorm_block X G _ _ _ _ _ _ r n

/-- The panel's activations. -/
theorem act_pay (H : Vec Ideal S640x4096 .bf16) (W U : Vec Ideal S1x4096x256 .bf16) (r : Fin 640) (f : Fin 256) :
    k0_pay6 (F := Ideal) H W U (ix2 r f)
      = Cert.Ffn.act (fun k => H (ix2 r k)) (fun k => W (ix3 (0 : Fin 1) k f)) (fun k => U (ix3 (0 : Fin 1) k f)) := by
  unfold k0_pay6
  exact congrArg₂ Cert.Ffn.glu (Cert.Ffn.cols_dot _ rfl rfl rfl rfl rfl rfl H W _ r f) (Cert.Ffn.cols_dot _ rfl rfl rfl rfl rfl rfl H U _ r f)

theorem p2_pay (a : FVec Ideal S640x256 .bf16) (x : Vec Ideal S640x512 .f32) (w : Vec Ideal S1x256x512 .bf16) (r : Fin 640) (n : Fin 512) :
    k0_pay9 (F := Ideal) a x w (ix2 r n) = (x (ix2 r n) + ∑ f : Fin 256, a (ix2 r f) * w (ix3 (0 : Fin 1) f n) : EReal) := by
  unfold k0_pay9
  simp only [shapeCast_self]
  exact congrArg (fun b : EReal => x (ix2 r n) + b) (Cert.Ffn.panel_add _ rfl rfl rfl rfl rfl rfl a w _ r n)

theorem p3_pay (a : FVec Ideal S640x256 .bf16) (x : Vec Ideal S640x512 .f32) (w : Vec Ideal S1x256x512 .bf16) (r : Fin 640) (n : Fin 512) :
    k0_pay10 (F := Ideal) a x w (ix2 r n) = (x (ix2 r n) + ∑ f : Fin 256, a (ix2 r f) * w (ix3 (0 : Fin 1) f n) : EReal) := by
  unfold k0_pay10
  simp only [shapeCast_self]
  exact congrArg (fun b : EReal => x (ix2 r n) + b) (Cert.Ffn.panel_add _ rfl rfl rfl rfl rfl rfl a w _ r n)

theorem p4_pay (a : FVec Ideal S640x256 .bf16) (x : Vec Ideal S640x512 .f32) (w : Vec Ideal S1x256x512 .bf16) (r : Fin 640) (n : Fin 512) :
    k0_pay11 (F := Ideal) a x w (ix2 r n) = (x (ix2 r n) + ∑ f : Fin 256, a (ix2 r f) * w (ix3 (0 : Fin 1) f n) : EReal) := by
  unfold k0_pay11
  simp only [shapeCast_self]
  exact congrArg (fun b : EReal => x (ix2 r n) + b) (Cert.Ffn.panel_add _ rfl rfl rfl rfl rfl rfl a w _ r n)

theorem p6_pay (a : FVec Ideal S640x256 .bf16) (x : Vec Ideal S640x512 .f32) (w : Vec Ideal S1x256x512 .bf16) (r : Fin 640) (n : Fin 512) :
    k0_pay2 (F := Ideal) a x w (ix2 r n) = (x (ix2 r n) + ∑ f : Fin 256, a (ix2 r f) * w (ix3 (0 : Fin 1) f n) : EReal) := by
  unfold k0_pay2
  simp only [shapeCast_self]
  exact congrArg (fun b : EReal => x (ix2 r n) + b) (Cert.Ffn.panel_add _ rfl rfl rfl rfl rfl rfl a w _ r n)

theorem p7_pay (a : FVec Ideal S640x256 .bf16) (x : Vec Ideal S640x512 .f32) (w : Vec Ideal S1x256x512 .bf16) (r : Fin 640) (n : Fin 512) :
    k0_pay3 (F := Ideal) a x w (ix2 r n) = (x (ix2 r n) + ∑ f : Fin 256, a (ix2 r f) * w (ix3 (0 : Fin 1) f n) : EReal) := by
  unfold k0_pay3
  simp only [shapeCast_self]
  exact congrArg (fun b : EReal => x (ix2 r n) + b) (Cert.Ffn.panel_add _ rfl rfl rfl rfl rfl rfl a w _ r n)

theorem p0_pay (H : Vec Ideal S640x4096 .bf16) (W U : Vec Ideal S1x4096x256 .bf16) (x : Vec Ideal S640x512 .f32)
    (w : Vec Ideal S1x256x512 .bf16) (r : Fin 640) (n : Fin 512) :
    k0_pay7 (F := Ideal) H W U x w (ix2 r n)
      = (x (ix2 r n) + ∑ f : Fin 256, k0_pay6 (F := Ideal) H W U (ix2 r f) * w (ix3 (0 : Fin 1) f n) : EReal) := by
  unfold k0_pay7
  simp only [shapeCast_self]
  exact congrArg (fun b : EReal => x (ix2 r n) + b) (Cert.Ffn.panel_add _ rfl rfl rfl rfl rfl rfl _ w _ r n)

theorem p1_pay (H : Vec Ideal S640x4096 .bf16) (W U : Vec Ideal S1x4096x256 .bf16) (x : Vec Ideal S640x512 .f32)
    (w : Vec Ideal S1x256x512 .bf16) (r : Fin 640) (n : Fin 512) :
    k0_pay8 (F := Ideal) H W U x w (ix2 r n)
      = (x (ix2 r n) + ∑ f : Fin 256, k0_pay6 (F := Ideal) H W U (ix2 r f) * w (ix3 (0 : Fin 1) f n) : EReal) := by
  unfold k0_pay8
  simp only [shapeCast_self]
  exact congrArg (fun b : EReal => x (ix2 r n) + b) (Cert.Ffn.panel_add _ rfl rfl rfl rfl rfl rfl _ w _ r n)

theorem p5_pay (a : FVec Ideal S640x256 .bf16) (x : Vec Ideal S640x512 .f32) (w : Vec Ideal S1x256x512 .bf16) (r : Fin 640) (n : Fin 512) :
    k0_pay1 (F := Ideal) (k0_pay12 (F := Ideal) x) (k0_pay13 (F := Ideal) a w) (ix2 r n)
      = (x (ix2 r n) + ∑ f : Fin 256, a (ix2 r f) * w (ix3 (0 : Fin 1) f n) : EReal) := by
  unfold k0_pay1 k0_pay12 k0_pay13
  simp only [shapeCast_self]
  exact congrArg (fun b : EReal => x (ix2 r n) + b) (Cert.Ffn.panel_add _ rfl rfl rfl rfl rfl rfl a w _ r n)

/-- A load of 512 columns of a block, at an index. -/
theorem readAt_cols (v : View sig .tc .vmem S640x4096 .f32) (g : v.ty.Contents (Elt Ideal)) (o : Nat) (ho : o + 512 ≤ 4096)
    (inb : ∀ a, (![0, o] : Fin 2 → Nat) a + S640x512.size a ≤ S640x4096.size a) (r : Fin 640) (n : Fin 512) :
    View.readAt (Elt Ideal) v (Rect.unit (s := S640x4096) ![0, o] S640x512.size inb).toLoadRect g (ix2 r n)
      = v.read (Elt Ideal) g (ix2 r (⟨o + n.val, by omega⟩ : Fin 4096)) := by
  refine congrArg (fun z => v.read (Elt Ideal) g z) (funext fun a => Fin.ext ?_)
  match a with
  | ⟨0, _⟩ => show 0 + 1 * r.val = r.val; omega
  | ⟨1, _⟩ => show o + 1 * n.val = o + n.val; omega

/-- A load of 512 columns of the down weights' block, at an index. -/
theorem readAt_down (v : View sig .tc .vmem S1x256x4096 .bf16) (g : v.ty.Contents (Elt Ideal)) (o : Nat) (ho : o + 512 ≤ 4096)
    (inb : ∀ a, (![0, 0, o] : Fin 3 → Nat) a + S1x256x512.size a ≤ S1x256x4096.size a) (f : Fin 256) (n : Fin 512) :
    View.readAt (Elt Ideal) v (Rect.unit (s := S1x256x4096) ![0, 0, o] S1x256x512.size inb).toLoadRect g (ix3 (0 : Fin 1) f n)
      = v.read (Elt Ideal) g (ix3 (0 : Fin 1) f (⟨o + n.val, by omega⟩ : Fin 4096)) := by
  refine congrArg (fun z => v.read (Elt Ideal) g z) (funext fun a => Fin.ext ?_)
  match a with
  | ⟨0, _⟩ => rfl
  | ⟨1, _⟩ => show 0 + 1 * f.val = f.val; omega
  | ⟨2, _⟩ => show o + 1 * n.val = o + n.val; omega

/-- If the columns below `o` are done and the rest are not, then after a store of the done columns `o … o + 511` the
    columns below `o + 512` are. -/
theorem panel_step (v : View sig .tc .vmem S640x4096 .f32) (g : v.ty.Contents (Elt Ideal)) (L : List (View.Piece (Elt Ideal) S640x4096 .f32))
    (B T : Fin 640 → Fin 4096 → EReal) (o o' : Nat) (ho : o + 512 ≤ 4096) (ho' : o' = o + 512)
    (inb : ∀ a, (![0, o] : Fin 2 → Nat) a + S640x512.size a ≤ S640x4096.size a)
    (w : (Rect.unit (s := S640x4096) ![0, o] S640x512.size inb).shape.Idx → Elt Ideal .f32)
    (hA : ∀ (r : Fin 640) (n : Fin 4096), v.read (Elt Ideal) (v.writes (Elt Ideal) g L) (ix2 r n) = if n.val < o then T r n else B r n)
    (hw : ∀ (r : Fin 640) (n : Fin 512), w (ix2 r n) = T r (⟨o + n.val, by omega⟩ : Fin 4096)) (r : Fin 640) (n : Fin 4096) :
    v.read (Elt Ideal) (v.writes (Elt Ideal) g (⟨Rect.unit (s := S640x4096) ![0, o] S640x512.size inb, w⟩ :: L)) (ix2 r n)
      = if n.val < o' then T r n else B r n := by
  subst ho'
  by_cases h1 : n.val < o
  · refine (View.read_writes_cons_unit_of_not_mem v g inb w L (ix2 r n) rfl 1 (.inl h1)).trans ((hA r n).trans ?_)
    rw [if_pos h1, if_pos (by omega)]
  · by_cases h2 : n.val < o + 512
    · rw [if_pos h2]
      have hn : n = (⟨o + (⟨n.val - o, by omega⟩ : Fin 512).val, by show o + (n.val - o) < 4096; omega⟩ : Fin 4096) :=
        Fin.ext (by show n.val = o + (n.val - o); omega)
      refine (View.read_writes_cons_unit_of_mem v g inb w L (ix2 r n) (ix2 r (⟨n.val - o, by omega⟩ : Fin 512)) rfl ?_).trans ?_
      · intro a
        match a with
        | ⟨0, _⟩ => show r.val = 0 + r.val; omega
        | ⟨1, _⟩ => show n.val = o + (n.val - o); omega
      · exact (hw r _).trans (congrArg (T r) hn.symm)
    · refine (View.read_writes_cons_unit_of_not_mem v g inb w L (ix2 r n) rfl 1 (.inr (Nat.le_of_not_lt h2))).trans ((hA r n).trans ?_)
      rw [if_neg h1, if_neg h2]

/-- The same with the stored value given as a panel's: what the accumulator held, plus the product. -/
theorem panel_next (v : View sig .tc .vmem S640x4096 .f32) (g : v.ty.Contents (Elt Ideal)) (L : List (View.Piece (Elt Ideal) S640x4096 .f32))
    (B S : Fin 640 → Fin 4096 → EReal) (o o' : Nat) (ho : o + 512 ≤ 4096) (ho' : o' = o + 512)
    (inb : ∀ a, (![0, o] : Fin 2 → Nat) a + S640x512.size a ≤ S640x4096.size a)
    (w : (Rect.unit (s := S640x4096) ![0, o] S640x512.size inb).shape.Idx → Elt Ideal .f32)
    (hA : ∀ (r : Fin 640) (n : Fin 4096), v.read (Elt Ideal) (v.writes (Elt Ideal) g L) (ix2 r n) = if n.val < o then B r n + S r n else B r n)
    (hw : ∀ (r : Fin 640) (n : Fin 512), w (ix2 r n)
      = v.read (Elt Ideal) (v.writes (Elt Ideal) g L) (ix2 r (⟨o + n.val, by omega⟩ : Fin 4096)) + S r (⟨o + n.val, by omega⟩ : Fin 4096))
    (r : Fin 640) (n : Fin 4096) :
    v.read (Elt Ideal) (v.writes (Elt Ideal) g (⟨Rect.unit (s := S640x4096) ![0, o] S640x512.size inb, w⟩ :: L)) (ix2 r n)
      = if n.val < o' then B r n + S r n else B r n := by
  refine panel_step v g L B (fun r n => B r n + S r n) o o' ho ho' inb w hA (fun r n => (hw r n).trans ?_) r n
  refine congrArg (fun b : EReal => b + S r (⟨o + n.val, by omega⟩ : Fin 4096)) ((hA r _).trans (if_neg ?_))
  show ¬ (o + n.val < o)
  omega

end Cert.Kernel2Ideal.Ffn

end
-- ==== Proof.Ffn.FinalIdeal.Rows.lean ====
/- The loop that opens a row block: its ten trips leave the rows in the output block and, normalised, in the scratch. -/
module

public import proofs.«01_k».proof.Proof.Ffn.FinalIdeal.Pays

@[expose] public section

set_option maxRecDepth 16384

noncomputable section

namespace Cert.Kernel2Ideal.Ffn

open Idealize.ShloMosaic Idealize.ShloMosaic.TcCoe Idealize.ShloMosaic.ValueIdx Idealize.SL.Sem
open Cert.Kernel2Ideal Cert.Kernel2Ideal.Gen
open Cert.Common (rowNorm)

variable (𝒱 : Variants) (c : Dev nD) (bd : Option 𝒱.V) (i : grid0.Coords)
  (arg2 : Memref sig .tc .vmem S1x4096 .f32) (harg2 : arg2.IsWhole) (arg3 : Memref sig .tc .vmem S1x4096x256 .bf16) (harg3 : arg3.IsWhole)
  (arg4 : Memref sig .tc .vmem S1x4096x256 .bf16) (harg4 : arg4.IsWhole) (arg5 : Memref sig .tc .vmem S1x256x4096 .bf16) (harg5 : arg5.IsWhole)
  (arg6 : Memref sig .tc .vmem S1x4096 .f32) (harg6 : arg6.IsWhole) (arg7 : Memref sig .tc .vmem S640x4096 .f32) (harg7 : arg7.IsWhole)
  (arg8 : Memref sig .tc .vmem S640x4096 .f32) (harg8 : arg8.IsWhole) (arg9 : Memref sig .tc .vmem S640x4096 .bf16) (harg9 : arg9.IsWhole)

/-- One trip's two stores. -/
theorem trip1_eq (h1 : k0_cond1 i = 1#1) (X2 : BufTy.Contents (Elt Ideal) arg2.view.ty) (X7 : BufTy.Contents (Elt Ideal) arg7.view.ty)
    (k : Fin k0_t1_loop.trips) :
    tripL_k0_t1 (F := Ideal) 𝒱 c bd i arg2 harg2 arg3 harg3 arg4 harg4 arg5 harg5 arg6 harg6 arg7 harg7 arg8 harg8 arg9 harg9 h1 X2 X7 k
      = ([⟨Rect.unit (s := S640x4096) (k0_off1 k) S64x4096.size (k0_off1_inb i k h1),
          View.readAt (Elt Ideal) arg7.view (Rect.unit (s := S640x4096) (k0_off1 k) S64x4096.size (k0_off1_inb i k h1)).toLoadRect X7⟩],
        [⟨Rect.unit (s := S640x4096) (k0_off1 k) S64x4096.size (k0_off1_inb i k h1),
          k0_pay5 (F := Ideal)
            (View.readAt (Elt Ideal) arg7.view (Rect.unit (s := S640x4096) (k0_off1 k) S64x4096.size (k0_off1_inb i k h1)).toLoadRect X7)
            (View.readAt (Elt Ideal) arg2.view (Rect.unit (s := S1x4096) ![0, 0] S1x4096.size inb_S1x4096_S1x4096_0_0).toLoadRect X2)⟩]) := by
  unfold tripL_k0_t1 trip_k0_t1
  rfl

/-- A load of 64 rows of a block, at an index. -/
theorem readAt_rows (h1 : k0_cond1 i = 1#1) (x7 : Vec Ideal S640x4096 .f32) (k : Fin k0_t1_loop.trips) (r : Fin 640) (r' : Fin 64)
    (hr' : r.val = 64 * k.val + r'.val) (l : Fin 4096) :
    View.readAt (Elt Ideal) arg7.view (Rect.unit (s := S640x4096) (k0_off1 k) S64x4096.size (k0_off1_inb i k h1)).toLoadRect (harg7.unread x7) (ix2 r' l)
      = x7 (ix2 r l) := by
  refine (congrArg (fun z => arg7.view.read (Elt Ideal) (harg7.unread x7) z) ?_).trans (congrFun (harg7.read_unread x7) (ix2 r l))
  funext a; apply Fin.ext
  match a with
  | ⟨0, _⟩ =>
    show k0_off1 k 0 + 1 * r'.val = r.val
    rw [k0_off1_eq]; show 64 * k.val + 1 * r'.val = r.val; omega
  | ⟨1, _⟩ =>
    show k0_off1 k 1 + 1 * l.val = l.val
    rw [k0_off1_eq]; show 0 + 1 * l.val = l.val; omega

/-- The load of the gain, at an index. -/
theorem readAt_gain (v : Memref sig .tc .vmem S1x4096 .f32) (hv : v.IsWhole) (x : Vec Ideal S1x4096 .f32) (l : Fin 4096) :
    View.readAt (Elt Ideal) v.view (Rect.unit (s := S1x4096) ![0, 0] S1x4096.size inb_S1x4096_S1x4096_0_0).toLoadRect (hv.unread x) (ix2 (0 : Fin 1) l)
      = x (ix2 (0 : Fin 1) l) :=
  (congrFun (View.readAt_full (s := S1x4096) v.view _ inb_S1x4096_S1x4096_0_0) _).trans (congrFun (hv.read_unread x) _)

/-- After `k` trips the scratch's rows below `64 * k` are normalised. -/
theorem rows9 (h1 : k0_cond1 i = 1#1) (x2 : Vec Ideal S1x4096 .f32) (x7 : Vec Ideal S640x4096 .f32)
    (v : View sig .tc .vmem S640x4096 .bf16) (f : v.ty.Contents (Elt Ideal)) :
    ∀ k : Nat, k ≤ 10 → ∀ (r : Fin 640) (n : Fin 4096), r.val < 64 * k →
      v.read (Elt Ideal) (v.writes (Elt Ideal) f (pb_k0_t1 (F := Ideal) 𝒱 c bd i arg2 harg2 arg3 harg3 arg4 harg4 arg5 harg5 arg6 harg6 arg7 harg7 arg8 harg8 arg9 harg9 h1 (harg2.unread x2) (harg7.unread x7) k).2) (ix2 r n)
        = rowNorm (fun l => x7 (ix2 r l)) (fun l => x2 (ix2 (0 : Fin 1) l)) n := by
  intro k
  induction k with
  | zero => intro _ r n h; omega
  | succ k ih =>
    intro hk r n hr
    have hk' : k < k0_t1_loop.trips := hk
    have hs := congrArg Prod.snd (pb_k0_t1_succ (F := Ideal) 𝒱 c bd i arg2 harg2 arg3 harg3 arg4 harg4 arg5 harg5 arg6 harg6 arg7 harg7 arg8 harg8 arg9 harg9 h1 (harg2.unread x2) (harg7.unread x7) ⟨k, hk'⟩)
    rw [trip1_eq] at hs
    dsimp only at hs
    rw [show k + 1 = (⟨k, hk'⟩ : Fin k0_t1_loop.trips).val + 1 from rfl, hs, List.singleton_append]
    by_cases hlt : r.val < 64 * k
    · rw [View.read_writes_cons_rows_of_not_mem (o := 64 * k) (W := 64) v f _ _ _ _ (k0_off1_eq ⟨k, hk'⟩) rfl (.inl hlt)]
      exact ih (by omega) r n hlt
    · have hx : ∃ r' : Fin 64, r.val = 64 * k + r'.val := ⟨⟨r.val - 64 * k, by omega⟩, by show r.val = 64 * k + (r.val - 64 * k); omega⟩
      obtain ⟨r', hr'⟩ := hx
      refine (View.read_writes_cons_rows_of_mem (o := 64 * k) (size := S64x4096.size) v f _ _ _ (ix2 r n) (ix2 r' n)
        (k0_off1_eq ⟨k, hk'⟩) hr' rfl).trans ?_
      rw [norm_pay]
      congr 1
      · funext l
        exact readAt_rows i arg7 harg7 h1 x7 ⟨k, hk'⟩ r r' hr' l
      · funext l
        exact readAt_gain arg2 harg2 x2 l

/-- After `k` trips the output block's rows below `64 * k` are the input's. -/
theorem rows8 (h1 : k0_cond1 i = 1#1) (x2 : Vec Ideal S1x4096 .f32) (x7 : Vec Ideal S640x4096 .f32)
    (v : View sig .tc .vmem S640x4096 .f32) (f : v.ty.Contents (Elt Ideal)) :
    ∀ k : Nat, k ≤ 10 → ∀ (r : Fin 640) (n : Fin 4096), r.val < 64 * k →
      v.read (Elt Ideal) (v.writes (Elt Ideal) f (pb_k0_t1 (F := Ideal) 𝒱 c bd i arg2 harg2 arg3 harg3 arg4 harg4 arg5 harg5 arg6 harg6 arg7 harg7 arg8 harg8 arg9 harg9 h1 (harg2.unread x2) (harg7.unread x7) k).1) (ix2 r n)
        = x7 (ix2 r n) := by
  intro k
  induction k with
  | zero => intro _ r n h; omega
  | succ k ih =>
    intro hk r n hr
    have hk' : k < k0_t1_loop.trips := hk
    have hs := congrArg Prod.fst (pb_k0_t1_succ (F := Ideal) 𝒱 c bd i arg2 harg2 arg3 harg3 arg4 harg4 arg5 harg5 arg6 harg6 arg7 harg7 arg8 harg8 arg9 harg9 h1 (harg2.unread x2) (harg7.unread x7) ⟨k, hk'⟩)
    rw [trip1_eq] at hs
    dsimp only at hs
    rw [show k + 1 = (⟨k, hk'⟩ : Fin k0_t1_loop.trips).val + 1 from rfl, hs, List.singleton_append]
    by_cases hlt : r.val < 64 * k
    · rw [View.read_writes_cons_rows_of_not_mem (o := 64 * k) (W := 64) v f _ _ _ _ (k0_off1_eq ⟨k, hk'⟩) rfl (.inl hlt)]
      exact ih (by omega) r n hlt
    · have hx : ∃ r' : Fin 64, r.val = 64 * k + r'.val := ⟨⟨r.val - 64 * k, by omega⟩, by show r.val = 64 * k + (r.val - 64 * k); omega⟩
      obtain ⟨r', hr'⟩ := hx
      refine (View.read_writes_cons_rows_of_mem (o := 64 * k) (size := S64x4096.size) v f _ _ _ (ix2 r n) (ix2 r' n)
        (k0_off1_eq ⟨k, hk'⟩) hr' rfl).trans ?_
      exact readAt_rows i arg7 harg7 h1 x7 ⟨k, hk'⟩ r r' hr' n

/-- One trip of the closing loop: its one store. -/
theorem trip2_eq (h2 : k0_cond2 i = 1#1) (X6 : BufTy.Contents (Elt Ideal) arg6.view.ty) (f8 : BufTy.Contents (Elt Ideal) arg8.view.ty)
    (k : Fin k0_t2_loop.trips) :
    tripL_k0_t2 (F := Ideal) 𝒱 c bd i arg2 harg2 arg3 harg3 arg4 harg4 arg5 harg5 arg6 harg6 arg7 harg7 arg8 harg8 arg9 harg9 h2 X6 k f8
      = [⟨Rect.unit (s := S640x4096) (k0_off2 k) S64x4096.size (k0_off2_inb i k h2),
          k0_pay4 (F := Ideal)
            (View.readAt (Elt Ideal) arg8.view (Rect.unit (s := S640x4096) (k0_off2 k) S64x4096.size (k0_off2_inb i k h2)).toLoadRect f8)
            (View.readAt (Elt Ideal) arg6.view (Rect.unit (s := S1x4096) ![0, 0] S1x4096.size inb_S1x4096_S1x4096_0_0).toLoadRect X6)⟩] := by
  unfold tripL_k0_t2 trip_k0_t2
  rfl

/-- After `k` trips the output block's rows below `64 * k` are normalised, and the rest as the loop found them. -/
theorem rows2 (h2 : k0_cond2 i = 1#1) (x6 : Vec Ideal S1x4096 .f32) (f : arg8.view.ty.Contents (Elt Ideal)) :
    ∀ k : Nat, k ≤ 10 → ∀ (r : Fin 640) (n : Fin 4096),
      arg8.view.read (Elt Ideal) (arg8.view.writes (Elt Ideal) f (pb_k0_t2 (F := Ideal) 𝒱 c bd i arg2 harg2 arg3 harg3 arg4 harg4 arg5 harg5 arg6 harg6 arg7 harg7 arg8 harg8 arg9 harg9 h2 (harg6.unread x6) f k)) (ix2 r n)
        = if r.val < 64 * k then rowNorm (fun l => arg8.view.read (Elt Ideal) f (ix2 r l)) (fun l => x6 (ix2 (0 : Fin 1) l)) n
          else arg8.view.read (Elt Ideal) f (ix2 r n) := by
  intro k
  induction k with
  | zero => intro _ r n; rw [if_neg (by omega)]; rfl
  | succ k ih =>
    intro hk r n
    have hk' : k < k0_t2_loop.trips := hk
    have hs := pb_k0_t2_succ (F := Ideal) 𝒱 c bd i arg2 harg2 arg3 harg3 arg4 harg4 arg5 harg5 arg6 harg6 arg7 harg7 arg8 harg8 arg9 harg9 h2 (harg6.unread x6) f ⟨k, hk'⟩
    rw [trip2_eq] at hs
    rw [show k + 1 = (⟨k, hk'⟩ : Fin k0_t2_loop.trips).val + 1 from rfl, hs, List.singleton_append]
    by_cases hlt : r.val < 64 * k
    · rw [View.read_writes_cons_rows_of_not_mem (o := 64 * k) (W := 64) arg8.view f _ _ _ _ (k0_off2_eq ⟨k, hk'⟩) rfl (.inl hlt)]
      refine (ih (by omega) r n).trans ?_
      rw [if_pos hlt, if_pos (by show r.val < 64 * (k + 1); omega)]
    · by_cases hge : r.val < 64 * (k + 1)
      · have hx : ∃ r' : Fin 64, r.val = 64 * k + r'.val := ⟨⟨r.val - 64 * k, by omega⟩, by show r.val = 64 * k + (r.val - 64 * k); omega⟩
        obtain ⟨r', hr'⟩ := hx
        refine (View.read_writes_cons_rows_of_mem (o := 64 * k) (size := S64x4096.size) arg8.view f _ _ _ (ix2 r n) (ix2 r' n)
          (k0_off2_eq ⟨k, hk'⟩) hr' rfl).trans ?_
        rw [fin_pay, if_pos hge]
        congr 1
        · funext l
          refine (congrArg (fun z => arg8.view.read (Elt Ideal) _ z) (?_ : _ = ix2 r l)).trans ((ih (by omega) r l).trans (if_neg hlt))
          funext a; apply Fin.ext
          match a with
          | ⟨0, _⟩ =>
            show k0_off2 ⟨k, hk'⟩ 0 + 1 * r'.val = r.val
            rw [k0_off2_eq]; show 64 * k + 1 * r'.val = r.val; omega
          | ⟨1, _⟩ =>
            show k0_off2 ⟨k, hk'⟩ 1 + 1 * l.val = l.val
            rw [k0_off2_eq]; show 0 + 1 * l.val = l.val; omega
        · funext l
          exact readAt_gain arg6 harg6 x6 l
      · rw [View.read_writes_cons_rows_of_not_mem (o := 64 * k) (W := 64) arg8.view f _ _ _ _ (k0_off2_eq ⟨k, hk'⟩) rfl (.inr (show 64 * k + 64 ≤ r.val by omega))]
        refine (ih (by omega) r n).trans ?_
        rw [if_neg hlt, if_neg hge]

end Cert.Kernel2Ideal.Ffn

end
-- ==== Proof.Ffn.FinalIdeal.First.lean ====
/- The first panel of a row block. -/
module

public import proofs.«01_k».proof.Proof.Gen.Kernel2Ideal.Frame
public import proofs.«01_k».proof.Proof.Gen.Kernel2Ideal.Loops
public import proofs.«01_k».proof.Proof.Gen.Kernel2Ideal.Skeleton

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel2Ideal Cert.Kernel2Ideal.Gen

variable {F : FTy → Type} [FloatOps F]

local notation "𝕄" => MT nD τ sig Unit (Elt F) ℕ (UR sig nD τ) ℕ

set_option backward.proofsInPublic true in
set_option maxHeartbeats 4000000 in
/-- The first panel of a row block. The pieces its stores leave in the output block and in the scratch, with the proof that the body, given all its buffers,
    ends with the inputs' as they were and those pieces written. -/
noncomputable def runFirst (c : Dev nD) (i : grid0.Coords) (arg2 : Memref sig .tc .vmem S1x4096 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x256x4096 .bf16) (harg5 : arg5.IsWhole) (arg6 : Memref sig .tc .vmem S1x4096 .f32) (harg6 : arg6.IsWhole) (arg7 : Memref sig .tc .vmem S640x4096 .f32) (harg7 : arg7.IsWhole) (arg8 : Memref sig .tc .vmem S640x4096 .f32) (harg8 : arg8.IsWhole) (arg9 : Memref sig .tc .vmem S640x4096 .bf16) (harg9 : arg9.IsWhole) (hc1 : k0_cond1 i = 1#1) (hc2 : ¬k0_cond2 i = 1#1)
    (x2 : Vec F S1x4096 .f32) (x3 : Vec F S1x4096x256 .bf16) (x4 : Vec F S1x4096x256 .bf16) (x5 : Vec F S1x256x4096 .bf16) (x6 : Vec F S1x4096 .f32) (x7 : Vec F S640x4096 .f32) (x8 : Vec F S640x4096 .f32) (x9 : Vec F S640x4096 .bf16) :
    Σ' (L8 : List (View.Piece (Elt F) S640x4096 .f32)), { L9 : List (View.Piece (Elt F) S640x4096 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (arg8.view.loc (c : Thread nD τ) ↦[arg8.view.set]{fullShare} arg8.view.writes (Elt F) (harg8.unread x8) L8) ∗ (arg9.view.loc (c : Thread nD τ) ↦[arg9.view.set]{fullShare} arg9.view.writes (Elt F) (harg9.unread x9) L9)) -∗ K ⟨⟩))
          ⊢ wp frame (wpE (defs₀ (F := F)) Variants.none c none) E (cc0_swiglu_ffn i arg2 harg2 arg3 harg3 arg4 harg4 arg5 harg5 arg6 harg6 arg7 harg7 arg8 harg8 arg9 harg9) K } := by
  refine ⟨?_, ?_, fun E K => ?run⟩
  case run =>
    simp only [cc0_swiglu_ffn_eq_skeleton]; unfold cc0_swiglu_ffn_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | sl_exact hc1 | sl_exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexact H8
    iexact H9

end Cert.Kernel2Ideal.Ffn

end
-- ==== Proof.Ffn.FinalIdeal.Next.lean ====
/- A panel of a row block that is neither its first nor its last. -/
module

public import proofs.«01_k».proof.Proof.Ffn.FinalIdeal.First

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel2Ideal Cert.Kernel2Ideal.Gen

variable {F : FTy → Type} [FloatOps F]

local notation "𝕄" => MT nD τ sig Unit (Elt F) ℕ (UR sig nD τ) ℕ

set_option backward.proofsInPublic true in
set_option maxHeartbeats 4000000 in
/-- A panel of a row block that is neither its first nor its last. The pieces its stores leave in the output block, with the proof that the body, given all its buffers,
    ends with the inputs' as they were, the scratch too, and those pieces written. -/
noncomputable def runNext (c : Dev nD) (i : grid0.Coords) (arg2 : Memref sig .tc .vmem S1x4096 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x256x4096 .bf16) (harg5 : arg5.IsWhole) (arg6 : Memref sig .tc .vmem S1x4096 .f32) (harg6 : arg6.IsWhole) (arg7 : Memref sig .tc .vmem S640x4096 .f32) (harg7 : arg7.IsWhole) (arg8 : Memref sig .tc .vmem S640x4096 .f32) (harg8 : arg8.IsWhole) (arg9 : Memref sig .tc .vmem S640x4096 .bf16) (harg9 : arg9.IsWhole) (hc1 : ¬k0_cond1 i = 1#1) (hc2 : ¬k0_cond2 i = 1#1)
    (x2 : Vec F S1x4096 .f32) (x3 : Vec F S1x4096x256 .bf16) (x4 : Vec F S1x4096x256 .bf16) (x5 : Vec F S1x256x4096 .bf16) (x6 : Vec F S1x4096 .f32) (x7 : Vec F S640x4096 .f32) (x8 : Vec F S640x4096 .f32) (x9 : Vec F S640x4096 .bf16) :
    { L8 : List (View.Piece (Elt F) S640x4096 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (arg8.view.loc (c : Thread nD τ) ↦[arg8.view.set]{fullShare} arg8.view.writes (Elt F) (harg8.unread x8) L8) ∗ owns (c : Thread nD τ) arg9 fullShare x9) -∗ K ⟨⟩))
          ⊢ wp frame (wpE (defs₀ (F := F)) Variants.none c none) E (cc0_swiglu_ffn i arg2 harg2 arg3 harg3 arg4 harg4 arg5 harg5 arg6 harg6 arg7 harg7 arg8 harg8 arg9 harg9) K } := by
  refine ⟨?_, fun E K => ?run⟩
  case run =>
    simp only [cc0_swiglu_ffn_eq_skeleton]; unfold cc0_swiglu_ffn_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | sl_exact hc1 | sl_exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexact H8
    iexists _; isplitr; · ipureintro; exact harg9.read_unread _
    iexact H9

end Cert.Kernel2Ideal.Ffn

end
-- ==== Proof.Ffn.FinalIdeal.Last.lean ====
/- The last panel of a row block, with the final norm. -/
module

public import proofs.«01_k».proof.Proof.Ffn.FinalIdeal.Next

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel2Ideal Cert.Kernel2Ideal.Gen

variable {F : FTy → Type} [FloatOps F]

local notation "𝕄" => MT nD τ sig Unit (Elt F) ℕ (UR sig nD τ) ℕ

/-- The activations of one panel, from the scratch and the panel's blocks of the gate and up weights. -/
noncomputable abbrev act (arg3 : Memref sig .tc .vmem S1x4096x256 .bf16) (harg3 : arg3.IsWhole) (arg4 : Memref sig .tc .vmem S1x4096x256 .bf16) (harg4 : arg4.IsWhole) (arg9 : Memref sig .tc .vmem S640x4096 .bf16) (harg9 : arg9.IsWhole)
    (x3 : Vec F S1x4096x256 .bf16) (x4 : Vec F S1x4096x256 .bf16) (x9 : Vec F S640x4096 .bf16) : FVec F S640x256 .bf16 :=
  k0_pay6
    (View.readAt (Elt F) arg9.view (Rect.unit (s := S640x4096) ![0, 0] S640x4096.size inb_S640x4096_S640x4096_0_0).toLoadRect (harg9.unread x9))
    (View.readAt (Elt F) arg3.view (Rect.unit (s := S1x4096x256) ![0, 0, 0] S1x4096x256.size inb_S1x4096x256_S1x4096x256_0_0_0).toLoadRect (harg3.unread x3))
    (View.readAt (Elt F) arg4.view (Rect.unit (s := S1x4096x256) ![0, 0, 0] S1x4096x256.size inb_S1x4096x256_S1x4096x256_0_0_0).toLoadRect (harg4.unread x4))

/-- What one panel stores: eight pieces of the output block, each its entry contents with the panel's product added. -/
noncomputable abbrev panels (arg3 : Memref sig .tc .vmem S1x4096x256 .bf16) (harg3 : arg3.IsWhole) (arg4 : Memref sig .tc .vmem S1x4096x256 .bf16) (harg4 : arg4.IsWhole) (arg5 : Memref sig .tc .vmem S1x256x4096 .bf16) (harg5 : arg5.IsWhole) (arg8 : Memref sig .tc .vmem S640x4096 .f32) (harg8 : arg8.IsWhole) (arg9 : Memref sig .tc .vmem S640x4096 .bf16) (harg9 : arg9.IsWhole)
    (x3 : Vec F S1x4096x256 .bf16) (x4 : Vec F S1x4096x256 .bf16) (x5 : Vec F S1x256x4096 .bf16) (x8 : Vec F S640x4096 .f32) (x9 : Vec F S640x4096 .bf16) : List (View.Piece (Elt F) S640x4096 .f32) :=
  [⟨Rect.unit (s := S640x4096) ![0, 3584] S640x512.size inb_S640x4096_S640x512_0_3584,
      k0_pay3 (act arg3 harg3 arg4 harg4 arg9 harg9 x3 x4 x9) (View.readAt (Elt F) arg8.view (Rect.unit (s := S640x4096) ![0, 3584] S640x512.size inb_S640x4096_S640x512_0_3584).toLoadRect (harg8.unread x8)) (View.readAt (Elt F) arg5.view (Rect.unit (s := S1x256x4096) ![0, 0, 3584] S1x256x512.size inb_S1x256x4096_S1x256x512_0_0_3584).toLoadRect (harg5.unread x5))⟩,
   ⟨Rect.unit (s := S640x4096) ![0, 3072] S640x512.size inb_S640x4096_S640x512_0_3072,
      k0_pay2 (act arg3 harg3 arg4 harg4 arg9 harg9 x3 x4 x9) (View.readAt (Elt F) arg8.view (Rect.unit (s := S640x4096) ![0, 3072] S640x512.size inb_S640x4096_S640x512_0_3072).toLoadRect (harg8.unread x8)) (View.readAt (Elt F) arg5.view (Rect.unit (s := S1x256x4096) ![0, 0, 3072] S1x256x512.size inb_S1x256x4096_S1x256x512_0_0_3072).toLoadRect (harg5.unread x5))⟩,
   ⟨Rect.unit (s := S640x4096) ![0, 2560] S640x512.size inb_S640x4096_S640x512_0_2560,
      k0_pay1 (k0_pay12 (View.readAt (Elt F) arg8.view (Rect.unit (s := S640x4096) ![0, 2560] S640x512.size inb_S640x4096_S640x512_0_2560).toLoadRect (harg8.unread x8))) (k0_pay13 (act arg3 harg3 arg4 harg4 arg9 harg9 x3 x4 x9) (View.readAt (Elt F) arg5.view (Rect.unit (s := S1x256x4096) ![0, 0, 2560] S1x256x512.size inb_S1x256x4096_S1x256x512_0_0_2560).toLoadRect (harg5.unread x5)))⟩,
   ⟨Rect.unit (s := S640x4096) ![0, 2048] S640x512.size inb_S640x4096_S640x512_0_2048,
      k0_pay11 (act arg3 harg3 arg4 harg4 arg9 harg9 x3 x4 x9) (View.readAt (Elt F) arg8.view (Rect.unit (s := S640x4096) ![0, 2048] S640x512.size inb_S640x4096_S640x512_0_2048).toLoadRect (harg8.unread x8)) (View.readAt (Elt F) arg5.view (Rect.unit (s := S1x256x4096) ![0, 0, 2048] S1x256x512.size inb_S1x256x4096_S1x256x512_0_0_2048).toLoadRect (harg5.unread x5))⟩,
   ⟨Rect.unit (s := S640x4096) ![0, 1536] S640x512.size inb_S640x4096_S640x512_0_1536,
      k0_pay10 (act arg3 harg3 arg4 harg4 arg9 harg9 x3 x4 x9) (View.readAt (Elt F) arg8.view (Rect.unit (s := S640x4096) ![0, 1536] S640x512.size inb_S640x4096_S640x512_0_1536).toLoadRect (harg8.unread x8)) (View.readAt (Elt F) arg5.view (Rect.unit (s := S1x256x4096) ![0, 0, 1536] S1x256x512.size inb_S1x256x4096_S1x256x512_0_0_1536).toLoadRect (harg5.unread x5))⟩,
   ⟨Rect.unit (s := S640x4096) ![0, 1024] S640x512.size inb_S640x4096_S640x512_0_1024,
      k0_pay9 (act arg3 harg3 arg4 harg4 arg9 harg9 x3 x4 x9) (View.readAt (Elt F) arg8.view (Rect.unit (s := S640x4096) ![0, 1024] S640x512.size inb_S640x4096_S640x512_0_1024).toLoadRect (harg8.unread x8)) (View.readAt (Elt F) arg5.view (Rect.unit (s := S1x256x4096) ![0, 0, 1024] S1x256x512.size inb_S1x256x4096_S1x256x512_0_0_1024).toLoadRect (harg5.unread x5))⟩,
   ⟨Rect.unit (s := S640x4096) ![0, 512] S640x512.size inb_S640x4096_S640x512_0_512,
      k0_pay8 (View.readAt (Elt F) arg9.view (Rect.unit (s := S640x4096) ![0, 0] S640x4096.size inb_S640x4096_S640x4096_0_0).toLoadRect (harg9.unread x9)) (View.readAt (Elt F) arg3.view (Rect.unit (s := S1x4096x256) ![0, 0, 0] S1x4096x256.size inb_S1x4096x256_S1x4096x256_0_0_0).toLoadRect (harg3.unread x3)) (View.readAt (Elt F) arg4.view (Rect.unit (s := S1x4096x256) ![0, 0, 0] S1x4096x256.size inb_S1x4096x256_S1x4096x256_0_0_0).toLoadRect (harg4.unread x4)) (View.readAt (Elt F) arg8.view (Rect.unit (s := S640x4096) ![0, 512] S640x512.size inb_S640x4096_S640x512_0_512).toLoadRect (harg8.unread x8)) (View.readAt (Elt F) arg5.view (Rect.unit (s := S1x256x4096) ![0, 0, 512] S1x256x512.size inb_S1x256x4096_S1x256x512_0_0_512).toLoadRect (harg5.unread x5))⟩,
   ⟨Rect.unit (s := S640x4096) ![0, 0] S640x512.size inb_S640x4096_S640x512_0_0,
      k0_pay7 (View.readAt (Elt F) arg9.view (Rect.unit (s := S640x4096) ![0, 0] S640x4096.size inb_S640x4096_S640x4096_0_0).toLoadRect (harg9.unread x9)) (View.readAt (Elt F) arg3.view (Rect.unit (s := S1x4096x256) ![0, 0, 0] S1x4096x256.size inb_S1x4096x256_S1x4096x256_0_0_0).toLoadRect (harg3.unread x3)) (View.readAt (Elt F) arg4.view (Rect.unit (s := S1x4096x256) ![0, 0, 0] S1x4096x256.size inb_S1x4096x256_S1x4096x256_0_0_0).toLoadRect (harg4.unread x4)) (View.readAt (Elt F) arg8.view (Rect.unit (s := S640x4096) ![0, 0] S640x512.size inb_S640x4096_S640x512_0_0).toLoadRect (harg8.unread x8)) (View.readAt (Elt F) arg5.view (Rect.unit (s := S1x256x4096) ![0, 0, 0] S1x256x512.size inb_S1x256x4096_S1x256x512_0_0_0).toLoadRect (harg5.unread x5))⟩]

/-- What the last panel stores: the eight pieces, and over them the final norm's rows. -/
noncomputable abbrev lastList (c : Dev nD) (i : grid0.Coords) (arg2 : Memref sig .tc .vmem S1x4096 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x256x4096 .bf16) (harg5 : arg5.IsWhole) (arg6 : Memref sig .tc .vmem S1x4096 .f32) (harg6 : arg6.IsWhole) (arg7 : Memref sig .tc .vmem S640x4096 .f32) (harg7 : arg7.IsWhole) (arg8 : Memref sig .tc .vmem S640x4096 .f32) (harg8 : arg8.IsWhole) (arg9 : Memref sig .tc .vmem S640x4096 .bf16) (harg9 : arg9.IsWhole) (hc2 : k0_cond2 i = 1#1)
    (x2 : Vec F S1x4096 .f32) (x3 : Vec F S1x4096x256 .bf16) (x4 : Vec F S1x4096x256 .bf16) (x5 : Vec F S1x256x4096 .bf16) (x6 : Vec F S1x4096 .f32) (x7 : Vec F S640x4096 .f32) (x8 : Vec F S640x4096 .f32) (x9 : Vec F S640x4096 .bf16) : List (View.Piece (Elt F) S640x4096 .f32) :=
  pb_k0_t2 (F := F) Variants.none c none i arg2 harg2 arg3 harg3 arg4 harg4 arg5 harg5 arg6 harg6 arg7 harg7 arg8 harg8 arg9 harg9 hc2 (harg6.unread x6)
    (arg8.view.writes (Elt F) arg8.view.junk (panels arg3 harg3 arg4 harg4 arg5 harg5 arg8 harg8 arg9 harg9 x3 x4 x5 x8 x9)) k0_t2_loop.trips
    ++ panels arg3 harg3 arg4 harg4 arg5 harg5 arg8 harg8 arg9 harg9 x3 x4 x5 x8 x9

set_option backward.proofsInPublic true in
set_option maxHeartbeats 4000000 in
/-- The last panel of a row block, with the final norm: the body, given all its buffers,
    ends with the inputs' as they were, the scratch too, and those pieces written. -/
theorem runLast (c : Dev nD) (i : grid0.Coords) (arg2 : Memref sig .tc .vmem S1x4096 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x256x4096 .bf16) (harg5 : arg5.IsWhole) (arg6 : Memref sig .tc .vmem S1x4096 .f32) (harg6 : arg6.IsWhole) (arg7 : Memref sig .tc .vmem S640x4096 .f32) (harg7 : arg7.IsWhole) (arg8 : Memref sig .tc .vmem S640x4096 .f32) (harg8 : arg8.IsWhole) (arg9 : Memref sig .tc .vmem S640x4096 .bf16) (harg9 : arg9.IsWhole) (hc1 : ¬k0_cond1 i = 1#1) (hc2 : k0_cond2 i = 1#1)
    (x2 : Vec F S1x4096 .f32) (x3 : Vec F S1x4096x256 .bf16) (x4 : Vec F S1x4096x256 .bf16) (x5 : Vec F S1x256x4096 .bf16) (x6 : Vec F S1x4096 .f32) (x7 : Vec F S640x4096 .f32) (x8 : Vec F S640x4096 .f32) (x9 : Vec F S640x4096 .bf16) :
      ∃ L : List (View.Piece (Elt F) S640x4096 .f32), L = lastList c i arg2 harg2 arg3 harg3 arg4 harg4 arg5 harg5 arg6 harg6 arg7 harg7 arg8 harg8 arg9 harg9 hc2 x2 x3 x4 x5 x6 x7 x8 x9
      ∧ ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (arg8.view.loc (c : Thread nD τ) ↦[arg8.view.set]{fullShare} arg8.view.writes (Elt F) arg8.view.junk L) ∗ owns (c : Thread nD τ) arg9 fullShare x9) -∗ K ⟨⟩))
          ⊢ wp frame (wpE (defs₀ (F := F)) Variants.none c none) E (cc0_swiglu_ffn i arg2 harg2 arg3 harg3 arg4 harg4 arg5 harg5 arg6 harg6 arg7 harg7 arg8 harg8 arg9 harg9) K := by
  refine ⟨?_, ?same, fun E K => ?run⟩
  case run =>
    simp only [cc0_swiglu_ffn_eq_skeleton]; unfold cc0_swiglu_ffn_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | sl_exact hc1 | sl_exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexact H8
    iexists _; isplitr; · ipureintro; exact harg9.read_unread _
    iexact H9
  case same => rfl

end Cert.Kernel2Ideal.Ffn

end
-- ==== Proof.Ffn.FinalIdeal.Values.lean ====
/- What each case of the body leaves in the output block and in the scratch. -/
module

public import proofs.«01_k».proof.Proof.Ffn.FinalIdeal.Rows
public import proofs.«01_k».proof.Proof.Ffn.FinalIdeal.First
public import proofs.«01_k».proof.Proof.Ffn.FinalIdeal.Next
public import proofs.«01_k».proof.Proof.Ffn.FinalIdeal.Last

@[expose] public section

set_option maxRecDepth 16384

noncomputable section

namespace Cert.Kernel2Ideal.Ffn

open Idealize.ShloMosaic Idealize.ShloMosaic.TcCoe Idealize.ShloMosaic.ValueIdx Idealize.SL.Sem
open Cert.Kernel2Ideal Cert.Kernel2Ideal.Gen
open Cert.Common (rowNorm)

/-- A block after one panel, from the scratch's rows, the panel's weights and what the block held. -/
def bstep (x3 x4 : Vec Ideal S1x4096x256 .bf16) (x5 : Vec Ideal S1x256x4096 .bf16) (h a : Fin 640 → Fin 4096 → EReal) :
    Fin 640 → Fin 4096 → EReal :=
  Cert.Ffn.step h (fun k f => x3 (ix3 (0 : Fin 1) k f)) (fun k f => x4 (ix3 (0 : Fin 1) k f)) (fun f n => x5 (ix3 (0 : Fin 1) f n)) a

/-- What the panel adds. -/
def added (x3 x4 : Vec Ideal S1x4096x256 .bf16) (x5 : Vec Ideal S1x256x4096 .bf16) (h : Fin 640 → Fin 4096 → EReal)
    (r : Fin 640) (n : Fin 4096) : EReal :=
  ∑ f : Fin 256, Cert.Ffn.act (h r) (fun k => x3 (ix3 (0 : Fin 1) k f)) (fun k => x4 (ix3 (0 : Fin 1) k f)) * x5 (ix3 (0 : Fin 1) f n)

/-- The rows of a block, normalised with a gain. -/
def normed (x : Vec Ideal S640x4096 .f32) (g : Vec Ideal S1x4096 .f32) (r : Fin 640) (n : Fin 4096) : EReal :=
  rowNorm (fun l => x (ix2 r l)) (fun l => g (ix2 (0 : Fin 1) l)) n

variable (c : Dev nD) (i : grid0.Coords)
  (arg2 : Memref sig .tc .vmem S1x4096 .f32) (harg2 : arg2.IsWhole) (arg3 : Memref sig .tc .vmem S1x4096x256 .bf16) (harg3 : arg3.IsWhole)
  (arg4 : Memref sig .tc .vmem S1x4096x256 .bf16) (harg4 : arg4.IsWhole) (arg5 : Memref sig .tc .vmem S1x256x4096 .bf16) (harg5 : arg5.IsWhole)
  (arg6 : Memref sig .tc .vmem S1x4096 .f32) (harg6 : arg6.IsWhole) (arg7 : Memref sig .tc .vmem S640x4096 .f32) (harg7 : arg7.IsWhole)
  (arg8 : Memref sig .tc .vmem S640x4096 .f32) (harg8 : arg8.IsWhole) (arg9 : Memref sig .tc .vmem S640x4096 .bf16) (harg9 : arg9.IsWhole)

/-- The activations from what the scratch's load found. -/
theorem act_of (x3 x4 : Vec Ideal S1x4096x256 .bf16) (H : Vec Ideal S640x4096 .bf16) (h : Fin 640 → Fin 4096 → EReal)
    (hH : ∀ (r : Fin 640) (k : Fin 4096), H (ix2 r k) = h r k) (r : Fin 640) (f : Fin 256) :
    k0_pay6 (F := Ideal) H
      (View.readAt (Elt Ideal) arg3.view (Rect.unit (s := S1x4096x256) ![0, 0, 0] S1x4096x256.size inb_S1x4096x256_S1x4096x256_0_0_0).toLoadRect (harg3.unread x3))
      (View.readAt (Elt Ideal) arg4.view (Rect.unit (s := S1x4096x256) ![0, 0, 0] S1x4096x256.size inb_S1x4096x256_S1x4096x256_0_0_0).toLoadRect (harg4.unread x4)) (ix2 r f)
      = Cert.Ffn.act (h r) (fun k => x3 (ix3 (0 : Fin 1) k f)) (fun k => x4 (ix3 (0 : Fin 1) k f)) := by
  refine (act_pay _ _ _ r f).trans ?_
  have e3 : (fun k => View.readAt (Elt Ideal) arg3.view (Rect.unit (s := S1x4096x256) ![0, 0, 0] S1x4096x256.size inb_S1x4096x256_S1x4096x256_0_0_0).toLoadRect (harg3.unread x3) (ix3 (0 : Fin 1) k f))
      = fun k => x3 (ix3 (0 : Fin 1) k f) := funext fun k =>
    (congrFun (View.readAt_full (s := S1x4096x256) arg3.view _ inb_S1x4096x256_S1x4096x256_0_0_0) _).trans (congrFun (harg3.read_unread x3) _)
  have e4 : (fun k => View.readAt (Elt Ideal) arg4.view (Rect.unit (s := S1x4096x256) ![0, 0, 0] S1x4096x256.size inb_S1x4096x256_S1x4096x256_0_0_0).toLoadRect (harg4.unread x4) (ix3 (0 : Fin 1) k f))
      = fun k => x4 (ix3 (0 : Fin 1) k f) := funext fun k =>
    (congrFun (View.readAt_full (s := S1x4096x256) arg4.view _ inb_S1x4096x256_S1x4096x256_0_0_0) _).trans (congrFun (harg4.read_unread x4) _)
  have e9 : (fun k => H (ix2 r k)) = h r := funext fun k => hH r k
  rw [e9]
  exact congrArg₂ (Cert.Ffn.act (h r)) e3 e4

/-- The panel's product at an index, from the activations. -/
theorem sum_of (x3 x4 : Vec Ideal S1x4096x256 .bf16) (x5 : Vec Ideal S1x256x4096 .bf16) (h : Fin 640 → Fin 4096 → EReal)
    (a : FVec Ideal S640x256 .bf16)
    (ha : ∀ (r : Fin 640) (f : Fin 256), a (ix2 r f) = Cert.Ffn.act (h r) (fun k => x3 (ix3 (0 : Fin 1) k f)) (fun k => x4 (ix3 (0 : Fin 1) k f)))
    (o : Nat) (ho : o + 512 ≤ 4096) (inb : ∀ a, (![0, 0, o] : Fin 3 → Nat) a + S1x256x512.size a ≤ S1x256x4096.size a) (r : Fin 640) (n : Fin 512) :
    (∑ f : Fin 256, a (ix2 r f)
        * View.readAt (Elt Ideal) arg5.view (Rect.unit (s := S1x256x4096) ![0, 0, o] S1x256x512.size inb).toLoadRect (harg5.unread x5) (ix3 (0 : Fin 1) f n) : EReal)
      = added x3 x4 x5 h r (⟨o + n.val, by omega⟩ : Fin 4096) :=
  Finset.sum_congr rfl fun f _ => congrArg₂ (fun a b : EReal => a * b) (ha r f)
    ((readAt_down arg5.view _ o ho inb f n).trans (congrFun (harg5.read_unread x5) _))

set_option maxHeartbeats 1000000 in
/-- A middle panel: the output block. -/
theorem next8 (hc1 : ¬ k0_cond1 i = 1#1) (hc2 : ¬ k0_cond2 i = 1#1) (x2 : Vec Ideal S1x4096 .f32) (x3 x4 : Vec Ideal S1x4096x256 .bf16) (x5 : Vec Ideal S1x256x4096 .bf16)
    (x6 : Vec Ideal S1x4096 .f32) (x7 x8 : Vec Ideal S640x4096 .f32) (x9 : Vec Ideal S640x4096 .bf16) (r : Fin 640) (n : Fin 4096) :
    arg8.view.read (Elt Ideal) (arg8.view.writes (Elt Ideal) (harg8.unread x8)
        (runNext (F := Ideal) c i arg2 harg2 arg3 harg3 arg4 harg4 arg5 harg5 arg6 harg6 arg7 harg7 arg8 harg8 arg9 harg9 hc1 hc2 x2 x3 x4 x5 x6 x7 x8 x9).1) (ix2 r n)
      = bstep x3 x4 x5 (fun r k => x9 (ix2 r k)) (fun r n => x8 (ix2 r n)) r n := by
  have hH : ∀ (r : Fin 640) (k : Fin 4096), View.readAt (Elt Ideal) arg9.view (Rect.unit (s := S640x4096) ![0, 0] S640x4096.size inb_S640x4096_S640x4096_0_0).toLoadRect (harg9.unread x9) (ix2 r k)
      = x9 (ix2 r k) := fun r k =>
    (congrFun (View.readAt_full (s := S640x4096) arg9.view _ inb_S640x4096_S640x4096_0_0) _).trans (congrFun (harg9.read_unread x9) _)
  have ha := act_of arg3 harg3 arg4 harg4 x3 x4 _ (fun r k => x9 (ix2 r k)) hH
  have h8 : ∀ (r : Fin 640) (n : Fin 4096), arg8.view.read (Elt Ideal) (harg8.unread x8) (ix2 r n) = x8 (ix2 r n) :=
    fun r n => congrFun (harg8.read_unread x8) _
  unfold runNext
  dsimp only
  refine (panel_step _ _ _ (fun r n => x8 (ix2 r n)) (bstep x3 x4 x5 (fun r k => x9 (ix2 r k)) (fun r n => x8 (ix2 r n))) 3584 4096 (by omega) rfl _ _ ?_
    (fun r n => (p7_pay _ _ _ r n).trans (congrArg₂ (fun a b : EReal => a + b) ((readAt_cols _ _ 3584 (by omega) _ r n).trans (h8 r _))
      (sum_of arg5 harg5 x3 x4 x5 _ _ ha 3584 (by omega) _ r n))) r n).trans ?_
  rotate_left
  · exact if_pos n.isLt
  clear r n
  intro r n
  refine (panel_step _ _ _ (fun r n => x8 (ix2 r n)) (bstep x3 x4 x5 (fun r k => x9 (ix2 r k)) (fun r n => x8 (ix2 r n))) 3072 3584 (by omega) rfl _ _ ?_
    (fun r n => (p6_pay _ _ _ r n).trans (congrArg₂ (fun a b : EReal => a + b) ((readAt_cols _ _ 3072 (by omega) _ r n).trans (h8 r _))
      (sum_of arg5 harg5 x3 x4 x5 _ _ ha 3072 (by omega) _ r n))) r n).trans ?_
  rotate_left
  · rfl
  clear r n
  intro r n
  refine (panel_step _ _ _ (fun r n => x8 (ix2 r n)) (bstep x3 x4 x5 (fun r k => x9 (ix2 r k)) (fun r n => x8 (ix2 r n))) 2560 3072 (by omega) rfl _ _ ?_
    (fun r n => (p5_pay _ _ _ r n).trans (congrArg₂ (fun a b : EReal => a + b) ((readAt_cols _ _ 2560 (by omega) _ r n).trans (h8 r _))
      (sum_of arg5 harg5 x3 x4 x5 _ _ ha 2560 (by omega) _ r n))) r n).trans ?_
  rotate_left
  · rfl
  clear r n
  intro r n
  refine (panel_step _ _ _ (fun r n => x8 (ix2 r n)) (bstep x3 x4 x5 (fun r k => x9 (ix2 r k)) (fun r n => x8 (ix2 r n))) 2048 2560 (by omega) rfl _ _ ?_
    (fun r n => (p4_pay _ _ _ r n).trans (congrArg₂ (fun a b : EReal => a + b) ((readAt_cols _ _ 2048 (by omega) _ r n).trans (h8 r _))
      (sum_of arg5 harg5 x3 x4 x5 _ _ ha 2048 (by omega) _ r n))) r n).trans ?_
  rotate_left
  · rfl
  clear r n
  intro r n
  refine (panel_step _ _ _ (fun r n => x8 (ix2 r n)) (bstep x3 x4 x5 (fun r k => x9 (ix2 r k)) (fun r n => x8 (ix2 r n))) 1536 2048 (by omega) rfl _ _ ?_
    (fun r n => (p3_pay _ _ _ r n).trans (congrArg₂ (fun a b : EReal => a + b) ((readAt_cols _ _ 1536 (by omega) _ r n).trans (h8 r _))
      (sum_of arg5 harg5 x3 x4 x5 _ _ ha 1536 (by omega) _ r n))) r n).trans ?_
  rotate_left
  · rfl
  clear r n
  intro r n
  refine (panel_step _ _ _ (fun r n => x8 (ix2 r n)) (bstep x3 x4 x5 (fun r k => x9 (ix2 r k)) (fun r n => x8 (ix2 r n))) 1024 1536 (by omega) rfl _ _ ?_
    (fun r n => (p2_pay _ _ _ r n).trans (congrArg₂ (fun a b : EReal => a + b) ((readAt_cols _ _ 1024 (by omega) _ r n).trans (h8 r _))
      (sum_of arg5 harg5 x3 x4 x5 _ _ ha 1024 (by omega) _ r n))) r n).trans ?_
  rotate_left
  · rfl
  clear r n
  intro r n
  refine (panel_step _ _ _ (fun r n => x8 (ix2 r n)) (bstep x3 x4 x5 (fun r k => x9 (ix2 r k)) (fun r n => x8 (ix2 r n))) 512 1024 (by omega) rfl _ _ ?_
    (fun r n => (p1_pay _ _ _ _ _ r n).trans (congrArg₂ (fun a b : EReal => a + b) ((readAt_cols _ _ 512 (by omega) _ r n).trans (h8 r _))
      (sum_of arg5 harg5 x3 x4 x5 _ _ ha 512 (by omega) _ r n))) r n).trans ?_
  rotate_left
  · rfl
  clear r n
  intro r n
  refine (panel_step _ _ _ (fun r n => x8 (ix2 r n)) (bstep x3 x4 x5 (fun r k => x9 (ix2 r k)) (fun r n => x8 (ix2 r n))) 0 512 (by omega) rfl _ _ ?_
    (fun r n => (p0_pay _ _ _ _ _ r n).trans (congrArg₂ (fun a b : EReal => a + b) ((readAt_cols _ _ 0 (by omega) _ r n).trans (h8 r _))
      (sum_of arg5 harg5 x3 x4 x5 _ _ ha 0 (by omega) _ r n))) r n).trans ?_
  rotate_left
  · rfl
  clear r n
  intro r n
  rw [if_neg (Nat.not_lt_zero _)]
  exact h8 r n

/-- The first panel: the scratch. -/
theorem first9 (hc1 : k0_cond1 i = 1#1) (hc2 : ¬ k0_cond2 i = 1#1) (x2 : Vec Ideal S1x4096 .f32) (x3 x4 : Vec Ideal S1x4096x256 .bf16) (x5 : Vec Ideal S1x256x4096 .bf16)
    (x6 : Vec Ideal S1x4096 .f32) (x7 x8 : Vec Ideal S640x4096 .f32) (x9 : Vec Ideal S640x4096 .bf16) (r : Fin 640) (n : Fin 4096) :
    arg9.view.read (Elt Ideal) (arg9.view.writes (Elt Ideal) (harg9.unread x9)
        (runFirst (F := Ideal) c i arg2 harg2 arg3 harg3 arg4 harg4 arg5 harg5 arg6 harg6 arg7 harg7 arg8 harg8 arg9 harg9 hc1 hc2 x2 x3 x4 x5 x6 x7 x8 x9).2.1) (ix2 r n)
      = normed x7 x2 r n := by
  unfold runFirst
  exact rows9 Variants.none c none i arg2 harg2 arg3 harg3 arg4 harg4 arg5 harg5 arg6 harg6 arg7 harg7 arg8 harg8 arg9 harg9 hc1 x2 x7 arg9.view _ 10 le_rfl r n r.isLt

set_option maxHeartbeats 1000000 in
/-- The first panel: the output block. -/
theorem first8 (hc1 : k0_cond1 i = 1#1) (hc2 : ¬ k0_cond2 i = 1#1) (x2 : Vec Ideal S1x4096 .f32) (x3 x4 : Vec Ideal S1x4096x256 .bf16) (x5 : Vec Ideal S1x256x4096 .bf16)
    (x6 : Vec Ideal S1x4096 .f32) (x7 x8 : Vec Ideal S640x4096 .f32) (x9 : Vec Ideal S640x4096 .bf16) (r : Fin 640) (n : Fin 4096) :
    arg8.view.read (Elt Ideal) (arg8.view.writes (Elt Ideal) (harg8.unread x8)
        (runFirst (F := Ideal) c i arg2 harg2 arg3 harg3 arg4 harg4 arg5 harg5 arg6 harg6 arg7 harg7 arg8 harg8 arg9 harg9 hc1 hc2 x2 x3 x4 x5 x6 x7 x8 x9).1) (ix2 r n)
      = bstep x3 x4 x5 (normed x7 x2) (fun r n => x7 (ix2 r n)) r n := by
  have hH : ∀ (r : Fin 640) (k : Fin 4096), View.readAt (Elt Ideal) arg9.view (Rect.unit (s := S640x4096) ![0, 0] S640x4096.size inb_S640x4096_S640x4096_0_0).toLoadRect
      (arg9.view.writes (Elt Ideal) (harg9.unread x9) (pb_k0_t1 (F := Ideal) Variants.none c none i arg2 harg2 arg3 harg3 arg4 harg4 arg5 harg5 arg6 harg6 arg7 harg7 arg8 harg8 arg9 harg9 hc1 (harg2.unread x2) (harg7.unread x7) (Scf.trips k0_t1_loop.lb k0_t1_loop.ub k0_t1_loop.st)).2) (ix2 r k)
      = normed x7 x2 r k := fun r k =>
    (congrFun (View.readAt_full (s := S640x4096) arg9.view _ inb_S640x4096_S640x4096_0_0) _).trans
      (rows9 Variants.none c none i arg2 harg2 arg3 harg3 arg4 harg4 arg5 harg5 arg6 harg6 arg7 harg7 arg8 harg8 arg9 harg9 hc1 x2 x7 arg9.view _ 10 le_rfl r k r.isLt)
  have ha := act_of arg3 harg3 arg4 harg4 x3 x4 _ (normed x7 x2) hH
  unfold runFirst
  dsimp only
  refine (panel_next _ _ _ (fun r n => x7 (ix2 r n)) (added x3 x4 x5 (normed x7 x2)) 3584 4096 (by omega) rfl _ _ ?_
    (fun r n => (p7_pay _ _ _ r n).trans (congrArg₂ (fun a b : EReal => a + b) (readAt_cols _ _ 3584 (by omega) _ r n)
      (sum_of arg5 harg5 x3 x4 x5 _ _ ha 3584 (by omega) _ r n))) r n).trans ?_
  rotate_left
  · exact if_pos n.isLt
  clear r n
  intro r n
  refine (panel_next _ _ _ (fun r n => x7 (ix2 r n)) (added x3 x4 x5 (normed x7 x2)) 3072 3584 (by omega) rfl _ _ ?_
    (fun r n => (p6_pay _ _ _ r n).trans (congrArg₂ (fun a b : EReal => a + b) (readAt_cols _ _ 3072 (by omega) _ r n)
      (sum_of arg5 harg5 x3 x4 x5 _ _ ha 3072 (by omega) _ r n))) r n).trans ?_
  rotate_left
  · rfl
  clear r n
  intro r n
  refine (panel_next _ _ _ (fun r n => x7 (ix2 r n)) (added x3 x4 x5 (normed x7 x2)) 2560 3072 (by omega) rfl _ _ ?_
    (fun r n => (p5_pay _ _ _ r n).trans (congrArg₂ (fun a b : EReal => a + b) (readAt_cols _ _ 2560 (by omega) _ r n)
      (sum_of arg5 harg5 x3 x4 x5 _ _ ha 2560 (by omega) _ r n))) r n).trans ?_
  rotate_left
  · rfl
  clear r n
  intro r n
  refine (panel_next _ _ _ (fun r n => x7 (ix2 r n)) (added x3 x4 x5 (normed x7 x2)) 2048 2560 (by omega) rfl _ _ ?_
    (fun r n => (p4_pay _ _ _ r n).trans (congrArg₂ (fun a b : EReal => a + b) (readAt_cols _ _ 2048 (by omega) _ r n)
      (sum_of arg5 harg5 x3 x4 x5 _ _ ha 2048 (by omega) _ r n))) r n).trans ?_
  rotate_left
  · rfl
  clear r n
  intro r n
  refine (panel_next _ _ _ (fun r n => x7 (ix2 r n)) (added x3 x4 x5 (normed x7 x2)) 1536 2048 (by omega) rfl _ _ ?_
    (fun r n => (p3_pay _ _ _ r n).trans (congrArg₂ (fun a b : EReal => a + b) (readAt_cols _ _ 1536 (by omega) _ r n)
      (sum_of arg5 harg5 x3 x4 x5 _ _ ha 1536 (by omega) _ r n))) r n).trans ?_
  rotate_left
  · rfl
  clear r n
  intro r n
  refine (panel_next _ _ _ (fun r n => x7 (ix2 r n)) (added x3 x4 x5 (normed x7 x2)) 1024 1536 (by omega) rfl _ _ ?_
    (fun r n => (p2_pay _ _ _ r n).trans (congrArg₂ (fun a b : EReal => a + b) (readAt_cols _ _ 1024 (by omega) _ r n)
      (sum_of arg5 harg5 x3 x4 x5 _ _ ha 1024 (by omega) _ r n))) r n).trans ?_
  rotate_left
  · rfl
  clear r n
  intro r n
  refine (panel_next _ _ _ (fun r n => x7 (ix2 r n)) (added x3 x4 x5 (normed x7 x2)) 512 1024 (by omega) rfl _ _ ?_
    (fun r n => (p1_pay _ _ _ _ _ r n).trans (congrArg₂ (fun a b : EReal => a + b) (readAt_cols _ _ 512 (by omega) _ r n)
      (sum_of arg5 harg5 x3 x4 x5 _ _ ha 512 (by omega) _ r n))) r n).trans ?_
  rotate_left
  · rfl
  clear r n
  intro r n
  refine (panel_next _ _ _ (fun r n => x7 (ix2 r n)) (added x3 x4 x5 (normed x7 x2)) 0 512 (by omega) rfl _ _ ?_
    (fun r n => (p0_pay _ _ _ _ _ r n).trans (congrArg₂ (fun a b : EReal => a + b) (readAt_cols _ _ 0 (by omega) _ r n)
      (sum_of arg5 harg5 x3 x4 x5 _ _ ha 0 (by omega) _ r n))) r n).trans ?_
  rotate_left
  · rfl
  clear r n
  intro r n
  rw [if_neg (Nat.not_lt_zero _)]
  exact rows8 Variants.none c none i arg2 harg2 arg3 harg3 arg4 harg4 arg5 harg5 arg6 harg6 arg7 harg7 arg8 harg8 arg9 harg9 hc1 x2 x7 arg8.view _ 10 le_rfl r n r.isLt

set_option maxHeartbeats 1000000 in
/-- The pieces of the last panel, before the final norm. -/
theorem panels8 (x3 x4 : Vec Ideal S1x4096x256 .bf16) (x5 : Vec Ideal S1x256x4096 .bf16) (x8 : Vec Ideal S640x4096 .f32)
    (x9 : Vec Ideal S640x4096 .bf16) (f : arg8.view.ty.Contents (Elt Ideal)) (r : Fin 640) (n : Fin 4096) :
    arg8.view.read (Elt Ideal) (arg8.view.writes (Elt Ideal) f
        (panels (F := Ideal) arg3 harg3 arg4 harg4 arg5 harg5 arg8 harg8 arg9 harg9 x3 x4 x5 x8 x9)) (ix2 r n)
      = bstep x3 x4 x5 (fun r k => x9 (ix2 r k)) (fun r n => x8 (ix2 r n)) r n := by
  have hH : ∀ (r : Fin 640) (k : Fin 4096), View.readAt (Elt Ideal) arg9.view (Rect.unit (s := S640x4096) ![0, 0] S640x4096.size inb_S640x4096_S640x4096_0_0).toLoadRect (harg9.unread x9) (ix2 r k)
      = x9 (ix2 r k) := fun r k =>
    (congrFun (View.readAt_full (s := S640x4096) arg9.view _ inb_S640x4096_S640x4096_0_0) _).trans (congrFun (harg9.read_unread x9) _)
  have ha := act_of arg3 harg3 arg4 harg4 x3 x4 _ (fun r k => x9 (ix2 r k)) hH
  have h8 : ∀ (r : Fin 640) (n : Fin 4096), arg8.view.read (Elt Ideal) (harg8.unread x8) (ix2 r n) = x8 (ix2 r n) :=
    fun r n => congrFun (harg8.read_unread x8) _
  refine (panel_step _ _ _ (fun r n => arg8.view.read (Elt Ideal) f (ix2 r n)) (bstep x3 x4 x5 (fun r k => x9 (ix2 r k)) (fun r n => x8 (ix2 r n))) 3584 4096 (by omega) rfl _ _ ?_
    (fun r n => (p7_pay _ _ _ r n).trans (congrArg₂ (fun a b : EReal => a + b) ((readAt_cols _ _ 3584 (by omega) _ r n).trans (h8 r _))
      (sum_of arg5 harg5 x3 x4 x5 _ _ ha 3584 (by omega) _ r n))) r n).trans ?_
  rotate_left
  · exact if_pos n.isLt
  clear r n
  intro r n
  refine (panel_step _ _ _ (fun r n => arg8.view.read (Elt Ideal) f (ix2 r n)) (bstep x3 x4 x5 (fun r k => x9 (ix2 r k)) (fun r n => x8 (ix2 r n))) 3072 3584 (by omega) rfl _ _ ?_
    (fun r n => (p6_pay _ _ _ r n).trans (congrArg₂ (fun a b : EReal => a + b) ((readAt_cols _ _ 3072 (by omega) _ r n).trans (h8 r _))
      (sum_of arg5 harg5 x3 x4 x5 _ _ ha 3072 (by omega) _ r n))) r n).trans ?_
  rotate_left
  · rfl
  clear r n
  intro r n
  refine (panel_step _ _ _ (fun r n => arg8.view.read (Elt Ideal) f (ix2 r n)) (bstep x3 x4 x5 (fun r k => x9 (ix2 r k)) (fun r n => x8 (ix2 r n))) 2560 3072 (by omega) rfl _ _ ?_
    (fun r n => (p5_pay _ _ _ r n).trans (congrArg₂ (fun a b : EReal => a + b) ((readAt_cols _ _ 2560 (by omega) _ r n).trans (h8 r _))
      (sum_of arg5 harg5 x3 x4 x5 _ _ ha 2560 (by omega) _ r n))) r n).trans ?_
  rotate_left
  · rfl
  clear r n
  intro r n
  refine (panel_step _ _ _ (fun r n => arg8.view.read (Elt Ideal) f (ix2 r n)) (bstep x3 x4 x5 (fun r k => x9 (ix2 r k)) (fun r n => x8 (ix2 r n))) 2048 2560 (by omega) rfl _ _ ?_
    (fun r n => (p4_pay _ _ _ r n).trans (congrArg₂ (fun a b : EReal => a + b) ((readAt_cols _ _ 2048 (by omega) _ r n).trans (h8 r _))
      (sum_of arg5 harg5 x3 x4 x5 _ _ ha 2048 (by omega) _ r n))) r n).trans ?_
  rotate_left
  · rfl
  clear r n
  intro r n
  refine (panel_step _ _ _ (fun r n => arg8.view.read (Elt Ideal) f (ix2 r n)) (bstep x3 x4 x5 (fun r k => x9 (ix2 r k)) (fun r n => x8 (ix2 r n))) 1536 2048 (by omega) rfl _ _ ?_
    (fun r n => (p3_pay _ _ _ r n).trans (congrArg₂ (fun a b : EReal => a + b) ((readAt_cols _ _ 1536 (by omega) _ r n).trans (h8 r _))
      (sum_of arg5 harg5 x3 x4 x5 _ _ ha 1536 (by omega) _ r n))) r n).trans ?_
  rotate_left
  · rfl
  clear r n
  intro r n
  refine (panel_step _ _ _ (fun r n => arg8.view.read (Elt Ideal) f (ix2 r n)) (bstep x3 x4 x5 (fun r k => x9 (ix2 r k)) (fun r n => x8 (ix2 r n))) 1024 1536 (by omega) rfl _ _ ?_
    (fun r n => (p2_pay _ _ _ r n).trans (congrArg₂ (fun a b : EReal => a + b) ((readAt_cols _ _ 1024 (by omega) _ r n).trans (h8 r _))
      (sum_of arg5 harg5 x3 x4 x5 _ _ ha 1024 (by omega) _ r n))) r n).trans ?_
  rotate_left
  · rfl
  clear r n
  intro r n
  refine (panel_step _ _ _ (fun r n => arg8.view.read (Elt Ideal) f (ix2 r n)) (bstep x3 x4 x5 (fun r k => x9 (ix2 r k)) (fun r n => x8 (ix2 r n))) 512 1024 (by omega) rfl _ _ ?_
    (fun r n => (p1_pay _ _ _ _ _ r n).trans (congrArg₂ (fun a b : EReal => a + b) ((readAt_cols _ _ 512 (by omega) _ r n).trans (h8 r _))
      (sum_of arg5 harg5 x3 x4 x5 _ _ ha 512 (by omega) _ r n))) r n).trans ?_
  rotate_left
  · rfl
  clear r n
  intro r n
  refine (panel_step _ _ _ (fun r n => arg8.view.read (Elt Ideal) f (ix2 r n)) (bstep x3 x4 x5 (fun r k => x9 (ix2 r k)) (fun r n => x8 (ix2 r n))) 0 512 (by omega) rfl _ _ ?_
    (fun r n => (p0_pay _ _ _ _ _ r n).trans (congrArg₂ (fun a b : EReal => a + b) ((readAt_cols _ _ 0 (by omega) _ r n).trans (h8 r _))
      (sum_of arg5 harg5 x3 x4 x5 _ _ ha 0 (by omega) _ r n))) r n).trans ?_
  rotate_left
  · rfl
  clear r n
  intro r n
  rw [if_neg (Nat.not_lt_zero _)]
  rfl

/-- The last panel: the output block, its rows normalised with the final gain. -/
theorem last8 (hc2 : k0_cond2 i = 1#1) (x2 : Vec Ideal S1x4096 .f32) (x3 x4 : Vec Ideal S1x4096x256 .bf16) (x5 : Vec Ideal S1x256x4096 .bf16)
    (x6 : Vec Ideal S1x4096 .f32) (x7 x8 : Vec Ideal S640x4096 .f32) (x9 : Vec Ideal S640x4096 .bf16) (r : Fin 640) (n : Fin 4096) :
    arg8.view.read (Elt Ideal) (arg8.view.writes (Elt Ideal) arg8.view.junk
        (lastList (F := Ideal) c i arg2 harg2 arg3 harg3 arg4 harg4 arg5 harg5 arg6 harg6 arg7 harg7 arg8 harg8 arg9 harg9 hc2 x2 x3 x4 x5 x6 x7 x8 x9)) (ix2 r n)
      = rowNorm (bstep x3 x4 x5 (fun r k => x9 (ix2 r k)) (fun r n => x8 (ix2 r n)) r) (fun l => x6 (ix2 (0 : Fin 1) l)) n := by
  rw [View.writes_append]
  refine (rows2 Variants.none c none i arg2 harg2 arg3 harg3 arg4 harg4 arg5 harg5 arg6 harg6 arg7 harg7 arg8 harg8 arg9 harg9 hc2 x6 _ 10 le_rfl r n).trans ?_
  rw [if_pos (show r.val < 64 * 10 from r.isLt)]
  congr 1
  funext l
  exact panels8 arg3 harg3 arg4 harg4 arg5 harg5 arg8 harg8 arg9 harg9 x3 x4 x5 x8 x9 _ r l

end Cert.Kernel2Ideal.Ffn

end
-- ==== Proof.Ffn.FinalIdeal.Frame.lean ====
/- The feed-forward call at exact values: what the accumulator and the normalized rows hold after every grid point, and the run of the whole call. -/
module

public import proofs.«01_k».proof.Proof.Ffn.FinalIdeal.Values
public import Idealize.ShloMosaic.Lib.Claim

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Idealize.ShloMosaic.ValueIdx
open Cert.Common (rowNorm)
open Cert.Kernel2Ideal Cert.Kernel2Ideal.Gen

local notation "𝕄" => MT nD τ sig Unit (Elt Ideal) ℕ (UR sig nD τ) ℕ

variable (m : (ℓ : Loc nD τ sig) → Buf (Elt Ideal) ℓ) (ρ : Dev nD → PrngReg)

/-- The first panel of a row block is at the points ≡ 0 (mod 43). -/
theorem hcond1 : ∀ t : Fin cfg0.N, k0_cond1 (grid0.coords t) = 1#1 ↔ t.val % 43 = 0 :=
  (fun t => by
    have ht : t.val < 559 := Nat.lt_of_lt_of_eq t.isLt N_0
    have e0 : (grid0.coords t 0).val = t.val / 43 % 13 := Pipeline.Grid.coords_val t 0 (by decide) rfl
    have e1 : (grid0.coords t 1).val = t.val / 1 % 43 := Pipeline.Grid.coords_val t 1 (by decide) rfl
    simp only [k0_cond1, e0, e1]
    word_cmp
   : ∀ t : Fin grid0.N, k0_cond1 (grid0.coords t) = 1#1 ↔ t.val % 43 = 0)

/-- The last panel of a row block is at the points ≡ 42 (mod 43). -/
theorem hcond2 : ∀ t : Fin cfg0.N, k0_cond2 (grid0.coords t) = 1#1 ↔ t.val % 43 = 42 :=
  (fun t => by
    have ht : t.val < 559 := Nat.lt_of_lt_of_eq t.isLt N_0
    have e0 : (grid0.coords t 0).val = t.val / 43 % 13 := Pipeline.Grid.coords_val t 0 (by decide) rfl
    have e1 : (grid0.coords t 1).val = t.val / 1 % 43 := Pipeline.Grid.coords_val t 1 (by decide) rfl
    simp only [k0_cond2, e0, e1]
    word_cmp
   : ∀ t : Fin grid0.N, k0_cond2 (grid0.coords t) = 1#1 ↔ t.val % 43 = 42)

/-! Each window's staging buffer at a point, and the scratch. -/
abbrev ms0 (t : Fin cfg0.N) : Memref sig .tc .vmem S1x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x4096x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x4096x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256x4096 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x4096 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S640x4096 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S640x4096 .f32 := win0_6.stage (cfg0.slots t 6)
abbrev hs6 (t : Fin cfg0.N) : (ms6 t).IsWhole := hstage0_6 ((cfg0.slots t 6).cast nbuf0_6)
abbrev scr : Memref sig .tc .vmem S640x4096 .bf16 := Memref.whole cc0_scratch0

/-- The invariant of the region's entry and exit, with the scratch as a buffer owned at some contents. -/
theorem PhiA_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-! The blocks the body sees at a point: rows, gain, panels of the three weight matrices, final gain. -/
abbrev bx (c : Dev nD) (t : Fin cfg0.N) : Vec Ideal S640x4096 .f32 := iblk m c 5 t
abbrev bg (c : Dev nD) (t : Fin cfg0.N) : Vec Ideal S1x4096 .f32 := iblk m c 0 t
abbrev bwg (c : Dev nD) (t : Fin cfg0.N) : Vec Ideal S1x4096x256 .bf16 := iblk m c 1 t
abbrev bwu (c : Dev nD) (t : Fin cfg0.N) : Vec Ideal S1x4096x256 .bf16 := iblk m c 2 t
abbrev bwd (c : Dev nD) (t : Fin cfg0.N) : Vec Ideal S1x256x4096 .bf16 := iblk m c 3 t
abbrev bgf (c : Dev nD) (t : Fin cfg0.N) : Vec Ideal S1x4096 .f32 := iblk m c 4 t

/-- The accumulator and the normalized rows after point `n`: at the first panel of a row block both start from the rows, afterwards
    the rows stay and the panel's share is added. -/
def st (c : Dev nD) : (n : ℕ) → n < cfg0.N → (Fin 640 → Fin 4096 → EReal) × (Fin 640 → Fin 4096 → EReal)
  | 0, hn => (bstep (bwg m c ⟨0, hn⟩) (bwu m c ⟨0, hn⟩) (bwd m c ⟨0, hn⟩) (normed (bx m c ⟨0, hn⟩) (bg m c ⟨0, hn⟩)) (fun r n => bx m c ⟨0, hn⟩ (ix2 r n)),
      normed (bx m c ⟨0, hn⟩) (bg m c ⟨0, hn⟩))
  | k + 1, hn =>
    if (k + 1) % 43 = 0 then
      (bstep (bwg m c ⟨k + 1, hn⟩) (bwu m c ⟨k + 1, hn⟩) (bwd m c ⟨k + 1, hn⟩) (normed (bx m c ⟨k + 1, hn⟩) (bg m c ⟨k + 1, hn⟩)) (fun r n => bx m c ⟨k + 1, hn⟩ (ix2 r n)),
        normed (bx m c ⟨k + 1, hn⟩) (bg m c ⟨k + 1, hn⟩))
    else
      (bstep (bwg m c ⟨k + 1, hn⟩) (bwu m c ⟨k + 1, hn⟩) (bwd m c ⟨k + 1, hn⟩) (st c k (Nat.lt_of_succ_lt hn)).2 (st c k (Nat.lt_of_succ_lt hn)).1,
        (st c k (Nat.lt_of_succ_lt hn)).2)

theorem st_first (c : Dev nD) (t : Fin cfg0.N) (h0 : t.val % 43 = 0) :
    st m c t.val t.isLt = (bstep (bwg m c t) (bwu m c t) (bwd m c t) (normed (bx m c t) (bg m c t)) (fun r n => bx m c t (ix2 r n)), normed (bx m c t) (bg m c t)) := by
  obtain ⟨n, hn⟩ := t
  cases n with
  | zero => exact rfl
  | succ n => exact (if_pos h0).trans rfl

theorem st_next (c : Dev nD) (t : Fin cfg0.N) (h0 : ¬ t.val % 43 = 0) :
    st m c t.val t.isLt = (bstep (bwg m c t) (bwu m c t) (bwd m c t) (st m c (t.val - 1) (Nat.lt_of_le_of_lt (Nat.sub_le _ _) t.isLt)).2 (st m c (t.val - 1) (Nat.lt_of_le_of_lt (Nat.sub_le _ _) t.isLt)).1,
      (st m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (if_neg h0).trans rfl

/-- The normalized rows as the scratch holds them after point `n`. -/
def scrAt (c : Dev nD) (n : ℕ) (hn : n < cfg0.N) : Vec Ideal S640x4096 .bf16 := fun y => (st m c n hn).2 (y 0) (y 1)

/-- The output block after point `n`: the accumulator, normalized once more after the last panel. -/
def outAt (c : Dev nD) (n : ℕ) (hn : n < cfg0.N) : Vec Ideal S640x4096 .f32 := fun y =>
  if n % 43 = 42 then rowNorm ((st m c n hn).1 (y 0)) (fun l => bgf m c ⟨n, hn⟩ (ix2 (0 : Fin 1) l)) (y 1) else (st m c n hn).1 (y 0) (y 1)

theorem outAt_mid (c : Dev nD) (n : ℕ) (hn : n < cfg0.N) (h : ¬ n % 43 = 42) : outAt m c n hn = fun y => (st m c n hn).1 (y 0) (y 1) := by
  funext y; exact if_neg h

theorem outAt_last (c : Dev nD) (n : ℕ) (hn : n < cfg0.N) (h : n % 43 = 42) :
    outAt m c n hn = fun y => rowNorm ((st m c n hn).1 (y 0)) (fun l => bgf m c ⟨n, hn⟩ (ix2 (0 : Fin 1) l)) (y 1) := by
  funext y; exact if_pos h

/-- The invariant before position `n`: at entry the scratch at anything, afterwards at the rows the point before left. -/
def PhiS (c : Dev nD) : (n : ℕ) → n ≤ cfg0.N → sProp 𝕄
  | 0, _ => Pipeline.ΦA spec0 c
  | n + 1, hn => iprop(iprop(owns (c : Thread nD τ) scr fullShare (scrAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scr fullShare (scrAt m c n hn)) ∗ (∃ r, prngReg c r)) := rfl

theorem PhiS_pos (c : Dev nD) (n : ℕ) (h : n ≤ cfg0.N) (hz : n ≠ 0) :
    PhiS m c n h = iprop(iprop(owns (c : Thread nD τ) scr fullShare (scrAt m c (n - 1) (by omega))) ∗ (∃ r, prngReg c r)) := by
  cases n with
  | zero => exact absurd rfl hz
  | succ n => rfl

/-- Before any point the scratch is owned at some contents. -/
theorem PhiS_any (c : Dev nD) (n : ℕ) (h : n ≤ cfg0.N) :
    PhiS m c n h ⊢ iprop(iprop((∃ d, owns (c : Thread nD τ) scr fullShare d)) ∗ (∃ r, prngReg c r)) := by
  by_cases hz : n = 0
  · rw [PhiS_zero m c n h hz, PhiA_eq]
    try exact Idealize.SL.BI.Entails.refl _
  · rw [PhiS_pos m c n h hz]
    iintro ⟨HS, Hg⟩
    isplitl [HS]
    · iexists _; iexact HS
    iexact Hg

/-- The proof data: the arrays as the region finds them, an input's buffer at its block, the output's at `outAt`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t.val t.isLt := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- Inside a row block the output's buffer holds what the point before left: the accumulator. -/
theorem before0_6 (c : Dev nD) (t : Fin cfg0.N) (h0 : ¬ t.val % 43 = 0) (d) :
    (dats m 0 c).before 6 t d = fun y => (st m c (t.val - 1) (Nat.lt_of_le_of_lt (Nat.sub_le _ _) t.isLt)).1 (y 0) (y 1) := by
  have hm : ¬ (t.val - 1) % 43 = 42 := by omega
  refine ((dats m 0 c).before_out_kept 6 rfl t (by intro h; rw [h] at h0; exact h0 rfl) ?_ (fun _ => rfl) (fun _ _ => rfl) d).trans ?_
  · exact Bool.eq_false_iff.mpr fun h => hm ((flush0_6 ⟨t.val - 1, Nat.lt_of_le_of_lt (Nat.sub_le _ _) t.isLt⟩).mp h)
  · exact (after0_6 m c ⟨t.val - 1, Nat.lt_of_le_of_lt (Nat.sub_le _ _) t.isLt⟩).trans (outAt_mid m c _ _ hm)

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

/-- What the run leaves in the two buffers at the first panel, as `st` has it. -/
theorem first_out (c : Dev nD) (t : Fin cfg0.N) (h0 : t.val % 43 = 0) (x8 : Vec Ideal S640x4096 .f32) (x9 : Vec Ideal S640x4096 .bf16) :
    (ms6 t).view.read (Elt Ideal) ((ms6 t).view.writes (Elt Ideal) ((hs6 t).unread x8) (runFirst (F := Ideal) c (grid0.coords t) (ms0 t) (hs0 t) (ms1 t) (hs1 t) (ms2 t) (hs2 t) (ms3 t) (hs3 t) (ms4 t) (hs4 t) (ms5 t) (hs5 t) (ms6 t) (hs6 t) scr (Memref.isWhole_whole _) ((hcond1 t).mpr h0) (fun h => by have := (hcond2 t).mp h; omega) (bg m c t) (bwg m c t) (bwu m c t) (bwd m c t) (bgf m c t) (bx m c t) x8 x9).1) = outAt m c t.val t.isLt := by
  rw [outAt_mid m c t.val t.isLt (by omega), st_first m c t h0]
  funext y; rw [eq_ix2 y]
  exact first8 c (grid0.coords t) (ms0 t) (hs0 t) (ms1 t) (hs1 t) (ms2 t) (hs2 t) (ms3 t) (hs3 t) (ms4 t) (hs4 t) (ms5 t) (hs5 t) (ms6 t) (hs6 t) scr (Memref.isWhole_whole _) ((hcond1 t).mpr h0) (fun h => by have := (hcond2 t).mp h; omega) (bg m c t) (bwg m c t) (bwu m c t) (bwd m c t) (bgf m c t) (bx m c t) x8 x9 (y 0) (y 1)

theorem first_scr (c : Dev nD) (t : Fin cfg0.N) (h0 : t.val % 43 = 0) (x8 : Vec Ideal S640x4096 .f32) (x9 : Vec Ideal S640x4096 .bf16) :
    scr.view.read (Elt Ideal) (scr.view.writes (Elt Ideal) ((Memref.isWhole_whole _).unread x9) (runFirst (F := Ideal) c (grid0.coords t) (ms0 t) (hs0 t) (ms1 t) (hs1 t) (ms2 t) (hs2 t) (ms3 t) (hs3 t) (ms4 t) (hs4 t) (ms5 t) (hs5 t) (ms6 t) (hs6 t) scr (Memref.isWhole_whole _) ((hcond1 t).mpr h0) (fun h => by have := (hcond2 t).mp h; omega) (bg m c t) (bwg m c t) (bwu m c t) (bwd m c t) (bgf m c t) (bx m c t) x8 x9).2.1) = scrAt m c t.val t.isLt := by
  unfold scrAt; rw [st_first m c t h0]
  funext y; rw [eq_ix2 y]
  exact first9 c (grid0.coords t) (ms0 t) (hs0 t) (ms1 t) (hs1 t) (ms2 t) (hs2 t) (ms3 t) (hs3 t) (ms4 t) (hs4 t) (ms5 t) (hs5 t) (ms6 t) (hs6 t) scr (Memref.isWhole_whole _) ((hcond1 t).mpr h0) (fun h => by have := (hcond2 t).mp h; omega) (bg m c t) (bwg m c t) (bwu m c t) (bwd m c t) (bgf m c t) (bx m c t) x8 x9 (y 0) (y 1)

/-- What the run leaves in the output's buffer at a later panel. -/
theorem next_out (c : Dev nD) (t : Fin cfg0.N) (h0 : ¬ t.val % 43 = 0) (h1 : ¬ t.val % 43 = 42) :
    (ms6 t).view.read (Elt Ideal) ((ms6 t).view.writes (Elt Ideal) ((hs6 t).unread (fun y => (st m c (t.val - 1) (Nat.lt_of_le_of_lt (Nat.sub_le _ _) t.isLt)).1 (y 0) (y 1))) (runNext (F := Ideal) c (grid0.coords t) (ms0 t) (hs0 t) (ms1 t) (hs1 t) (ms2 t) (hs2 t) (ms3 t) (hs3 t) (ms4 t) (hs4 t) (ms5 t) (hs5 t) (ms6 t) (hs6 t) scr (Memref.isWhole_whole _) (fun h => h0 ((hcond1 t).mp h)) (fun h => h1 ((hcond2 t).mp h)) (bg m c t) (bwg m c t) (bwu m c t) (bwd m c t) (bgf m c t) (bx m c t) (fun y => (st m c (t.val - 1) (Nat.lt_of_le_of_lt (Nat.sub_le _ _) t.isLt)).1 (y 0) (y 1)) (scrAt m c (t.val - 1) (Nat.lt_of_le_of_lt (Nat.sub_le _ _) t.isLt))).1) = outAt m c t.val t.isLt := by
  rw [outAt_mid m c t.val t.isLt h1]
  rw [st_next m c t h0]
  funext y; rw [eq_ix2 y]
  exact next8 c (grid0.coords t) (ms0 t) (hs0 t) (ms1 t) (hs1 t) (ms2 t) (hs2 t) (ms3 t) (hs3 t) (ms4 t) (hs4 t) (ms5 t) (hs5 t) (ms6 t) (hs6 t) scr (Memref.isWhole_whole _) (fun h => h0 ((hcond1 t).mp h)) (fun h => h1 ((hcond2 t).mp h)) (bg m c t) (bwg m c t) (bwu m c t) (bwd m c t) (bgf m c t) (bx m c t) (fun y => (st m c (t.val - 1) (Nat.lt_of_le_of_lt (Nat.sub_le _ _) t.isLt)).1 (y 0) (y 1)) (scrAt m c (t.val - 1) (Nat.lt_of_le_of_lt (Nat.sub_le _ _) t.isLt)) (y 0) (y 1)

/-- Past the first panel the normalized rows stay. -/
theorem next_scr (c : Dev nD) (t : Fin cfg0.N) (h0 : ¬ t.val % 43 = 0) :
    (scrAt m c (t.val - 1) (Nat.lt_of_le_of_lt (Nat.sub_le _ _) t.isLt)) = scrAt m c t.val t.isLt := by
  unfold scrAt; rw [st_next m c t h0]

/-- What the run leaves in the output's buffer at the last panel. -/
theorem last_out (c : Dev nD) (t : Fin cfg0.N) (h0 : ¬ t.val % 43 = 0) (h1 : t.val % 43 = 42) :
    (ms6 t).view.read (Elt Ideal) ((ms6 t).view.writes (Elt Ideal) (ms6 t).view.junk (lastList (F := Ideal) c (grid0.coords t) (ms0 t) (hs0 t) (ms1 t) (hs1 t) (ms2 t) (hs2 t) (ms3 t) (hs3 t) (ms4 t) (hs4 t) (ms5 t) (hs5 t) (ms6 t) (hs6 t) scr (Memref.isWhole_whole _) ((hcond2 t).mpr h1) (bg m c t) (bwg m c t) (bwu m c t) (bwd m c t) (bgf m c t) (bx m c t) (fun y => (st m c (t.val - 1) (Nat.lt_of_le_of_lt (Nat.sub_le _ _) t.isLt)).1 (y 0) (y 1)) (scrAt m c (t.val - 1) (Nat.lt_of_le_of_lt (Nat.sub_le _ _) t.isLt)))) = outAt m c t.val t.isLt := by
  rw [outAt_last m c t.val t.isLt h1, st_next m c t h0]
  funext y; rw [eq_ix2 y]
  exact last8 c (grid0.coords t) (ms0 t) (hs0 t) (ms1 t) (hs1 t) (ms2 t) (hs2 t) (ms3 t) (hs3 t) (ms4 t) (hs4 t) (ms5 t) (hs5 t) (ms6 t) (hs6 t) scr (Memref.isWhole_whole _) ((hcond2 t).mpr h1) (bg m c t) (bwg m c t) (bwu m c t) (bwd m c t) (bgf m c t) (bx m c t) (fun y => (st m c (t.val - 1) (Nat.lt_of_le_of_lt (Nat.sub_le _ _) t.isLt)).1 (y 0) (y 1)) (scrAt m c (t.val - 1) (Nat.lt_of_le_of_lt (Nat.sub_le _ _) t.isLt)) (y 0) (y 1)

set_option maxHeartbeats 3200000 in
/-- The body at the first panel of a row block. -/
theorem sound_first (c : Dev nD) (t : Fin cfg0.N) (h0 : t.val % 43 = 0) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ, PhiS_castSucc m c t]
  refine (sep_mono_left (PhiS_any m c t.val (Nat.le_of_lt t.isLt))).trans ?_
  iintro ⟨⟨⟨%s0, HS⟩, Hg⟩, Ho, ⟨%d0, H0⟩, ⟨%d1, H1⟩, ⟨%d2, H2⟩, ⟨%d3, H3⟩, ⟨%d4, H4⟩, ⟨%d5, H5⟩, ⟨%d6, H6⟩⟩
  iapply ((runFirst (F := Ideal) c (grid0.coords t) (ms0 t) (hs0 t) (ms1 t) (hs1 t) (ms2 t) (hs2 t) (ms3 t) (hs3 t) (ms4 t) (hs4 t) (ms5 t) (hs5 t) (ms6 t) (hs6 t) scr (Memref.isWhole_whole _) ((hcond1 t).mpr h0) (fun h => by have := (hcond2 t).mp h; omega) (bg m c t) (bwg m c t) (bwu m c t) (bwd m c t) (bgf m c t) (bx m c t) ((dats m 0 c).before 6 t d6) s0).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, H4, H5, H6, HS⟩
  isplitl [HS Hg]
  · isplitl [HS]
    · unfold owns; iexists _; isplitr
      swap; · iexact HS
      ipureintro; exact first_scr m c t h0 _ _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact first_out m c t h0 _ _

set_option maxHeartbeats 3200000 in
/-- The body at a later panel. -/
theorem sound_next (c : Dev nD) (t : Fin cfg0.N) (h0 : ¬ t.val % 43 = 0) (h1 : ¬ t.val % 43 = 42) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ, PhiS_castSucc m c t]
  rw [PhiS_pos m c t.val _ (by intro h; rw [h] at h0; exact h0 rfl)]
  simp only [before0_6 m c t h0]
  iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
  iapply ((runNext (F := Ideal) c (grid0.coords t) (ms0 t) (hs0 t) (ms1 t) (hs1 t) (ms2 t) (hs2 t) (ms3 t) (hs3 t) (ms4 t) (hs4 t) (ms5 t) (hs5 t) (ms6 t) (hs6 t) scr (Memref.isWhole_whole _) (fun h => h0 ((hcond1 t).mp h)) (fun h => h1 ((hcond2 t).mp h)) (bg m c t) (bwg m c t) (bwu m c t) (bwd m c t) (bgf m c t) (bx m c t) (fun y => (st m c (t.val - 1) (Nat.lt_of_le_of_lt (Nat.sub_le _ _) t.isLt)).1 (y 0) (y 1)) (scrAt m c (t.val - 1) (Nat.lt_of_le_of_lt (Nat.sub_le _ _) t.isLt))).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, H4, H5, H6, HS⟩
  isplitl [HS Hg]
  · isplitl [HS]
    · rw [← next_scr m c t h0]; iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact next_out m c t h0 h1

set_option maxHeartbeats 3200000 in
/-- The body at the last panel. -/
theorem sound_last (c : Dev nD) (t : Fin cfg0.N) (h0 : ¬ t.val % 43 = 0) (h1 : t.val % 43 = 42) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ, PhiS_castSucc m c t]
  rw [PhiS_pos m c t.val _ (by intro h; rw [h] at h0; exact h0 rfl)]
  simp only [before0_6 m c t h0]
  obtain ⟨L, hL, hrun⟩ := runLast (F := Ideal) c (grid0.coords t) (ms0 t) (hs0 t) (ms1 t) (hs1 t) (ms2 t) (hs2 t) (ms3 t) (hs3 t) (ms4 t) (hs4 t) (ms5 t) (hs5 t) (ms6 t) (hs6 t) scr (Memref.isWhole_whole _) (fun h => h0 ((hcond1 t).mp h)) ((hcond2 t).mpr h1) (bg m c t) (bwg m c t) (bwu m c t) (bwd m c t) (bgf m c t) (bx m c t) (fun y => (st m c (t.val - 1) (Nat.lt_of_le_of_lt (Nat.sub_le _ _) t.isLt)).1 (y 0) (y 1)) (scrAt m c (t.val - 1) (Nat.lt_of_le_of_lt (Nat.sub_le _ _) t.isLt))
  iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
  iapply (hrun Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, H4, H5, H6, HS⟩
  isplitl [HS Hg]
  · isplitl [HS]
    · rw [← next_scr m c t h0]; iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; rw [hL]; exact last_out m c t h0 h1

/-- The library's body obligation. -/
theorem body_obligation (c : Dev nD) : BodyObligation (dats m 0 c) (defs₀ (F := Ideal)) Variants.none () Set.univ := fun t => by
  rw [bigSep_W0, bigSep_W0, defs₀_row]
  by_cases h0 : t.val % 43 = 0
  · exact triple_restated (sound_first m c t h0) rfl .rfl fun _ => .rfl
  by_cases h1 : t.val % 43 = 42
  · exact triple_restated (sound_last m c t h0 h1) rfl .rfl fun _ => .rfl
  exact triple_restated (sound_next m c t h0 h1) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA_eq]
  exact PhiS_any m c _ _

set_option backward.isDefEq.respectTransparency.types false in
/-- The run: every array at what the proof data gives it, the semaphores at zero. -/
theorem run_quiet : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end as they were. -/
theorem unchanged : θ_run defs (onTc (τ := τ) (main (F := Ideal))) ⟨m, fun _ => 0, ρ⟩ (fun r => ∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) ((θ_run defs _ _).mono (fun _ h => h.1) (run_quiet m ρ))

end Cert.Kernel2Ideal.Ffn

end
-- ==== Proof.Ffn.FinalIdeal.Kernel.lean ====
/- The feed-forward call at exact values: after the last panel of a row block the accumulator is the layer's formula, so the
   result array is the formula of the argument arrays. -/
module

public import proofs.«01_k».proof.Proof.Ffn.FinalIdeal.Frame
public import proofs.«01_k».proof.Proof.Ffn.Layer

@[expose] public section

noncomputable section

namespace Cert.Kernel2Ideal.Ffn

open Idealize.ShloMosaic Idealize.ShloMosaic.TcCoe Idealize.ShloMosaic.ValueIdx Idealize.SL.Sem
open Cert.Kernel2Ideal Cert.Kernel2Ideal.Gen
open Cert.Common (rowNorm)
open Cert.Ffn (share layer layerOf lastOf psum psum_zero psum_succ psum_all ext act step)

variable (m : (ℓ : Loc nD τ sig) → Buf (Elt Ideal) ℓ)

/-- Which block of its array each window reads or writes at point `t`. -/
theorem index_facts : ∀ t : Fin cfg0.N,
    (win0_0.index t 0 = 0 ∧ win0_0.index t 1 = 0)
    ∧ (win0_1.index t 0 = 0 ∧ win0_1.index t 1 = 0 ∧ win0_1.index t 2 = t.val % 43)
    ∧ (win0_2.index t 0 = 0 ∧ win0_2.index t 1 = 0 ∧ win0_2.index t 2 = t.val % 43)
    ∧ (win0_3.index t 0 = 0 ∧ win0_3.index t 1 = t.val % 43 ∧ win0_3.index t 2 = 0)
    ∧ (win0_4.index t 0 = 0 ∧ win0_4.index t 1 = 0)
    ∧ (win0_5.index t 0 = t.val / 43 ∧ win0_5.index t 1 = 0)
    ∧ (win0_6.index t 0 = t.val / 43 ∧ win0_6.index t 1 = 0) :=
  (by decide +kernel : ∀ t : Fin grid0.N, _)

/-- The array row that row `r` of point `t`'s blocks is. -/
def row (t : Fin cfg0.N) (r : Fin 640) : Fin 8320 :=
  ⟨t.val / 43 * 640 + r.val, by have h := lt_of_lt_of_eq t.isLt (show cfg0.N = 559 from N_0); omega⟩
/-- The activation that activation `f` of point `t`'s panels is. -/
def pan (t : Fin cfg0.N) (f : Fin 256) : Fin 11008 :=
  ⟨t.val % 43 * 256 + f.val, by omega⟩

/-! The argument arrays, as families over rows and columns. -/
abbrev ax (c : Dev nD) (r : Fin 8320) (n : Fin 4096) : EReal := m ((c : Thread nD τ).loc main_arg0) (ix2 r n)
abbrev ag (c : Dev nD) (k : Fin 4096) : EReal := m ((c : Thread nD τ).loc main_arg1) (ix1 k)
abbrev awg (c : Dev nD) (k : Fin 4096) (f : Fin 11008) : EReal := m ((c : Thread nD τ).loc main_arg2) (ix3 (0 : Fin 1) k f)
abbrev awu (c : Dev nD) (k : Fin 4096) (f : Fin 11008) : EReal := m ((c : Thread nD τ).loc main_arg3) (ix3 (0 : Fin 1) k f)
abbrev awd (c : Dev nD) (f : Fin 11008) (n : Fin 4096) : EReal := m ((c : Thread nD τ).loc main_arg4) (ix3 (0 : Fin 1) f n)
abbrev agf (c : Dev nD) (k : Fin 4096) : EReal := m ((c : Thread nD τ).loc main_arg5) (ix1 k)

/-- The layer of the argument arrays. -/
abbrev lay (c : Dev nD) : Fin 8320 → Fin 4096 → EReal :=
  layerOf (m ((c : Thread nD τ).loc main_arg0)) (m ((c : Thread nD τ).loc main_arg1)) (m ((c : Thread nD τ).loc main_arg2))
    (m ((c : Thread nD τ).loc main_arg3)) (m ((c : Thread nD τ).loc main_arg4))

/-- The result array's contents by the formula. -/
abbrev result (c : Dev nD) : Buf (Elt Ideal) ((c : Thread nD τ).loc main_v2) := fun i =>
  lastOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (i 0) (i 1)

theorem bx_apply (c : Dev nD) (t : Fin cfg0.N) (r : Fin 640) (n : Fin 4096) :
    bx m c t (ix2 r n) = ax m c (row t r) n := by
  obtain ⟨-, -, -, -, -, ⟨e0, e1⟩, -⟩ := index_facts t
  unfold bx iblk
  rw [View.read_apply]
  show m _ _ = m _ _
  congr 1
  funext a; apply Fin.ext
  match a with
  | ⟨0, _⟩ => show win0_5.index t 0 * 640 + 1 * r.val = t.val / 43 * 640 + r.val; rw [e0]; omega
  | ⟨1, _⟩ => show win0_5.index t 1 * 4096 + 1 * n.val = n.val; rw [e1]; omega

/-- The gain as the call finds it: the argument reshaped to one row. -/
theorem v0_row (c : Dev nD) (l : Fin 4096) :
    V m c main_v0 (ix2 (0 : Fin 1) l) = m ((c : Thread nD τ).loc main_arg1) (ix1 l) := by
  have e : V m c main_v0 = shapeCast S1x4096 (m ((c : Thread nD τ).loc main_arg1)) shapeCasts_S4096_S1x4096 := rfl
  rw [e]
  exact shapeCast_apply _ _ (ix2 (0 : Fin 1) l) (ix1 l) (by
    rw [Shape.rowMajor_val_one, Shape.rowMajor_val_two]; show l.val = 0 * 4096 + l.val; omega)

theorem bg_apply (c : Dev nD) (t : Fin cfg0.N) (l : Fin 4096) :
    bg m c t (ix2 (0 : Fin 1) l) = ag m c l := by
  obtain ⟨⟨e0, e1⟩, -⟩ := index_facts t
  refine Eq.trans ?_ (v0_row m c l)
  unfold bg iblk
  rw [View.read_apply]
  show V m c main_v0 _ = V m c main_v0 _
  congr 1
  funext a; apply Fin.ext
  match a with
  | ⟨0, _⟩ => show win0_0.index t 0 * 1 + 1 * 0 = 0; rw [e0]
  | ⟨1, _⟩ => show win0_0.index t 1 * 4096 + 1 * l.val = l.val; rw [e1]; omega

theorem bwg_apply (c : Dev nD) (t : Fin cfg0.N) (k : Fin 4096) (f : Fin 256) :
    bwg m c t (ix3 (0 : Fin 1) k f) = awg m c k (pan t f) := by
  obtain ⟨-, ⟨e0, e1, e2⟩, -⟩ := index_facts t
  unfold bwg iblk
  rw [View.read_apply]
  show m _ _ = m _ _
  congr 1
  funext a; apply Fin.ext
  match a with
  | ⟨0, _⟩ => show win0_1.index t 0 * 1 + 1 * 0 = 0; rw [e0]
  | ⟨1, _⟩ => show win0_1.index t 1 * 4096 + 1 * k.val = k.val; rw [e1]; omega
  | ⟨2, _⟩ => show win0_1.index t 2 * 256 + 1 * f.val = t.val % 43 * 256 + f.val; rw [e2]; omega

theorem bwu_apply (c : Dev nD) (t : Fin cfg0.N) (k : Fin 4096) (f : Fin 256) :
    bwu m c t (ix3 (0 : Fin 1) k f) = awu m c k (pan t f) := by
  obtain ⟨-, -, ⟨e0, e1, e2⟩, -⟩ := index_facts t
  unfold bwu iblk
  rw [View.read_apply]
  show m _ _ = m _ _
  congr 1
  funext a; apply Fin.ext
  match a with
  | ⟨0, _⟩ => show win0_2.index t 0 * 1 + 1 * 0 = 0; rw [e0]
  | ⟨1, _⟩ => show win0_2.index t 1 * 4096 + 1 * k.val = k.val; rw [e1]; omega
  | ⟨2, _⟩ => show win0_2.index t 2 * 256 + 1 * f.val = t.val % 43 * 256 + f.val; rw [e2]; omega

theorem bwd_apply (c : Dev nD) (t : Fin cfg0.N) (f : Fin 256) (n : Fin 4096) :
    bwd m c t (ix3 (0 : Fin 1) f n) = awd m c (pan t f) n := by
  obtain ⟨-, -, -, ⟨e0, e1, e2⟩, -⟩ := index_facts t
  unfold bwd iblk
  rw [View.read_apply]
  show m _ _ = m _ _
  congr 1
  funext a; apply Fin.ext
  match a with
  | ⟨0, _⟩ => show win0_3.index t 0 * 1 + 1 * 0 = 0; rw [e0]
  | ⟨1, _⟩ => show win0_3.index t 1 * 256 + 1 * f.val = t.val % 43 * 256 + f.val; rw [e1]; omega
  | ⟨2, _⟩ => show win0_3.index t 2 * 4096 + 1 * n.val = n.val; rw [e2]; omega

/-- The last gain as the call finds it: the argument reshaped to one row. -/
theorem v1_row (c : Dev nD) (l : Fin 4096) :
    V m c main_v1 (ix2 (0 : Fin 1) l) = m ((c : Thread nD τ).loc main_arg5) (ix1 l) := by
  have e : V m c main_v1 = shapeCast S1x4096 (m ((c : Thread nD τ).loc main_arg5)) shapeCasts_S4096_S1x4096 := rfl
  rw [e]
  exact shapeCast_apply _ _ (ix2 (0 : Fin 1) l) (ix1 l) (by
    rw [Shape.rowMajor_val_one, Shape.rowMajor_val_two]; show l.val = 0 * 4096 + l.val; omega)

theorem bgf_apply (c : Dev nD) (t : Fin cfg0.N) (l : Fin 4096) :
    bgf m c t (ix2 (0 : Fin 1) l) = agf m c l := by
  obtain ⟨-, -, -, -, ⟨e0, e1⟩, -⟩ := index_facts t
  refine Eq.trans ?_ (v1_row m c l)
  unfold bgf iblk
  rw [View.read_apply]
  show V m c main_v1 _ = V m c main_v1 _
  congr 1
  funext a; apply Fin.ext
  match a with
  | ⟨0, _⟩ => show win0_4.index t 0 * 1 + 1 * 0 = 0; rw [e0]
  | ⟨1, _⟩ => show win0_4.index t 1 * 4096 + 1 * l.val = l.val; rw [e1]; omega

/-- Row `r` of the point's row block, normalized. -/
theorem normed_eq (c : Dev nD) (t : Fin cfg0.N) (r : Fin 640) :
    normed (bx m c t) (bg m c t) r = rowNorm (ax m c (row t r)) (ag m c) := by
  funext k
  unfold normed
  rw [show (fun l => bx m c t (ix2 r l)) = ax m c (row t r) from funext fun l => bx_apply m c t r l,
    show (fun l => bg m c t (ix2 (0 : Fin 1) l)) = ag m c from funext fun l => bg_apply m c t l]

/-- Two points of one row block have the same rows. -/
theorem row_congr {t t' : Fin cfg0.N} (h : t.val / 43 = t'.val / 43) (r : Fin 640) : row t r = row t' r :=
  Fin.ext (by show t.val / 43 * 640 + r.val = t'.val / 43 * 640 + r.val; rw [h])

/-- The shares of the activations for one entry. -/
abbrev shares (c : Dev nD) (r : Fin 8320) (n : Fin 4096) : Fin 11008 → EReal :=
  share (ax m c) (ag m c) (awg m c) (awu m c) (awd m c) r n

/-- One panel's step over the normalized rows: the panel's shares are added. -/
theorem bstep_eq (c : Dev nD) (t : Fin cfg0.N) (h a : Fin 640 → Fin 4096 → EReal) (r : Fin 640) (n : Fin 4096)
    (hh : h r = rowNorm (ax m c (row t r)) (ag m c)) :
    bstep (bwg m c t) (bwu m c t) (bwd m c t) h a r n
      = a r n + ∑ f : Fin 256, ext (shares m c (row t r) n) (256 * (t.val % 43) + f.val) := by
  unfold bstep step
  refine congrArg (fun b : EReal => a r n + b) (Finset.sum_congr rfl fun f _ => ?_)
  have hlt : 256 * (t.val % 43) + f.val < 11008 := by omega
  unfold ext
  rw [dif_pos hlt, hh]
  have hp : (⟨256 * (t.val % 43) + f.val, hlt⟩ : Fin 11008) = pan t f := Fin.ext (by
    show 256 * (t.val % 43) + f.val = t.val % 43 * 256 + f.val; omega)
  rw [hp]
  unfold shares share
  dsimp only
  rw [bwd_apply,
    show (fun k => bwg m c t (ix3 (0 : Fin 1) k f)) = fun k => awg m c k (pan t f) from funext fun k => bwg_apply m c t k f,
    show (fun k => bwu m c t (ix3 (0 : Fin 1) k f)) = fun k => awu m c k (pan t f) from funext fun k => bwu_apply m c t k f]

/-- After every point: the rows of the block normalized, and the row plus the shares of the panels so far. -/
theorem st_eq (c : Dev nD) : ∀ (k : ℕ) (hk : k < cfg0.N) (r : Fin 640),
    (st m c k hk).2 r = rowNorm (ax m c (row ⟨k, hk⟩ r)) (ag m c)
    ∧ ∀ n : Fin 4096, (st m c k hk).1 r n
        = ax m c (row ⟨k, hk⟩ r) n + psum (shares m c (row ⟨k, hk⟩ r) n) (k % 43 + 1) := by
  have first : ∀ (k : ℕ) (hk : k < cfg0.N) (h0 : k % 43 = 0) (r : Fin 640),
      (st m c k hk).2 r = rowNorm (ax m c (row ⟨k, hk⟩ r)) (ag m c)
      ∧ ∀ n : Fin 4096, (st m c k hk).1 r n
          = ax m c (row ⟨k, hk⟩ r) n + psum (shares m c (row ⟨k, hk⟩ r) n) (k % 43 + 1) := by
    intro k hk h0 r
    have e := st_first m c ⟨k, hk⟩ h0
    refine ⟨(congrFun (congrArg Prod.snd e) r).trans (normed_eq m c ⟨k, hk⟩ r), fun n => ?_⟩
    refine (congrFun (congrFun (congrArg Prod.fst e) r) n).trans ?_
    refine (bstep_eq m c ⟨k, hk⟩ (normed (bx m c ⟨k, hk⟩) (bg m c ⟨k, hk⟩)) (fun r n => bx m c ⟨k, hk⟩ (ix2 r n)) r n (normed_eq m c ⟨k, hk⟩ r)).trans ?_
    rw [psum_succ, h0, psum_zero, zero_add]
    exact congrArg₂ (fun a b : EReal => a + b) (bx_apply m c ⟨k, hk⟩ r n) rfl
  intro k
  induction k with
  | zero => exact fun hk r => first 0 hk rfl r
  | succ k ih =>
    intro hk r
    by_cases h0 : (k + 1) % 43 = 0
    · exact first (k + 1) hk h0 r
    · have e := st_next m c ⟨k + 1, hk⟩ h0
      obtain ⟨i2, i1⟩ := ih (Nat.lt_of_succ_lt hk) r
      have hrow : row ⟨k, Nat.lt_of_succ_lt hk⟩ r = row ⟨k + 1, hk⟩ r := row_congr (by show k / 43 = (k + 1) / 43; omega) r
      rw [hrow] at i2
      refine ⟨(congrFun (congrArg Prod.snd e) r).trans i2, fun n => ?_⟩
      refine (congrFun (congrFun (congrArg Prod.fst e) r) n).trans ?_
      refine (bstep_eq m c ⟨k + 1, hk⟩ (st m c k (Nat.lt_of_succ_lt hk)).2 (st m c k (Nat.lt_of_succ_lt hk)).1 r n i2).trans ?_
      have hmod : (k + 1) % 43 = k % 43 + 1 := by omega
      refine (congrArg (fun a : EReal => a + _) (i1 n)).trans ?_
      rw [hrow, add_assoc]
      refine congrArg (fun b : EReal => _ + b) ?_
      show psum _ (k % 43 + 1) + ∑ f : Fin 256, ext _ (256 * ((k + 1) % 43) + f.val) = psum _ ((k + 1) % 43 + 1)
      rw [hmod, psum_succ _ (k % 43 + 1)]

/-- The accumulator after the last panel of a row block: the layer's rows. -/
theorem st_last (c : Dev nD) (t : Fin cfg0.N) (h : t.val % 43 = 42) (r : Fin 640) (n : Fin 4096) :
    (st m c t.val t.isLt).1 r n = lay m c (row t r) n := by
  refine ((st_eq m c t.val t.isLt r).2 n).trans ?_
  rw [h, show 42 + 1 = 43 from rfl, psum_all]
  rfl

/-- The block after the last panel of a row block. -/
theorem block_eq (c : Dev nD) (t : Fin cfg0.N) (h : t.val % 43 = 42) (r : Fin 640) (n : Fin 4096) :
    outAt m c t.val t.isLt (ix2 r n) = result m c (ix2 (row t r) n) := by
  rw [outAt_last m c t.val t.isLt h]
  show rowNorm ((st m c t.val t.isLt).1 r) (fun l => bgf m c t (ix2 (0 : Fin 1) l)) n = rowNorm (lay m c (row t r)) (agf m c) n
  rw [show (st m c t.val t.isLt).1 r = lay m c (row t r) from funext fun n => st_last m c t h r n,
    show (fun l => bgf m c t (ix2 (0 : Fin 1) l)) = agf m c from funext fun l => bgf_apply m c t l]

/-- A block whose elements are an array's elements at point `t`'s rows is that array's block `t`. -/
theorem cut_eq_read {c : Dev nD} (t : Fin cfg0.N) (X : Vec Ideal S640x4096 .f32) (R : Buf (Elt Ideal) ((c : Thread nD τ).loc main_v2))
    (h : ∀ (r : Fin 640) (n : Fin 4096), X (ix2 r n) = R (ix2 (row t r) n)) :
    (cfg0.win 6).cut (grid0.coords t) X = ((cfg0.win 6).blk t).view.read (Elt Ideal) R := by
  obtain ⟨-, -, -, -, -, -, ⟨e0, e1⟩⟩ := index_facts t
  funext y
  rw [View.read_apply]
  have hi : ((cfg0.win 6).blk t).view.emb y = (ix2 (row t (y 0)) (y 1) : S8320x4096.Idx) := by
    funext a; apply Fin.ext
    match a with
    | ⟨0, _⟩ => show win0_6.index t 0 * 640 + 1 * (y 0).val = t.val / 43 * 640 + (y 0).val; rw [e0]; omega
    | ⟨1, _⟩ => show win0_6.index t 1 * 4096 + 1 * (y 1).val = (y 1).val; rw [e1]; omega
  refine Eq.trans ?_ ((h (y 0) (y 1)).trans (congrArg R hi.symm))
  exact congrArg X (funext fun a => Fin.ext (by match a with | ⟨0, _⟩ => rfl | ⟨1, _⟩ => rfl))

/-- What the last point of a row block writes back is that block of the formula's array. -/
theorem flushed_eq (c : Dev nD) (t : Fin cfg0.N) (ht : (cfg0.win 6).flush t = true) :
    (dats m 0 c).flushed 6 t = ((cfg0.win 6).blk t).view.read (Elt Ideal) (result m c) := by
  show (cfg0.win 6).cut (grid0.coords t) ((dats m 0 c).after 6 t) = _
  rw [after0_6]
  exact cut_eq_read (c := c) t _ _ fun r n => block_eq m c t ((flush0_6 t).mp ht) r n

/-- Every index of the result array lies in the block of some row block's last point. -/
theorem covered (i : S8320x4096.Idx) :
    ∃ t : Fin cfg0.N, (cfg0.win 6).flush t = true ∧ i ∈ ((cfg0.win 6).blk t).view.set := by
  have h0 : (i 0).val < 8320 := (i 0).isLt
  have h1 : (i 1).val < 4096 := (i 1).isLt
  have hN : cfg0.N = 559 := N_0
  let t : Fin cfg0.N := ⟨(i 0).val / 640 * 43 + 42, by rw [hN]; omega⟩
  obtain ⟨-, -, -, -, -, -, ⟨e0, e1⟩⟩ := index_facts t
  have ht : t.val = (i 0).val / 640 * 43 + 42 := rfl
  refine ⟨t, (flush0_6 t).mpr (by rw [ht]; omega), ?_⟩
  show i ∈ ((View.whole main_v2).slice (win0_6.rect t)).set
  rw [View.set_slice_whole, Rect.mem_set_unit]
  intro a
  match a with
  | ⟨0, _⟩ => show win0_6.index t 0 * 640 ≤ (i 0).val ∧ (i 0).val < win0_6.index t 0 * 640 + 640; rw [e0, ht]; omega
  | ⟨1, _⟩ => show win0_6.index t 1 * 4096 ≤ (i 1).val ∧ (i 1).val < win0_6.index t 1 * 4096 + 4096; rw [e1]; omega

/-- The result array after the run. -/
theorem final (c : Dev nD) : (dats m 0 c).arrAt 6 cfg0.N = result m c :=
  (dats m 0 c).arrAt_eq_of_cover 6 (result m c) (fun t ht => flushed_eq m c t ht) (fun i => covered i)

end Cert.Kernel2Ideal.Ffn

end
-- ==== Proof.Ffn.FinalIdeal.Reference.lean ====
/- The feed-forward reference with the last normalization computes the layer's formula. -/
module

public import proofs.«01_k».proof.Proof.Ffn.Layer
public import proofs.«01_k».proof.Proof.Gen.Reference2Ideal.Read
public import Idealize.ShloMosaic.Lib.IdealHost

@[expose] public section

noncomputable section

namespace Cert.Reference2Ideal.Ffn

open Idealize.ShloMosaic Idealize.ShloMosaic.ValueIdx
open Cert.Reference2Ideal Cert.Reference2Ideal.Read Cert.Reference2Ideal.Gen
open Cert.Common (rowNorm)
open Cert.Ffn (share layer layerOf lastOf act glu)

variable (x : S8320x4096.Idx → EReal) (g : S4096.Idx → EReal) (wg wu : S1x4096x11008.Idx → EReal) (wd : S1x11008x4096.Idx → EReal) (gf : S4096.Idx → EReal)

/-- The reference's normalized rows. -/
theorem norm_apply (r : Fin 8320) (k : Fin 4096) :
    val_main_v18 (F := Ideal) x g (ix2 r k) = rowNorm (fun l => x (ix2 r l)) (fun l => g (ix1 l)) k := by
  have hsum : val_main_v7 (F := Ideal) x (ix1 r) = (∑ l : Fin 4096, x (ix2 r l) * x (ix2 r l) : EReal) := by
    rw [val_main_v7_apply, val_main_cst_apply]
    refine (congrArg₂ (fun a b : EReal => a + b) (Ideal.ofBits_zero_f32 : Ideal.ofBits .f32 0x00000000#32 = 0) rfl).trans ?_
    rw [zero_add]
    refine Finset.sum_congr rfl fun l _ => ?_
    have h : idx_main_v7 (ix1 r) l = ix2 r l := funext fun d => Fin.ext (by
      match d with | ⟨0, _⟩ => rfl | ⟨1, _⟩ => rfl)
    rw [h]
    rfl
  have h14 : val_main_v14 (F := Ideal) x (ix2 r k)
      = Ideal.rsqrt (Ideal.div (∑ l : Fin 4096, x (ix2 r l) * x (ix2 r l)) (Ideal.ofBits .f32 0x45800000#32)
          + Ideal.ofBits .f32 0x358637BD#32) := by
    rw [val_main_v14_apply, val_main_v13_apply, val_main_v12_apply, val_main_v10_apply, val_main_v8_apply, val_main_v9_apply,
      val_main_v11_apply, val_main_cst_0_apply, val_main_cst_1_apply]
    have h : idx_main_v8 (idx_main_v14 (ix2 r k)) = ix1 r := funext fun d => Fin.ext (by
      match d with | ⟨0, _⟩ => rfl)
    rw [h, hsum]
    rfl
  have h17 : val_main_v17 (F := Ideal) g (ix2 r k) = g (ix1 k) := by
    rw [val_main_v17_apply, val_main_v16_apply]
    have h : idx_main_v16 (idx_main_v17 (ix2 r k)) = ix1 k := funext fun d => Fin.ext (by
      match d with | ⟨0, _⟩ => rfl)
    rw [h]
  rw [val_main_v18_apply, val_main_v15_apply, h14, h17]
  rfl

/-! The three weight matrices. -/
theorem wg_apply (k : Fin 4096) (f : Fin 11008) : val_main_v1 (F := Ideal) wg (ix2 k f) = wg (ix3 (0 : Fin 1) k f) := by
  unfold val_main_v1
  exact Common.dropUnit_apply (val_main_v0 (F := Ideal) wg) _ (ix2 k f)
theorem wu_apply (k : Fin 4096) (f : Fin 11008) : val_main_v3 (F := Ideal) wu (ix2 k f) = wu (ix3 (0 : Fin 1) k f) := by
  unfold val_main_v3
  exact Common.dropUnit_apply (val_main_v2 (F := Ideal) wu) _ (ix2 k f)
theorem wd_apply (f : Fin 11008) (n : Fin 4096) : val_main_v5 (F := Ideal) wd (ix2 f n) = wd (ix3 (0 : Fin 1) f n) := by
  unfold val_main_v5
  exact Common.dropUnit_apply (val_main_v4 (F := Ideal) wd) _ (ix2 f n)

/-- The gate of an activation. -/
theorem gate_apply (r : Fin 8320) (f : Fin 11008) :
    val_main_v19 (F := Ideal) x g wg (ix2 r f)
      = (∑ k : Fin 4096, rowNorm (fun l => x (ix2 r l)) (fun l => g (ix1 l)) k * wg (ix3 (0 : Fin 1) k f) : EReal) := by
  rw [val_main_v19_apply]
  have hl : ∀ k : Fin 4096, lidx_main_v19 (ix2 r f) k = ix2 r k := fun k => funext fun d => Fin.ext (by
    match d with | ⟨0, _⟩ => rfl | ⟨1, _⟩ => rfl)
  have hr : ∀ k : Fin 4096, ridx_main_v19 (ix2 r f) k = ix2 k f := fun k => funext fun d => Fin.ext (by
    match d with | ⟨0, _⟩ => rfl | ⟨1, _⟩ => rfl)
  simp only [hl, hr]
  exact Finset.sum_congr rfl fun k _ => congrArg₂ (fun a b : EReal => a * b) (norm_apply x g r k) (wg_apply wg k f)

/-- The up value of an activation. -/
theorem up_apply (r : Fin 8320) (f : Fin 11008) :
    val_main_v21 (F := Ideal) x g wu (ix2 r f)
      = (∑ k : Fin 4096, rowNorm (fun l => x (ix2 r l)) (fun l => g (ix1 l)) k * wu (ix3 (0 : Fin 1) k f) : EReal) := by
  rw [val_main_v21_apply]
  have hl : ∀ k : Fin 4096, lidx_main_v21 (ix2 r f) k = ix2 r k := fun k => funext fun d => Fin.ext (by
    match d with | ⟨0, _⟩ => rfl | ⟨1, _⟩ => rfl)
  have hr : ∀ k : Fin 4096, ridx_main_v21 (ix2 r f) k = ix2 k f := fun k => funext fun d => Fin.ext (by
    match d with | ⟨0, _⟩ => rfl | ⟨1, _⟩ => rfl)
  simp only [hl, hr]
  exact Finset.sum_congr rfl fun k _ => congrArg₂ (fun a b : EReal => a * b) (norm_apply x g r k) (wu_apply wu k f)

/-- The gate times its logistic. -/
theorem silu_apply (i : S8320x11008.Idx) :
    val_main_v20 (F := Ideal) x g wg i = val_main_v19 (F := Ideal) x g wg i * Ideal.logistic (val_main_v19 (F := Ideal) x g wg i) := by
  rw [val_main_v20_apply, val_main_call0_v5_apply, val_main_call0_v4_apply, val_main_call0_cst_0_apply, val_main_call0_v3_apply,
    val_main_call0_v2_apply, val_main_call0_cst_apply, val_main_call0_v1_apply, val_main_call0_v0_apply]
  refine congrArg (fun b : EReal => val_main_v19 (F := Ideal) x g wg i * b) ?_
  show Ideal.div (Ideal.ofBits .f32 0x3F800000#32) (Ideal.ofBits .f32 0x3F800000#32 + Ideal.exp (-val_main_v19 (F := Ideal) x g wg i)) = _
  rw [Ideal.ofBits_one_f32]
  rfl

/-- An activation. -/
theorem act_apply (r : Fin 8320) (f : Fin 11008) :
    val_main_v22 (F := Ideal) x g wg wu (ix2 r f)
      = act (rowNorm (fun l => x (ix2 r l)) (fun l => g (ix1 l))) (fun k => wg (ix3 (0 : Fin 1) k f)) (fun k => wu (ix3 (0 : Fin 1) k f)) := by
  rw [val_main_v22_apply, silu_apply, gate_apply, up_apply]
  rfl

/-- The layer. -/
theorem layer_apply (r : Fin 8320) (n : Fin 4096) :
    val_main_v24 (F := Ideal) x g wg wu wd (ix2 r n) = layerOf x g wg wu wd r n := by
  rw [val_main_v24_apply, val_main_v23_apply]
  have hl : ∀ k : Fin 11008, lidx_main_v23 (ix2 r n) k = ix2 r k := fun k => funext fun d => Fin.ext (by
    match d with | ⟨0, _⟩ => rfl | ⟨1, _⟩ => rfl)
  have hr : ∀ k : Fin 11008, ridx_main_v23 (ix2 r n) k = ix2 k n := fun k => funext fun d => Fin.ext (by
    match d with | ⟨0, _⟩ => rfl | ⟨1, _⟩ => rfl)
  simp only [hl, hr]
  unfold layerOf layer
  refine congrArg (fun b : EReal => x (ix2 r n) + b) ?_
  exact Finset.sum_congr rfl fun f _ => congrArg₂ (fun a b : EReal => a * b) (act_apply x g wg wu r f) (wd_apply wd f n)

/-- The layer's rows normalized once more. -/
theorem last_apply (r : Fin 8320) (k : Fin 4096) :
    val_main_v37 (F := Ideal) x g wg wu wd gf (ix2 r k) = lastOf x g wg wu wd gf r k := by
  have hsum : val_main_v26 (F := Ideal) x g wg wu wd (ix1 r) = (∑ l : Fin 4096, layerOf x g wg wu wd r l * layerOf x g wg wu wd r l : EReal) := by
    rw [val_main_v26_apply, val_main_cst_2_apply]
    refine (congrArg₂ (fun a b : EReal => a + b) (Ideal.ofBits_zero_f32 : Ideal.ofBits .f32 0x00000000#32 = 0) rfl).trans ?_
    rw [zero_add]
    refine Finset.sum_congr rfl fun l _ => ?_
    have h : idx_main_v26 (ix1 r) l = ix2 r l := funext fun d => Fin.ext (by
      match d with | ⟨0, _⟩ => rfl | ⟨1, _⟩ => rfl)
    rw [h, val_main_v25_apply, layer_apply]
    rfl
  have h33 : val_main_v33 (F := Ideal) x g wg wu wd (ix2 r k)
      = Ideal.rsqrt (Ideal.div (∑ l : Fin 4096, layerOf x g wg wu wd r l * layerOf x g wg wu wd r l) (Ideal.ofBits .f32 0x45800000#32)
          + Ideal.ofBits .f32 0x358637BD#32) := by
    rw [val_main_v33_apply, val_main_v32_apply, val_main_v31_apply, val_main_v29_apply, val_main_v27_apply, val_main_v28_apply,
      val_main_v30_apply, val_main_cst_3_apply, val_main_cst_4_apply]
    have h : idx_main_v27 (idx_main_v33 (ix2 r k)) = ix1 r := funext fun d => Fin.ext (by
      match d with | ⟨0, _⟩ => rfl)
    rw [h, hsum]
    rfl
  have h36 : val_main_v36 (F := Ideal) gf (ix2 r k) = gf (ix1 k) := by
    rw [val_main_v36_apply, val_main_v35_apply]
    have h : idx_main_v35 (idx_main_v36 (ix2 r k)) = ix1 k := funext fun d => Fin.ext (by
      match d with | ⟨0, _⟩ => rfl)
    rw [h]
  rw [val_main_v37_apply, val_main_v34_apply, h33, h36, layer_apply]
  rfl

theorem ref_eq : val_main_v37 (F := Ideal) x g wg wu wd gf = fun i => lastOf x g wg wu wd gf (i 0) (i 1) := by
  funext i
  rw [eq_ix2 i]
  exact last_apply x g wg wu wd gf (i 0) (i 1)

end Cert.Reference2Ideal.Ffn

end
-- ==== Proof.Ffn.FinalIdeal.Claims.lean ====
/- The feed-forward call's claims with the last normalization: its frames, and that the call and its reference leave the same array. -/
module

public import proofs.«01_k».proof.Proof.Ffn.Final.Frame
public import proofs.«01_k».proof.Proof.Ffn.FinalIdeal.Kernel
public import proofs.«01_k».proof.Proof.Ffn.FinalIdeal.Reference
public import proofs.«01_k».proof.Proof.Gen.Reference2Ideal.Run
public import proofs.«01_k».proof.Defs

@[expose] public section

noncomputable section

namespace Cert.Ffn.Final

open Idealize.ShloMosaic Idealize.ShloMosaic.TcCoe Idealize.SL.Sem

theorem frame_p : Cert.quiescent_Kernel2 := fun m g _ => Cert.Kernel2.Ffn.frame m g

theorem frame_pi : Cert.quiescent_Kernel2Ideal := fun m g _ =>
  θ_run_and (Cert.Kernel2Ideal.Ffn.unchanged m g) ((θ_run Cert.Kernel2Ideal.defs _ _).mono (fun _ h => h.2) (Cert.Kernel2Ideal.Ffn.run_quiet m g))

/-- The reference is straight-line host code: it writes none of its arguments and declares no semaphore. -/
theorem frame_ri : Cert.quiescent_Reference2Ideal := fun m g _ =>
  (θ_run Cert.Reference2Ideal.defs _ _).mono
    (fun r h => ⟨fun c => (h c).2, Idealize.ShloMosaic.sem_eq_zero_of_no_sems (by decide) r.2⟩)
    (Cert.Reference2Ideal.Value.run m g)

theorem algebraic : Cert.algebraic_Kernel2Ideal_Reference2Ideal := by
  intro m g m' g' _ hin
  refine ⟨fun c => Cert.Kernel2Ideal.Ffn.result m c, ?_, ?_⟩
  · refine (θ_run _ _ _).mono (fun r h c => ?_) (θ_run_and (Cert.Kernel2Ideal.Ffn.run_quiet m g) (Cert.Kernel2Ideal.Ffn.unchanged m g))
    exact ⟨((h.1.1 c).1 6).trans (Cert.Kernel2Ideal.Ffn.final m c), h.2 c⟩
  · refine (θ_run _ _ _).mono (fun r h c => ?_) (Cert.Reference2Ideal.Value.run m' g')
    obtain ⟨h0, h1⟩ := h c
    obtain ⟨a0, a1, a2, a3, a4, a5⟩ := hin c
    refine ⟨h0.trans ?_, h1⟩
    refine (Cert.Reference2Ideal.Read.val_main_v37_eq m' c).trans ?_
    refine (Cert.Reference2Ideal.Ffn.ref_eq _ _ _ _ _ _).trans ?_
    rw [a0, a1, a2, a3, a4, a5]
    try rfl

end Cert.Ffn.Final

end
-- ==== Proof.InProj.Frame.lean ====
/- The frames of the input projection: the call at words, the call over the extended reals, and its reference. -/
module

public import proofs.«01_k».proof.Proof.Gen.Kernel3.Frame
public import proofs.«01_k».proof.Proof.Gen.Kernel3Ideal.Frame
public import proofs.«01_k».proof.Proof.Gen.Reference3Ideal
public import proofs.«01_k».proof.Proof.Gen.Reference3Ideal.Run
public import proofs.«01_k».proof.Defs

@[expose] public section

noncomputable section

namespace Cert.InProj

open Idealize.ShloMosaic Idealize.ShloMosaic.TcCoe Idealize.SL.Sem

theorem frame_p : Cert.quiescent_Kernel3 := fun m g _ => Cert.Kernel3.Gen.frame m g

theorem frame_pi : Cert.quiescent_Kernel3Ideal := fun m g _ => Cert.Kernel3Ideal.Gen.frame m g

/-- The reference is straight-line host code: it writes none of its arguments and declares no semaphore. -/
theorem frame_ri : Cert.quiescent_Reference3Ideal := fun m g _ =>
  (θ_run Cert.Reference3Ideal.defs _ _).mono
    (fun r h => ⟨fun c => (h c).2, Idealize.ShloMosaic.sem_eq_zero_of_no_sems (by decide) r.2⟩)
    (Cert.Reference3Ideal.Value.run m g)

end Cert.InProj

end
-- ==== Proof.InProj.Spec.lean ====
/- The input projection as a formula: each row normalised, then the product with the weights; and that the reference
   computes it. -/
module

public import proofs.«01_k».proof.Proof.Common.RowNorm
public import proofs.«01_k».proof.Proof.Gen.Reference3Ideal.Read

@[expose] public section

noncomputable section

namespace Cert.InProj

open Idealize.ShloMosaic Idealize.ShloMosaic.ValueIdx
open Cert.Reference3Ideal Cert.Reference3Ideal.Read Cert.Reference3Ideal.Gen
open Cert.Common (rowNorm)

/-- Row `r`, column `n` of the input projection. -/
def entry (x : Fin 8320 → Fin 4096 → EReal) (g : Fin 4096 → EReal) (w : Fin 4096 → Fin 10240 → EReal)
    (r : Fin 8320) (n : Fin 10240) : EReal :=
  ∑ k : Fin 4096, rowNorm (x r) g k * w k n

/-- The same over the arrays. -/
def out (x : S8320x4096.Idx → EReal) (g : S4096.Idx → EReal) (w : S1x4096x10240.Idx → EReal)
    (i : S8320x10240.Idx) : EReal :=
  entry (fun r n => x (ix2 r n)) (fun k => g (ix1 k)) (fun k n => w (ix3 (0 : Fin 1) k n)) (i 0) (i 1)

/-- The reference's normalised rows. -/
theorem ref_norm (x : S8320x4096.Idx → EReal) (g : S4096.Idx → EReal) (r : Fin 8320) (k : Fin 4096) :
    val_main_v12 (F := Ideal) x g (ix2 r k) = rowNorm (fun l => x (ix2 r l)) (fun l => g (ix1 l)) k := by
  have hsum : val_main_v1 (F := Ideal) x (ix1 r) = (∑ l : Fin 4096, x (ix2 r l) * x (ix2 r l) : EReal) := by
    rw [val_main_v1_apply, val_main_cst_apply]
    refine (congrArg₂ (fun a b : EReal => a + b) (Ideal.ofBits_zero_f32 : Ideal.ofBits .f32 0x00000000#32 = 0) rfl).trans ?_
    rw [zero_add]
    refine Finset.sum_congr rfl fun l _ => ?_
    have h : idx_main_v1 (ix1 r) l = ix2 r l := funext fun d => Fin.ext (by
      match d with | ⟨0, _⟩ => rfl | ⟨1, _⟩ => rfl)
    rw [h]
    rfl
  have h8 : val_main_v8 (F := Ideal) x (ix2 r k)
      = Ideal.rsqrt (Ideal.div (∑ l : Fin 4096, x (ix2 r l) * x (ix2 r l)) (Ideal.ofBits .f32 0x45800000#32)
          + Ideal.ofBits .f32 0x358637BD#32) := by
    rw [val_main_v8_apply, val_main_v7_apply, val_main_v6_apply, val_main_v4_apply, val_main_v2_apply, val_main_v3_apply,
      val_main_v5_apply, val_main_cst_0_apply, val_main_cst_1_apply]
    have h : idx_main_v2 (idx_main_v8 (ix2 r k)) = ix1 r := funext fun d => Fin.ext (by
      match d with | ⟨0, _⟩ => rfl)
    rw [h, hsum]
    rfl
  have h11 : val_main_v11 (F := Ideal) g (ix2 r k) = g (ix1 k) := by
    rw [val_main_v11_apply, val_main_v10_apply]
    have h : idx_main_v10 (idx_main_v11 (ix2 r k)) = ix1 k := funext fun d => Fin.ext (by
      match d with | ⟨0, _⟩ => rfl)
    rw [h]
  rw [val_main_v12_apply, val_main_v9_apply, h8, h11]
  rfl

/-- The reference's weights. -/
theorem ref_w (w : S1x4096x10240.Idx → EReal) (k : Fin 4096) (n : Fin 10240) :
    val_main_v14 (F := Ideal) w (ix2 k n) = w (ix3 (0 : Fin 1) k n) := by
  unfold val_main_v14
  exact Common.dropUnit_apply (val_main_v13 (F := Ideal) w) _ (ix2 k n)

/-- The reference's result is the formula. -/
theorem ref_entry (x : S8320x4096.Idx → EReal) (g : S4096.Idx → EReal) (w : S1x4096x10240.Idx → EReal)
    (r : Fin 8320) (n : Fin 10240) : val_main_v15 (F := Ideal) x g w (ix2 r n) = out x g w (ix2 r n) := by
  rw [val_main_v15_apply]
  have hl : ∀ k : Fin 4096, lidx_main_v15 (ix2 r n) k = ix2 r k := fun k => funext fun d => Fin.ext (by
    match d with | ⟨0, _⟩ => rfl | ⟨1, _⟩ => rfl)
  have hr : ∀ k : Fin 4096, ridx_main_v15 (ix2 r n) k = ix2 k n := fun k => funext fun d => Fin.ext (by
    match d with | ⟨0, _⟩ => rfl | ⟨1, _⟩ => rfl)
  simp only [hl, hr]
  exact Finset.sum_congr rfl fun k _ => congrArg₂ (fun a b : EReal => a * b) (ref_norm x g r k) (ref_w w k n)

theorem ref_eq (x : S8320x4096.Idx → EReal) (g : S4096.Idx → EReal) (w : S1x4096x10240.Idx → EReal) :
    val_main_v15 (F := Ideal) x g w = out x g w := by
  funext i
  rw [eq_ix2 i]
  exact ref_entry x g w (i 0) (i 1)

end Cert.InProj

end
-- ==== Proof.InProj.Pieces.lean ====
/- What the input projection's body stores: the ten trips of its row loop leave the normalised rows in the scratch,
   and the store of the result block is their product with the weights' block. -/
module

public import proofs.«01_k».proof.Proof.InProj.Spec
public import proofs.«01_k».proof.Proof.Gen.Kernel3Ideal.Value
public import Idealize.ShloMosaic.Lib.VecWindow
public import Idealize.ShloMosaic.Lib.WritesUnit

@[expose] public section

noncomputable section

namespace Cert.InProj

open Idealize.ShloMosaic Idealize.ShloMosaic.TcCoe Idealize.ShloMosaic.ValueIdx Idealize.SL.Sem
open Cert.Kernel3Ideal Cert.Kernel3Ideal.Gen
open Cert.Common (rowNorm)

theorem hz2 : (![0, 0] : Fin 2 → Nat) = fun _ => 0 := funext fun a => by fin_cases a <;> rfl
theorem hz3 : (![0, 0, 0] : Fin 3 → Nat) = fun _ => 0 := funext fun a => by fin_cases a <;> rfl

/-- The loop's stored rows, from the rows and the gain it loads. -/
theorem pay1_apply (X : Vec Ideal S64x4096 .f32) (G : Vec Ideal S1x4096 .f32) (r : Fin 64) (n : Fin 4096) :
    k0_pay1 (F := Ideal) X G (ix2 r n) = rowNorm (fun l => X (ix2 r l)) (fun l => G (ix2 (0 : Fin 1) l)) n := by
  unfold k0_pay1
  simp only [shapeCast_self]
  exact Common.rowNorm_block X G _ _ _ _ _ _ r n

/-- The stored result block, from the normalised rows and the weights' block. -/
theorem pay2_apply (H : Vec Ideal S640x4096 .bf16) (W : Vec Ideal S1x4096x1024 .bf16) (r : Fin 640) (n : Fin 1024) :
    k0_pay2 (F := Ideal) H W (ix2 r n) = (∑ k : Fin 4096, H (ix2 r k) * W (ix3 (0 : Fin 1) k n) : EReal) := by
  unfold k0_pay2
  refine (Common.matmul_plain _ rfl rfl rfl rfl rfl rfl none _ _ (ix2 r n)).trans ?_
  exact Finset.sum_congr rfl fun k _ => congrArg (fun b : EReal => H (ix2 r k) * b) (Common.dropUnit_apply W _ _)

section Loop

variable (𝒱 : Variants) (c : Dev nD) (bd : Option 𝒱.V) (i : grid0.Coords)
  (arg2 : Memref sig .tc .vmem S640x4096 .f32) (harg2 : arg2.IsWhole) (arg3 : Memref sig .tc .vmem S1x4096 .f32) (harg3 : arg3.IsWhole)
  (arg4 : Memref sig .tc .vmem S1x4096x1024 .bf16) (harg4 : arg4.IsWhole) (arg5 : Memref sig .tc .vmem S640x1024 .f32) (harg5 : arg5.IsWhole)
  (arg6 : Memref sig .tc .vmem S640x4096 .bf16) (harg6 : arg6.IsWhole)

/-- One trip's one store. -/
theorem trip_eq (h1 : k0_cond1 i = 1#1) (X2 : BufTy.Contents (Elt Ideal) arg2.view.ty) (X3 : BufTy.Contents (Elt Ideal) arg3.view.ty)
    (k : Fin k0_t1_loop.trips) :
    (trip_k0_t1 (F := Ideal) 𝒱 c bd i arg2 harg2 arg3 harg3 arg4 harg4 arg5 harg5 arg6 harg6 h1 X2 X3 k).1
      = [⟨Rect.unit (s := S640x4096) (k0_off1 k) S64x4096.size (k0_off1_inb i k h1),
          k0_pay1 (F := Ideal)
            (View.readAt (Elt Ideal) arg2.view (Rect.unit (s := S640x4096) (k0_off1 k) S64x4096.size (k0_off1_inb i k h1)).toLoadRect X2)
            (View.readAt (Elt Ideal) arg3.view (Rect.unit (s := S1x4096) ![0, 0] S1x4096.size inb_S1x4096_S1x4096_0_0).toLoadRect X3)⟩] := by
  unfold trip_k0_t1
  rfl

/-- After `k` trips the rows below `64 * k` are normalised. -/
theorem read_rows (h1 : k0_cond1 i = 1#1) (x0 : Vec Ideal S640x4096 .f32) (x1 : Vec Ideal S1x4096 .f32)
    (v : View sig .tc .vmem S640x4096 .bf16) (f : v.ty.Contents (Elt Ideal)) :
    ∀ k : Nat, k ≤ 10 → ∀ (r : Fin 640) (n : Fin 4096), r.val < 64 * k →
      v.read (Elt Ideal) (v.writes (Elt Ideal) f (pb_k0_t1 (F := Ideal) 𝒱 c bd i arg2 harg2 arg3 harg3 arg4 harg4 arg5 harg5 arg6 harg6 h1
          (harg2.unread x0) (harg3.unread x1) k)) (ix2 r n)
        = rowNorm (fun l => x0 (ix2 r l)) (fun l => x1 (ix2 (0 : Fin 1) l)) n := by
  intro k
  induction k with
  | zero => intro _ r n h; omega
  | succ k ih =>
    intro hk r n hr
    have hk' : k < k0_t1_loop.trips := hk
    have hs := pb_k0_t1_succ (F := Ideal) 𝒱 c bd i arg2 harg2 arg3 harg3 arg4 harg4 arg5 harg5 arg6 harg6 h1
      (harg2.unread x0) (harg3.unread x1) ⟨k, hk'⟩
    unfold tripL_k0_t1 at hs
    rw [trip_eq] at hs
    rw [show k + 1 = (⟨k, hk'⟩ : Fin k0_t1_loop.trips).val + 1 from rfl, hs, List.singleton_append]
    by_cases hlt : r.val < 64 * k
    · rw [View.read_writes_cons_rows_of_not_mem (o := 64 * k) (W := 64) v f _ _ _ _ (k0_off1_eq ⟨k, hk'⟩) rfl (.inl hlt)]
      exact ih (by omega) r n hlt
    · have hx : ∃ r' : Fin 64, r.val = 64 * k + r'.val := ⟨⟨r.val - 64 * k, by omega⟩, by show r.val = 64 * k + (r.val - 64 * k); omega⟩
      obtain ⟨r', hr'⟩ := hx
      refine (View.read_writes_cons_rows_of_mem (o := 64 * k) (size := S64x4096.size) v f _ _ _ (ix2 r n) (ix2 r' n)
        (k0_off1_eq ⟨k, hk'⟩) hr' rfl).trans ?_
      rw [pay1_apply]
      congr 1
      · funext l
        refine (congrArg (fun z => arg2.view.read (Elt Ideal) (harg2.unread x0) z) ?_).trans (congrFun (harg2.read_unread x0) (ix2 r l))
        funext a; apply Fin.ext
        match a with
        | ⟨0, _⟩ =>
          show k0_off1 ⟨k, hk'⟩ 0 + 1 * r'.val = r.val
          rw [k0_off1_eq]; show 64 * k + 1 * r'.val = r.val; omega
        | ⟨1, _⟩ =>
          show k0_off1 ⟨k, hk'⟩ 1 + 1 * l.val = l.val
          rw [k0_off1_eq]; show 0 + 1 * l.val = l.val; omega
      · funext l
        refine (congrArg (fun z => arg3.view.read (Elt Ideal) (harg3.unread x1) z) ?_).trans (congrFun (harg3.read_unread x1) (ix2 0 l))
        funext a; apply Fin.ext
        match a with
        | ⟨0, _⟩ => rfl
        | ⟨1, _⟩ => show 0 + 1 * l.val = l.val; omega

/-- Case A: the scratch after the body. -/
theorem sout_A_apply (h : cond0_0 i) (x0 : Vec Ideal S640x4096 .f32) (x1 : Vec Ideal S1x4096 .f32) (x2 : Vec Ideal S1x4096x1024 .bf16)
    (r : Fin 640) (n : Fin 4096) :
    sout0_A_0 c i arg2 harg2 arg3 harg3 arg4 harg4 arg5 harg5 arg6 harg6 h x0 x1 x2 (ix2 r n)
      = rowNorm (fun l => x0 (ix2 r l)) (fun l => x1 (ix2 (0 : Fin 1) l)) n := by
  unfold sout0_A_0 kernelRun0_A
  exact read_rows Variants.none c none i arg2 harg2 arg3 harg3 arg4 harg4 arg5 harg5 arg6 harg6 h x0 x1 VS0_0 VS0_0.junk 10 le_rfl r n r.isLt

/-- Case A: the result block. -/
theorem out_A_apply (h : cond0_0 i) (x0 : Vec Ideal S640x4096 .f32) (x1 : Vec Ideal S1x4096 .f32) (x2 : Vec Ideal S1x4096x1024 .bf16)
    (r : Fin 640) (n : Fin 1024) :
    out0_A_3 c i arg2 harg2 arg3 harg3 arg4 harg4 arg5 harg5 arg6 harg6 h x0 x1 x2 (ix2 r n)
      = (∑ k : Fin 4096, rowNorm (fun l => x0 (ix2 r l)) (fun l => x1 (ix2 (0 : Fin 1) l)) k * x2 (ix3 (0 : Fin 1) k n) : EReal) := by
  unfold out0_A_3 kernelRun0_A
  dsimp only
  refine (congrFun (View.read_writes_full (s := S640x1024) VO0_3 VO0_3.junk inb_S640x1024_S640x1024_0_0 _ _) (ix2 r n)).trans ?_
  rw [pay2_apply]
  refine Finset.sum_congr rfl fun k _ => congrArg₂ (fun a b : EReal => a * b) ?_ ?_
  · unfold View.readCov
    refine (congrFun (View.readAt_full (s := S640x4096) arg6.view _ inb_S640x4096_S640x4096_0_0) (ix2 r k)).trans ?_
    exact read_rows Variants.none c none i arg2 harg2 arg3 harg3 arg4 harg4 arg5 harg5 arg6 harg6 h x0 x1 arg6.view arg6.view.junk 10 le_rfl r k r.isLt
  · exact (congrFun (View.readAt_full (s := S1x4096x1024) arg4.view _ inb_S1x4096x1024_S1x4096x1024_0_0_0) _).trans (congrFun (harg4.read_unread x2) _)

/-- Case B: the result block, over the rows the scratch held. -/
theorem out_B_apply (h : ¬cond0_0 i) (x0 : Vec Ideal S640x4096 .f32) (x1 : Vec Ideal S1x4096 .f32) (x2 : Vec Ideal S1x4096x1024 .bf16)
    (xs : Vec Ideal S640x4096 .bf16) (r : Fin 640) (n : Fin 1024) :
    out0_B_3 c i arg2 harg2 arg3 harg3 arg4 harg4 arg5 harg5 arg6 harg6 h x0 x1 x2 xs (ix2 r n)
      = (∑ k : Fin 4096, xs (ix2 r k) * x2 (ix3 (0 : Fin 1) k n) : EReal) := by
  unfold out0_B_3 kernelRun0_B
  dsimp only
  refine (congrFun (View.read_writes_full (s := S640x1024) VO0_3 VO0_3.junk inb_S640x1024_S640x1024_0_0 _ _) (ix2 r n)).trans ?_
  rw [pay2_apply]
  refine Finset.sum_congr rfl fun k _ => congrArg₂ (fun a b : EReal => a * b) ?_ ?_
  · exact (congrFun (View.readAt_full (s := S640x4096) arg6.view _ inb_S640x4096_S640x4096_0_0) _).trans (congrFun (harg6.read_unread xs) _)
  · exact (congrFun (View.readAt_full (s := S1x4096x1024) arg4.view _ inb_S1x4096x1024_S1x4096x1024_0_0_0) _).trans (congrFun (harg4.read_unread x2) _)

end Loop

end Cert.InProj

end
-- ==== Proof.InProj.Kernel.lean ====
/- The input projection's call: the scratch holds the point's normalised rows at every point, so each block written back
   is the formula's block, and the result array is the formula of the argument arrays. -/
module

public import proofs.«01_k».proof.Proof.InProj.Pieces

@[expose] public section

noncomputable section

namespace Cert.InProj

open Idealize.ShloMosaic Idealize.ShloMosaic.TcCoe Idealize.ShloMosaic.ValueIdx Idealize.SL.Sem
open Cert.Kernel3Ideal Cert.Kernel3Ideal.Gen
open Cert.Common (rowNorm)

variable (m : (ℓ : Loc nD τ sig) → Buf (Elt Ideal) ℓ)

/-- Which block of its array each window reads or writes at point `t`. -/
theorem index_facts : ∀ t : Fin cfg0.N,
    (win0_0.index t 0 = t.val / 10 ∧ win0_0.index t 1 = 0)
    ∧ (win0_1.index t 0 = 0 ∧ win0_1.index t 1 = 0)
    ∧ (win0_2.index t 0 = 0 ∧ win0_2.index t 1 = 0 ∧ win0_2.index t 2 = t.val % 10)
    ∧ (win0_3.index t 0 = t.val / 10 ∧ win0_3.index t 1 = t.val % 10) :=
  (by decide +kernel : ∀ t : Fin grid0.N, _)

/-- The array row that row `r` of point `t`'s blocks is. -/
def row (t : Fin cfg0.N) (r : Fin 640) : Fin 8320 :=
  ⟨t.val / 10 * 640 + r.val, by have h := lt_of_lt_of_eq t.isLt (show cfg0.N = 130 from N_0); omega⟩
/-- The array column that column `n` of point `t`'s blocks is. -/
def col (t : Fin cfg0.N) (n : Fin 1024) : Fin 10240 :=
  ⟨t.val % 10 * 1024 + n.val, by omega⟩

/-- The result array's contents by the formula. -/
abbrev result (c : Dev nD) : Buf (Elt Ideal) ((c : Thread nD τ).loc main_v1) :=
  out (m ((c : Thread nD τ).loc main_arg0)) (m ((c : Thread nD τ).loc main_arg1)) (m ((c : Thread nD τ).loc main_arg2))

theorem iblk0 (c : Dev nD) (t : Fin cfg0.N) (r : Fin 640) (l : Fin 4096) :
    (iblk m c 0 t : Vec Ideal S640x4096 .f32) (ix2 r l) = m ((c : Thread nD τ).loc main_arg0) (ix2 (row t r) l) := by
  obtain ⟨⟨e0, e1⟩, -⟩ := index_facts t
  unfold iblk
  rw [View.read_apply]
  show m _ _ = m _ _
  congr 1
  funext a; apply Fin.ext
  match a with
  | ⟨0, _⟩ => show win0_0.index t 0 * 640 + 1 * r.val = t.val / 10 * 640 + r.val; rw [e0]; omega
  | ⟨1, _⟩ => show win0_0.index t 1 * 4096 + 1 * l.val = l.val; rw [e1]; omega

/-- The gain as the call finds it: the argument reshaped to one row. -/
theorem gain_apply (c : Dev nD) (l : Fin 4096) :
    V m c main_v0 (ix2 (0 : Fin 1) l) = m ((c : Thread nD τ).loc main_arg1) (ix1 l) := by
  have e : V m c main_v0 = shapeCast S1x4096 (m ((c : Thread nD τ).loc main_arg1)) shapeCasts_S4096_S1x4096 := rfl
  rw [e]
  exact shapeCast_apply _ _ (ix2 (0 : Fin 1) l) (ix1 l) (by
    rw [Shape.rowMajor_val_one, Shape.rowMajor_val_two]; show l.val = 0 * 4096 + l.val; omega)

theorem iblk1 (c : Dev nD) (t : Fin cfg0.N) (l : Fin 4096) :
    (iblk m c 1 t : Vec Ideal S1x4096 .f32) (ix2 (0 : Fin 1) l) = m ((c : Thread nD τ).loc main_arg1) (ix1 l) := by
  obtain ⟨-, ⟨e0, e1⟩, -⟩ := index_facts t
  refine Eq.trans ?_ (gain_apply m c l)
  unfold iblk
  rw [View.read_apply]
  show V m c main_v0 _ = V m c main_v0 _
  congr 1
  funext a; apply Fin.ext
  match a with
  | ⟨0, _⟩ => show win0_1.index t 0 * 1 + 1 * 0 = 0; rw [e0]
  | ⟨1, _⟩ => show win0_1.index t 1 * 4096 + 1 * l.val = l.val; rw [e1]; omega

theorem iblk2 (c : Dev nD) (t : Fin cfg0.N) (k : Fin 4096) (n : Fin 1024) :
    (iblk m c 2 t : Vec Ideal S1x4096x1024 .bf16) (ix3 (0 : Fin 1) k n)
      = m ((c : Thread nD τ).loc main_arg2) (ix3 (0 : Fin 1) k (col t n)) := by
  obtain ⟨-, -, ⟨e0, e1, e2⟩, -⟩ := index_facts t
  unfold iblk
  rw [View.read_apply]
  show m _ _ = m _ _
  congr 1
  funext a; apply Fin.ext
  match a with
  | ⟨0, _⟩ => show win0_2.index t 0 * 1 + 1 * 0 = 0; rw [e0]
  | ⟨1, _⟩ => show win0_2.index t 1 * 4096 + 1 * k.val = k.val; rw [e1]; omega
  | ⟨2, _⟩ => show win0_2.index t 2 * 1024 + 1 * n.val = t.val % 10 * 1024 + n.val; rw [e2]; omega

/-- Row `r` of the point's row block, normalised. -/
def normed (c : Dev nD) (t : Fin cfg0.N) (r : Fin 640) (k : Fin 4096) : EReal :=
  rowNorm (fun l => m ((c : Thread nD τ).loc main_arg0) (ix2 (row t r) l)) (fun l => m ((c : Thread nD τ).loc main_arg1) (ix1 l)) k

/-- Two points of one row block have the same normalised rows. -/
theorem normed_congr (c : Dev nD) {t t' : Fin cfg0.N} (h : t.val / 10 = t'.val / 10) (r : Fin 640) (k : Fin 4096) :
    normed m c t r k = normed m c t' r k := by
  have : row t r = row t' r := Fin.ext (by show t.val / 10 * 640 + r.val = t'.val / 10 * 640 + r.val; rw [h])
  unfold normed
  rw [this]

theorem blocks_normed (c : Dev nD) (t : Fin cfg0.N) (r : Fin 640) (k : Fin 4096) :
    rowNorm (fun l => (iblk m c 0 t : Vec Ideal S640x4096 .f32) (ix2 r l)) (fun l => (iblk m c 1 t : Vec Ideal S1x4096 .f32) (ix2 (0 : Fin 1) l)) k
      = normed m c t r k := by
  unfold normed
  simp only [iblk0, iblk1]

/-- The scratch after every point holds the point's normalised rows. -/
theorem scratch_eq (c : Dev nD) : ∀ (n : ℕ) (hn : n < cfg0.N) (r : Fin 640) (k : Fin 4096),
    (outsAt0 m c n hn).2 (ix2 r k) = normed m c ⟨n, hn⟩ r k := by
  intro n
  induction n with
  | zero =>
    intro hn r k
    rw [outsAt0_A m c ⟨0, hn⟩ (Nat.zero_mod _)]
    exact (sout_A_apply ..).trans (blocks_normed m c ⟨0, hn⟩ r k)
  | succ n ih =>
    intro hn r k
    by_cases h0 : (n + 1) % 10 = 0
    · rw [outsAt0_A m c ⟨n + 1, hn⟩ h0]
      exact (sout_A_apply ..).trans (blocks_normed m c ⟨n + 1, hn⟩ r k)
    · rw [outsAt0_B m c ⟨n + 1, hn⟩ h0]
      refine (ih (Nat.lt_of_succ_lt hn) r k).trans (normed_congr m c ?_ r k)
      show n / 10 = (n + 1) / 10
      omega

/-- The block after every point, as a sum over the point's normalised rows. -/
theorem block_sum (c : Dev nD) (t : Fin cfg0.N) (r : Fin 640) (n : Fin 1024) :
    (outsAt0 m c t.val t.isLt).1 (ix2 r n)
      = (∑ k : Fin 4096, normed m c t r k * (iblk m c 2 t : Vec Ideal S1x4096x1024 .bf16) (ix3 (0 : Fin 1) k n) : EReal) := by
  by_cases h0 : t.val % 10 = 0
  · rw [congrArg Prod.fst (outsAt0_A m c t h0)]
    dsimp only
    rw [out_A_apply]
    exact Finset.sum_congr rfl fun k _ => congrArg (fun a : EReal => a * _) (blocks_normed m c t r k)
  · rw [congrArg Prod.fst (outsAt0_B m c t h0)]
    dsimp only
    rw [out_B_apply]
    refine Finset.sum_congr rfl fun k _ => congrArg (fun a : EReal => a * _) ?_
    refine (scratch_eq m c (t.val - 1) _ r k).trans (normed_congr m c ?_ r k)
    show (t.val - 1) / 10 = t.val / 10
    omega

/-- The block after every point. -/
theorem block_eq (c : Dev nD) (t : Fin cfg0.N) (r : Fin 640) (n : Fin 1024) :
    (outsAt0 m c t.val t.isLt).1 (ix2 r n) = result m c (ix2 (row t r) (col t n)) := by
  rw [block_sum]
  unfold result out entry normed
  exact Finset.sum_congr rfl fun k _ => congrArg (fun b : EReal => _ * b) (iblk2 m c t k n)

/-- A block whose elements are an array's elements at point `t`'s rows and columns is that array's block `t`. -/
theorem cut_eq_read {c : Dev nD} (t : Fin cfg0.N) (X : Vec Ideal S640x1024 .f32) (R : Buf (Elt Ideal) ((c : Thread nD τ).loc main_v1))
    (h : ∀ (r : Fin 640) (n : Fin 1024), X (ix2 r n) = R (ix2 (row t r) (col t n))) :
    (cfg0.win 3).cut (grid0.coords t) X = ((cfg0.win 3).blk t).view.read (Elt Ideal) R := by
  obtain ⟨-, -, -, ⟨e0, e1⟩⟩ := index_facts t
  funext y
  rw [View.read_apply]
  have hi : ((cfg0.win 3).blk t).view.emb y = (ix2 (row t (y 0)) (col t (y 1)) : S8320x10240.Idx) := by
    funext a; apply Fin.ext
    match a with
    | ⟨0, _⟩ => show win0_3.index t 0 * 640 + 1 * (y 0).val = t.val / 10 * 640 + (y 0).val; rw [e0]; omega
    | ⟨1, _⟩ => show win0_3.index t 1 * 1024 + 1 * (y 1).val = t.val % 10 * 1024 + (y 1).val; rw [e1]; omega
  refine Eq.trans ?_ ((h (y 0) (y 1)).trans (congrArg R hi.symm))
  exact congrArg X (funext fun a => Fin.ext (by match a with | ⟨0, _⟩ => rfl | ⟨1, _⟩ => rfl))

/-- What point `t` writes back is block `t` of the formula's array. -/
theorem flushed_eq (c : Dev nD) (t : Fin cfg0.N) :
    (dats m 0 c).flushed 3 t = ((cfg0.win 3).blk t).view.read (Elt Ideal) (result m c) := by
  rw [Value.flushed3]
  exact cut_eq_read (c := c) t _ _ fun r n => block_eq m c t r n

/-- Every index of the result array lies in some point's block. -/
theorem covered (i : S8320x10240.Idx) :
    ∃ t : Fin cfg0.N, (cfg0.win 3).flush t = true ∧ i ∈ ((cfg0.win 3).blk t).view.set := by
  have h0 : (i 0).val < 8320 := (i 0).isLt
  have h1 : (i 1).val < 10240 := (i 1).isLt
  have hN : cfg0.N = 130 := N_0
  let t : Fin cfg0.N := ⟨(i 0).val / 640 * 10 + (i 1).val / 1024, by rw [hN]; omega⟩
  obtain ⟨-, -, -, ⟨e0, e1⟩⟩ := index_facts t
  have ht : t.val = (i 0).val / 640 * 10 + (i 1).val / 1024 := rfl
  refine ⟨t, flush0_3 t, ?_⟩
  show i ∈ ((View.whole main_v1).slice (win0_3.rect t)).set
  rw [View.set_slice_whole, Rect.mem_set_unit]
  intro a
  match a with
  | ⟨0, _⟩ => show win0_3.index t 0 * 640 ≤ (i 0).val ∧ (i 0).val < win0_3.index t 0 * 640 + 640; rw [e0, ht]; omega
  | ⟨1, _⟩ => show win0_3.index t 1 * 1024 ≤ (i 1).val ∧ (i 1).val < win0_3.index t 1 * 1024 + 1024; rw [e1, ht]; omega

/-- The result array after the run. -/
theorem final (c : Dev nD) : (dats m 0 c).arrAt 3 cfg0.N = result m c :=
  (dats m 0 c).arrAt_eq_of_cover 3 (result m c) (fun t _ => flushed_eq m c t) (fun i => covered i)

end Cert.InProj

end
-- ==== Proof.InProj.Claims.lean ====
/- The input projection's value claim: the call and its reference leave the same array. -/
module

public import proofs.«01_k».proof.Proof.InProj.Kernel
public import proofs.«01_k».proof.Proof.Gen.Reference3Ideal.Run
public import proofs.«01_k».proof.Defs

@[expose] public section

noncomputable section

namespace Cert.InProj

open Idealize.ShloMosaic Idealize.ShloMosaic.TcCoe Idealize.SL.Sem

theorem algebraic : Cert.algebraic_Kernel3Ideal_Reference3Ideal := by
  intro m g m' g' _ hin
  refine ⟨fun c => result m c, ?_, ?_⟩
  · refine (θ_run _ _ _).mono (fun r h c => ?_) (Cert.Kernel3Ideal.Value.run_blocks m g)
    obtain ⟨h0, h1⟩ := h c
    exact ⟨h0.trans (final m c), h1⟩
  · refine (θ_run _ _ _).mono (fun r h c => ?_) (Cert.Reference3Ideal.Value.run m' g')
    obtain ⟨h0, h1⟩ := h c
    obtain ⟨a0, a1, a2⟩ := hin c
    refine ⟨h0.trans ?_, h1⟩
    rw [Cert.Reference3Ideal.Read.val_main_v15_eq]
    refine (ref_eq _ _ _).trans ?_
    rw [a0, a1, a2]

end Cert.InProj

end
-- ==== Proof.OutProj.Frame.lean ====
/- The frames of the output projection: the call at words, the call over the extended reals, and its reference. -/
module

public import proofs.«01_k».proof.Proof.Gen.Kernel4.Frame
public import proofs.«01_k».proof.Proof.Gen.Kernel4Ideal.Frame
public import proofs.«01_k».proof.Proof.Gen.Reference4Ideal
public import proofs.«01_k».proof.Proof.Gen.Reference4Ideal.Run
public import proofs.«01_k».proof.Defs

@[expose] public section

noncomputable section

namespace Cert.OutProj

open Idealize.ShloMosaic Idealize.ShloMosaic.TcCoe Idealize.SL.Sem

theorem frame_p : Cert.quiescent_Kernel4 := fun m g _ => Cert.Kernel4.Gen.frame m g

theorem frame_pi : Cert.quiescent_Kernel4Ideal := fun m g _ => Cert.Kernel4Ideal.Gen.frame m g

/-- The reference is straight-line host code: it writes none of its arguments and declares no semaphore. -/
theorem frame_ri : Cert.quiescent_Reference4Ideal := fun m g _ =>
  (θ_run Cert.Reference4Ideal.defs _ _).mono
    (fun r h => ⟨fun c => (h c).2, Idealize.ShloMosaic.sem_eq_zero_of_no_sems (by decide) r.2⟩)
    (Cert.Reference4Ideal.Value.run m g)

end Cert.OutProj

end
-- ==== Proof.OutProj.Spec.lean ====
/- The output projection as a formula: what one element of the result is, from the two halves of the mixed rows
   and the weights; and that the reference computes it. -/
module

public import proofs.«01_k».proof.Proof.Common.Dot
public import proofs.«01_k».proof.Proof.Gen.Reference4Ideal.Read

@[expose] public section

noncomputable section

namespace Cert.OutProj

open Idealize.ShloMosaic Idealize.ShloMosaic.ValueIdx
open Cert.Reference4Ideal Cert.Reference4Ideal.Read Cert.Reference4Ideal.Gen

/-- Row `r`, column `n` of the output projection: the residual plus the two half products, over plain indices. -/
def entry (x : Fin 8320 → Fin 4096 → EReal) (a b : Fin 8320 → Fin 2048 → EReal)
    (w : Fin 4096 → Fin 4096 → EReal) (r : Fin 8320) (n : Fin 4096) : EReal :=
  x r n + ((∑ k : Fin 2048, a r k * w (Fin.castAdd 2048 k) n) + ∑ k : Fin 2048, b r k * w (Fin.natAdd 2048 k) n)

/-- The same over the arrays. -/
def out (x : S8320x4096.Idx → EReal) (a b : S8320x2048.Idx → EReal) (w : S1x4096x4096.Idx → EReal)
    (i : S8320x4096.Idx) : EReal :=
  entry (fun r n => x (ix2 r n)) (fun r k => a (ix2 r k)) (fun r k => b (ix2 r k)) (fun k n => w (ix3 (0 : Fin 1) k n))
    (i 0) (i 1)

/-- The reference's weights, cast and reshaped, at an index. -/
theorem ref_w (w : S1x4096x4096.Idx → EReal) (k n : Fin 4096) :
    val_main_v4 (F := Ideal) w (ix2 k n) = w (ix3 (0 : Fin 1) k n) := by
  unfold val_main_v4
  exact Common.dropUnit_apply (val_main_v3 (F := Ideal) w) _ (ix2 k n)

/-- The left half of the concatenated rows. -/
theorem ref_left (a b : S8320x2048.Idx → EReal) (r : Fin 8320) (k : Fin 2048) :
    val_main_v2 (F := Ideal) a b (ix2 r (Fin.castAdd 2048 k)) = a (ix2 r k) := by
  unfold val_main_v2
  exact concatenate_pair_apply_left (s₁ := S8320x2048) (s₂ := S8320x2048) (1 : Fin S8320x4096.rank) _ _ _ _ rfl (ix2 r k)
    (fun d => by match d with | ⟨0, _⟩ => rfl | ⟨1, _⟩ => rfl)

/-- The right half. -/
theorem ref_right (a b : S8320x2048.Idx → EReal) (r : Fin 8320) (k : Fin 2048) :
    val_main_v2 (F := Ideal) a b (ix2 r (Fin.natAdd 2048 k)) = b (ix2 r k) := by
  unfold val_main_v2
  exact concatenate_pair_apply_right (s₁ := S8320x2048) (s₂ := S8320x2048) (1 : Fin S8320x4096.rank) _ _ _ _ rfl rfl (ix2 r k)
    (fun d hd => by match d with | ⟨0, _⟩ => rfl | ⟨1, _⟩ => exact absurd rfl hd)
    (Nat.add_comm _ _)

/-- The reference's result at row `r`, column `n`. -/
theorem ref_entry (x : S8320x4096.Idx → EReal) (a b : S8320x2048.Idx → EReal) (w : S1x4096x4096.Idx → EReal)
    (r : Fin 8320) (n : Fin 4096) :
    val_main_v6 (F := Ideal) x a b w (ix2 r n) = out x a b w (ix2 r n) := by
  rw [val_main_v6_apply, val_main_v5_apply]
  have hl : ∀ k : Fin 4096, lidx_main_v5 (ix2 r n) k = ix2 r k := fun k => funext fun d => Fin.ext (by
    match d with | ⟨0, _⟩ => rfl | ⟨1, _⟩ => rfl)
  have hr : ∀ k : Fin 4096, ridx_main_v5 (ix2 r n) k = ix2 k n := fun k => funext fun d => Fin.ext (by
    match d with | ⟨0, _⟩ => rfl | ⟨1, _⟩ => rfl)
  simp only [hl, hr]
  refine congrArg₂ (· + ·) (rfl : x (ix2 r n) = x (ix2 r n)) ?_
  refine (Fin.sum_univ_add (a := 2048) (b := 2048) _).trans ?_
  refine congrArg₂ (· + ·) ?_ ?_
  · exact Finset.sum_congr rfl fun k _ => congrArg₂ (· * ·) (ref_left a b r k) (ref_w w _ n)
  · exact Finset.sum_congr rfl fun k _ => congrArg₂ (· * ·) (ref_right a b r k) (ref_w w _ n)

/-- The reference's result is the formula. -/
theorem ref_eq (x : S8320x4096.Idx → EReal) (a b : S8320x2048.Idx → EReal) (w : S1x4096x4096.Idx → EReal) :
    val_main_v6 (F := Ideal) x a b w = out x a b w := by
  funext i
  rw [eq_ix2 i]
  exact ref_entry x a b w (i 0) (i 1)

end Cert.OutProj

end
-- ==== Proof.OutProj.Kernel.lean ====
/- The output projection's call: every block it writes back is the formula's block, so its result array is the
   formula of its argument arrays. -/
module

public import proofs.«01_k».proof.Proof.OutProj.Spec
public import proofs.«01_k».proof.Proof.Gen.Kernel4Ideal.Value

@[expose] public section

noncomputable section

namespace Cert.OutProj

open Idealize.ShloMosaic Idealize.ShloMosaic.TcCoe Idealize.ShloMosaic.ValueIdx Idealize.SL.Sem
open Cert.Kernel4Ideal Cert.Kernel4Ideal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-- One grid point's result block from its five input blocks. -/
theorem block_apply (x0 : Vec Ideal S640x1024 .f32) (x1 x2 : Vec Ideal S640x2048 .bf16)
    (x3 x4 : Vec Ideal S1x2048x1024 .bf16) (j : S640x1024.Idx) :
    out0_5 (F := Ideal) x0 x1 x2 x3 x4 j
      = (x0 j + ((∑ k : Fin 2048, x1 (ix2 (j 0) k) * x3 (ix3 (0 : Fin 1) k (j 1)))
          + ∑ k : Fin 2048, x2 (ix2 (j 0) k) * x4 (ix3 (0 : Fin 1) k (j 1))) : EReal) := by
  unfold out0_5
  rw [View.canon_unit_zero (S := S640x1024) hz2]
  rw [View.ld_unit_zero (S := S640x2048) hz2, View.ld_unit_zero (S := S640x2048) hz2,
    View.ld_unit_zero (S := S1x2048x1024) hz3, View.ld_unit_zero (S := S1x2048x1024) hz3, View.ld_unit_zero (S := S640x1024) hz2]
  unfold k0_pay1
  refine congrArg₂ (· + ·) (rfl : x0 j = x0 j) (congrArg₂ (· + ·) ?_ ?_)
  · refine (Common.matmul_plain _ rfl rfl rfl rfl rfl rfl none _ _ j).trans ?_
    exact Finset.sum_congr rfl fun k _ => congrArg (x1 (ix2 (j 0) k) * ·) (Common.dropUnit_apply x3 _ _)
  · refine (Common.matmul_plain _ rfl rfl rfl rfl rfl rfl none _ _ j).trans ?_
    exact Finset.sum_congr rfl fun k _ => congrArg (x2 (ix2 (j 0) k) * ·) (Common.dropUnit_apply x4 _ _)

variable (m : (ℓ : Loc nD τ sig) → Buf (Elt Ideal) ℓ)

/-- Which block of its array each window reads or writes at point `t`. -/
theorem index_facts : ∀ t : Fin cfg0.N,
    (win0_0.index t 0 = t.val / 4 ∧ win0_0.index t 1 = t.val % 4)
    ∧ (win0_1.index t 0 = t.val / 4 ∧ win0_1.index t 1 = 0)
    ∧ (win0_2.index t 0 = t.val / 4 ∧ win0_2.index t 1 = 0)
    ∧ (win0_3.index t 0 = 0 ∧ win0_3.index t 1 = 0 ∧ win0_3.index t 2 = t.val % 4)
    ∧ (win0_4.index t 0 = 0 ∧ win0_4.index t 1 = 1 ∧ win0_4.index t 2 = t.val % 4)
    ∧ (win0_5.index t 0 = t.val / 4 ∧ win0_5.index t 1 = t.val % 4) :=
  (by decide +kernel : ∀ t : Fin grid0.N, _)

/-- The array row that row `r` of point `t`'s blocks is. -/
def row (t : Fin cfg0.N) (r : Fin 640) : Fin 8320 :=
  ⟨t.val / 4 * 640 + r.val, by have h := lt_of_lt_of_eq t.isLt (show cfg0.N = 52 from N_0); omega⟩
/-- The array column that column `n` of point `t`'s blocks is. -/
def col (t : Fin cfg0.N) (n : Fin 1024) : Fin 4096 :=
  ⟨t.val % 4 * 1024 + n.val, by omega⟩

/-- The result array's contents by the formula. -/
abbrev result (c : Dev nD) : Buf (Elt Ideal) ((c : Thread nD τ).loc main_v0) :=
  out (m ((c : Thread nD τ).loc main_arg0)) (m ((c : Thread nD τ).loc main_arg1)) (m ((c : Thread nD τ).loc main_arg2))
    (m ((c : Thread nD τ).loc main_arg3))

theorem iblk0 (c : Dev nD) (t : Fin cfg0.N) (j : S640x1024.Idx) :
    (iblk m c 0 t : Vec Ideal S640x1024 .f32) j = m ((c : Thread nD τ).loc main_arg0) (ix2 (row t (j 0)) (col t (j 1))) := by
  obtain ⟨⟨e0, e1⟩, -⟩ := index_facts t
  unfold iblk
  rw [View.read_apply]
  show m _ _ = m _ _
  congr 1
  funext a; apply Fin.ext
  match a with
  | ⟨0, _⟩ => show win0_0.index t 0 * 640 + 1 * (j 0).val = t.val / 4 * 640 + (j 0).val; rw [e0]; omega
  | ⟨1, _⟩ => show win0_0.index t 1 * 1024 + 1 * (j 1).val = t.val % 4 * 1024 + (j 1).val; rw [e1]; omega

theorem iblk1 (c : Dev nD) (t : Fin cfg0.N) (r : Fin 640) (k : Fin 2048) :
    (iblk m c 1 t : Vec Ideal S640x2048 .bf16) (ix2 r k) = m ((c : Thread nD τ).loc main_arg1) (ix2 (row t r) k) := by
  obtain ⟨-, ⟨e0, e1⟩, -⟩ := index_facts t
  unfold iblk
  rw [View.read_apply]
  show m _ _ = m _ _
  congr 1
  funext a; apply Fin.ext
  match a with
  | ⟨0, _⟩ => show win0_1.index t 0 * 640 + 1 * r.val = t.val / 4 * 640 + r.val; rw [e0]; omega
  | ⟨1, _⟩ => show win0_1.index t 1 * 2048 + 1 * k.val = k.val; rw [e1]; omega

theorem iblk2 (c : Dev nD) (t : Fin cfg0.N) (r : Fin 640) (k : Fin 2048) :
    (iblk m c 2 t : Vec Ideal S640x2048 .bf16) (ix2 r k) = m ((c : Thread nD τ).loc main_arg2) (ix2 (row t r) k) := by
  obtain ⟨-, -, ⟨e0, e1⟩, -⟩ := index_facts t
  unfold iblk
  rw [View.read_apply]
  show m _ _ = m _ _
  congr 1
  funext a; apply Fin.ext
  match a with
  | ⟨0, _⟩ => show win0_2.index t 0 * 640 + 1 * r.val = t.val / 4 * 640 + r.val; rw [e0]; omega
  | ⟨1, _⟩ => show win0_2.index t 1 * 2048 + 1 * k.val = k.val; rw [e1]; omega

theorem iblk3 (c : Dev nD) (t : Fin cfg0.N) (k : Fin 2048) (n : Fin 1024) :
    (iblk m c 3 t : Vec Ideal S1x2048x1024 .bf16) (ix3 (0 : Fin 1) k n)
      = m ((c : Thread nD τ).loc main_arg3) (ix3 (0 : Fin 1) (Fin.castAdd 2048 k) (col t n)) := by
  obtain ⟨-, -, -, ⟨e0, e1, e2⟩, -⟩ := index_facts t
  unfold iblk
  rw [View.read_apply]
  show m _ _ = m _ _
  congr 1
  funext a; apply Fin.ext
  match a with
  | ⟨0, _⟩ => show win0_3.index t 0 * 1 + 1 * 0 = 0; rw [e0]
  | ⟨1, _⟩ => show win0_3.index t 1 * 2048 + 1 * k.val = k.val; rw [e1]; omega
  | ⟨2, _⟩ => show win0_3.index t 2 * 1024 + 1 * n.val = t.val % 4 * 1024 + n.val; rw [e2]; omega

theorem iblk4 (c : Dev nD) (t : Fin cfg0.N) (k : Fin 2048) (n : Fin 1024) :
    (iblk m c 4 t : Vec Ideal S1x2048x1024 .bf16) (ix3 (0 : Fin 1) k n)
      = m ((c : Thread nD τ).loc main_arg3) (ix3 (0 : Fin 1) (Fin.natAdd 2048 k) (col t n)) := by
  obtain ⟨-, -, -, -, ⟨e0, e1, e2⟩, -⟩ := index_facts t
  unfold iblk
  rw [View.read_apply]
  show m _ _ = m _ _
  congr 1
  funext a; apply Fin.ext
  match a with
  | ⟨0, _⟩ => show win0_4.index t 0 * 1 + 1 * 0 = 0; rw [e0]
  | ⟨1, _⟩ => show win0_4.index t 1 * 2048 + 1 * k.val = 2048 + k.val; rw [e1]; omega
  | ⟨2, _⟩ => show win0_4.index t 2 * 1024 + 1 * n.val = t.val % 4 * 1024 + n.val; rw [e2]; omega

/-- A block whose elements are an array's elements at point `t`'s rows and columns is that array's block `t`. -/
theorem cut_eq_read {c : Dev nD} (t : Fin cfg0.N) (X : Vec Ideal S640x1024 .f32) (R : Buf (Elt Ideal) ((c : Thread nD τ).loc main_v0))
    (h : ∀ (r : Fin 640) (n : Fin 1024), X (ix2 r n) = R (ix2 (row t r) (col t n))) :
    (cfg0.win 5).cut (grid0.coords t) X = ((cfg0.win 5).blk t).view.read (Elt Ideal) R := by
  obtain ⟨-, -, -, -, -, ⟨e0, e1⟩⟩ := index_facts t
  funext y
  rw [View.read_apply]
  have hi : ((cfg0.win 5).blk t).view.emb y = (ix2 (row t (y 0)) (col t (y 1)) : S8320x4096.Idx) := by
    funext a; apply Fin.ext
    match a with
    | ⟨0, _⟩ => show win0_5.index t 0 * 640 + 1 * (y 0).val = t.val / 4 * 640 + (y 0).val; rw [e0]; omega
    | ⟨1, _⟩ => show win0_5.index t 1 * 1024 + 1 * (y 1).val = t.val % 4 * 1024 + (y 1).val; rw [e1]; omega
  refine Eq.trans ?_ ((h (y 0) (y 1)).trans (congrArg R hi.symm))
  exact congrArg X (funext fun a => Fin.ext (by match a with | ⟨0, _⟩ => rfl | ⟨1, _⟩ => rfl))

/-- What point `t` writes back is block `t` of the formula's array. -/
theorem flushed_eq (c : Dev nD) (t : Fin cfg0.N) :
    (dats m 0 c).flushed 5 t = ((cfg0.win 5).blk t).view.read (Elt Ideal) (result m c) := by
  rw [Value.flushed5]
  refine cut_eq_read (c := c) t _ _ fun r n => ?_
  rw [block_apply]
  refine congrArg₂ (· + ·) (iblk0 m c t _) (congrArg₂ (· + ·) ?_ ?_)
  · exact Finset.sum_congr rfl fun k _ => congrArg₂ (· * ·) (iblk1 m c t _ k) (iblk3 m c t k _)
  · exact Finset.sum_congr rfl fun k _ => congrArg₂ (· * ·) (iblk2 m c t _ k) (iblk4 m c t k _)

/-- Every index of the result array lies in some point's block. -/
theorem covered (i : S8320x4096.Idx) :
    ∃ t : Fin cfg0.N, (cfg0.win 5).flush t = true ∧ i ∈ ((cfg0.win 5).blk t).view.set := by
  have h0 : (i 0).val < 8320 := (i 0).isLt
  have h1 : (i 1).val < 4096 := (i 1).isLt
  have hN : cfg0.N = 52 := N_0
  let t : Fin cfg0.N := ⟨(i 0).val / 640 * 4 + (i 1).val / 1024, by rw [hN]; omega⟩
  obtain ⟨-, -, -, -, -, ⟨e0, e1⟩⟩ := index_facts t
  have ht : t.val = (i 0).val / 640 * 4 + (i 1).val / 1024 := rfl
  refine ⟨t, flush0_5 t, ?_⟩
  show i ∈ ((View.whole main_v0).slice (win0_5.rect t)).set
  rw [View.set_slice_whole, Rect.mem_set_unit]
  intro a
  match a with
  | ⟨0, _⟩ => show win0_5.index t 0 * 640 ≤ (i 0).val ∧ (i 0).val < win0_5.index t 0 * 640 + 640; rw [e0, ht]; omega
  | ⟨1, _⟩ => show win0_5.index t 1 * 1024 ≤ (i 1).val ∧ (i 1).val < win0_5.index t 1 * 1024 + 1024; rw [e1, ht]; omega

/-- The result array after the run. -/
theorem final (c : Dev nD) : (dats m 0 c).arrAt 5 cfg0.N = result m c :=
  (dats m 0 c).arrAt_eq_of_cover 5 (result m c) (fun t _ => flushed_eq m c t) (fun i => covered i)

end Cert.OutProj

end
-- ==== Proof.OutProj.Claims.lean ====
/- The output projection's value claim: the call and its reference leave the same array. -/
module

public import proofs.«01_k».proof.Proof.OutProj.Kernel
public import proofs.«01_k».proof.Proof.Gen.Reference4Ideal.Run
public import proofs.«01_k».proof.Defs

@[expose] public section

noncomputable section

namespace Cert.OutProj

open Idealize.ShloMosaic Idealize.ShloMosaic.TcCoe Idealize.SL.Sem

theorem algebraic : Cert.algebraic_Kernel4Ideal_Reference4Ideal := by
  intro m g m' g' _ hin
  refine ⟨fun c => result m c, ?_, ?_⟩
  · refine (θ_run _ _ _).mono (fun r h c => ?_) (Cert.Kernel4Ideal.Value.run_blocks m g)
    obtain ⟨h0, h1⟩ := h c
    exact ⟨h0.trans (final m c), h1⟩
  · refine (θ_run _ _ _).mono (fun r h c => ?_) (Cert.Reference4Ideal.Value.run m' g')
    obtain ⟨h0, h1⟩ := h c
    obtain ⟨a0, a1, a2, a3⟩ := hin c
    refine ⟨h0.trans ?_, h1⟩
    rw [Cert.Reference4Ideal.Read.val_main_v6_eq]
    refine (ref_eq _ _ _ _).trans ?_
    rw [a0, a1, a2, a3]

end Cert.OutProj

end
-- ==== Proof.Scan.Bits.Frame.lean ====
/- The recurrence's call at machine values: it ends, with its arguments as they were. -/
module

public import proofs.«01_k».proof.Proof.Scan.Bits.Sample
public import proofs.«01_k».proof.Proof.Scan.Bits.SampleLast
public import proofs.«01_k».proof.Proof.Scan.Bits.Prompt
public import proofs.«01_k».proof.Proof.Scan.Bits.PromptLast
public import proofs.«01_k».proof.Proof.Scan.Bits.First
public import proofs.«01_k».proof.Proof.Scan.Bits.FirstLast
public import proofs.«01_k».proof.Proof.Gen.Kernel5.Frame
public import Idealize.ShloMosaic.Lib.Claim

@[expose] public section

set_option maxRecDepth 16384

noncomputable section

namespace Cert.Kernel5.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel5 Cert.Kernel5.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first row block. -/
theorem hcond1 : ∀ t : Fin cfg0.N, k0_cond1 (grid0.coords t) = 1#1 ↔ t.val < 8 :=
  (fun t => by
    have ht : t.val < 136 := Nat.lt_of_lt_of_eq t.isLt N_0
    have e0 : (grid0.coords t 0).val = t.val / 8 % 17 := Pipeline.Grid.coords_val t 0 (by decide) rfl
    have e1 : (grid0.coords t 1).val = t.val / 1 % 8 := Pipeline.Grid.coords_val t 1 (by decide) rfl
    simp only [k0_cond1, e0, e1]
    word_cmp
   : ∀ t : Fin grid0.N, k0_cond1 (grid0.coords t) = 1#1 ↔ t.val < 8)

/-- A prompt's row block. -/
theorem hcond2 : ∀ t : Fin cfg0.N, k0_cond2 (grid0.coords t) = 1#1 ↔ t.val < 128 :=
  (fun t => by
    have ht : t.val < 136 := Nat.lt_of_lt_of_eq t.isLt N_0
    have e0 : (grid0.coords t 0).val = t.val / 8 % 17 := Pipeline.Grid.coords_val t 0 (by decide) rfl
    have e1 : (grid0.coords t 1).val = t.val / 1 % 8 := Pipeline.Grid.coords_val t 1 (by decide) rfl
    simp only [k0_cond2, e0, e1]
    word_cmp
   : ∀ t : Fin grid0.N, k0_cond2 (grid0.coords t) = 1#1 ↔ t.val < 128)

/-- The last state group of a prompt's row block. -/
theorem hcond3 : ∀ t : Fin cfg0.N, k0_cond3 (grid0.coords t) = 1#1 ↔ t.val % 8 = 7 :=
  (fun t => by
    have ht : t.val < 136 := Nat.lt_of_lt_of_eq t.isLt N_0
    have e0 : (grid0.coords t 0).val = t.val / 8 % 17 := Pipeline.Grid.coords_val t 0 (by decide) rfl
    have e1 : (grid0.coords t 1).val = t.val / 1 % 8 := Pipeline.Grid.coords_val t 1 (by decide) rfl
    simp only [k0_cond3, e0, e1]
    word_cmp
   : ∀ t : Fin grid0.N, k0_cond3 (grid0.coords t) = 1#1 ↔ t.val % 8 = 7)

/-- The samples' row block. -/
theorem hcond4 : ∀ t : Fin cfg0.N, k0_cond4 (grid0.coords t) = 1#1 ↔ 128 ≤ t.val :=
  (fun t => by
    have ht : t.val < 136 := Nat.lt_of_lt_of_eq t.isLt N_0
    have e0 : (grid0.coords t 0).val = t.val / 8 % 17 := Pipeline.Grid.coords_val t 0 (by decide) rfl
    have e1 : (grid0.coords t 1).val = t.val / 1 % 8 := Pipeline.Grid.coords_val t 1 (by decide) rfl
    simp only [k0_cond4, e0, e1]
    word_cmp
   : ∀ t : Fin grid0.N, k0_cond4 (grid0.coords t) = 1#1 ↔ 128 ≤ t.val)

/-- The last state group of the samples' row block. -/
theorem hcond5 : ∀ t : Fin cfg0.N, k0_cond5 (grid0.coords t) = 1#1 ↔ t.val % 8 = 7 :=
  (fun t => by
    have ht : t.val < 136 := Nat.lt_of_lt_of_eq t.isLt N_0
    have e0 : (grid0.coords t 0).val = t.val / 8 % 17 := Pipeline.Grid.coords_val t 0 (by decide) rfl
    have e1 : (grid0.coords t 1).val = t.val / 1 % 8 := Pipeline.Grid.coords_val t 1 (by decide) rfl
    simp only [k0_cond5, e0, e1]
    word_cmp
   : ∀ t : Fin grid0.N, k0_cond5 (grid0.coords t) = 1#1 ↔ t.val % 8 = 7)

/-! Each window's staging buffer at a point, and the scratch. -/
abbrev ms0 (t : Fin cfg0.N) : Memref sig .tc .vmem S512x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x256x2048 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x2048x256 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x8x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x8x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x1x1x256 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x8x1x2048 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S8x8x2048 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x2048x2048 .bf16 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x2048 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S1x4096x128 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S1x4096x128 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S512x2048 .bf16 := win0_15.stage (cfg0.slots t 15)
abbrev hs15 (t : Fin cfg0.N) : (ms15 t).IsWhole := hstage0_15 ((cfg0.slots t 15).cast nbuf0_15)
abbrev ms16 (t : Fin cfg0.N) : Memref sig .tc .vmem S1x8x1x2048 .f32 := win0_16.stage (cfg0.slots t 16)
abbrev hs16 (t : Fin cfg0.N) : (ms16 t).IsWhole := hstage0_16 ((cfg0.slots t 16).cast nbuf0_16)
abbrev ms17 (t : Fin cfg0.N) : Memref sig .tc .vmem S8x8x2048 .f32 := win0_17.stage (cfg0.slots t 17)
abbrev hs17 (t : Fin cfg0.N) : (ms17 t).IsWhole := hstage0_17 ((cfg0.slots t 17).cast nbuf0_17)
abbrev ms18 (t : Fin cfg0.N) : Memref sig .tc .vmem S1x4096x128 .bf16 := win0_18.stage (cfg0.slots t 18)
abbrev hs18 (t : Fin cfg0.N) : (ms18 t).IsWhole := hstage0_18 ((cfg0.slots t 18).cast nbuf0_18)
abbrev ms19 (t : Fin cfg0.N) : Memref sig .tc .vmem S1x4096x128 .bf16 := win0_19.stage (cfg0.slots t 19)
abbrev hs19 (t : Fin cfg0.N) : (ms19 t).IsWhole := hstage0_19 ((cfg0.slots t 19).cast nbuf0_19)
abbrev scr0 : Memref sig .tc .vmem S512x256 .f32 := Memref.whole cc0_scratch0
abbrev scr1 : Memref sig .tc .vmem S512x2048 .f32 := Memref.whole cc0_scratch1
abbrev scr2 : Memref sig .tc .vmem S512x2048 .bf16 := Memref.whole cc0_scratch2
abbrev scr3 : Memref sig .tc .vmem S2x8x1024 .f32 := Memref.whole cc0_scratch3
abbrev scr4 : Memref sig .tc .vmem S16x512x128 .f32 := Memref.whole cc0_scratch4

/-- The invariant of the region's entry and exit, with the scratch as buffers owned at some contents. -/
theorem PhiA_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d)) ∗ (∃ r, prngReg c r)) := by
  unfold Pipeline.ΦA; rw [scopedRest0_eq]; simp only [scr0, scr1, scr2, scr3, scr4, owns_whole]; try rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The proof data: the arrays as the region finds them. -/
def rdat (c : Dev nD) : RDat τ (Elt F) Unit ℕ (UR sig nD τ) ℕ cfg0 c where
  A w := V m c (Pipeline.arrRef spec0 w)
  after _ _ _ _ := True
  Φ _ := Pipeline.ΦA spec0 c
  q w := Pipeline.shareOf spec0 w
  owed _ := 0

theorem A_eq (c : Dev nD) (w : Fin cfg0.W) : (rdat m c).A w = V m c (Pipeline.arrRef spec0 w) := by
  dsimp only [rdat]

section

variable (c : Dev nD) (t : Fin cfg0.N)
  (Y0 : Vec F S512x128 .f32) (Y1 : Vec F S512x128 .f32) (Y2 : Vec F S1x1x256x2048 .bf16) (Y3 : Vec F S1x1x2048x256 .bf16) (Y4 : Vec F S1x1x1024 .f32) (Y5 : Vec F S1x1x1024 .f32) (Y6 : Vec F S1x8x1024 .f32) (Y7 : Vec F S1x8x1024 .f32)
   (Y8 : Vec F S1x1x1x256 .f32) (Y9 : Vec F S1x8x1x2048 .f32) (Y10 : Vec F S8x8x2048 .f32) (Y11 : Vec F S1x2048x2048 .bf16) (Y12 : Vec F S1x2048 .f32) (Y13 : Vec F S1x4096x128 .f32) (Y14 : Vec F S1x4096x128 .f32) (Y15 : Vec F S512x2048 .bf16) (Y16 : Vec F S1x8x1x2048 .f32) (Y17 : Vec F S8x8x2048 .f32) (Y18 : Vec F S1x4096x128 .bf16) (Y19 : Vec F S1x4096x128 .bf16)

/-- What is claimed of the body at a point: from the buffers at `Y0` to `Y19` it ends, each buffer left as the proof data says. -/
def Meets : Prop :=
    iprop((Pipeline.ΦA spec0 c : sProp 𝕄) ∗ (rdat m c).owesAt () t.castSucc
        ∗ owns (c : Thread nD τ) (ms0 t) fullShare Y0 ∗ owns (c : Thread nD τ) (ms1 t) fullShare Y1 ∗ owns (c : Thread nD τ) (ms2 t) fullShare Y2 ∗ owns (c : Thread nD τ) (ms3 t) fullShare Y3 ∗ owns (c : Thread nD τ) (ms4 t) fullShare Y4 ∗ owns (c : Thread nD τ) (ms5 t) fullShare Y5 ∗ owns (c : Thread nD τ) (ms6 t) fullShare Y6 ∗ owns (c : Thread nD τ) (ms7 t) fullShare Y7 ∗ owns (c : Thread nD τ) (ms8 t) fullShare Y8 ∗ owns (c : Thread nD τ) (ms9 t) fullShare Y9 ∗ owns (c : Thread nD τ) (ms10 t) fullShare Y10 ∗ owns (c : Thread nD τ) (ms11 t) fullShare Y11 ∗ owns (c : Thread nD τ) (ms12 t) fullShare Y12 ∗ owns (c : Thread nD τ) (ms13 t) fullShare Y13 ∗ owns (c : Thread nD τ) (ms14 t) fullShare Y14 ∗ owns (c : Thread nD τ) (ms15 t) fullShare Y15 ∗ owns (c : Thread nD τ) (ms16 t) fullShare Y16 ∗ owns (c : Thread nD τ) (ms17 t) fullShare Y17 ∗ owns (c : Thread nD τ) (ms18 t) fullShare Y18 ∗ owns (c : Thread nD τ) (ms19 t) fullShare Y19)
      ⊢ wp frame (wpE (defs₀ (F := F)) Variants.none c none) Set.univ (bodyAt0 t) (fun _ =>
        iprop((Pipeline.ΦA spec0 c : sProp 𝕄) ∗ (rdat m c).owesAt () t.succ
        ∗ (∃ X : Vec F S512x128 .f32, ⌜True⌝ ∗ owns (c : Thread nD τ) (ms0 t) fullShare X) ∗ (∃ X : Vec F S512x128 .f32, ⌜True⌝ ∗ owns (c : Thread nD τ) (ms1 t) fullShare X) ∗ (∃ X : Vec F S1x1x256x2048 .bf16, ⌜True⌝ ∗ owns (c : Thread nD τ) (ms2 t) fullShare X) ∗ (∃ X : Vec F S1x1x2048x256 .bf16, ⌜True⌝ ∗ owns (c : Thread nD τ) (ms3 t) fullShare X) ∗ (∃ X : Vec F S1x1x1024 .f32, ⌜True⌝ ∗ owns (c : Thread nD τ) (ms4 t) fullShare X) ∗ (∃ X : Vec F S1x1x1024 .f32, ⌜True⌝ ∗ owns (c : Thread nD τ) (ms5 t) fullShare X) ∗ (∃ X : Vec F S1x8x1024 .f32, ⌜True⌝ ∗ owns (c : Thread nD τ) (ms6 t) fullShare X) ∗ (∃ X : Vec F S1x8x1024 .f32, ⌜True⌝ ∗ owns (c : Thread nD τ) (ms7 t) fullShare X) ∗ (∃ X : Vec F S1x1x1x256 .f32, ⌜True⌝ ∗ owns (c : Thread nD τ) (ms8 t) fullShare X) ∗ (∃ X : Vec F S1x8x1x2048 .f32, ⌜True⌝ ∗ owns (c : Thread nD τ) (ms9 t) fullShare X) ∗ (∃ X : Vec F S8x8x2048 .f32, ⌜True⌝ ∗ owns (c : Thread nD τ) (ms10 t) fullShare X) ∗ (∃ X : Vec F S1x2048x2048 .bf16, ⌜True⌝ ∗ owns (c : Thread nD τ) (ms11 t) fullShare X) ∗ (∃ X : Vec F S1x2048 .f32, ⌜True⌝ ∗ owns (c : Thread nD τ) (ms12 t) fullShare X) ∗ (∃ X : Vec F S1x4096x128 .f32, ⌜True⌝ ∗ owns (c : Thread nD τ) (ms13 t) fullShare X) ∗ (∃ X : Vec F S1x4096x128 .f32, ⌜True⌝ ∗ owns (c : Thread nD τ) (ms14 t) fullShare X) ∗ (∃ X : Vec F S512x2048 .bf16, ⌜True⌝ ∗ owns (c : Thread nD τ) (ms15 t) fullShare X) ∗ (∃ X : Vec F S1x8x1x2048 .f32, ⌜True⌝ ∗ owns (c : Thread nD τ) (ms16 t) fullShare X) ∗ (∃ X : Vec F S8x8x2048 .f32, ⌜True⌝ ∗ owns (c : Thread nD τ) (ms17 t) fullShare X) ∗ (∃ X : Vec F S1x4096x128 .bf16, ⌜True⌝ ∗ owns (c : Thread nD τ) (ms18 t) fullShare X) ∗ (∃ X : Vec F S1x4096x128 .bf16, ⌜True⌝ ∗ owns (c : Thread nD τ) (ms19 t) fullShare X)))

/-- A prompt's point leaves the states' buffer alone. -/
theorem kept : (owns (c : Thread nD τ) (ms17 t) fullShare Y17 : sProp 𝕄) ⊢ iprop(∃ X : Vec F S8x8x2048 .f32, ⌜True⌝ ∗ owns (c : Thread nD τ) (ms17 t) fullShare X) := by
  iintro H
  iexists _; isplitr; · ipureintro; trivial
  iexact H

/-- A sample point's pieces, read back. -/
theorem stored17 (L : List (View.Piece (Elt F) S8x8x2048 .f32)) : ((ms17 t).view.loc (c : Thread nD τ) ↦[(ms17 t).view.set]{fullShare} (ms17 t).view.writes (Elt F) ((hs17 t).unread Y17) L : sProp 𝕄) ⊢ iprop(∃ X : Vec F S8x8x2048 .f32, ⌜True⌝ ∗ owns (c : Thread nD τ) (ms17 t) fullShare X) := by
  iintro H
  iexists _; isplitr; · ipureintro; trivial
  unfold owns; iexists _; isplitr
  swap; · iexact H
  ipureintro; rfl

set_option maxHeartbeats 3200000 in
/-- The body at a point, given a run of its case: whatever the scratch holds, the run ends with the inputs' buffers as they were and
the states' buffer such that `h17` holds of it. -/
theorem body_of (run : ∀ (d0 : Vec F S512x256 .f32) (d1 : Vec F S512x2048 .f32) (d2 : Vec F S512x2048 .bf16) (d3 : Vec F S2x8x1024 .f32) (d4 : Vec F S16x512x128 .f32), ∃ R : sProp 𝕄,
      (R ⊢ iprop(∃ X : Vec F S8x8x2048 .f32, ⌜True⌝ ∗ owns (c : Thread nD τ) (ms17 t) fullShare X))
      ∧ ∀ K : PUnit → sProp 𝕄, iprop(owns (c : Thread nD τ) (ms0 t) fullShare Y0 ∗ owns (c : Thread nD τ) (ms1 t) fullShare Y1 ∗ owns (c : Thread nD τ) (ms2 t) fullShare Y2 ∗ owns (c : Thread nD τ) (ms3 t) fullShare Y3 ∗ owns (c : Thread nD τ) (ms4 t) fullShare Y4 ∗ owns (c : Thread nD τ) (ms5 t) fullShare Y5 ∗ owns (c : Thread nD τ) (ms6 t) fullShare Y6 ∗ owns (c : Thread nD τ) (ms7 t) fullShare Y7 ∗ owns (c : Thread nD τ) (ms8 t) fullShare Y8 ∗ owns (c : Thread nD τ) (ms9 t) fullShare Y9 ∗ owns (c : Thread nD τ) (ms10 t) fullShare Y10 ∗ owns (c : Thread nD τ) (ms11 t) fullShare Y11 ∗ owns (c : Thread nD τ) (ms12 t) fullShare Y12 ∗ owns (c : Thread nD τ) (ms13 t) fullShare Y13 ∗ owns (c : Thread nD τ) (ms14 t) fullShare Y14 ∗ owns (c : Thread nD τ) (ms15 t) fullShare Y15 ∗ owns (c : Thread nD τ) (ms16 t) fullShare Y16 ∗ owns (c : Thread nD τ) (ms17 t) fullShare Y17 ∗ owns (c : Thread nD τ) (ms18 t) fullShare Y18 ∗ owns (c : Thread nD τ) (ms19 t) fullShare Y19 ∗ owns (c : Thread nD τ) scr0 fullShare d0 ∗ owns (c : Thread nD τ) scr1 fullShare d1 ∗ owns (c : Thread nD τ) scr2 fullShare d2 ∗ owns (c : Thread nD τ) scr3 fullShare d3 ∗ owns (c : Thread nD τ) scr4 fullShare d4
            ∗ (iprop(owns (c : Thread nD τ) (ms0 t) fullShare Y0 ∗ owns (c : Thread nD τ) (ms1 t) fullShare Y1 ∗ owns (c : Thread nD τ) (ms2 t) fullShare Y2 ∗ owns (c : Thread nD τ) (ms3 t) fullShare Y3 ∗ owns (c : Thread nD τ) (ms4 t) fullShare Y4 ∗ owns (c : Thread nD τ) (ms5 t) fullShare Y5 ∗ owns (c : Thread nD τ) (ms6 t) fullShare Y6 ∗ owns (c : Thread nD τ) (ms7 t) fullShare Y7 ∗ owns (c : Thread nD τ) (ms8 t) fullShare Y8 ∗ owns (c : Thread nD τ) (ms9 t) fullShare Y9 ∗ owns (c : Thread nD τ) (ms10 t) fullShare Y10 ∗ owns (c : Thread nD τ) (ms11 t) fullShare Y11 ∗ owns (c : Thread nD τ) (ms12 t) fullShare Y12 ∗ owns (c : Thread nD τ) (ms13 t) fullShare Y13 ∗ owns (c : Thread nD τ) (ms14 t) fullShare Y14 ∗ (∃ f, (ms15 t).view.loc (c : Thread nD τ) ↦[(ms15 t).view.set]{fullShare} f) ∗ (∃ f, (ms16 t).view.loc (c : Thread nD τ) ↦[(ms16 t).view.set]{fullShare} f) ∗ R ∗ (∃ f, (ms18 t).view.loc (c : Thread nD τ) ↦[(ms18 t).view.set]{fullShare} f) ∗ (∃ f, (ms19 t).view.loc (c : Thread nD τ) ↦[(ms19 t).view.set]{fullShare} f) ∗ (∃ f, scr0.view.loc (c : Thread nD τ) ↦[scr0.view.set]{fullShare} f) ∗ (∃ f, scr1.view.loc (c : Thread nD τ) ↦[scr1.view.set]{fullShare} f) ∗ (∃ f, scr2.view.loc (c : Thread nD τ) ↦[scr2.view.set]{fullShare} f) ∗ (∃ f, scr3.view.loc (c : Thread nD τ) ↦[scr3.view.set]{fullShare} f) ∗ (∃ f, scr4.view.loc (c : Thread nD τ) ↦[scr4.view.set]{fullShare} f)) -∗ K ⟨⟩))
          ⊢ wp frame (wpE (defs₀ (F := F)) Variants.none c none) Set.univ (cc0_s5_group (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) scr0 (Memref.isWhole_whole _) scr1 (Memref.isWhole_whole _) scr2 (Memref.isWhole_whole _) scr3 (Memref.isWhole_whole _) scr4 (Memref.isWhole_whole _)) K) : Meets m c t Y0 Y1 Y2 Y3 Y4 Y5 Y6 Y7 Y8 Y9 Y10 Y11 Y12 Y13 Y14 Y15 Y16 Y17 Y18 Y19 := by
  unfold Meets
  rw [show (rdat m c).owesAt () t.succ = (rdat m c).owesAt () t.castSucc from rfl, PhiA_eq]
  unfold bodyAt0
  iintro ⟨⟨⟨⟨%d0, S0⟩, ⟨%d1, S1⟩, ⟨%d2, S2⟩, ⟨%d3, S3⟩, ⟨%d4, S4⟩⟩, Hg⟩, Ho, H0, H1, H2, H3, H4, H5, H6, H7, H8, H9, H10, H11, H12, H13, H14, H15, H16, H17, H18, H19⟩
  obtain ⟨R, h17, hrun⟩ := run d0 d1 d2 d3 d4
  iapply (hrun _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [S0]; · iexact S0
  isplitl [S1]; · iexact S1
  isplitl [S2]; · iexact S2
  isplitl [S3]; · iexact S3
  isplitl [S4]; · iexact S4
  iintro ⟨H0, H1, H2, H3, H4, H5, H6, H7, H8, H9, H10, H11, H12, H13, H14, ⟨%f15, H15⟩, ⟨%f16, H16⟩, H17, ⟨%f18, H18⟩, ⟨%f19, H19⟩, ⟨%e0, S0⟩, ⟨%e1, S1⟩, ⟨%e2, S2⟩, ⟨%e3, S3⟩, ⟨%e4, S4⟩⟩
  isplitl [S0 S1 S2 S3 S4 Hg]
  · isplitl [S0 S1 S2 S3 S4]
    · isplitl [S0]
      · iexists _; unfold owns; iexists _; isplitr
        swap; · iexact S0
        ipureintro; rfl
      isplitl [S1]
      · iexists _; unfold owns; iexists _; isplitr
        swap; · iexact S1
        ipureintro; rfl
      isplitl [S2]
      · iexists _; unfold owns; iexists _; isplitr
        swap; · iexact S2
        ipureintro; rfl
      isplitl [S3]
      · iexists _; unfold owns; iexists _; isplitr
        swap; · iexact S3
        ipureintro; rfl
      iexists _; unfold owns; iexists _; isplitr
      swap; · iexact S4
      ipureintro; rfl
    iexact Hg
  isplitl [Ho]; · iexact Ho
  isplitl [H0]
  · iexists _; isplitr; · ipureintro; trivial
    iexact H0
  isplitl [H1]
  · iexists _; isplitr; · ipureintro; trivial
    iexact H1
  isplitl [H2]
  · iexists _; isplitr; · ipureintro; trivial
    iexact H2
  isplitl [H3]
  · iexists _; isplitr; · ipureintro; trivial
    iexact H3
  isplitl [H4]
  · iexists _; isplitr; · ipureintro; trivial
    iexact H4
  isplitl [H5]
  · iexists _; isplitr; · ipureintro; trivial
    iexact H5
  isplitl [H6]
  · iexists _; isplitr; · ipureintro; trivial
    iexact H6
  isplitl [H7]
  · iexists _; isplitr; · ipureintro; trivial
    iexact H7
  isplitl [H8]
  · iexists _; isplitr; · ipureintro; trivial
    iexact H8
  isplitl [H9]
  · iexists _; isplitr; · ipureintro; trivial
    iexact H9
  isplitl [H10]
  · iexists _; isplitr; · ipureintro; trivial
    iexact H10
  isplitl [H11]
  · iexists _; isplitr; · ipureintro; trivial
    iexact H11
  isplitl [H12]
  · iexists _; isplitr; · ipureintro; trivial
    iexact H12
  isplitl [H13]
  · iexists _; isplitr; · ipureintro; trivial
    iexact H13
  isplitl [H14]
  · iexists _; isplitr; · ipureintro; trivial
    iexact H14
  isplitl [H15]
  · iexists _; isplitr; · ipureintro; trivial
    unfold owns; iexists _; isplitr
    swap; · iexact H15
    ipureintro; rfl
  isplitl [H16]
  · iexists _; isplitr; · ipureintro; trivial
    unfold owns; iexists _; isplitr
    swap; · iexact H16
    ipureintro; rfl
  isplitl [H17]
  · iapply h17; iexact H17
  isplitl [H18]
  · iexists _; isplitr; · ipureintro; trivial
    unfold owns; iexists _; isplitr
    swap; · iexact H18
    ipureintro; rfl
  iexists _; isplitr; · ipureintro; trivial
  unfold owns; iexists _; isplitr
  swap; · iexact H19
  ipureintro; rfl

/-- The body at any point. -/
theorem sound_body : Meets m c t Y0 Y1 Y2 Y3 Y4 Y5 Y6 Y7 Y8 Y9 Y10 Y11 Y12 Y13 Y14 Y15 Y16 Y17 Y18 Y19 := by
  refine body_of m c t Y0 Y1 Y2 Y3 Y4 Y5 Y6 Y7 Y8 Y9 Y10 Y11 Y12 Y13 Y14 Y15 Y16 Y17 Y18 Y19 (fun d0 d1 d2 d3 d4 => ?_)
  by_cases h1 : t.val < 8
  · by_cases h7 : t.val % 8 = 7
    · exact ⟨_, kept c t Y17, (firstLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) scr0 (Memref.isWhole_whole _) scr1 (Memref.isWhole_whole _) scr2 (Memref.isWhole_whole _) scr3 (Memref.isWhole_whole _) scr4 (Memref.isWhole_whole _) ((hcond1 t).mpr (by omega)) ((hcond2 t).mpr (by omega)) ((hcond3 t).mpr (by omega)) (fun h => by have := (hcond4 t).mp h; omega) Y0 Y1 Y2 Y3 Y4 Y5 Y6 Y7 Y8 Y9 Y10 Y11 Y12 Y13 Y14 Y15 Y16 Y17 Y18 Y19 d0 d1 d2 d3 d4) Set.univ⟩
    · exact ⟨_, kept c t Y17, (first c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) scr0 (Memref.isWhole_whole _) scr1 (Memref.isWhole_whole _) scr2 (Memref.isWhole_whole _) scr3 (Memref.isWhole_whole _) scr4 (Memref.isWhole_whole _) ((hcond1 t).mpr (by omega)) ((hcond2 t).mpr (by omega)) (fun h => by have := (hcond3 t).mp h; omega) (fun h => by have := (hcond4 t).mp h; omega) Y0 Y1 Y2 Y3 Y4 Y5 Y6 Y7 Y8 Y9 Y10 Y11 Y12 Y13 Y14 Y15 Y16 Y17 Y18 Y19 d0 d1 d2 d3 d4) Set.univ⟩
  · by_cases h2 : t.val < 128
    · by_cases h7 : t.val % 8 = 7
      · exact ⟨_, kept c t Y17, (promptLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) scr0 (Memref.isWhole_whole _) scr1 (Memref.isWhole_whole _) scr2 (Memref.isWhole_whole _) scr3 (Memref.isWhole_whole _) scr4 (Memref.isWhole_whole _) (fun h => by have := (hcond1 t).mp h; omega) ((hcond2 t).mpr (by omega)) ((hcond3 t).mpr (by omega)) (fun h => by have := (hcond4 t).mp h; omega) Y0 Y1 Y2 Y3 Y4 Y5 Y6 Y7 Y8 Y9 Y10 Y11 Y12 Y13 Y14 Y15 Y16 Y17 Y18 Y19 d0 d1 d2 d3 d4) Set.univ⟩
      · exact ⟨_, kept c t Y17, (prompt c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) scr0 (Memref.isWhole_whole _) scr1 (Memref.isWhole_whole _) scr2 (Memref.isWhole_whole _) scr3 (Memref.isWhole_whole _) scr4 (Memref.isWhole_whole _) (fun h => by have := (hcond1 t).mp h; omega) ((hcond2 t).mpr (by omega)) (fun h => by have := (hcond3 t).mp h; omega) (fun h => by have := (hcond4 t).mp h; omega) Y0 Y1 Y2 Y3 Y4 Y5 Y6 Y7 Y8 Y9 Y10 Y11 Y12 Y13 Y14 Y15 Y16 Y17 Y18 Y19 d0 d1 d2 d3 d4) Set.univ⟩
    · by_cases h7 : t.val % 8 = 7
      · exact ⟨_, stored17 c t Y17 _, (sampleLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) scr0 (Memref.isWhole_whole _) scr1 (Memref.isWhole_whole _) scr2 (Memref.isWhole_whole _) scr3 (Memref.isWhole_whole _) scr4 (Memref.isWhole_whole _) (fun h => by have := (hcond1 t).mp h; omega) (fun h => by have := (hcond2 t).mp h; omega) ((hcond4 t).mpr (by omega)) ((hcond5 t).mpr (by omega)) Y0 Y1 Y2 Y3 Y4 Y5 Y6 Y7 Y8 Y9 Y10 Y11 Y12 Y13 Y14 Y15 Y16 Y17 Y18 Y19 d0 d1 d2 d3 d4).2 Set.univ⟩
      · exact ⟨_, stored17 c t Y17 _, (sample c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) scr0 (Memref.isWhole_whole _) scr1 (Memref.isWhole_whole _) scr2 (Memref.isWhole_whole _) scr3 (Memref.isWhole_whole _) scr4 (Memref.isWhole_whole _) (fun h => by have := (hcond1 t).mp h; omega) (fun h => by have := (hcond2 t).mp h; omega) ((hcond4 t).mpr (by omega)) (fun h => by have := (hcond5 t).mp h; omega) Y0 Y1 Y2 Y3 Y4 Y5 Y6 Y7 Y8 Y9 Y10 Y11 Y12 Y13 Y14 Y15 Y16 Y17 Y18 Y19 d0 d1 d2 d3 d4).2 Set.univ⟩

end

/-- The library's body obligation. -/
theorem body_obligation (c : Dev nD) : (rdat (F := F) m c).BodyObligation (defs₀ (F := F)) Variants.none () Set.univ := fun t Y _ => by
  rw [bigSep_W0, bigSep_W0, defs₀_row]
  exact sound_body m c t (Y 0) (Y 1) (Y 2) (Y 3) (Y 4) (Y 5) (Y 6) (Y 7) (Y 8) (Y 9) (Y 10) (Y 11) (Y 12) (Y 13) (Y 14) (Y 15) (Y 16) (Y 17) (Y 18) (Y 19)

set_option backward.isDefEq.respectTransparency.types false in
/-- The run, its semaphores at zero at the end. -/
theorem run_main : θ_run defs (onTc (τ := τ) (main (F := F))) (s₀ m ρ) (fun r => RDat.FramePost cfg0 (rdat m) (V m) r ∧ r.2.sem = fun _ => 0) :=
  RDat.θ_run_frame_track_shared (Q' := fun r => RDat.FramePost cfg0 (rdat m) (V m) r ∧ r.2.sem = fun _ => 0) cfgs (0 : Fin 1) launch₀0 defs₀ Variants.none (rdat m) m ρ main
    (hbody := fun c => body_obligation m c) (hq := fun _ _ _ => rfl)
    (howed := fun _ _ => rfl) (V := V m) (hmain := hmain m Variants.none) (hA := A_eq m) (hin := fun _ => .rfl) (hout := fun _ => .rfl)

/-- The frame: the arguments end as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12))
      ∧ r.2.sem = fun _ => 0) :=
  (θ_run defs _ _).mono (fun _ h => ⟨fun c => ⟨(RDat.FramePost.arr_in h.1 c 1 rfl).trans ((A_eq m c 1).trans (V_main_arg0 m c)),
      (RDat.FramePost.arr_in h.1 c 2 rfl).trans ((A_eq m c 2).trans (V_main_arg1 m c)),
      (RDat.FramePost.arr_in h.1 c 3 rfl).trans ((A_eq m c 3).trans (V_main_arg2 m c)),
      (RDat.FramePost.arr_in h.1 c 4 rfl).trans ((A_eq m c 4).trans (V_main_arg3 m c)),
      (RDat.FramePost.arr_in h.1 c 5 rfl).trans ((A_eq m c 5).trans (V_main_arg4 m c)),
      (RDat.FramePost.arr_in h.1 c 6 rfl).trans ((A_eq m c 6).trans (V_main_arg5 m c)),
      (RDat.FramePost.arr_in h.1 c 7 rfl).trans ((A_eq m c 7).trans (V_main_arg6 m c)),
      (RDat.FramePost.arr_in h.1 c 8 rfl).trans ((A_eq m c 8).trans (V_main_arg7 m c)),
      (RDat.FramePost.arr_in h.1 c 10 rfl).trans ((A_eq m c 10).trans (V_main_arg8 m c)),
      (RDat.FramePost.arr_in h.1 c 11 rfl).trans ((A_eq m c 11).trans (V_main_arg9 m c)),
      ((h.1 c).2 main_arg10 (Pipeline.mem_restRefs_of main_arg10 (by decide) (by decide))).trans (V_main_arg10 m c),
      (RDat.FramePost.arr_in h.1 c 13 rfl).trans ((A_eq m c 13).trans (V_main_arg11 m c)),
      (RDat.FramePost.arr_in h.1 c 14 rfl).trans ((A_eq m c 14).trans (V_main_arg12 m c))⟩, h.2⟩) (run_main m ρ)

end Cert.Kernel5.Scan

end
-- ==== Proof.Scan.Ideal.Scatter.lean ====
/- The scatter loops of the two branches of the scan kernel. -/
module

public import proofs.«01_k».proof.Proof.Gen.Kernel5Ideal.Frame
public import proofs.«01_k».proof.Proof.Gen.Kernel5Ideal.Loops

@[expose] public section

set_option maxRecDepth 16384

noncomputable section

namespace Cert.Kernel5Ideal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel5Ideal Cert.Kernel5Ideal.Gen

variable {F : FTy → Type} [FloatOps F]

local notation "𝕄" => MT nD τ sig Unit (Elt F) ℕ (UR sig nD τ) ℕ

set_option warn.classDefReducibility false in
/-- The scatter loop of this branch: it reads the finished rows (`arg22`, left as they are) and stores them into the
    gathered slabs (`arg26`), of which nothing is said. -/
@[sl_loop] def scatter4 (𝒱 : Variants) (c : Dev nD) (bd : Option 𝒱.V) (E : Set ℕ) (i : grid0.Coords) (arg2 : Memref sig .tc .vmem S512x128 .f32) (harg2 : arg2.IsWhole) (arg3 : Memref sig .tc .vmem S512x128 .f32) (harg3 : arg3.IsWhole) (arg4 : Memref sig .tc .vmem S1x1x256x2048 .bf16) (harg4 : arg4.IsWhole) (arg5 : Memref sig .tc .vmem S1x1x2048x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S1x1x1x256 .f32) (harg10 : arg10.IsWhole) (arg11 : Memref sig .tc .vmem S1x8x1x2048 .f32) (harg11 : arg11.IsWhole) (arg12 : Memref sig .tc .vmem S8x8x2048 .f32) (harg12 : arg12.IsWhole) (arg13 : Memref sig .tc .vmem S1x2048x2048 .bf16) (harg13 : arg13.IsWhole) (arg14 : Memref sig .tc .vmem S1x2048 .f32) (harg14 : arg14.IsWhole) (arg15 : Memref sig .tc .vmem S1x4096x128 .f32) (harg15 : arg15.IsWhole) (arg16 : Memref sig .tc .vmem S1x4096x128 .f32) (harg16 : arg16.IsWhole) (arg17 : Memref sig .tc .vmem S512x2048 .bf16) (harg17 : arg17.IsWhole) (arg18 : Memref sig .tc .vmem S1x8x1x2048 .f32) (harg18 : arg18.IsWhole) (arg19 : Memref sig .tc .vmem S8x8x2048 .f32) (harg19 : arg19.IsWhole) (arg20 : Memref sig .tc .vmem S1x4096x128 .bf16) (harg20 : arg20.IsWhole) (arg21 : Memref sig .tc .vmem S1x4096x128 .bf16) (harg21 : arg21.IsWhole) (arg22 : Memref sig .tc .vmem S512x256 .f32) (harg22 : arg22.IsWhole) (arg23 : Memref sig .tc .vmem S512x2048 .f32) (harg23 : arg23.IsWhole) (arg24 : Memref sig .tc .vmem S512x2048 .bf16) (harg24 : arg24.IsWhole) (arg25 : Memref sig .tc .vmem S2x8x1024 .f32) (harg25 : arg25.IsWhole) (arg26 : Memref sig .tc .vmem S16x512x128 .f32) (harg26 : arg26.IsWhole) (arg1 : BitVec 32) (hc : k0_cond2 i = 1#1) (X : BufTy.Contents (Elt F) arg22.view.ty) :
    LoopInvTy_k0_t4 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 hc where
  inv k acc := iprop((arg22.view.loc (c : Thread nD τ) ↦[arg22.view.set]{fullShare} X) ∗ (∃ f, (arg26.view.loc (c : Thread nD τ) ↦[arg26.view.set]{fullShare} f) ∗ ⌜True⌝))
  step k acc := by
    unfold k0_t4_body
    iintro ⟨HR, ⟨%f, HW, -⟩⟩
    sl_exec
    sl_step
    isplitl [HR]; · iexact HR
    iexists _; isplitl [HW]; · iexact HW
    ipureintro; trivial

set_option warn.classDefReducibility false in
/-- The scatter loop of this branch: it reads the finished rows (`arg22`, left as they are) and stores them into the
    gathered slabs (`arg26`), of which nothing is said. -/
@[sl_loop] def scatter7 (𝒱 : Variants) (c : Dev nD) (bd : Option 𝒱.V) (E : Set ℕ) (i : grid0.Coords) (arg2 : Memref sig .tc .vmem S512x128 .f32) (harg2 : arg2.IsWhole) (arg3 : Memref sig .tc .vmem S512x128 .f32) (harg3 : arg3.IsWhole) (arg4 : Memref sig .tc .vmem S1x1x256x2048 .bf16) (harg4 : arg4.IsWhole) (arg5 : Memref sig .tc .vmem S1x1x2048x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S1x1x1x256 .f32) (harg10 : arg10.IsWhole) (arg11 : Memref sig .tc .vmem S1x8x1x2048 .f32) (harg11 : arg11.IsWhole) (arg12 : Memref sig .tc .vmem S8x8x2048 .f32) (harg12 : arg12.IsWhole) (arg13 : Memref sig .tc .vmem S1x2048x2048 .bf16) (harg13 : arg13.IsWhole) (arg14 : Memref sig .tc .vmem S1x2048 .f32) (harg14 : arg14.IsWhole) (arg15 : Memref sig .tc .vmem S1x4096x128 .f32) (harg15 : arg15.IsWhole) (arg16 : Memref sig .tc .vmem S1x4096x128 .f32) (harg16 : arg16.IsWhole) (arg17 : Memref sig .tc .vmem S512x2048 .bf16) (harg17 : arg17.IsWhole) (arg18 : Memref sig .tc .vmem S1x8x1x2048 .f32) (harg18 : arg18.IsWhole) (arg19 : Memref sig .tc .vmem S8x8x2048 .f32) (harg19 : arg19.IsWhole) (arg20 : Memref sig .tc .vmem S1x4096x128 .bf16) (harg20 : arg20.IsWhole) (arg21 : Memref sig .tc .vmem S1x4096x128 .bf16) (harg21 : arg21.IsWhole) (arg22 : Memref sig .tc .vmem S512x256 .f32) (harg22 : arg22.IsWhole) (arg23 : Memref sig .tc .vmem S512x2048 .f32) (harg23 : arg23.IsWhole) (arg24 : Memref sig .tc .vmem S512x2048 .bf16) (harg24 : arg24.IsWhole) (arg25 : Memref sig .tc .vmem S2x8x1024 .f32) (harg25 : arg25.IsWhole) (arg26 : Memref sig .tc .vmem S16x512x128 .f32) (harg26 : arg26.IsWhole) (hc : k0_cond4 i = 1#1) (X : BufTy.Contents (Elt F) arg22.view.ty) :
    LoopInvTy_k0_t7 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc where
  inv k acc := iprop((arg22.view.loc (c : Thread nD τ) ↦[arg22.view.set]{fullShare} X) ∗ (∃ f, (arg26.view.loc (c : Thread nD τ) ↦[arg26.view.set]{fullShare} f) ∗ ⌜True⌝))
  step k acc := by
    unfold k0_t7_body
    iintro ⟨HR, ⟨%f, HW, -⟩⟩
    sl_exec
    sl_step
    isplitl [HR]; · iexact HR
    iexists _; isplitl [HW]; · iexact HW
    ipureintro; trivial

end Cert.Kernel5Ideal.Scan

end
-- ==== Proof.Scan.Ideal.Sample.lean ====
/- A point of the sample block that is not its last. -/
module

public import proofs.«01_k».proof.Proof.Scan.Ideal.Scatter

@[expose] public section

set_option maxRecDepth 16384

noncomputable section

namespace Cert.Kernel5Ideal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel5Ideal Cert.Kernel5Ideal.Gen

variable {F : FTy → Type} [FloatOps F]

local notation "𝕄" => MT nD τ sig Unit (Elt F) ℕ (UR sig nD τ) ℕ

set_option backward.proofsInPublic true in
set_option maxHeartbeats 4000000 in
/-- A point of the sample block that is not its last. -/
noncomputable def sample (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1x256x2048 .bf16) (harg4 : arg4.IsWhole) (arg5 : Memref sig .tc .vmem S1x1x2048x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S1x1x1x256 .f32) (harg10 : arg10.IsWhole) (arg11 : Memref sig .tc .vmem S1x8x1x2048 .f32) (harg11 : arg11.IsWhole) (arg12 : Memref sig .tc .vmem S8x8x2048 .f32) (harg12 : arg12.IsWhole) (arg13 : Memref sig .tc .vmem S1x2048x2048 .bf16) (harg13 : arg13.IsWhole) (arg14 : Memref sig .tc .vmem S1x2048 .f32) (harg14 : arg14.IsWhole) (arg15 : Memref sig .tc .vmem S1x4096x128 .f32) (harg15 : arg15.IsWhole) (arg16 : Memref sig .tc .vmem S1x4096x128 .f32) (harg16 : arg16.IsWhole) (arg17 : Memref sig .tc .vmem S512x2048 .bf16) (harg17 : arg17.IsWhole) (arg18 : Memref sig .tc .vmem S1x8x1x2048 .f32) (harg18 : arg18.IsWhole) (arg19 : Memref sig .tc .vmem S8x8x2048 .f32) (harg19 : arg19.IsWhole) (arg20 : Memref sig .tc .vmem S1x4096x128 .bf16) (harg20 : arg20.IsWhole) (arg21 : Memref sig .tc .vmem S1x4096x128 .bf16) (harg21 : arg21.IsWhole) (arg22 : Memref sig .tc .vmem S512x256 .f32) (harg22 : arg22.IsWhole) (arg23 : Memref sig .tc .vmem S512x2048 .f32) (harg23 : arg23.IsWhole) (arg24 : Memref sig .tc .vmem S512x2048 .bf16) (harg24 : arg24.IsWhole) (arg25 : Memref sig .tc .vmem S2x8x1024 .f32) (harg25 : arg25.IsWhole) (arg26 : Memref sig .tc .vmem S16x512x128 .f32) (harg26 : arg26.IsWhole) (hc1 : ¬k0_cond1 i = 1#1) (hc2 : ¬k0_cond2 i = 1#1) (hc4 : k0_cond4 i = 1#1) (hc5 : ¬k0_cond5 i = 1#1)
    (x2 : Vec F S512x128 .f32) (x3 : Vec F S512x128 .f32) (x4 : Vec F S1x1x256x2048 .bf16) (x5 : Vec F S1x1x2048x256 .bf16) (x6 : Vec F S1x1x1024 .f32) (x7 : Vec F S1x1x1024 .f32) (x8 : Vec F S1x8x1024 .f32) (x9 : Vec F S1x8x1024 .f32) (x10 : Vec F S1x1x1x256 .f32) (x11 : Vec F S1x8x1x2048 .f32) (x12 : Vec F S8x8x2048 .f32) (x13 : Vec F S1x2048x2048 .bf16) (x14 : Vec F S1x2048 .f32) (x15 : Vec F S1x4096x128 .f32) (x16 : Vec F S1x4096x128 .f32) (x17 : Vec F S512x2048 .bf16) (x18 : Vec F S1x8x1x2048 .f32) (x19 : Vec F S8x8x2048 .f32) (x20 : Vec F S1x4096x128 .bf16) (x21 : Vec F S1x4096x128 .bf16) (x22 : Vec F S512x256 .f32) (x23 : Vec F S512x2048 .f32) (x24 : Vec F S512x2048 .bf16) (x25 : Vec F S2x8x1024 .f32) (x26 : Vec F S16x512x128 .f32) :
    { L : List (View.Piece (Elt F) S8x8x2048 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (∃ f, arg17.view.loc (c : Thread nD τ) ↦[arg17.view.set]{fullShare} f) ∗ (∃ f, arg18.view.loc (c : Thread nD τ) ↦[arg18.view.set]{fullShare} f) ∗ (arg19.view.loc (c : Thread nD τ) ↦[arg19.view.set]{fullShare} arg19.view.writes (Elt F) (harg19.unread x19) L) ∗ (∃ f, arg20.view.loc (c : Thread nD τ) ↦[arg20.view.set]{fullShare} f) ∗ (∃ f, arg21.view.loc (c : Thread nD τ) ↦[arg21.view.set]{fullShare} f) ∗ (∃ f, arg22.view.loc (c : Thread nD τ) ↦[arg22.view.set]{fullShare} f) ∗ (∃ f, arg23.view.loc (c : Thread nD τ) ↦[arg23.view.set]{fullShare} f) ∗ (∃ f, arg24.view.loc (c : Thread nD τ) ↦[arg24.view.set]{fullShare} f) ∗ (∃ f, arg25.view.loc (c : Thread nD τ) ↦[arg25.view.set]{fullShare} f) ∗ (∃ f, arg26.view.loc (c : Thread nD τ) ↦[arg26.view.set]{fullShare} f)) -∗ K ⟨⟩))
          ⊢ wp frame (wpE (defs₀ (F := F)) Variants.none c none) E (cc0_s5_group i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, fun E K => ?run⟩
  case run =>
    simp only [cc0_s5_group_eq_skeleton]; unfold cc0_s5_group_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23; obtain rfl := harg24.eq_unread hf24; obtain rfl := harg25.eq_unread hf25; obtain rfl := harg26.eq_unread hf26
    sl_exec (disch := first | sl_exact hc1 | sl_exact hc2 | sl_exact hc4 | sl_exact hc5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; iexact H17
    isplitl [H18]
    · iexists _; iexact H18
    isplitl [H19]
    · iexact H19
    isplitl [H20]
    · iexists _; iexact H20
    isplitl [H21]
    · iexists _; iexact H21
    isplitl [H22]
    · iexists _; iexact H22
    isplitl [H23]
    · iexists _; iexact H23
    isplitl [H24]
    · iexists _; iexact H24
    isplitl [H25]
    · iexists _; iexact H25
    iexists _; iexact H26

end Cert.Kernel5Ideal.Scan

end
-- ==== Proof.Scan.Ideal.SampleLast.lean ====
/- The last point of the sample block. -/
module

public import proofs.«01_k».proof.Proof.Scan.Ideal.Sample

@[expose] public section

set_option maxRecDepth 16384

noncomputable section

namespace Cert.Kernel5Ideal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel5Ideal Cert.Kernel5Ideal.Gen

variable {F : FTy → Type} [FloatOps F]

local notation "𝕄" => MT nD τ sig Unit (Elt F) ℕ (UR sig nD τ) ℕ

set_option backward.proofsInPublic true in
set_option maxHeartbeats 4000000 in
/-- The last point of the sample block. -/
noncomputable def sampleLast (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1x256x2048 .bf16) (harg4 : arg4.IsWhole) (arg5 : Memref sig .tc .vmem S1x1x2048x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S1x1x1x256 .f32) (harg10 : arg10.IsWhole) (arg11 : Memref sig .tc .vmem S1x8x1x2048 .f32) (harg11 : arg11.IsWhole) (arg12 : Memref sig .tc .vmem S8x8x2048 .f32) (harg12 : arg12.IsWhole) (arg13 : Memref sig .tc .vmem S1x2048x2048 .bf16) (harg13 : arg13.IsWhole) (arg14 : Memref sig .tc .vmem S1x2048 .f32) (harg14 : arg14.IsWhole) (arg15 : Memref sig .tc .vmem S1x4096x128 .f32) (harg15 : arg15.IsWhole) (arg16 : Memref sig .tc .vmem S1x4096x128 .f32) (harg16 : arg16.IsWhole) (arg17 : Memref sig .tc .vmem S512x2048 .bf16) (harg17 : arg17.IsWhole) (arg18 : Memref sig .tc .vmem S1x8x1x2048 .f32) (harg18 : arg18.IsWhole) (arg19 : Memref sig .tc .vmem S8x8x2048 .f32) (harg19 : arg19.IsWhole) (arg20 : Memref sig .tc .vmem S1x4096x128 .bf16) (harg20 : arg20.IsWhole) (arg21 : Memref sig .tc .vmem S1x4096x128 .bf16) (harg21 : arg21.IsWhole) (arg22 : Memref sig .tc .vmem S512x256 .f32) (harg22 : arg22.IsWhole) (arg23 : Memref sig .tc .vmem S512x2048 .f32) (harg23 : arg23.IsWhole) (arg24 : Memref sig .tc .vmem S512x2048 .bf16) (harg24 : arg24.IsWhole) (arg25 : Memref sig .tc .vmem S2x8x1024 .f32) (harg25 : arg25.IsWhole) (arg26 : Memref sig .tc .vmem S16x512x128 .f32) (harg26 : arg26.IsWhole) (hc1 : ¬k0_cond1 i = 1#1) (hc2 : ¬k0_cond2 i = 1#1) (hc4 : k0_cond4 i = 1#1) (hc5 : k0_cond5 i = 1#1)
    (x2 : Vec F S512x128 .f32) (x3 : Vec F S512x128 .f32) (x4 : Vec F S1x1x256x2048 .bf16) (x5 : Vec F S1x1x2048x256 .bf16) (x6 : Vec F S1x1x1024 .f32) (x7 : Vec F S1x1x1024 .f32) (x8 : Vec F S1x8x1024 .f32) (x9 : Vec F S1x8x1024 .f32) (x10 : Vec F S1x1x1x256 .f32) (x11 : Vec F S1x8x1x2048 .f32) (x12 : Vec F S8x8x2048 .f32) (x13 : Vec F S1x2048x2048 .bf16) (x14 : Vec F S1x2048 .f32) (x15 : Vec F S1x4096x128 .f32) (x16 : Vec F S1x4096x128 .f32) (x17 : Vec F S512x2048 .bf16) (x18 : Vec F S1x8x1x2048 .f32) (x19 : Vec F S8x8x2048 .f32) (x20 : Vec F S1x4096x128 .bf16) (x21 : Vec F S1x4096x128 .bf16) (x22 : Vec F S512x256 .f32) (x23 : Vec F S512x2048 .f32) (x24 : Vec F S512x2048 .bf16) (x25 : Vec F S2x8x1024 .f32) (x26 : Vec F S16x512x128 .f32) :
    { L : List (View.Piece (Elt F) S8x8x2048 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (∃ f, arg17.view.loc (c : Thread nD τ) ↦[arg17.view.set]{fullShare} f) ∗ (∃ f, arg18.view.loc (c : Thread nD τ) ↦[arg18.view.set]{fullShare} f) ∗ (arg19.view.loc (c : Thread nD τ) ↦[arg19.view.set]{fullShare} arg19.view.writes (Elt F) (harg19.unread x19) L) ∗ (∃ f, arg20.view.loc (c : Thread nD τ) ↦[arg20.view.set]{fullShare} f) ∗ (∃ f, arg21.view.loc (c : Thread nD τ) ↦[arg21.view.set]{fullShare} f) ∗ (∃ f, arg22.view.loc (c : Thread nD τ) ↦[arg22.view.set]{fullShare} f) ∗ (∃ f, arg23.view.loc (c : Thread nD τ) ↦[arg23.view.set]{fullShare} f) ∗ (∃ f, arg24.view.loc (c : Thread nD τ) ↦[arg24.view.set]{fullShare} f) ∗ (∃ f, arg25.view.loc (c : Thread nD τ) ↦[arg25.view.set]{fullShare} f) ∗ (∃ f, arg26.view.loc (c : Thread nD τ) ↦[arg26.view.set]{fullShare} f)) -∗ K ⟨⟩))
          ⊢ wp frame (wpE (defs₀ (F := F)) Variants.none c none) E (cc0_s5_group i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, fun E K => ?run⟩
  case run =>
    simp only [cc0_s5_group_eq_skeleton]; unfold cc0_s5_group_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23; obtain rfl := harg24.eq_unread hf24; obtain rfl := harg25.eq_unread hf25; obtain rfl := harg26.eq_unread hf26
    sl_exec (disch := first | sl_exact hc1 | sl_exact hc2 | sl_exact hc4 | sl_exact hc5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; iexact H17
    isplitl [H18]
    · iexists _; iexact H18
    isplitl [H19]
    · iexact H19
    isplitl [H20]
    · iexists _; iexact H20
    isplitl [H21]
    · iexists _; iexact H21
    isplitl [H22]
    · iexists _; iexact H22
    isplitl [H23]
    · iexists _; iexact H23
    isplitl [H24]
    · iexists _; iexact H24
    isplitl [H25]
    · iexists _; iexact H25
    iexists _; iexact H26

end Cert.Kernel5Ideal.Scan

end
-- ==== Proof.Scan.Spec.lean ====
/- The recurrence of one state entry: a complex number turned by a fixed complex factor and pushed by an input, step after step. -/
module

public import proofs.«01_k».proof.Proof.Common.Dot

@[expose] public section

noncomputable section

namespace Cert.Scan

open Idealize.ShloMosaic Idealize.ShloMosaic.ValueIdx

/-- One step: the pair `h` (real and imaginary part) times the factor `l`, plus the input `u`. -/
def step (l u h : EReal × EReal) : EReal × EReal :=
  (l.1 * h.1 - l.2 * h.2 + u.1, l.1 * h.2 + l.2 * h.1 + u.2)

/-- The state after `t` steps from `h`. -/
def state (l : EReal × EReal) (u : Nat → EReal × EReal) (h : EReal × EReal) : Nat → EReal × EReal
  | 0 => h
  | t + 1 => step l (u t) (state l u h t)

/-- The recurrence reads the pushes of the steps taken only. -/
theorem state_congr (l h : EReal × EReal) (u u' : Nat → EReal × EReal) : ∀ n, (∀ t, t < n → u t = u' t) → state l u h n = state l u' h n
  | 0, _ => rfl
  | n + 1, H => by
    show step l (u n) (state l u h n) = step l (u' n) (state l u' h n)
    rw [H n (Nat.lt_succ_self n), state_congr l h u u' n (fun t ht => H t (Nat.lt_succ_of_lt ht))]

/-- Pairs laid out as a row: real parts first, then imaginary parts. -/
def flat (B : Fin 1024 → EReal × EReal) (q : Fin 2048) : EReal :=
  if h : q.val < 1024 then (B ⟨q.val, h⟩).1 else (B ⟨q.val - 1024, by omega⟩).2

/-- The push of group `s`, sequence `b` at step `t`: the sample's row of the projection against the group's weights. -/
def feed (proj : (⟨2, ![8320, 10240]⟩ : Shape).Idx → EReal) (w : (⟨4, ![4, 8, 256, 2048]⟩ : Shape).Idx → EReal)
    (s b : Fin 8) (m : Fin 1024) (t : Nat) : EReal × EReal :=
  if h : t < 16 then
    (∑ q : Fin 256, proj (ix2 (⟨8192 + 16 * b.val + t, by omega⟩ : Fin 8320) (⟨256 * s.val + q.val, by omega⟩ : Fin 10240))
        * w (ix4 (0 : Fin 4) s q (⟨m.val, by omega⟩ : Fin 2048)),
     ∑ q : Fin 256, proj (ix2 (⟨8192 + 16 * b.val + t, by omega⟩ : Fin 8320) (⟨256 * s.val + q.val, by omega⟩ : Fin 10240))
        * w (ix4 (0 : Fin 4) s q (⟨1024 + m.val, by omega⟩ : Fin 2048)))
  else (0, 0)

/-- The state of group `s`, sequence `b` after the sixteen steps. -/
def final (proj : (⟨2, ![8320, 10240]⟩ : Shape).Idx → EReal) (w : (⟨4, ![4, 8, 256, 2048]⟩ : Shape).Idx → EReal)
    (lr li : (⟨3, ![4, 1, 8192]⟩ : Shape).Idx → EReal) (h0 : (⟨3, ![8, 8, 2048]⟩ : Shape).Idx → EReal)
    (s b : Fin 8) (m : Fin 1024) : EReal × EReal :=
  state (lr (ix3 (0 : Fin 4) (0 : Fin 1) (⟨1024 * s.val + m.val, by omega⟩ : Fin 8192)), li (ix3 (0 : Fin 4) (0 : Fin 1) (⟨1024 * s.val + m.val, by omega⟩ : Fin 8192)))
    (feed proj w s b m) (h0 (ix3 s b (⟨m.val, by omega⟩ : Fin 2048)), h0 (ix3 s b (⟨1024 + m.val, by omega⟩ : Fin 2048))) 16

/-- The samples' new states: every group's every sequence's, real parts then imaginary parts. -/
def value (proj : (⟨2, ![8320, 10240]⟩ : Shape).Idx → EReal) (w : (⟨4, ![4, 8, 256, 2048]⟩ : Shape).Idx → EReal)
    (lr li : (⟨3, ![4, 1, 8192]⟩ : Shape).Idx → EReal) (h0 : (⟨3, ![8, 8, 2048]⟩ : Shape).Idx → EReal) :
    (⟨3, ![8, 8, 2048]⟩ : Shape).Idx → EReal :=
  fun j => flat (final proj w lr li h0 (j 0) (j 1)) (j 2)

end Cert.Scan

end
-- ==== Proof.Scan.Ideal.Trip.lean ====
/- Two steps of the recurrence, as a trip of the loop takes them, at an entry. -/
module

public import proofs.«01_k».proof.Proof.Gen.Kernel5Ideal.Loops
public import proofs.«01_k».proof.Proof.Scan.Spec
public import Idealize.ShloMosaic.Lib.VecWindow
public import Idealize.ShloMosaic.Lib.WritesUnit

@[expose] public section

set_option maxRecDepth 16384

noncomputable section

namespace Cert.Kernel5Ideal.Scan

open Idealize.ShloMosaic Idealize.ShloMosaic.TcCoe Idealize.ShloMosaic.ValueIdx Idealize.SL.Sem
open Idealize.ShloMosaic.Pipeline (Dat RDat Cfg Window BodyObligation cellOf)
open Cert.Scan (step state)
open Cert.Kernel5Ideal Cert.Kernel5Ideal.Gen

theorem off54_closed : ∀ k : Fin k0_t6_loop.trips, k0_off54 k = ![16 * k.val + 0, 0] := by decide +kernel

theorem off55_closed : ∀ k : Fin k0_t6_loop.trips, k0_off55 k = ![16 * k.val + 0, 1024] := by decide +kernel

theorem off56_closed : ∀ k : Fin k0_t6_loop.trips, k0_off56 k = ![16 * k.val + 0, 256] := by decide +kernel

theorem off57_closed : ∀ k : Fin k0_t6_loop.trips, k0_off57 k = ![16 * k.val + 0, 1280] := by decide +kernel

theorem off58_closed : ∀ k : Fin k0_t6_loop.trips, k0_off58 k = ![16 * k.val + 0, 512] := by decide +kernel

theorem off59_closed : ∀ k : Fin k0_t6_loop.trips, k0_off59 k = ![16 * k.val + 0, 1536] := by decide +kernel

theorem off60_closed : ∀ k : Fin k0_t6_loop.trips, k0_off60 k = ![16 * k.val + 0, 768] := by decide +kernel

theorem off61_closed : ∀ k : Fin k0_t6_loop.trips, k0_off61 k = ![16 * k.val + 0, 1792] := by decide +kernel

theorem off62_closed : ∀ k : Fin k0_t6_loop.trips, k0_off62 k = ![16 * k.val + 8, 0] := by decide +kernel

theorem off63_closed : ∀ k : Fin k0_t6_loop.trips, k0_off63 k = ![16 * k.val + 8, 1024] := by decide +kernel

theorem off64_closed : ∀ k : Fin k0_t6_loop.trips, k0_off64 k = ![16 * k.val + 8, 256] := by decide +kernel

theorem off65_closed : ∀ k : Fin k0_t6_loop.trips, k0_off65 k = ![16 * k.val + 8, 1280] := by decide +kernel

theorem off66_closed : ∀ k : Fin k0_t6_loop.trips, k0_off66 k = ![16 * k.val + 8, 512] := by decide +kernel

theorem off67_closed : ∀ k : Fin k0_t6_loop.trips, k0_off67 k = ![16 * k.val + 8, 1536] := by decide +kernel

theorem off68_closed : ∀ k : Fin k0_t6_loop.trips, k0_off68 k = ![16 * k.val + 8, 768] := by decide +kernel

theorem off69_closed : ∀ k : Fin k0_t6_loop.trips, k0_off69 k = ![16 * k.val + 8, 1792] := by decide +kernel

/-- A load of eight rows and 256 columns of the inputs' block, at an index. -/
theorem load_push (v : View sig .tc .vmem S512x2048 .f32) (g : v.ty.Contents (Elt Ideal)) (off : Fin 2 → Nat) (p q : Nat) (h : off = ![p, q])
    (inb : ∀ a, off a + S8x256.size a ≤ S512x2048.size a) (b : Fin 8) (n : Fin 256) (hp : p + b.val < 512) (hq : q + n.val < 2048) :
    View.readAt (Elt Ideal) v (Rect.unit (s := S512x2048) off S8x256.size inb).toLoadRect g (ix2 b n)
      = v.read (Elt Ideal) g (ix2 (⟨p + b.val, hp⟩ : Fin 512) (⟨q + n.val, hq⟩ : Fin 2048)) := by
  subst h
  refine congrArg (fun z => v.read (Elt Ideal) g z) (funext fun a => Fin.ext ?_)
  match a with
  | ⟨0, _⟩ => show p + 1 * b.val = p + b.val; omega
  | ⟨1, _⟩ => show q + 1 * n.val = q + n.val; omega

/-- A load of 256 columns of one part of the factors, at an index. -/
theorem load_turn (v : View sig .tc .vmem S2x8x1024 .f32) (g : v.ty.Contents (Elt Ideal)) (e q : Nat)
    (inb : ∀ a, (![e, 0, q] : Fin 3 → Nat) a + S1x8x256.size a ≤ S2x8x1024.size a) (b : Fin 8) (n : Fin 256) (he : e < 2) (hq : q + n.val < 1024) :
    View.readAt (Elt Ideal) v (Rect.unit (s := S2x8x1024) ![e, 0, q] S1x8x256.size inb).toLoadRect g (ix3 (0 : Fin 1) b n)
      = v.read (Elt Ideal) g (ix3 (⟨e, he⟩ : Fin 2) b (⟨q + n.val, hq⟩ : Fin 1024)) := by
  refine congrArg (fun z => v.read (Elt Ideal) g z) (funext fun a => Fin.ext ?_)
  match a with
  | ⟨0, _⟩ => show e + 1 * 0 = e; omega
  | ⟨1, _⟩ => show 0 + 1 * b.val = b.val; omega
  | ⟨2, _⟩ => show q + 1 * n.val = q + n.val; omega

/-- A block with a leading axis of size one, read as a matrix. -/
theorem drop_unit {α : Type} (x : S1x8x256.Idx → α) (h : S1x8x256.ShapeCasts S8x256) (b : Fin 8) (n : Fin 256) :
    shapeCast S8x256 x h (ix2 b n) = x (ix3 (0 : Fin 1) b n) :=
  Cert.Common.dropUnit_apply x h (ix2 b n)

theorem pay256 (hr hi : FVec Ideal S8x256 .f32) (l0 : Vec Ideal S1x8x256 .f32) (l1 : Vec Ideal S1x8x256 .f32) (u : Vec Ideal S8x256 .f32) (b : Fin 8) (n : Fin 256) :
    k0_pay256 (F := Ideal) hr hi l0 l1 u (ix2 b n) = (l0 (ix3 (0 : Fin 1) b n) * hr (ix2 b n) - l1 (ix3 (0 : Fin 1) b n) * hi (ix2 b n) + u (ix2 b n) : EReal) := by
  unfold k0_pay256 k0_pay254 k0_pay255
  simp only [mulf_apply, addf_apply, subf_apply, drop_unit]

theorem pay257 (hr hi : FVec Ideal S8x256 .f32) (l0 : Vec Ideal S1x8x256 .f32) (l1 : Vec Ideal S1x8x256 .f32) (u : Vec Ideal S8x256 .f32) (b : Fin 8) (n : Fin 256) :
    k0_pay257 (F := Ideal) hr hi l0 l1 u (ix2 b n) = (l0 (ix3 (0 : Fin 1) b n) * hi (ix2 b n) + l1 (ix3 (0 : Fin 1) b n) * hr (ix2 b n) + u (ix2 b n) : EReal) := by
  unfold k0_pay257 k0_pay254 k0_pay255
  simp only [mulf_apply, addf_apply, subf_apply, drop_unit]

theorem pay260 (hr hi : FVec Ideal S8x256 .f32) (l0 : Vec Ideal S1x8x256 .f32) (l1 : Vec Ideal S1x8x256 .f32) (u : Vec Ideal S8x256 .f32) (b : Fin 8) (n : Fin 256) :
    k0_pay260 (F := Ideal) hr hi l0 l1 u (ix2 b n) = (l0 (ix3 (0 : Fin 1) b n) * hr (ix2 b n) - l1 (ix3 (0 : Fin 1) b n) * hi (ix2 b n) + u (ix2 b n) : EReal) := by
  unfold k0_pay260 k0_pay258 k0_pay259
  simp only [mulf_apply, addf_apply, subf_apply, drop_unit]

theorem pay261 (hr hi : FVec Ideal S8x256 .f32) (l0 : Vec Ideal S1x8x256 .f32) (l1 : Vec Ideal S1x8x256 .f32) (u : Vec Ideal S8x256 .f32) (b : Fin 8) (n : Fin 256) :
    k0_pay261 (F := Ideal) hr hi l0 l1 u (ix2 b n) = (l0 (ix3 (0 : Fin 1) b n) * hi (ix2 b n) + l1 (ix3 (0 : Fin 1) b n) * hr (ix2 b n) + u (ix2 b n) : EReal) := by
  unfold k0_pay261 k0_pay258 k0_pay259
  simp only [mulf_apply, addf_apply, subf_apply, drop_unit]

theorem pay268 (hr hi : FVec Ideal S8x256 .f32) (l0 : Vec Ideal S1x8x256 .f32) (l1 : Vec Ideal S1x8x256 .f32) (u : Vec Ideal S8x256 .f32) (b : Fin 8) (n : Fin 256) :
    k0_pay268 (F := Ideal) hr hi l0 l1 u (ix2 b n) = (l0 (ix3 (0 : Fin 1) b n) * hr (ix2 b n) - l1 (ix3 (0 : Fin 1) b n) * hi (ix2 b n) + u (ix2 b n) : EReal) := by
  unfold k0_pay268 k0_pay266 k0_pay267
  simp only [mulf_apply, addf_apply, subf_apply, drop_unit]

theorem pay269 (hr hi : FVec Ideal S8x256 .f32) (l0 : Vec Ideal S1x8x256 .f32) (l1 : Vec Ideal S1x8x256 .f32) (u : Vec Ideal S8x256 .f32) (b : Fin 8) (n : Fin 256) :
    k0_pay269 (F := Ideal) hr hi l0 l1 u (ix2 b n) = (l0 (ix3 (0 : Fin 1) b n) * hi (ix2 b n) + l1 (ix3 (0 : Fin 1) b n) * hr (ix2 b n) + u (ix2 b n) : EReal) := by
  unfold k0_pay269 k0_pay266 k0_pay267
  simp only [mulf_apply, addf_apply, subf_apply, drop_unit]

theorem pay278 (hr hi : FVec Ideal S8x256 .f32) (l0 : Vec Ideal S1x8x256 .f32) (l1 : Vec Ideal S1x8x256 .f32) (u : Vec Ideal S8x256 .f32) (b : Fin 8) (n : Fin 256) :
    k0_pay278 (F := Ideal) hr hi l0 l1 u (ix2 b n) = (l0 (ix3 (0 : Fin 1) b n) * hr (ix2 b n) - l1 (ix3 (0 : Fin 1) b n) * hi (ix2 b n) + u (ix2 b n) : EReal) := by
  unfold k0_pay278 k0_pay276 k0_pay277
  simp only [mulf_apply, addf_apply, subf_apply, drop_unit]

theorem pay279 (hr hi : FVec Ideal S8x256 .f32) (l0 : Vec Ideal S1x8x256 .f32) (l1 : Vec Ideal S1x8x256 .f32) (u : Vec Ideal S8x256 .f32) (b : Fin 8) (n : Fin 256) :
    k0_pay279 (F := Ideal) hr hi l0 l1 u (ix2 b n) = (l0 (ix3 (0 : Fin 1) b n) * hi (ix2 b n) + l1 (ix3 (0 : Fin 1) b n) * hr (ix2 b n) + u (ix2 b n) : EReal) := by
  unfold k0_pay279 k0_pay276 k0_pay277
  simp only [mulf_apply, addf_apply, subf_apply, drop_unit]

theorem pay282 (hr hi : FVec Ideal S8x256 .f32) (l0 : Vec Ideal S1x8x256 .f32) (l1 : Vec Ideal S1x8x256 .f32) (u : Vec Ideal S8x256 .f32) (b : Fin 8) (n : Fin 256) :
    k0_pay282 (F := Ideal) hr hi l0 l1 u (ix2 b n) = (l0 (ix3 (0 : Fin 1) b n) * hr (ix2 b n) - l1 (ix3 (0 : Fin 1) b n) * hi (ix2 b n) + u (ix2 b n) : EReal) := by
  unfold k0_pay282 k0_pay280 k0_pay281
  simp only [mulf_apply, addf_apply, subf_apply, drop_unit]

theorem pay283 (hr hi : FVec Ideal S8x256 .f32) (l0 : Vec Ideal S1x8x256 .f32) (l1 : Vec Ideal S1x8x256 .f32) (u : Vec Ideal S8x256 .f32) (b : Fin 8) (n : Fin 256) :
    k0_pay283 (F := Ideal) hr hi l0 l1 u (ix2 b n) = (l0 (ix3 (0 : Fin 1) b n) * hi (ix2 b n) + l1 (ix3 (0 : Fin 1) b n) * hr (ix2 b n) + u (ix2 b n) : EReal) := by
  unfold k0_pay283 k0_pay280 k0_pay281
  simp only [mulf_apply, addf_apply, subf_apply, drop_unit]

theorem pay286 (hr hi : FVec Ideal S8x256 .f32) (l0 : Vec Ideal S1x8x256 .f32) (l1 : Vec Ideal S1x8x256 .f32) (u : Vec Ideal S8x256 .f32) (b : Fin 8) (n : Fin 256) :
    k0_pay286 (F := Ideal) hr hi l0 l1 u (ix2 b n) = (l0 (ix3 (0 : Fin 1) b n) * hr (ix2 b n) - l1 (ix3 (0 : Fin 1) b n) * hi (ix2 b n) + u (ix2 b n) : EReal) := by
  unfold k0_pay286 k0_pay284 k0_pay285
  simp only [mulf_apply, addf_apply, subf_apply, drop_unit]

theorem pay287 (hr hi : FVec Ideal S8x256 .f32) (l0 : Vec Ideal S1x8x256 .f32) (l1 : Vec Ideal S1x8x256 .f32) (u : Vec Ideal S8x256 .f32) (b : Fin 8) (n : Fin 256) :
    k0_pay287 (F := Ideal) hr hi l0 l1 u (ix2 b n) = (l0 (ix3 (0 : Fin 1) b n) * hi (ix2 b n) + l1 (ix3 (0 : Fin 1) b n) * hr (ix2 b n) + u (ix2 b n) : EReal) := by
  unfold k0_pay287 k0_pay284 k0_pay285
  simp only [mulf_apply, addf_apply, subf_apply, drop_unit]

theorem pay264 (hr hi : FVec Ideal S8x256 .f32) (l0 : FVec Ideal S8x256 .f32) (l1 : Vec Ideal S1x8x256 .f32) (u : Vec Ideal S8x256 .f32) (b : Fin 8) (n : Fin 256) :
    k0_pay264 (F := Ideal) hr hi l0 l1 u (ix2 b n) = (l0 (ix2 b n) * hr (ix2 b n) - l1 (ix3 (0 : Fin 1) b n) * hi (ix2 b n) + u (ix2 b n) : EReal) := by
  unfold k0_pay264 k0_pay263
  simp only [mulf_apply, addf_apply, subf_apply, drop_unit]

theorem pay265 (hr hi : FVec Ideal S8x256 .f32) (l0 : FVec Ideal S8x256 .f32) (l1 : Vec Ideal S1x8x256 .f32) (u : Vec Ideal S8x256 .f32) (b : Fin 8) (n : Fin 256) :
    k0_pay265 (F := Ideal) hr hi l0 l1 u (ix2 b n) = (l0 (ix2 b n) * hi (ix2 b n) + l1 (ix3 (0 : Fin 1) b n) * hr (ix2 b n) + u (ix2 b n) : EReal) := by
  unfold k0_pay265 k0_pay263
  simp only [mulf_apply, addf_apply, subf_apply, drop_unit]

theorem pay272 (hr hi : FVec Ideal S8x256 .f32) (l0 l1 : Vec Ideal S1x8x256 .f32) (b : Fin 8) (n : Fin 256) :
    k0_pay272 (F := Ideal) hr hi l0 l1 (ix2 b n) = (l0 (ix3 (0 : Fin 1) b n) * hr (ix2 b n) - l1 (ix3 (0 : Fin 1) b n) * hi (ix2 b n) : EReal) := by
  unfold k0_pay272 k0_pay270 k0_pay271
  simp only [mulf_apply, addf_apply, subf_apply, drop_unit]

theorem pay273 (hr hi : FVec Ideal S8x256 .f32) (l0 l1 : Vec Ideal S1x8x256 .f32) (b : Fin 8) (n : Fin 256) :
    k0_pay273 (F := Ideal) hr hi l0 l1 (ix2 b n) = (l0 (ix3 (0 : Fin 1) b n) * hi (ix2 b n) + l1 (ix3 (0 : Fin 1) b n) * hr (ix2 b n) : EReal) := by
  unfold k0_pay273 k0_pay270 k0_pay271
  simp only [mulf_apply, addf_apply, subf_apply, drop_unit]

theorem pay274 (h : FVec Ideal S8x256 .f32) (u : Vec Ideal S8x256 .f32) (b : Fin 8) (n : Fin 256) :
    k0_pay274 (F := Ideal) h u (ix2 b n) = (h (ix2 b n) + u (ix2 b n) : EReal) := rfl

theorem pay275 (h : FVec Ideal S8x256 .f32) (u : Vec Ideal S8x256 .f32) (b : Fin 8) (n : Fin 256) :
    k0_pay275 (F := Ideal) h u (ix2 b n) = (h (ix2 b n) + u (ix2 b n) : EReal) := rfl

theorem pay262 (l0 : Vec Ideal S1x8x256 .f32) (b : Fin 8) (n : Fin 256) :
    k0_pay262 (F := Ideal) l0 (ix2 b n) = l0 (ix3 (0 : Fin 1) b n) := by
  unfold k0_pay262
  exact drop_unit _ _ b n

theorem first2 (hr hi : FVec Ideal S8x256 .f32) (l0 l1 : Vec Ideal S1x8x256 .f32) (u : Vec Ideal S8x256 .f32) (b : Fin 8) (n : Fin 256) :
    k0_pay274 (F := Ideal) (k0_pay272 (F := Ideal) hr hi l0 l1) u (ix2 b n) = (l0 (ix3 (0 : Fin 1) b n) * hr (ix2 b n) - l1 (ix3 (0 : Fin 1) b n) * hi (ix2 b n) + u (ix2 b n) : EReal) :=
  (pay274 _ _ b n).trans (congrArg (fun z : EReal => z + u (ix2 b n)) (pay272 hr hi l0 l1 b n))

theorem first3 (hr hi : FVec Ideal S8x256 .f32) (l0 l1 : Vec Ideal S1x8x256 .f32) (u : Vec Ideal S8x256 .f32) (b : Fin 8) (n : Fin 256) :
    k0_pay275 (F := Ideal) (k0_pay273 (F := Ideal) hr hi l0 l1) u (ix2 b n) = (l0 (ix3 (0 : Fin 1) b n) * hi (ix2 b n) + l1 (ix3 (0 : Fin 1) b n) * hr (ix2 b n) + u (ix2 b n) : EReal) :=
  (pay275 _ _ b n).trans (congrArg (fun z : EReal => z + u (ix2 b n)) (pay273 hr hi l0 l1 b n))

theorem re_of {L U H : EReal × EReal} {l0 l1 hr hi u : EReal} (a0 : l0 = L.1) (a1 : l1 = L.2) (ar : hr = H.1) (ai : hi = H.2) (au : u = U.1) :
    l0 * hr - l1 * hi + u = (step L U H).1 := by
  subst a0 a1 ar ai au; rfl

theorem im_of {L U H : EReal × EReal} {l0 l1 hr hi u : EReal} (a0 : l0 = L.1) (a1 : l1 = L.2) (ar : hr = H.1) (ai : hi = H.2) (au : u = U.2) :
    l0 * hi + l1 * hr + u = (step L U H).2 := by
  subst a0 a1 ar ai au; rfl

/-- The push of a row and column: real part and imaginary part. -/
def push (v : View sig .tc .vmem S512x2048 .f32) (g : v.ty.Contents (Elt Ideal)) (r : Nat) (hr : r < 512) (m : Fin 1024) : EReal × EReal :=
  (v.read (Elt Ideal) g (ix2 (⟨r, hr⟩ : Fin 512) (⟨m.val, by omega⟩ : Fin 2048)), v.read (Elt Ideal) g (ix2 (⟨r, hr⟩ : Fin 512) (⟨1024 + m.val, by omega⟩ : Fin 2048)))

/-- The factor of an entry: real part and imaginary part. -/
def turn (v : View sig .tc .vmem S2x8x1024 .f32) (g : v.ty.Contents (Elt Ideal)) (b : Fin 8) (m : Fin 1024) : EReal × EReal :=
  (v.read (Elt Ideal) g (ix3 (0 : Fin 2) b m), v.read (Elt Ideal) g (ix3 (1 : Fin 2) b m))

theorem trips6 (k : Fin k0_t6_loop.trips) : k.val < 8 := lt_of_lt_of_le k.isLt (by decide +kernel)

variable (𝒱 : Variants) (c : Dev nD) (bd : Option 𝒱.V)  (i : grid0.Coords) (arg2 : Memref sig .tc .vmem S512x128 .f32) (harg2 : arg2.IsWhole) (arg3 : Memref sig .tc .vmem S512x128 .f32) (harg3 : arg3.IsWhole) (arg4 : Memref sig .tc .vmem S1x1x256x2048 .bf16) (harg4 : arg4.IsWhole) (arg5 : Memref sig .tc .vmem S1x1x2048x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S1x1x1x256 .f32) (harg10 : arg10.IsWhole) (arg11 : Memref sig .tc .vmem S1x8x1x2048 .f32) (harg11 : arg11.IsWhole) (arg12 : Memref sig .tc .vmem S8x8x2048 .f32) (harg12 : arg12.IsWhole) (arg13 : Memref sig .tc .vmem S1x2048x2048 .bf16) (harg13 : arg13.IsWhole) (arg14 : Memref sig .tc .vmem S1x2048 .f32) (harg14 : arg14.IsWhole) (arg15 : Memref sig .tc .vmem S1x4096x128 .f32) (harg15 : arg15.IsWhole) (arg16 : Memref sig .tc .vmem S1x4096x128 .f32) (harg16 : arg16.IsWhole) (arg17 : Memref sig .tc .vmem S512x2048 .bf16) (harg17 : arg17.IsWhole) (arg18 : Memref sig .tc .vmem S1x8x1x2048 .f32) (harg18 : arg18.IsWhole) (arg19 : Memref sig .tc .vmem S8x8x2048 .f32) (harg19 : arg19.IsWhole) (arg20 : Memref sig .tc .vmem S1x4096x128 .bf16) (harg20 : arg20.IsWhole) (arg21 : Memref sig .tc .vmem S1x4096x128 .bf16) (harg21 : arg21.IsWhole) (arg22 : Memref sig .tc .vmem S512x256 .f32) (harg22 : arg22.IsWhole) (arg23 : Memref sig .tc .vmem S512x2048 .f32) (harg23 : arg23.IsWhole) (arg24 : Memref sig .tc .vmem S512x2048 .bf16) (harg24 : arg24.IsWhole) (arg25 : Memref sig .tc .vmem S2x8x1024 .f32) (harg25 : arg25.IsWhole) (arg26 : Memref sig .tc .vmem S16x512x128 .f32) (harg26 : arg26.IsWhole)  (arg1 : BitVec 32) (k0_h4 : k0_cond4 i = 1#1)

set_option maxHeartbeats 1000000 in
/-- Columns 0 to 255. -/
theorem trip_0 (X23 : BufTy.Contents (Elt Ideal) arg23.view.ty) (X25 : BufTy.Contents (Elt Ideal) arg25.view.ty) (k : Fin k0_t6_loop.trips)
    (acc : FVec Ideal S8x256 .f32 × FVec Ideal S8x256 .f32 × FVec Ideal S8x256 .f32 × FVec Ideal S8x256 .f32 × FVec Ideal S8x256 .f32 × FVec Ideal S8x256 .f32 × FVec Ideal S8x256 .f32 × FVec Ideal S8x256 .f32)
    (b : Fin 8) (n : Fin 256) :
    (((tripR_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  arg1 k0_h4 X23 X25 k acc).1 (ix2 b n), (tripR_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  arg1 k0_h4 X23 X25 k acc).2.1 (ix2 b n)) : EReal × EReal)
      = step (turn arg25.view X25 b (⟨0 + n.val, by omega⟩ : Fin 1024)) (push arg23.view X23 (16 * k.val + 8 + b.val) (by have := trips6 k; omega) (⟨0 + n.val, by omega⟩ : Fin 1024))
          (step (turn arg25.view X25 b (⟨0 + n.val, by omega⟩ : Fin 1024)) (push arg23.view X23 (16 * k.val + b.val) (by have := trips6 k; omega) (⟨0 + n.val, by omega⟩ : Fin 1024))
            (acc.1 (ix2 b n), acc.2.1 (ix2 b n))) := by
  have hk := trips6 k
  unfold tripR_k0_t6 trip_k0_t6
  dsimp only
  unfold trip_k0_t6.sl.r_11 trip_k0_t6.sl.r_12 trip_k0_t6.sl.r_9 trip_k0_t6.sl.r_10 trip_k0_t6.sl.r trip_k0_t6.sl.r_1
  have e0 : View.readAt (Elt Ideal) arg23.view (Rect.unit (s := S512x2048) (k0_off54 k) S8x256.size (k0_off54_inb i k k0_h4)).toLoadRect X23 (ix2 b n)
      = (push arg23.view X23 (16 * k.val + b.val) (by omega) (⟨0 + n.val, by omega⟩ : Fin 1024)).1 := (load_push arg23.view X23 (k0_off54 k) _ _ (off54_closed k) _ b n (by omega) (by omega)).trans rfl
  have e1 : View.readAt (Elt Ideal) arg23.view (Rect.unit (s := S512x2048) (k0_off55 k) S8x256.size (k0_off55_inb i k k0_h4)).toLoadRect X23 (ix2 b n)
      = (push arg23.view X23 (16 * k.val + b.val) (by omega) (⟨0 + n.val, by omega⟩ : Fin 1024)).2 := (load_push arg23.view X23 (k0_off55 k) _ _ (off55_closed k) _ b n (by omega) (by omega)).trans (congrArg (fun z : Fin 2048 => arg23.view.read (Elt Ideal) X23 (ix2 (_ : Fin 512) z)) (Fin.ext (by show 0+1024 + n.val = 1024 + (0 + n.val); omega)))
  have e2 : View.readAt (Elt Ideal) arg23.view (Rect.unit (s := S512x2048) (k0_off62 k) S8x256.size (k0_off62_inb i k k0_h4)).toLoadRect X23 (ix2 b n)
      = (push arg23.view X23 (16 * k.val + 8 + b.val) (by omega) (⟨0 + n.val, by omega⟩ : Fin 1024)).1 := (load_push arg23.view X23 (k0_off62 k) _ _ (off62_closed k) _ b n (by omega) (by omega)).trans rfl
  have e3 : View.readAt (Elt Ideal) arg23.view (Rect.unit (s := S512x2048) (k0_off63 k) S8x256.size (k0_off63_inb i k k0_h4)).toLoadRect X23 (ix2 b n)
      = (push arg23.view X23 (16 * k.val + 8 + b.val) (by omega) (⟨0 + n.val, by omega⟩ : Fin 1024)).2 := (load_push arg23.view X23 (k0_off63 k) _ _ (off63_closed k) _ b n (by omega) (by omega)).trans (congrArg (fun z : Fin 2048 => arg23.view.read (Elt Ideal) X23 (ix2 (_ : Fin 512) z)) (Fin.ext (by show 0+1024 + n.val = 1024 + (0 + n.val); omega)))
  have e4 : View.readAt (Elt Ideal) arg25.view (Rect.unit (s := S2x8x1024) ![0, 0, 0] S1x8x256.size inb_S2x8x1024_S1x8x256_0_0_0).toLoadRect X25 (ix3 (0 : Fin 1) b n)
      = (turn arg25.view X25 b (⟨0 + n.val, by omega⟩ : Fin 1024)).1 := (load_turn arg25.view X25 0 0 _ b n (by omega) (by omega)).trans rfl
  have e5 : View.readAt (Elt Ideal) arg25.view (Rect.unit (s := S2x8x1024) ![1, 0, 0] S1x8x256.size inb_S2x8x1024_S1x8x256_1_0_0).toLoadRect X25 (ix3 (0 : Fin 1) b n)
      = (turn arg25.view X25 b (⟨0 + n.val, by omega⟩ : Fin 1024)).2 := (load_turn arg25.view X25 1 0 _ b n (by omega) (by omega)).trans rfl
  have r1 := (pay256 acc.1 acc.2.1 _ _ _ b n).trans (re_of e4 e5 (H := (acc.1 (ix2 b n), acc.2.1 (ix2 b n))) rfl rfl (U := push arg23.view X23 (16 * k.val + b.val) (by omega) (⟨0 + n.val, by omega⟩ : Fin 1024)) e0)
  have i1 := (pay257 acc.1 acc.2.1 _ _ _ b n).trans (im_of e4 e5 (H := (acc.1 (ix2 b n), acc.2.1 (ix2 b n))) rfl rfl (U := push arg23.view X23 (16 * k.val + b.val) (by omega) (⟨0 + n.val, by omega⟩ : Fin 1024)) e1)
  exact Prod.ext ((first2 _ _ _ _ _ b n).trans (re_of e4 e5 r1 i1 e2)) ((first3 _ _ _ _ _ b n).trans (im_of e4 e5 r1 i1 e3))

set_option maxHeartbeats 1000000 in
/-- Columns 256 to 511. -/
theorem trip_1 (X23 : BufTy.Contents (Elt Ideal) arg23.view.ty) (X25 : BufTy.Contents (Elt Ideal) arg25.view.ty) (k : Fin k0_t6_loop.trips)
    (acc : FVec Ideal S8x256 .f32 × FVec Ideal S8x256 .f32 × FVec Ideal S8x256 .f32 × FVec Ideal S8x256 .f32 × FVec Ideal S8x256 .f32 × FVec Ideal S8x256 .f32 × FVec Ideal S8x256 .f32 × FVec Ideal S8x256 .f32)
    (b : Fin 8) (n : Fin 256) :
    (((tripR_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  arg1 k0_h4 X23 X25 k acc).2.2.1 (ix2 b n), (tripR_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  arg1 k0_h4 X23 X25 k acc).2.2.2.1 (ix2 b n)) : EReal × EReal)
      = step (turn arg25.view X25 b (⟨256 + n.val, by omega⟩ : Fin 1024)) (push arg23.view X23 (16 * k.val + 8 + b.val) (by have := trips6 k; omega) (⟨256 + n.val, by omega⟩ : Fin 1024))
          (step (turn arg25.view X25 b (⟨256 + n.val, by omega⟩ : Fin 1024)) (push arg23.view X23 (16 * k.val + b.val) (by have := trips6 k; omega) (⟨256 + n.val, by omega⟩ : Fin 1024))
            (acc.2.2.1 (ix2 b n), acc.2.2.2.1 (ix2 b n))) := by
  have hk := trips6 k
  unfold tripR_k0_t6 trip_k0_t6
  dsimp only
  unfold trip_k0_t6.sl.r_13 trip_k0_t6.sl.r_14 trip_k0_t6.sl.r_2 trip_k0_t6.sl.r_3
  have e0 : View.readAt (Elt Ideal) arg23.view (Rect.unit (s := S512x2048) (k0_off56 k) S8x256.size (k0_off56_inb i k k0_h4)).toLoadRect X23 (ix2 b n)
      = (push arg23.view X23 (16 * k.val + b.val) (by omega) (⟨256 + n.val, by omega⟩ : Fin 1024)).1 := (load_push arg23.view X23 (k0_off56 k) _ _ (off56_closed k) _ b n (by omega) (by omega)).trans rfl
  have e1 : View.readAt (Elt Ideal) arg23.view (Rect.unit (s := S512x2048) (k0_off57 k) S8x256.size (k0_off57_inb i k k0_h4)).toLoadRect X23 (ix2 b n)
      = (push arg23.view X23 (16 * k.val + b.val) (by omega) (⟨256 + n.val, by omega⟩ : Fin 1024)).2 := (load_push arg23.view X23 (k0_off57 k) _ _ (off57_closed k) _ b n (by omega) (by omega)).trans (congrArg (fun z : Fin 2048 => arg23.view.read (Elt Ideal) X23 (ix2 (_ : Fin 512) z)) (Fin.ext (by show 256+1024 + n.val = 1024 + (256 + n.val); omega)))
  have e2 : View.readAt (Elt Ideal) arg23.view (Rect.unit (s := S512x2048) (k0_off64 k) S8x256.size (k0_off64_inb i k k0_h4)).toLoadRect X23 (ix2 b n)
      = (push arg23.view X23 (16 * k.val + 8 + b.val) (by omega) (⟨256 + n.val, by omega⟩ : Fin 1024)).1 := (load_push arg23.view X23 (k0_off64 k) _ _ (off64_closed k) _ b n (by omega) (by omega)).trans rfl
  have e3 : View.readAt (Elt Ideal) arg23.view (Rect.unit (s := S512x2048) (k0_off65 k) S8x256.size (k0_off65_inb i k k0_h4)).toLoadRect X23 (ix2 b n)
      = (push arg23.view X23 (16 * k.val + 8 + b.val) (by omega) (⟨256 + n.val, by omega⟩ : Fin 1024)).2 := (load_push arg23.view X23 (k0_off65 k) _ _ (off65_closed k) _ b n (by omega) (by omega)).trans (congrArg (fun z : Fin 2048 => arg23.view.read (Elt Ideal) X23 (ix2 (_ : Fin 512) z)) (Fin.ext (by show 256+1024 + n.val = 1024 + (256 + n.val); omega)))
  have e4 : View.readAt (Elt Ideal) arg25.view (Rect.unit (s := S2x8x1024) ![0, 0, 256] S1x8x256.size inb_S2x8x1024_S1x8x256_0_0_256).toLoadRect X25 (ix3 (0 : Fin 1) b n)
      = (turn arg25.view X25 b (⟨256 + n.val, by omega⟩ : Fin 1024)).1 := (load_turn arg25.view X25 0 256 _ b n (by omega) (by omega)).trans rfl
  have e5 : View.readAt (Elt Ideal) arg25.view (Rect.unit (s := S2x8x1024) ![1, 0, 256] S1x8x256.size inb_S2x8x1024_S1x8x256_1_0_256).toLoadRect X25 (ix3 (0 : Fin 1) b n)
      = (turn arg25.view X25 b (⟨256 + n.val, by omega⟩ : Fin 1024)).2 := (load_turn arg25.view X25 1 256 _ b n (by omega) (by omega)).trans rfl
  have r1 := (pay260 acc.2.2.1 acc.2.2.2.1 _ _ _ b n).trans (re_of e4 e5 (H := (acc.2.2.1 (ix2 b n), acc.2.2.2.1 (ix2 b n))) rfl rfl (U := push arg23.view X23 (16 * k.val + b.val) (by omega) (⟨256 + n.val, by omega⟩ : Fin 1024)) e0)
  have i1 := (pay261 acc.2.2.1 acc.2.2.2.1 _ _ _ b n).trans (im_of e4 e5 (H := (acc.2.2.1 (ix2 b n), acc.2.2.2.1 (ix2 b n))) rfl rfl (U := push arg23.view X23 (16 * k.val + b.val) (by omega) (⟨256 + n.val, by omega⟩ : Fin 1024)) e1)
  exact Prod.ext ((pay278 _ _ _ _ _ b n).trans (re_of e4 e5 r1 i1 e2)) ((pay279 _ _ _ _ _ b n).trans (im_of e4 e5 r1 i1 e3))

set_option maxHeartbeats 1000000 in
/-- Columns 512 to 767. -/
theorem trip_2 (X23 : BufTy.Contents (Elt Ideal) arg23.view.ty) (X25 : BufTy.Contents (Elt Ideal) arg25.view.ty) (k : Fin k0_t6_loop.trips)
    (acc : FVec Ideal S8x256 .f32 × FVec Ideal S8x256 .f32 × FVec Ideal S8x256 .f32 × FVec Ideal S8x256 .f32 × FVec Ideal S8x256 .f32 × FVec Ideal S8x256 .f32 × FVec Ideal S8x256 .f32 × FVec Ideal S8x256 .f32)
    (b : Fin 8) (n : Fin 256) :
    (((tripR_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  arg1 k0_h4 X23 X25 k acc).2.2.2.2.1 (ix2 b n), (tripR_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  arg1 k0_h4 X23 X25 k acc).2.2.2.2.2.1 (ix2 b n)) : EReal × EReal)
      = step (turn arg25.view X25 b (⟨512 + n.val, by omega⟩ : Fin 1024)) (push arg23.view X23 (16 * k.val + 8 + b.val) (by have := trips6 k; omega) (⟨512 + n.val, by omega⟩ : Fin 1024))
          (step (turn arg25.view X25 b (⟨512 + n.val, by omega⟩ : Fin 1024)) (push arg23.view X23 (16 * k.val + b.val) (by have := trips6 k; omega) (⟨512 + n.val, by omega⟩ : Fin 1024))
            (acc.2.2.2.2.1 (ix2 b n), acc.2.2.2.2.2.1 (ix2 b n))) := by
  have hk := trips6 k
  unfold tripR_k0_t6 trip_k0_t6
  dsimp only
  unfold trip_k0_t6.sl.r_15 trip_k0_t6.sl.r_16 trip_k0_t6.sl.r_5 trip_k0_t6.sl.r_6 trip_k0_t6.sl.r_4
  have e0 : View.readAt (Elt Ideal) arg23.view (Rect.unit (s := S512x2048) (k0_off58 k) S8x256.size (k0_off58_inb i k k0_h4)).toLoadRect X23 (ix2 b n)
      = (push arg23.view X23 (16 * k.val + b.val) (by omega) (⟨512 + n.val, by omega⟩ : Fin 1024)).1 := (load_push arg23.view X23 (k0_off58 k) _ _ (off58_closed k) _ b n (by omega) (by omega)).trans rfl
  have e1 : View.readAt (Elt Ideal) arg23.view (Rect.unit (s := S512x2048) (k0_off59 k) S8x256.size (k0_off59_inb i k k0_h4)).toLoadRect X23 (ix2 b n)
      = (push arg23.view X23 (16 * k.val + b.val) (by omega) (⟨512 + n.val, by omega⟩ : Fin 1024)).2 := (load_push arg23.view X23 (k0_off59 k) _ _ (off59_closed k) _ b n (by omega) (by omega)).trans (congrArg (fun z : Fin 2048 => arg23.view.read (Elt Ideal) X23 (ix2 (_ : Fin 512) z)) (Fin.ext (by show 512+1024 + n.val = 1024 + (512 + n.val); omega)))
  have e2 : View.readAt (Elt Ideal) arg23.view (Rect.unit (s := S512x2048) (k0_off66 k) S8x256.size (k0_off66_inb i k k0_h4)).toLoadRect X23 (ix2 b n)
      = (push arg23.view X23 (16 * k.val + 8 + b.val) (by omega) (⟨512 + n.val, by omega⟩ : Fin 1024)).1 := (load_push arg23.view X23 (k0_off66 k) _ _ (off66_closed k) _ b n (by omega) (by omega)).trans rfl
  have e3 : View.readAt (Elt Ideal) arg23.view (Rect.unit (s := S512x2048) (k0_off67 k) S8x256.size (k0_off67_inb i k k0_h4)).toLoadRect X23 (ix2 b n)
      = (push arg23.view X23 (16 * k.val + 8 + b.val) (by omega) (⟨512 + n.val, by omega⟩ : Fin 1024)).2 := (load_push arg23.view X23 (k0_off67 k) _ _ (off67_closed k) _ b n (by omega) (by omega)).trans (congrArg (fun z : Fin 2048 => arg23.view.read (Elt Ideal) X23 (ix2 (_ : Fin 512) z)) (Fin.ext (by show 512+1024 + n.val = 1024 + (512 + n.val); omega)))
  have e4 : View.readAt (Elt Ideal) arg25.view (Rect.unit (s := S2x8x1024) ![0, 0, 512] S1x8x256.size inb_S2x8x1024_S1x8x256_0_0_512).toLoadRect X25 (ix3 (0 : Fin 1) b n)
      = (turn arg25.view X25 b (⟨512 + n.val, by omega⟩ : Fin 1024)).1 := (load_turn arg25.view X25 0 512 _ b n (by omega) (by omega)).trans rfl
  have e5 : View.readAt (Elt Ideal) arg25.view (Rect.unit (s := S2x8x1024) ![1, 0, 512] S1x8x256.size inb_S2x8x1024_S1x8x256_1_0_512).toLoadRect X25 (ix3 (0 : Fin 1) b n)
      = (turn arg25.view X25 b (⟨512 + n.val, by omega⟩ : Fin 1024)).2 := (load_turn arg25.view X25 1 512 _ b n (by omega) (by omega)).trans rfl
  have r1 := (pay264 acc.2.2.2.2.1 acc.2.2.2.2.2.1 _ _ _ b n).trans (re_of ((pay262 _ b n).trans e4) e5 (H := (acc.2.2.2.2.1 (ix2 b n), acc.2.2.2.2.2.1 (ix2 b n))) rfl rfl (U := push arg23.view X23 (16 * k.val + b.val) (by omega) (⟨512 + n.val, by omega⟩ : Fin 1024)) e0)
  have i1 := (pay265 acc.2.2.2.2.1 acc.2.2.2.2.2.1 _ _ _ b n).trans (im_of ((pay262 _ b n).trans e4) e5 (H := (acc.2.2.2.2.1 (ix2 b n), acc.2.2.2.2.2.1 (ix2 b n))) rfl rfl (U := push arg23.view X23 (16 * k.val + b.val) (by omega) (⟨512 + n.val, by omega⟩ : Fin 1024)) e1)
  exact Prod.ext ((pay282 _ _ _ _ _ b n).trans (re_of e4 e5 r1 i1 e2)) ((pay283 _ _ _ _ _ b n).trans (im_of e4 e5 r1 i1 e3))

set_option maxHeartbeats 1000000 in
/-- Columns 768 to 1023. -/
theorem trip_3 (X23 : BufTy.Contents (Elt Ideal) arg23.view.ty) (X25 : BufTy.Contents (Elt Ideal) arg25.view.ty) (k : Fin k0_t6_loop.trips)
    (acc : FVec Ideal S8x256 .f32 × FVec Ideal S8x256 .f32 × FVec Ideal S8x256 .f32 × FVec Ideal S8x256 .f32 × FVec Ideal S8x256 .f32 × FVec Ideal S8x256 .f32 × FVec Ideal S8x256 .f32 × FVec Ideal S8x256 .f32)
    (b : Fin 8) (n : Fin 256) :
    (((tripR_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  arg1 k0_h4 X23 X25 k acc).2.2.2.2.2.2.1 (ix2 b n), (tripR_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  arg1 k0_h4 X23 X25 k acc).2.2.2.2.2.2.2 (ix2 b n)) : EReal × EReal)
      = step (turn arg25.view X25 b (⟨768 + n.val, by omega⟩ : Fin 1024)) (push arg23.view X23 (16 * k.val + 8 + b.val) (by have := trips6 k; omega) (⟨768 + n.val, by omega⟩ : Fin 1024))
          (step (turn arg25.view X25 b (⟨768 + n.val, by omega⟩ : Fin 1024)) (push arg23.view X23 (16 * k.val + b.val) (by have := trips6 k; omega) (⟨768 + n.val, by omega⟩ : Fin 1024))
            (acc.2.2.2.2.2.2.1 (ix2 b n), acc.2.2.2.2.2.2.2 (ix2 b n))) := by
  have hk := trips6 k
  unfold tripR_k0_t6 trip_k0_t6
  dsimp only
  unfold trip_k0_t6.sl.r_18 trip_k0_t6.sl.r_19 trip_k0_t6.sl.r_7 trip_k0_t6.sl.r_8 trip_k0_t6.sl.r_17
  have e0 : View.readAt (Elt Ideal) arg23.view (Rect.unit (s := S512x2048) (k0_off60 k) S8x256.size (k0_off60_inb i k k0_h4)).toLoadRect X23 (ix2 b n)
      = (push arg23.view X23 (16 * k.val + b.val) (by omega) (⟨768 + n.val, by omega⟩ : Fin 1024)).1 := (load_push arg23.view X23 (k0_off60 k) _ _ (off60_closed k) _ b n (by omega) (by omega)).trans rfl
  have e1 : View.readAt (Elt Ideal) arg23.view (Rect.unit (s := S512x2048) (k0_off61 k) S8x256.size (k0_off61_inb i k k0_h4)).toLoadRect X23 (ix2 b n)
      = (push arg23.view X23 (16 * k.val + b.val) (by omega) (⟨768 + n.val, by omega⟩ : Fin 1024)).2 := (load_push arg23.view X23 (k0_off61 k) _ _ (off61_closed k) _ b n (by omega) (by omega)).trans (congrArg (fun z : Fin 2048 => arg23.view.read (Elt Ideal) X23 (ix2 (_ : Fin 512) z)) (Fin.ext (by show 768+1024 + n.val = 1024 + (768 + n.val); omega)))
  have e2 : View.readAt (Elt Ideal) arg23.view (Rect.unit (s := S512x2048) (k0_off68 k) S8x256.size (k0_off68_inb i k k0_h4)).toLoadRect X23 (ix2 b n)
      = (push arg23.view X23 (16 * k.val + 8 + b.val) (by omega) (⟨768 + n.val, by omega⟩ : Fin 1024)).1 := (load_push arg23.view X23 (k0_off68 k) _ _ (off68_closed k) _ b n (by omega) (by omega)).trans rfl
  have e3 : View.readAt (Elt Ideal) arg23.view (Rect.unit (s := S512x2048) (k0_off69 k) S8x256.size (k0_off69_inb i k k0_h4)).toLoadRect X23 (ix2 b n)
      = (push arg23.view X23 (16 * k.val + 8 + b.val) (by omega) (⟨768 + n.val, by omega⟩ : Fin 1024)).2 := (load_push arg23.view X23 (k0_off69 k) _ _ (off69_closed k) _ b n (by omega) (by omega)).trans (congrArg (fun z : Fin 2048 => arg23.view.read (Elt Ideal) X23 (ix2 (_ : Fin 512) z)) (Fin.ext (by show 768+1024 + n.val = 1024 + (768 + n.val); omega)))
  have e4 : View.readAt (Elt Ideal) arg25.view (Rect.unit (s := S2x8x1024) ![0, 0, 768] S1x8x256.size inb_S2x8x1024_S1x8x256_0_0_768).toLoadRect X25 (ix3 (0 : Fin 1) b n)
      = (turn arg25.view X25 b (⟨768 + n.val, by omega⟩ : Fin 1024)).1 := (load_turn arg25.view X25 0 768 _ b n (by omega) (by omega)).trans rfl
  have e5 : View.readAt (Elt Ideal) arg25.view (Rect.unit (s := S2x8x1024) ![1, 0, 768] S1x8x256.size inb_S2x8x1024_S1x8x256_1_0_768).toLoadRect X25 (ix3 (0 : Fin 1) b n)
      = (turn arg25.view X25 b (⟨768 + n.val, by omega⟩ : Fin 1024)).2 := (load_turn arg25.view X25 1 768 _ b n (by omega) (by omega)).trans rfl
  have r1 := (pay268 acc.2.2.2.2.2.2.1 acc.2.2.2.2.2.2.2 _ _ _ b n).trans (re_of e4 e5 (H := (acc.2.2.2.2.2.2.1 (ix2 b n), acc.2.2.2.2.2.2.2 (ix2 b n))) rfl rfl (U := push arg23.view X23 (16 * k.val + b.val) (by omega) (⟨768 + n.val, by omega⟩ : Fin 1024)) e0)
  have i1 := (pay269 acc.2.2.2.2.2.2.1 acc.2.2.2.2.2.2.2 _ _ _ b n).trans (im_of e4 e5 (H := (acc.2.2.2.2.2.2.1 (ix2 b n), acc.2.2.2.2.2.2.2 (ix2 b n))) rfl rfl (U := push arg23.view X23 (16 * k.val + b.val) (by omega) (⟨768 + n.val, by omega⟩ : Fin 1024)) e1)
  exact Prod.ext ((pay286 _ _ _ _ _ b n).trans (re_of e4 e5 r1 i1 e2)) ((pay287 _ _ _ _ _ b n).trans (im_of e4 e5 r1 i1 e3))

end Cert.Kernel5Ideal.Scan

end
-- ==== Proof.Scan.Ideal.Turns.lean ====
/- The loop over the sixteen steps: an entry of the state after any number of trips. -/
module

public import proofs.«01_k».proof.Proof.Scan.Ideal.Trip

@[expose] public section

set_option maxRecDepth 16384

noncomputable section

namespace Cert.Kernel5Ideal.Scan

open Idealize.ShloMosaic Idealize.ShloMosaic.TcCoe Idealize.ShloMosaic.ValueIdx Idealize.SL.Sem
open Idealize.ShloMosaic.Pipeline (Dat RDat Cfg Window BodyObligation cellOf)
open Cert.Scan (step state)
open Cert.Kernel5Ideal Cert.Kernel5Ideal.Gen

/-- The push at step `t`, for row `b` of the batch. -/
def pushAt (v : View sig .tc .vmem S512x2048 .f32) (g : v.ty.Contents (Elt Ideal)) (b : Fin 8) (m : Fin 1024) (t : Nat) : EReal × EReal :=
  if h : 8 * t + b.val < 512 then push v g (8 * t + b.val) h m else (0, 0)

theorem pushAt_eq (v : View sig .tc .vmem S512x2048 .f32) (g : v.ty.Contents (Elt Ideal)) (b : Fin 8) (m : Fin 1024) (t r : Nat) (hr : r < 512)
    (e : r = 8 * t + b.val) : push v g r hr m = pushAt v g b m t := by
  subst e; unfold pushAt; rw [dif_pos hr]

variable (𝒱 : Variants) (c : Dev nD) (bd : Option 𝒱.V)  (i : grid0.Coords) (arg2 : Memref sig .tc .vmem S512x128 .f32) (harg2 : arg2.IsWhole) (arg3 : Memref sig .tc .vmem S512x128 .f32) (harg3 : arg3.IsWhole) (arg4 : Memref sig .tc .vmem S1x1x256x2048 .bf16) (harg4 : arg4.IsWhole) (arg5 : Memref sig .tc .vmem S1x1x2048x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S1x1x1x256 .f32) (harg10 : arg10.IsWhole) (arg11 : Memref sig .tc .vmem S1x8x1x2048 .f32) (harg11 : arg11.IsWhole) (arg12 : Memref sig .tc .vmem S8x8x2048 .f32) (harg12 : arg12.IsWhole) (arg13 : Memref sig .tc .vmem S1x2048x2048 .bf16) (harg13 : arg13.IsWhole) (arg14 : Memref sig .tc .vmem S1x2048 .f32) (harg14 : arg14.IsWhole) (arg15 : Memref sig .tc .vmem S1x4096x128 .f32) (harg15 : arg15.IsWhole) (arg16 : Memref sig .tc .vmem S1x4096x128 .f32) (harg16 : arg16.IsWhole) (arg17 : Memref sig .tc .vmem S512x2048 .bf16) (harg17 : arg17.IsWhole) (arg18 : Memref sig .tc .vmem S1x8x1x2048 .f32) (harg18 : arg18.IsWhole) (arg19 : Memref sig .tc .vmem S8x8x2048 .f32) (harg19 : arg19.IsWhole) (arg20 : Memref sig .tc .vmem S1x4096x128 .bf16) (harg20 : arg20.IsWhole) (arg21 : Memref sig .tc .vmem S1x4096x128 .bf16) (harg21 : arg21.IsWhole) (arg22 : Memref sig .tc .vmem S512x256 .f32) (harg22 : arg22.IsWhole) (arg23 : Memref sig .tc .vmem S512x2048 .f32) (harg23 : arg23.IsWhole) (arg24 : Memref sig .tc .vmem S512x2048 .bf16) (harg24 : arg24.IsWhole) (arg25 : Memref sig .tc .vmem S2x8x1024 .f32) (harg25 : arg25.IsWhole) (arg26 : Memref sig .tc .vmem S16x512x128 .f32) (harg26 : arg26.IsWhole)  (arg1 : BitVec 32) (k0_h4 : k0_cond4 i = 1#1)

/-- Columns 0 to 255. -/
theorem turns_0 (X23 : BufTy.Contents (Elt Ideal) arg23.view.ty) (X25 : BufTy.Contents (Elt Ideal) arg25.view.ty)
    (init : FVec Ideal S8x256 .f32 × FVec Ideal S8x256 .f32 × FVec Ideal S8x256 .f32 × FVec Ideal S8x256 .f32 × FVec Ideal S8x256 .f32 × FVec Ideal S8x256 .f32 × FVec Ideal S8x256 .f32 × FVec Ideal S8x256 .f32)
    (b : Fin 8) (n : Fin 256) : ∀ k : Nat, k ≤ 8 →
    (((st_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  arg1 k0_h4 X23 X25 init k).1.1 (ix2 b n), (st_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  arg1 k0_h4 X23 X25 init k).1.2.1 (ix2 b n)) : EReal × EReal)
      = state (turn arg25.view X25 b (⟨0 + n.val, by omega⟩ : Fin 1024)) (pushAt arg23.view X23 b (⟨0 + n.val, by omega⟩ : Fin 1024)) (init.1 (ix2 b n), init.2.1 (ix2 b n)) (2 * k) := by
  intro k
  induction k with
  | zero => intro _; rfl
  | succ k ih =>
    intro hk
    have hk' : k < k0_t6_loop.trips := lt_of_lt_of_le (Nat.lt_of_succ_le hk) (by decide +kernel)
    have hs := congrArg Prod.fst (st_k0_t6_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  arg1 k0_h4 X23 X25 init ⟨k, hk'⟩)
    rw [show k + 1 = (⟨k, hk'⟩ : Fin k0_t6_loop.trips).val + 1 from rfl, hs]
    refine (trip_0 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  arg1 k0_h4 X23 X25 ⟨k, hk'⟩ _ b n).trans ?_
    have hi := ih (by omega)
    show step _ _ (step _ _ _) = step _ _ (step _ _ _)
    exact congrArg₂ (step _) (pushAt_eq arg23.view X23 b _ (2 * k + 1) _ _ (show 16 * k + 8 + b.val = 8 * (2 * k + 1) + b.val by omega))
      (congrArg₂ (step _) (pushAt_eq arg23.view X23 b _ (2 * k) _ _ (show 16 * k + b.val = 8 * (2 * k) + b.val by omega)) hi)

/-- Columns 256 to 511. -/
theorem turns_1 (X23 : BufTy.Contents (Elt Ideal) arg23.view.ty) (X25 : BufTy.Contents (Elt Ideal) arg25.view.ty)
    (init : FVec Ideal S8x256 .f32 × FVec Ideal S8x256 .f32 × FVec Ideal S8x256 .f32 × FVec Ideal S8x256 .f32 × FVec Ideal S8x256 .f32 × FVec Ideal S8x256 .f32 × FVec Ideal S8x256 .f32 × FVec Ideal S8x256 .f32)
    (b : Fin 8) (n : Fin 256) : ∀ k : Nat, k ≤ 8 →
    (((st_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  arg1 k0_h4 X23 X25 init k).1.2.2.1 (ix2 b n), (st_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  arg1 k0_h4 X23 X25 init k).1.2.2.2.1 (ix2 b n)) : EReal × EReal)
      = state (turn arg25.view X25 b (⟨256 + n.val, by omega⟩ : Fin 1024)) (pushAt arg23.view X23 b (⟨256 + n.val, by omega⟩ : Fin 1024)) (init.2.2.1 (ix2 b n), init.2.2.2.1 (ix2 b n)) (2 * k) := by
  intro k
  induction k with
  | zero => intro _; rfl
  | succ k ih =>
    intro hk
    have hk' : k < k0_t6_loop.trips := lt_of_lt_of_le (Nat.lt_of_succ_le hk) (by decide +kernel)
    have hs := congrArg Prod.fst (st_k0_t6_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  arg1 k0_h4 X23 X25 init ⟨k, hk'⟩)
    rw [show k + 1 = (⟨k, hk'⟩ : Fin k0_t6_loop.trips).val + 1 from rfl, hs]
    refine (trip_1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  arg1 k0_h4 X23 X25 ⟨k, hk'⟩ _ b n).trans ?_
    have hi := ih (by omega)
    show step _ _ (step _ _ _) = step _ _ (step _ _ _)
    exact congrArg₂ (step _) (pushAt_eq arg23.view X23 b _ (2 * k + 1) _ _ (show 16 * k + 8 + b.val = 8 * (2 * k + 1) + b.val by omega))
      (congrArg₂ (step _) (pushAt_eq arg23.view X23 b _ (2 * k) _ _ (show 16 * k + b.val = 8 * (2 * k) + b.val by omega)) hi)

/-- Columns 512 to 767. -/
theorem turns_2 (X23 : BufTy.Contents (Elt Ideal) arg23.view.ty) (X25 : BufTy.Contents (Elt Ideal) arg25.view.ty)
    (init : FVec Ideal S8x256 .f32 × FVec Ideal S8x256 .f32 × FVec Ideal S8x256 .f32 × FVec Ideal S8x256 .f32 × FVec Ideal S8x256 .f32 × FVec Ideal S8x256 .f32 × FVec Ideal S8x256 .f32 × FVec Ideal S8x256 .f32)
    (b : Fin 8) (n : Fin 256) : ∀ k : Nat, k ≤ 8 →
    (((st_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  arg1 k0_h4 X23 X25 init k).1.2.2.2.2.1 (ix2 b n), (st_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  arg1 k0_h4 X23 X25 init k).1.2.2.2.2.2.1 (ix2 b n)) : EReal × EReal)
      = state (turn arg25.view X25 b (⟨512 + n.val, by omega⟩ : Fin 1024)) (pushAt arg23.view X23 b (⟨512 + n.val, by omega⟩ : Fin 1024)) (init.2.2.2.2.1 (ix2 b n), init.2.2.2.2.2.1 (ix2 b n)) (2 * k) := by
  intro k
  induction k with
  | zero => intro _; rfl
  | succ k ih =>
    intro hk
    have hk' : k < k0_t6_loop.trips := lt_of_lt_of_le (Nat.lt_of_succ_le hk) (by decide +kernel)
    have hs := congrArg Prod.fst (st_k0_t6_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  arg1 k0_h4 X23 X25 init ⟨k, hk'⟩)
    rw [show k + 1 = (⟨k, hk'⟩ : Fin k0_t6_loop.trips).val + 1 from rfl, hs]
    refine (trip_2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  arg1 k0_h4 X23 X25 ⟨k, hk'⟩ _ b n).trans ?_
    have hi := ih (by omega)
    show step _ _ (step _ _ _) = step _ _ (step _ _ _)
    exact congrArg₂ (step _) (pushAt_eq arg23.view X23 b _ (2 * k + 1) _ _ (show 16 * k + 8 + b.val = 8 * (2 * k + 1) + b.val by omega))
      (congrArg₂ (step _) (pushAt_eq arg23.view X23 b _ (2 * k) _ _ (show 16 * k + b.val = 8 * (2 * k) + b.val by omega)) hi)

/-- Columns 768 to 1023. -/
theorem turns_3 (X23 : BufTy.Contents (Elt Ideal) arg23.view.ty) (X25 : BufTy.Contents (Elt Ideal) arg25.view.ty)
    (init : FVec Ideal S8x256 .f32 × FVec Ideal S8x256 .f32 × FVec Ideal S8x256 .f32 × FVec Ideal S8x256 .f32 × FVec Ideal S8x256 .f32 × FVec Ideal S8x256 .f32 × FVec Ideal S8x256 .f32 × FVec Ideal S8x256 .f32)
    (b : Fin 8) (n : Fin 256) : ∀ k : Nat, k ≤ 8 →
    (((st_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  arg1 k0_h4 X23 X25 init k).1.2.2.2.2.2.2.1 (ix2 b n), (st_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  arg1 k0_h4 X23 X25 init k).1.2.2.2.2.2.2.2 (ix2 b n)) : EReal × EReal)
      = state (turn arg25.view X25 b (⟨768 + n.val, by omega⟩ : Fin 1024)) (pushAt arg23.view X23 b (⟨768 + n.val, by omega⟩ : Fin 1024)) (init.2.2.2.2.2.2.1 (ix2 b n), init.2.2.2.2.2.2.2 (ix2 b n)) (2 * k) := by
  intro k
  induction k with
  | zero => intro _; rfl
  | succ k ih =>
    intro hk
    have hk' : k < k0_t6_loop.trips := lt_of_lt_of_le (Nat.lt_of_succ_le hk) (by decide +kernel)
    have hs := congrArg Prod.fst (st_k0_t6_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  arg1 k0_h4 X23 X25 init ⟨k, hk'⟩)
    rw [show k + 1 = (⟨k, hk'⟩ : Fin k0_t6_loop.trips).val + 1 from rfl, hs]
    refine (trip_3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  arg1 k0_h4 X23 X25 ⟨k, hk'⟩ _ b n).trans ?_
    have hi := ih (by omega)
    show step _ _ (step _ _ _) = step _ _ (step _ _ _)
    exact congrArg₂ (step _) (pushAt_eq arg23.view X23 b _ (2 * k + 1) _ _ (show 16 * k + 8 + b.val = 8 * (2 * k + 1) + b.val by omega))
      (congrArg₂ (step _) (pushAt_eq arg23.view X23 b _ (2 * k) _ _ (show 16 * k + b.val = 8 * (2 * k) + b.val by omega)) hi)

end Cert.Kernel5Ideal.Scan

end
-- ==== Proof.Scan.Ideal.Gather.lean ====
/- The gather: the eight sequences' rows at one step, side by side. -/
module

public import proofs.«01_k».proof.Proof.Scan.Ideal.Trip

@[expose] public section

set_option maxRecDepth 16384

noncomputable section

namespace Cert.Kernel5Ideal.Scan

open Idealize.ShloMosaic Idealize.ShloMosaic.TcCoe Idealize.ShloMosaic.ValueIdx Idealize.SL.Sem
open Idealize.ShloMosaic.Pipeline (Dat RDat Cfg Window BodyObligation cellOf)
open Cert.Kernel5Ideal Cert.Kernel5Ideal.Gen

theorem off50_closed : ∀ k : Fin k0_t5_loop.trips, k0_off50 k = ![k.val, 0] := by decide +kernel
theorem off51_closed : ∀ k : Fin k0_t5_loop.trips, k0_off51 k = ![8 * k.val, 0] := by decide +kernel
theorem off52_closed : ∀ k : Fin k0_t5_loop.trips, k0_off52 k = ![8 * k.val, 128] := by decide +kernel
theorem trips5 (k : Fin k0_t5_loop.trips) : k.val < 16 := lt_of_lt_of_le k.isLt (by decide +kernel)

variable (𝒱 : Variants) (c : Dev nD) (bd : Option 𝒱.V)  (i : grid0.Coords) (arg2 : Memref sig .tc .vmem S512x128 .f32) (harg2 : arg2.IsWhole) (arg3 : Memref sig .tc .vmem S512x128 .f32) (harg3 : arg3.IsWhole) (arg4 : Memref sig .tc .vmem S1x1x256x2048 .bf16) (harg4 : arg4.IsWhole) (arg5 : Memref sig .tc .vmem S1x1x2048x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S1x1x1x256 .f32) (harg10 : arg10.IsWhole) (arg11 : Memref sig .tc .vmem S1x8x1x2048 .f32) (harg11 : arg11.IsWhole) (arg12 : Memref sig .tc .vmem S8x8x2048 .f32) (harg12 : arg12.IsWhole) (arg13 : Memref sig .tc .vmem S1x2048x2048 .bf16) (harg13 : arg13.IsWhole) (arg14 : Memref sig .tc .vmem S1x2048 .f32) (harg14 : arg14.IsWhole) (arg15 : Memref sig .tc .vmem S1x4096x128 .f32) (harg15 : arg15.IsWhole) (arg16 : Memref sig .tc .vmem S1x4096x128 .f32) (harg16 : arg16.IsWhole) (arg17 : Memref sig .tc .vmem S512x2048 .bf16) (harg17 : arg17.IsWhole) (arg18 : Memref sig .tc .vmem S1x8x1x2048 .f32) (harg18 : arg18.IsWhole) (arg19 : Memref sig .tc .vmem S8x8x2048 .f32) (harg19 : arg19.IsWhole) (arg20 : Memref sig .tc .vmem S1x4096x128 .bf16) (harg20 : arg20.IsWhole) (arg21 : Memref sig .tc .vmem S1x4096x128 .bf16) (harg21 : arg21.IsWhole) (arg22 : Memref sig .tc .vmem S512x256 .f32) (harg22 : arg22.IsWhole) (arg23 : Memref sig .tc .vmem S512x2048 .f32) (harg23 : arg23.IsWhole) (arg24 : Memref sig .tc .vmem S512x2048 .bf16) (harg24 : arg24.IsWhole) (arg25 : Memref sig .tc .vmem S2x8x1024 .f32) (harg25 : arg25.IsWhole) (arg26 : Memref sig .tc .vmem S16x512x128 .f32) (harg26 : arg26.IsWhole)  (arg1 : BitVec 32) (k0_h4 : k0_cond4 i = 1#1)

/-- One trip's two stores. -/
theorem trip5_eq (X2 : BufTy.Contents (Elt Ideal) arg2.view.ty) (X3 : BufTy.Contents (Elt Ideal) arg3.view.ty) (k : Fin k0_t5_loop.trips) :
    tripL_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  arg1 k0_h4 X2 X3 k
      = [⟨Rect.unit (s := S512x256) (k0_off52 k) S8x128.size (k0_off52_inb i k k0_h4),
          k0_pay306 (F := Ideal) (View.readAt (Elt Ideal) arg3.view (⟨k0_off50 k, S8x128.size, ![16, 1], k0_off50_inb i k k0_h4⟩ : LoadRect S512x128) X3)⟩,
         ⟨Rect.unit (s := S512x256) (k0_off51 k) S8x128.size (k0_off51_inb i k k0_h4),
          k0_pay305 (F := Ideal) (View.readAt (Elt Ideal) arg2.view (⟨k0_off50 k, S8x128.size, ![16, 1], k0_off50_inb i k k0_h4⟩ : LoadRect S512x128) X2)⟩] := by
  unfold tripL_k0_t5 trip_k0_t5
  rfl

/-- A load of every sixteenth row, at an index. -/
theorem load_every (v : Memref sig .tc .vmem S512x128 .f32) (hv : v.IsWhole) (x : Vec Ideal S512x128 .f32) (k : Fin k0_t5_loop.trips) (b : Fin 8) (n : Fin 128)
    (r : Fin 512) (hr : r.val = k.val + 16 * b.val) :
    View.readAt (Elt Ideal) v.view (⟨k0_off50 k, S8x128.size, ![16, 1], k0_off50_inb i k k0_h4⟩ : LoadRect S512x128) (hv.unread x) (ix2 b n) = x (ix2 r n) := by
  refine (congrArg (fun z => v.view.read (Elt Ideal) (hv.unread x) z) ?_).trans (congrFun (hv.read_unread x) (ix2 r n))
  funext a; apply Fin.ext
  match a with
  | ⟨0, _⟩ =>
    show k0_off50 k 0 + 16 * b.val = r.val
    rw [off50_closed]; exact hr.symm
  | ⟨1, _⟩ =>
    show k0_off50 k 1 + 1 * n.val = n.val
    rw [off50_closed]; show 0 + 1 * n.val = n.val; omega

/-- The gathered entry at row `r` and column `q`: step `r / 8` of sequence `r % 8`. -/
def gathered (x2 x3 : Vec Ideal S512x128 .f32) (r : Nat) (h : r < 128) (q : Fin 256) : EReal :=
  if hq : q.val < 128 then x2 (ix2 (⟨r / 8 + 16 * (r % 8), by omega⟩ : Fin 512) (⟨q.val, hq⟩ : Fin 128))
  else x3 (ix2 (⟨r / 8 + 16 * (r % 8), by omega⟩ : Fin 512) (⟨q.val - 128, by omega⟩ : Fin 128))

/-- After `k` trips the rows below `8 * k` are gathered. -/
theorem gather (x2 x3 : Vec Ideal S512x128 .f32) (v : View sig .tc .vmem S512x256 .f32) (f : v.ty.Contents (Elt Ideal)) :
    ∀ k : Nat, k ≤ 16 → ∀ (r : Fin 512) (q : Fin 256) (h : r.val < 128), r.val < 8 * k →
      v.read (Elt Ideal) (v.writes (Elt Ideal) f (pb_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  arg1 k0_h4 (harg2.unread x2) (harg3.unread x3) k)) (ix2 r q)
        = gathered x2 x3 r.val h q := by
  intro k
  induction k with
  | zero => intro _ r n _ h; omega
  | succ k ih =>
    intro hk r q h128 hr
    have hk' : k < k0_t5_loop.trips := lt_of_lt_of_le (Nat.lt_of_succ_le hk) (by decide +kernel)
    have hs := pb_k0_t5_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  arg1 k0_h4 (harg2.unread x2) (harg3.unread x3) ⟨k, hk'⟩
    rw [trip5_eq] at hs
    rw [show k + 1 = (⟨k, hk'⟩ : Fin k0_t5_loop.trips).val + 1 from rfl, hs]
    show v.read (Elt Ideal) (v.writes (Elt Ideal) f (_ :: _ :: _)) (ix2 r q) = _
    by_cases hlt : r.val < 8 * k
    · refine (View.read_writes_cons_unit_of_not_mem v f _ _ _ (ix2 r q) (off52_closed ⟨k, hk'⟩) 0 (.inl hlt)).trans ?_
      refine (View.read_writes_cons_unit_of_not_mem v f _ _ _ (ix2 r q) (off51_closed ⟨k, hk'⟩) 0 (.inl hlt)).trans ?_
      exact ih (by omega) r q h128 hlt
    · have hb : r.val - 8 * k < 8 := by omega
      have h8 : r.val / 8 = k := by omega
      have hm : r.val % 8 = r.val - 8 * k := by omega
      by_cases hq : q.val < 128
      · refine (View.read_writes_cons_unit_of_not_mem v f _ _ _ (ix2 r q) (off52_closed ⟨k, hk'⟩) 1 (.inl hq)).trans ?_
        refine (View.read_writes_cons_unit_of_mem v f _ _ _ (ix2 r q) (ix2 (⟨r.val - 8 * k, hb⟩ : Fin 8) (⟨q.val, hq⟩ : Fin 128)) (off51_closed ⟨k, hk'⟩) ?_).trans ?_
        · intro a
          match a with
          | ⟨0, _⟩ => show r.val = 8 * k + (r.val - 8 * k); omega
          | ⟨1, _⟩ => show q.val = 0 + q.val; omega
        · unfold gathered
          rw [dif_pos hq]
          unfold k0_pay305
          simp only [shapeCast_self]
          refine load_every i k0_h4 arg2 harg2 x2 ⟨k, hk'⟩ _ _ _ ?_
          show r.val / 8 + 16 * (r.val % 8) = k + 16 * (r.val - 8 * k)
          rw [h8, hm]
      · refine (View.read_writes_cons_unit_of_mem v f _ _ _ (ix2 r q) (ix2 (⟨r.val - 8 * k, hb⟩ : Fin 8) (⟨q.val - 128, by omega⟩ : Fin 128)) (off52_closed ⟨k, hk'⟩) ?_).trans ?_
        · intro a
          match a with
          | ⟨0, _⟩ => show r.val = 8 * k + (r.val - 8 * k); omega
          | ⟨1, _⟩ => show q.val = 128 + (q.val - 128); omega
        · unfold gathered
          rw [dif_neg hq]
          unfold k0_pay306
          simp only [shapeCast_self]
          refine load_every i k0_h4 arg3 harg3 x3 ⟨k, hk'⟩ _ _ _ ?_
          show r.val / 8 + 16 * (r.val % 8) = k + 16 * (r.val - 8 * k)
          rw [h8, hm]

end Cert.Kernel5Ideal.Scan

end
-- ==== Proof.Scan.Ideal.Row.lean ====
/- The row of states a point of the sample block stores, at an entry. -/
module

public import proofs.«01_k».proof.Proof.Scan.Ideal.Turns
public import proofs.«01_k».proof.Proof.Scan.Ideal.Gather

@[expose] public section

set_option maxRecDepth 16384

noncomputable section

namespace Cert.Kernel5Ideal.Scan

open Idealize.ShloMosaic Idealize.ShloMosaic.TcCoe Idealize.ShloMosaic.ValueIdx Idealize.SL.Sem
open Idealize.ShloMosaic.Pipeline (Dat RDat Cfg Window BodyObligation cellOf)
open Cert.Scan (step state flat state_congr)
open Cert.Kernel5Ideal Cert.Kernel5Ideal.Gen

theorem pay321_0 (v0 v1 v2 v3 v4 v5 v6 v7 : FVec Ideal S8x256 .f32) (b : Fin 8) (n : Fin 256) (q : Fin 2048) (hq : q.val = 0 + n.val) :
    k0_pay321 (F := Ideal) v0 v1 v2 v3 v4 v5 v6 v7 (ix3 (0 : Fin 1) b q) = v0 (ix2 b n) := by
  unfold k0_pay321
  refine (shapeCast_apply _ _ _ (ix2 b q) (by
    rw [Shape.rowMajor_val_two, Shape.rowMajor_val_three]
    show b.val * 2048 + q.val = (0 * 8 + b.val) * 2048 + q.val
    omega)).trans ?_
  exact concatenate_apply_piece (1 : Fin 2) _ _ (ix2 b q) 0 (by show 0 < 8; omega) S8x256 v0 rfl rfl 0 rfl (ix2 b n)
    (fun a ha => match a with | ⟨0, _⟩ => rfl | ⟨1, _⟩ => absurd rfl ha) hq.symm

theorem pay321_1 (v0 v1 v2 v3 v4 v5 v6 v7 : FVec Ideal S8x256 .f32) (b : Fin 8) (n : Fin 256) (q : Fin 2048) (hq : q.val = 256 + n.val) :
    k0_pay321 (F := Ideal) v0 v1 v2 v3 v4 v5 v6 v7 (ix3 (0 : Fin 1) b q) = v2 (ix2 b n) := by
  unfold k0_pay321
  refine (shapeCast_apply _ _ _ (ix2 b q) (by
    rw [Shape.rowMajor_val_two, Shape.rowMajor_val_three]
    show b.val * 2048 + q.val = (0 * 8 + b.val) * 2048 + q.val
    omega)).trans ?_
  exact concatenate_apply_piece (1 : Fin 2) _ _ (ix2 b q) 1 (by show 1 < 8; omega) S8x256 v2 rfl rfl 256 rfl (ix2 b n)
    (fun a ha => match a with | ⟨0, _⟩ => rfl | ⟨1, _⟩ => absurd rfl ha) hq.symm

theorem pay321_2 (v0 v1 v2 v3 v4 v5 v6 v7 : FVec Ideal S8x256 .f32) (b : Fin 8) (n : Fin 256) (q : Fin 2048) (hq : q.val = 512 + n.val) :
    k0_pay321 (F := Ideal) v0 v1 v2 v3 v4 v5 v6 v7 (ix3 (0 : Fin 1) b q) = v4 (ix2 b n) := by
  unfold k0_pay321
  refine (shapeCast_apply _ _ _ (ix2 b q) (by
    rw [Shape.rowMajor_val_two, Shape.rowMajor_val_three]
    show b.val * 2048 + q.val = (0 * 8 + b.val) * 2048 + q.val
    omega)).trans ?_
  exact concatenate_apply_piece (1 : Fin 2) _ _ (ix2 b q) 2 (by show 2 < 8; omega) S8x256 v4 rfl rfl 512 rfl (ix2 b n)
    (fun a ha => match a with | ⟨0, _⟩ => rfl | ⟨1, _⟩ => absurd rfl ha) hq.symm

theorem pay321_3 (v0 v1 v2 v3 v4 v5 v6 v7 : FVec Ideal S8x256 .f32) (b : Fin 8) (n : Fin 256) (q : Fin 2048) (hq : q.val = 768 + n.val) :
    k0_pay321 (F := Ideal) v0 v1 v2 v3 v4 v5 v6 v7 (ix3 (0 : Fin 1) b q) = v6 (ix2 b n) := by
  unfold k0_pay321
  refine (shapeCast_apply _ _ _ (ix2 b q) (by
    rw [Shape.rowMajor_val_two, Shape.rowMajor_val_three]
    show b.val * 2048 + q.val = (0 * 8 + b.val) * 2048 + q.val
    omega)).trans ?_
  exact concatenate_apply_piece (1 : Fin 2) _ _ (ix2 b q) 3 (by show 3 < 8; omega) S8x256 v6 rfl rfl 768 rfl (ix2 b n)
    (fun a ha => match a with | ⟨0, _⟩ => rfl | ⟨1, _⟩ => absurd rfl ha) hq.symm

theorem pay321_4 (v0 v1 v2 v3 v4 v5 v6 v7 : FVec Ideal S8x256 .f32) (b : Fin 8) (n : Fin 256) (q : Fin 2048) (hq : q.val = 1024 + n.val) :
    k0_pay321 (F := Ideal) v0 v1 v2 v3 v4 v5 v6 v7 (ix3 (0 : Fin 1) b q) = v1 (ix2 b n) := by
  unfold k0_pay321
  refine (shapeCast_apply _ _ _ (ix2 b q) (by
    rw [Shape.rowMajor_val_two, Shape.rowMajor_val_three]
    show b.val * 2048 + q.val = (0 * 8 + b.val) * 2048 + q.val
    omega)).trans ?_
  exact concatenate_apply_piece (1 : Fin 2) _ _ (ix2 b q) 4 (by show 4 < 8; omega) S8x256 v1 rfl rfl 1024 rfl (ix2 b n)
    (fun a ha => match a with | ⟨0, _⟩ => rfl | ⟨1, _⟩ => absurd rfl ha) hq.symm

theorem pay321_5 (v0 v1 v2 v3 v4 v5 v6 v7 : FVec Ideal S8x256 .f32) (b : Fin 8) (n : Fin 256) (q : Fin 2048) (hq : q.val = 1280 + n.val) :
    k0_pay321 (F := Ideal) v0 v1 v2 v3 v4 v5 v6 v7 (ix3 (0 : Fin 1) b q) = v3 (ix2 b n) := by
  unfold k0_pay321
  refine (shapeCast_apply _ _ _ (ix2 b q) (by
    rw [Shape.rowMajor_val_two, Shape.rowMajor_val_three]
    show b.val * 2048 + q.val = (0 * 8 + b.val) * 2048 + q.val
    omega)).trans ?_
  exact concatenate_apply_piece (1 : Fin 2) _ _ (ix2 b q) 5 (by show 5 < 8; omega) S8x256 v3 rfl rfl 1280 rfl (ix2 b n)
    (fun a ha => match a with | ⟨0, _⟩ => rfl | ⟨1, _⟩ => absurd rfl ha) hq.symm

theorem pay321_6 (v0 v1 v2 v3 v4 v5 v6 v7 : FVec Ideal S8x256 .f32) (b : Fin 8) (n : Fin 256) (q : Fin 2048) (hq : q.val = 1536 + n.val) :
    k0_pay321 (F := Ideal) v0 v1 v2 v3 v4 v5 v6 v7 (ix3 (0 : Fin 1) b q) = v5 (ix2 b n) := by
  unfold k0_pay321
  refine (shapeCast_apply _ _ _ (ix2 b q) (by
    rw [Shape.rowMajor_val_two, Shape.rowMajor_val_three]
    show b.val * 2048 + q.val = (0 * 8 + b.val) * 2048 + q.val
    omega)).trans ?_
  exact concatenate_apply_piece (1 : Fin 2) _ _ (ix2 b q) 6 (by show 6 < 8; omega) S8x256 v5 rfl rfl 1536 rfl (ix2 b n)
    (fun a ha => match a with | ⟨0, _⟩ => rfl | ⟨1, _⟩ => absurd rfl ha) hq.symm

theorem pay321_7 (v0 v1 v2 v3 v4 v5 v6 v7 : FVec Ideal S8x256 .f32) (b : Fin 8) (n : Fin 256) (q : Fin 2048) (hq : q.val = 1792 + n.val) :
    k0_pay321 (F := Ideal) v0 v1 v2 v3 v4 v5 v6 v7 (ix3 (0 : Fin 1) b q) = v7 (ix2 b n) := by
  unfold k0_pay321
  refine (shapeCast_apply _ _ _ (ix2 b q) (by
    rw [Shape.rowMajor_val_two, Shape.rowMajor_val_three]
    show b.val * 2048 + q.val = (0 * 8 + b.val) * 2048 + q.val
    omega)).trans ?_
  exact concatenate_apply_piece (1 : Fin 2) _ _ (ix2 b q) 7 (by show 7 < 8; omega) S8x256 v7 rfl rfl 1792 rfl (ix2 b n)
    (fun a ha => match a with | ⟨0, _⟩ => rfl | ⟨1, _⟩ => absurd rfl ha) hq.symm

theorem pay321_flat (v0 v1 v2 v3 v4 v5 v6 v7 : FVec Ideal S8x256 .f32) (b : Fin 8) (B : Fin 1024 → EReal × EReal) (h0 : ∀ n : Fin 256, ((v0 (ix2 b n), v1 (ix2 b n)) : EReal × EReal) = B (⟨0 + n.val, by omega⟩ : Fin 1024)) (h1 : ∀ n : Fin 256, ((v2 (ix2 b n), v3 (ix2 b n)) : EReal × EReal) = B (⟨256 + n.val, by omega⟩ : Fin 1024)) (h2 : ∀ n : Fin 256, ((v4 (ix2 b n), v5 (ix2 b n)) : EReal × EReal) = B (⟨512 + n.val, by omega⟩ : Fin 1024)) (h3 : ∀ n : Fin 256, ((v6 (ix2 b n), v7 (ix2 b n)) : EReal × EReal) = B (⟨768 + n.val, by omega⟩ : Fin 1024)) (q : Fin 2048) :
    k0_pay321 (F := Ideal) v0 v1 v2 v3 v4 v5 v6 v7 (ix3 (0 : Fin 1) b q) = flat B q := by
  have hq := q.isLt
  unfold flat
  by_cases c0 : q.val < 256
  · rw [dif_pos (by omega)]; exact (pay321_0 v0 v1 v2 v3 v4 v5 v6 v7 b (⟨q.val - 0, by omega⟩ : Fin 256) q (by show q.val = 0 + (q.val - 0); omega)).trans ((congrArg Prod.fst (h0 (⟨q.val - 0, by omega⟩ : Fin 256))).trans (congrArg (fun z => (B z).1) (Fin.ext (by show 0 + (q.val - 0) = q.val; omega))))
  by_cases c1 : q.val < 512
  · rw [dif_pos (by omega)]; exact (pay321_1 v0 v1 v2 v3 v4 v5 v6 v7 b (⟨q.val - 256, by omega⟩ : Fin 256) q (by show q.val = 256 + (q.val - 256); omega)).trans ((congrArg Prod.fst (h1 (⟨q.val - 256, by omega⟩ : Fin 256))).trans (congrArg (fun z => (B z).1) (Fin.ext (by show 256 + (q.val - 256) = q.val; omega))))
  by_cases c2 : q.val < 768
  · rw [dif_pos (by omega)]; exact (pay321_2 v0 v1 v2 v3 v4 v5 v6 v7 b (⟨q.val - 512, by omega⟩ : Fin 256) q (by show q.val = 512 + (q.val - 512); omega)).trans ((congrArg Prod.fst (h2 (⟨q.val - 512, by omega⟩ : Fin 256))).trans (congrArg (fun z => (B z).1) (Fin.ext (by show 512 + (q.val - 512) = q.val; omega))))
  by_cases c3 : q.val < 1024
  · rw [dif_pos (by omega)]; exact (pay321_3 v0 v1 v2 v3 v4 v5 v6 v7 b (⟨q.val - 768, by omega⟩ : Fin 256) q (by show q.val = 768 + (q.val - 768); omega)).trans ((congrArg Prod.fst (h3 (⟨q.val - 768, by omega⟩ : Fin 256))).trans (congrArg (fun z => (B z).1) (Fin.ext (by show 768 + (q.val - 768) = q.val; omega))))
  by_cases c4 : q.val < 1280
  · rw [dif_neg (by omega)]; exact (pay321_4 v0 v1 v2 v3 v4 v5 v6 v7 b (⟨q.val - 1024, by omega⟩ : Fin 256) q (by show q.val = 1024 + (q.val - 1024); omega)).trans ((congrArg Prod.snd (h0 (⟨q.val - 1024, by omega⟩ : Fin 256))).trans (congrArg (fun z => (B z).2) (Fin.ext (by show 0 + (q.val - 1024) = q.val - 1024; omega))))
  by_cases c5 : q.val < 1536
  · rw [dif_neg (by omega)]; exact (pay321_5 v0 v1 v2 v3 v4 v5 v6 v7 b (⟨q.val - 1280, by omega⟩ : Fin 256) q (by show q.val = 1280 + (q.val - 1280); omega)).trans ((congrArg Prod.snd (h1 (⟨q.val - 1280, by omega⟩ : Fin 256))).trans (congrArg (fun z => (B z).2) (Fin.ext (by show 256 + (q.val - 1280) = q.val - 1024; omega))))
  by_cases c6 : q.val < 1792
  · rw [dif_neg (by omega)]; exact (pay321_6 v0 v1 v2 v3 v4 v5 v6 v7 b (⟨q.val - 1536, by omega⟩ : Fin 256) q (by show q.val = 1536 + (q.val - 1536); omega)).trans ((congrArg Prod.snd (h2 (⟨q.val - 1536, by omega⟩ : Fin 256))).trans (congrArg (fun z => (B z).2) (Fin.ext (by show 512 + (q.val - 1536) = q.val - 1024; omega))))
  rw [dif_neg (by omega)]; exact (pay321_7 v0 v1 v2 v3 v4 v5 v6 v7 b (⟨q.val - 1792, by omega⟩ : Fin 256) q (by show q.val = 1792 + (q.val - 1792); omega)).trans ((congrArg Prod.snd (h3 (⟨q.val - 1792, by omega⟩ : Fin 256))).trans (congrArg (fun z => (B z).2) (Fin.ext (by show 768 + (q.val - 1792) = q.val - 1024; omega))))

/-- The push the spec applies at step `t`: the gathered row against the weights. -/
def pushed (x2 x3 : Vec Ideal S512x128 .f32) (x4 : Vec Ideal S1x1x256x2048 .bf16) (b : Fin 8) (m : Fin 1024) (t : Nat) : EReal × EReal :=
  if h : 8 * t + b.val < 128 then
    (∑ q : Fin 256, gathered x2 x3 (8 * t + b.val) h q * x4 (ix4 (0 : Fin 1) (0 : Fin 1) q (⟨m.val, by omega⟩ : Fin 2048)),
     ∑ q : Fin 256, gathered x2 x3 (8 * t + b.val) h q * x4 (ix4 (0 : Fin 1) (0 : Fin 1) q (⟨1024 + m.val, by omega⟩ : Fin 2048)))
  else (0, 0)

/-- The state a point leaves, from the blocks it reads. -/
def bodyState (x2 x3 : Vec Ideal S512x128 .f32) (x4 : Vec Ideal S1x1x256x2048 .bf16) (x6 x7 : Vec Ideal S1x1x1024 .f32)
    (x12 : Vec Ideal S8x8x2048 .f32) (s b : Fin 8) (m : Fin 1024) : EReal × EReal :=
  state (x6 (ix3 (0 : Fin 1) (0 : Fin 1) m), x7 (ix3 (0 : Fin 1) (0 : Fin 1) m)) (pushed x2 x3 x4 b m)
    (x12 (ix3 s b (⟨m.val, by omega⟩ : Fin 2048)), x12 (ix3 s b (⟨1024 + m.val, by omega⟩ : Fin 2048))) 16

/-- A factor's row, broadcast over the eight sequences. -/
theorem pay2_apply (v : Vec Ideal S1x1x1024 .f32) (b : Fin 8) (m : Fin 1024) :
    k0_pay2 (F := Ideal) v (ix3 (0 : Fin 1) b m) = v (ix3 (0 : Fin 1) (0 : Fin 1) m) := by
  unfold k0_pay2
  refine (shapeCast_apply _ _ _ (ix2 b m) (by
    rw [Shape.rowMajor_val_two, Shape.rowMajor_val_three]
    show b.val * 1024 + m.val = (0 * 8 + b.val) * 1024 + m.val
    omega)).trans ?_
  refine (broadcastTo_apply _ _ (ix2 b m) (ix2 (0 : Fin 1) m) (fun a => match a with | ⟨0, _⟩ => rfl | ⟨1, _⟩ => rfl)).trans ?_
  rw [shapeCast_self]
  exact Cert.Common.dropUnit_apply v _ (ix2 (0 : Fin 1) m)

theorem pay3_apply (v : Vec Ideal S1x1x1024 .f32) (b : Fin 8) (m : Fin 1024) :
    k0_pay3 (F := Ideal) v (ix3 (0 : Fin 1) b m) = v (ix3 (0 : Fin 1) (0 : Fin 1) m) := pay2_apply v b m

theorem pay307_apply (v : Vec Ideal S64x256 .f32) (w : Vec Ideal S1x1x256x2048 .bf16) (r : Fin 64) (p : Fin 2048) :
    k0_pay307 (F := Ideal) v w (ix2 r p) = (∑ q : Fin 256, v (ix2 r q) * w (ix4 (0 : Fin 1) (0 : Fin 1) q p) : EReal) := by
  unfold k0_pay307

  rw [shapeCast_self]
  refine (Cert.Common.matmul_plain dot_S64x256_S256x2048_S64x2048_1_0_0_1_n_n rfl rfl rfl rfl rfl rfl none _ _ (ix2 r p)).trans ?_
  refine Finset.sum_congr rfl fun q _ => ?_
  refine congrArg (fun z => (v (ix2 r q) * z : EReal)) ?_
  exact shapeCast_apply _ _ (ix2 q p) (ix4 (0 : Fin 1) (0 : Fin 1) q p) (by
    rw [Shape.rowMajor_val_two, Shape.rowMajor_val_four]
    show ((0 * 1 + 0) * 256 + q.val) * 2048 + p.val = q.val * 2048 + p.val
    omega)

theorem pay308_apply (v : Vec Ideal S64x256 .f32) (w : Vec Ideal S1x1x256x2048 .bf16) (r : Fin 64) (p : Fin 2048) :
    k0_pay308 (F := Ideal) v w (ix2 r p) = (∑ q : Fin 256, v (ix2 r q) * w (ix4 (0 : Fin 1) (0 : Fin 1) q p) : EReal) := by
  unfold k0_pay308

  rw [shapeCast_self]
  refine (Cert.Common.matmul_plain dot_S64x256_S256x2048_S64x2048_1_0_0_1_n_n rfl rfl rfl rfl rfl rfl none _ _ (ix2 r p)).trans ?_
  refine Finset.sum_congr rfl fun q _ => ?_
  refine congrArg (fun z => (v (ix2 r q) * z : EReal)) ?_
  exact shapeCast_apply _ _ (ix2 q p) (ix4 (0 : Fin 1) (0 : Fin 1) q p) (by
    rw [Shape.rowMajor_val_two, Shape.rowMajor_val_four]
    show ((0 * 1 + 0) * 256 + q.val) * 2048 + p.val = q.val * 2048 + p.val
    omega)

theorem pay309_apply (v : Vec Ideal S1x8x2048 .f32) (b : Fin 8) (q : Fin 2048) :
    k0_pay309 (F := Ideal) v (ix2 b q) = v (ix3 (0 : Fin 1) b q) := by
  unfold k0_pay309
  exact Cert.Common.dropUnit_apply v _ (ix2 b q)

theorem pay310_apply (v : Vec Ideal S1x8x2048 .f32) (b : Fin 8) (n : Fin 256) :
    k0_pay310 (F := Ideal) v (ix2 b n) = v (ix3 (0 : Fin 1) b (⟨0 + n.val, by omega⟩ : Fin 2048)) := by
  unfold k0_pay310
  refine (extractStridedSlice_apply _ _ _ (ix2 b n) (ix2 b (⟨0 + n.val, by omega⟩ : Fin 2048)) (fun a => match a with | ⟨0, _⟩ => (Nat.zero_add _).symm | ⟨1, _⟩ => rfl)).trans ?_
  exact pay309_apply v b _

theorem pay311_apply (v : Vec Ideal S1x8x2048 .f32) (b : Fin 8) (n : Fin 256) :
    k0_pay311 (F := Ideal) v (ix2 b n) = v (ix3 (0 : Fin 1) b (⟨1024 + n.val, by omega⟩ : Fin 2048)) := by
  unfold k0_pay311
  refine (extractStridedSlice_apply _ _ _ (ix2 b n) (ix2 b (⟨1024 + n.val, by omega⟩ : Fin 2048)) (fun a => match a with | ⟨0, _⟩ => (Nat.zero_add _).symm | ⟨1, _⟩ => rfl)).trans ?_
  exact pay309_apply v b _

theorem pay312_apply (v : Vec Ideal S1x8x2048 .f32) (b : Fin 8) (n : Fin 256) :
    k0_pay312 (F := Ideal) v (ix2 b n) = v (ix3 (0 : Fin 1) b (⟨256 + n.val, by omega⟩ : Fin 2048)) := by
  unfold k0_pay312
  refine (extractStridedSlice_apply _ _ _ (ix2 b n) (ix2 b (⟨256 + n.val, by omega⟩ : Fin 2048)) (fun a => match a with | ⟨0, _⟩ => (Nat.zero_add _).symm | ⟨1, _⟩ => rfl)).trans ?_
  exact pay309_apply v b _

theorem pay313_apply (v : Vec Ideal S1x8x2048 .f32) (b : Fin 8) (n : Fin 256) :
    k0_pay313 (F := Ideal) v (ix2 b n) = v (ix3 (0 : Fin 1) b (⟨1280 + n.val, by omega⟩ : Fin 2048)) := by
  unfold k0_pay313
  refine (extractStridedSlice_apply _ _ _ (ix2 b n) (ix2 b (⟨1280 + n.val, by omega⟩ : Fin 2048)) (fun a => match a with | ⟨0, _⟩ => (Nat.zero_add _).symm | ⟨1, _⟩ => rfl)).trans ?_
  exact pay309_apply v b _

theorem pay314_apply (v : Vec Ideal S1x8x2048 .f32) (b : Fin 8) (n : Fin 256) :
    k0_pay314 (F := Ideal) v (ix2 b n) = v (ix3 (0 : Fin 1) b (⟨512 + n.val, by omega⟩ : Fin 2048)) := by
  unfold k0_pay314
  refine (extractStridedSlice_apply _ _ _ (ix2 b n) (ix2 b (⟨512 + n.val, by omega⟩ : Fin 2048)) (fun a => match a with | ⟨0, _⟩ => (Nat.zero_add _).symm | ⟨1, _⟩ => rfl)).trans ?_
  exact pay309_apply v b _

theorem pay315_apply (v : Vec Ideal S1x8x2048 .f32) (b : Fin 8) (n : Fin 256) :
    k0_pay315 (F := Ideal) v (ix2 b n) = v (ix3 (0 : Fin 1) b (⟨1536 + n.val, by omega⟩ : Fin 2048)) := by
  unfold k0_pay315
  refine (extractStridedSlice_apply _ _ _ (ix2 b n) (ix2 b (⟨1536 + n.val, by omega⟩ : Fin 2048)) (fun a => match a with | ⟨0, _⟩ => (Nat.zero_add _).symm | ⟨1, _⟩ => rfl)).trans ?_
  exact pay309_apply v b _

theorem pay316_apply (v : Vec Ideal S1x8x2048 .f32) (b : Fin 8) (n : Fin 256) :
    k0_pay316 (F := Ideal) v (ix2 b n) = v (ix3 (0 : Fin 1) b (⟨768 + n.val, by omega⟩ : Fin 2048)) := by
  unfold k0_pay316
  refine (extractStridedSlice_apply _ _ _ (ix2 b n) (ix2 b (⟨768 + n.val, by omega⟩ : Fin 2048)) (fun a => match a with | ⟨0, _⟩ => (Nat.zero_add _).symm | ⟨1, _⟩ => rfl)).trans ?_
  exact pay309_apply v b _

theorem pay317_apply (v : Vec Ideal S1x8x2048 .f32) (b : Fin 8) (n : Fin 256) :
    k0_pay317 (F := Ideal) v (ix2 b n) = v (ix3 (0 : Fin 1) b (⟨1792 + n.val, by omega⟩ : Fin 2048)) := by
  unfold k0_pay317
  refine (extractStridedSlice_apply _ _ _ (ix2 b n) (ix2 b (⟨1792 + n.val, by omega⟩ : Fin 2048)) (fun a => match a with | ⟨0, _⟩ => (Nat.zero_add _).symm | ⟨1, _⟩ => rfl)).trans ?_
  exact pay309_apply v b _

/-- The gathered rows, as the buffer holds them. -/
def in22  (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1x256x2048 .bf16) (harg4 : arg4.IsWhole) (arg5 : Memref sig .tc .vmem S1x1x2048x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S1x1x1x256 .f32) (harg10 : arg10.IsWhole) (arg11 : Memref sig .tc .vmem S1x8x1x2048 .f32) (harg11 : arg11.IsWhole) (arg12 : Memref sig .tc .vmem S8x8x2048 .f32) (harg12 : arg12.IsWhole) (arg13 : Memref sig .tc .vmem S1x2048x2048 .bf16) (harg13 : arg13.IsWhole) (arg14 : Memref sig .tc .vmem S1x2048 .f32) (harg14 : arg14.IsWhole) (arg15 : Memref sig .tc .vmem S1x4096x128 .f32) (harg15 : arg15.IsWhole) (arg16 : Memref sig .tc .vmem S1x4096x128 .f32) (harg16 : arg16.IsWhole) (arg17 : Memref sig .tc .vmem S512x2048 .bf16) (harg17 : arg17.IsWhole) (arg18 : Memref sig .tc .vmem S1x8x1x2048 .f32) (harg18 : arg18.IsWhole) (arg19 : Memref sig .tc .vmem S8x8x2048 .f32) (harg19 : arg19.IsWhole) (arg20 : Memref sig .tc .vmem S1x4096x128 .bf16) (harg20 : arg20.IsWhole) (arg21 : Memref sig .tc .vmem S1x4096x128 .bf16) (harg21 : arg21.IsWhole) (arg22 : Memref sig .tc .vmem S512x256 .f32) (harg22 : arg22.IsWhole) (arg23 : Memref sig .tc .vmem S512x2048 .f32) (harg23 : arg23.IsWhole) (arg24 : Memref sig .tc .vmem S512x2048 .bf16) (harg24 : arg24.IsWhole) (arg25 : Memref sig .tc .vmem S2x8x1024 .f32) (harg25 : arg25.IsWhole) (arg26 : Memref sig .tc .vmem S16x512x128 .f32) (harg26 : arg26.IsWhole)  (hc4 : k0_cond4 i = 1#1)
  (x2 : Vec Ideal S512x128 .f32) (x3 : Vec Ideal S512x128 .f32) (x4 : Vec Ideal S1x1x256x2048 .bf16) (x6 : Vec Ideal S1x1x1024 .f32) (x7 : Vec Ideal S1x1x1024 .f32) (x12 : Vec Ideal S8x8x2048 .f32) (x22 : Vec Ideal S512x256 .f32) (x23 : Vec Ideal S512x2048 .f32) : BufTy.Contents (Elt Ideal) arg22.view.ty :=
  arg22.view.writes (Elt Ideal) (harg22.unread x22) (pb_k0_t5 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  (BitVec.ofNat 32 (i 1).val) hc4 (harg2.unread x2) (harg3.unread x3) (Scf.trips k0_t5_loop.lb k0_t5_loop.ub k0_t5_loop.st))

/-- The pushes, as the buffer holds them. -/
def in23  (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1x256x2048 .bf16) (harg4 : arg4.IsWhole) (arg5 : Memref sig .tc .vmem S1x1x2048x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S1x1x1x256 .f32) (harg10 : arg10.IsWhole) (arg11 : Memref sig .tc .vmem S1x8x1x2048 .f32) (harg11 : arg11.IsWhole) (arg12 : Memref sig .tc .vmem S8x8x2048 .f32) (harg12 : arg12.IsWhole) (arg13 : Memref sig .tc .vmem S1x2048x2048 .bf16) (harg13 : arg13.IsWhole) (arg14 : Memref sig .tc .vmem S1x2048 .f32) (harg14 : arg14.IsWhole) (arg15 : Memref sig .tc .vmem S1x4096x128 .f32) (harg15 : arg15.IsWhole) (arg16 : Memref sig .tc .vmem S1x4096x128 .f32) (harg16 : arg16.IsWhole) (arg17 : Memref sig .tc .vmem S512x2048 .bf16) (harg17 : arg17.IsWhole) (arg18 : Memref sig .tc .vmem S1x8x1x2048 .f32) (harg18 : arg18.IsWhole) (arg19 : Memref sig .tc .vmem S8x8x2048 .f32) (harg19 : arg19.IsWhole) (arg20 : Memref sig .tc .vmem S1x4096x128 .bf16) (harg20 : arg20.IsWhole) (arg21 : Memref sig .tc .vmem S1x4096x128 .bf16) (harg21 : arg21.IsWhole) (arg22 : Memref sig .tc .vmem S512x256 .f32) (harg22 : arg22.IsWhole) (arg23 : Memref sig .tc .vmem S512x2048 .f32) (harg23 : arg23.IsWhole) (arg24 : Memref sig .tc .vmem S512x2048 .bf16) (harg24 : arg24.IsWhole) (arg25 : Memref sig .tc .vmem S2x8x1024 .f32) (harg25 : arg25.IsWhole) (arg26 : Memref sig .tc .vmem S16x512x128 .f32) (harg26 : arg26.IsWhole)  (hc4 : k0_cond4 i = 1#1)
  (x2 : Vec Ideal S512x128 .f32) (x3 : Vec Ideal S512x128 .f32) (x4 : Vec Ideal S1x1x256x2048 .bf16) (x6 : Vec Ideal S1x1x1024 .f32) (x7 : Vec Ideal S1x1x1024 .f32) (x12 : Vec Ideal S8x8x2048 .f32) (x22 : Vec Ideal S512x256 .f32) (x23 : Vec Ideal S512x2048 .f32) : BufTy.Contents (Elt Ideal) arg23.view.ty :=
  arg23.view.writes (Elt Ideal) (harg23.unread x23)
    [⟨Rect.unit (s := S512x2048) ![64, 0] S64x2048.size inb_S512x2048_S64x2048_64_0, k0_pay308 (F := Ideal)
        (View.readAt (Elt Ideal) arg22.view (Rect.unit (s := S512x256) ![64, 0] S64x256.size inb_S512x256_S64x256_64_0).toLoadRect (in22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23)) (View.readAt (Elt Ideal) arg4.view (Rect.unit (s := S1x1x256x2048) ![0, 0, 0, 0] S1x1x256x2048.size inb_S1x1x256x2048_S1x1x256x2048_0_0_0_0).toLoadRect (harg4.unread x4))⟩,
     ⟨Rect.unit (s := S512x2048) ![0, 0] S64x2048.size inb_S512x2048_S64x2048_0_0, k0_pay307 (F := Ideal)
        (View.readAt (Elt Ideal) arg22.view (Rect.unit (s := S512x256) ![0, 0] S64x256.size inb_S512x256_S64x256_0_0).toLoadRect (in22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23)) (View.readAt (Elt Ideal) arg4.view (Rect.unit (s := S1x1x256x2048) ![0, 0, 0, 0] S1x1x256x2048.size inb_S1x1x256x2048_S1x1x256x2048_0_0_0_0).toLoadRect (harg4.unread x4))⟩]

/-- The two factors, as the buffer holds them. -/
def in25  (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1x256x2048 .bf16) (harg4 : arg4.IsWhole) (arg5 : Memref sig .tc .vmem S1x1x2048x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S1x1x1x256 .f32) (harg10 : arg10.IsWhole) (arg11 : Memref sig .tc .vmem S1x8x1x2048 .f32) (harg11 : arg11.IsWhole) (arg12 : Memref sig .tc .vmem S8x8x2048 .f32) (harg12 : arg12.IsWhole) (arg13 : Memref sig .tc .vmem S1x2048x2048 .bf16) (harg13 : arg13.IsWhole) (arg14 : Memref sig .tc .vmem S1x2048 .f32) (harg14 : arg14.IsWhole) (arg15 : Memref sig .tc .vmem S1x4096x128 .f32) (harg15 : arg15.IsWhole) (arg16 : Memref sig .tc .vmem S1x4096x128 .f32) (harg16 : arg16.IsWhole) (arg17 : Memref sig .tc .vmem S512x2048 .bf16) (harg17 : arg17.IsWhole) (arg18 : Memref sig .tc .vmem S1x8x1x2048 .f32) (harg18 : arg18.IsWhole) (arg19 : Memref sig .tc .vmem S8x8x2048 .f32) (harg19 : arg19.IsWhole) (arg20 : Memref sig .tc .vmem S1x4096x128 .bf16) (harg20 : arg20.IsWhole) (arg21 : Memref sig .tc .vmem S1x4096x128 .bf16) (harg21 : arg21.IsWhole) (arg22 : Memref sig .tc .vmem S512x256 .f32) (harg22 : arg22.IsWhole) (arg23 : Memref sig .tc .vmem S512x2048 .f32) (harg23 : arg23.IsWhole) (arg24 : Memref sig .tc .vmem S512x2048 .bf16) (harg24 : arg24.IsWhole) (arg25 : Memref sig .tc .vmem S2x8x1024 .f32) (harg25 : arg25.IsWhole) (arg26 : Memref sig .tc .vmem S16x512x128 .f32) (harg26 : arg26.IsWhole)  (hc4 : k0_cond4 i = 1#1)
  (x2 : Vec Ideal S512x128 .f32) (x3 : Vec Ideal S512x128 .f32) (x4 : Vec Ideal S1x1x256x2048 .bf16) (x6 : Vec Ideal S1x1x1024 .f32) (x7 : Vec Ideal S1x1x1024 .f32) (x12 : Vec Ideal S8x8x2048 .f32) (x22 : Vec Ideal S512x256 .f32) (x23 : Vec Ideal S512x2048 .f32) : BufTy.Contents (Elt Ideal) arg25.view.ty :=
  arg25.view.writes (Elt Ideal) arg25.view.junk
    [⟨Rect.unit (s := S2x8x1024) ![1, 0, 0] S1x8x1024.size inb_S2x8x1024_S1x8x1024_1_0_0, k0_pay3 (F := Ideal)
        (View.readAt (Elt Ideal) arg7.view (Rect.unit (s := S1x1x1024) ![0, 0, 0] S1x1x1024.size inb_S1x1x1024_S1x1x1024_0_0_0).toLoadRect (harg7.unread x7))⟩,
     ⟨Rect.unit (s := S2x8x1024) ![0, 0, 0] S1x8x1024.size inb_S2x8x1024_S1x8x1024_0_0_0, k0_pay2 (F := Ideal)
        (View.readAt (Elt Ideal) arg6.view (Rect.unit (s := S1x1x1024) ![0, 0, 0] S1x1x1024.size inb_S1x1x1024_S1x1x1024_0_0_0).toLoadRect (harg6.unread x6))⟩]

/-- The row of starting states. -/
def in12  (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1x256x2048 .bf16) (harg4 : arg4.IsWhole) (arg5 : Memref sig .tc .vmem S1x1x2048x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S1x1x1x256 .f32) (harg10 : arg10.IsWhole) (arg11 : Memref sig .tc .vmem S1x8x1x2048 .f32) (harg11 : arg11.IsWhole) (arg12 : Memref sig .tc .vmem S8x8x2048 .f32) (harg12 : arg12.IsWhole) (arg13 : Memref sig .tc .vmem S1x2048x2048 .bf16) (harg13 : arg13.IsWhole) (arg14 : Memref sig .tc .vmem S1x2048 .f32) (harg14 : arg14.IsWhole) (arg15 : Memref sig .tc .vmem S1x4096x128 .f32) (harg15 : arg15.IsWhole) (arg16 : Memref sig .tc .vmem S1x4096x128 .f32) (harg16 : arg16.IsWhole) (arg17 : Memref sig .tc .vmem S512x2048 .bf16) (harg17 : arg17.IsWhole) (arg18 : Memref sig .tc .vmem S1x8x1x2048 .f32) (harg18 : arg18.IsWhole) (arg19 : Memref sig .tc .vmem S8x8x2048 .f32) (harg19 : arg19.IsWhole) (arg20 : Memref sig .tc .vmem S1x4096x128 .bf16) (harg20 : arg20.IsWhole) (arg21 : Memref sig .tc .vmem S1x4096x128 .bf16) (harg21 : arg21.IsWhole) (arg22 : Memref sig .tc .vmem S512x256 .f32) (harg22 : arg22.IsWhole) (arg23 : Memref sig .tc .vmem S512x2048 .f32) (harg23 : arg23.IsWhole) (arg24 : Memref sig .tc .vmem S512x2048 .bf16) (harg24 : arg24.IsWhole) (arg25 : Memref sig .tc .vmem S2x8x1024 .f32) (harg25 : arg25.IsWhole) (arg26 : Memref sig .tc .vmem S16x512x128 .f32) (harg26 : arg26.IsWhole)  (hc4 : k0_cond4 i = 1#1)
  (x2 : Vec Ideal S512x128 .f32) (x3 : Vec Ideal S512x128 .f32) (x4 : Vec Ideal S1x1x256x2048 .bf16) (x6 : Vec Ideal S1x1x1024 .f32) (x7 : Vec Ideal S1x1x1024 .f32) (x12 : Vec Ideal S8x8x2048 .f32) (x22 : Vec Ideal S512x256 .f32) (x23 : Vec Ideal S512x2048 .f32) : Vec Ideal S1x8x2048 .f32 :=
  View.readAt (Elt Ideal) arg12.view (Rect.unit (s := S8x8x2048) (k0_off53 i) S1x8x2048.size (k0_off53_inb i hc4)).toLoadRect (harg12.unread x12)

/-- The state after the loop. -/
def out6  (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1x256x2048 .bf16) (harg4 : arg4.IsWhole) (arg5 : Memref sig .tc .vmem S1x1x2048x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S1x1x1x256 .f32) (harg10 : arg10.IsWhole) (arg11 : Memref sig .tc .vmem S1x8x1x2048 .f32) (harg11 : arg11.IsWhole) (arg12 : Memref sig .tc .vmem S8x8x2048 .f32) (harg12 : arg12.IsWhole) (arg13 : Memref sig .tc .vmem S1x2048x2048 .bf16) (harg13 : arg13.IsWhole) (arg14 : Memref sig .tc .vmem S1x2048 .f32) (harg14 : arg14.IsWhole) (arg15 : Memref sig .tc .vmem S1x4096x128 .f32) (harg15 : arg15.IsWhole) (arg16 : Memref sig .tc .vmem S1x4096x128 .f32) (harg16 : arg16.IsWhole) (arg17 : Memref sig .tc .vmem S512x2048 .bf16) (harg17 : arg17.IsWhole) (arg18 : Memref sig .tc .vmem S1x8x1x2048 .f32) (harg18 : arg18.IsWhole) (arg19 : Memref sig .tc .vmem S8x8x2048 .f32) (harg19 : arg19.IsWhole) (arg20 : Memref sig .tc .vmem S1x4096x128 .bf16) (harg20 : arg20.IsWhole) (arg21 : Memref sig .tc .vmem S1x4096x128 .bf16) (harg21 : arg21.IsWhole) (arg22 : Memref sig .tc .vmem S512x256 .f32) (harg22 : arg22.IsWhole) (arg23 : Memref sig .tc .vmem S512x2048 .f32) (harg23 : arg23.IsWhole) (arg24 : Memref sig .tc .vmem S512x2048 .bf16) (harg24 : arg24.IsWhole) (arg25 : Memref sig .tc .vmem S2x8x1024 .f32) (harg25 : arg25.IsWhole) (arg26 : Memref sig .tc .vmem S16x512x128 .f32) (harg26 : arg26.IsWhole)  (hc4 : k0_cond4 i = 1#1)
  (x2 : Vec Ideal S512x128 .f32) (x3 : Vec Ideal S512x128 .f32) (x4 : Vec Ideal S1x1x256x2048 .bf16) (x6 : Vec Ideal S1x1x1024 .f32) (x7 : Vec Ideal S1x1x1024 .f32) (x12 : Vec Ideal S8x8x2048 .f32) (x22 : Vec Ideal S512x256 .f32) (x23 : Vec Ideal S512x2048 .f32) : FVec Ideal S8x256 .f32 × FVec Ideal S8x256 .f32 × FVec Ideal S8x256 .f32 × FVec Ideal S8x256 .f32 × FVec Ideal S8x256 .f32 × FVec Ideal S8x256 .f32 × FVec Ideal S8x256 .f32 × FVec Ideal S8x256 .f32 :=
  (st_k0_t6 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  (BitVec.ofNat 32 (i 1).val) hc4 (in23 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23) (in25 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23)
    (k0_pay310 (F := Ideal) (in12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23), k0_pay311 (F := Ideal) (in12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23), k0_pay312 (F := Ideal) (in12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23), k0_pay313 (F := Ideal) (in12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23), k0_pay314 (F := Ideal) (in12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23), k0_pay315 (F := Ideal) (in12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23), k0_pay316 (F := Ideal) (in12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23), k0_pay317 (F := Ideal) (in12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23)) (Scf.trips k0_t6_loop.lb k0_t6_loop.ub k0_t6_loop.st)).1

theorem off53_closed : ∀ i : grid0.Coords, k0_off53 i = ![(i 1).val, 0, 0] := by decide +kernel

theorem in22_apply  (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1x256x2048 .bf16) (harg4 : arg4.IsWhole) (arg5 : Memref sig .tc .vmem S1x1x2048x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S1x1x1x256 .f32) (harg10 : arg10.IsWhole) (arg11 : Memref sig .tc .vmem S1x8x1x2048 .f32) (harg11 : arg11.IsWhole) (arg12 : Memref sig .tc .vmem S8x8x2048 .f32) (harg12 : arg12.IsWhole) (arg13 : Memref sig .tc .vmem S1x2048x2048 .bf16) (harg13 : arg13.IsWhole) (arg14 : Memref sig .tc .vmem S1x2048 .f32) (harg14 : arg14.IsWhole) (arg15 : Memref sig .tc .vmem S1x4096x128 .f32) (harg15 : arg15.IsWhole) (arg16 : Memref sig .tc .vmem S1x4096x128 .f32) (harg16 : arg16.IsWhole) (arg17 : Memref sig .tc .vmem S512x2048 .bf16) (harg17 : arg17.IsWhole) (arg18 : Memref sig .tc .vmem S1x8x1x2048 .f32) (harg18 : arg18.IsWhole) (arg19 : Memref sig .tc .vmem S8x8x2048 .f32) (harg19 : arg19.IsWhole) (arg20 : Memref sig .tc .vmem S1x4096x128 .bf16) (harg20 : arg20.IsWhole) (arg21 : Memref sig .tc .vmem S1x4096x128 .bf16) (harg21 : arg21.IsWhole) (arg22 : Memref sig .tc .vmem S512x256 .f32) (harg22 : arg22.IsWhole) (arg23 : Memref sig .tc .vmem S512x2048 .f32) (harg23 : arg23.IsWhole) (arg24 : Memref sig .tc .vmem S512x2048 .bf16) (harg24 : arg24.IsWhole) (arg25 : Memref sig .tc .vmem S2x8x1024 .f32) (harg25 : arg25.IsWhole) (arg26 : Memref sig .tc .vmem S16x512x128 .f32) (harg26 : arg26.IsWhole)  (hc4 : k0_cond4 i = 1#1)
  (x2 : Vec Ideal S512x128 .f32) (x3 : Vec Ideal S512x128 .f32) (x4 : Vec Ideal S1x1x256x2048 .bf16) (x6 : Vec Ideal S1x1x1024 .f32) (x7 : Vec Ideal S1x1x1024 .f32) (x12 : Vec Ideal S8x8x2048 .f32) (x22 : Vec Ideal S512x256 .f32) (x23 : Vec Ideal S512x2048 .f32) (r : Fin 512) (q : Fin 256) (h : r.val < 128) :
    arg22.view.read (Elt Ideal) (in22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23) (ix2 r q) = gathered x2 x3 r.val h q := by
  refine gather Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  (BitVec.ofNat 32 (i 1).val) hc4 x2 x3 arg22.view _ _ (by decide +kernel) r q h ?_
  exact lt_of_lt_of_le h (by decide +kernel)

theorem in4_apply (arg4 : Memref sig .tc .vmem S1x1x256x2048 .bf16) (harg4 : arg4.IsWhole) (x4 : Vec Ideal S1x1x256x2048 .bf16) (q : Fin 256) (p : Fin 2048) : (View.readAt (Elt Ideal) arg4.view (Rect.unit (s := S1x1x256x2048) ![0, 0, 0, 0] S1x1x256x2048.size inb_S1x1x256x2048_S1x1x256x2048_0_0_0_0).toLoadRect (harg4.unread x4)) (ix4 (0 : Fin 1) (0 : Fin 1) q p) = x4 (ix4 (0 : Fin 1) (0 : Fin 1) q p) := by
  refine (congrArg (fun z => arg4.view.read (Elt Ideal) (harg4.unread x4) z) (a₂ := ix4 (0 : Fin 1) (0 : Fin 1) q p) ?_).trans (congrFun (harg4.read_unread x4) _)
  funext a; apply Fin.ext
  match a with
  | ⟨0, _⟩ => rfl
  | ⟨1, _⟩ => rfl
  | ⟨2, _⟩ => show 0 + 1 * q.val = q.val; omega
  | ⟨3, _⟩ => show 0 + 1 * p.val = p.val; omega

theorem load22 (arg22 : Memref sig .tc .vmem S512x256 .f32) (o : Nat) (inb : ∀ a, (![o, 0] : Fin 2 → Nat) a + S64x256.size a ≤ S512x256.size a) (g : BufTy.Contents (Elt Ideal) arg22.view.ty) (r : Fin 64) (q : Fin 256) (r' : Fin 512) (h : r'.val = o + r.val) :
    View.readAt (Elt Ideal) arg22.view (Rect.unit (s := S512x256) ![o, 0] S64x256.size inb).toLoadRect g (ix2 r q) = arg22.view.read (Elt Ideal) g (ix2 r' q) := by
  refine congrArg (fun z => arg22.view.read (Elt Ideal) g z) (funext fun a => Fin.ext ?_)
  match a with
  | ⟨0, _⟩ => show o + 1 * r.val = r'.val; omega
  | ⟨1, _⟩ => show 0 + 1 * q.val = q.val; omega

theorem in23_apply  (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1x256x2048 .bf16) (harg4 : arg4.IsWhole) (arg5 : Memref sig .tc .vmem S1x1x2048x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S1x1x1x256 .f32) (harg10 : arg10.IsWhole) (arg11 : Memref sig .tc .vmem S1x8x1x2048 .f32) (harg11 : arg11.IsWhole) (arg12 : Memref sig .tc .vmem S8x8x2048 .f32) (harg12 : arg12.IsWhole) (arg13 : Memref sig .tc .vmem S1x2048x2048 .bf16) (harg13 : arg13.IsWhole) (arg14 : Memref sig .tc .vmem S1x2048 .f32) (harg14 : arg14.IsWhole) (arg15 : Memref sig .tc .vmem S1x4096x128 .f32) (harg15 : arg15.IsWhole) (arg16 : Memref sig .tc .vmem S1x4096x128 .f32) (harg16 : arg16.IsWhole) (arg17 : Memref sig .tc .vmem S512x2048 .bf16) (harg17 : arg17.IsWhole) (arg18 : Memref sig .tc .vmem S1x8x1x2048 .f32) (harg18 : arg18.IsWhole) (arg19 : Memref sig .tc .vmem S8x8x2048 .f32) (harg19 : arg19.IsWhole) (arg20 : Memref sig .tc .vmem S1x4096x128 .bf16) (harg20 : arg20.IsWhole) (arg21 : Memref sig .tc .vmem S1x4096x128 .bf16) (harg21 : arg21.IsWhole) (arg22 : Memref sig .tc .vmem S512x256 .f32) (harg22 : arg22.IsWhole) (arg23 : Memref sig .tc .vmem S512x2048 .f32) (harg23 : arg23.IsWhole) (arg24 : Memref sig .tc .vmem S512x2048 .bf16) (harg24 : arg24.IsWhole) (arg25 : Memref sig .tc .vmem S2x8x1024 .f32) (harg25 : arg25.IsWhole) (arg26 : Memref sig .tc .vmem S16x512x128 .f32) (harg26 : arg26.IsWhole)  (hc4 : k0_cond4 i = 1#1)
  (x2 : Vec Ideal S512x128 .f32) (x3 : Vec Ideal S512x128 .f32) (x4 : Vec Ideal S1x1x256x2048 .bf16) (x6 : Vec Ideal S1x1x1024 .f32) (x7 : Vec Ideal S1x1x1024 .f32) (x12 : Vec Ideal S8x8x2048 .f32) (x22 : Vec Ideal S512x256 .f32) (x23 : Vec Ideal S512x2048 .f32) (r : Fin 512) (p : Fin 2048) (h : r.val < 128) :
    arg23.view.read (Elt Ideal) (in23 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23) (ix2 r p)
      = (∑ q : Fin 256, gathered x2 x3 r.val h q * x4 (ix4 (0 : Fin 1) (0 : Fin 1) q p) : EReal) := by
  unfold in23
  by_cases hr : r.val < 64
  · refine (View.read_writes_cons_unit_of_not_mem arg23.view _ _ _ _ (ix2 r p) rfl 0 (.inl hr)).trans ?_
    refine (View.read_writes_cons_unit_of_mem arg23.view _ _ _ _ (ix2 r p) (ix2 (⟨r.val, hr⟩ : Fin 64) p) rfl ?_).trans ?_
    · intro a
      match a with
      | ⟨0, _⟩ => show r.val = 0 + r.val; omega
      | ⟨1, _⟩ => show p.val = 0 + p.val; omega
    · refine (pay307_apply _ _ _ _).trans (Finset.sum_congr rfl fun q _ => ?_)
      exact congrArg₂ (fun y z : EReal => y * z) ((load22 arg22 0 _ _ _ q r (by show r.val = 0 + r.val; omega)).trans (in22_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23 r q h)) (in4_apply arg4 harg4 x4 q p)
  · refine (View.read_writes_cons_unit_of_mem arg23.view _ _ _ _ (ix2 r p) (ix2 (⟨r.val - 64, by omega⟩ : Fin 64) p) rfl ?_).trans ?_
    · intro a
      match a with
      | ⟨0, _⟩ => show r.val = 64 + (r.val - 64); omega
      | ⟨1, _⟩ => show p.val = 0 + p.val; omega
    · refine (pay308_apply _ _ _ _).trans (Finset.sum_congr rfl fun q _ => ?_)
      exact congrArg₂ (fun y z : EReal => y * z) ((load22 arg22 64 _ _ _ q r (by show r.val = 64 + (r.val - 64); omega)).trans (in22_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23 r q h)) (in4_apply arg4 harg4 x4 q p)

theorem in25_apply  (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1x256x2048 .bf16) (harg4 : arg4.IsWhole) (arg5 : Memref sig .tc .vmem S1x1x2048x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S1x1x1x256 .f32) (harg10 : arg10.IsWhole) (arg11 : Memref sig .tc .vmem S1x8x1x2048 .f32) (harg11 : arg11.IsWhole) (arg12 : Memref sig .tc .vmem S8x8x2048 .f32) (harg12 : arg12.IsWhole) (arg13 : Memref sig .tc .vmem S1x2048x2048 .bf16) (harg13 : arg13.IsWhole) (arg14 : Memref sig .tc .vmem S1x2048 .f32) (harg14 : arg14.IsWhole) (arg15 : Memref sig .tc .vmem S1x4096x128 .f32) (harg15 : arg15.IsWhole) (arg16 : Memref sig .tc .vmem S1x4096x128 .f32) (harg16 : arg16.IsWhole) (arg17 : Memref sig .tc .vmem S512x2048 .bf16) (harg17 : arg17.IsWhole) (arg18 : Memref sig .tc .vmem S1x8x1x2048 .f32) (harg18 : arg18.IsWhole) (arg19 : Memref sig .tc .vmem S8x8x2048 .f32) (harg19 : arg19.IsWhole) (arg20 : Memref sig .tc .vmem S1x4096x128 .bf16) (harg20 : arg20.IsWhole) (arg21 : Memref sig .tc .vmem S1x4096x128 .bf16) (harg21 : arg21.IsWhole) (arg22 : Memref sig .tc .vmem S512x256 .f32) (harg22 : arg22.IsWhole) (arg23 : Memref sig .tc .vmem S512x2048 .f32) (harg23 : arg23.IsWhole) (arg24 : Memref sig .tc .vmem S512x2048 .bf16) (harg24 : arg24.IsWhole) (arg25 : Memref sig .tc .vmem S2x8x1024 .f32) (harg25 : arg25.IsWhole) (arg26 : Memref sig .tc .vmem S16x512x128 .f32) (harg26 : arg26.IsWhole)  (hc4 : k0_cond4 i = 1#1)
  (x2 : Vec Ideal S512x128 .f32) (x3 : Vec Ideal S512x128 .f32) (x4 : Vec Ideal S1x1x256x2048 .bf16) (x6 : Vec Ideal S1x1x1024 .f32) (x7 : Vec Ideal S1x1x1024 .f32) (x12 : Vec Ideal S8x8x2048 .f32) (x22 : Vec Ideal S512x256 .f32) (x23 : Vec Ideal S512x2048 .f32) (b : Fin 8) (m : Fin 1024) :
    turn arg25.view (in25 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23) b m = (x6 (ix3 (0 : Fin 1) (0 : Fin 1) m), x7 (ix3 (0 : Fin 1) (0 : Fin 1) m)) := by
  unfold turn in25
  refine Prod.ext ?_ ?_
  · refine (View.read_writes_cons_unit_of_not_mem arg25.view _ _ _ _ (ix3 (0 : Fin 2) b m) rfl 0 (.inl (by show 0 < 1; omega))).trans ?_
    refine (View.read_writes_cons_unit_of_mem arg25.view _ _ _ _ (ix3 (0 : Fin 2) b m) (ix3 (0 : Fin 1) b m) rfl ?_).trans ?_
    · intro a
      match a with
      | ⟨0, _⟩ => rfl
      | ⟨1, _⟩ => show b.val = 0 + b.val; omega
      | ⟨2, _⟩ => show m.val = 0 + m.val; omega
    · refine (pay2_apply _ b m).trans ?_
      refine (congrArg (fun z => arg6.view.read (Elt Ideal) (harg6.unread x6) z) (a₂ := ix3 (0 : Fin 1) (0 : Fin 1) m) ?_).trans (congrFun (harg6.read_unread x6) _)
      funext a; apply Fin.ext
      match a with
      | ⟨0, _⟩ => rfl
      | ⟨1, _⟩ => rfl
      | ⟨2, _⟩ => show 0 + 1 * m.val = m.val; omega
  · refine (View.read_writes_cons_unit_of_mem arg25.view _ _ _ _ (ix3 (1 : Fin 2) b m) (ix3 (0 : Fin 1) b m) rfl ?_).trans ?_
    · intro a
      match a with
      | ⟨0, _⟩ => rfl
      | ⟨1, _⟩ => show b.val = 0 + b.val; omega
      | ⟨2, _⟩ => show m.val = 0 + m.val; omega
    · refine (pay3_apply _ b m).trans ?_
      refine (congrArg (fun z => arg7.view.read (Elt Ideal) (harg7.unread x7) z) (a₂ := ix3 (0 : Fin 1) (0 : Fin 1) m) ?_).trans (congrFun (harg7.read_unread x7) _)
      funext a; apply Fin.ext
      match a with
      | ⟨0, _⟩ => rfl
      | ⟨1, _⟩ => rfl
      | ⟨2, _⟩ => show 0 + 1 * m.val = m.val; omega

theorem in12_apply  (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1x256x2048 .bf16) (harg4 : arg4.IsWhole) (arg5 : Memref sig .tc .vmem S1x1x2048x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S1x1x1x256 .f32) (harg10 : arg10.IsWhole) (arg11 : Memref sig .tc .vmem S1x8x1x2048 .f32) (harg11 : arg11.IsWhole) (arg12 : Memref sig .tc .vmem S8x8x2048 .f32) (harg12 : arg12.IsWhole) (arg13 : Memref sig .tc .vmem S1x2048x2048 .bf16) (harg13 : arg13.IsWhole) (arg14 : Memref sig .tc .vmem S1x2048 .f32) (harg14 : arg14.IsWhole) (arg15 : Memref sig .tc .vmem S1x4096x128 .f32) (harg15 : arg15.IsWhole) (arg16 : Memref sig .tc .vmem S1x4096x128 .f32) (harg16 : arg16.IsWhole) (arg17 : Memref sig .tc .vmem S512x2048 .bf16) (harg17 : arg17.IsWhole) (arg18 : Memref sig .tc .vmem S1x8x1x2048 .f32) (harg18 : arg18.IsWhole) (arg19 : Memref sig .tc .vmem S8x8x2048 .f32) (harg19 : arg19.IsWhole) (arg20 : Memref sig .tc .vmem S1x4096x128 .bf16) (harg20 : arg20.IsWhole) (arg21 : Memref sig .tc .vmem S1x4096x128 .bf16) (harg21 : arg21.IsWhole) (arg22 : Memref sig .tc .vmem S512x256 .f32) (harg22 : arg22.IsWhole) (arg23 : Memref sig .tc .vmem S512x2048 .f32) (harg23 : arg23.IsWhole) (arg24 : Memref sig .tc .vmem S512x2048 .bf16) (harg24 : arg24.IsWhole) (arg25 : Memref sig .tc .vmem S2x8x1024 .f32) (harg25 : arg25.IsWhole) (arg26 : Memref sig .tc .vmem S16x512x128 .f32) (harg26 : arg26.IsWhole)  (hc4 : k0_cond4 i = 1#1)
  (x2 : Vec Ideal S512x128 .f32) (x3 : Vec Ideal S512x128 .f32) (x4 : Vec Ideal S1x1x256x2048 .bf16) (x6 : Vec Ideal S1x1x1024 .f32) (x7 : Vec Ideal S1x1x1024 .f32) (x12 : Vec Ideal S8x8x2048 .f32) (x22 : Vec Ideal S512x256 .f32) (x23 : Vec Ideal S512x2048 .f32) (s b : Fin 8) (q : Fin 2048) (hs : (i 1).val = s.val) : in12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23 (ix3 (0 : Fin 1) b q) = x12 (ix3 s b q) := by
  unfold in12
  refine (congrArg (fun z => arg12.view.read (Elt Ideal) (harg12.unread x12) z) (a₂ := ix3 s b q) ?_).trans (congrFun (harg12.read_unread x12) _)
  funext a; apply Fin.ext
  match a with
  | ⟨0, _⟩ => show k0_off53 i 0 + 1 * 0 = s.val; rw [off53_closed]; exact hs
  | ⟨1, _⟩ => show k0_off53 i 1 + 1 * b.val = b.val; rw [off53_closed]; show 0 + 1 * b.val = b.val; omega
  | ⟨2, _⟩ => show k0_off53 i 2 + 1 * q.val = q.val; rw [off53_closed]; show 0 + 1 * q.val = q.val; omega

theorem in23_push  (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1x256x2048 .bf16) (harg4 : arg4.IsWhole) (arg5 : Memref sig .tc .vmem S1x1x2048x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S1x1x1x256 .f32) (harg10 : arg10.IsWhole) (arg11 : Memref sig .tc .vmem S1x8x1x2048 .f32) (harg11 : arg11.IsWhole) (arg12 : Memref sig .tc .vmem S8x8x2048 .f32) (harg12 : arg12.IsWhole) (arg13 : Memref sig .tc .vmem S1x2048x2048 .bf16) (harg13 : arg13.IsWhole) (arg14 : Memref sig .tc .vmem S1x2048 .f32) (harg14 : arg14.IsWhole) (arg15 : Memref sig .tc .vmem S1x4096x128 .f32) (harg15 : arg15.IsWhole) (arg16 : Memref sig .tc .vmem S1x4096x128 .f32) (harg16 : arg16.IsWhole) (arg17 : Memref sig .tc .vmem S512x2048 .bf16) (harg17 : arg17.IsWhole) (arg18 : Memref sig .tc .vmem S1x8x1x2048 .f32) (harg18 : arg18.IsWhole) (arg19 : Memref sig .tc .vmem S8x8x2048 .f32) (harg19 : arg19.IsWhole) (arg20 : Memref sig .tc .vmem S1x4096x128 .bf16) (harg20 : arg20.IsWhole) (arg21 : Memref sig .tc .vmem S1x4096x128 .bf16) (harg21 : arg21.IsWhole) (arg22 : Memref sig .tc .vmem S512x256 .f32) (harg22 : arg22.IsWhole) (arg23 : Memref sig .tc .vmem S512x2048 .f32) (harg23 : arg23.IsWhole) (arg24 : Memref sig .tc .vmem S512x2048 .bf16) (harg24 : arg24.IsWhole) (arg25 : Memref sig .tc .vmem S2x8x1024 .f32) (harg25 : arg25.IsWhole) (arg26 : Memref sig .tc .vmem S16x512x128 .f32) (harg26 : arg26.IsWhole)  (hc4 : k0_cond4 i = 1#1)
  (x2 : Vec Ideal S512x128 .f32) (x3 : Vec Ideal S512x128 .f32) (x4 : Vec Ideal S1x1x256x2048 .bf16) (x6 : Vec Ideal S1x1x1024 .f32) (x7 : Vec Ideal S1x1x1024 .f32) (x12 : Vec Ideal S8x8x2048 .f32) (x22 : Vec Ideal S512x256 .f32) (x23 : Vec Ideal S512x2048 .f32) (b : Fin 8) (m : Fin 1024) (t : Nat) (ht : t < 16) :
    pushAt arg23.view (in23 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23) b m t = pushed x2 x3 x4 b m t := by
  have h1 : 8 * t + b.val < 128 := by omega
  unfold pushAt pushed push
  rw [dif_pos (show 8 * t + b.val < 512 by omega), dif_pos h1]
  exact Prod.ext (in23_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23 (⟨8 * t + b.val, by omega⟩ : Fin 512) _ h1) (in23_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23 (⟨8 * t + b.val, by omega⟩ : Fin 512) _ h1)

theorem out6_0  (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1x256x2048 .bf16) (harg4 : arg4.IsWhole) (arg5 : Memref sig .tc .vmem S1x1x2048x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S1x1x1x256 .f32) (harg10 : arg10.IsWhole) (arg11 : Memref sig .tc .vmem S1x8x1x2048 .f32) (harg11 : arg11.IsWhole) (arg12 : Memref sig .tc .vmem S8x8x2048 .f32) (harg12 : arg12.IsWhole) (arg13 : Memref sig .tc .vmem S1x2048x2048 .bf16) (harg13 : arg13.IsWhole) (arg14 : Memref sig .tc .vmem S1x2048 .f32) (harg14 : arg14.IsWhole) (arg15 : Memref sig .tc .vmem S1x4096x128 .f32) (harg15 : arg15.IsWhole) (arg16 : Memref sig .tc .vmem S1x4096x128 .f32) (harg16 : arg16.IsWhole) (arg17 : Memref sig .tc .vmem S512x2048 .bf16) (harg17 : arg17.IsWhole) (arg18 : Memref sig .tc .vmem S1x8x1x2048 .f32) (harg18 : arg18.IsWhole) (arg19 : Memref sig .tc .vmem S8x8x2048 .f32) (harg19 : arg19.IsWhole) (arg20 : Memref sig .tc .vmem S1x4096x128 .bf16) (harg20 : arg20.IsWhole) (arg21 : Memref sig .tc .vmem S1x4096x128 .bf16) (harg21 : arg21.IsWhole) (arg22 : Memref sig .tc .vmem S512x256 .f32) (harg22 : arg22.IsWhole) (arg23 : Memref sig .tc .vmem S512x2048 .f32) (harg23 : arg23.IsWhole) (arg24 : Memref sig .tc .vmem S512x2048 .bf16) (harg24 : arg24.IsWhole) (arg25 : Memref sig .tc .vmem S2x8x1024 .f32) (harg25 : arg25.IsWhole) (arg26 : Memref sig .tc .vmem S16x512x128 .f32) (harg26 : arg26.IsWhole)  (hc4 : k0_cond4 i = 1#1)
  (x2 : Vec Ideal S512x128 .f32) (x3 : Vec Ideal S512x128 .f32) (x4 : Vec Ideal S1x1x256x2048 .bf16) (x6 : Vec Ideal S1x1x1024 .f32) (x7 : Vec Ideal S1x1x1024 .f32) (x12 : Vec Ideal S8x8x2048 .f32) (x22 : Vec Ideal S512x256 .f32) (x23 : Vec Ideal S512x2048 .f32) (s b : Fin 8) (hs : (i 1).val = s.val) (n : Fin 256) :
    (((out6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23).1 (ix2 b n), (out6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23).2.1 (ix2 b n)) : EReal × EReal) = bodyState x2 x3 x4 x6 x7 x12 s b (⟨0 + n.val, by omega⟩ : Fin 1024) := by
  unfold out6
  refine (turns_0 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  (BitVec.ofNat 32 (i 1).val) hc4 _ _ _ b n _ (by decide +kernel)).trans ?_
  rw [show Scf.trips k0_t6_loop.lb k0_t6_loop.ub k0_t6_loop.st = 8 by decide +kernel, in25_apply]
  refine (state_congr _ _ _ _ 16 (fun t ht => in23_push c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23 b _ t ht)).trans ?_
  unfold bodyState
  refine congrArg (fun z => state _ _ z 16) (Prod.ext ?_ ?_)
  · exact (pay310_apply _ b n).trans (in12_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23 s b _ hs)
  · exact ((pay311_apply _ b n).trans (in12_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23 s b _ hs)).trans (congrArg (fun z => x12 (ix3 s b z)) (Fin.ext (by show 1024 + n.val = 1024 + (0 + n.val); omega)))

theorem out6_1  (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1x256x2048 .bf16) (harg4 : arg4.IsWhole) (arg5 : Memref sig .tc .vmem S1x1x2048x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S1x1x1x256 .f32) (harg10 : arg10.IsWhole) (arg11 : Memref sig .tc .vmem S1x8x1x2048 .f32) (harg11 : arg11.IsWhole) (arg12 : Memref sig .tc .vmem S8x8x2048 .f32) (harg12 : arg12.IsWhole) (arg13 : Memref sig .tc .vmem S1x2048x2048 .bf16) (harg13 : arg13.IsWhole) (arg14 : Memref sig .tc .vmem S1x2048 .f32) (harg14 : arg14.IsWhole) (arg15 : Memref sig .tc .vmem S1x4096x128 .f32) (harg15 : arg15.IsWhole) (arg16 : Memref sig .tc .vmem S1x4096x128 .f32) (harg16 : arg16.IsWhole) (arg17 : Memref sig .tc .vmem S512x2048 .bf16) (harg17 : arg17.IsWhole) (arg18 : Memref sig .tc .vmem S1x8x1x2048 .f32) (harg18 : arg18.IsWhole) (arg19 : Memref sig .tc .vmem S8x8x2048 .f32) (harg19 : arg19.IsWhole) (arg20 : Memref sig .tc .vmem S1x4096x128 .bf16) (harg20 : arg20.IsWhole) (arg21 : Memref sig .tc .vmem S1x4096x128 .bf16) (harg21 : arg21.IsWhole) (arg22 : Memref sig .tc .vmem S512x256 .f32) (harg22 : arg22.IsWhole) (arg23 : Memref sig .tc .vmem S512x2048 .f32) (harg23 : arg23.IsWhole) (arg24 : Memref sig .tc .vmem S512x2048 .bf16) (harg24 : arg24.IsWhole) (arg25 : Memref sig .tc .vmem S2x8x1024 .f32) (harg25 : arg25.IsWhole) (arg26 : Memref sig .tc .vmem S16x512x128 .f32) (harg26 : arg26.IsWhole)  (hc4 : k0_cond4 i = 1#1)
  (x2 : Vec Ideal S512x128 .f32) (x3 : Vec Ideal S512x128 .f32) (x4 : Vec Ideal S1x1x256x2048 .bf16) (x6 : Vec Ideal S1x1x1024 .f32) (x7 : Vec Ideal S1x1x1024 .f32) (x12 : Vec Ideal S8x8x2048 .f32) (x22 : Vec Ideal S512x256 .f32) (x23 : Vec Ideal S512x2048 .f32) (s b : Fin 8) (hs : (i 1).val = s.val) (n : Fin 256) :
    (((out6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23).2.2.1 (ix2 b n), (out6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23).2.2.2.1 (ix2 b n)) : EReal × EReal) = bodyState x2 x3 x4 x6 x7 x12 s b (⟨256 + n.val, by omega⟩ : Fin 1024) := by
  unfold out6
  refine (turns_1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  (BitVec.ofNat 32 (i 1).val) hc4 _ _ _ b n _ (by decide +kernel)).trans ?_
  rw [show Scf.trips k0_t6_loop.lb k0_t6_loop.ub k0_t6_loop.st = 8 by decide +kernel, in25_apply]
  refine (state_congr _ _ _ _ 16 (fun t ht => in23_push c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23 b _ t ht)).trans ?_
  unfold bodyState
  refine congrArg (fun z => state _ _ z 16) (Prod.ext ?_ ?_)
  · exact (pay312_apply _ b n).trans (in12_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23 s b _ hs)
  · exact ((pay313_apply _ b n).trans (in12_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23 s b _ hs)).trans (congrArg (fun z => x12 (ix3 s b z)) (Fin.ext (by show 1280 + n.val = 1024 + (256 + n.val); omega)))

theorem out6_2  (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1x256x2048 .bf16) (harg4 : arg4.IsWhole) (arg5 : Memref sig .tc .vmem S1x1x2048x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S1x1x1x256 .f32) (harg10 : arg10.IsWhole) (arg11 : Memref sig .tc .vmem S1x8x1x2048 .f32) (harg11 : arg11.IsWhole) (arg12 : Memref sig .tc .vmem S8x8x2048 .f32) (harg12 : arg12.IsWhole) (arg13 : Memref sig .tc .vmem S1x2048x2048 .bf16) (harg13 : arg13.IsWhole) (arg14 : Memref sig .tc .vmem S1x2048 .f32) (harg14 : arg14.IsWhole) (arg15 : Memref sig .tc .vmem S1x4096x128 .f32) (harg15 : arg15.IsWhole) (arg16 : Memref sig .tc .vmem S1x4096x128 .f32) (harg16 : arg16.IsWhole) (arg17 : Memref sig .tc .vmem S512x2048 .bf16) (harg17 : arg17.IsWhole) (arg18 : Memref sig .tc .vmem S1x8x1x2048 .f32) (harg18 : arg18.IsWhole) (arg19 : Memref sig .tc .vmem S8x8x2048 .f32) (harg19 : arg19.IsWhole) (arg20 : Memref sig .tc .vmem S1x4096x128 .bf16) (harg20 : arg20.IsWhole) (arg21 : Memref sig .tc .vmem S1x4096x128 .bf16) (harg21 : arg21.IsWhole) (arg22 : Memref sig .tc .vmem S512x256 .f32) (harg22 : arg22.IsWhole) (arg23 : Memref sig .tc .vmem S512x2048 .f32) (harg23 : arg23.IsWhole) (arg24 : Memref sig .tc .vmem S512x2048 .bf16) (harg24 : arg24.IsWhole) (arg25 : Memref sig .tc .vmem S2x8x1024 .f32) (harg25 : arg25.IsWhole) (arg26 : Memref sig .tc .vmem S16x512x128 .f32) (harg26 : arg26.IsWhole)  (hc4 : k0_cond4 i = 1#1)
  (x2 : Vec Ideal S512x128 .f32) (x3 : Vec Ideal S512x128 .f32) (x4 : Vec Ideal S1x1x256x2048 .bf16) (x6 : Vec Ideal S1x1x1024 .f32) (x7 : Vec Ideal S1x1x1024 .f32) (x12 : Vec Ideal S8x8x2048 .f32) (x22 : Vec Ideal S512x256 .f32) (x23 : Vec Ideal S512x2048 .f32) (s b : Fin 8) (hs : (i 1).val = s.val) (n : Fin 256) :
    (((out6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23).2.2.2.2.1 (ix2 b n), (out6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23).2.2.2.2.2.1 (ix2 b n)) : EReal × EReal) = bodyState x2 x3 x4 x6 x7 x12 s b (⟨512 + n.val, by omega⟩ : Fin 1024) := by
  unfold out6
  refine (turns_2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  (BitVec.ofNat 32 (i 1).val) hc4 _ _ _ b n _ (by decide +kernel)).trans ?_
  rw [show Scf.trips k0_t6_loop.lb k0_t6_loop.ub k0_t6_loop.st = 8 by decide +kernel, in25_apply]
  refine (state_congr _ _ _ _ 16 (fun t ht => in23_push c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23 b _ t ht)).trans ?_
  unfold bodyState
  refine congrArg (fun z => state _ _ z 16) (Prod.ext ?_ ?_)
  · exact (pay314_apply _ b n).trans (in12_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23 s b _ hs)
  · exact ((pay315_apply _ b n).trans (in12_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23 s b _ hs)).trans (congrArg (fun z => x12 (ix3 s b z)) (Fin.ext (by show 1536 + n.val = 1024 + (512 + n.val); omega)))

theorem out6_3  (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1x256x2048 .bf16) (harg4 : arg4.IsWhole) (arg5 : Memref sig .tc .vmem S1x1x2048x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S1x1x1x256 .f32) (harg10 : arg10.IsWhole) (arg11 : Memref sig .tc .vmem S1x8x1x2048 .f32) (harg11 : arg11.IsWhole) (arg12 : Memref sig .tc .vmem S8x8x2048 .f32) (harg12 : arg12.IsWhole) (arg13 : Memref sig .tc .vmem S1x2048x2048 .bf16) (harg13 : arg13.IsWhole) (arg14 : Memref sig .tc .vmem S1x2048 .f32) (harg14 : arg14.IsWhole) (arg15 : Memref sig .tc .vmem S1x4096x128 .f32) (harg15 : arg15.IsWhole) (arg16 : Memref sig .tc .vmem S1x4096x128 .f32) (harg16 : arg16.IsWhole) (arg17 : Memref sig .tc .vmem S512x2048 .bf16) (harg17 : arg17.IsWhole) (arg18 : Memref sig .tc .vmem S1x8x1x2048 .f32) (harg18 : arg18.IsWhole) (arg19 : Memref sig .tc .vmem S8x8x2048 .f32) (harg19 : arg19.IsWhole) (arg20 : Memref sig .tc .vmem S1x4096x128 .bf16) (harg20 : arg20.IsWhole) (arg21 : Memref sig .tc .vmem S1x4096x128 .bf16) (harg21 : arg21.IsWhole) (arg22 : Memref sig .tc .vmem S512x256 .f32) (harg22 : arg22.IsWhole) (arg23 : Memref sig .tc .vmem S512x2048 .f32) (harg23 : arg23.IsWhole) (arg24 : Memref sig .tc .vmem S512x2048 .bf16) (harg24 : arg24.IsWhole) (arg25 : Memref sig .tc .vmem S2x8x1024 .f32) (harg25 : arg25.IsWhole) (arg26 : Memref sig .tc .vmem S16x512x128 .f32) (harg26 : arg26.IsWhole)  (hc4 : k0_cond4 i = 1#1)
  (x2 : Vec Ideal S512x128 .f32) (x3 : Vec Ideal S512x128 .f32) (x4 : Vec Ideal S1x1x256x2048 .bf16) (x6 : Vec Ideal S1x1x1024 .f32) (x7 : Vec Ideal S1x1x1024 .f32) (x12 : Vec Ideal S8x8x2048 .f32) (x22 : Vec Ideal S512x256 .f32) (x23 : Vec Ideal S512x2048 .f32) (s b : Fin 8) (hs : (i 1).val = s.val) (n : Fin 256) :
    (((out6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23).2.2.2.2.2.2.1 (ix2 b n), (out6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23).2.2.2.2.2.2.2 (ix2 b n)) : EReal × EReal) = bodyState x2 x3 x4 x6 x7 x12 s b (⟨768 + n.val, by omega⟩ : Fin 1024) := by
  unfold out6
  refine (turns_3 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  (BitVec.ofNat 32 (i 1).val) hc4 _ _ _ b n _ (by decide +kernel)).trans ?_
  rw [show Scf.trips k0_t6_loop.lb k0_t6_loop.ub k0_t6_loop.st = 8 by decide +kernel, in25_apply]
  refine (state_congr _ _ _ _ 16 (fun t ht => in23_push c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23 b _ t ht)).trans ?_
  unfold bodyState
  refine congrArg (fun z => state _ _ z 16) (Prod.ext ?_ ?_)
  · exact (pay316_apply _ b n).trans (in12_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23 s b _ hs)
  · exact ((pay317_apply _ b n).trans (in12_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23 s b _ hs)).trans (congrArg (fun z => x12 (ix3 s b z)) (Fin.ext (by show 1792 + n.val = 1024 + (768 + n.val); omega)))

/-- What a point stores of the states. -/
def stored  (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1x256x2048 .bf16) (harg4 : arg4.IsWhole) (arg5 : Memref sig .tc .vmem S1x1x2048x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S1x1x1x256 .f32) (harg10 : arg10.IsWhole) (arg11 : Memref sig .tc .vmem S1x8x1x2048 .f32) (harg11 : arg11.IsWhole) (arg12 : Memref sig .tc .vmem S8x8x2048 .f32) (harg12 : arg12.IsWhole) (arg13 : Memref sig .tc .vmem S1x2048x2048 .bf16) (harg13 : arg13.IsWhole) (arg14 : Memref sig .tc .vmem S1x2048 .f32) (harg14 : arg14.IsWhole) (arg15 : Memref sig .tc .vmem S1x4096x128 .f32) (harg15 : arg15.IsWhole) (arg16 : Memref sig .tc .vmem S1x4096x128 .f32) (harg16 : arg16.IsWhole) (arg17 : Memref sig .tc .vmem S512x2048 .bf16) (harg17 : arg17.IsWhole) (arg18 : Memref sig .tc .vmem S1x8x1x2048 .f32) (harg18 : arg18.IsWhole) (arg19 : Memref sig .tc .vmem S8x8x2048 .f32) (harg19 : arg19.IsWhole) (arg20 : Memref sig .tc .vmem S1x4096x128 .bf16) (harg20 : arg20.IsWhole) (arg21 : Memref sig .tc .vmem S1x4096x128 .bf16) (harg21 : arg21.IsWhole) (arg22 : Memref sig .tc .vmem S512x256 .f32) (harg22 : arg22.IsWhole) (arg23 : Memref sig .tc .vmem S512x2048 .f32) (harg23 : arg23.IsWhole) (arg24 : Memref sig .tc .vmem S512x2048 .bf16) (harg24 : arg24.IsWhole) (arg25 : Memref sig .tc .vmem S2x8x1024 .f32) (harg25 : arg25.IsWhole) (arg26 : Memref sig .tc .vmem S16x512x128 .f32) (harg26 : arg26.IsWhole)  (hc4 : k0_cond4 i = 1#1)
  (x2 : Vec Ideal S512x128 .f32) (x3 : Vec Ideal S512x128 .f32) (x4 : Vec Ideal S1x1x256x2048 .bf16) (x6 : Vec Ideal S1x1x1024 .f32) (x7 : Vec Ideal S1x1x1024 .f32) (x12 : Vec Ideal S8x8x2048 .f32) (x22 : Vec Ideal S512x256 .f32) (x23 : Vec Ideal S512x2048 .f32) : List (View.Piece (Elt Ideal) S8x8x2048 .f32) :=
  [⟨Rect.unit (s := S8x8x2048) (k0_off53 i) S1x8x2048.size (k0_off53_inb i hc4), k0_pay321 (F := Ideal) (out6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23).1 (out6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23).2.1 (out6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23).2.2.1 (out6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23).2.2.2.1 (out6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23).2.2.2.2.1 (out6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23).2.2.2.2.2.1 (out6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23).2.2.2.2.2.2.1 (out6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23).2.2.2.2.2.2.2⟩]

/-- The states' block after a point: row `i 1` replaced, the others kept. -/
theorem stored_apply  (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1x256x2048 .bf16) (harg4 : arg4.IsWhole) (arg5 : Memref sig .tc .vmem S1x1x2048x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S1x1x1x256 .f32) (harg10 : arg10.IsWhole) (arg11 : Memref sig .tc .vmem S1x8x1x2048 .f32) (harg11 : arg11.IsWhole) (arg12 : Memref sig .tc .vmem S8x8x2048 .f32) (harg12 : arg12.IsWhole) (arg13 : Memref sig .tc .vmem S1x2048x2048 .bf16) (harg13 : arg13.IsWhole) (arg14 : Memref sig .tc .vmem S1x2048 .f32) (harg14 : arg14.IsWhole) (arg15 : Memref sig .tc .vmem S1x4096x128 .f32) (harg15 : arg15.IsWhole) (arg16 : Memref sig .tc .vmem S1x4096x128 .f32) (harg16 : arg16.IsWhole) (arg17 : Memref sig .tc .vmem S512x2048 .bf16) (harg17 : arg17.IsWhole) (arg18 : Memref sig .tc .vmem S1x8x1x2048 .f32) (harg18 : arg18.IsWhole) (arg19 : Memref sig .tc .vmem S8x8x2048 .f32) (harg19 : arg19.IsWhole) (arg20 : Memref sig .tc .vmem S1x4096x128 .bf16) (harg20 : arg20.IsWhole) (arg21 : Memref sig .tc .vmem S1x4096x128 .bf16) (harg21 : arg21.IsWhole) (arg22 : Memref sig .tc .vmem S512x256 .f32) (harg22 : arg22.IsWhole) (arg23 : Memref sig .tc .vmem S512x2048 .f32) (harg23 : arg23.IsWhole) (arg24 : Memref sig .tc .vmem S512x2048 .bf16) (harg24 : arg24.IsWhole) (arg25 : Memref sig .tc .vmem S2x8x1024 .f32) (harg25 : arg25.IsWhole) (arg26 : Memref sig .tc .vmem S16x512x128 .f32) (harg26 : arg26.IsWhole)  (hc4 : k0_cond4 i = 1#1)
  (x2 : Vec Ideal S512x128 .f32) (x3 : Vec Ideal S512x128 .f32) (x4 : Vec Ideal S1x1x256x2048 .bf16) (x6 : Vec Ideal S1x1x1024 .f32) (x7 : Vec Ideal S1x1x1024 .f32) (x12 : Vec Ideal S8x8x2048 .f32) (x22 : Vec Ideal S512x256 .f32) (x23 : Vec Ideal S512x2048 .f32) (v : View sig .tc .vmem S8x8x2048 .f32) (f : v.ty.Contents (Elt Ideal)) (s s' b : Fin 8) (q : Fin 2048) (hs : (i 1).val = s.val) :
    v.read (Elt Ideal) (v.writes (Elt Ideal) f (stored c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23)) (ix3 s' b q)
      = if s' = s then flat (bodyState x2 x3 x4 x6 x7 x12 s b) q else v.read (Elt Ideal) f (ix3 s' b q) := by
  unfold stored
  by_cases h : s' = s
  · rw [if_pos h]; subst h
    refine (View.read_writes_cons_unit_of_mem v _ _ _ _ (ix3 s' b q) (ix3 (0 : Fin 1) b q) (off53_closed i) ?_).trans ?_
    · intro a
      match a with
      | ⟨0, _⟩ => show s'.val = (i 1).val + 0; omega
      | ⟨1, _⟩ => show b.val = 0 + b.val; omega
      | ⟨2, _⟩ => show q.val = 0 + q.val; omega
    · exact pay321_flat _ _ _ _ _ _ _ _ b (bodyState x2 x3 x4 x6 x7 x12 s' b) (out6_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23 s' b hs) (out6_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23 s' b hs) (out6_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23 s' b hs) (out6_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23 s' b hs) q
  · rw [if_neg h]
    have hne : s'.val ≠ s.val := fun e => h (Fin.ext e)
    refine (View.read_writes_cons_unit_of_not_mem v _ _ _ _ (ix3 s' b q) (off53_closed i) 0 ?_).trans rfl
    show s'.val < (i 1).val ∨ (i 1).val + 1 ≤ s'.val
    omega

end Cert.Kernel5Ideal.Scan

end
-- ==== Proof.Scan.Ideal.Left.lean ====
/- What the samples' states hold after a point, from the arrays. -/
module

public import proofs.«01_k».proof.Proof.Scan.Ideal.Row
public import proofs.«01_k».proof.Proof.Scan.Ideal.Sample
public import proofs.«01_k».proof.Proof.Scan.Ideal.SampleLast
public import proofs.«01_k».proof.Proof.Gen.Kernel5Ideal.Frame

@[expose] public section

set_option maxRecDepth 16384

noncomputable section

namespace Cert.Kernel5Ideal.Scan

open Idealize.ShloMosaic Idealize.ShloMosaic.TcCoe Idealize.ShloMosaic.ValueIdx Idealize.SL.Sem
open Idealize.ShloMosaic.Pipeline (Dat RDat Cfg Window BodyObligation cellOf)
open Cert.Scan (step state flat state_congr feed final value)
open Cert.Kernel5Ideal Cert.Kernel5Ideal.Gen

/-- The pieces a point of the sample block stores. -/
theorem sample_eq  (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1x256x2048 .bf16) (harg4 : arg4.IsWhole) (arg5 : Memref sig .tc .vmem S1x1x2048x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S1x1x1x256 .f32) (harg10 : arg10.IsWhole) (arg11 : Memref sig .tc .vmem S1x8x1x2048 .f32) (harg11 : arg11.IsWhole) (arg12 : Memref sig .tc .vmem S8x8x2048 .f32) (harg12 : arg12.IsWhole) (arg13 : Memref sig .tc .vmem S1x2048x2048 .bf16) (harg13 : arg13.IsWhole) (arg14 : Memref sig .tc .vmem S1x2048 .f32) (harg14 : arg14.IsWhole) (arg15 : Memref sig .tc .vmem S1x4096x128 .f32) (harg15 : arg15.IsWhole) (arg16 : Memref sig .tc .vmem S1x4096x128 .f32) (harg16 : arg16.IsWhole) (arg17 : Memref sig .tc .vmem S512x2048 .bf16) (harg17 : arg17.IsWhole) (arg18 : Memref sig .tc .vmem S1x8x1x2048 .f32) (harg18 : arg18.IsWhole) (arg19 : Memref sig .tc .vmem S8x8x2048 .f32) (harg19 : arg19.IsWhole) (arg20 : Memref sig .tc .vmem S1x4096x128 .bf16) (harg20 : arg20.IsWhole) (arg21 : Memref sig .tc .vmem S1x4096x128 .bf16) (harg21 : arg21.IsWhole) (arg22 : Memref sig .tc .vmem S512x256 .f32) (harg22 : arg22.IsWhole) (arg23 : Memref sig .tc .vmem S512x2048 .f32) (harg23 : arg23.IsWhole) (arg24 : Memref sig .tc .vmem S512x2048 .bf16) (harg24 : arg24.IsWhole) (arg25 : Memref sig .tc .vmem S2x8x1024 .f32) (harg25 : arg25.IsWhole) (arg26 : Memref sig .tc .vmem S16x512x128 .f32) (harg26 : arg26.IsWhole) (hc1 : ¬k0_cond1 i = 1#1) (hc2 : ¬k0_cond2 i = 1#1) (hc4 : k0_cond4 i = 1#1) (hc5 : ¬k0_cond5 i = 1#1)
    (x2 : Vec Ideal S512x128 .f32) (x3 : Vec Ideal S512x128 .f32) (x4 : Vec Ideal S1x1x256x2048 .bf16) (x5 : Vec Ideal S1x1x2048x256 .bf16) (x6 : Vec Ideal S1x1x1024 .f32) (x7 : Vec Ideal S1x1x1024 .f32) (x8 : Vec Ideal S1x8x1024 .f32) (x9 : Vec Ideal S1x8x1024 .f32) (x10 : Vec Ideal S1x1x1x256 .f32) (x11 : Vec Ideal S1x8x1x2048 .f32) (x12 : Vec Ideal S8x8x2048 .f32) (x13 : Vec Ideal S1x2048x2048 .bf16) (x14 : Vec Ideal S1x2048 .f32) (x15 : Vec Ideal S1x4096x128 .f32) (x16 : Vec Ideal S1x4096x128 .f32) (x17 : Vec Ideal S512x2048 .bf16) (x18 : Vec Ideal S1x8x1x2048 .f32) (x19 : Vec Ideal S8x8x2048 .f32) (x20 : Vec Ideal S1x4096x128 .bf16) (x21 : Vec Ideal S1x4096x128 .bf16) (x22 : Vec Ideal S512x256 .f32) (x23 : Vec Ideal S512x2048 .f32) (x24 : Vec Ideal S512x2048 .bf16) (x25 : Vec Ideal S2x8x1024 .f32) (x26 : Vec Ideal S16x512x128 .f32) : (sample (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc1 hc2 hc4 hc5 x2 x3 x4 x5 x6 x7 x8 x9 x10 x11 x12 x13 x14 x15 x16 x17 x18 x19 x20 x21 x22 x23 x24 x25 x26).1 = stored c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23 := rfl

/-- The pieces a point of the sample block stores. -/
theorem sampleLast_eq  (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1x256x2048 .bf16) (harg4 : arg4.IsWhole) (arg5 : Memref sig .tc .vmem S1x1x2048x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S1x1x1x256 .f32) (harg10 : arg10.IsWhole) (arg11 : Memref sig .tc .vmem S1x8x1x2048 .f32) (harg11 : arg11.IsWhole) (arg12 : Memref sig .tc .vmem S8x8x2048 .f32) (harg12 : arg12.IsWhole) (arg13 : Memref sig .tc .vmem S1x2048x2048 .bf16) (harg13 : arg13.IsWhole) (arg14 : Memref sig .tc .vmem S1x2048 .f32) (harg14 : arg14.IsWhole) (arg15 : Memref sig .tc .vmem S1x4096x128 .f32) (harg15 : arg15.IsWhole) (arg16 : Memref sig .tc .vmem S1x4096x128 .f32) (harg16 : arg16.IsWhole) (arg17 : Memref sig .tc .vmem S512x2048 .bf16) (harg17 : arg17.IsWhole) (arg18 : Memref sig .tc .vmem S1x8x1x2048 .f32) (harg18 : arg18.IsWhole) (arg19 : Memref sig .tc .vmem S8x8x2048 .f32) (harg19 : arg19.IsWhole) (arg20 : Memref sig .tc .vmem S1x4096x128 .bf16) (harg20 : arg20.IsWhole) (arg21 : Memref sig .tc .vmem S1x4096x128 .bf16) (harg21 : arg21.IsWhole) (arg22 : Memref sig .tc .vmem S512x256 .f32) (harg22 : arg22.IsWhole) (arg23 : Memref sig .tc .vmem S512x2048 .f32) (harg23 : arg23.IsWhole) (arg24 : Memref sig .tc .vmem S512x2048 .bf16) (harg24 : arg24.IsWhole) (arg25 : Memref sig .tc .vmem S2x8x1024 .f32) (harg25 : arg25.IsWhole) (arg26 : Memref sig .tc .vmem S16x512x128 .f32) (harg26 : arg26.IsWhole) (hc1 : ¬k0_cond1 i = 1#1) (hc2 : ¬k0_cond2 i = 1#1) (hc4 : k0_cond4 i = 1#1) (hc5 : k0_cond5 i = 1#1)
    (x2 : Vec Ideal S512x128 .f32) (x3 : Vec Ideal S512x128 .f32) (x4 : Vec Ideal S1x1x256x2048 .bf16) (x5 : Vec Ideal S1x1x2048x256 .bf16) (x6 : Vec Ideal S1x1x1024 .f32) (x7 : Vec Ideal S1x1x1024 .f32) (x8 : Vec Ideal S1x8x1024 .f32) (x9 : Vec Ideal S1x8x1024 .f32) (x10 : Vec Ideal S1x1x1x256 .f32) (x11 : Vec Ideal S1x8x1x2048 .f32) (x12 : Vec Ideal S8x8x2048 .f32) (x13 : Vec Ideal S1x2048x2048 .bf16) (x14 : Vec Ideal S1x2048 .f32) (x15 : Vec Ideal S1x4096x128 .f32) (x16 : Vec Ideal S1x4096x128 .f32) (x17 : Vec Ideal S512x2048 .bf16) (x18 : Vec Ideal S1x8x1x2048 .f32) (x19 : Vec Ideal S8x8x2048 .f32) (x20 : Vec Ideal S1x4096x128 .bf16) (x21 : Vec Ideal S1x4096x128 .bf16) (x22 : Vec Ideal S512x256 .f32) (x23 : Vec Ideal S512x2048 .f32) (x24 : Vec Ideal S512x2048 .bf16) (x25 : Vec Ideal S2x8x1024 .f32) (x26 : Vec Ideal S16x512x128 .f32) : (sampleLast (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc1 hc2 hc4 hc5 x2 x3 x4 x5 x6 x7 x8 x9 x10 x11 x12 x13 x14 x15 x16 x17 x18 x19 x20 x21 x22 x23 x24 x25 x26).1 = stored c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23 := rfl

variable (m : (ℓ : Loc nD τ sig) → Buf (Elt Ideal) ℓ)

/-- The samples' new states, from the arrays the call reads. -/
def states (c : Dev nD) : Vec Ideal S8x8x2048 .f32 :=
  value (V m c main_arg0) (V m c main_arg1) (V m c main_arg3) (V m c main_arg4) (V m c main_arg8)

/-- The samples' states after point `t`, if they were `Y` before it: in the sample block the point's row is new. -/
def left (c : Dev nD) (t : Fin cfg0.N) (Y : Vec Ideal S8x8x2048 .f32) : Vec Ideal S8x8x2048 .f32 :=
  fun j => if 128 ≤ t.val ∧ (j 0).val = t.val % 8 then states m c j else Y j

theorem left_prompt (c : Dev nD) (t : Fin cfg0.N) (h : ¬ 128 ≤ t.val) (Y : Vec Ideal S8x8x2048 .f32) : left m c t Y = Y := by
  funext j
  unfold left
  rw [if_neg (fun e => h e.1)]

/-- What a point of group `s` finds in the blocks it reads. -/
structure Found (c : Dev nD) (s : Fin 8) (Y0 Y1 : Vec Ideal S512x128 .f32) (Y2 : Vec Ideal S1x1x256x2048 .bf16) (Y4 Y5 : Vec Ideal S1x1x1024 .f32)
    (Y10 : Vec Ideal S8x8x2048 .f32) : Prop where
  left_half : ∀ (r : Fin 512) (n : Fin 128) (h : r.val < 128), Y0 (ix2 r n) = V m c main_arg0 (ix2 (⟨8192 + r.val, by omega⟩ : Fin 8320) (⟨256 * s.val + n.val, by omega⟩ : Fin 10240))
  right_half : ∀ (r : Fin 512) (n : Fin 128) (h : r.val < 128), Y1 (ix2 r n) = V m c main_arg0 (ix2 (⟨8192 + r.val, by omega⟩ : Fin 8320) (⟨256 * s.val + (128 + n.val), by omega⟩ : Fin 10240))
  weights : ∀ (q : Fin 256) (p : Fin 2048), Y2 (ix4 (0 : Fin 1) (0 : Fin 1) q p) = V m c main_arg1 (ix4 (0 : Fin 4) s q p)
  re : ∀ k : Fin 1024, Y4 (ix3 (0 : Fin 1) (0 : Fin 1) k) = V m c main_arg3 (ix3 (0 : Fin 4) (0 : Fin 1) (⟨1024 * s.val + k.val, by omega⟩ : Fin 8192))
  im : ∀ k : Fin 1024, Y5 (ix3 (0 : Fin 1) (0 : Fin 1) k) = V m c main_arg4 (ix3 (0 : Fin 4) (0 : Fin 1) (⟨1024 * s.val + k.val, by omega⟩ : Fin 8192))
  start : ∀ (b : Fin 8) (q : Fin 2048), Y10 (ix3 s b q) = V m c main_arg8 (ix3 s b q)

theorem gathered_found {c : Dev nD} {s : Fin 8} {Y0 Y1 : Vec Ideal S512x128 .f32} {Y2 : Vec Ideal S1x1x256x2048 .bf16} {Y4 Y5 : Vec Ideal S1x1x1024 .f32}
    {Y10 : Vec Ideal S8x8x2048 .f32} (F : Found m c s Y0 Y1 Y2 Y4 Y5 Y10) (b : Fin 8) (t : Nat) (ht : t < 16) (h : 8 * t + b.val < 128) (q : Fin 256) :
    gathered Y0 Y1 (8 * t + b.val) h q
      = V m c main_arg0 (ix2 (⟨8192 + 16 * b.val + t, by omega⟩ : Fin 8320) (⟨256 * s.val + q.val, by omega⟩ : Fin 10240)) := by
  have h1 : (8 * t + b.val) / 8 + 16 * ((8 * t + b.val) % 8) = 16 * b.val + t := by omega
  unfold gathered
  by_cases hq : q.val < 128
  · rw [dif_pos hq]
    refine (F.left_half _ _ (by show (8 * t + b.val) / 8 + 16 * ((8 * t + b.val) % 8) < 128; omega)).trans ?_
    refine congrArg (V m c main_arg0) (congrArg₂ ix2 (Fin.ext ?_) (Fin.ext rfl))
    show 8192 + ((8 * t + b.val) / 8 + 16 * ((8 * t + b.val) % 8)) = 8192 + 16 * b.val + t
    omega
  · rw [dif_neg hq]
    refine (F.right_half _ _ (by show (8 * t + b.val) / 8 + 16 * ((8 * t + b.val) % 8) < 128; omega)).trans ?_
    refine congrArg (V m c main_arg0) (congrArg₂ ix2 (Fin.ext ?_) (Fin.ext ?_))
    · show 8192 + ((8 * t + b.val) / 8 + 16 * ((8 * t + b.val) % 8)) = 8192 + 16 * b.val + t
      omega
    · show 256 * s.val + (128 + (q.val - 128)) = 256 * s.val + q.val
      omega

theorem body_found {c : Dev nD} {s : Fin 8} {Y0 Y1 : Vec Ideal S512x128 .f32} {Y2 : Vec Ideal S1x1x256x2048 .bf16} {Y4 Y5 : Vec Ideal S1x1x1024 .f32}
    {Y10 : Vec Ideal S8x8x2048 .f32} (F : Found m c s Y0 Y1 Y2 Y4 Y5 Y10) (b : Fin 8) (k : Fin 1024) :
    bodyState Y0 Y1 Y2 Y4 Y5 Y10 s b k
      = final (V m c main_arg0) (V m c main_arg1) (V m c main_arg3) (V m c main_arg4) (V m c main_arg8) s b k := by
  unfold bodyState final
  rw [F.re, F.im, F.start, F.start]
  refine state_congr _ _ _ _ 16 (fun t ht => ?_)
  have h : 8 * t + b.val < 128 := by omega
  unfold pushed feed
  rw [dif_pos h, dif_pos ht]
  exact congrArg₂ Prod.mk
    (Finset.sum_congr rfl fun q _ => congrArg₂ (fun y z : EReal => y * z) (gathered_found m F b t ht h q) (F.weights q _))
    (Finset.sum_congr rfl fun q _ => congrArg₂ (fun y z : EReal => y * z) (gathered_found m F b t ht h q) (F.weights q _))

/-- A block whose row `s` is new and whose other rows are kept is what `left` says. -/
theorem left_sample_of (c : Dev nD) (t : Fin cfg0.N) (h : 128 ≤ t.val) (Y X : Vec Ideal S8x8x2048 .f32)
    (H : ∀ s : Fin 8, t.val = 128 + s.val → ∀ (s' b : Fin 8) (q : Fin 2048), X (ix3 s' b q) = if s' = s then states m c (ix3 s b q) else Y (ix3 s' b q)) :
    X = left m c t Y := by
  have ht : t.val < 136 := Nat.lt_of_lt_of_eq t.isLt N_0
  have h8 : t.val - 128 = t.val % 8 := by omega
  have key : ∀ (a b : Fin 8) (q : Fin 2048), X (ix3 a b q) = left m c t Y (ix3 a b q) := by
    intro a b q
    refine (H ⟨t.val - 128, by omega⟩ (by show t.val = 128 + (t.val - 128); omega) a b q).trans ?_
    unfold left
    by_cases e : a = (⟨t.val - 128, by omega⟩ : Fin 8)
    · have e' : a.val = t.val % 8 := (congrArg Fin.val e).trans h8
      rw [if_pos e, if_pos (show 128 ≤ t.val ∧ ((ix3 a b q : S8x8x2048.Idx) 0).val = t.val % 8 from ⟨h, e'⟩), ← e]
    · rw [if_neg e, if_neg (fun e' : 128 ≤ t.val ∧ ((ix3 a b q : S8x8x2048.Idx) 0).val = t.val % 8 => e (Fin.ext (e'.2.trans h8.symm)))]
  funext j
  rw [eq_ix3 j]
  exact key _ _ _

theorem cond_coord (t : Fin cfg0.N) : (grid0.coords t 1).val = t.val % 8 :=
  have e1 : (grid0.coords t 1).val = t.val / 1 % 8 := Pipeline.Grid.coords_val t 1 (by decide) rfl
  e1.trans (by omega)

/-- The states' block after such a point. -/
theorem sample_left  (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1x256x2048 .bf16) (harg4 : arg4.IsWhole) (arg5 : Memref sig .tc .vmem S1x1x2048x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S1x1x1x256 .f32) (harg10 : arg10.IsWhole) (arg11 : Memref sig .tc .vmem S1x8x1x2048 .f32) (harg11 : arg11.IsWhole) (arg12 : Memref sig .tc .vmem S8x8x2048 .f32) (harg12 : arg12.IsWhole) (arg13 : Memref sig .tc .vmem S1x2048x2048 .bf16) (harg13 : arg13.IsWhole) (arg14 : Memref sig .tc .vmem S1x2048 .f32) (harg14 : arg14.IsWhole) (arg15 : Memref sig .tc .vmem S1x4096x128 .f32) (harg15 : arg15.IsWhole) (arg16 : Memref sig .tc .vmem S1x4096x128 .f32) (harg16 : arg16.IsWhole) (arg17 : Memref sig .tc .vmem S512x2048 .bf16) (harg17 : arg17.IsWhole) (arg18 : Memref sig .tc .vmem S1x8x1x2048 .f32) (harg18 : arg18.IsWhole) (arg19 : Memref sig .tc .vmem S8x8x2048 .f32) (harg19 : arg19.IsWhole) (arg20 : Memref sig .tc .vmem S1x4096x128 .bf16) (harg20 : arg20.IsWhole) (arg21 : Memref sig .tc .vmem S1x4096x128 .bf16) (harg21 : arg21.IsWhole) (arg22 : Memref sig .tc .vmem S512x256 .f32) (harg22 : arg22.IsWhole) (arg23 : Memref sig .tc .vmem S512x2048 .f32) (harg23 : arg23.IsWhole) (arg24 : Memref sig .tc .vmem S512x2048 .bf16) (harg24 : arg24.IsWhole) (arg25 : Memref sig .tc .vmem S2x8x1024 .f32) (harg25 : arg25.IsWhole) (arg26 : Memref sig .tc .vmem S16x512x128 .f32) (harg26 : arg26.IsWhole) (hc1 : ¬k0_cond1 i = 1#1) (hc2 : ¬k0_cond2 i = 1#1) (hc4 : k0_cond4 i = 1#1) (hc5 : ¬k0_cond5 i = 1#1)
    (x2 : Vec Ideal S512x128 .f32) (x3 : Vec Ideal S512x128 .f32) (x4 : Vec Ideal S1x1x256x2048 .bf16) (x5 : Vec Ideal S1x1x2048x256 .bf16) (x6 : Vec Ideal S1x1x1024 .f32) (x7 : Vec Ideal S1x1x1024 .f32) (x8 : Vec Ideal S1x8x1024 .f32) (x9 : Vec Ideal S1x8x1024 .f32) (x10 : Vec Ideal S1x1x1x256 .f32) (x11 : Vec Ideal S1x8x1x2048 .f32) (x12 : Vec Ideal S8x8x2048 .f32) (x13 : Vec Ideal S1x2048x2048 .bf16) (x14 : Vec Ideal S1x2048 .f32) (x15 : Vec Ideal S1x4096x128 .f32) (x16 : Vec Ideal S1x4096x128 .f32) (x17 : Vec Ideal S512x2048 .bf16) (x18 : Vec Ideal S1x8x1x2048 .f32) (x19 : Vec Ideal S8x8x2048 .f32) (x20 : Vec Ideal S1x4096x128 .bf16) (x21 : Vec Ideal S1x4096x128 .bf16) (x22 : Vec Ideal S512x256 .f32) (x23 : Vec Ideal S512x2048 .f32) (x24 : Vec Ideal S512x2048 .bf16) (x25 : Vec Ideal S2x8x1024 .f32) (x26 : Vec Ideal S16x512x128 .f32) (m : (ℓ : Loc nD τ sig) → Buf (Elt Ideal) ℓ) (s : Fin 8) (hs : (i 1).val = s.val) (F : Found m c s x2 x3 x4 x6 x7 x12)
    (s' b : Fin 8) (q : Fin 2048) :
    arg19.view.read (Elt Ideal) (arg19.view.writes (Elt Ideal) (harg19.unread x19) (sample (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc1 hc2 hc4 hc5 x2 x3 x4 x5 x6 x7 x8 x9 x10 x11 x12 x13 x14 x15 x16 x17 x18 x19 x20 x21 x22 x23 x24 x25 x26).1) (ix3 s' b q)
      = if s' = s then states m c (ix3 s b q) else x19 (ix3 s' b q) := by
  rw [sample_eq]
  refine (stored_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23 arg19.view (harg19.unread x19) s s' b q hs).trans ?_
  by_cases e : s' = s
  · rw [if_pos e, if_pos e]
    show flat _ q = flat _ q
    exact congrArg (fun B => flat B q) (funext fun k => body_found m F b k)
  · rw [if_neg e, if_neg e]
    exact congrFun (harg19.read_unread x19) _

/-- The states' block after such a point. -/
theorem sampleLast_left  (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1x256x2048 .bf16) (harg4 : arg4.IsWhole) (arg5 : Memref sig .tc .vmem S1x1x2048x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S1x1x1x256 .f32) (harg10 : arg10.IsWhole) (arg11 : Memref sig .tc .vmem S1x8x1x2048 .f32) (harg11 : arg11.IsWhole) (arg12 : Memref sig .tc .vmem S8x8x2048 .f32) (harg12 : arg12.IsWhole) (arg13 : Memref sig .tc .vmem S1x2048x2048 .bf16) (harg13 : arg13.IsWhole) (arg14 : Memref sig .tc .vmem S1x2048 .f32) (harg14 : arg14.IsWhole) (arg15 : Memref sig .tc .vmem S1x4096x128 .f32) (harg15 : arg15.IsWhole) (arg16 : Memref sig .tc .vmem S1x4096x128 .f32) (harg16 : arg16.IsWhole) (arg17 : Memref sig .tc .vmem S512x2048 .bf16) (harg17 : arg17.IsWhole) (arg18 : Memref sig .tc .vmem S1x8x1x2048 .f32) (harg18 : arg18.IsWhole) (arg19 : Memref sig .tc .vmem S8x8x2048 .f32) (harg19 : arg19.IsWhole) (arg20 : Memref sig .tc .vmem S1x4096x128 .bf16) (harg20 : arg20.IsWhole) (arg21 : Memref sig .tc .vmem S1x4096x128 .bf16) (harg21 : arg21.IsWhole) (arg22 : Memref sig .tc .vmem S512x256 .f32) (harg22 : arg22.IsWhole) (arg23 : Memref sig .tc .vmem S512x2048 .f32) (harg23 : arg23.IsWhole) (arg24 : Memref sig .tc .vmem S512x2048 .bf16) (harg24 : arg24.IsWhole) (arg25 : Memref sig .tc .vmem S2x8x1024 .f32) (harg25 : arg25.IsWhole) (arg26 : Memref sig .tc .vmem S16x512x128 .f32) (harg26 : arg26.IsWhole) (hc1 : ¬k0_cond1 i = 1#1) (hc2 : ¬k0_cond2 i = 1#1) (hc4 : k0_cond4 i = 1#1) (hc5 : k0_cond5 i = 1#1)
    (x2 : Vec Ideal S512x128 .f32) (x3 : Vec Ideal S512x128 .f32) (x4 : Vec Ideal S1x1x256x2048 .bf16) (x5 : Vec Ideal S1x1x2048x256 .bf16) (x6 : Vec Ideal S1x1x1024 .f32) (x7 : Vec Ideal S1x1x1024 .f32) (x8 : Vec Ideal S1x8x1024 .f32) (x9 : Vec Ideal S1x8x1024 .f32) (x10 : Vec Ideal S1x1x1x256 .f32) (x11 : Vec Ideal S1x8x1x2048 .f32) (x12 : Vec Ideal S8x8x2048 .f32) (x13 : Vec Ideal S1x2048x2048 .bf16) (x14 : Vec Ideal S1x2048 .f32) (x15 : Vec Ideal S1x4096x128 .f32) (x16 : Vec Ideal S1x4096x128 .f32) (x17 : Vec Ideal S512x2048 .bf16) (x18 : Vec Ideal S1x8x1x2048 .f32) (x19 : Vec Ideal S8x8x2048 .f32) (x20 : Vec Ideal S1x4096x128 .bf16) (x21 : Vec Ideal S1x4096x128 .bf16) (x22 : Vec Ideal S512x256 .f32) (x23 : Vec Ideal S512x2048 .f32) (x24 : Vec Ideal S512x2048 .bf16) (x25 : Vec Ideal S2x8x1024 .f32) (x26 : Vec Ideal S16x512x128 .f32) (m : (ℓ : Loc nD τ sig) → Buf (Elt Ideal) ℓ) (s : Fin 8) (hs : (i 1).val = s.val) (F : Found m c s x2 x3 x4 x6 x7 x12)
    (s' b : Fin 8) (q : Fin 2048) :
    arg19.view.read (Elt Ideal) (arg19.view.writes (Elt Ideal) (harg19.unread x19) (sampleLast (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc1 hc2 hc4 hc5 x2 x3 x4 x5 x6 x7 x8 x9 x10 x11 x12 x13 x14 x15 x16 x17 x18 x19 x20 x21 x22 x23 x24 x25 x26).1) (ix3 s' b q)
      = if s' = s then states m c (ix3 s b q) else x19 (ix3 s' b q) := by
  rw [sampleLast_eq]
  refine (stored_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26  hc4 x2 x3 x4 x6 x7 x12 x22 x23 arg19.view (harg19.unread x19) s s' b q hs).trans ?_
  by_cases e : s' = s
  · rw [if_pos e, if_pos e]
    show flat _ q = flat _ q
    exact congrArg (fun B => flat B q) (funext fun k => body_found m F b k)
  · rw [if_neg e, if_neg e]
    exact congrFun (harg19.read_unread x19) _

end Cert.Kernel5Ideal.Scan

end
-- ==== Proof.Scan.Ideal.Data.lean ====
/- The call's cells and the data of its proof over the reals. -/
module

public import proofs.«01_k».proof.Proof.Scan.Ideal.Sample
public import proofs.«01_k».proof.Proof.Scan.Ideal.SampleLast
public import proofs.«01_k».proof.Proof.Gen.Kernel5Ideal.Frame
public import proofs.«01_k».proof.Proof.Scan.Ideal.Left
public import Idealize.ShloMosaic.Lib.Pipeline.ArrRel
public import Idealize.ShloMosaic.Lib.Claim

@[expose] public section

set_option maxRecDepth 16384

noncomputable section

namespace Cert.Kernel5Ideal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel5Ideal Cert.Kernel5Ideal.Gen
open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-- The first row block. -/
theorem hcond1 : ∀ t : Fin cfg0.N, k0_cond1 (grid0.coords t) = 1#1 ↔ t.val < 8 :=
  (fun t => by
    have ht : t.val < 136 := Nat.lt_of_lt_of_eq t.isLt N_0
    have e0 : (grid0.coords t 0).val = t.val / 8 % 17 := Pipeline.Grid.coords_val t 0 (by decide) rfl
    have e1 : (grid0.coords t 1).val = t.val / 1 % 8 := Pipeline.Grid.coords_val t 1 (by decide) rfl
    simp only [k0_cond1, e0, e1]
    word_cmp
   : ∀ t : Fin grid0.N, k0_cond1 (grid0.coords t) = 1#1 ↔ t.val < 8)

/-- A prompt's row block. -/
theorem hcond2 : ∀ t : Fin cfg0.N, k0_cond2 (grid0.coords t) = 1#1 ↔ t.val < 128 :=
  (fun t => by
    have ht : t.val < 136 := Nat.lt_of_lt_of_eq t.isLt N_0
    have e0 : (grid0.coords t 0).val = t.val / 8 % 17 := Pipeline.Grid.coords_val t 0 (by decide) rfl
    have e1 : (grid0.coords t 1).val = t.val / 1 % 8 := Pipeline.Grid.coords_val t 1 (by decide) rfl
    simp only [k0_cond2, e0, e1]
    word_cmp
   : ∀ t : Fin grid0.N, k0_cond2 (grid0.coords t) = 1#1 ↔ t.val < 128)

/-- The last state group of a prompt's row block. -/
theorem hcond3 : ∀ t : Fin cfg0.N, k0_cond3 (grid0.coords t) = 1#1 ↔ t.val % 8 = 7 :=
  (fun t => by
    have ht : t.val < 136 := Nat.lt_of_lt_of_eq t.isLt N_0
    have e0 : (grid0.coords t 0).val = t.val / 8 % 17 := Pipeline.Grid.coords_val t 0 (by decide) rfl
    have e1 : (grid0.coords t 1).val = t.val / 1 % 8 := Pipeline.Grid.coords_val t 1 (by decide) rfl
    simp only [k0_cond3, e0, e1]
    word_cmp
   : ∀ t : Fin grid0.N, k0_cond3 (grid0.coords t) = 1#1 ↔ t.val % 8 = 7)

/-- The samples' row block. -/
theorem hcond4 : ∀ t : Fin cfg0.N, k0_cond4 (grid0.coords t) = 1#1 ↔ 128 ≤ t.val :=
  (fun t => by
    have ht : t.val < 136 := Nat.lt_of_lt_of_eq t.isLt N_0
    have e0 : (grid0.coords t 0).val = t.val / 8 % 17 := Pipeline.Grid.coords_val t 0 (by decide) rfl
    have e1 : (grid0.coords t 1).val = t.val / 1 % 8 := Pipeline.Grid.coords_val t 1 (by decide) rfl
    simp only [k0_cond4, e0, e1]
    word_cmp
   : ∀ t : Fin grid0.N, k0_cond4 (grid0.coords t) = 1#1 ↔ 128 ≤ t.val)

/-- The last state group of the samples' row block. -/
theorem hcond5 : ∀ t : Fin cfg0.N, k0_cond5 (grid0.coords t) = 1#1 ↔ t.val % 8 = 7 :=
  (fun t => by
    have ht : t.val < 136 := Nat.lt_of_lt_of_eq t.isLt N_0
    have e0 : (grid0.coords t 0).val = t.val / 8 % 17 := Pipeline.Grid.coords_val t 0 (by decide) rfl
    have e1 : (grid0.coords t 1).val = t.val / 1 % 8 := Pipeline.Grid.coords_val t 1 (by decide) rfl
    simp only [k0_cond5, e0, e1]
    word_cmp
   : ∀ t : Fin grid0.N, k0_cond5 (grid0.coords t) = 1#1 ↔ t.val % 8 = 7)

/-! Each window's staging buffer at a point, and the scratch. -/
abbrev ms0 (t : Fin cfg0.N) : Memref sig .tc .vmem S512x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x256x2048 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x2048x256 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x8x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x8x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x1x1x256 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x8x1x2048 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S8x8x2048 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x2048x2048 .bf16 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x2048 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S1x4096x128 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S1x4096x128 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S512x2048 .bf16 := win0_15.stage (cfg0.slots t 15)
abbrev hs15 (t : Fin cfg0.N) : (ms15 t).IsWhole := hstage0_15 ((cfg0.slots t 15).cast nbuf0_15)
abbrev ms16 (t : Fin cfg0.N) : Memref sig .tc .vmem S1x8x1x2048 .f32 := win0_16.stage (cfg0.slots t 16)
abbrev hs16 (t : Fin cfg0.N) : (ms16 t).IsWhole := hstage0_16 ((cfg0.slots t 16).cast nbuf0_16)
abbrev ms17 (t : Fin cfg0.N) : Memref sig .tc .vmem S8x8x2048 .f32 := win0_17.stage (cfg0.slots t 17)
abbrev hs17 (t : Fin cfg0.N) : (ms17 t).IsWhole := hstage0_17 ((cfg0.slots t 17).cast nbuf0_17)
abbrev ms18 (t : Fin cfg0.N) : Memref sig .tc .vmem S1x4096x128 .bf16 := win0_18.stage (cfg0.slots t 18)
abbrev hs18 (t : Fin cfg0.N) : (ms18 t).IsWhole := hstage0_18 ((cfg0.slots t 18).cast nbuf0_18)
abbrev ms19 (t : Fin cfg0.N) : Memref sig .tc .vmem S1x4096x128 .bf16 := win0_19.stage (cfg0.slots t 19)
abbrev hs19 (t : Fin cfg0.N) : (ms19 t).IsWhole := hstage0_19 ((cfg0.slots t 19).cast nbuf0_19)
abbrev scr0 : Memref sig .tc .vmem S512x256 .f32 := Memref.whole cc0_scratch0
abbrev scr1 : Memref sig .tc .vmem S512x2048 .f32 := Memref.whole cc0_scratch1
abbrev scr2 : Memref sig .tc .vmem S512x2048 .bf16 := Memref.whole cc0_scratch2
abbrev scr3 : Memref sig .tc .vmem S2x8x1024 .f32 := Memref.whole cc0_scratch3
abbrev scr4 : Memref sig .tc .vmem S16x512x128 .f32 := Memref.whole cc0_scratch4

/-- The invariant of the region's entry and exit, with the scratch as buffers owned at some contents. -/
theorem PhiA_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d)) ∗ (∃ r, prngReg c r)) := by
  unfold Pipeline.ΦA; rw [scopedRest0_eq]; simp only [scr0, scr1, scr2, scr3, scr4, owns_whole]; try rfl

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- What the body may leave in a staging buffer: an input's as found, the states' as `left` says, of the others nothing is said. -/
def rel (c : Dev nD) : (w : Fin cfg0.W) → Fin cfg0.N → (Y X : (cfg0.win w).block.Idx → Elt Ideal (cfg0.win w).elt) → Prop
  | 0 => fun _ Y X => X = Y
  | 1 => fun _ Y X => X = Y
  | 2 => fun _ Y X => X = Y
  | 3 => fun _ Y X => X = Y
  | 4 => fun _ Y X => X = Y
  | 5 => fun _ Y X => X = Y
  | 6 => fun _ Y X => X = Y
  | 7 => fun _ Y X => X = Y
  | 8 => fun _ Y X => X = Y
  | 9 => fun _ Y X => X = Y
  | 10 => fun _ Y X => X = Y
  | 11 => fun _ Y X => X = Y
  | 12 => fun _ Y X => X = Y
  | 13 => fun _ Y X => X = Y
  | 14 => fun _ Y X => X = Y
  | 15 => fun _ _ _ => True
  | 16 => fun _ _ _ => True
  | 17 => fun t Y X => X = left m c t Y
  | 18 => fun _ _ _ => True
  | 19 => fun _ _ _ => True
  | ⟨_ + 20, h⟩ => absurd h (Nat.not_lt.2 (Nat.le_add_left _ _))

/-- The proof data: the arrays as the region finds them. -/
def rdat (c : Dev nD) : RDat τ (Elt Ideal) Unit ℕ (UR sig nD τ) ℕ cfg0 c where
  A w := V m c (Pipeline.arrRef spec0 w)
  after w t Y X := rel m c w t Y X
  Φ _ := Pipeline.ΦA spec0 c
  q w := Pipeline.shareOf spec0 w
  owed _ := 0

theorem A_eq (c : Dev nD) (w : Fin cfg0.W) : (rdat m c).A w = V m c (Pipeline.arrRef spec0 w) := by
  dsimp only [rdat]

end Cert.Kernel5Ideal.Scan

end
-- ==== Proof.Scan.Ideal.Finds.lean ====
/- What the sample points of the recurrence find in their staging buffers, and what they leave of the new states. -/
module

public import proofs.«01_k».proof.Proof.Scan.Ideal.Sample
public import proofs.«01_k».proof.Proof.Scan.Ideal.SampleLast
public import proofs.«01_k».proof.Proof.Gen.Kernel5Ideal.Frame
public import proofs.«01_k».proof.Proof.Scan.Ideal.Data
public import Idealize.ShloMosaic.Lib.Pipeline.ArrRel
public import Idealize.ShloMosaic.Lib.Claim

@[expose] public section

set_option maxRecDepth 16384

noncomputable section

namespace Cert.Kernel5Ideal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel5Ideal Cert.Kernel5Ideal.Gen
open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-- Which block of its array each window reads at a point of the sample block. -/
theorem index_facts : ∀ t : Fin cfg0.N, 128 ≤ t.val →
    (win0_0.index t 0 = 16 ∧ win0_0.index t 1 = 2 * (t.val % 8))
    ∧ (win0_1.index t 0 = 16 ∧ win0_1.index t 1 = 2 * (t.val % 8) + 1)
    ∧ (win0_2.index t 0 = 0 ∧ win0_2.index t 1 = t.val % 8 ∧ win0_2.index t 2 = 0 ∧ win0_2.index t 3 = 0)
    ∧ (win0_4.index t 0 = 0 ∧ win0_4.index t 1 = 0 ∧ win0_4.index t 2 = t.val % 8)
    ∧ (win0_5.index t 0 = 0 ∧ win0_5.index t 1 = 0 ∧ win0_5.index t 2 = t.val % 8)
    ∧ (win0_10.index t 0 = 0 ∧ win0_10.index t 1 = 0 ∧ win0_10.index t 2 = 0) :=
  (by decide +kernel : ∀ t : Fin grid0.N, _)

/-- How much of the projection's blocks the fetch brings there. -/
theorem extent_facts : ∀ t : Fin cfg0.N, 128 ≤ t.val →
    (win0_0.xsize (grid0.coords t) 0 = 128 ∧ win0_0.xsize (grid0.coords t) 1 = 128)
    ∧ (win0_1.xsize (grid0.coords t) 0 = 128 ∧ win0_1.xsize (grid0.coords t) 1 = 128) :=
  (by decide +kernel : ∀ t : Fin grid0.N, _)

theorem find_0 (c : Dev nD) (t : Fin cfg0.N) (s : Fin 8) (hs : t.val = 128 + s.val) (Y : Vec Ideal S512x128 .f32) (hF : (rdat m c).Finds 0 t Y)
    (r : Fin 512) (n : Fin 128) (h : r.val < 128) :
    Y (ix2 r n) = V m c main_arg0 (ix2 (⟨8192 + r.val, by omega⟩ : Fin 8320) (⟨256 * s.val + n.val, by omega⟩ : Fin 10240)) := by
  obtain ⟨⟨e0, e1⟩, -⟩ := index_facts t (by omega)
  obtain ⟨⟨x0, x1⟩, -⟩ := extent_facts t (by omega)
  obtain ⟨d, rfl⟩ := ((rdat m c).finds_of_fetch (fetch0_0 t) Y).mp hF
  have hm : win0_0.moved (grid0.coords t) (ix2 r n) = true := (win0_0.moved_iff _ _).mpr (fun a => match a with
    | ⟨0, _⟩ => by show r.val < win0_0.xsize (grid0.coords t) 0; rw [x0]; exact h
    | ⟨1, _⟩ => by show n.val < win0_0.xsize (grid0.coords t) 1; rw [x1]; exact n.isLt)
  refine (dif_pos hm).trans ?_
  show V m c main_arg0 _ = V m c main_arg0 _
  congr 1
  funext a; apply Fin.ext
  match a with
  | ⟨0, _⟩ => show win0_0.index t 0 * 512 + 1 * r.val = 8192 + r.val; rw [e0]; omega
  | ⟨1, _⟩ => show win0_0.index t 1 * 128 + 1 * n.val = 256 * s.val + n.val; rw [e1]; omega

theorem find_1 (c : Dev nD) (t : Fin cfg0.N) (s : Fin 8) (hs : t.val = 128 + s.val) (Y : Vec Ideal S512x128 .f32) (hF : (rdat m c).Finds 1 t Y)
    (r : Fin 512) (n : Fin 128) (h : r.val < 128) :
    Y (ix2 r n) = V m c main_arg0 (ix2 (⟨8192 + r.val, by omega⟩ : Fin 8320) (⟨256 * s.val + (128 + n.val), by omega⟩ : Fin 10240)) := by
  obtain ⟨-, ⟨e0, e1⟩, -⟩ := index_facts t (by omega)
  obtain ⟨-, x0, x1⟩ := extent_facts t (by omega)
  obtain ⟨d, rfl⟩ := ((rdat m c).finds_of_fetch (fetch0_1 t) Y).mp hF
  have hm : win0_1.moved (grid0.coords t) (ix2 r n) = true := (win0_1.moved_iff _ _).mpr (fun a => match a with
    | ⟨0, _⟩ => by show r.val < win0_1.xsize (grid0.coords t) 0; rw [x0]; exact h
    | ⟨1, _⟩ => by show n.val < win0_1.xsize (grid0.coords t) 1; rw [x1]; exact n.isLt)
  refine (dif_pos hm).trans ?_
  show V m c main_arg0 _ = V m c main_arg0 _
  congr 1
  funext a; apply Fin.ext
  match a with
  | ⟨0, _⟩ => show win0_1.index t 0 * 512 + 1 * r.val = 8192 + r.val; rw [e0]; omega
  | ⟨1, _⟩ => show win0_1.index t 1 * 128 + 1 * n.val = 256 * s.val + (128 + n.val); rw [e1]; omega

theorem find_2 (c : Dev nD) (t : Fin cfg0.N) (s : Fin 8) (hs : t.val = 128 + s.val) (Y : Vec Ideal S1x1x256x2048 .bf16) (hF : (rdat m c).Finds 2 t Y)
    (q : Fin 256) (p : Fin 2048) : Y (ix4 (0 : Fin 1) (0 : Fin 1) q p) = V m c main_arg1 (ix4 (0 : Fin 4) s q p) := by
  obtain ⟨-, -, ⟨e0, e1, e2, e3⟩, -⟩ := index_facts t (by omega)
  obtain ⟨d, rfl⟩ := ((rdat m c).finds_of_fetch (fetch0_2 t) Y).mp hF
  show V m c main_arg1 _ = V m c main_arg1 _
  congr 1
  funext a; apply Fin.ext
  match a with
  | ⟨0, _⟩ => show win0_2.index t 0 * 1 + 1 * 0 = 0; rw [e0]
  | ⟨1, _⟩ => show win0_2.index t 1 * 1 + 1 * 0 = s.val; rw [e1]; omega
  | ⟨2, _⟩ => show win0_2.index t 2 * 256 + 1 * q.val = q.val; rw [e2]; omega
  | ⟨3, _⟩ => show win0_2.index t 3 * 2048 + 1 * p.val = p.val; rw [e3]; omega

theorem find_4 (c : Dev nD) (t : Fin cfg0.N) (s : Fin 8) (hs : t.val = 128 + s.val) (Y : Vec Ideal S1x1x1024 .f32) (hF : (rdat m c).Finds 4 t Y)
    (k : Fin 1024) : Y (ix3 (0 : Fin 1) (0 : Fin 1) k) = V m c main_arg3 (ix3 (0 : Fin 4) (0 : Fin 1) (⟨1024 * s.val + k.val, by omega⟩ : Fin 8192)) := by
  obtain ⟨-, -, -, ⟨e0, e1, e2⟩, -⟩ := index_facts t (by omega)
  obtain ⟨d, rfl⟩ := ((rdat m c).finds_of_fetch (fetch0_4 t) Y).mp hF
  show V m c main_arg3 _ = V m c main_arg3 _
  congr 1
  funext a; apply Fin.ext
  match a with
  | ⟨0, _⟩ => show win0_4.index t 0 * 1 + 1 * 0 = 0; rw [e0]
  | ⟨1, _⟩ => show win0_4.index t 1 * 1 + 1 * 0 = 0; rw [e1]
  | ⟨2, _⟩ => show win0_4.index t 2 * 1024 + 1 * k.val = 1024 * s.val + k.val; rw [e2]; omega

theorem find_5 (c : Dev nD) (t : Fin cfg0.N) (s : Fin 8) (hs : t.val = 128 + s.val) (Y : Vec Ideal S1x1x1024 .f32) (hF : (rdat m c).Finds 5 t Y)
    (k : Fin 1024) : Y (ix3 (0 : Fin 1) (0 : Fin 1) k) = V m c main_arg4 (ix3 (0 : Fin 4) (0 : Fin 1) (⟨1024 * s.val + k.val, by omega⟩ : Fin 8192)) := by
  obtain ⟨-, -, -, -, ⟨e0, e1, e2⟩, -⟩ := index_facts t (by omega)
  obtain ⟨d, rfl⟩ := ((rdat m c).finds_of_fetch (fetch0_5 t) Y).mp hF
  show V m c main_arg4 _ = V m c main_arg4 _
  congr 1
  funext a; apply Fin.ext
  match a with
  | ⟨0, _⟩ => show win0_5.index t 0 * 1 + 1 * 0 = 0; rw [e0]
  | ⟨1, _⟩ => show win0_5.index t 1 * 1 + 1 * 0 = 0; rw [e1]
  | ⟨2, _⟩ => show win0_5.index t 2 * 1024 + 1 * k.val = 1024 * s.val + k.val; rw [e2]; omega

theorem find_10 (c : Dev nD) (t : Fin cfg0.N) (s : Fin 8) (hs : t.val = 128 + s.val) (Y : Vec Ideal S8x8x2048 .f32) (hF : (rdat m c).Finds 10 t Y)
    (b : Fin 8) (q : Fin 2048) : Y (ix3 s b q) = V m c main_arg8 (ix3 s b q) := by
  obtain ⟨-, -, -, -, -, e0, e1, e2⟩ := index_facts t (by omega)
  obtain ⟨d, rfl⟩ := RDat.finds_in_eq_fetched (rdat m c) 10 rfl (fun _ _ _ => rfl) (fun _ _ _ h => h) t Y hF
  show V m c main_arg8 _ = V m c main_arg8 _
  congr 1
  funext a; apply Fin.ext
  match a with
  | ⟨0, _⟩ => show win0_10.index t 0 * 8 + 1 * s.val = s.val; rw [e0]; omega
  | ⟨1, _⟩ => show win0_10.index t 1 * 8 + 1 * b.val = b.val; rw [e1]; omega
  | ⟨2, _⟩ => show win0_10.index t 2 * 2048 + 1 * q.val = q.val; rw [e2]; omega

/-- What a point finds in its staging buffers is what the arrays hold. -/
theorem found_of (c : Dev nD) (t : Fin cfg0.N) (Y : (w : Fin cfg0.W) → (cfg0.win w).block.Idx → Elt Ideal (cfg0.win w).elt)
    (hF : ∀ w, (rdat m c).Finds w t (Y w)) : ∀ s : Fin 8, t.val = 128 + s.val → Found m c s (Y 0) (Y 1) (Y 2) (Y 4) (Y 5) (Y 10) :=
  fun s hs => ⟨find_0 m c t s hs _ (hF 0), find_1 m c t s hs _ (hF 1), find_2 m c t s hs _ (hF 2), find_4 m c t s hs _ (hF 4), find_5 m c t s hs _ (hF 5), find_10 m c t s hs _ (hF 10)⟩

/-- After the group `n`'s point of the sample block the rows up to `n` are the new states. -/
theorem leaves_rows (c : Dev nD) : ∀ (n : Nat) (t : Fin cfg0.N), n < 8 → t.val = 128 + n → ∀ X : Vec Ideal S8x8x2048 .f32, (rdat m c).Leaves 17 t X →
    ∀ (s b : Fin 8) (q : Fin 2048), s.val ≤ n → X (ix3 s b q) = states m c (ix3 s b q)
  | n, t, hn, ht, X, ⟨Y, hF, hX⟩, s, b, q, hs => by
    have hX' : X = left m c t Y := hX
    rw [hX']
    unfold left
    by_cases e : s.val = n
    · exact if_pos (show 128 ≤ t.val ∧ ((ix3 s b q : S8x8x2048.Idx) 0).val = t.val % 8 from ⟨by omega, by show s.val = t.val % 8; omega⟩)
    · refine (if_neg (fun h : 128 ≤ t.val ∧ ((ix3 s b q : S8x8x2048.Idx) 0).val = t.val % 8 => e (by have h2 : s.val = t.val % 8 := h.2; omega))).trans ?_
      have hf : (cfg0.win 17).fetch t = false := rfl
      rcases ((rdat m c).finds_of_pos hf (by omega) Y).mp hF with hfl | hl
      · have h3 : (t.val - 1) % 136 = 135 := (flush0_17 _).mp hfl
        omega
      · cases n with
        | zero => omega
        | succ n => exact leaves_rows c n _ (by omega) (by show t.val - 1 = 128 + n; omega) Y hl s b q (by omega)

end Cert.Kernel5Ideal.Scan

end
-- ==== Proof.Scan.Ideal.Prompt.lean ====
/- A point of the prompt after its first block that is not the last of its block. -/
module

public import proofs.«01_k».proof.Proof.Scan.Ideal.SampleLast

@[expose] public section

set_option maxRecDepth 16384

noncomputable section

namespace Cert.Kernel5Ideal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel5Ideal Cert.Kernel5Ideal.Gen

variable {F : FTy → Type} [FloatOps F]

local notation "𝕄" => MT nD τ sig Unit (Elt F) ℕ (UR sig nD τ) ℕ

set_option backward.proofsInPublic true in
set_option maxHeartbeats 4000000 in
/-- A point of the prompt after its first block that is not the last of its block. -/
theorem prompt (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1x256x2048 .bf16) (harg4 : arg4.IsWhole) (arg5 : Memref sig .tc .vmem S1x1x2048x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S1x1x1x256 .f32) (harg10 : arg10.IsWhole) (arg11 : Memref sig .tc .vmem S1x8x1x2048 .f32) (harg11 : arg11.IsWhole) (arg12 : Memref sig .tc .vmem S8x8x2048 .f32) (harg12 : arg12.IsWhole) (arg13 : Memref sig .tc .vmem S1x2048x2048 .bf16) (harg13 : arg13.IsWhole) (arg14 : Memref sig .tc .vmem S1x2048 .f32) (harg14 : arg14.IsWhole) (arg15 : Memref sig .tc .vmem S1x4096x128 .f32) (harg15 : arg15.IsWhole) (arg16 : Memref sig .tc .vmem S1x4096x128 .f32) (harg16 : arg16.IsWhole) (arg17 : Memref sig .tc .vmem S512x2048 .bf16) (harg17 : arg17.IsWhole) (arg18 : Memref sig .tc .vmem S1x8x1x2048 .f32) (harg18 : arg18.IsWhole) (arg19 : Memref sig .tc .vmem S8x8x2048 .f32) (harg19 : arg19.IsWhole) (arg20 : Memref sig .tc .vmem S1x4096x128 .bf16) (harg20 : arg20.IsWhole) (arg21 : Memref sig .tc .vmem S1x4096x128 .bf16) (harg21 : arg21.IsWhole) (arg22 : Memref sig .tc .vmem S512x256 .f32) (harg22 : arg22.IsWhole) (arg23 : Memref sig .tc .vmem S512x2048 .f32) (harg23 : arg23.IsWhole) (arg24 : Memref sig .tc .vmem S512x2048 .bf16) (harg24 : arg24.IsWhole) (arg25 : Memref sig .tc .vmem S2x8x1024 .f32) (harg25 : arg25.IsWhole) (arg26 : Memref sig .tc .vmem S16x512x128 .f32) (harg26 : arg26.IsWhole) (hc1 : ¬k0_cond1 i = 1#1) (hc2 : k0_cond2 i = 1#1) (hc3 : ¬k0_cond3 i = 1#1) (hc4 : ¬k0_cond4 i = 1#1)
    (x2 : Vec F S512x128 .f32) (x3 : Vec F S512x128 .f32) (x4 : Vec F S1x1x256x2048 .bf16) (x5 : Vec F S1x1x2048x256 .bf16) (x6 : Vec F S1x1x1024 .f32) (x7 : Vec F S1x1x1024 .f32) (x8 : Vec F S1x8x1024 .f32) (x9 : Vec F S1x8x1024 .f32) (x10 : Vec F S1x1x1x256 .f32) (x11 : Vec F S1x8x1x2048 .f32) (x12 : Vec F S8x8x2048 .f32) (x13 : Vec F S1x2048x2048 .bf16) (x14 : Vec F S1x2048 .f32) (x15 : Vec F S1x4096x128 .f32) (x16 : Vec F S1x4096x128 .f32) (x17 : Vec F S512x2048 .bf16) (x18 : Vec F S1x8x1x2048 .f32) (x19 : Vec F S8x8x2048 .f32) (x20 : Vec F S1x4096x128 .bf16) (x21 : Vec F S1x4096x128 .bf16) (x22 : Vec F S512x256 .f32) (x23 : Vec F S512x2048 .f32) (x24 : Vec F S512x2048 .bf16) (x25 : Vec F S2x8x1024 .f32) (x26 : Vec F S16x512x128 .f32) :
    ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (∃ f, arg17.view.loc (c : Thread nD τ) ↦[arg17.view.set]{fullShare} f) ∗ (∃ f, arg18.view.loc (c : Thread nD τ) ↦[arg18.view.set]{fullShare} f) ∗ owns (c : Thread nD τ) arg19 fullShare x19 ∗ (∃ f, arg20.view.loc (c : Thread nD τ) ↦[arg20.view.set]{fullShare} f) ∗ (∃ f, arg21.view.loc (c : Thread nD τ) ↦[arg21.view.set]{fullShare} f) ∗ (∃ f, arg22.view.loc (c : Thread nD τ) ↦[arg22.view.set]{fullShare} f) ∗ (∃ f, arg23.view.loc (c : Thread nD τ) ↦[arg23.view.set]{fullShare} f) ∗ (∃ f, arg24.view.loc (c : Thread nD τ) ↦[arg24.view.set]{fullShare} f) ∗ (∃ f, arg25.view.loc (c : Thread nD τ) ↦[arg25.view.set]{fullShare} f) ∗ (∃ f, arg26.view.loc (c : Thread nD τ) ↦[arg26.view.set]{fullShare} f)) -∗ K ⟨⟩))
          ⊢ wp frame (wpE (defs₀ (F := F)) Variants.none c none) E (cc0_s5_group i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  intro E K
  · skip
    simp only [cc0_s5_group_eq_skeleton]; unfold cc0_s5_group_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23; obtain rfl := harg24.eq_unread hf24; obtain rfl := harg25.eq_unread hf25; obtain rfl := harg26.eq_unread hf26
    sl_exec (disch := first | sl_exact hc1 | sl_exact hc2 | sl_exact hc3 | sl_exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; iexact H17
    isplitl [H18]
    · iexists _; iexact H18
    isplitl [H19]
    · iexists _; isplitr; · ipureintro; exact harg19.read_unread _
      iexact H19
    isplitl [H20]
    · iexists _; iexact H20
    isplitl [H21]
    · iexists _; iexact H21
    isplitl [H22]
    · iexists _; iexact H22
    isplitl [H23]
    · iexists _; iexact H23
    isplitl [H24]
    · iexists _; iexact H24
    isplitl [H25]
    · iexists _; iexact H25
    iexists _; iexact H26

end Cert.Kernel5Ideal.Scan

end
-- ==== Proof.Scan.Ideal.PromptLast.lean ====
/- The last point of a prompt block after the first. -/
module

public import proofs.«01_k».proof.Proof.Scan.Ideal.Prompt

@[expose] public section

set_option maxRecDepth 16384

noncomputable section

namespace Cert.Kernel5Ideal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel5Ideal Cert.Kernel5Ideal.Gen

variable {F : FTy → Type} [FloatOps F]

local notation "𝕄" => MT nD τ sig Unit (Elt F) ℕ (UR sig nD τ) ℕ

set_option backward.proofsInPublic true in
set_option maxHeartbeats 4000000 in
/-- The last point of a prompt block after the first. -/
theorem promptLast (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1x256x2048 .bf16) (harg4 : arg4.IsWhole) (arg5 : Memref sig .tc .vmem S1x1x2048x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S1x1x1x256 .f32) (harg10 : arg10.IsWhole) (arg11 : Memref sig .tc .vmem S1x8x1x2048 .f32) (harg11 : arg11.IsWhole) (arg12 : Memref sig .tc .vmem S8x8x2048 .f32) (harg12 : arg12.IsWhole) (arg13 : Memref sig .tc .vmem S1x2048x2048 .bf16) (harg13 : arg13.IsWhole) (arg14 : Memref sig .tc .vmem S1x2048 .f32) (harg14 : arg14.IsWhole) (arg15 : Memref sig .tc .vmem S1x4096x128 .f32) (harg15 : arg15.IsWhole) (arg16 : Memref sig .tc .vmem S1x4096x128 .f32) (harg16 : arg16.IsWhole) (arg17 : Memref sig .tc .vmem S512x2048 .bf16) (harg17 : arg17.IsWhole) (arg18 : Memref sig .tc .vmem S1x8x1x2048 .f32) (harg18 : arg18.IsWhole) (arg19 : Memref sig .tc .vmem S8x8x2048 .f32) (harg19 : arg19.IsWhole) (arg20 : Memref sig .tc .vmem S1x4096x128 .bf16) (harg20 : arg20.IsWhole) (arg21 : Memref sig .tc .vmem S1x4096x128 .bf16) (harg21 : arg21.IsWhole) (arg22 : Memref sig .tc .vmem S512x256 .f32) (harg22 : arg22.IsWhole) (arg23 : Memref sig .tc .vmem S512x2048 .f32) (harg23 : arg23.IsWhole) (arg24 : Memref sig .tc .vmem S512x2048 .bf16) (harg24 : arg24.IsWhole) (arg25 : Memref sig .tc .vmem S2x8x1024 .f32) (harg25 : arg25.IsWhole) (arg26 : Memref sig .tc .vmem S16x512x128 .f32) (harg26 : arg26.IsWhole) (hc1 : ¬k0_cond1 i = 1#1) (hc2 : k0_cond2 i = 1#1) (hc3 : k0_cond3 i = 1#1) (hc4 : ¬k0_cond4 i = 1#1)
    (x2 : Vec F S512x128 .f32) (x3 : Vec F S512x128 .f32) (x4 : Vec F S1x1x256x2048 .bf16) (x5 : Vec F S1x1x2048x256 .bf16) (x6 : Vec F S1x1x1024 .f32) (x7 : Vec F S1x1x1024 .f32) (x8 : Vec F S1x8x1024 .f32) (x9 : Vec F S1x8x1024 .f32) (x10 : Vec F S1x1x1x256 .f32) (x11 : Vec F S1x8x1x2048 .f32) (x12 : Vec F S8x8x2048 .f32) (x13 : Vec F S1x2048x2048 .bf16) (x14 : Vec F S1x2048 .f32) (x15 : Vec F S1x4096x128 .f32) (x16 : Vec F S1x4096x128 .f32) (x17 : Vec F S512x2048 .bf16) (x18 : Vec F S1x8x1x2048 .f32) (x19 : Vec F S8x8x2048 .f32) (x20 : Vec F S1x4096x128 .bf16) (x21 : Vec F S1x4096x128 .bf16) (x22 : Vec F S512x256 .f32) (x23 : Vec F S512x2048 .f32) (x24 : Vec F S512x2048 .bf16) (x25 : Vec F S2x8x1024 .f32) (x26 : Vec F S16x512x128 .f32) :
    ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (∃ f, arg17.view.loc (c : Thread nD τ) ↦[arg17.view.set]{fullShare} f) ∗ (∃ f, arg18.view.loc (c : Thread nD τ) ↦[arg18.view.set]{fullShare} f) ∗ owns (c : Thread nD τ) arg19 fullShare x19 ∗ (∃ f, arg20.view.loc (c : Thread nD τ) ↦[arg20.view.set]{fullShare} f) ∗ (∃ f, arg21.view.loc (c : Thread nD τ) ↦[arg21.view.set]{fullShare} f) ∗ (∃ f, arg22.view.loc (c : Thread nD τ) ↦[arg22.view.set]{fullShare} f) ∗ (∃ f, arg23.view.loc (c : Thread nD τ) ↦[arg23.view.set]{fullShare} f) ∗ (∃ f, arg24.view.loc (c : Thread nD τ) ↦[arg24.view.set]{fullShare} f) ∗ (∃ f, arg25.view.loc (c : Thread nD τ) ↦[arg25.view.set]{fullShare} f) ∗ (∃ f, arg26.view.loc (c : Thread nD τ) ↦[arg26.view.set]{fullShare} f)) -∗ K ⟨⟩))
          ⊢ wp frame (wpE (defs₀ (F := F)) Variants.none c none) E (cc0_s5_group i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  intro E K
  · skip
    simp only [cc0_s5_group_eq_skeleton]; unfold cc0_s5_group_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23; obtain rfl := harg24.eq_unread hf24; obtain rfl := harg25.eq_unread hf25; obtain rfl := harg26.eq_unread hf26
    sl_exec (disch := first | sl_exact hc1 | sl_exact hc2 | sl_exact hc3 | sl_exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; iexact H17
    isplitl [H18]
    · iexists _; iexact H18
    isplitl [H19]
    · iexists _; isplitr; · ipureintro; exact harg19.read_unread _
      iexact H19
    isplitl [H20]
    · iexists _; iexact H20
    isplitl [H21]
    · iexists _; iexact H21
    isplitl [H22]
    · iexists _; iexact H22
    isplitl [H23]
    · iexists _; iexact H23
    isplitl [H24]
    · iexists _; iexact H24
    isplitl [H25]
    · iexists _; iexact H25
    iexists _; iexact H26

end Cert.Kernel5Ideal.Scan

end
-- ==== Proof.Scan.Ideal.First.lean ====
/- A point of the first prompt block that is not its last. -/
module

public import proofs.«01_k».proof.Proof.Scan.Ideal.PromptLast

@[expose] public section

set_option maxRecDepth 16384

noncomputable section

namespace Cert.Kernel5Ideal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel5Ideal Cert.Kernel5Ideal.Gen

variable {F : FTy → Type} [FloatOps F]

local notation "𝕄" => MT nD τ sig Unit (Elt F) ℕ (UR sig nD τ) ℕ

set_option backward.proofsInPublic true in
set_option maxHeartbeats 4000000 in
/-- A point of the first prompt block that is not its last. -/
theorem first (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1x256x2048 .bf16) (harg4 : arg4.IsWhole) (arg5 : Memref sig .tc .vmem S1x1x2048x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S1x1x1x256 .f32) (harg10 : arg10.IsWhole) (arg11 : Memref sig .tc .vmem S1x8x1x2048 .f32) (harg11 : arg11.IsWhole) (arg12 : Memref sig .tc .vmem S8x8x2048 .f32) (harg12 : arg12.IsWhole) (arg13 : Memref sig .tc .vmem S1x2048x2048 .bf16) (harg13 : arg13.IsWhole) (arg14 : Memref sig .tc .vmem S1x2048 .f32) (harg14 : arg14.IsWhole) (arg15 : Memref sig .tc .vmem S1x4096x128 .f32) (harg15 : arg15.IsWhole) (arg16 : Memref sig .tc .vmem S1x4096x128 .f32) (harg16 : arg16.IsWhole) (arg17 : Memref sig .tc .vmem S512x2048 .bf16) (harg17 : arg17.IsWhole) (arg18 : Memref sig .tc .vmem S1x8x1x2048 .f32) (harg18 : arg18.IsWhole) (arg19 : Memref sig .tc .vmem S8x8x2048 .f32) (harg19 : arg19.IsWhole) (arg20 : Memref sig .tc .vmem S1x4096x128 .bf16) (harg20 : arg20.IsWhole) (arg21 : Memref sig .tc .vmem S1x4096x128 .bf16) (harg21 : arg21.IsWhole) (arg22 : Memref sig .tc .vmem S512x256 .f32) (harg22 : arg22.IsWhole) (arg23 : Memref sig .tc .vmem S512x2048 .f32) (harg23 : arg23.IsWhole) (arg24 : Memref sig .tc .vmem S512x2048 .bf16) (harg24 : arg24.IsWhole) (arg25 : Memref sig .tc .vmem S2x8x1024 .f32) (harg25 : arg25.IsWhole) (arg26 : Memref sig .tc .vmem S16x512x128 .f32) (harg26 : arg26.IsWhole) (hc1 : k0_cond1 i = 1#1) (hc2 : k0_cond2 i = 1#1) (hc3 : ¬k0_cond3 i = 1#1) (hc4 : ¬k0_cond4 i = 1#1)
    (x2 : Vec F S512x128 .f32) (x3 : Vec F S512x128 .f32) (x4 : Vec F S1x1x256x2048 .bf16) (x5 : Vec F S1x1x2048x256 .bf16) (x6 : Vec F S1x1x1024 .f32) (x7 : Vec F S1x1x1024 .f32) (x8 : Vec F S1x8x1024 .f32) (x9 : Vec F S1x8x1024 .f32) (x10 : Vec F S1x1x1x256 .f32) (x11 : Vec F S1x8x1x2048 .f32) (x12 : Vec F S8x8x2048 .f32) (x13 : Vec F S1x2048x2048 .bf16) (x14 : Vec F S1x2048 .f32) (x15 : Vec F S1x4096x128 .f32) (x16 : Vec F S1x4096x128 .f32) (x17 : Vec F S512x2048 .bf16) (x18 : Vec F S1x8x1x2048 .f32) (x19 : Vec F S8x8x2048 .f32) (x20 : Vec F S1x4096x128 .bf16) (x21 : Vec F S1x4096x128 .bf16) (x22 : Vec F S512x256 .f32) (x23 : Vec F S512x2048 .f32) (x24 : Vec F S512x2048 .bf16) (x25 : Vec F S2x8x1024 .f32) (x26 : Vec F S16x512x128 .f32) :
    ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (∃ f, arg17.view.loc (c : Thread nD τ) ↦[arg17.view.set]{fullShare} f) ∗ (∃ f, arg18.view.loc (c : Thread nD τ) ↦[arg18.view.set]{fullShare} f) ∗ owns (c : Thread nD τ) arg19 fullShare x19 ∗ (∃ f, arg20.view.loc (c : Thread nD τ) ↦[arg20.view.set]{fullShare} f) ∗ (∃ f, arg21.view.loc (c : Thread nD τ) ↦[arg21.view.set]{fullShare} f) ∗ (∃ f, arg22.view.loc (c : Thread nD τ) ↦[arg22.view.set]{fullShare} f) ∗ (∃ f, arg23.view.loc (c : Thread nD τ) ↦[arg23.view.set]{fullShare} f) ∗ (∃ f, arg24.view.loc (c : Thread nD τ) ↦[arg24.view.set]{fullShare} f) ∗ (∃ f, arg25.view.loc (c : Thread nD τ) ↦[arg25.view.set]{fullShare} f) ∗ (∃ f, arg26.view.loc (c : Thread nD τ) ↦[arg26.view.set]{fullShare} f)) -∗ K ⟨⟩))
          ⊢ wp frame (wpE (defs₀ (F := F)) Variants.none c none) E (cc0_s5_group i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  intro E K
  · skip
    simp only [cc0_s5_group_eq_skeleton]; unfold cc0_s5_group_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23; obtain rfl := harg24.eq_unread hf24; obtain rfl := harg25.eq_unread hf25; obtain rfl := harg26.eq_unread hf26
    sl_exec (disch := first | sl_exact hc1 | sl_exact hc2 | sl_exact hc3 | sl_exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; iexact H17
    isplitl [H18]
    · iexists _; iexact H18
    isplitl [H19]
    · iexists _; isplitr; · ipureintro; exact harg19.read_unread _
      iexact H19
    isplitl [H20]
    · iexists _; iexact H20
    isplitl [H21]
    · iexists _; iexact H21
    isplitl [H22]
    · iexists _; iexact H22
    isplitl [H23]
    · iexists _; iexact H23
    isplitl [H24]
    · iexists _; iexact H24
    isplitl [H25]
    · iexists _; iexact H25
    iexists _; iexact H26

end Cert.Kernel5Ideal.Scan

end
-- ==== Proof.Scan.Ideal.FirstLast.lean ====
/- The last point of the first prompt block. -/
module

public import proofs.«01_k».proof.Proof.Scan.Ideal.First

@[expose] public section

set_option maxRecDepth 16384

noncomputable section

namespace Cert.Kernel5Ideal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel5Ideal Cert.Kernel5Ideal.Gen

variable {F : FTy → Type} [FloatOps F]

local notation "𝕄" => MT nD τ sig Unit (Elt F) ℕ (UR sig nD τ) ℕ

set_option backward.proofsInPublic true in
set_option maxHeartbeats 4000000 in
/-- The last point of the first prompt block. -/
theorem firstLast (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x1x256x2048 .bf16) (harg4 : arg4.IsWhole) (arg5 : Memref sig .tc .vmem S1x1x2048x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S1x1x1x256 .f32) (harg10 : arg10.IsWhole) (arg11 : Memref sig .tc .vmem S1x8x1x2048 .f32) (harg11 : arg11.IsWhole) (arg12 : Memref sig .tc .vmem S8x8x2048 .f32) (harg12 : arg12.IsWhole) (arg13 : Memref sig .tc .vmem S1x2048x2048 .bf16) (harg13 : arg13.IsWhole) (arg14 : Memref sig .tc .vmem S1x2048 .f32) (harg14 : arg14.IsWhole) (arg15 : Memref sig .tc .vmem S1x4096x128 .f32) (harg15 : arg15.IsWhole) (arg16 : Memref sig .tc .vmem S1x4096x128 .f32) (harg16 : arg16.IsWhole) (arg17 : Memref sig .tc .vmem S512x2048 .bf16) (harg17 : arg17.IsWhole) (arg18 : Memref sig .tc .vmem S1x8x1x2048 .f32) (harg18 : arg18.IsWhole) (arg19 : Memref sig .tc .vmem S8x8x2048 .f32) (harg19 : arg19.IsWhole) (arg20 : Memref sig .tc .vmem S1x4096x128 .bf16) (harg20 : arg20.IsWhole) (arg21 : Memref sig .tc .vmem S1x4096x128 .bf16) (harg21 : arg21.IsWhole) (arg22 : Memref sig .tc .vmem S512x256 .f32) (harg22 : arg22.IsWhole) (arg23 : Memref sig .tc .vmem S512x2048 .f32) (harg23 : arg23.IsWhole) (arg24 : Memref sig .tc .vmem S512x2048 .bf16) (harg24 : arg24.IsWhole) (arg25 : Memref sig .tc .vmem S2x8x1024 .f32) (harg25 : arg25.IsWhole) (arg26 : Memref sig .tc .vmem S16x512x128 .f32) (harg26 : arg26.IsWhole) (hc1 : k0_cond1 i = 1#1) (hc2 : k0_cond2 i = 1#1) (hc3 : k0_cond3 i = 1#1) (hc4 : ¬k0_cond4 i = 1#1)
    (x2 : Vec F S512x128 .f32) (x3 : Vec F S512x128 .f32) (x4 : Vec F S1x1x256x2048 .bf16) (x5 : Vec F S1x1x2048x256 .bf16) (x6 : Vec F S1x1x1024 .f32) (x7 : Vec F S1x1x1024 .f32) (x8 : Vec F S1x8x1024 .f32) (x9 : Vec F S1x8x1024 .f32) (x10 : Vec F S1x1x1x256 .f32) (x11 : Vec F S1x8x1x2048 .f32) (x12 : Vec F S8x8x2048 .f32) (x13 : Vec F S1x2048x2048 .bf16) (x14 : Vec F S1x2048 .f32) (x15 : Vec F S1x4096x128 .f32) (x16 : Vec F S1x4096x128 .f32) (x17 : Vec F S512x2048 .bf16) (x18 : Vec F S1x8x1x2048 .f32) (x19 : Vec F S8x8x2048 .f32) (x20 : Vec F S1x4096x128 .bf16) (x21 : Vec F S1x4096x128 .bf16) (x22 : Vec F S512x256 .f32) (x23 : Vec F S512x2048 .f32) (x24 : Vec F S512x2048 .bf16) (x25 : Vec F S2x8x1024 .f32) (x26 : Vec F S16x512x128 .f32) :
    ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (∃ f, arg17.view.loc (c : Thread nD τ) ↦[arg17.view.set]{fullShare} f) ∗ (∃ f, arg18.view.loc (c : Thread nD τ) ↦[arg18.view.set]{fullShare} f) ∗ owns (c : Thread nD τ) arg19 fullShare x19 ∗ (∃ f, arg20.view.loc (c : Thread nD τ) ↦[arg20.view.set]{fullShare} f) ∗ (∃ f, arg21.view.loc (c : Thread nD τ) ↦[arg21.view.set]{fullShare} f) ∗ (∃ f, arg22.view.loc (c : Thread nD τ) ↦[arg22.view.set]{fullShare} f) ∗ (∃ f, arg23.view.loc (c : Thread nD τ) ↦[arg23.view.set]{fullShare} f) ∗ (∃ f, arg24.view.loc (c : Thread nD τ) ↦[arg24.view.set]{fullShare} f) ∗ (∃ f, arg25.view.loc (c : Thread nD τ) ↦[arg25.view.set]{fullShare} f) ∗ (∃ f, arg26.view.loc (c : Thread nD τ) ↦[arg26.view.set]{fullShare} f)) -∗ K ⟨⟩))
          ⊢ wp frame (wpE (defs₀ (F := F)) Variants.none c none) E (cc0_s5_group i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  intro E K
  · skip
    simp only [cc0_s5_group_eq_skeleton]; unfold cc0_s5_group_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23; obtain rfl := harg24.eq_unread hf24; obtain rfl := harg25.eq_unread hf25; obtain rfl := harg26.eq_unread hf26
    sl_exec (disch := first | sl_exact hc1 | sl_exact hc2 | sl_exact hc3 | sl_exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; iexact H17
    isplitl [H18]
    · iexists _; iexact H18
    isplitl [H19]
    · iexists _; isplitr; · ipureintro; exact harg19.read_unread _
      iexact H19
    isplitl [H20]
    · iexists _; iexact H20
    isplitl [H21]
    · iexists _; iexact H21
    isplitl [H22]
    · iexists _; iexact H22
    isplitl [H23]
    · iexists _; iexact H23
    isplitl [H24]
    · iexists _; iexact H24
    isplitl [H25]
    · iexists _; iexact H25
    iexists _; iexact H26

end Cert.Kernel5Ideal.Scan

end
-- ==== Proof.Scan.Ideal.Frame.lean ====
/- The recurrence's call over the reals: it ends, its arguments as they were, and what the sample rows' states were left as. -/
module

public import proofs.«01_k».proof.Proof.Scan.Ideal.Finds
public import proofs.«01_k».proof.Proof.Scan.Ideal.Prompt
public import proofs.«01_k».proof.Proof.Scan.Ideal.PromptLast
public import proofs.«01_k».proof.Proof.Scan.Ideal.First
public import proofs.«01_k».proof.Proof.Scan.Ideal.FirstLast
public import proofs.«01_k».proof.Proof.Gen.Kernel5Ideal.Frame
public import Idealize.ShloMosaic.Lib.Pipeline.ArrRel
public import Idealize.ShloMosaic.Lib.Claim

@[expose] public section

set_option maxRecDepth 16384

noncomputable section

namespace Cert.Kernel5Ideal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel5Ideal Cert.Kernel5Ideal.Gen
open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

section

variable (c : Dev nD) (t : Fin cfg0.N)
  (Y0 : Vec Ideal S512x128 .f32) (Y1 : Vec Ideal S512x128 .f32) (Y2 : Vec Ideal S1x1x256x2048 .bf16) (Y3 : Vec Ideal S1x1x2048x256 .bf16) (Y4 : Vec Ideal S1x1x1024 .f32) (Y5 : Vec Ideal S1x1x1024 .f32) (Y6 : Vec Ideal S1x8x1024 .f32) (Y7 : Vec Ideal S1x8x1024 .f32)
   (Y8 : Vec Ideal S1x1x1x256 .f32) (Y9 : Vec Ideal S1x8x1x2048 .f32) (Y10 : Vec Ideal S8x8x2048 .f32) (Y11 : Vec Ideal S1x2048x2048 .bf16) (Y12 : Vec Ideal S1x2048 .f32) (Y13 : Vec Ideal S1x4096x128 .f32) (Y14 : Vec Ideal S1x4096x128 .f32) (Y15 : Vec Ideal S512x2048 .bf16) (Y16 : Vec Ideal S1x8x1x2048 .f32) (Y17 : Vec Ideal S8x8x2048 .f32) (Y18 : Vec Ideal S1x4096x128 .bf16) (Y19 : Vec Ideal S1x4096x128 .bf16)

/-- What is claimed of the body at a point: from the buffers at `Y0` to `Y19` it ends, each buffer left as the proof data says. -/
def Meets : Prop :=
    iprop((Pipeline.ΦA spec0 c : sProp 𝕄) ∗ (rdat m c).owesAt () t.castSucc
        ∗ owns (c : Thread nD τ) (ms0 t) fullShare Y0 ∗ owns (c : Thread nD τ) (ms1 t) fullShare Y1 ∗ owns (c : Thread nD τ) (ms2 t) fullShare Y2 ∗ owns (c : Thread nD τ) (ms3 t) fullShare Y3 ∗ owns (c : Thread nD τ) (ms4 t) fullShare Y4 ∗ owns (c : Thread nD τ) (ms5 t) fullShare Y5 ∗ owns (c : Thread nD τ) (ms6 t) fullShare Y6 ∗ owns (c : Thread nD τ) (ms7 t) fullShare Y7 ∗ owns (c : Thread nD τ) (ms8 t) fullShare Y8 ∗ owns (c : Thread nD τ) (ms9 t) fullShare Y9 ∗ owns (c : Thread nD τ) (ms10 t) fullShare Y10 ∗ owns (c : Thread nD τ) (ms11 t) fullShare Y11 ∗ owns (c : Thread nD τ) (ms12 t) fullShare Y12 ∗ owns (c : Thread nD τ) (ms13 t) fullShare Y13 ∗ owns (c : Thread nD τ) (ms14 t) fullShare Y14 ∗ owns (c : Thread nD τ) (ms15 t) fullShare Y15 ∗ owns (c : Thread nD τ) (ms16 t) fullShare Y16 ∗ owns (c : Thread nD τ) (ms17 t) fullShare Y17 ∗ owns (c : Thread nD τ) (ms18 t) fullShare Y18 ∗ owns (c : Thread nD τ) (ms19 t) fullShare Y19)
      ⊢ wp frame (wpE (defs₀ (F := Ideal)) Variants.none c none) Set.univ (bodyAt0 t) (fun _ =>
        iprop((Pipeline.ΦA spec0 c : sProp 𝕄) ∗ (rdat m c).owesAt () t.succ
        ∗ (∃ X : Vec Ideal S512x128 .f32, ⌜X = Y0⌝ ∗ owns (c : Thread nD τ) (ms0 t) fullShare X) ∗ (∃ X : Vec Ideal S512x128 .f32, ⌜X = Y1⌝ ∗ owns (c : Thread nD τ) (ms1 t) fullShare X) ∗ (∃ X : Vec Ideal S1x1x256x2048 .bf16, ⌜X = Y2⌝ ∗ owns (c : Thread nD τ) (ms2 t) fullShare X) ∗ (∃ X : Vec Ideal S1x1x2048x256 .bf16, ⌜X = Y3⌝ ∗ owns (c : Thread nD τ) (ms3 t) fullShare X) ∗ (∃ X : Vec Ideal S1x1x1024 .f32, ⌜X = Y4⌝ ∗ owns (c : Thread nD τ) (ms4 t) fullShare X) ∗ (∃ X : Vec Ideal S1x1x1024 .f32, ⌜X = Y5⌝ ∗ owns (c : Thread nD τ) (ms5 t) fullShare X) ∗ (∃ X : Vec Ideal S1x8x1024 .f32, ⌜X = Y6⌝ ∗ owns (c : Thread nD τ) (ms6 t) fullShare X) ∗ (∃ X : Vec Ideal S1x8x1024 .f32, ⌜X = Y7⌝ ∗ owns (c : Thread nD τ) (ms7 t) fullShare X) ∗ (∃ X : Vec Ideal S1x1x1x256 .f32, ⌜X = Y8⌝ ∗ owns (c : Thread nD τ) (ms8 t) fullShare X) ∗ (∃ X : Vec Ideal S1x8x1x2048 .f32, ⌜X = Y9⌝ ∗ owns (c : Thread nD τ) (ms9 t) fullShare X) ∗ (∃ X : Vec Ideal S8x8x2048 .f32, ⌜X = Y10⌝ ∗ owns (c : Thread nD τ) (ms10 t) fullShare X) ∗ (∃ X : Vec Ideal S1x2048x2048 .bf16, ⌜X = Y11⌝ ∗ owns (c : Thread nD τ) (ms11 t) fullShare X) ∗ (∃ X : Vec Ideal S1x2048 .f32, ⌜X = Y12⌝ ∗ owns (c : Thread nD τ) (ms12 t) fullShare X) ∗ (∃ X : Vec Ideal S1x4096x128 .f32, ⌜X = Y13⌝ ∗ owns (c : Thread nD τ) (ms13 t) fullShare X) ∗ (∃ X : Vec Ideal S1x4096x128 .f32, ⌜X = Y14⌝ ∗ owns (c : Thread nD τ) (ms14 t) fullShare X) ∗ (∃ X : Vec Ideal S512x2048 .bf16, ⌜True⌝ ∗ owns (c : Thread nD τ) (ms15 t) fullShare X) ∗ (∃ X : Vec Ideal S1x8x1x2048 .f32, ⌜True⌝ ∗ owns (c : Thread nD τ) (ms16 t) fullShare X) ∗ (∃ X : Vec Ideal S8x8x2048 .f32, ⌜X = left m c t Y17⌝ ∗ owns (c : Thread nD τ) (ms17 t) fullShare X) ∗ (∃ X : Vec Ideal S1x4096x128 .bf16, ⌜True⌝ ∗ owns (c : Thread nD τ) (ms18 t) fullShare X) ∗ (∃ X : Vec Ideal S1x4096x128 .bf16, ⌜True⌝ ∗ owns (c : Thread nD τ) (ms19 t) fullShare X)))

/-- A prompt's point leaves the states' buffer alone. -/
theorem kept (h : ¬ 128 ≤ t.val) : (owns (c : Thread nD τ) (ms17 t) fullShare Y17 : sProp 𝕄) ⊢ iprop(∃ X : Vec Ideal S8x8x2048 .f32, ⌜X = left m c t Y17⌝ ∗ owns (c : Thread nD τ) (ms17 t) fullShare X) := by
  iintro H
  iexists _; isplitr; · ipureintro; exact (left_prompt m c t h Y17).symm
  iexact H

/-- A sample point's pieces, read back. -/
theorem stored17 (L : List (View.Piece (Elt Ideal) S8x8x2048 .f32)) (h : (ms17 t).view.read (Elt Ideal) ((ms17 t).view.writes (Elt Ideal) ((hs17 t).unread Y17) L) = left m c t Y17) :
    ((ms17 t).view.loc (c : Thread nD τ) ↦[(ms17 t).view.set]{fullShare} (ms17 t).view.writes (Elt Ideal) ((hs17 t).unread Y17) L : sProp 𝕄) ⊢ iprop(∃ X : Vec Ideal S8x8x2048 .f32, ⌜X = left m c t Y17⌝ ∗ owns (c : Thread nD τ) (ms17 t) fullShare X) := by
  iintro H
  iexists _; isplitr; · ipureintro; exact h
  unfold owns; iexists _; isplitr
  swap; · iexact H
  ipureintro; rfl

set_option maxHeartbeats 3200000 in
/-- The body at a point, given a run of its case: whatever the scratch holds, the run ends with the inputs' buffers as they were and
the states' buffer such that `h17` holds of it. -/
theorem body_of (run : ∀ (d0 : Vec Ideal S512x256 .f32) (d1 : Vec Ideal S512x2048 .f32) (d2 : Vec Ideal S512x2048 .bf16) (d3 : Vec Ideal S2x8x1024 .f32) (d4 : Vec Ideal S16x512x128 .f32), ∃ R : sProp 𝕄,
      (R ⊢ iprop(∃ X : Vec Ideal S8x8x2048 .f32, ⌜X = left m c t Y17⌝ ∗ owns (c : Thread nD τ) (ms17 t) fullShare X))
      ∧ ∀ K : PUnit → sProp 𝕄, iprop(owns (c : Thread nD τ) (ms0 t) fullShare Y0 ∗ owns (c : Thread nD τ) (ms1 t) fullShare Y1 ∗ owns (c : Thread nD τ) (ms2 t) fullShare Y2 ∗ owns (c : Thread nD τ) (ms3 t) fullShare Y3 ∗ owns (c : Thread nD τ) (ms4 t) fullShare Y4 ∗ owns (c : Thread nD τ) (ms5 t) fullShare Y5 ∗ owns (c : Thread nD τ) (ms6 t) fullShare Y6 ∗ owns (c : Thread nD τ) (ms7 t) fullShare Y7 ∗ owns (c : Thread nD τ) (ms8 t) fullShare Y8 ∗ owns (c : Thread nD τ) (ms9 t) fullShare Y9 ∗ owns (c : Thread nD τ) (ms10 t) fullShare Y10 ∗ owns (c : Thread nD τ) (ms11 t) fullShare Y11 ∗ owns (c : Thread nD τ) (ms12 t) fullShare Y12 ∗ owns (c : Thread nD τ) (ms13 t) fullShare Y13 ∗ owns (c : Thread nD τ) (ms14 t) fullShare Y14 ∗ owns (c : Thread nD τ) (ms15 t) fullShare Y15 ∗ owns (c : Thread nD τ) (ms16 t) fullShare Y16 ∗ owns (c : Thread nD τ) (ms17 t) fullShare Y17 ∗ owns (c : Thread nD τ) (ms18 t) fullShare Y18 ∗ owns (c : Thread nD τ) (ms19 t) fullShare Y19 ∗ owns (c : Thread nD τ) scr0 fullShare d0 ∗ owns (c : Thread nD τ) scr1 fullShare d1 ∗ owns (c : Thread nD τ) scr2 fullShare d2 ∗ owns (c : Thread nD τ) scr3 fullShare d3 ∗ owns (c : Thread nD τ) scr4 fullShare d4
            ∗ (iprop(owns (c : Thread nD τ) (ms0 t) fullShare Y0 ∗ owns (c : Thread nD τ) (ms1 t) fullShare Y1 ∗ owns (c : Thread nD τ) (ms2 t) fullShare Y2 ∗ owns (c : Thread nD τ) (ms3 t) fullShare Y3 ∗ owns (c : Thread nD τ) (ms4 t) fullShare Y4 ∗ owns (c : Thread nD τ) (ms5 t) fullShare Y5 ∗ owns (c : Thread nD τ) (ms6 t) fullShare Y6 ∗ owns (c : Thread nD τ) (ms7 t) fullShare Y7 ∗ owns (c : Thread nD τ) (ms8 t) fullShare Y8 ∗ owns (c : Thread nD τ) (ms9 t) fullShare Y9 ∗ owns (c : Thread nD τ) (ms10 t) fullShare Y10 ∗ owns (c : Thread nD τ) (ms11 t) fullShare Y11 ∗ owns (c : Thread nD τ) (ms12 t) fullShare Y12 ∗ owns (c : Thread nD τ) (ms13 t) fullShare Y13 ∗ owns (c : Thread nD τ) (ms14 t) fullShare Y14 ∗ (∃ f, (ms15 t).view.loc (c : Thread nD τ) ↦[(ms15 t).view.set]{fullShare} f) ∗ (∃ f, (ms16 t).view.loc (c : Thread nD τ) ↦[(ms16 t).view.set]{fullShare} f) ∗ R ∗ (∃ f, (ms18 t).view.loc (c : Thread nD τ) ↦[(ms18 t).view.set]{fullShare} f) ∗ (∃ f, (ms19 t).view.loc (c : Thread nD τ) ↦[(ms19 t).view.set]{fullShare} f) ∗ (∃ f, scr0.view.loc (c : Thread nD τ) ↦[scr0.view.set]{fullShare} f) ∗ (∃ f, scr1.view.loc (c : Thread nD τ) ↦[scr1.view.set]{fullShare} f) ∗ (∃ f, scr2.view.loc (c : Thread nD τ) ↦[scr2.view.set]{fullShare} f) ∗ (∃ f, scr3.view.loc (c : Thread nD τ) ↦[scr3.view.set]{fullShare} f) ∗ (∃ f, scr4.view.loc (c : Thread nD τ) ↦[scr4.view.set]{fullShare} f)) -∗ K ⟨⟩))
          ⊢ wp frame (wpE (defs₀ (F := Ideal)) Variants.none c none) Set.univ (cc0_s5_group (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) scr0 (Memref.isWhole_whole _) scr1 (Memref.isWhole_whole _) scr2 (Memref.isWhole_whole _) scr3 (Memref.isWhole_whole _) scr4 (Memref.isWhole_whole _)) K) : Meets m c t Y0 Y1 Y2 Y3 Y4 Y5 Y6 Y7 Y8 Y9 Y10 Y11 Y12 Y13 Y14 Y15 Y16 Y17 Y18 Y19 := by
  unfold Meets
  rw [show (rdat m c).owesAt () t.succ = (rdat m c).owesAt () t.castSucc from rfl, PhiA_eq]
  unfold bodyAt0
  iintro ⟨⟨⟨⟨%d0, S0⟩, ⟨%d1, S1⟩, ⟨%d2, S2⟩, ⟨%d3, S3⟩, ⟨%d4, S4⟩⟩, Hg⟩, Ho, H0, H1, H2, H3, H4, H5, H6, H7, H8, H9, H10, H11, H12, H13, H14, H15, H16, H17, H18, H19⟩
  obtain ⟨R, h17, hrun⟩ := run d0 d1 d2 d3 d4
  iapply (hrun _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [S0]; · iexact S0
  isplitl [S1]; · iexact S1
  isplitl [S2]; · iexact S2
  isplitl [S3]; · iexact S3
  isplitl [S4]; · iexact S4
  iintro ⟨H0, H1, H2, H3, H4, H5, H6, H7, H8, H9, H10, H11, H12, H13, H14, ⟨%f15, H15⟩, ⟨%f16, H16⟩, H17, ⟨%f18, H18⟩, ⟨%f19, H19⟩, ⟨%e0, S0⟩, ⟨%e1, S1⟩, ⟨%e2, S2⟩, ⟨%e3, S3⟩, ⟨%e4, S4⟩⟩
  isplitl [S0 S1 S2 S3 S4 Hg]
  · isplitl [S0 S1 S2 S3 S4]
    · isplitl [S0]
      · iexists _; unfold owns; iexists _; isplitr
        swap; · iexact S0
        ipureintro; rfl
      isplitl [S1]
      · iexists _; unfold owns; iexists _; isplitr
        swap; · iexact S1
        ipureintro; rfl
      isplitl [S2]
      · iexists _; unfold owns; iexists _; isplitr
        swap; · iexact S2
        ipureintro; rfl
      isplitl [S3]
      · iexists _; unfold owns; iexists _; isplitr
        swap; · iexact S3
        ipureintro; rfl
      iexists _; unfold owns; iexists _; isplitr
      swap; · iexact S4
      ipureintro; rfl
    iexact Hg
  isplitl [Ho]; · iexact Ho
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  · iexists _; isplitr; · ipureintro; rfl
    iexact H10
  isplitl [H11]
  · iexists _; isplitr; · ipureintro; rfl
    iexact H11
  isplitl [H12]
  · iexists _; isplitr; · ipureintro; rfl
    iexact H12
  isplitl [H13]
  · iexists _; isplitr; · ipureintro; rfl
    iexact H13
  isplitl [H14]
  · iexists _; isplitr; · ipureintro; rfl
    iexact H14
  isplitl [H15]
  · iexists _; isplitr; · ipureintro; trivial
    unfold owns; iexists _; isplitr
    swap; · iexact H15
    ipureintro; rfl
  isplitl [H16]
  · iexists _; isplitr; · ipureintro; trivial
    unfold owns; iexists _; isplitr
    swap; · iexact H16
    ipureintro; rfl
  isplitl [H17]
  · iapply h17; iexact H17
  isplitl [H18]
  · iexists _; isplitr; · ipureintro; trivial
    unfold owns; iexists _; isplitr
    swap; · iexact H18
    ipureintro; rfl
  iexists _; isplitr; · ipureintro; trivial
  unfold owns; iexists _; isplitr
  swap; · iexact H19
  ipureintro; rfl

/-- The body at any point. -/
theorem sound_body (hY : ∀ s : Fin 8, t.val = 128 + s.val → Found m c s Y0 Y1 Y2 Y4 Y5 Y10) : Meets m c t Y0 Y1 Y2 Y3 Y4 Y5 Y6 Y7 Y8 Y9 Y10 Y11 Y12 Y13 Y14 Y15 Y16 Y17 Y18 Y19 := by
  refine body_of m c t Y0 Y1 Y2 Y3 Y4 Y5 Y6 Y7 Y8 Y9 Y10 Y11 Y12 Y13 Y14 Y15 Y16 Y17 Y18 Y19 (fun d0 d1 d2 d3 d4 => ?_)
  by_cases h1 : t.val < 8
  · by_cases h7 : t.val % 8 = 7
    · exact ⟨_, kept m c t Y17 (by omega), (firstLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) scr0 (Memref.isWhole_whole _) scr1 (Memref.isWhole_whole _) scr2 (Memref.isWhole_whole _) scr3 (Memref.isWhole_whole _) scr4 (Memref.isWhole_whole _) ((hcond1 t).mpr (by omega)) ((hcond2 t).mpr (by omega)) ((hcond3 t).mpr (by omega)) (fun h => by have := (hcond4 t).mp h; omega) Y0 Y1 Y2 Y3 Y4 Y5 Y6 Y7 Y8 Y9 Y10 Y11 Y12 Y13 Y14 Y15 Y16 Y17 Y18 Y19 d0 d1 d2 d3 d4) Set.univ⟩
    · exact ⟨_, kept m c t Y17 (by omega), (first c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) scr0 (Memref.isWhole_whole _) scr1 (Memref.isWhole_whole _) scr2 (Memref.isWhole_whole _) scr3 (Memref.isWhole_whole _) scr4 (Memref.isWhole_whole _) ((hcond1 t).mpr (by omega)) ((hcond2 t).mpr (by omega)) (fun h => by have := (hcond3 t).mp h; omega) (fun h => by have := (hcond4 t).mp h; omega) Y0 Y1 Y2 Y3 Y4 Y5 Y6 Y7 Y8 Y9 Y10 Y11 Y12 Y13 Y14 Y15 Y16 Y17 Y18 Y19 d0 d1 d2 d3 d4) Set.univ⟩
  · by_cases h2 : t.val < 128
    · by_cases h7 : t.val % 8 = 7
      · exact ⟨_, kept m c t Y17 (by omega), (promptLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) scr0 (Memref.isWhole_whole _) scr1 (Memref.isWhole_whole _) scr2 (Memref.isWhole_whole _) scr3 (Memref.isWhole_whole _) scr4 (Memref.isWhole_whole _) (fun h => by have := (hcond1 t).mp h; omega) ((hcond2 t).mpr (by omega)) ((hcond3 t).mpr (by omega)) (fun h => by have := (hcond4 t).mp h; omega) Y0 Y1 Y2 Y3 Y4 Y5 Y6 Y7 Y8 Y9 Y10 Y11 Y12 Y13 Y14 Y15 Y16 Y17 Y18 Y19 d0 d1 d2 d3 d4) Set.univ⟩
      · exact ⟨_, kept m c t Y17 (by omega), (prompt c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) scr0 (Memref.isWhole_whole _) scr1 (Memref.isWhole_whole _) scr2 (Memref.isWhole_whole _) scr3 (Memref.isWhole_whole _) scr4 (Memref.isWhole_whole _) (fun h => by have := (hcond1 t).mp h; omega) ((hcond2 t).mpr (by omega)) (fun h => by have := (hcond3 t).mp h; omega) (fun h => by have := (hcond4 t).mp h; omega) Y0 Y1 Y2 Y3 Y4 Y5 Y6 Y7 Y8 Y9 Y10 Y11 Y12 Y13 Y14 Y15 Y16 Y17 Y18 Y19 d0 d1 d2 d3 d4) Set.univ⟩
    · by_cases h7 : t.val % 8 = 7
      · obtain ⟨S, hS⟩ : ∃ S, S = (sampleLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) scr0 (Memref.isWhole_whole _) scr1 (Memref.isWhole_whole _) scr2 (Memref.isWhole_whole _) scr3 (Memref.isWhole_whole _) scr4 (Memref.isWhole_whole _) (fun h => by have := (hcond1 t).mp h; omega) (fun h => by have := (hcond2 t).mp h; omega) ((hcond4 t).mpr (by omega)) ((hcond5 t).mpr (by omega)) Y0 Y1 Y2 Y3 Y4 Y5 Y6 Y7 Y8 Y9 Y10 Y11 Y12 Y13 Y14 Y15 Y16 Y17 Y18 Y19 d0 d1 d2 d3 d4) := ⟨_, rfl⟩
        have hl := sampleLast_left c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) scr0 (Memref.isWhole_whole _) scr1 (Memref.isWhole_whole _) scr2 (Memref.isWhole_whole _) scr3 (Memref.isWhole_whole _) scr4 (Memref.isWhole_whole _) (fun h => by have := (hcond1 t).mp h; omega) (fun h => by have := (hcond2 t).mp h; omega) ((hcond4 t).mpr (by omega)) ((hcond5 t).mpr (by omega)) Y0 Y1 Y2 Y3 Y4 Y5 Y6 Y7 Y8 Y9 Y10 Y11 Y12 Y13 Y14 Y15 Y16 Y17 Y18 Y19 d0 d1 d2 d3 d4 m
        rw [← hS] at hl
        exact ⟨_, stored17 m c t Y17 S.1 (left_sample_of m c t (by omega) Y17 _ (fun s hs => hl s ((cond_coord t).trans (by omega)) (hY s hs))), S.2 Set.univ⟩
      · obtain ⟨S, hS⟩ : ∃ S, S = (sample c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) scr0 (Memref.isWhole_whole _) scr1 (Memref.isWhole_whole _) scr2 (Memref.isWhole_whole _) scr3 (Memref.isWhole_whole _) scr4 (Memref.isWhole_whole _) (fun h => by have := (hcond1 t).mp h; omega) (fun h => by have := (hcond2 t).mp h; omega) ((hcond4 t).mpr (by omega)) (fun h => by have := (hcond5 t).mp h; omega) Y0 Y1 Y2 Y3 Y4 Y5 Y6 Y7 Y8 Y9 Y10 Y11 Y12 Y13 Y14 Y15 Y16 Y17 Y18 Y19 d0 d1 d2 d3 d4) := ⟨_, rfl⟩
        have hl := sample_left c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) scr0 (Memref.isWhole_whole _) scr1 (Memref.isWhole_whole _) scr2 (Memref.isWhole_whole _) scr3 (Memref.isWhole_whole _) scr4 (Memref.isWhole_whole _) (fun h => by have := (hcond1 t).mp h; omega) (fun h => by have := (hcond2 t).mp h; omega) ((hcond4 t).mpr (by omega)) (fun h => by have := (hcond5 t).mp h; omega) Y0 Y1 Y2 Y3 Y4 Y5 Y6 Y7 Y8 Y9 Y10 Y11 Y12 Y13 Y14 Y15 Y16 Y17 Y18 Y19 d0 d1 d2 d3 d4 m
        rw [← hS] at hl
        exact ⟨_, stored17 m c t Y17 S.1 (left_sample_of m c t (by omega) Y17 _ (fun s hs => hl s ((cond_coord t).trans (by omega)) (hY s hs))), S.2 Set.univ⟩

end

/-- The library's body obligation. -/
theorem body_obligation (c : Dev nD) : (rdat m c).BodyObligation (defs₀ (F := Ideal)) Variants.none () Set.univ := fun t Y hF => by
  rw [bigSep_W0, bigSep_W0, defs₀_row]
  exact sound_body m c t (Y 0) (Y 1) (Y 2) (Y 3) (Y 4) (Y 5) (Y 6) (Y 7) (Y 8) (Y 9) (Y 10) (Y 11) (Y 12) (Y 13) (Y 14) (Y 15) (Y 16) (Y 17) (Y 18) (Y 19) (found_of m c t Y hF)

set_option backward.isDefEq.respectTransparency.types false in
/-- The run, its semaphores at zero at the end. -/
theorem run_main : θ_run defs (onTc (τ := τ) (main (F := Ideal))) (s₀ m ρ) (fun r => RDat.FramePost cfg0 (rdat m) (V m) r ∧ r.2.sem = fun _ => 0) :=
  RDat.θ_run_frame_track_shared (Q' := fun r => RDat.FramePost cfg0 (rdat m) (V m) r ∧ r.2.sem = fun _ => 0) cfgs (0 : Fin 1) launch₀0 defs₀ Variants.none (rdat m) m ρ main
    (hbody := fun c => body_obligation m c) (hq := fun _ _ _ => rfl)
    (howed := fun _ _ => rfl) (V := V m) (hmain := hmain m Variants.none) (hA := A_eq m) (hin := fun _ => .rfl) (hout := fun _ => .rfl)

/-- The frame: the arguments end as they were. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12))
      ∧ r.2.sem = fun _ => 0) :=
  (θ_run defs _ _).mono (fun _ h => ⟨fun c => ⟨(RDat.FramePost.arr_in h.1 c 1 rfl).trans ((A_eq m c 1).trans (V_main_arg0 m c)),
      (RDat.FramePost.arr_in h.1 c 2 rfl).trans ((A_eq m c 2).trans (V_main_arg1 m c)),
      (RDat.FramePost.arr_in h.1 c 3 rfl).trans ((A_eq m c 3).trans (V_main_arg2 m c)),
      (RDat.FramePost.arr_in h.1 c 4 rfl).trans ((A_eq m c 4).trans (V_main_arg3 m c)),
      (RDat.FramePost.arr_in h.1 c 5 rfl).trans ((A_eq m c 5).trans (V_main_arg4 m c)),
      (RDat.FramePost.arr_in h.1 c 6 rfl).trans ((A_eq m c 6).trans (V_main_arg5 m c)),
      (RDat.FramePost.arr_in h.1 c 7 rfl).trans ((A_eq m c 7).trans (V_main_arg6 m c)),
      (RDat.FramePost.arr_in h.1 c 8 rfl).trans ((A_eq m c 8).trans (V_main_arg7 m c)),
      (RDat.FramePost.arr_in h.1 c 10 rfl).trans ((A_eq m c 10).trans (V_main_arg8 m c)),
      (RDat.FramePost.arr_in h.1 c 11 rfl).trans ((A_eq m c 11).trans (V_main_arg9 m c)),
      ((h.1 c).2 main_arg10 (Pipeline.mem_restRefs_of main_arg10 (by decide) (by decide))).trans (V_main_arg10 m c),
      (RDat.FramePost.arr_in h.1 c 13 rfl).trans ((A_eq m c 13).trans (V_main_arg11 m c)),
      (RDat.FramePost.arr_in h.1 c 14 rfl).trans ((A_eq m c 14).trans (V_main_arg12 m c))⟩, h.2⟩) (run_main m ρ)

/-- The samples' states at the end are the recurrence's. -/
theorem result (c : Dev nD) (r : PUnit × MemSt nD τ sig (Elt Ideal)) (h : RDat.FramePost cfg0 (rdat m) (V m) r) :
    r.2.mem ((c.tc : Thread nD τ).loc main_v2_2) = states m c := by
  have hw : (cfg0.win 17).WholeAt (⟨135, by rw [show cfg0.N = 136 from N_0]; omega⟩ : Fin cfg0.N) :=
    (by decide +kernel : win0_17.WholeAt (⟨135, by rw [show grid0.N = 136 from N_0]; omega⟩ : Fin grid0.N))
  obtain ⟨X, hL, hX⟩ := RDat.ArrAt.emb_eq_of_wholeAt ((h c).1 17) hw
  have key : ∀ (s b : Fin 8) (q : Fin 2048), r.2.mem ((c.tc : Thread nD τ).loc main_v2_2) (ix3 s b q) = states m c (ix3 s b q) := by
    intro s b q
    exact (hX (ix3 s b q)).trans (leaves_rows m c 7 _ (by omega) rfl X hL s b q (by omega))
  funext j
  have ej : j = (ix3 (j 0) (j 1) (j 2) : S8x8x2048.Idx) := eq_ix3 j
  rw [ej]
  exact key _ _ _

/-- The run's value and its arguments. -/
theorem run_value : θ_run defs (onTc (τ := τ) (main (F := Ideal))) ⟨m, fun _ => 0, ρ⟩ (fun r => ∀ c : Dev nD,
      r.2.mem ((c.tc : Thread nD τ).loc main_v2_2) = states m c
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12)) :=
  (θ_run defs _ _).mono (fun r h c => ⟨result m c r h.1, (RDat.FramePost.arr_in h.1 c 1 rfl).trans ((A_eq m c 1).trans (V_main_arg0 m c)),
      (RDat.FramePost.arr_in h.1 c 2 rfl).trans ((A_eq m c 2).trans (V_main_arg1 m c)),
      (RDat.FramePost.arr_in h.1 c 3 rfl).trans ((A_eq m c 3).trans (V_main_arg2 m c)),
      (RDat.FramePost.arr_in h.1 c 4 rfl).trans ((A_eq m c 4).trans (V_main_arg3 m c)),
      (RDat.FramePost.arr_in h.1 c 5 rfl).trans ((A_eq m c 5).trans (V_main_arg4 m c)),
      (RDat.FramePost.arr_in h.1 c 6 rfl).trans ((A_eq m c 6).trans (V_main_arg5 m c)),
      (RDat.FramePost.arr_in h.1 c 7 rfl).trans ((A_eq m c 7).trans (V_main_arg6 m c)),
      (RDat.FramePost.arr_in h.1 c 8 rfl).trans ((A_eq m c 8).trans (V_main_arg7 m c)),
      (RDat.FramePost.arr_in h.1 c 10 rfl).trans ((A_eq m c 10).trans (V_main_arg8 m c)),
      (RDat.FramePost.arr_in h.1 c 11 rfl).trans ((A_eq m c 11).trans (V_main_arg9 m c)),
      ((h.1 c).2 main_arg10 (Pipeline.mem_restRefs_of main_arg10 (by decide) (by decide))).trans (V_main_arg10 m c),
      (RDat.FramePost.arr_in h.1 c 13 rfl).trans ((A_eq m c 13).trans (V_main_arg11 m c)),
      (RDat.FramePost.arr_in h.1 c 14 rfl).trans ((A_eq m c 14).trans (V_main_arg12 m c))⟩) (run_main m ρ)

end Cert.Kernel5Ideal.Scan

end
-- ==== Proof.Scan.Reference.lean ====
/- What the plain reference computes of the samples' states, read entry by entry. -/
module

public import proofs.«01_k».proof.Proof.Scan.Spec
public import proofs.«01_k».proof.Proof.Gen.Reference5Ideal.Read

@[expose] public section

noncomputable section

namespace Cert.Reference5Ideal.Scan

open Idealize.ShloMosaic Idealize.ShloMosaic.TcCoe Idealize.ShloMosaic.ValueIdx Idealize.SL.Sem
open Cert.Reference5Ideal Cert.Reference5Ideal.Gen Cert.Reference5Ideal.Read
open Cert.Scan (step state flat feed final value)

variable (x0 : (⟨S8320x10240, .f32⟩ : BufTy).Contents (Elt Ideal)) (x1 : (⟨S4x8x256x2048, .bf16⟩ : BufTy).Contents (Elt Ideal))
  (x3 x4 : (⟨S4x1x8192, .f32⟩ : BufTy).Contents (Elt Ideal)) (x8 : (⟨S8x8x2048, .f32⟩ : BufTy).Contents (Elt Ideal))

/-- The factor's real part. -/
theorem lr_at (s : Fin 8) (m : Fin 1024) :
    val_main_v9 (F := Ideal) x3 (ix3 s (0 : Fin 1) m) = x3 (ix3 (0 : Fin 4) (0 : Fin 1) (⟨1024 * s.val + m.val, by omega⟩ : Fin 8192)) := by
  rw [val_main_v9_apply, val_main_v8_apply, val_main_v7_apply]
  refine congrArg x3 (funext fun a => Fin.ext ?_)
  have hs := s.isLt; have hm := m.isLt
  match a with
  | ⟨0, _⟩ => rfl
  | ⟨1, _⟩ => rfl
  | ⟨2, _⟩ => show (0 * 8192 + ((s.val * 1 + 0) * 1024 + m.val) % 8192) % 8192 = 1024 * s.val + m.val; omega

/-- The factor's imaginary part. -/
theorem li_at (s : Fin 8) (m : Fin 1024) :
    val_main_v12 (F := Ideal) x4 (ix3 s (0 : Fin 1) m) = x4 (ix3 (0 : Fin 4) (0 : Fin 1) (⟨1024 * s.val + m.val, by omega⟩ : Fin 8192)) := by
  rw [val_main_v12_apply, val_main_v11_apply, val_main_v10_apply]
  refine congrArg x4 (funext fun a => Fin.ext ?_)
  have hs := s.isLt; have hm := m.isLt
  match a with
  | ⟨0, _⟩ => rfl
  | ⟨1, _⟩ => rfl
  | ⟨2, _⟩ => show (0 * 8192 + ((s.val * 1 + 0) * 1024 + m.val) % 8192) % 8192 = 1024 * s.val + m.val; omega

/-- The push of group `s`, step `t`, sequence `b`. -/
theorem bu_at (s b : Fin 8) (t : Fin 16) (p : Fin 2048) :
    val_main_v6 (F := Ideal) x0 x1 (ix4 s t b p)
      = (∑ q : Fin 256, x0 (ix2 (⟨8192 + 16 * b.val + t.val, by omega⟩ : Fin 8320) (⟨256 * s.val + q.val, by omega⟩ : Fin 10240)) * x1 (ix4 (0 : Fin 4) s q p) : EReal) := by
  rw [val_main_v6_apply, val_main_v5_apply]
  refine Finset.sum_congr rfl fun q _ => ?_
  refine (mul_comm _ _).trans ?_
  have hs := s.isLt; have hb := b.isLt; have ht := t.isLt; have hp := p.isLt; have hq := q.isLt
  refine congrArg₂ (fun y z : EReal => y * z) ?_ ?_
  · rw [val_main_v1_apply, val_main_v0_apply]
    refine congrArg x0 (funext fun a => Fin.ext ?_)
    match a with
    | ⟨0, _⟩ => show 8192 + (((b.val * 16 + t.val) * 8 + s.val) * 256 + q.val) / 2048 = 8192 + 16 * b.val + t.val; omega
    | ⟨1, _⟩ => show (((b.val * 16 + t.val) * 8 + s.val) * 256 + q.val) % 2048 = 256 * s.val + q.val; omega
  · rw [val_main_v4_apply, val_main_v3_apply, val_main_v2_apply]
    show x1 _ = x1 _
    refine congrArg x1 (funext fun a => Fin.ext ?_)
    match a with
    | ⟨0, _⟩ => rfl
    | ⟨1, _⟩ => show ((s.val * 256 + q.val) * 2048 + p.val) / 524288 % 8 = s.val; omega
    | ⟨2, _⟩ => show ((s.val * 256 + q.val) * 2048 + p.val) / 2048 % 256 = q.val; omega
    | ⟨3, _⟩ => show ((s.val * 256 + q.val) * 2048 + p.val) % 2048 = p.val; omega

theorem bu_re_0 (s b : Fin 8) (m : Fin 1024) :
    val_main_v21 (F := Ideal) x0 x1 (ix3 s b m) = (feed x0 x1 s b m 0).1 := by
  have hs := s.isLt; have hb := b.isLt; have hm := m.isLt
  refine ((val_main_v21_apply (F := Ideal) x0 x1 (ix3 s b m)).trans (val_main_v20_apply (F := Ideal) x0 x1 _)).trans ?_
  refine (congrArg (val_main_v6 (F := Ideal) x0 x1) (a₂ := ix4 s (⟨0, by omega⟩ : Fin 16) b (⟨m.val, by omega⟩ : Fin 2048)) (funext fun a => Fin.ext ?_)).trans ?_
  · match a with
    | ⟨0, _⟩ => show ((s.val * 8 + b.val) * 1024 + m.val) / 8192 = s.val; omega
    | ⟨1, _⟩ => rfl
    | ⟨2, _⟩ => show ((s.val * 8 + b.val) * 1024 + m.val) / 1024 % 8 = b.val; omega
    | ⟨3, _⟩ => show ((s.val * 8 + b.val) * 1024 + m.val) % 1024 = m.val; omega
  · refine (bu_at x0 x1 s b _ _).trans ?_
    unfold feed
    rw [dif_pos (by omega)]

theorem bu_im_0 (s b : Fin 8) (m : Fin 1024) :
    val_main_v29 (F := Ideal) x0 x1 (ix3 s b m) = (feed x0 x1 s b m 0).2 := by
  have hs := s.isLt; have hb := b.isLt; have hm := m.isLt
  refine ((val_main_v29_apply (F := Ideal) x0 x1 (ix3 s b m)).trans (val_main_v28_apply (F := Ideal) x0 x1 _)).trans ?_
  refine (congrArg (val_main_v6 (F := Ideal) x0 x1) (a₂ := ix4 s (⟨0, by omega⟩ : Fin 16) b (⟨1024 + m.val, by omega⟩ : Fin 2048)) (funext fun a => Fin.ext ?_)).trans ?_
  · match a with
    | ⟨0, _⟩ => show ((s.val * 8 + b.val) * 1024 + m.val) / 8192 = s.val; omega
    | ⟨1, _⟩ => rfl
    | ⟨2, _⟩ => show ((s.val * 8 + b.val) * 1024 + m.val) / 1024 % 8 = b.val; omega
    | ⟨3, _⟩ => show 1024 + ((s.val * 8 + b.val) * 1024 + m.val) % 1024 = 1024 + m.val; omega
  · refine (bu_at x0 x1 s b _ _).trans ?_
    unfold feed
    rw [dif_pos (by omega)]

theorem bu_re_1 (s b : Fin 8) (m : Fin 1024) :
    val_main_v37 (F := Ideal) x0 x1 (ix3 s b m) = (feed x0 x1 s b m 1).1 := by
  have hs := s.isLt; have hb := b.isLt; have hm := m.isLt
  refine ((val_main_v37_apply (F := Ideal) x0 x1 (ix3 s b m)).trans (val_main_v36_apply (F := Ideal) x0 x1 _)).trans ?_
  refine (congrArg (val_main_v6 (F := Ideal) x0 x1) (a₂ := ix4 s (⟨1, by omega⟩ : Fin 16) b (⟨m.val, by omega⟩ : Fin 2048)) (funext fun a => Fin.ext ?_)).trans ?_
  · match a with
    | ⟨0, _⟩ => show ((s.val * 8 + b.val) * 1024 + m.val) / 8192 = s.val; omega
    | ⟨1, _⟩ => rfl
    | ⟨2, _⟩ => show ((s.val * 8 + b.val) * 1024 + m.val) / 1024 % 8 = b.val; omega
    | ⟨3, _⟩ => show ((s.val * 8 + b.val) * 1024 + m.val) % 1024 = m.val; omega
  · refine (bu_at x0 x1 s b _ _).trans ?_
    unfold feed
    rw [dif_pos (by omega)]

theorem bu_im_1 (s b : Fin 8) (m : Fin 1024) :
    val_main_v45 (F := Ideal) x0 x1 (ix3 s b m) = (feed x0 x1 s b m 1).2 := by
  have hs := s.isLt; have hb := b.isLt; have hm := m.isLt
  refine ((val_main_v45_apply (F := Ideal) x0 x1 (ix3 s b m)).trans (val_main_v44_apply (F := Ideal) x0 x1 _)).trans ?_
  refine (congrArg (val_main_v6 (F := Ideal) x0 x1) (a₂ := ix4 s (⟨1, by omega⟩ : Fin 16) b (⟨1024 + m.val, by omega⟩ : Fin 2048)) (funext fun a => Fin.ext ?_)).trans ?_
  · match a with
    | ⟨0, _⟩ => show ((s.val * 8 + b.val) * 1024 + m.val) / 8192 = s.val; omega
    | ⟨1, _⟩ => rfl
    | ⟨2, _⟩ => show ((s.val * 8 + b.val) * 1024 + m.val) / 1024 % 8 = b.val; omega
    | ⟨3, _⟩ => show 1024 + ((s.val * 8 + b.val) * 1024 + m.val) % 1024 = 1024 + m.val; omega
  · refine (bu_at x0 x1 s b _ _).trans ?_
    unfold feed
    rw [dif_pos (by omega)]

theorem bu_re_2 (s b : Fin 8) (m : Fin 1024) :
    val_main_v53 (F := Ideal) x0 x1 (ix3 s b m) = (feed x0 x1 s b m 2).1 := by
  have hs := s.isLt; have hb := b.isLt; have hm := m.isLt
  refine ((val_main_v53_apply (F := Ideal) x0 x1 (ix3 s b m)).trans (val_main_v52_apply (F := Ideal) x0 x1 _)).trans ?_
  refine (congrArg (val_main_v6 (F := Ideal) x0 x1) (a₂ := ix4 s (⟨2, by omega⟩ : Fin 16) b (⟨m.val, by omega⟩ : Fin 2048)) (funext fun a => Fin.ext ?_)).trans ?_
  · match a with
    | ⟨0, _⟩ => show ((s.val * 8 + b.val) * 1024 + m.val) / 8192 = s.val; omega
    | ⟨1, _⟩ => rfl
    | ⟨2, _⟩ => show ((s.val * 8 + b.val) * 1024 + m.val) / 1024 % 8 = b.val; omega
    | ⟨3, _⟩ => show ((s.val * 8 + b.val) * 1024 + m.val) % 1024 = m.val; omega
  · refine (bu_at x0 x1 s b _ _).trans ?_
    unfold feed
    rw [dif_pos (by omega)]

theorem bu_im_2 (s b : Fin 8) (m : Fin 1024) :
    val_main_v61 (F := Ideal) x0 x1 (ix3 s b m) = (feed x0 x1 s b m 2).2 := by
  have hs := s.isLt; have hb := b.isLt; have hm := m.isLt
  refine ((val_main_v61_apply (F := Ideal) x0 x1 (ix3 s b m)).trans (val_main_v60_apply (F := Ideal) x0 x1 _)).trans ?_
  refine (congrArg (val_main_v6 (F := Ideal) x0 x1) (a₂ := ix4 s (⟨2, by omega⟩ : Fin 16) b (⟨1024 + m.val, by omega⟩ : Fin 2048)) (funext fun a => Fin.ext ?_)).trans ?_
  · match a with
    | ⟨0, _⟩ => show ((s.val * 8 + b.val) * 1024 + m.val) / 8192 = s.val; omega
    | ⟨1, _⟩ => rfl
    | ⟨2, _⟩ => show ((s.val * 8 + b.val) * 1024 + m.val) / 1024 % 8 = b.val; omega
    | ⟨3, _⟩ => show 1024 + ((s.val * 8 + b.val) * 1024 + m.val) % 1024 = 1024 + m.val; omega
  · refine (bu_at x0 x1 s b _ _).trans ?_
    unfold feed
    rw [dif_pos (by omega)]

theorem bu_re_3 (s b : Fin 8) (m : Fin 1024) :
    val_main_v69 (F := Ideal) x0 x1 (ix3 s b m) = (feed x0 x1 s b m 3).1 := by
  have hs := s.isLt; have hb := b.isLt; have hm := m.isLt
  refine ((val_main_v69_apply (F := Ideal) x0 x1 (ix3 s b m)).trans (val_main_v68_apply (F := Ideal) x0 x1 _)).trans ?_
  refine (congrArg (val_main_v6 (F := Ideal) x0 x1) (a₂ := ix4 s (⟨3, by omega⟩ : Fin 16) b (⟨m.val, by omega⟩ : Fin 2048)) (funext fun a => Fin.ext ?_)).trans ?_
  · match a with
    | ⟨0, _⟩ => show ((s.val * 8 + b.val) * 1024 + m.val) / 8192 = s.val; omega
    | ⟨1, _⟩ => rfl
    | ⟨2, _⟩ => show ((s.val * 8 + b.val) * 1024 + m.val) / 1024 % 8 = b.val; omega
    | ⟨3, _⟩ => show ((s.val * 8 + b.val) * 1024 + m.val) % 1024 = m.val; omega
  · refine (bu_at x0 x1 s b _ _).trans ?_
    unfold feed
    rw [dif_pos (by omega)]

theorem bu_im_3 (s b : Fin 8) (m : Fin 1024) :
    val_main_v77 (F := Ideal) x0 x1 (ix3 s b m) = (feed x0 x1 s b m 3).2 := by
  have hs := s.isLt; have hb := b.isLt; have hm := m.isLt
  refine ((val_main_v77_apply (F := Ideal) x0 x1 (ix3 s b m)).trans (val_main_v76_apply (F := Ideal) x0 x1 _)).trans ?_
  refine (congrArg (val_main_v6 (F := Ideal) x0 x1) (a₂ := ix4 s (⟨3, by omega⟩ : Fin 16) b (⟨1024 + m.val, by omega⟩ : Fin 2048)) (funext fun a => Fin.ext ?_)).trans ?_
  · match a with
    | ⟨0, _⟩ => show ((s.val * 8 + b.val) * 1024 + m.val) / 8192 = s.val; omega
    | ⟨1, _⟩ => rfl
    | ⟨2, _⟩ => show ((s.val * 8 + b.val) * 1024 + m.val) / 1024 % 8 = b.val; omega
    | ⟨3, _⟩ => show 1024 + ((s.val * 8 + b.val) * 1024 + m.val) % 1024 = 1024 + m.val; omega
  · refine (bu_at x0 x1 s b _ _).trans ?_
    unfold feed
    rw [dif_pos (by omega)]

theorem bu_re_4 (s b : Fin 8) (m : Fin 1024) :
    val_main_v85 (F := Ideal) x0 x1 (ix3 s b m) = (feed x0 x1 s b m 4).1 := by
  have hs := s.isLt; have hb := b.isLt; have hm := m.isLt
  refine ((val_main_v85_apply (F := Ideal) x0 x1 (ix3 s b m)).trans (val_main_v84_apply (F := Ideal) x0 x1 _)).trans ?_
  refine (congrArg (val_main_v6 (F := Ideal) x0 x1) (a₂ := ix4 s (⟨4, by omega⟩ : Fin 16) b (⟨m.val, by omega⟩ : Fin 2048)) (funext fun a => Fin.ext ?_)).trans ?_
  · match a with
    | ⟨0, _⟩ => show ((s.val * 8 + b.val) * 1024 + m.val) / 8192 = s.val; omega
    | ⟨1, _⟩ => rfl
    | ⟨2, _⟩ => show ((s.val * 8 + b.val) * 1024 + m.val) / 1024 % 8 = b.val; omega
    | ⟨3, _⟩ => show ((s.val * 8 + b.val) * 1024 + m.val) % 1024 = m.val; omega
  · refine (bu_at x0 x1 s b _ _).trans ?_
    unfold feed
    rw [dif_pos (by omega)]

theorem bu_im_4 (s b : Fin 8) (m : Fin 1024) :
    val_main_v93 (F := Ideal) x0 x1 (ix3 s b m) = (feed x0 x1 s b m 4).2 := by
  have hs := s.isLt; have hb := b.isLt; have hm := m.isLt
  refine ((val_main_v93_apply (F := Ideal) x0 x1 (ix3 s b m)).trans (val_main_v92_apply (F := Ideal) x0 x1 _)).trans ?_
  refine (congrArg (val_main_v6 (F := Ideal) x0 x1) (a₂ := ix4 s (⟨4, by omega⟩ : Fin 16) b (⟨1024 + m.val, by omega⟩ : Fin 2048)) (funext fun a => Fin.ext ?_)).trans ?_
  · match a with
    | ⟨0, _⟩ => show ((s.val * 8 + b.val) * 1024 + m.val) / 8192 = s.val; omega
    | ⟨1, _⟩ => rfl
    | ⟨2, _⟩ => show ((s.val * 8 + b.val) * 1024 + m.val) / 1024 % 8 = b.val; omega
    | ⟨3, _⟩ => show 1024 + ((s.val * 8 + b.val) * 1024 + m.val) % 1024 = 1024 + m.val; omega
  · refine (bu_at x0 x1 s b _ _).trans ?_
    unfold feed
    rw [dif_pos (by omega)]

theorem bu_re_5 (s b : Fin 8) (m : Fin 1024) :
    val_main_v101 (F := Ideal) x0 x1 (ix3 s b m) = (feed x0 x1 s b m 5).1 := by
  have hs := s.isLt; have hb := b.isLt; have hm := m.isLt
  refine ((val_main_v101_apply (F := Ideal) x0 x1 (ix3 s b m)).trans (val_main_v100_apply (F := Ideal) x0 x1 _)).trans ?_
  refine (congrArg (val_main_v6 (F := Ideal) x0 x1) (a₂ := ix4 s (⟨5, by omega⟩ : Fin 16) b (⟨m.val, by omega⟩ : Fin 2048)) (funext fun a => Fin.ext ?_)).trans ?_
  · match a with
    | ⟨0, _⟩ => show ((s.val * 8 + b.val) * 1024 + m.val) / 8192 = s.val; omega
    | ⟨1, _⟩ => rfl
    | ⟨2, _⟩ => show ((s.val * 8 + b.val) * 1024 + m.val) / 1024 % 8 = b.val; omega
    | ⟨3, _⟩ => show ((s.val * 8 + b.val) * 1024 + m.val) % 1024 = m.val; omega
  · refine (bu_at x0 x1 s b _ _).trans ?_
    unfold feed
    rw [dif_pos (by omega)]

theorem bu_im_5 (s b : Fin 8) (m : Fin 1024) :
    val_main_v109 (F := Ideal) x0 x1 (ix3 s b m) = (feed x0 x1 s b m 5).2 := by
  have hs := s.isLt; have hb := b.isLt; have hm := m.isLt
  refine ((val_main_v109_apply (F := Ideal) x0 x1 (ix3 s b m)).trans (val_main_v108_apply (F := Ideal) x0 x1 _)).trans ?_
  refine (congrArg (val_main_v6 (F := Ideal) x0 x1) (a₂ := ix4 s (⟨5, by omega⟩ : Fin 16) b (⟨1024 + m.val, by omega⟩ : Fin 2048)) (funext fun a => Fin.ext ?_)).trans ?_
  · match a with
    | ⟨0, _⟩ => show ((s.val * 8 + b.val) * 1024 + m.val) / 8192 = s.val; omega
    | ⟨1, _⟩ => rfl
    | ⟨2, _⟩ => show ((s.val * 8 + b.val) * 1024 + m.val) / 1024 % 8 = b.val; omega
    | ⟨3, _⟩ => show 1024 + ((s.val * 8 + b.val) * 1024 + m.val) % 1024 = 1024 + m.val; omega
  · refine (bu_at x0 x1 s b _ _).trans ?_
    unfold feed
    rw [dif_pos (by omega)]

theorem bu_re_6 (s b : Fin 8) (m : Fin 1024) :
    val_main_v117 (F := Ideal) x0 x1 (ix3 s b m) = (feed x0 x1 s b m 6).1 := by
  have hs := s.isLt; have hb := b.isLt; have hm := m.isLt
  refine ((val_main_v117_apply (F := Ideal) x0 x1 (ix3 s b m)).trans (val_main_v116_apply (F := Ideal) x0 x1 _)).trans ?_
  refine (congrArg (val_main_v6 (F := Ideal) x0 x1) (a₂ := ix4 s (⟨6, by omega⟩ : Fin 16) b (⟨m.val, by omega⟩ : Fin 2048)) (funext fun a => Fin.ext ?_)).trans ?_
  · match a with
    | ⟨0, _⟩ => show ((s.val * 8 + b.val) * 1024 + m.val) / 8192 = s.val; omega
    | ⟨1, _⟩ => rfl
    | ⟨2, _⟩ => show ((s.val * 8 + b.val) * 1024 + m.val) / 1024 % 8 = b.val; omega
    | ⟨3, _⟩ => show ((s.val * 8 + b.val) * 1024 + m.val) % 1024 = m.val; omega
  · refine (bu_at x0 x1 s b _ _).trans ?_
    unfold feed
    rw [dif_pos (by omega)]

theorem bu_im_6 (s b : Fin 8) (m : Fin 1024) :
    val_main_v125 (F := Ideal) x0 x1 (ix3 s b m) = (feed x0 x1 s b m 6).2 := by
  have hs := s.isLt; have hb := b.isLt; have hm := m.isLt
  refine ((val_main_v125_apply (F := Ideal) x0 x1 (ix3 s b m)).trans (val_main_v124_apply (F := Ideal) x0 x1 _)).trans ?_
  refine (congrArg (val_main_v6 (F := Ideal) x0 x1) (a₂ := ix4 s (⟨6, by omega⟩ : Fin 16) b (⟨1024 + m.val, by omega⟩ : Fin 2048)) (funext fun a => Fin.ext ?_)).trans ?_
  · match a with
    | ⟨0, _⟩ => show ((s.val * 8 + b.val) * 1024 + m.val) / 8192 = s.val; omega
    | ⟨1, _⟩ => rfl
    | ⟨2, _⟩ => show ((s.val * 8 + b.val) * 1024 + m.val) / 1024 % 8 = b.val; omega
    | ⟨3, _⟩ => show 1024 + ((s.val * 8 + b.val) * 1024 + m.val) % 1024 = 1024 + m.val; omega
  · refine (bu_at x0 x1 s b _ _).trans ?_
    unfold feed
    rw [dif_pos (by omega)]

theorem bu_re_7 (s b : Fin 8) (m : Fin 1024) :
    val_main_v133 (F := Ideal) x0 x1 (ix3 s b m) = (feed x0 x1 s b m 7).1 := by
  have hs := s.isLt; have hb := b.isLt; have hm := m.isLt
  refine ((val_main_v133_apply (F := Ideal) x0 x1 (ix3 s b m)).trans (val_main_v132_apply (F := Ideal) x0 x1 _)).trans ?_
  refine (congrArg (val_main_v6 (F := Ideal) x0 x1) (a₂ := ix4 s (⟨7, by omega⟩ : Fin 16) b (⟨m.val, by omega⟩ : Fin 2048)) (funext fun a => Fin.ext ?_)).trans ?_
  · match a with
    | ⟨0, _⟩ => show ((s.val * 8 + b.val) * 1024 + m.val) / 8192 = s.val; omega
    | ⟨1, _⟩ => rfl
    | ⟨2, _⟩ => show ((s.val * 8 + b.val) * 1024 + m.val) / 1024 % 8 = b.val; omega
    | ⟨3, _⟩ => show ((s.val * 8 + b.val) * 1024 + m.val) % 1024 = m.val; omega
  · refine (bu_at x0 x1 s b _ _).trans ?_
    unfold feed
    rw [dif_pos (by omega)]

theorem bu_im_7 (s b : Fin 8) (m : Fin 1024) :
    val_main_v141 (F := Ideal) x0 x1 (ix3 s b m) = (feed x0 x1 s b m 7).2 := by
  have hs := s.isLt; have hb := b.isLt; have hm := m.isLt
  refine ((val_main_v141_apply (F := Ideal) x0 x1 (ix3 s b m)).trans (val_main_v140_apply (F := Ideal) x0 x1 _)).trans ?_
  refine (congrArg (val_main_v6 (F := Ideal) x0 x1) (a₂ := ix4 s (⟨7, by omega⟩ : Fin 16) b (⟨1024 + m.val, by omega⟩ : Fin 2048)) (funext fun a => Fin.ext ?_)).trans ?_
  · match a with
    | ⟨0, _⟩ => show ((s.val * 8 + b.val) * 1024 + m.val) / 8192 = s.val; omega
    | ⟨1, _⟩ => rfl
    | ⟨2, _⟩ => show ((s.val * 8 + b.val) * 1024 + m.val) / 1024 % 8 = b.val; omega
    | ⟨3, _⟩ => show 1024 + ((s.val * 8 + b.val) * 1024 + m.val) % 1024 = 1024 + m.val; omega
  · refine (bu_at x0 x1 s b _ _).trans ?_
    unfold feed
    rw [dif_pos (by omega)]

theorem bu_re_8 (s b : Fin 8) (m : Fin 1024) :
    val_main_v149 (F := Ideal) x0 x1 (ix3 s b m) = (feed x0 x1 s b m 8).1 := by
  have hs := s.isLt; have hb := b.isLt; have hm := m.isLt
  refine ((val_main_v149_apply (F := Ideal) x0 x1 (ix3 s b m)).trans (val_main_v148_apply (F := Ideal) x0 x1 _)).trans ?_
  refine (congrArg (val_main_v6 (F := Ideal) x0 x1) (a₂ := ix4 s (⟨8, by omega⟩ : Fin 16) b (⟨m.val, by omega⟩ : Fin 2048)) (funext fun a => Fin.ext ?_)).trans ?_
  · match a with
    | ⟨0, _⟩ => show ((s.val * 8 + b.val) * 1024 + m.val) / 8192 = s.val; omega
    | ⟨1, _⟩ => rfl
    | ⟨2, _⟩ => show ((s.val * 8 + b.val) * 1024 + m.val) / 1024 % 8 = b.val; omega
    | ⟨3, _⟩ => show ((s.val * 8 + b.val) * 1024 + m.val) % 1024 = m.val; omega
  · refine (bu_at x0 x1 s b _ _).trans ?_
    unfold feed
    rw [dif_pos (by omega)]

theorem bu_im_8 (s b : Fin 8) (m : Fin 1024) :
    val_main_v157 (F := Ideal) x0 x1 (ix3 s b m) = (feed x0 x1 s b m 8).2 := by
  have hs := s.isLt; have hb := b.isLt; have hm := m.isLt
  refine ((val_main_v157_apply (F := Ideal) x0 x1 (ix3 s b m)).trans (val_main_v156_apply (F := Ideal) x0 x1 _)).trans ?_
  refine (congrArg (val_main_v6 (F := Ideal) x0 x1) (a₂ := ix4 s (⟨8, by omega⟩ : Fin 16) b (⟨1024 + m.val, by omega⟩ : Fin 2048)) (funext fun a => Fin.ext ?_)).trans ?_
  · match a with
    | ⟨0, _⟩ => show ((s.val * 8 + b.val) * 1024 + m.val) / 8192 = s.val; omega
    | ⟨1, _⟩ => rfl
    | ⟨2, _⟩ => show ((s.val * 8 + b.val) * 1024 + m.val) / 1024 % 8 = b.val; omega
    | ⟨3, _⟩ => show 1024 + ((s.val * 8 + b.val) * 1024 + m.val) % 1024 = 1024 + m.val; omega
  · refine (bu_at x0 x1 s b _ _).trans ?_
    unfold feed
    rw [dif_pos (by omega)]

theorem bu_re_9 (s b : Fin 8) (m : Fin 1024) :
    val_main_v165 (F := Ideal) x0 x1 (ix3 s b m) = (feed x0 x1 s b m 9).1 := by
  have hs := s.isLt; have hb := b.isLt; have hm := m.isLt
  refine ((val_main_v165_apply (F := Ideal) x0 x1 (ix3 s b m)).trans (val_main_v164_apply (F := Ideal) x0 x1 _)).trans ?_
  refine (congrArg (val_main_v6 (F := Ideal) x0 x1) (a₂ := ix4 s (⟨9, by omega⟩ : Fin 16) b (⟨m.val, by omega⟩ : Fin 2048)) (funext fun a => Fin.ext ?_)).trans ?_
  · match a with
    | ⟨0, _⟩ => show ((s.val * 8 + b.val) * 1024 + m.val) / 8192 = s.val; omega
    | ⟨1, _⟩ => rfl
    | ⟨2, _⟩ => show ((s.val * 8 + b.val) * 1024 + m.val) / 1024 % 8 = b.val; omega
    | ⟨3, _⟩ => show ((s.val * 8 + b.val) * 1024 + m.val) % 1024 = m.val; omega
  · refine (bu_at x0 x1 s b _ _).trans ?_
    unfold feed
    rw [dif_pos (by omega)]

theorem bu_im_9 (s b : Fin 8) (m : Fin 1024) :
    val_main_v173 (F := Ideal) x0 x1 (ix3 s b m) = (feed x0 x1 s b m 9).2 := by
  have hs := s.isLt; have hb := b.isLt; have hm := m.isLt
  refine ((val_main_v173_apply (F := Ideal) x0 x1 (ix3 s b m)).trans (val_main_v172_apply (F := Ideal) x0 x1 _)).trans ?_
  refine (congrArg (val_main_v6 (F := Ideal) x0 x1) (a₂ := ix4 s (⟨9, by omega⟩ : Fin 16) b (⟨1024 + m.val, by omega⟩ : Fin 2048)) (funext fun a => Fin.ext ?_)).trans ?_
  · match a with
    | ⟨0, _⟩ => show ((s.val * 8 + b.val) * 1024 + m.val) / 8192 = s.val; omega
    | ⟨1, _⟩ => rfl
    | ⟨2, _⟩ => show ((s.val * 8 + b.val) * 1024 + m.val) / 1024 % 8 = b.val; omega
    | ⟨3, _⟩ => show 1024 + ((s.val * 8 + b.val) * 1024 + m.val) % 1024 = 1024 + m.val; omega
  · refine (bu_at x0 x1 s b _ _).trans ?_
    unfold feed
    rw [dif_pos (by omega)]

theorem bu_re_10 (s b : Fin 8) (m : Fin 1024) :
    val_main_v181 (F := Ideal) x0 x1 (ix3 s b m) = (feed x0 x1 s b m 10).1 := by
  have hs := s.isLt; have hb := b.isLt; have hm := m.isLt
  refine ((val_main_v181_apply (F := Ideal) x0 x1 (ix3 s b m)).trans (val_main_v180_apply (F := Ideal) x0 x1 _)).trans ?_
  refine (congrArg (val_main_v6 (F := Ideal) x0 x1) (a₂ := ix4 s (⟨10, by omega⟩ : Fin 16) b (⟨m.val, by omega⟩ : Fin 2048)) (funext fun a => Fin.ext ?_)).trans ?_
  · match a with
    | ⟨0, _⟩ => show ((s.val * 8 + b.val) * 1024 + m.val) / 8192 = s.val; omega
    | ⟨1, _⟩ => rfl
    | ⟨2, _⟩ => show ((s.val * 8 + b.val) * 1024 + m.val) / 1024 % 8 = b.val; omega
    | ⟨3, _⟩ => show ((s.val * 8 + b.val) * 1024 + m.val) % 1024 = m.val; omega
  · refine (bu_at x0 x1 s b _ _).trans ?_
    unfold feed
    rw [dif_pos (by omega)]

theorem bu_im_10 (s b : Fin 8) (m : Fin 1024) :
    val_main_v189 (F := Ideal) x0 x1 (ix3 s b m) = (feed x0 x1 s b m 10).2 := by
  have hs := s.isLt; have hb := b.isLt; have hm := m.isLt
  refine ((val_main_v189_apply (F := Ideal) x0 x1 (ix3 s b m)).trans (val_main_v188_apply (F := Ideal) x0 x1 _)).trans ?_
  refine (congrArg (val_main_v6 (F := Ideal) x0 x1) (a₂ := ix4 s (⟨10, by omega⟩ : Fin 16) b (⟨1024 + m.val, by omega⟩ : Fin 2048)) (funext fun a => Fin.ext ?_)).trans ?_
  · match a with
    | ⟨0, _⟩ => show ((s.val * 8 + b.val) * 1024 + m.val) / 8192 = s.val; omega
    | ⟨1, _⟩ => rfl
    | ⟨2, _⟩ => show ((s.val * 8 + b.val) * 1024 + m.val) / 1024 % 8 = b.val; omega
    | ⟨3, _⟩ => show 1024 + ((s.val * 8 + b.val) * 1024 + m.val) % 1024 = 1024 + m.val; omega
  · refine (bu_at x0 x1 s b _ _).trans ?_
    unfold feed
    rw [dif_pos (by omega)]

theorem bu_re_11 (s b : Fin 8) (m : Fin 1024) :
    val_main_v197 (F := Ideal) x0 x1 (ix3 s b m) = (feed x0 x1 s b m 11).1 := by
  have hs := s.isLt; have hb := b.isLt; have hm := m.isLt
  refine ((val_main_v197_apply (F := Ideal) x0 x1 (ix3 s b m)).trans (val_main_v196_apply (F := Ideal) x0 x1 _)).trans ?_
  refine (congrArg (val_main_v6 (F := Ideal) x0 x1) (a₂ := ix4 s (⟨11, by omega⟩ : Fin 16) b (⟨m.val, by omega⟩ : Fin 2048)) (funext fun a => Fin.ext ?_)).trans ?_
  · match a with
    | ⟨0, _⟩ => show ((s.val * 8 + b.val) * 1024 + m.val) / 8192 = s.val; omega
    | ⟨1, _⟩ => rfl
    | ⟨2, _⟩ => show ((s.val * 8 + b.val) * 1024 + m.val) / 1024 % 8 = b.val; omega
    | ⟨3, _⟩ => show ((s.val * 8 + b.val) * 1024 + m.val) % 1024 = m.val; omega
  · refine (bu_at x0 x1 s b _ _).trans ?_
    unfold feed
    rw [dif_pos (by omega)]

theorem bu_im_11 (s b : Fin 8) (m : Fin 1024) :
    val_main_v205 (F := Ideal) x0 x1 (ix3 s b m) = (feed x0 x1 s b m 11).2 := by
  have hs := s.isLt; have hb := b.isLt; have hm := m.isLt
  refine ((val_main_v205_apply (F := Ideal) x0 x1 (ix3 s b m)).trans (val_main_v204_apply (F := Ideal) x0 x1 _)).trans ?_
  refine (congrArg (val_main_v6 (F := Ideal) x0 x1) (a₂ := ix4 s (⟨11, by omega⟩ : Fin 16) b (⟨1024 + m.val, by omega⟩ : Fin 2048)) (funext fun a => Fin.ext ?_)).trans ?_
  · match a with
    | ⟨0, _⟩ => show ((s.val * 8 + b.val) * 1024 + m.val) / 8192 = s.val; omega
    | ⟨1, _⟩ => rfl
    | ⟨2, _⟩ => show ((s.val * 8 + b.val) * 1024 + m.val) / 1024 % 8 = b.val; omega
    | ⟨3, _⟩ => show 1024 + ((s.val * 8 + b.val) * 1024 + m.val) % 1024 = 1024 + m.val; omega
  · refine (bu_at x0 x1 s b _ _).trans ?_
    unfold feed
    rw [dif_pos (by omega)]

theorem bu_re_12 (s b : Fin 8) (m : Fin 1024) :
    val_main_v213 (F := Ideal) x0 x1 (ix3 s b m) = (feed x0 x1 s b m 12).1 := by
  have hs := s.isLt; have hb := b.isLt; have hm := m.isLt
  refine ((val_main_v213_apply (F := Ideal) x0 x1 (ix3 s b m)).trans (val_main_v212_apply (F := Ideal) x0 x1 _)).trans ?_
  refine (congrArg (val_main_v6 (F := Ideal) x0 x1) (a₂ := ix4 s (⟨12, by omega⟩ : Fin 16) b (⟨m.val, by omega⟩ : Fin 2048)) (funext fun a => Fin.ext ?_)).trans ?_
  · match a with
    | ⟨0, _⟩ => show ((s.val * 8 + b.val) * 1024 + m.val) / 8192 = s.val; omega
    | ⟨1, _⟩ => rfl
    | ⟨2, _⟩ => show ((s.val * 8 + b.val) * 1024 + m.val) / 1024 % 8 = b.val; omega
    | ⟨3, _⟩ => show ((s.val * 8 + b.val) * 1024 + m.val) % 1024 = m.val; omega
  · refine (bu_at x0 x1 s b _ _).trans ?_
    unfold feed
    rw [dif_pos (by omega)]

theorem bu_im_12 (s b : Fin 8) (m : Fin 1024) :
    val_main_v221 (F := Ideal) x0 x1 (ix3 s b m) = (feed x0 x1 s b m 12).2 := by
  have hs := s.isLt; have hb := b.isLt; have hm := m.isLt
  refine ((val_main_v221_apply (F := Ideal) x0 x1 (ix3 s b m)).trans (val_main_v220_apply (F := Ideal) x0 x1 _)).trans ?_
  refine (congrArg (val_main_v6 (F := Ideal) x0 x1) (a₂ := ix4 s (⟨12, by omega⟩ : Fin 16) b (⟨1024 + m.val, by omega⟩ : Fin 2048)) (funext fun a => Fin.ext ?_)).trans ?_
  · match a with
    | ⟨0, _⟩ => show ((s.val * 8 + b.val) * 1024 + m.val) / 8192 = s.val; omega
    | ⟨1, _⟩ => rfl
    | ⟨2, _⟩ => show ((s.val * 8 + b.val) * 1024 + m.val) / 1024 % 8 = b.val; omega
    | ⟨3, _⟩ => show 1024 + ((s.val * 8 + b.val) * 1024 + m.val) % 1024 = 1024 + m.val; omega
  · refine (bu_at x0 x1 s b _ _).trans ?_
    unfold feed
    rw [dif_pos (by omega)]

theorem bu_re_13 (s b : Fin 8) (m : Fin 1024) :
    val_main_v229 (F := Ideal) x0 x1 (ix3 s b m) = (feed x0 x1 s b m 13).1 := by
  have hs := s.isLt; have hb := b.isLt; have hm := m.isLt
  refine ((val_main_v229_apply (F := Ideal) x0 x1 (ix3 s b m)).trans (val_main_v228_apply (F := Ideal) x0 x1 _)).trans ?_
  refine (congrArg (val_main_v6 (F := Ideal) x0 x1) (a₂ := ix4 s (⟨13, by omega⟩ : Fin 16) b (⟨m.val, by omega⟩ : Fin 2048)) (funext fun a => Fin.ext ?_)).trans ?_
  · match a with
    | ⟨0, _⟩ => show ((s.val * 8 + b.val) * 1024 + m.val) / 8192 = s.val; omega
    | ⟨1, _⟩ => rfl
    | ⟨2, _⟩ => show ((s.val * 8 + b.val) * 1024 + m.val) / 1024 % 8 = b.val; omega
    | ⟨3, _⟩ => show ((s.val * 8 + b.val) * 1024 + m.val) % 1024 = m.val; omega
  · refine (bu_at x0 x1 s b _ _).trans ?_
    unfold feed
    rw [dif_pos (by omega)]

theorem bu_im_13 (s b : Fin 8) (m : Fin 1024) :
    val_main_v237 (F := Ideal) x0 x1 (ix3 s b m) = (feed x0 x1 s b m 13).2 := by
  have hs := s.isLt; have hb := b.isLt; have hm := m.isLt
  refine ((val_main_v237_apply (F := Ideal) x0 x1 (ix3 s b m)).trans (val_main_v236_apply (F := Ideal) x0 x1 _)).trans ?_
  refine (congrArg (val_main_v6 (F := Ideal) x0 x1) (a₂ := ix4 s (⟨13, by omega⟩ : Fin 16) b (⟨1024 + m.val, by omega⟩ : Fin 2048)) (funext fun a => Fin.ext ?_)).trans ?_
  · match a with
    | ⟨0, _⟩ => show ((s.val * 8 + b.val) * 1024 + m.val) / 8192 = s.val; omega
    | ⟨1, _⟩ => rfl
    | ⟨2, _⟩ => show ((s.val * 8 + b.val) * 1024 + m.val) / 1024 % 8 = b.val; omega
    | ⟨3, _⟩ => show 1024 + ((s.val * 8 + b.val) * 1024 + m.val) % 1024 = 1024 + m.val; omega
  · refine (bu_at x0 x1 s b _ _).trans ?_
    unfold feed
    rw [dif_pos (by omega)]

theorem bu_re_14 (s b : Fin 8) (m : Fin 1024) :
    val_main_v245 (F := Ideal) x0 x1 (ix3 s b m) = (feed x0 x1 s b m 14).1 := by
  have hs := s.isLt; have hb := b.isLt; have hm := m.isLt
  refine ((val_main_v245_apply (F := Ideal) x0 x1 (ix3 s b m)).trans (val_main_v244_apply (F := Ideal) x0 x1 _)).trans ?_
  refine (congrArg (val_main_v6 (F := Ideal) x0 x1) (a₂ := ix4 s (⟨14, by omega⟩ : Fin 16) b (⟨m.val, by omega⟩ : Fin 2048)) (funext fun a => Fin.ext ?_)).trans ?_
  · match a with
    | ⟨0, _⟩ => show ((s.val * 8 + b.val) * 1024 + m.val) / 8192 = s.val; omega
    | ⟨1, _⟩ => rfl
    | ⟨2, _⟩ => show ((s.val * 8 + b.val) * 1024 + m.val) / 1024 % 8 = b.val; omega
    | ⟨3, _⟩ => show ((s.val * 8 + b.val) * 1024 + m.val) % 1024 = m.val; omega
  · refine (bu_at x0 x1 s b _ _).trans ?_
    unfold feed
    rw [dif_pos (by omega)]

theorem bu_im_14 (s b : Fin 8) (m : Fin 1024) :
    val_main_v253 (F := Ideal) x0 x1 (ix3 s b m) = (feed x0 x1 s b m 14).2 := by
  have hs := s.isLt; have hb := b.isLt; have hm := m.isLt
  refine ((val_main_v253_apply (F := Ideal) x0 x1 (ix3 s b m)).trans (val_main_v252_apply (F := Ideal) x0 x1 _)).trans ?_
  refine (congrArg (val_main_v6 (F := Ideal) x0 x1) (a₂ := ix4 s (⟨14, by omega⟩ : Fin 16) b (⟨1024 + m.val, by omega⟩ : Fin 2048)) (funext fun a => Fin.ext ?_)).trans ?_
  · match a with
    | ⟨0, _⟩ => show ((s.val * 8 + b.val) * 1024 + m.val) / 8192 = s.val; omega
    | ⟨1, _⟩ => rfl
    | ⟨2, _⟩ => show ((s.val * 8 + b.val) * 1024 + m.val) / 1024 % 8 = b.val; omega
    | ⟨3, _⟩ => show 1024 + ((s.val * 8 + b.val) * 1024 + m.val) % 1024 = 1024 + m.val; omega
  · refine (bu_at x0 x1 s b _ _).trans ?_
    unfold feed
    rw [dif_pos (by omega)]

theorem bu_re_15 (s b : Fin 8) (m : Fin 1024) :
    val_main_v261 (F := Ideal) x0 x1 (ix3 s b m) = (feed x0 x1 s b m 15).1 := by
  have hs := s.isLt; have hb := b.isLt; have hm := m.isLt
  refine ((val_main_v261_apply (F := Ideal) x0 x1 (ix3 s b m)).trans (val_main_v260_apply (F := Ideal) x0 x1 _)).trans ?_
  refine (congrArg (val_main_v6 (F := Ideal) x0 x1) (a₂ := ix4 s (⟨15, by omega⟩ : Fin 16) b (⟨m.val, by omega⟩ : Fin 2048)) (funext fun a => Fin.ext ?_)).trans ?_
  · match a with
    | ⟨0, _⟩ => show ((s.val * 8 + b.val) * 1024 + m.val) / 8192 = s.val; omega
    | ⟨1, _⟩ => rfl
    | ⟨2, _⟩ => show ((s.val * 8 + b.val) * 1024 + m.val) / 1024 % 8 = b.val; omega
    | ⟨3, _⟩ => show ((s.val * 8 + b.val) * 1024 + m.val) % 1024 = m.val; omega
  · refine (bu_at x0 x1 s b _ _).trans ?_
    unfold feed
    rw [dif_pos (by omega)]

theorem bu_im_15 (s b : Fin 8) (m : Fin 1024) :
    val_main_v269 (F := Ideal) x0 x1 (ix3 s b m) = (feed x0 x1 s b m 15).2 := by
  have hs := s.isLt; have hb := b.isLt; have hm := m.isLt
  refine ((val_main_v269_apply (F := Ideal) x0 x1 (ix3 s b m)).trans (val_main_v268_apply (F := Ideal) x0 x1 _)).trans ?_
  refine (congrArg (val_main_v6 (F := Ideal) x0 x1) (a₂ := ix4 s (⟨15, by omega⟩ : Fin 16) b (⟨1024 + m.val, by omega⟩ : Fin 2048)) (funext fun a => Fin.ext ?_)).trans ?_
  · match a with
    | ⟨0, _⟩ => show ((s.val * 8 + b.val) * 1024 + m.val) / 8192 = s.val; omega
    | ⟨1, _⟩ => rfl
    | ⟨2, _⟩ => show ((s.val * 8 + b.val) * 1024 + m.val) / 1024 % 8 = b.val; omega
    | ⟨3, _⟩ => show 1024 + ((s.val * 8 + b.val) * 1024 + m.val) % 1024 = 1024 + m.val; omega
  · refine (bu_at x0 x1 s b _ _).trans ?_
    unfold feed
    rw [dif_pos (by omega)]

theorem h0_re (s b : Fin 8) (m : Fin 1024) :
    val_main_v13 (F := Ideal) x8 (ix3 s b m) = x8 (ix3 s b (⟨m.val, by omega⟩ : Fin 2048)) := by
  rw [val_main_v13_apply]
  refine congrArg x8 (funext fun a => Fin.ext ?_)
  match a with
  | ⟨0, _⟩ => rfl
  | ⟨1, _⟩ => rfl
  | ⟨2, _⟩ => rfl

theorem h0_im (s b : Fin 8) (m : Fin 1024) :
    val_main_v14 (F := Ideal) x8 (ix3 s b m) = x8 (ix3 s b (⟨1024 + m.val, by omega⟩ : Fin 2048)) := by
  rw [val_main_v14_apply]
  refine congrArg x8 (funext fun a => Fin.ext ?_)
  match a with
  | ⟨0, _⟩ => rfl
  | ⟨1, _⟩ => rfl
  | ⟨2, _⟩ => rfl

/-- Step 1. -/
theorem step_0 (s b : Fin 8) (m : Fin 1024) :
    ((val_main_v22 (F := Ideal) x0 x1 x3 x4 x8 (ix3 s b m), val_main_v30 (F := Ideal) x0 x1 x3 x4 x8 (ix3 s b m)) : EReal × EReal)
      = step (x3 (ix3 (0 : Fin 4) (0 : Fin 1) (⟨1024 * s.val + m.val, by omega⟩ : Fin 8192)), x4 (ix3 (0 : Fin 4) (0 : Fin 1) (⟨1024 * s.val + m.val, by omega⟩ : Fin 8192))) (feed x0 x1 s b m 0) (val_main_v13 (F := Ideal) x8 (ix3 s b m), val_main_v14 (F := Ideal) x8 (ix3 s b m)) := by
  have e0 : val_main_v15 (F := Ideal) x3 (ix3 s b m) = x3 (ix3 (0 : Fin 4) (0 : Fin 1) (⟨1024 * s.val + m.val, by omega⟩ : Fin 8192)) := (val_main_v15_apply (F := Ideal) x3 _).trans (lr_at x3 s m)
  have e1 : val_main_v17 (F := Ideal) x4 (ix3 s b m) = x4 (ix3 (0 : Fin 4) (0 : Fin 1) (⟨1024 * s.val + m.val, by omega⟩ : Fin 8192)) := (val_main_v17_apply (F := Ideal) x4 _).trans (li_at x4 s m)
  have e2 : val_main_v23 (F := Ideal) x3 (ix3 s b m) = x3 (ix3 (0 : Fin 4) (0 : Fin 1) (⟨1024 * s.val + m.val, by omega⟩ : Fin 8192)) := (val_main_v23_apply (F := Ideal) x3 _).trans (lr_at x3 s m)
  have e3 : val_main_v25 (F := Ideal) x4 (ix3 s b m) = x4 (ix3 (0 : Fin 4) (0 : Fin 1) (⟨1024 * s.val + m.val, by omega⟩ : Fin 8192)) := (val_main_v25_apply (F := Ideal) x4 _).trans (li_at x4 s m)
  refine Prod.ext ?_ ?_
  · show val_main_v22 (F := Ideal) x0 x1 x3 x4 x8 (ix3 s b m) = _
    rw [val_main_v22_apply, val_main_v19_apply, val_main_v16_apply, val_main_v18_apply, e0, e1, bu_re_0]
    rfl
  · show val_main_v30 (F := Ideal) x0 x1 x3 x4 x8 (ix3 s b m) = _
    rw [val_main_v30_apply, val_main_v27_apply, val_main_v24_apply, val_main_v26_apply, e2, e3, bu_im_0]
    rfl

/-- Step 2. -/
theorem step_1 (s b : Fin 8) (m : Fin 1024) :
    ((val_main_v38 (F := Ideal) x0 x1 x3 x4 x8 (ix3 s b m), val_main_v46 (F := Ideal) x0 x1 x3 x4 x8 (ix3 s b m)) : EReal × EReal)
      = step (x3 (ix3 (0 : Fin 4) (0 : Fin 1) (⟨1024 * s.val + m.val, by omega⟩ : Fin 8192)), x4 (ix3 (0 : Fin 4) (0 : Fin 1) (⟨1024 * s.val + m.val, by omega⟩ : Fin 8192))) (feed x0 x1 s b m 1) (val_main_v22 (F := Ideal) x0 x1 x3 x4 x8 (ix3 s b m), val_main_v30 (F := Ideal) x0 x1 x3 x4 x8 (ix3 s b m)) := by
  have e0 : val_main_v31 (F := Ideal) x3 (ix3 s b m) = x3 (ix3 (0 : Fin 4) (0 : Fin 1) (⟨1024 * s.val + m.val, by omega⟩ : Fin 8192)) := (val_main_v31_apply (F := Ideal) x3 _).trans (lr_at x3 s m)
  have e1 : val_main_v33 (F := Ideal) x4 (ix3 s b m) = x4 (ix3 (0 : Fin 4) (0 : Fin 1) (⟨1024 * s.val + m.val, by omega⟩ : Fin 8192)) := (val_main_v33_apply (F := Ideal) x4 _).trans (li_at x4 s m)
  have e2 : val_main_v39 (F := Ideal) x3 (ix3 s b m) = x3 (ix3 (0 : Fin 4) (0 : Fin 1) (⟨1024 * s.val + m.val, by omega⟩ : Fin 8192)) := (val_main_v39_apply (F := Ideal) x3 _).trans (lr_at x3 s m)
  have e3 : val_main_v41 (F := Ideal) x4 (ix3 s b m) = x4 (ix3 (0 : Fin 4) (0 : Fin 1) (⟨1024 * s.val + m.val, by omega⟩ : Fin 8192)) := (val_main_v41_apply (F := Ideal) x4 _).trans (li_at x4 s m)
  refine Prod.ext ?_ ?_
  · show val_main_v38 (F := Ideal) x0 x1 x3 x4 x8 (ix3 s b m) = _
    rw [val_main_v38_apply, val_main_v35_apply, val_main_v32_apply, val_main_v34_apply, e0, e1, bu_re_1]
    rfl
  · show val_main_v46 (F := Ideal) x0 x1 x3 x4 x8 (ix3 s b m) = _
    rw [val_main_v46_apply, val_main_v43_apply, val_main_v40_apply, val_main_v42_apply, e2, e3, bu_im_1]
    rfl

/-- Step 3. -/
theorem step_2 (s b : Fin 8) (m : Fin 1024) :
    ((val_main_v54 (F := Ideal) x0 x1 x3 x4 x8 (ix3 s b m), val_main_v62 (F := Ideal) x0 x1 x3 x4 x8 (ix3 s b m)) : EReal × EReal)
      = step (x3 (ix3 (0 : Fin 4) (0 : Fin 1) (⟨1024 * s.val + m.val, by omega⟩ : Fin 8192)), x4 (ix3 (0 : Fin 4) (0 : Fin 1) (⟨1024 * s.val + m.val, by omega⟩ : Fin 8192))) (feed x0 x1 s b m 2) (val_main_v38 (F := Ideal) x0 x1 x3 x4 x8 (ix3 s b m), val_main_v46 (F := Ideal) x0 x1 x3 x4 x8 (ix3 s b m)) := by
  have e0 : val_main_v47 (F := Ideal) x3 (ix3 s b m) = x3 (ix3 (0 : Fin 4) (0 : Fin 1) (⟨1024 * s.val + m.val, by omega⟩ : Fin 8192)) := (val_main_v47_apply (F := Ideal) x3 _).trans (lr_at x3 s m)
  have e1 : val_main_v49 (F := Ideal) x4 (ix3 s b m) = x4 (ix3 (0 : Fin 4) (0 : Fin 1) (⟨1024 * s.val + m.val, by omega⟩ : Fin 8192)) := (val_main_v49_apply (F := Ideal) x4 _).trans (li_at x4 s m)
  have e2 : val_main_v55 (F := Ideal) x3 (ix3 s b m) = x3 (ix3 (0 : Fin 4) (0 : Fin 1) (⟨1024 * s.val + m.val, by omega⟩ : Fin 8192)) := (val_main_v55_apply (F := Ideal) x3 _).trans (lr_at x3 s m)
  have e3 : val_main_v57 (F := Ideal) x4 (ix3 s b m) = x4 (ix3 (0 : Fin 4) (0 : Fin 1) (⟨1024 * s.val + m.val, by omega⟩ : Fin 8192)) := (val_main_v57_apply (F := Ideal) x4 _).trans (li_at x4 s m)
  refine Prod.ext ?_ ?_
  · show val_main_v54 (F := Ideal) x0 x1 x3 x4 x8 (ix3 s b m) = _
    rw [val_main_v54_apply, val_main_v51_apply, val_main_v48_apply, val_main_v50_apply, e0, e1, bu_re_2]
    rfl
  · show val_main_v62 (F := Ideal) x0 x1 x3 x4 x8 (ix3 s b m) = _
    rw [val_main_v62_apply, val_main_v59_apply, val_main_v56_apply, val_main_v58_apply, e2, e3, bu_im_2]
    rfl

/-- Step 4. -/
theorem step_3 (s b : Fin 8) (m : Fin 1024) :
    ((val_main_v70 (F := Ideal) x0 x1 x3 x4 x8 (ix3 s b m), val_main_v78 (F := Ideal) x0 x1 x3 x4 x8 (ix3 s b m)) : EReal × EReal)
      = step (x3 (ix3 (0 : Fin 4) (0 : Fin 1) (⟨1024 * s.val + m.val, by omega⟩ : Fin 8192)), x4 (ix3 (0 : Fin 4) (0 : Fin 1) (⟨1024 * s.val + m.val, by omega⟩ : Fin 8192))) (feed x0 x1 s b m 3) (val_main_v54 (F := Ideal) x0 x1 x3 x4 x8 (ix3 s b m), val_main_v62 (F := Ideal) x0 x1 x3 x4 x8 (ix3 s b m)) := by
  have e0 : val_main_v63 (F := Ideal) x3 (ix3 s b m) = x3 (ix3 (0 : Fin 4) (0 : Fin 1) (⟨1024 * s.val + m.val, by omega⟩ : Fin 8192)) := (val_main_v63_apply (F := Ideal) x3 _).trans (lr_at x3 s m)
  have e1 : val_main_v65 (F := Ideal) x4 (ix3 s b m) = x4 (ix3 (0 : Fin 4) (0 : Fin 1) (⟨1024 * s.val + m.val, by omega⟩ : Fin 8192)) := (val_main_v65_apply (F := Ideal) x4 _).trans (li_at x4 s m)
  have e2 : val_main_v71 (F := Ideal) x3 (ix3 s b m) = x3 (ix3 (0 : Fin 4) (0 : Fin 1) (⟨1024 * s.val + m.val, by omega⟩ : Fin 8192)) := (val_main_v71_apply (F := Ideal) x3 _).trans (lr_at x3 s m)
  have e3 : val_main_v73 (F := Ideal) x4 (ix3 s b m) = x4 (ix3 (0 : Fin 4) (0 : Fin 1) (⟨1024 * s.val + m.val, by omega⟩ : Fin 8192)) := (val_main_v73_apply (F := Ideal) x4 _).trans (li_at x4 s m)
  refine Prod.ext ?_ ?_
  · show val_main_v70 (F := Ideal) x0 x1 x3 x4 x8 (ix3 s b m) = _
    rw [val_main_v70_apply, val_main_v67_apply, val_main_v64_apply, val_main_v66_apply, e0, e1, bu_re_3]
    rfl
  · show val_main_v78 (F := Ideal) x0 x1 x3 x4 x8 (ix3 s b m) = _
    rw [val_main_v78_apply, val_main_v75_apply, val_main_v72_apply, val_main_v74_apply, e2, e3, bu_im_3]
    rfl

/-- Step 5. -/
theorem step_4 (s b : Fin 8) (m : Fin 1024) :
    ((val_main_v86 (F := Ideal) x0 x1 x3 x4 x8 (ix3 s b m), val_main_v94 (F := Ideal) x0 x1 x3 x4 x8 (ix3 s b m)) : EReal × EReal)
      = step (x3 (ix3 (0 : Fin 4) (0 : Fin 1) (⟨1024 * s.val + m.val, by omega⟩ : Fin 8192)), x4 (ix3 (0 : Fin 4) (0 : Fin 1) (⟨1024 * s.val + m.val, by omega⟩ : Fin 8192))) (feed x0 x1 s b m 4) (val_main_v70 (F := Ideal) x0 x1 x3 x4 x8 (ix3 s b m), val_main_v78 (F := Ideal) x0 x1 x3 x4 x8 (ix3 s b m)) := by
  have e0 : val_main_v79 (F := Ideal) x3 (ix3 s b m) = x3 (ix3 (0 : Fin 4) (0 : Fin 1) (⟨1024 * s.val + m.val, by omega⟩ : Fin 8192)) := (val_main_v79_apply (F := Ideal) x3 _).trans (lr_at x3 s m)
  have e1 : val_main_v81 (F := Ideal) x4 (ix3 s b m) = x4 (ix3 (0 : Fin 4) (0 : Fin 1) (⟨1024 * s.val + m.val, by omega⟩ : Fin 8192)) := (val_main_v81_apply (F := Ideal) x4 _).trans (li_at x4 s m)
  have e2 : val_main_v87 (F := Ideal) x3 (ix3 s b m) = x3 (ix3 (0 : Fin 4) (0 : Fin 1) (⟨1024 * s.val + m.val, by omega⟩ : Fin 8192)) := (val_main_v87_apply (F := Ideal) x3 _).trans (lr_at x3 s m)
  have e3 : val_main_v89 (F := Ideal) x4 (ix3 s b m) = x4 (ix3 (0 : Fin 4) (0 : Fin 1) (⟨1024 * s.val + m.val, by omega⟩ : Fin 8192)) := (val_main_v89_apply (F := Ideal) x4 _).trans (li_at x4 s m)
  refine Prod.ext ?_ ?_
  · show val_main_v86 (F := Ideal) x0 x1 x3 x4 x8 (ix3 s b m) = _
    rw [val_main_v86_apply, val_main_v83_apply, val_main_v80_apply, val_main_v82_apply, e0, e1, bu_re_4]
    rfl
  · show val_main_v94 (F := Ideal) x0 x1 x3 x4 x8 (ix3 s b m) = _
    rw [val_main_v94_apply, val_main_v91_apply, val_main_v88_apply, val_main_v90_apply, e2, e3, bu_im_4]
    rfl

/-- Step 6. -/
theorem step_5 (s b : Fin 8) (m : Fin 1024) :
    ((val_main_v102 (F := Ideal) x0 x1 x3 x4 x8 (ix3 s b m), val_main_v110 (F := Ideal) x0 x1 x3 x4 x8 (ix3 s b m)) : EReal × EReal)
      = step (x3 (ix3 (0 : Fin 4) (0 : Fin 1) (⟨1024 * s.val + m.val, by omega⟩ : Fin 8192)), x4 (ix3 (0 : Fin 4) (0 : Fin 1) (⟨1024 * s.val + m.val, by omega⟩ : Fin 8192))) (feed x0 x1 s b m 5) (val_main_v86 (F := Ideal) x0 x1 x3 x4 x8 (ix3 s b m), val_main_v94 (F := Ideal) x0 x1 x3 x4 x8 (ix3 s b m)) := by
  have e0 : val_main_v95 (F := Ideal) x3 (ix3 s b m) = x3 (ix3 (0 : Fin 4) (0 : Fin 1) (⟨1024 * s.val + m.val, by omega⟩ : Fin 8192)) := (val_main_v95_apply (F := Ideal) x3 _).trans (lr_at x3 s m)
  have e1 : val_main_v97 (F := Ideal) x4 (ix3 s b m) = x4 (ix3 (0 : Fin 4) (0 : Fin 1) (⟨1024 * s.val + m.val, by omega⟩ : Fin 8192)) := (val_main_v97_apply (F := Ideal) x4 _).trans (li_at x4 s m)
  have e2 : val_main_v103 (F := Ideal) x3 (ix3 s b m) = x3 (ix3 (0 : Fin 4) (0 : Fin 1) (⟨1024 * s.val + m.val, by omega⟩ : Fin 8192)) := (val_main_v103_apply (F := Ideal) x3 _).trans (lr_at x3 s m)
  have e3 : val_main_v105 (F := Ideal) x4 (ix3 s b m) = x4 (ix3 (0 : Fin 4) (0 : Fin 1) (⟨1024 * s.val + m.val, by omega⟩ : Fin 8192)) := (val_main_v105_apply (F := Ideal) x4 _).trans (li_at x4 s m)
  refine Prod.ext ?_ ?_
  · show val_main_v102 (F := Ideal) x0 x1 x3 x4 x8 (ix3 s b m) = _
    rw [val_main_v102_apply, val_main_v99_apply, val_main_v96_apply, val_main_v98_apply, e0, e1, bu_re_5]
    rfl
  · show val_main_v110 (F := Ideal) x0 x1 x3 x4 x8 (ix3 s b m) = _
    rw [val_main_v110_apply, val_main_v107_apply, val_main_v104_apply, val_main_v106_apply, e2, e3, bu_im_5]
    rfl

/-- Step 7. -/
theorem step_6 (s b : Fin 8) (m : Fin 1024) :
    ((val_main_v118 (F := Ideal) x0 x1 x3 x4 x8 (ix3 s b m), val_main_v126 (F := Ideal) x0 x1 x3 x4 x8 (ix3 s b m)) : EReal × EReal)
      = step (x3 (ix3 (0 : Fin 4) (0 : Fin 1) (⟨1024 * s.val + m.val, by omega⟩ : Fin 8192)), x4 (ix3 (0 : Fin 4) (0 : Fin 1) (⟨1024 * s.val + m.val, by omega⟩ : Fin 8192))) (feed x0 x1 s b m 6) (val_main_v102 (F := Ideal) x0 x1 x3 x4 x8 (ix3 s b m), val_main_v110 (F := Ideal) x0 x1 x3 x4 x8 (ix3 s b m)) := by
  have e0 : val_main_v111 (F := Ideal) x3 (ix3 s b m) = x3 (ix3 (0 : Fin 4) (0 : Fin 1) (⟨1024 * s.val + m.val, by omega⟩ : Fin 8192)) := (val_main_v111_apply (F := Ideal) x3 _).trans (lr_at x3 s m)
  have e1 : val_main_v113 (F := Ideal) x4 (ix3 s b m) = x4 (ix3 (0 : Fin 4) (0 : Fin 1) (⟨1024 * s.val + m.val, by omega⟩ : Fin 8192)) := (val_main_v113_apply (F := Ideal) x4 _).trans (li_at x4 s m)
  have e2 : val_main_v119 (F := Ideal) x3 (ix3 s b m) = x3 (ix3 (0 : Fin 4) (0 : Fin 1) (⟨1024 * s.val + m.val, by omega⟩ : Fin 8192)) := (val_main_v119_apply (F := Ideal) x3 _).trans (lr_at x3 s m)
  have e3 : val_main_v121 (F := Ideal) x4 (ix3 s b m) = x4 (ix3 (0 : Fin 4) (0 : Fin 1) (⟨1024 * s.val + m.val, by omega⟩ : Fin 8192)) := (val_main_v121_apply (F := Ideal) x4 _).trans (li_at x4 s m)
  refine Prod.ext ?_ ?_
  · show val_main_v118 (F := Ideal) x0 x1 x3 x4 x8 (ix3 s b m) = _
    rw [val_main_v118_apply, val_main_v115_apply, val_main_v112_apply, val_main_v114_apply, e0, e1, bu_re_6]
    rfl
  · show val_main_v126 (F := Ideal) x0 x1 x3 x4 x8 (ix3 s b m) = _
    rw [val_main_v126_apply, val_main_v123_apply, val_main_v120_apply, val_main_v122_apply, e2, e3, bu_im_6]
    rfl

/-- Step 8. -/
theorem step_7 (s b : Fin 8) (m : Fin 1024) :
    ((val_main_v134 (F := Ideal) x0 x1 x3 x4 x8 (ix3 s b m), val_main_v142 (F := Ideal) x0 x1 x3 x4 x8 (ix3 s b m)) : EReal × EReal)
      = step (x3 (ix3 (0 : Fin 4) (0 : Fin 1) (⟨1024 * s.val + m.val, by omega⟩ : Fin 8192)), x4 (ix3 (0 : Fin 4) (0 : Fin 1) (⟨1024 * s.val + m.val, by omega⟩ : Fin 8192))) (feed x0 x1 s b m 7) (val_main_v118 (F := Ideal) x0 x1 x3 x4 x8 (ix3 s b m), val_main_v126 (F := Ideal) x0 x1 x3 x4 x8 (ix3 s b m)) := by
  have e0 : val_main_v127 (F := Ideal) x3 (ix3 s b m) = x3 (ix3 (0 : Fin 4) (0 : Fin 1) (⟨1024 * s.val + m.val, by omega⟩ : Fin 8192)) := (val_main_v127_apply (F := Ideal) x3 _).trans (lr_at x3 s m)
  have e1 : val_main_v129 (F := Ideal) x4 (ix3 s b m) = x4 (ix3 (0 : Fin 4) (0 : Fin 1) (⟨1024 * s.val + m.val, by omega⟩ : Fin 8192)) := (val_main_v129_apply (F := Ideal) x4 _).trans (li_at x4 s m)
  have e2 : val_main_v135 (F := Ideal) x3 (ix3 s b m) = x3 (ix3 (0 : Fin 4) (0 : Fin 1) (⟨1024 * s.val + m.val, by omega⟩ : Fin 8192)) := (val_main_v135_apply (F := Ideal) x3 _).trans (lr_at x3 s m)
  have e3 : val_main_v137 (F := Ideal) x4 (ix3 s b m) = x4 (ix3 (0 : Fin 4) (0 : Fin 1) (⟨1024 * s.val + m.val, by omega⟩ : Fin 8192)) := (val_main_v137_apply (F := Ideal) x4 _).trans (li_at x4 s m)
  refine Prod.ext ?_ ?_
  · show val_main_v134 (F := Ideal) x0 x1 x3 x4 x8 (ix3 s b m) = _
    rw [val_main_v134_apply, val_main_v131_apply, val_main_v128_apply, val_main_v130_apply, e0, e1, bu_re_7]
    rfl
  · show val_main_v142 (F := Ideal) x0 x1 x3 x4 x8 (ix3 s b m) = _
    rw [val_main_v142_apply, val_main_v139_apply, val_main_v136_apply, val_main_v138_apply, e2, e3, bu_im_7]
    rfl

/-- Step 9. -/
theorem step_8 (s b : Fin 8) (m : Fin 1024) :
    ((val_main_v150 (F := Ideal) x0 x1 x3 x4 x8 (ix3 s b m), val_main_v158 (F := Ideal) x0 x1 x3 x4 x8 (ix3 s b m)) : EReal × EReal)
      = step (x3 (ix3 (0 : Fin 4) (0 : Fin 1) (⟨1024 * s.val + m.val, by omega⟩ : Fin 8192)), x4 (ix3 (0 : Fin 4) (0 : Fin 1) (⟨1024 * s.val + m.val, by omega⟩ : Fin 8192))) (feed x0 x1 s b m 8) (val_main_v134 (F := Ideal) x0 x1 x3 x4 x8 (ix3 s b m), val_main_v142 (F := Ideal) x0 x1 x3 x4 x8 (ix3 s b m)) := by
  have e0 : val_main_v143 (F := Ideal) x3 (ix3 s b m) = x3 (ix3 (0 : Fin 4) (0 : Fin 1) (⟨1024 * s.val + m.val, by omega⟩ : Fin 8192)) := (val_main_v143_apply (F := Ideal) x3 _).trans (lr_at x3 s m)
  have e1 : val_main_v145 (F := Ideal) x4 (ix3 s b m) = x4 (ix3 (0 : Fin 4) (0 : Fin 1) (⟨1024 * s.val + m.val, by omega⟩ : Fin 8192)) := (val_main_v145_apply (F := Ideal) x4 _).trans (li_at x4 s m)
  have e2 : val_main_v151 (F := Ideal) x3 (ix3 s b m) = x3 (ix3 (0 : Fin 4) (0 : Fin 1) (⟨1024 * s.val + m.val, by omega⟩ : Fin 8192)) := (val_main_v151_apply (F := Ideal) x3 _).trans (lr_at x3 s m)
  have e3 : val_main_v153 (F := Ideal) x4 (ix3 s b m) = x4 (ix3 (0 : Fin 4) (0 : Fin 1) (⟨1024 * s.val + m.val, by omega⟩ : Fin 8192)) := (val_main_v153_apply (F := Ideal) x4 _).trans (li_at x4 s m)
  refine Prod.ext ?_ ?_
  · show val_main_v150 (F := Ideal) x0 x1 x3 x4 x8 (ix3 s b m) = _
    rw [val_main_v150_apply, val_main_v147_apply, val_main_v144_apply, val_main_v146_apply, e0, e1, bu_re_8]
    rfl
  · show val_main_v158 (F := Ideal) x0 x1 x3 x4 x8 (ix3 s b m) = _
    rw [val_main_v158_apply, val_main_v155_apply, val_main_v152_apply, val_main_v154_apply, e2, e3, bu_im_8]
    rfl

/-- Step 10. -/
theorem step_9 (s b : Fin 8) (m : Fin 1024) :
    ((val_main_v166 (F := Ideal) x0 x1 x3 x4 x8 (ix3 s b m), val_main_v174 (F := Ideal) x0 x1 x3 x4 x8 (ix3 s b m)) : EReal × EReal)
      = step (x3 (ix3 (0 : Fin 4) (0 : Fin 1) (⟨1024 * s.val + m.val, by omega⟩ : Fin 8192)), x4 (ix3 (0 : Fin 4) (0 : Fin 1) (⟨1024 * s.val + m.val, by omega⟩ : Fin 8192))) (feed x0 x1 s b m 9) (val_main_v150 (F := Ideal) x0 x1 x3 x4 x8 (ix3 s b m), val_main_v158 (F := Ideal) x0 x1 x3 x4 x8 (ix3 s b m)) := by
  have e0 : val_main_v159 (F := Ideal) x3 (ix3 s b m) = x3 (ix3 (0 : Fin 4) (0 : Fin 1) (⟨1024 * s.val + m.val, by omega⟩ : Fin 8192)) := (val_main_v159_apply (F := Ideal) x3 _).trans (lr_at x3 s m)
  have e1 : val_main_v161 (F := Ideal) x4 (ix3 s b m) = x4 (ix3 (0 : Fin 4) (0 : Fin 1) (⟨1024 * s.val + m.val, by omega⟩ : Fin 8192)) := (val_main_v161_apply (F := Ideal) x4 _).trans (li_at x4 s m)
  have e2 : val_main_v167 (F := Ideal) x3 (ix3 s b m) = x3 (ix3 (0 : Fin 4) (0 : Fin 1) (⟨1024 * s.val + m.val, by omega⟩ : Fin 8192)) := (val_main_v167_apply (F := Ideal) x3 _).trans (lr_at x3 s m)
  have e3 : val_main_v169 (F := Ideal) x4 (ix3 s b m) = x4 (ix3 (0 : Fin 4) (0 : Fin 1) (⟨1024 * s.val + m.val, by omega⟩ : Fin 8192)) := (val_main_v169_apply (F := Ideal) x4 _).trans (li_at x4 s m)
  refine Prod.ext ?_ ?_
  · show val_main_v166 (F := Ideal) x0 x1 x3 x4 x8 (ix3 s b m) = _
    rw [val_main_v166_apply, val_main_v163_apply, val_main_v160_apply, val_main_v162_apply, e0, e1, bu_re_9]
    rfl
  · show val_main_v174 (F := Ideal) x0 x1 x3 x4 x8 (ix3 s b m) = _
    rw [val_main_v174_apply, val_main_v171_apply, val_main_v168_apply, val_main_v170_apply, e2, e3, bu_im_9]
    rfl

/-- Step 11. -/
theorem step_10 (s b : Fin 8) (m : Fin 1024) :
    ((val_main_v182 (F := Ideal) x0 x1 x3 x4 x8 (ix3 s b m), val_main_v190 (F := Ideal) x0 x1 x3 x4 x8 (ix3 s b m)) : EReal × EReal)
      = step (x3 (ix3 (0 : Fin 4) (0 : Fin 1) (⟨1024 * s.val + m.val, by omega⟩ : Fin 8192)), x4 (ix3 (0 : Fin 4) (0 : Fin 1) (⟨1024 * s.val + m.val, by omega⟩ : Fin 8192))) (feed x0 x1 s b m 10) (val_main_v166 (F := Ideal) x0 x1 x3 x4 x8 (ix3 s b m), val_main_v174 (F := Ideal) x0 x1 x3 x4 x8 (ix3 s b m)) := by
  have e0 : val_main_v175 (F := Ideal) x3 (ix3 s b m) = x3 (ix3 (0 : Fin 4) (0 : Fin 1) (⟨1024 * s.val + m.val, by omega⟩ : Fin 8192)) := (val_main_v175_apply (F := Ideal) x3 _).trans (lr_at x3 s m)
  have e1 : val_main_v177 (F := Ideal) x4 (ix3 s b m) = x4 (ix3 (0 : Fin 4) (0 : Fin 1) (⟨1024 * s.val + m.val, by omega⟩ : Fin 8192)) := (val_main_v177_apply (F := Ideal) x4 _).trans (li_at x4 s m)
  have e2 : val_main_v183 (F := Ideal) x3 (ix3 s b m) = x3 (ix3 (0 : Fin 4) (0 : Fin 1) (⟨1024 * s.val + m.val, by omega⟩ : Fin 8192)) := (val_main_v183_apply (F := Ideal) x3 _).trans (lr_at x3 s m)
  have e3 : val_main_v185 (F := Ideal) x4 (ix3 s b m) = x4 (ix3 (0 : Fin 4) (0 : Fin 1) (⟨1024 * s.val + m.val, by omega⟩ : Fin 8192)) := (val_main_v185_apply (F := Ideal) x4 _).trans (li_at x4 s m)
  refine Prod.ext ?_ ?_
  · show val_main_v182 (F := Ideal) x0 x1 x3 x4 x8 (ix3 s b m) = _
    rw [val_main_v182_apply, val_main_v179_apply, val_main_v176_apply, val_main_v178_apply, e0, e1, bu_re_10]
    rfl
  · show val_main_v190 (F := Ideal) x0 x1 x3 x4 x8 (ix3 s b m) = _
    rw [val_main_v190_apply, val_main_v187_apply, val_main_v184_apply, val_main_v186_apply, e2, e3, bu_im_10]
    rfl

/-- Step 12. -/
theorem step_11 (s b : Fin 8) (m : Fin 1024) :
    ((val_main_v198 (F := Ideal) x0 x1 x3 x4 x8 (ix3 s b m), val_main_v206 (F := Ideal) x0 x1 x3 x4 x8 (ix3 s b m)) : EReal × EReal)
      = step (x3 (ix3 (0 : Fin 4) (0 : Fin 1) (⟨1024 * s.val + m.val, by omega⟩ : Fin 8192)), x4 (ix3 (0 : Fin 4) (0 : Fin 1) (⟨1024 * s.val + m.val, by omega⟩ : Fin 8192))) (feed x0 x1 s b m 11) (val_main_v182 (F := Ideal) x0 x1 x3 x4 x8 (ix3 s b m), val_main_v190 (F := Ideal) x0 x1 x3 x4 x8 (ix3 s b m)) := by
  have e0 : val_main_v191 (F := Ideal) x3 (ix3 s b m) = x3 (ix3 (0 : Fin 4) (0 : Fin 1) (⟨1024 * s.val + m.val, by omega⟩ : Fin 8192)) := (val_main_v191_apply (F := Ideal) x3 _).trans (lr_at x3 s m)
  have e1 : val_main_v193 (F := Ideal) x4 (ix3 s b m) = x4 (ix3 (0 : Fin 4) (0 : Fin 1) (⟨1024 * s.val + m.val, by omega⟩ : Fin 8192)) := (val_main_v193_apply (F := Ideal) x4 _).trans (li_at x4 s m)
  have e2 : val_main_v199 (F := Ideal) x3 (ix3 s b m) = x3 (ix3 (0 : Fin 4) (0 : Fin 1) (⟨1024 * s.val + m.val, by omega⟩ : Fin 8192)) := (val_main_v199_apply (F := Ideal) x3 _).trans (lr_at x3 s m)
  have e3 : val_main_v201 (F := Ideal) x4 (ix3 s b m) = x4 (ix3 (0 : Fin 4) (0 : Fin 1) (⟨1024 * s.val + m.val, by omega⟩ : Fin 8192)) := (val_main_v201_apply (F := Ideal) x4 _).trans (li_at x4 s m)
  refine Prod.ext ?_ ?_
  · show val_main_v198 (F := Ideal) x0 x1 x3 x4 x8 (ix3 s b m) = _
    rw [val_main_v198_apply, val_main_v195_apply, val_main_v192_apply, val_main_v194_apply, e0, e1, bu_re_11]
    rfl
  · show val_main_v206 (F := Ideal) x0 x1 x3 x4 x8 (ix3 s b m) = _
    rw [val_main_v206_apply, val_main_v203_apply, val_main_v200_apply, val_main_v202_apply, e2, e3, bu_im_11]
    rfl

/-- Step 13. -/
theorem step_12 (s b : Fin 8) (m : Fin 1024) :
    ((val_main_v214 (F := Ideal) x0 x1 x3 x4 x8 (ix3 s b m), val_main_v222 (F := Ideal) x0 x1 x3 x4 x8 (ix3 s b m)) : EReal × EReal)
      = step (x3 (ix3 (0 : Fin 4) (0 : Fin 1) (⟨1024 * s.val + m.val, by omega⟩ : Fin 8192)), x4 (ix3 (0 : Fin 4) (0 : Fin 1) (⟨1024 * s.val + m.val, by omega⟩ : Fin 8192))) (feed x0 x1 s b m 12) (val_main_v198 (F := Ideal) x0 x1 x3 x4 x8 (ix3 s b m), val_main_v206 (F := Ideal) x0 x1 x3 x4 x8 (ix3 s b m)) := by
  have e0 : val_main_v207 (F := Ideal) x3 (ix3 s b m) = x3 (ix3 (0 : Fin 4) (0 : Fin 1) (⟨1024 * s.val + m.val, by omega⟩ : Fin 8192)) := (val_main_v207_apply (F := Ideal) x3 _).trans (lr_at x3 s m)
  have e1 : val_main_v209 (F := Ideal) x4 (ix3 s b m) = x4 (ix3 (0 : Fin 4) (0 : Fin 1) (⟨1024 * s.val + m.val, by omega⟩ : Fin 8192)) := (val_main_v209_apply (F := Ideal) x4 _).trans (li_at x4 s m)
  have e2 : val_main_v215 (F := Ideal) x3 (ix3 s b m) = x3 (ix3 (0 : Fin 4) (0 : Fin 1) (⟨1024 * s.val + m.val, by omega⟩ : Fin 8192)) := (val_main_v215_apply (F := Ideal) x3 _).trans (lr_at x3 s m)
  have e3 : val_main_v217 (F := Ideal) x4 (ix3 s b m) = x4 (ix3 (0 : Fin 4) (0 : Fin 1) (⟨1024 * s.val + m.val, by omega⟩ : Fin 8192)) := (val_main_v217_apply (F := Ideal) x4 _).trans (li_at x4 s m)
  refine Prod.ext ?_ ?_
  · show val_main_v214 (F := Ideal) x0 x1 x3 x4 x8 (ix3 s b m) = _
    rw [val_main_v214_apply, val_main_v211_apply, val_main_v208_apply, val_main_v210_apply, e0, e1, bu_re_12]
    rfl
  · show val_main_v222 (F := Ideal) x0 x1 x3 x4 x8 (ix3 s b m) = _
    rw [val_main_v222_apply, val_main_v219_apply, val_main_v216_apply, val_main_v218_apply, e2, e3, bu_im_12]
    rfl

/-- Step 14. -/
theorem step_13 (s b : Fin 8) (m : Fin 1024) :
    ((val_main_v230 (F := Ideal) x0 x1 x3 x4 x8 (ix3 s b m), val_main_v238 (F := Ideal) x0 x1 x3 x4 x8 (ix3 s b m)) : EReal × EReal)
      = step (x3 (ix3 (0 : Fin 4) (0 : Fin 1) (⟨1024 * s.val + m.val, by omega⟩ : Fin 8192)), x4 (ix3 (0 : Fin 4) (0 : Fin 1) (⟨1024 * s.val + m.val, by omega⟩ : Fin 8192))) (feed x0 x1 s b m 13) (val_main_v214 (F := Ideal) x0 x1 x3 x4 x8 (ix3 s b m), val_main_v222 (F := Ideal) x0 x1 x3 x4 x8 (ix3 s b m)) := by
  have e0 : val_main_v223 (F := Ideal) x3 (ix3 s b m) = x3 (ix3 (0 : Fin 4) (0 : Fin 1) (⟨1024 * s.val + m.val, by omega⟩ : Fin 8192)) := (val_main_v223_apply (F := Ideal) x3 _).trans (lr_at x3 s m)
  have e1 : val_main_v225 (F := Ideal) x4 (ix3 s b m) = x4 (ix3 (0 : Fin 4) (0 : Fin 1) (⟨1024 * s.val + m.val, by omega⟩ : Fin 8192)) := (val_main_v225_apply (F := Ideal) x4 _).trans (li_at x4 s m)
  have e2 : val_main_v231 (F := Ideal) x3 (ix3 s b m) = x3 (ix3 (0 : Fin 4) (0 : Fin 1) (⟨1024 * s.val + m.val, by omega⟩ : Fin 8192)) := (val_main_v231_apply (F := Ideal) x3 _).trans (lr_at x3 s m)
  have e3 : val_main_v233 (F := Ideal) x4 (ix3 s b m) = x4 (ix3 (0 : Fin 4) (0 : Fin 1) (⟨1024 * s.val + m.val, by omega⟩ : Fin 8192)) := (val_main_v233_apply (F := Ideal) x4 _).trans (li_at x4 s m)
  refine Prod.ext ?_ ?_
  · show val_main_v230 (F := Ideal) x0 x1 x3 x4 x8 (ix3 s b m) = _
    rw [val_main_v230_apply, val_main_v227_apply, val_main_v224_apply, val_main_v226_apply, e0, e1, bu_re_13]
    rfl
  · show val_main_v238 (F := Ideal) x0 x1 x3 x4 x8 (ix3 s b m) = _
    rw [val_main_v238_apply, val_main_v235_apply, val_main_v232_apply, val_main_v234_apply, e2, e3, bu_im_13]
    rfl

/-- Step 15. -/
theorem step_14 (s b : Fin 8) (m : Fin 1024) :
    ((val_main_v246 (F := Ideal) x0 x1 x3 x4 x8 (ix3 s b m), val_main_v254 (F := Ideal) x0 x1 x3 x4 x8 (ix3 s b m)) : EReal × EReal)
      = step (x3 (ix3 (0 : Fin 4) (0 : Fin 1) (⟨1024 * s.val + m.val, by omega⟩ : Fin 8192)), x4 (ix3 (0 : Fin 4) (0 : Fin 1) (⟨1024 * s.val + m.val, by omega⟩ : Fin 8192))) (feed x0 x1 s b m 14) (val_main_v230 (F := Ideal) x0 x1 x3 x4 x8 (ix3 s b m), val_main_v238 (F := Ideal) x0 x1 x3 x4 x8 (ix3 s b m)) := by
  have e0 : val_main_v239 (F := Ideal) x3 (ix3 s b m) = x3 (ix3 (0 : Fin 4) (0 : Fin 1) (⟨1024 * s.val + m.val, by omega⟩ : Fin 8192)) := (val_main_v239_apply (F := Ideal) x3 _).trans (lr_at x3 s m)
  have e1 : val_main_v241 (F := Ideal) x4 (ix3 s b m) = x4 (ix3 (0 : Fin 4) (0 : Fin 1) (⟨1024 * s.val + m.val, by omega⟩ : Fin 8192)) := (val_main_v241_apply (F := Ideal) x4 _).trans (li_at x4 s m)
  have e2 : val_main_v247 (F := Ideal) x3 (ix3 s b m) = x3 (ix3 (0 : Fin 4) (0 : Fin 1) (⟨1024 * s.val + m.val, by omega⟩ : Fin 8192)) := (val_main_v247_apply (F := Ideal) x3 _).trans (lr_at x3 s m)
  have e3 : val_main_v249 (F := Ideal) x4 (ix3 s b m) = x4 (ix3 (0 : Fin 4) (0 : Fin 1) (⟨1024 * s.val + m.val, by omega⟩ : Fin 8192)) := (val_main_v249_apply (F := Ideal) x4 _).trans (li_at x4 s m)
  refine Prod.ext ?_ ?_
  · show val_main_v246 (F := Ideal) x0 x1 x3 x4 x8 (ix3 s b m) = _
    rw [val_main_v246_apply, val_main_v243_apply, val_main_v240_apply, val_main_v242_apply, e0, e1, bu_re_14]
    rfl
  · show val_main_v254 (F := Ideal) x0 x1 x3 x4 x8 (ix3 s b m) = _
    rw [val_main_v254_apply, val_main_v251_apply, val_main_v248_apply, val_main_v250_apply, e2, e3, bu_im_14]
    rfl

/-- Step 16. -/
theorem step_15 (s b : Fin 8) (m : Fin 1024) :
    ((val_main_v262 (F := Ideal) x0 x1 x3 x4 x8 (ix3 s b m), val_main_v270 (F := Ideal) x0 x1 x3 x4 x8 (ix3 s b m)) : EReal × EReal)
      = step (x3 (ix3 (0 : Fin 4) (0 : Fin 1) (⟨1024 * s.val + m.val, by omega⟩ : Fin 8192)), x4 (ix3 (0 : Fin 4) (0 : Fin 1) (⟨1024 * s.val + m.val, by omega⟩ : Fin 8192))) (feed x0 x1 s b m 15) (val_main_v246 (F := Ideal) x0 x1 x3 x4 x8 (ix3 s b m), val_main_v254 (F := Ideal) x0 x1 x3 x4 x8 (ix3 s b m)) := by
  have e0 : val_main_v255 (F := Ideal) x3 (ix3 s b m) = x3 (ix3 (0 : Fin 4) (0 : Fin 1) (⟨1024 * s.val + m.val, by omega⟩ : Fin 8192)) := (val_main_v255_apply (F := Ideal) x3 _).trans (lr_at x3 s m)
  have e1 : val_main_v257 (F := Ideal) x4 (ix3 s b m) = x4 (ix3 (0 : Fin 4) (0 : Fin 1) (⟨1024 * s.val + m.val, by omega⟩ : Fin 8192)) := (val_main_v257_apply (F := Ideal) x4 _).trans (li_at x4 s m)
  have e2 : val_main_v263 (F := Ideal) x3 (ix3 s b m) = x3 (ix3 (0 : Fin 4) (0 : Fin 1) (⟨1024 * s.val + m.val, by omega⟩ : Fin 8192)) := (val_main_v263_apply (F := Ideal) x3 _).trans (lr_at x3 s m)
  have e3 : val_main_v265 (F := Ideal) x4 (ix3 s b m) = x4 (ix3 (0 : Fin 4) (0 : Fin 1) (⟨1024 * s.val + m.val, by omega⟩ : Fin 8192)) := (val_main_v265_apply (F := Ideal) x4 _).trans (li_at x4 s m)
  refine Prod.ext ?_ ?_
  · show val_main_v262 (F := Ideal) x0 x1 x3 x4 x8 (ix3 s b m) = _
    rw [val_main_v262_apply, val_main_v259_apply, val_main_v256_apply, val_main_v258_apply, e0, e1, bu_re_15]
    rfl
  · show val_main_v270 (F := Ideal) x0 x1 x3 x4 x8 (ix3 s b m) = _
    rw [val_main_v270_apply, val_main_v267_apply, val_main_v264_apply, val_main_v266_apply, e2, e3, bu_im_15]
    rfl

/-- The two parts after the sixteen steps. -/
theorem states (s b : Fin 8) (m : Fin 1024) :
    ((val_main_v262 (F := Ideal) x0 x1 x3 x4 x8 (ix3 s b m), val_main_v270 (F := Ideal) x0 x1 x3 x4 x8 (ix3 s b m)) : EReal × EReal) = final x0 x1 x3 x4 x8 s b m := by
  rw [step_15, step_14, step_13, step_12, step_11, step_10, step_9, step_8, step_7, step_6, step_5, step_4, step_3, step_2, step_1, step_0, h0_re, h0_im]
  rfl

/-- The reference's result. -/
theorem ref_eq : val_main_v271 (F := Ideal) x0 x1 x3 x4 x8 = value x0 x1 x3 x4 x8 := by
  funext j
  rw [eq_ix3 j]
  generalize j 0 = s
  generalize j 1 = b
  generalize j 2 = q
  have hq : q.val < 2048 := q.isLt
  show _ = flat (final x0 x1 x3 x4 x8 s b) q
  unfold val_main_v271 flat
  by_cases h : q.val < 1024
  · rw [dif_pos h]
    refine (concatenate_apply_piece (2 : Fin 3) _ _ (ix3 s b q) 0 (by show 0 < 2; omega) S8x8x1024 (val_main_v262 (F := Ideal) x0 x1 x3 x4 x8) rfl rfl 0 rfl (ix3 s b (⟨q.val, h⟩ : Fin 1024))
      (fun a ha => match a with | ⟨0, _⟩ => rfl | ⟨1, _⟩ => rfl | ⟨2, _⟩ => absurd rfl ha) (by show 0 + q.val = q.val; omega)).trans ?_
    exact congrArg Prod.fst (states x0 x1 x3 x4 x8 s b _)
  · rw [dif_neg h]
    refine (concatenate_apply_piece (2 : Fin 3) _ _ (ix3 s b q) 1 (by show 1 < 2; omega) S8x8x1024 (val_main_v270 (F := Ideal) x0 x1 x3 x4 x8) rfl rfl 1024 rfl (ix3 s b (⟨q.val - 1024, by omega⟩ : Fin 1024))
      (fun a ha => match a with | ⟨0, _⟩ => rfl | ⟨1, _⟩ => rfl | ⟨2, _⟩ => absurd rfl ha) (by show 1024 + (q.val - 1024) = q.val; omega)).trans ?_
    exact congrArg Prod.snd (states x0 x1 x3 x4 x8 s b _)

end Cert.Reference5Ideal.Scan

end
-- ==== Proof.Scan.Claims.lean ====
/- The recurrence's claims: the call at words ends with its arguments kept, and over the extended reals its new states are the reference's. -/
module

public import proofs.«01_k».proof.Proof.Scan.Bits.Frame
public import proofs.«01_k».proof.Proof.Scan.Ideal.Frame
public import proofs.«01_k».proof.Proof.Scan.Reference
public import proofs.«01_k».proof.Proof.Gen.Reference5Ideal.Run
public import proofs.«01_k».proof.Defs

@[expose] public section

noncomputable section

namespace Cert.Scan

open Idealize.ShloMosaic Idealize.ShloMosaic.TcCoe Idealize.SL.Sem

theorem frame_p : Cert.quiescent_Kernel5 := fun m g _ => Cert.Kernel5.Scan.frame m g

theorem frame_pi : Cert.quiescent_Kernel5Ideal := fun m g _ => Cert.Kernel5Ideal.Scan.frame m g

/-- The reference is straight-line host code: it writes none of its arguments and declares no semaphore. -/
theorem frame_ri : Cert.quiescent_Reference5Ideal := fun m g _ =>
  (θ_run Cert.Reference5Ideal.defs _ _).mono
    (fun r h => ⟨fun c => (h c).2, Idealize.ShloMosaic.sem_eq_zero_of_no_sems (by decide) r.2⟩)
    (Cert.Reference5Ideal.Value.run m g)

/-- The states the call leaves, from the memory it starts in. -/
theorem states_eq (m : (ℓ : Loc Cert.Kernel5Ideal.nD Cert.Kernel5Ideal.τ Cert.Kernel5Ideal.sig) → Buf (Elt Ideal) ℓ) (c : Dev Cert.Kernel5Ideal.nD) :
    Cert.Kernel5Ideal.Scan.states m c
      = value (m ((c.tc : Thread Cert.Kernel5Ideal.nD Cert.Kernel5Ideal.τ).loc Cert.Kernel5Ideal.main_arg0))
          (m ((c.tc : Thread Cert.Kernel5Ideal.nD Cert.Kernel5Ideal.τ).loc Cert.Kernel5Ideal.main_arg1))
          (m ((c.tc : Thread Cert.Kernel5Ideal.nD Cert.Kernel5Ideal.τ).loc Cert.Kernel5Ideal.main_arg3))
          (m ((c.tc : Thread Cert.Kernel5Ideal.nD Cert.Kernel5Ideal.τ).loc Cert.Kernel5Ideal.main_arg4))
          (m ((c.tc : Thread Cert.Kernel5Ideal.nD Cert.Kernel5Ideal.τ).loc Cert.Kernel5Ideal.main_arg8)) := by
  unfold Cert.Kernel5Ideal.Scan.states
  rw [Cert.Kernel5Ideal.Gen.V_main_arg0 m c, Cert.Kernel5Ideal.Gen.V_main_arg1 m c, Cert.Kernel5Ideal.Gen.V_main_arg3 m c,
    Cert.Kernel5Ideal.Gen.V_main_arg4 m c, Cert.Kernel5Ideal.Gen.V_main_arg8 m c]

theorem algebraic : Cert.algebraic_Kernel5Ideal_Reference5Ideal := by
  intro m g m' g' _ hin
  refine ⟨fun c => Cert.Kernel5Ideal.Scan.states m c, ?_, ?_⟩
  · exact Cert.Kernel5Ideal.Scan.run_value m g
  · refine (θ_run _ _ _).mono (fun r h c => ?_) (Cert.Reference5Ideal.Value.run m' g')
    obtain ⟨h0, h1⟩ := h c
    obtain ⟨a0, a1, -, a3, a4, -, -, -, a8, -⟩ := hin c
    refine ⟨h0.trans ?_, h1⟩
    rw [Cert.Reference5Ideal.Read.val_main_v271_eq]
    refine (Cert.Reference5Ideal.Scan.ref_eq _ _ _ _ _).trans ?_
    show value (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1))
      (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4))
      (m' ((c.tc : Thread Cert.Reference5Ideal.nD Cert.Reference5Ideal.τ).loc Cert.Reference5Ideal.main_arg8)) = _
    rw [a0, a1, a3, a4, a8]
    exact (states_eq m c).symm

end Cert.Scan

end
-- ==== Proof.lean ====
/- The certificate: the frames and the value claims of the layer's calls, put together. -/
module

public import proofs.«01_k».proof.Defs
public import proofs.«01_k».proof.Proof.Ffn.PlainIdeal.Claims
public import proofs.«01_k».proof.Proof.Ffn.FinalIdeal.Claims
public import proofs.«01_k».proof.Proof.InProj.Frame
public import proofs.«01_k».proof.Proof.InProj.Claims
public import proofs.«01_k».proof.Proof.OutProj.Frame
public import proofs.«01_k».proof.Proof.OutProj.Claims
public import proofs.«01_k».proof.Proof.Scan.Claims

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Ffn.Plain.frame_p, Cert.Ffn.Plain.frame_pi, Cert.Ffn.Plain.frame_ri,
    Cert.Ffn.Final.frame_p, Cert.Ffn.Final.frame_pi, Cert.Ffn.Final.frame_ri,
    Cert.InProj.frame_p, Cert.InProj.frame_pi, Cert.InProj.frame_ri,
    Cert.OutProj.frame_p, Cert.OutProj.frame_pi, Cert.OutProj.frame_ri,
    Cert.Scan.frame_p, Cert.Scan.frame_pi, Cert.Scan.frame_ri,
    trivial, Cert.Ffn.Plain.algebraic, trivial, Cert.Ffn.Final.algebraic,
    trivial, Cert.InProj.algebraic, trivial, Cert.OutProj.algebraic,
    trivial, Cert.Scan.algebraic⟩

end Cert.Proof

end
